-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Few (m : (ℓ : Loc Cert.Few.nD Cert.Few.τ Cert.Few.sig) → Buf (Elt Bits) ℓ) : Prop :=
  True

def Pre_FewIdeal (m : (ℓ : Loc Cert.FewIdeal.nD Cert.FewIdeal.τ Cert.FewIdeal.sig) → Buf (Elt Ideal) ℓ) : Prop :=
  True

def Pre_FewReferenceIdeal (m : (ℓ : Loc Cert.FewReferenceIdeal.nD Cert.FewReferenceIdeal.τ Cert.FewReferenceIdeal.sig) → Buf (Elt Ideal) ℓ) : Prop :=
  True

def Pre_FewReference (m : (ℓ : Loc Cert.FewReference.nD Cert.FewReference.τ Cert.FewReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterReferenceIdeal (m : (ℓ : Loc Cert.EnterReferenceIdeal.nD Cert.EnterReferenceIdeal.τ Cert.EnterReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Widen (m : (ℓ : Loc Cert.Widen.nD Cert.Widen.τ Cert.Widen.sig) → Buf (Elt Bits) ℓ) : Prop :=
  True

def Pre_WidenIdeal (m : (ℓ : Loc Cert.WidenIdeal.nD Cert.WidenIdeal.τ Cert.WidenIdeal.sig) → Buf (Elt Ideal) ℓ) : Prop :=
  True

def Pre_WidenReferenceIdeal (m : (ℓ : Loc Cert.WidenReferenceIdeal.nD Cert.WidenReferenceIdeal.τ Cert.WidenReferenceIdeal.sig) → Buf (Elt Ideal) ℓ) : Prop :=
  True

def Pre_Narrow (m : (ℓ : Loc Cert.Narrow.nD Cert.Narrow.τ Cert.Narrow.sig) → Buf (Elt Bits) ℓ) : Prop :=
  True

def Pre_NarrowIdeal (m : (ℓ : Loc Cert.NarrowIdeal.nD Cert.NarrowIdeal.τ Cert.NarrowIdeal.sig) → Buf (Elt Ideal) ℓ) : Prop :=
  True

def Pre_NarrowReferenceIdeal (m : (ℓ : Loc Cert.NarrowReferenceIdeal.nD Cert.NarrowReferenceIdeal.τ Cert.NarrowReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareReferenceIdeal (m : (ℓ : Loc Cert.GradSquareReferenceIdeal.nD Cert.GradSquareReferenceIdeal.τ Cert.GradSquareReferenceIdeal.sig) → Buf (Elt Ideal) ℓ) : Prop :=
  True

def Pre_GradQuery (m : (ℓ : Loc Cert.GradQuery.nD Cert.GradQuery.τ Cert.GradQuery.sig) → Buf (Elt Bits) ℓ) : Prop :=
  True

def Pre_GradQueryIdeal (m : (ℓ : Loc Cert.GradQueryIdeal.nD Cert.GradQueryIdeal.τ Cert.GradQueryIdeal.sig) → Buf (Elt Ideal) ℓ) : Prop :=
  True

def Pre_GradQueryReferenceIdeal (m : (ℓ : Loc Cert.GradQueryReferenceIdeal.nD Cert.GradQueryReferenceIdeal.τ Cert.GradQueryReferenceIdeal.sig) → Buf (Elt Ideal) ℓ) : Prop :=
  True

def Pre_GradKeys (m : (ℓ : Loc Cert.GradKeys.nD Cert.GradKeys.τ Cert.GradKeys.sig) → Buf (Elt Bits) ℓ) : Prop :=
  True

def Pre_GradKeysIdeal (m : (ℓ : Loc Cert.GradKeysIdeal.nD Cert.GradKeysIdeal.τ Cert.GradKeysIdeal.sig) → Buf (Elt Ideal) ℓ) : Prop :=
  True

def Pre_GradKeysReferenceIdeal (m : (ℓ : Loc Cert.GradKeysReferenceIdeal.nD Cert.GradKeysReferenceIdeal.τ Cert.GradKeysReferenceIdeal.sig) → Buf (Elt Ideal) ℓ) : Prop :=
  True

def Pre_GradBranch (m : (ℓ : Loc Cert.GradBranch.nD Cert.GradBranch.τ Cert.GradBranch.sig) → Buf (Elt Bits) ℓ) : Prop :=
  True

def Pre_GradBranchIdeal (m : (ℓ : Loc Cert.GradBranchIdeal.nD Cert.GradBranchIdeal.τ Cert.GradBranchIdeal.sig) → Buf (Elt Ideal) ℓ) : Prop :=
  True

def Pre_GradBranchReferenceIdeal (m : (ℓ : Loc Cert.GradBranchReferenceIdeal.nD Cert.GradBranchReferenceIdeal.τ Cert.GradBranchReferenceIdeal.sig) → Buf (Elt Ideal) ℓ) : Prop :=
  True

def Pre_GradEnter (m : (ℓ : Loc Cert.GradEnter.nD Cert.GradEnter.τ Cert.GradEnter.sig) → Buf (Elt Bits) ℓ) : Prop :=
  True

def Pre_GradEnterIdeal (m : (ℓ : Loc Cert.GradEnterIdeal.nD Cert.GradEnterIdeal.τ Cert.GradEnterIdeal.sig) → Buf (Elt Ideal) ℓ) : Prop :=
  True

def Pre_GradEnterReferenceIdeal (m : (ℓ : Loc Cert.GradEnterReferenceIdeal.nD Cert.GradEnterReferenceIdeal.τ Cert.GradEnterReferenceIdeal.sig) → Buf (Elt Ideal) ℓ) : Prop :=
  True

def Pre_PastOut (m : (ℓ : Loc Cert.PastOut.nD Cert.PastOut.τ Cert.PastOut.sig) → Buf (Elt Bits) ℓ) : Prop :=
  True

def Pre_PastOutIdeal (m : (ℓ : Loc Cert.PastOutIdeal.nD Cert.PastOutIdeal.τ Cert.PastOutIdeal.sig) → Buf (Elt Ideal) ℓ) : Prop :=
  True

def Pre_PastOutReferenceIdeal (m : (ℓ : Loc Cert.PastOutReferenceIdeal.nD Cert.PastOutReferenceIdeal.τ Cert.PastOutReferenceIdeal.sig) → Buf (Elt Ideal) ℓ) : Prop :=
  True

def Pre_PastSquare (m : (ℓ : Loc Cert.PastSquare.nD Cert.PastSquare.τ Cert.PastSquare.sig) → Buf (Elt Bits) ℓ) : Prop :=
  True

def Pre_PastSquareIdeal (m : (ℓ : Loc Cert.PastSquareIdeal.nD Cert.PastSquareIdeal.τ Cert.PastSquareIdeal.sig) → Buf (Elt Ideal) ℓ) : Prop :=
  True

def Pre_PastSquareReferenceIdeal (m : (ℓ : Loc Cert.PastSquareReferenceIdeal.nD Cert.PastSquareReferenceIdeal.τ Cert.PastSquareReferenceIdeal.sig) → Buf (Elt Ideal) ℓ) : Prop :=
  True

def Pre_PastKeys (m : (ℓ : Loc Cert.PastKeys.nD Cert.PastKeys.τ Cert.PastKeys.sig) → Buf (Elt Bits) ℓ) : Prop :=
  True

def Pre_PastKeysIdeal (m : (ℓ : Loc Cert.PastKeysIdeal.nD Cert.PastKeysIdeal.τ Cert.PastKeysIdeal.sig) → Buf (Elt Ideal) ℓ) : Prop :=
  True

def Pre_PastKeysReferenceIdeal (m : (ℓ : Loc Cert.PastKeysReferenceIdeal.nD Cert.PastKeysReferenceIdeal.τ Cert.PastKeysReferenceIdeal.sig) → Buf (Elt Ideal) ℓ) : Prop :=
  True

def Pre_PastBranch (m : (ℓ : Loc Cert.PastBranch.nD Cert.PastBranch.τ Cert.PastBranch.sig) → Buf (Elt Bits) ℓ) : Prop :=
  True

def Pre_PastBranchIdeal (m : (ℓ : Loc Cert.PastBranchIdeal.nD Cert.PastBranchIdeal.τ Cert.PastBranchIdeal.sig) → Buf (Elt Ideal) ℓ) : Prop :=
  True

def Pre_PastBranchReferenceIdeal (m : (ℓ : Loc Cert.PastBranchReferenceIdeal.nD Cert.PastBranchReferenceIdeal.τ Cert.PastBranchReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Few [hFew : Cert.Few.Facts] : Prop :=
  ∀ (m : (ℓ : Loc Cert.Few.nD Cert.Few.τ Cert.Few.sig) → Buf (Elt Bits) ℓ) (g : Dev Cert.Few.nD → PrngReg), Pre_Few m →
    θ_run (Cert.Few.defs (F := Bits)) (onTc (τ := Cert.Few.τ) (Cert.Few.main (F := Bits))) ⟨m, fun _ => 0, g⟩ (fun r => (∀ c : Dev Cert.Few.nD,
      r.2.mem ((c.tc : Thread Cert.Few.nD Cert.Few.τ).loc Cert.Few.main_arg0) = m ((c.tc : Thread Cert.Few.nD Cert.Few.τ).loc Cert.Few.main_arg0))
      ∧ r.2.sem = fun _ => 0)

def quiescent_FewIdeal [hFewIdeal : Cert.FewIdeal.Facts] : Prop :=
  ∀ (m : (ℓ : Loc Cert.FewIdeal.nD Cert.FewIdeal.τ Cert.FewIdeal.sig) → Buf (Elt Ideal) ℓ) (g : Dev Cert.FewIdeal.nD → PrngReg), Pre_FewIdeal m →
    θ_run (Cert.FewIdeal.defs (F := Ideal)) (onTc (τ := Cert.FewIdeal.τ) (Cert.FewIdeal.main (F := Ideal))) ⟨m, fun _ => 0, g⟩ (fun r => (∀ c : Dev Cert.FewIdeal.nD,
      r.2.mem ((c.tc : Thread Cert.FewIdeal.nD Cert.FewIdeal.τ).loc Cert.FewIdeal.main_arg0) = m ((c.tc : Thread Cert.FewIdeal.nD Cert.FewIdeal.τ).loc Cert.FewIdeal.main_arg0))
      ∧ r.2.sem = fun _ => 0)

def quiescent_FewReferenceIdeal [hFewReferenceIdeal : Cert.FewReferenceIdeal.Facts] : Prop :=
  ∀ (m : (ℓ : Loc Cert.FewReferenceIdeal.nD Cert.FewReferenceIdeal.τ Cert.FewReferenceIdeal.sig) → Buf (Elt Ideal) ℓ) (g : Dev Cert.FewReferenceIdeal.nD → PrngReg), Pre_FewReferenceIdeal m →
    θ_run (Cert.FewReferenceIdeal.defs (F := Ideal)) (onTc (τ := Cert.FewReferenceIdeal.τ) (Cert.FewReferenceIdeal.main (F := Ideal))) ⟨m, fun _ => 0, g⟩ (fun r => (∀ c : Dev Cert.FewReferenceIdeal.nD,
      r.2.mem ((c.tc : Thread Cert.FewReferenceIdeal.nD Cert.FewReferenceIdeal.τ).loc Cert.FewReferenceIdeal.main_arg0) = m ((c.tc : Thread Cert.FewReferenceIdeal.nD Cert.FewReferenceIdeal.τ).loc Cert.FewReferenceIdeal.main_arg0))
      ∧ r.2.sem = fun _ => 0)

def quiescent_FewReference [hFewReference : Cert.FewReference.Facts] : Prop :=
  ∀ (m : (ℓ : Loc Cert.FewReference.nD Cert.FewReference.τ Cert.FewReference.sig) → Buf (Elt Bits) ℓ) (g : Dev Cert.FewReference.nD → PrngReg), Pre_FewReference m →
    θ_run (Cert.FewReference.defs (F := Bits)) (onTc (τ := Cert.FewReference.τ) (Cert.FewReference.main (F := Bits))) ⟨m, fun _ => 0, g⟩ (fun r => (∀ c : Dev Cert.FewReference.nD,
      r.2.mem ((c.tc : Thread Cert.FewReference.nD Cert.FewReference.τ).loc Cert.FewReference.main_arg0) = m ((c.tc : Thread Cert.FewReference.nD Cert.FewReference.τ).loc Cert.FewReference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1))
      ∧ r.2.sem = fun _ => 0)

def quiescent_EnterReferenceIdeal [hEnterReferenceIdeal : Cert.EnterReferenceIdeal.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1))
      ∧ r.2.sem = fun _ => 0)

def quiescent_Widen [hWiden : Cert.Widen.Facts] : Prop :=
  ∀ (m : (ℓ : Loc Cert.Widen.nD Cert.Widen.τ Cert.Widen.sig) → Buf (Elt Bits) ℓ) (g : Dev Cert.Widen.nD → PrngReg), Pre_Widen m →
    θ_run (Cert.Widen.defs (F := Bits)) (onTc (τ := Cert.Widen.τ) (Cert.Widen.main (F := Bits))) ⟨m, fun _ => 0, g⟩ (fun r => (∀ c : Dev Cert.Widen.nD,
      r.2.mem ((c.tc : Thread Cert.Widen.nD Cert.Widen.τ).loc Cert.Widen.main_arg0) = m ((c.tc : Thread Cert.Widen.nD Cert.Widen.τ).loc Cert.Widen.main_arg0)
      ∧ r.2.mem ((c.tc : Thread Cert.Widen.nD Cert.Widen.τ).loc Cert.Widen.main_arg1) = m ((c.tc : Thread Cert.Widen.nD Cert.Widen.τ).loc Cert.Widen.main_arg1))
      ∧ r.2.sem = fun _ => 0)

def quiescent_WidenIdeal [hWidenIdeal : Cert.WidenIdeal.Facts] : Prop :=
  ∀ (m : (ℓ : Loc Cert.WidenIdeal.nD Cert.WidenIdeal.τ Cert.WidenIdeal.sig) → Buf (Elt Ideal) ℓ) (g : Dev Cert.WidenIdeal.nD → PrngReg), Pre_WidenIdeal m →
    θ_run (Cert.WidenIdeal.defs (F := Ideal)) (onTc (τ := Cert.WidenIdeal.τ) (Cert.WidenIdeal.main (F := Ideal))) ⟨m, fun _ => 0, g⟩ (fun r => (∀ c : Dev Cert.WidenIdeal.nD,
      r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
      ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1))
      ∧ r.2.sem = fun _ => 0)

def quiescent_WidenReferenceIdeal [hWidenReferenceIdeal : Cert.WidenReferenceIdeal.Facts] : Prop :=
  ∀ (m : (ℓ : Loc Cert.WidenReferenceIdeal.nD Cert.WidenReferenceIdeal.τ Cert.WidenReferenceIdeal.sig) → Buf (Elt Ideal) ℓ) (g : Dev Cert.WidenReferenceIdeal.nD → PrngReg), Pre_WidenReferenceIdeal m →
    θ_run (Cert.WidenReferenceIdeal.defs (F := Ideal)) (onTc (τ := Cert.WidenReferenceIdeal.τ) (Cert.WidenReferenceIdeal.main (F := Ideal))) ⟨m, fun _ => 0, g⟩ (fun r => (∀ c : Dev Cert.WidenReferenceIdeal.nD,
      r.2.mem ((c.tc : Thread Cert.WidenReferenceIdeal.nD Cert.WidenReferenceIdeal.τ).loc Cert.WidenReferenceIdeal.main_arg0) = m ((c.tc : Thread Cert.WidenReferenceIdeal.nD Cert.WidenReferenceIdeal.τ).loc Cert.WidenReferenceIdeal.main_arg0)
      ∧ r.2.mem ((c.tc : Thread Cert.WidenReferenceIdeal.nD Cert.WidenReferenceIdeal.τ).loc Cert.WidenReferenceIdeal.main_arg1) = m ((c.tc : Thread Cert.WidenReferenceIdeal.nD Cert.WidenReferenceIdeal.τ).loc Cert.WidenReferenceIdeal.main_arg1))
      ∧ r.2.sem = fun _ => 0)

def quiescent_Narrow [hNarrow : Cert.Narrow.Facts] : Prop :=
  ∀ (m : (ℓ : Loc Cert.Narrow.nD Cert.Narrow.τ Cert.Narrow.sig) → Buf (Elt Bits) ℓ) (g : Dev Cert.Narrow.nD → PrngReg), Pre_Narrow m →
    θ_run (Cert.Narrow.defs (F := Bits)) (onTc (τ := Cert.Narrow.τ) (Cert.Narrow.main (F := Bits))) ⟨m, fun _ => 0, g⟩ (fun r => (∀ c : Dev Cert.Narrow.nD,
      r.2.mem ((c.tc : Thread Cert.Narrow.nD Cert.Narrow.τ).loc Cert.Narrow.main_arg0) = m ((c.tc : Thread Cert.Narrow.nD Cert.Narrow.τ).loc Cert.Narrow.main_arg0)
      ∧ r.2.mem ((c.tc : Thread Cert.Narrow.nD Cert.Narrow.τ).loc Cert.Narrow.main_arg1) = m ((c.tc : Thread Cert.Narrow.nD Cert.Narrow.τ).loc Cert.Narrow.main_arg1))
      ∧ r.2.sem = fun _ => 0)

def quiescent_NarrowIdeal [hNarrowIdeal : Cert.NarrowIdeal.Facts] : Prop :=
  ∀ (m : (ℓ : Loc Cert.NarrowIdeal.nD Cert.NarrowIdeal.τ Cert.NarrowIdeal.sig) → Buf (Elt Ideal) ℓ) (g : Dev Cert.NarrowIdeal.nD → PrngReg), Pre_NarrowIdeal m →
    θ_run (Cert.NarrowIdeal.defs (F := Ideal)) (onTc (τ := Cert.NarrowIdeal.τ) (Cert.NarrowIdeal.main (F := Ideal))) ⟨m, fun _ => 0, g⟩ (fun r => (∀ c : Dev Cert.NarrowIdeal.nD,
      r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
      ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1))
      ∧ r.2.sem = fun _ => 0)

def quiescent_NarrowReferenceIdeal [hNarrowReferenceIdeal : Cert.NarrowReferenceIdeal.Facts] : Prop :=
  ∀ (m : (ℓ : Loc Cert.NarrowReferenceIdeal.nD Cert.NarrowReferenceIdeal.τ Cert.NarrowReferenceIdeal.sig) → Buf (Elt Ideal) ℓ) (g : Dev Cert.NarrowReferenceIdeal.nD → PrngReg), Pre_NarrowReferenceIdeal m →
    θ_run (Cert.NarrowReferenceIdeal.defs (F := Ideal)) (onTc (τ := Cert.NarrowReferenceIdeal.τ) (Cert.NarrowReferenceIdeal.main (F := Ideal))) ⟨m, fun _ => 0, g⟩ (fun r => (∀ c : Dev Cert.NarrowReferenceIdeal.nD,
      r.2.mem ((c.tc : Thread Cert.NarrowReferenceIdeal.nD Cert.NarrowReferenceIdeal.τ).loc Cert.NarrowReferenceIdeal.main_arg0) = m ((c.tc : Thread Cert.NarrowReferenceIdeal.nD Cert.NarrowReferenceIdeal.τ).loc Cert.NarrowReferenceIdeal.main_arg0)
      ∧ r.2.mem ((c.tc : Thread Cert.NarrowReferenceIdeal.nD Cert.NarrowReferenceIdeal.τ).loc Cert.NarrowReferenceIdeal.main_arg1) = m ((c.tc : Thread Cert.NarrowReferenceIdeal.nD Cert.NarrowReferenceIdeal.τ).loc Cert.NarrowReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareReferenceIdeal [hGradSquareReferenceIdeal : Cert.GradSquareReferenceIdeal.Facts] : Prop :=
  ∀ (m : (ℓ : Loc Cert.GradSquareReferenceIdeal.nD Cert.GradSquareReferenceIdeal.τ Cert.GradSquareReferenceIdeal.sig) → Buf (Elt Ideal) ℓ) (g : Dev Cert.GradSquareReferenceIdeal.nD → PrngReg), Pre_GradSquareReferenceIdeal m →
    θ_run (Cert.GradSquareReferenceIdeal.defs (F := Ideal)) (onTc (τ := Cert.GradSquareReferenceIdeal.τ) (Cert.GradSquareReferenceIdeal.main (F := Ideal))) ⟨m, fun _ => 0, g⟩ (fun r => (∀ c : Dev Cert.GradSquareReferenceIdeal.nD,
      r.2.mem ((c.tc : Thread Cert.GradSquareReferenceIdeal.nD Cert.GradSquareReferenceIdeal.τ).loc Cert.GradSquareReferenceIdeal.main_arg0) = m ((c.tc : Thread Cert.GradSquareReferenceIdeal.nD Cert.GradSquareReferenceIdeal.τ).loc Cert.GradSquareReferenceIdeal.main_arg0)
      ∧ r.2.mem ((c.tc : Thread Cert.GradSquareReferenceIdeal.nD Cert.GradSquareReferenceIdeal.τ).loc Cert.GradSquareReferenceIdeal.main_arg1) = m ((c.tc : Thread Cert.GradSquareReferenceIdeal.nD Cert.GradSquareReferenceIdeal.τ).loc Cert.GradSquareReferenceIdeal.main_arg1))
      ∧ r.2.sem = fun _ => 0)

def quiescent_GradQuery [hGradQuery : Cert.GradQuery.Facts] : Prop :=
  ∀ (m : (ℓ : Loc Cert.GradQuery.nD Cert.GradQuery.τ Cert.GradQuery.sig) → Buf (Elt Bits) ℓ) (g : Dev Cert.GradQuery.nD → PrngReg), Pre_GradQuery m →
    θ_run (Cert.GradQuery.defs (F := Bits)) (onTc (τ := Cert.GradQuery.τ) (Cert.GradQuery.main (F := Bits))) ⟨m, fun _ => 0, g⟩ (fun r => (∀ c : Dev Cert.GradQuery.nD,
      r.2.mem ((c.tc : Thread Cert.GradQuery.nD Cert.GradQuery.τ).loc Cert.GradQuery.main_arg0) = m ((c.tc : Thread Cert.GradQuery.nD Cert.GradQuery.τ).loc Cert.GradQuery.main_arg0)
      ∧ r.2.mem ((c.tc : Thread Cert.GradQuery.nD Cert.GradQuery.τ).loc Cert.GradQuery.main_arg1) = m ((c.tc : Thread Cert.GradQuery.nD Cert.GradQuery.τ).loc Cert.GradQuery.main_arg1))
      ∧ r.2.sem = fun _ => 0)

def quiescent_GradQueryIdeal [hGradQueryIdeal : Cert.GradQueryIdeal.Facts] : Prop :=
  ∀ (m : (ℓ : Loc Cert.GradQueryIdeal.nD Cert.GradQueryIdeal.τ Cert.GradQueryIdeal.sig) → Buf (Elt Ideal) ℓ) (g : Dev Cert.GradQueryIdeal.nD → PrngReg), Pre_GradQueryIdeal m →
    θ_run (Cert.GradQueryIdeal.defs (F := Ideal)) (onTc (τ := Cert.GradQueryIdeal.τ) (Cert.GradQueryIdeal.main (F := Ideal))) ⟨m, fun _ => 0, g⟩ (fun r => (∀ c : Dev Cert.GradQueryIdeal.nD,
      r.2.mem ((c.tc : Thread Cert.GradQueryIdeal.nD Cert.GradQueryIdeal.τ).loc Cert.GradQueryIdeal.main_arg0) = m ((c.tc : Thread Cert.GradQueryIdeal.nD Cert.GradQueryIdeal.τ).loc Cert.GradQueryIdeal.main_arg0)
      ∧ r.2.mem ((c.tc : Thread Cert.GradQueryIdeal.nD Cert.GradQueryIdeal.τ).loc Cert.GradQueryIdeal.main_arg1) = m ((c.tc : Thread Cert.GradQueryIdeal.nD Cert.GradQueryIdeal.τ).loc Cert.GradQueryIdeal.main_arg1))
      ∧ r.2.sem = fun _ => 0)

def quiescent_GradQueryReferenceIdeal [hGradQueryReferenceIdeal : Cert.GradQueryReferenceIdeal.Facts] : Prop :=
  ∀ (m : (ℓ : Loc Cert.GradQueryReferenceIdeal.nD Cert.GradQueryReferenceIdeal.τ Cert.GradQueryReferenceIdeal.sig) → Buf (Elt Ideal) ℓ) (g : Dev Cert.GradQueryReferenceIdeal.nD → PrngReg), Pre_GradQueryReferenceIdeal m →
    θ_run (Cert.GradQueryReferenceIdeal.defs (F := Ideal)) (onTc (τ := Cert.GradQueryReferenceIdeal.τ) (Cert.GradQueryReferenceIdeal.main (F := Ideal))) ⟨m, fun _ => 0, g⟩ (fun r => (∀ c : Dev Cert.GradQueryReferenceIdeal.nD,
      r.2.mem ((c.tc : Thread Cert.GradQueryReferenceIdeal.nD Cert.GradQueryReferenceIdeal.τ).loc Cert.GradQueryReferenceIdeal.main_arg0) = m ((c.tc : Thread Cert.GradQueryReferenceIdeal.nD Cert.GradQueryReferenceIdeal.τ).loc Cert.GradQueryReferenceIdeal.main_arg0)
      ∧ r.2.mem ((c.tc : Thread Cert.GradQueryReferenceIdeal.nD Cert.GradQueryReferenceIdeal.τ).loc Cert.GradQueryReferenceIdeal.main_arg1) = m ((c.tc : Thread Cert.GradQueryReferenceIdeal.nD Cert.GradQueryReferenceIdeal.τ).loc Cert.GradQueryReferenceIdeal.main_arg1))
      ∧ r.2.sem = fun _ => 0)

def quiescent_GradKeys [hGradKeys : Cert.GradKeys.Facts] : Prop :=
  ∀ (m : (ℓ : Loc Cert.GradKeys.nD Cert.GradKeys.τ Cert.GradKeys.sig) → Buf (Elt Bits) ℓ) (g : Dev Cert.GradKeys.nD → PrngReg), Pre_GradKeys m →
    θ_run (Cert.GradKeys.defs (F := Bits)) (onTc (τ := Cert.GradKeys.τ) (Cert.GradKeys.main (F := Bits))) ⟨m, fun _ => 0, g⟩ (fun r => (∀ c : Dev Cert.GradKeys.nD,
      r.2.mem ((c.tc : Thread Cert.GradKeys.nD Cert.GradKeys.τ).loc Cert.GradKeys.main_arg0) = m ((c.tc : Thread Cert.GradKeys.nD Cert.GradKeys.τ).loc Cert.GradKeys.main_arg0)
      ∧ r.2.mem ((c.tc : Thread Cert.GradKeys.nD Cert.GradKeys.τ).loc Cert.GradKeys.main_arg1) = m ((c.tc : Thread Cert.GradKeys.nD Cert.GradKeys.τ).loc Cert.GradKeys.main_arg1))
      ∧ r.2.sem = fun _ => 0)

def quiescent_GradKeysIdeal [hGradKeysIdeal : Cert.GradKeysIdeal.Facts] : Prop :=
  ∀ (m : (ℓ : Loc Cert.GradKeysIdeal.nD Cert.GradKeysIdeal.τ Cert.GradKeysIdeal.sig) → Buf (Elt Ideal) ℓ) (g : Dev Cert.GradKeysIdeal.nD → PrngReg), Pre_GradKeysIdeal m →
    θ_run (Cert.GradKeysIdeal.defs (F := Ideal)) (onTc (τ := Cert.GradKeysIdeal.τ) (Cert.GradKeysIdeal.main (F := Ideal))) ⟨m, fun _ => 0, g⟩ (fun r => (∀ c : Dev Cert.GradKeysIdeal.nD,
      r.2.mem ((c.tc : Thread Cert.GradKeysIdeal.nD Cert.GradKeysIdeal.τ).loc Cert.GradKeysIdeal.main_arg0) = m ((c.tc : Thread Cert.GradKeysIdeal.nD Cert.GradKeysIdeal.τ).loc Cert.GradKeysIdeal.main_arg0)
      ∧ r.2.mem ((c.tc : Thread Cert.GradKeysIdeal.nD Cert.GradKeysIdeal.τ).loc Cert.GradKeysIdeal.main_arg1) = m ((c.tc : Thread Cert.GradKeysIdeal.nD Cert.GradKeysIdeal.τ).loc Cert.GradKeysIdeal.main_arg1))
      ∧ r.2.sem = fun _ => 0)

def quiescent_GradKeysReferenceIdeal [hGradKeysReferenceIdeal : Cert.GradKeysReferenceIdeal.Facts] : Prop :=
  ∀ (m : (ℓ : Loc Cert.GradKeysReferenceIdeal.nD Cert.GradKeysReferenceIdeal.τ Cert.GradKeysReferenceIdeal.sig) → Buf (Elt Ideal) ℓ) (g : Dev Cert.GradKeysReferenceIdeal.nD → PrngReg), Pre_GradKeysReferenceIdeal m →
    θ_run (Cert.GradKeysReferenceIdeal.defs (F := Ideal)) (onTc (τ := Cert.GradKeysReferenceIdeal.τ) (Cert.GradKeysReferenceIdeal.main (F := Ideal))) ⟨m, fun _ => 0, g⟩ (fun r => (∀ c : Dev Cert.GradKeysReferenceIdeal.nD,
      r.2.mem ((c.tc : Thread Cert.GradKeysReferenceIdeal.nD Cert.GradKeysReferenceIdeal.τ).loc Cert.GradKeysReferenceIdeal.main_arg0) = m ((c.tc : Thread Cert.GradKeysReferenceIdeal.nD Cert.GradKeysReferenceIdeal.τ).loc Cert.GradKeysReferenceIdeal.main_arg0)
      ∧ r.2.mem ((c.tc : Thread Cert.GradKeysReferenceIdeal.nD Cert.GradKeysReferenceIdeal.τ).loc Cert.GradKeysReferenceIdeal.main_arg1) = m ((c.tc : Thread Cert.GradKeysReferenceIdeal.nD Cert.GradKeysReferenceIdeal.τ).loc Cert.GradKeysReferenceIdeal.main_arg1))
      ∧ r.2.sem = fun _ => 0)

def quiescent_GradBranch [hGradBranch : Cert.GradBranch.Facts] : Prop :=
  ∀ (m : (ℓ : Loc Cert.GradBranch.nD Cert.GradBranch.τ Cert.GradBranch.sig) → Buf (Elt Bits) ℓ) (g : Dev Cert.GradBranch.nD → PrngReg), Pre_GradBranch m →
    θ_run (Cert.GradBranch.defs (F := Bits)) (onTc (τ := Cert.GradBranch.τ) (Cert.GradBranch.main (F := Bits))) ⟨m, fun _ => 0, g⟩ (fun r => (∀ c : Dev Cert.GradBranch.nD,
      r.2.mem ((c.tc : Thread Cert.GradBranch.nD Cert.GradBranch.τ).loc Cert.GradBranch.main_arg0) = m ((c.tc : Thread Cert.GradBranch.nD Cert.GradBranch.τ).loc Cert.GradBranch.main_arg0)
      ∧ r.2.mem ((c.tc : Thread Cert.GradBranch.nD Cert.GradBranch.τ).loc Cert.GradBranch.main_arg1) = m ((c.tc : Thread Cert.GradBranch.nD Cert.GradBranch.τ).loc Cert.GradBranch.main_arg1))
      ∧ r.2.sem = fun _ => 0)

def quiescent_GradBranchIdeal [hGradBranchIdeal : Cert.GradBranchIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg), Pre_GradBranchIdeal m →
    θ_run (Cert.GradBranchIdeal.defs (F := Ideal)) (onTc (τ := Cert.GradBranchIdeal.τ) (Cert.GradBranchIdeal.main (F := Ideal))) ⟨m, fun _ => 0, g⟩ (fun r => (∀ c : Dev Cert.GradBranchIdeal.nD,
      r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
      ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ r.2.sem = fun _ => 0)

def quiescent_GradBranchReferenceIdeal [hGradBranchReferenceIdeal : Cert.GradBranchReferenceIdeal.Facts] : Prop :=
  ∀ (m : (ℓ : Loc Cert.GradBranchReferenceIdeal.nD Cert.GradBranchReferenceIdeal.τ Cert.GradBranchReferenceIdeal.sig) → Buf (Elt Ideal) ℓ) (g : Dev Cert.GradBranchReferenceIdeal.nD → PrngReg), Pre_GradBranchReferenceIdeal m →
    θ_run (Cert.GradBranchReferenceIdeal.defs (F := Ideal)) (onTc (τ := Cert.GradBranchReferenceIdeal.τ) (Cert.GradBranchReferenceIdeal.main (F := Ideal))) ⟨m, fun _ => 0, g⟩ (fun r => (∀ c : Dev Cert.GradBranchReferenceIdeal.nD,
      r.2.mem ((c.tc : Thread Cert.GradBranchReferenceIdeal.nD Cert.GradBranchReferenceIdeal.τ).loc Cert.GradBranchReferenceIdeal.main_arg0) = m ((c.tc : Thread Cert.GradBranchReferenceIdeal.nD Cert.GradBranchReferenceIdeal.τ).loc Cert.GradBranchReferenceIdeal.main_arg0)
      ∧ r.2.mem ((c.tc : Thread Cert.GradBranchReferenceIdeal.nD Cert.GradBranchReferenceIdeal.τ).loc Cert.GradBranchReferenceIdeal.main_arg1) = m ((c.tc : Thread Cert.GradBranchReferenceIdeal.nD Cert.GradBranchReferenceIdeal.τ).loc Cert.GradBranchReferenceIdeal.main_arg1))
      ∧ r.2.sem = fun _ => 0)

def quiescent_GradEnter [hGradEnter : Cert.GradEnter.Facts] : Prop :=
  ∀ (m : (ℓ : Loc Cert.GradEnter.nD Cert.GradEnter.τ Cert.GradEnter.sig) → Buf (Elt Bits) ℓ) (g : Dev Cert.GradEnter.nD → PrngReg), Pre_GradEnter m →
    θ_run (Cert.GradEnter.defs (F := Bits)) (onTc (τ := Cert.GradEnter.τ) (Cert.GradEnter.main (F := Bits))) ⟨m, fun _ => 0, g⟩ (fun r => (∀ c : Dev Cert.GradEnter.nD,
      r.2.mem ((c.tc : Thread Cert.GradEnter.nD Cert.GradEnter.τ).loc Cert.GradEnter.main_arg0) = m ((c.tc : Thread Cert.GradEnter.nD Cert.GradEnter.τ).loc Cert.GradEnter.main_arg0)
      ∧ r.2.mem ((c.tc : Thread Cert.GradEnter.nD Cert.GradEnter.τ).loc Cert.GradEnter.main_arg1) = m ((c.tc : Thread Cert.GradEnter.nD Cert.GradEnter.τ).loc Cert.GradEnter.main_arg1))
      ∧ r.2.sem = fun _ => 0)

def quiescent_GradEnterIdeal [hGradEnterIdeal : Cert.GradEnterIdeal.Facts] : Prop :=
  ∀ (m : (ℓ : Loc Cert.GradEnterIdeal.nD Cert.GradEnterIdeal.τ Cert.GradEnterIdeal.sig) → Buf (Elt Ideal) ℓ) (g : Dev Cert.GradEnterIdeal.nD → PrngReg), Pre_GradEnterIdeal m →
    θ_run (Cert.GradEnterIdeal.defs (F := Ideal)) (onTc (τ := Cert.GradEnterIdeal.τ) (Cert.GradEnterIdeal.main (F := Ideal))) ⟨m, fun _ => 0, g⟩ (fun r => (∀ c : Dev Cert.GradEnterIdeal.nD,
      r.2.mem ((c.tc : Thread Cert.GradEnterIdeal.nD Cert.GradEnterIdeal.τ).loc Cert.GradEnterIdeal.main_arg0) = m ((c.tc : Thread Cert.GradEnterIdeal.nD Cert.GradEnterIdeal.τ).loc Cert.GradEnterIdeal.main_arg0)
      ∧ r.2.mem ((c.tc : Thread Cert.GradEnterIdeal.nD Cert.GradEnterIdeal.τ).loc Cert.GradEnterIdeal.main_arg1) = m ((c.tc : Thread Cert.GradEnterIdeal.nD Cert.GradEnterIdeal.τ).loc Cert.GradEnterIdeal.main_arg1))
      ∧ r.2.sem = fun _ => 0)

def quiescent_GradEnterReferenceIdeal [hGradEnterReferenceIdeal : Cert.GradEnterReferenceIdeal.Facts] : Prop :=
  ∀ (m : (ℓ : Loc Cert.GradEnterReferenceIdeal.nD Cert.GradEnterReferenceIdeal.τ Cert.GradEnterReferenceIdeal.sig) → Buf (Elt Ideal) ℓ) (g : Dev Cert.GradEnterReferenceIdeal.nD → PrngReg), Pre_GradEnterReferenceIdeal m →
    θ_run (Cert.GradEnterReferenceIdeal.defs (F := Ideal)) (onTc (τ := Cert.GradEnterReferenceIdeal.τ) (Cert.GradEnterReferenceIdeal.main (F := Ideal))) ⟨m, fun _ => 0, g⟩ (fun r => (∀ c : Dev Cert.GradEnterReferenceIdeal.nD,
      r.2.mem ((c.tc : Thread Cert.GradEnterReferenceIdeal.nD Cert.GradEnterReferenceIdeal.τ).loc Cert.GradEnterReferenceIdeal.main_arg0) = m ((c.tc : Thread Cert.GradEnterReferenceIdeal.nD Cert.GradEnterReferenceIdeal.τ).loc Cert.GradEnterReferenceIdeal.main_arg0)
      ∧ r.2.mem ((c.tc : Thread Cert.GradEnterReferenceIdeal.nD Cert.GradEnterReferenceIdeal.τ).loc Cert.GradEnterReferenceIdeal.main_arg1) = m ((c.tc : Thread Cert.GradEnterReferenceIdeal.nD Cert.GradEnterReferenceIdeal.τ).loc Cert.GradEnterReferenceIdeal.main_arg1))
      ∧ r.2.sem = fun _ => 0)

def quiescent_PastOut [hPastOut : Cert.PastOut.Facts] : Prop :=
  ∀ (m : (ℓ : Loc Cert.PastOut.nD Cert.PastOut.τ Cert.PastOut.sig) → Buf (Elt Bits) ℓ) (g : Dev Cert.PastOut.nD → PrngReg), Pre_PastOut m →
    θ_run (Cert.PastOut.defs (F := Bits)) (onTc (τ := Cert.PastOut.τ) (Cert.PastOut.main (F := Bits))) ⟨m, fun _ => 0, g⟩ (fun r => (∀ c : Dev Cert.PastOut.nD,
      r.2.mem ((c.tc : Thread Cert.PastOut.nD Cert.PastOut.τ).loc Cert.PastOut.main_arg0) = m ((c.tc : Thread Cert.PastOut.nD Cert.PastOut.τ).loc Cert.PastOut.main_arg0)
      ∧ r.2.mem ((c.tc : Thread Cert.PastOut.nD Cert.PastOut.τ).loc Cert.PastOut.main_arg1) = m ((c.tc : Thread Cert.PastOut.nD Cert.PastOut.τ).loc Cert.PastOut.main_arg1))
      ∧ r.2.sem = fun _ => 0)

def quiescent_PastOutIdeal [hPastOutIdeal : Cert.PastOutIdeal.Facts] : Prop :=
  ∀ (m : (ℓ : Loc Cert.PastOutIdeal.nD Cert.PastOutIdeal.τ Cert.PastOutIdeal.sig) → Buf (Elt Ideal) ℓ) (g : Dev Cert.PastOutIdeal.nD → PrngReg), Pre_PastOutIdeal m →
    θ_run (Cert.PastOutIdeal.defs (F := Ideal)) (onTc (τ := Cert.PastOutIdeal.τ) (Cert.PastOutIdeal.main (F := Ideal))) ⟨m, fun _ => 0, g⟩ (fun r => (∀ c : Dev Cert.PastOutIdeal.nD,
      r.2.mem ((c.tc : Thread Cert.PastOutIdeal.nD Cert.PastOutIdeal.τ).loc Cert.PastOutIdeal.main_arg0) = m ((c.tc : Thread Cert.PastOutIdeal.nD Cert.PastOutIdeal.τ).loc Cert.PastOutIdeal.main_arg0)
      ∧ r.2.mem ((c.tc : Thread Cert.PastOutIdeal.nD Cert.PastOutIdeal.τ).loc Cert.PastOutIdeal.main_arg1) = m ((c.tc : Thread Cert.PastOutIdeal.nD Cert.PastOutIdeal.τ).loc Cert.PastOutIdeal.main_arg1))
      ∧ r.2.sem = fun _ => 0)

def quiescent_PastOutReferenceIdeal [hPastOutReferenceIdeal : Cert.PastOutReferenceIdeal.Facts] : Prop :=
  ∀ (m : (ℓ : Loc Cert.PastOutReferenceIdeal.nD Cert.PastOutReferenceIdeal.τ Cert.PastOutReferenceIdeal.sig) → Buf (Elt Ideal) ℓ) (g : Dev Cert.PastOutReferenceIdeal.nD → PrngReg), Pre_PastOutReferenceIdeal m →
    θ_run (Cert.PastOutReferenceIdeal.defs (F := Ideal)) (onTc (τ := Cert.PastOutReferenceIdeal.τ) (Cert.PastOutReferenceIdeal.main (F := Ideal))) ⟨m, fun _ => 0, g⟩ (fun r => (∀ c : Dev Cert.PastOutReferenceIdeal.nD,
      r.2.mem ((c.tc : Thread Cert.PastOutReferenceIdeal.nD Cert.PastOutReferenceIdeal.τ).loc Cert.PastOutReferenceIdeal.main_arg0) = m ((c.tc : Thread Cert.PastOutReferenceIdeal.nD Cert.PastOutReferenceIdeal.τ).loc Cert.PastOutReferenceIdeal.main_arg0)
      ∧ r.2.mem ((c.tc : Thread Cert.PastOutReferenceIdeal.nD Cert.PastOutReferenceIdeal.τ).loc Cert.PastOutReferenceIdeal.main_arg1) = m ((c.tc : Thread Cert.PastOutReferenceIdeal.nD Cert.PastOutReferenceIdeal.τ).loc Cert.PastOutReferenceIdeal.main_arg1))
      ∧ r.2.sem = fun _ => 0)

def quiescent_PastSquare [hPastSquare : Cert.PastSquare.Facts] : Prop :=
  ∀ (m : (ℓ : Loc Cert.PastSquare.nD Cert.PastSquare.τ Cert.PastSquare.sig) → Buf (Elt Bits) ℓ) (g : Dev Cert.PastSquare.nD → PrngReg), Pre_PastSquare m →
    θ_run (Cert.PastSquare.defs (F := Bits)) (onTc (τ := Cert.PastSquare.τ) (Cert.PastSquare.main (F := Bits))) ⟨m, fun _ => 0, g⟩ (fun r => (∀ c : Dev Cert.PastSquare.nD,
      r.2.mem ((c.tc : Thread Cert.PastSquare.nD Cert.PastSquare.τ).loc Cert.PastSquare.main_arg0) = m ((c.tc : Thread Cert.PastSquare.nD Cert.PastSquare.τ).loc Cert.PastSquare.main_arg0)
      ∧ r.2.mem ((c.tc : Thread Cert.PastSquare.nD Cert.PastSquare.τ).loc Cert.PastSquare.main_arg1) = m ((c.tc : Thread Cert.PastSquare.nD Cert.PastSquare.τ).loc Cert.PastSquare.main_arg1))
      ∧ r.2.sem = fun _ => 0)

def quiescent_PastSquareIdeal [hPastSquareIdeal : Cert.PastSquareIdeal.Facts] : Prop :=
  ∀ (m : (ℓ : Loc Cert.PastSquareIdeal.nD Cert.PastSquareIdeal.τ Cert.PastSquareIdeal.sig) → Buf (Elt Ideal) ℓ) (g : Dev Cert.PastSquareIdeal.nD → PrngReg), Pre_PastSquareIdeal m →
    θ_run (Cert.PastSquareIdeal.defs (F := Ideal)) (onTc (τ := Cert.PastSquareIdeal.τ) (Cert.PastSquareIdeal.main (F := Ideal))) ⟨m, fun _ => 0, g⟩ (fun r => (∀ c : Dev Cert.PastSquareIdeal.nD,
      r.2.mem ((c.tc : Thread Cert.PastSquareIdeal.nD Cert.PastSquareIdeal.τ).loc Cert.PastSquareIdeal.main_arg0) = m ((c.tc : Thread Cert.PastSquareIdeal.nD Cert.PastSquareIdeal.τ).loc Cert.PastSquareIdeal.main_arg0)
      ∧ r.2.mem ((c.tc : Thread Cert.PastSquareIdeal.nD Cert.PastSquareIdeal.τ).loc Cert.PastSquareIdeal.main_arg1) = m ((c.tc : Thread Cert.PastSquareIdeal.nD Cert.PastSquareIdeal.τ).loc Cert.PastSquareIdeal.main_arg1))
      ∧ r.2.sem = fun _ => 0)

def quiescent_PastSquareReferenceIdeal [hPastSquareReferenceIdeal : Cert.PastSquareReferenceIdeal.Facts] : Prop :=
  ∀ (m : (ℓ : Loc Cert.PastSquareReferenceIdeal.nD Cert.PastSquareReferenceIdeal.τ Cert.PastSquareReferenceIdeal.sig) → Buf (Elt Ideal) ℓ) (g : Dev Cert.PastSquareReferenceIdeal.nD → PrngReg), Pre_PastSquareReferenceIdeal m →
    θ_run (Cert.PastSquareReferenceIdeal.defs (F := Ideal)) (onTc (τ := Cert.PastSquareReferenceIdeal.τ) (Cert.PastSquareReferenceIdeal.main (F := Ideal))) ⟨m, fun _ => 0, g⟩ (fun r => (∀ c : Dev Cert.PastSquareReferenceIdeal.nD,
      r.2.mem ((c.tc : Thread Cert.PastSquareReferenceIdeal.nD Cert.PastSquareReferenceIdeal.τ).loc Cert.PastSquareReferenceIdeal.main_arg0) = m ((c.tc : Thread Cert.PastSquareReferenceIdeal.nD Cert.PastSquareReferenceIdeal.τ).loc Cert.PastSquareReferenceIdeal.main_arg0)
      ∧ r.2.mem ((c.tc : Thread Cert.PastSquareReferenceIdeal.nD Cert.PastSquareReferenceIdeal.τ).loc Cert.PastSquareReferenceIdeal.main_arg1) = m ((c.tc : Thread Cert.PastSquareReferenceIdeal.nD Cert.PastSquareReferenceIdeal.τ).loc Cert.PastSquareReferenceIdeal.main_arg1))
      ∧ r.2.sem = fun _ => 0)

def quiescent_PastKeys [hPastKeys : Cert.PastKeys.Facts] : Prop :=
  ∀ (m : (ℓ : Loc Cert.PastKeys.nD Cert.PastKeys.τ Cert.PastKeys.sig) → Buf (Elt Bits) ℓ) (g : Dev Cert.PastKeys.nD → PrngReg), Pre_PastKeys m →
    θ_run (Cert.PastKeys.defs (F := Bits)) (onTc (τ := Cert.PastKeys.τ) (Cert.PastKeys.main (F := Bits))) ⟨m, fun _ => 0, g⟩ (fun r => (∀ c : Dev Cert.PastKeys.nD,
      r.2.mem ((c.tc : Thread Cert.PastKeys.nD Cert.PastKeys.τ).loc Cert.PastKeys.main_arg0) = m ((c.tc : Thread Cert.PastKeys.nD Cert.PastKeys.τ).loc Cert.PastKeys.main_arg0)
      ∧ r.2.mem ((c.tc : Thread Cert.PastKeys.nD Cert.PastKeys.τ).loc Cert.PastKeys.main_arg1) = m ((c.tc : Thread Cert.PastKeys.nD Cert.PastKeys.τ).loc Cert.PastKeys.main_arg1))
      ∧ r.2.sem = fun _ => 0)

def quiescent_PastKeysIdeal [hPastKeysIdeal : Cert.PastKeysIdeal.Facts] : Prop :=
  ∀ (m : (ℓ : Loc Cert.PastKeysIdeal.nD Cert.PastKeysIdeal.τ Cert.PastKeysIdeal.sig) → Buf (Elt Ideal) ℓ) (g : Dev Cert.PastKeysIdeal.nD → PrngReg), Pre_PastKeysIdeal m →
    θ_run (Cert.PastKeysIdeal.defs (F := Ideal)) (onTc (τ := Cert.PastKeysIdeal.τ) (Cert.PastKeysIdeal.main (F := Ideal))) ⟨m, fun _ => 0, g⟩ (fun r => (∀ c : Dev Cert.PastKeysIdeal.nD,
      r.2.mem ((c.tc : Thread Cert.PastKeysIdeal.nD Cert.PastKeysIdeal.τ).loc Cert.PastKeysIdeal.main_arg0) = m ((c.tc : Thread Cert.PastKeysIdeal.nD Cert.PastKeysIdeal.τ).loc Cert.PastKeysIdeal.main_arg0)
      ∧ r.2.mem ((c.tc : Thread Cert.PastKeysIdeal.nD Cert.PastKeysIdeal.τ).loc Cert.PastKeysIdeal.main_arg1) = m ((c.tc : Thread Cert.PastKeysIdeal.nD Cert.PastKeysIdeal.τ).loc Cert.PastKeysIdeal.main_arg1))
      ∧ r.2.sem = fun _ => 0)

def quiescent_PastKeysReferenceIdeal [hPastKeysReferenceIdeal : Cert.PastKeysReferenceIdeal.Facts] : Prop :=
  ∀ (m : (ℓ : Loc Cert.PastKeysReferenceIdeal.nD Cert.PastKeysReferenceIdeal.τ Cert.PastKeysReferenceIdeal.sig) → Buf (Elt Ideal) ℓ) (g : Dev Cert.PastKeysReferenceIdeal.nD → PrngReg), Pre_PastKeysReferenceIdeal m →
    θ_run (Cert.PastKeysReferenceIdeal.defs (F := Ideal)) (onTc (τ := Cert.PastKeysReferenceIdeal.τ) (Cert.PastKeysReferenceIdeal.main (F := Ideal))) ⟨m, fun _ => 0, g⟩ (fun r => (∀ c : Dev Cert.PastKeysReferenceIdeal.nD,
      r.2.mem ((c.tc : Thread Cert.PastKeysReferenceIdeal.nD Cert.PastKeysReferenceIdeal.τ).loc Cert.PastKeysReferenceIdeal.main_arg0) = m ((c.tc : Thread Cert.PastKeysReferenceIdeal.nD Cert.PastKeysReferenceIdeal.τ).loc Cert.PastKeysReferenceIdeal.main_arg0)
      ∧ r.2.mem ((c.tc : Thread Cert.PastKeysReferenceIdeal.nD Cert.PastKeysReferenceIdeal.τ).loc Cert.PastKeysReferenceIdeal.main_arg1) = m ((c.tc : Thread Cert.PastKeysReferenceIdeal.nD Cert.PastKeysReferenceIdeal.τ).loc Cert.PastKeysReferenceIdeal.main_arg1))
      ∧ r.2.sem = fun _ => 0)

def quiescent_PastBranch [hPastBranch : Cert.PastBranch.Facts] : Prop :=
  ∀ (m : (ℓ : Loc Cert.PastBranch.nD Cert.PastBranch.τ Cert.PastBranch.sig) → Buf (Elt Bits) ℓ) (g : Dev Cert.PastBranch.nD → PrngReg), Pre_PastBranch m →
    θ_run (Cert.PastBranch.defs (F := Bits)) (onTc (τ := Cert.PastBranch.τ) (Cert.PastBranch.main (F := Bits))) ⟨m, fun _ => 0, g⟩ (fun r => (∀ c : Dev Cert.PastBranch.nD,
      r.2.mem ((c.tc : Thread Cert.PastBranch.nD Cert.PastBranch.τ).loc Cert.PastBranch.main_arg0) = m ((c.tc : Thread Cert.PastBranch.nD Cert.PastBranch.τ).loc Cert.PastBranch.main_arg0)
      ∧ r.2.mem ((c.tc : Thread Cert.PastBranch.nD Cert.PastBranch.τ).loc Cert.PastBranch.main_arg1) = m ((c.tc : Thread Cert.PastBranch.nD Cert.PastBranch.τ).loc Cert.PastBranch.main_arg1))
      ∧ r.2.sem = fun _ => 0)

def quiescent_PastBranchIdeal [hPastBranchIdeal : Cert.PastBranchIdeal.Facts] : Prop :=
  ∀ (m : (ℓ : Loc Cert.PastBranchIdeal.nD Cert.PastBranchIdeal.τ Cert.PastBranchIdeal.sig) → Buf (Elt Ideal) ℓ) (g : Dev Cert.PastBranchIdeal.nD → PrngReg), Pre_PastBranchIdeal m →
    θ_run (Cert.PastBranchIdeal.defs (F := Ideal)) (onTc (τ := Cert.PastBranchIdeal.τ) (Cert.PastBranchIdeal.main (F := Ideal))) ⟨m, fun _ => 0, g⟩ (fun r => (∀ c : Dev Cert.PastBranchIdeal.nD,
      r.2.mem ((c.tc : Thread Cert.PastBranchIdeal.nD Cert.PastBranchIdeal.τ).loc Cert.PastBranchIdeal.main_arg0) = m ((c.tc : Thread Cert.PastBranchIdeal.nD Cert.PastBranchIdeal.τ).loc Cert.PastBranchIdeal.main_arg0)
      ∧ r.2.mem ((c.tc : Thread Cert.PastBranchIdeal.nD Cert.PastBranchIdeal.τ).loc Cert.PastBranchIdeal.main_arg1) = m ((c.tc : Thread Cert.PastBranchIdeal.nD Cert.PastBranchIdeal.τ).loc Cert.PastBranchIdeal.main_arg1))
      ∧ r.2.sem = fun _ => 0)

def quiescent_PastBranchReferenceIdeal [hPastBranchReferenceIdeal : Cert.PastBranchReferenceIdeal.Facts] : Prop :=
  ∀ (m : (ℓ : Loc Cert.PastBranchReferenceIdeal.nD Cert.PastBranchReferenceIdeal.τ Cert.PastBranchReferenceIdeal.sig) → Buf (Elt Ideal) ℓ) (g : Dev Cert.PastBranchReferenceIdeal.nD → PrngReg), Pre_PastBranchReferenceIdeal m →
    θ_run (Cert.PastBranchReferenceIdeal.defs (F := Ideal)) (onTc (τ := Cert.PastBranchReferenceIdeal.τ) (Cert.PastBranchReferenceIdeal.main (F := Ideal))) ⟨m, fun _ => 0, g⟩ (fun r => (∀ c : Dev Cert.PastBranchReferenceIdeal.nD,
      r.2.mem ((c.tc : Thread Cert.PastBranchReferenceIdeal.nD Cert.PastBranchReferenceIdeal.τ).loc Cert.PastBranchReferenceIdeal.main_arg0) = m ((c.tc : Thread Cert.PastBranchReferenceIdeal.nD Cert.PastBranchReferenceIdeal.τ).loc Cert.PastBranchReferenceIdeal.main_arg0)
      ∧ r.2.mem ((c.tc : Thread Cert.PastBranchReferenceIdeal.nD Cert.PastBranchReferenceIdeal.τ).loc Cert.PastBranchReferenceIdeal.main_arg1) = m ((c.tc : Thread Cert.PastBranchReferenceIdeal.nD Cert.PastBranchReferenceIdeal.τ).loc Cert.PastBranchReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 6656, 1024]⟩ ⟨3, ![64, 6656, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![6656, 1024]⟩ ⟨2, ![53248, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![6656, 1024]⟩ ⟨2, ![53248, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![6656, 1024]⟩ ⟨2, ![53248, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v26)) (v2 : Buf (Elt Ideal) (((0 : Dev Cert.ReferenceIdeal.nD).tc : Thread Cert.ReferenceIdeal.nD Cert.ReferenceIdeal.τ).loc Cert.ReferenceIdeal.main_v7)) (v3 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![6656, 1024]⟩ ⟨2, ![53248, 1024]⟩ 0 8 c v0
          ∧ r.2.mem ((c.tc : Thread Cert.KernelIdeal.nD Cert.KernelIdeal.τ).loc Cert.KernelIdeal.main_v2_1) = Layout.block ⟨2, ![6656, 1024]⟩ ⟨2, ![53248, 1024]⟩ 0 8 c v1
          ∧ r.2.mem ((c.tc : Thread Cert.KernelIdeal.nD Cert.KernelIdeal.τ).loc Cert.KernelIdeal.main_v2_2) = Layout.block ⟨2, ![6656, 1024]⟩ ⟨2, ![53248, 1024]⟩ 0 8 c v2
          ∧ r.2.mem ((c.tc : Thread Cert.KernelIdeal.nD Cert.KernelIdeal.τ).loc Cert.KernelIdeal.main_v2_3) = Layout.block ⟨2, ![6656, 1024]⟩ ⟨2, ![53248, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v26) = v1
          ∧ r.2.mem (((0 : Dev Cert.ReferenceIdeal.nD).tc : Thread Cert.ReferenceIdeal.nD Cert.ReferenceIdeal.τ).loc Cert.ReferenceIdeal.main_v7) = v2
          ∧ r.2.mem (((0 : Dev Cert.ReferenceIdeal.nD).tc : Thread Cert.ReferenceIdeal.nD Cert.ReferenceIdeal.τ).loc Cert.ReferenceIdeal.main_v13) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![6656, 1024]⟩ ⟨2, ![53248, 1024]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![6656, 1024]⟩ ⟨2, ![53248, 1024]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Few_FewIdeal : Prop :=
  True

def algebraic_FewIdeal_FewReferenceIdeal [hFewIdeal : Cert.FewIdeal.Facts] [hFewReferenceIdeal : Cert.FewReferenceIdeal.Facts] : Prop :=
  ∀ (m : (ℓ : Loc Cert.FewIdeal.nD Cert.FewIdeal.τ Cert.FewIdeal.sig) → Buf (Elt Ideal) ℓ) (g : Dev Cert.FewIdeal.nD → PrngReg)
    (m' : (ℓ : Loc Cert.FewReferenceIdeal.nD Cert.FewReferenceIdeal.τ Cert.FewReferenceIdeal.sig) → Buf (Elt Ideal) ℓ) (g' : Dev Cert.FewReferenceIdeal.nD → PrngReg), Pre_FewIdeal m →
    (∀ c : Dev Cert.FewIdeal.nD,
      m ((c.tc : Thread Cert.FewIdeal.nD Cert.FewIdeal.τ).loc Cert.FewIdeal.main_arg0) = Layout.block ⟨2, ![256, 128]⟩ ⟨2, ![2048, 128]⟩ 0 8 c (m' (((0 : Dev Cert.FewReferenceIdeal.nD).tc : Thread Cert.FewReferenceIdeal.nD Cert.FewReferenceIdeal.τ).loc Cert.FewReferenceIdeal.main_arg0))) →
    ∃ (v0 : Buf (Elt Ideal) (((0 : Dev Cert.FewReferenceIdeal.nD).tc : Thread Cert.FewReferenceIdeal.nD Cert.FewReferenceIdeal.τ).loc Cert.FewReferenceIdeal.main_v0)),
      θ_run (Cert.FewIdeal.defs (F := Ideal)) (onTc (τ := Cert.FewIdeal.τ) (Cert.FewIdeal.main (F := Ideal))) ⟨m, fun _ => 0, g⟩ (fun r => ∀ c : Dev Cert.FewIdeal.nD,
          r.2.mem ((c.tc : Thread Cert.FewIdeal.nD Cert.FewIdeal.τ).loc Cert.FewIdeal.main_v1) = v0
          ∧ r.2.mem ((c.tc : Thread Cert.FewIdeal.nD Cert.FewIdeal.τ).loc Cert.FewIdeal.main_arg0) = m ((c.tc : Thread Cert.FewIdeal.nD Cert.FewIdeal.τ).loc Cert.FewIdeal.main_arg0))
      ∧ θ_run (Cert.FewReferenceIdeal.defs (F := Ideal)) (onTc (τ := Cert.FewReferenceIdeal.τ) (Cert.FewReferenceIdeal.main (F := Ideal))) ⟨m', fun _ => 0, g'⟩ (fun r =>
          r.2.mem (((0 : Dev Cert.FewReferenceIdeal.nD).tc : Thread Cert.FewReferenceIdeal.nD Cert.FewReferenceIdeal.τ).loc Cert.FewReferenceIdeal.main_v0) = v0
          ∧ r.2.mem (((0 : Dev Cert.FewReferenceIdeal.nD).tc : Thread Cert.FewReferenceIdeal.nD Cert.FewReferenceIdeal.τ).loc Cert.FewReferenceIdeal.main_arg0) = m' (((0 : Dev Cert.FewReferenceIdeal.nD).tc : Thread Cert.FewReferenceIdeal.nD Cert.FewReferenceIdeal.τ).loc Cert.FewReferenceIdeal.main_arg0))

def bitexact_Few_FewReference [hFew : Cert.Few.Facts] [hFewReference : Cert.FewReference.Facts] : Prop :=
  ∀ (m : (ℓ : Loc Cert.Few.nD Cert.Few.τ Cert.Few.sig) → Buf (Elt Bits) ℓ) (g : Dev Cert.Few.nD → PrngReg)
    (m' : (ℓ : Loc Cert.FewReference.nD Cert.FewReference.τ Cert.FewReference.sig) → Buf (Elt Bits) ℓ) (g' : Dev Cert.FewReference.nD → PrngReg), Pre_Few m →
    (∀ c : Dev Cert.Few.nD,
      m ((c.tc : Thread Cert.Few.nD Cert.Few.τ).loc Cert.Few.main_arg0) = Layout.block ⟨2, ![256, 128]⟩ ⟨2, ![2048, 128]⟩ 0 8 c (m' (((0 : Dev Cert.FewReference.nD).tc : Thread Cert.FewReference.nD Cert.FewReference.τ).loc Cert.FewReference.main_arg0))) →
    ∃ (v0 : Buf (Elt Bits) (((0 : Dev Cert.FewReference.nD).tc : Thread Cert.FewReference.nD Cert.FewReference.τ).loc Cert.FewReference.main_v0)),
      θ_run (Cert.Few.defs (F := Bits)) (onTc (τ := Cert.Few.τ) (Cert.Few.main (F := Bits))) ⟨m, fun _ => 0, g⟩ (fun r => ∀ c : Dev Cert.Few.nD,
          r.2.mem ((c.tc : Thread Cert.Few.nD Cert.Few.τ).loc Cert.Few.main_v1) = v0
          ∧ r.2.mem ((c.tc : Thread Cert.Few.nD Cert.Few.τ).loc Cert.Few.main_arg0) = m ((c.tc : Thread Cert.Few.nD Cert.Few.τ).loc Cert.Few.main_arg0))
      ∧ θ_run (Cert.FewReference.defs (F := Bits)) (onTc (τ := Cert.FewReference.τ) (Cert.FewReference.main (F := Bits))) ⟨m', fun _ => 0, g'⟩ (fun r =>
          r.2.mem (((0 : Dev Cert.FewReference.nD).tc : Thread Cert.FewReference.nD Cert.FewReference.τ).loc Cert.FewReference.main_v0) = v0
          ∧ r.2.mem (((0 : Dev Cert.FewReference.nD).tc : Thread Cert.FewReference.nD Cert.FewReference.τ).loc Cert.FewReference.main_arg0) = m' (((0 : Dev Cert.FewReference.nD).tc : Thread Cert.FewReference.nD Cert.FewReference.τ).loc Cert.FewReference.main_arg0))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![2560, 128]⟩ ⟨2, ![20480, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v2) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v1) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def preserves_Update_UpdateIdeal : Prop :=
  True

def algebraic_UpdateIdeal_UpdateReferenceIdeal [hUpdateIdeal : Cert.UpdateIdeal.Facts] [hUpdateReferenceIdeal : Cert.UpdateReferenceIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v1_0)) (v1 : (c : Dev Cert.UpdateIdeal.nD) → Buf (Elt Ideal) ((c.tc : Thread Cert.UpdateIdeal.nD Cert.UpdateIdeal.τ).loc Cert.UpdateIdeal.main_v1_1)) (v2 : (c : Dev Cert.UpdateIdeal.nD) → Buf (Elt Ideal) ((c.tc : Thread Cert.UpdateIdeal.nD Cert.UpdateIdeal.τ).loc Cert.UpdateIdeal.main_v1_2)) (v3 : (c : Dev Cert.UpdateIdeal.nD) → Buf (Elt Ideal) ((c.tc : Thread Cert.UpdateIdeal.nD Cert.UpdateIdeal.τ).loc Cert.UpdateIdeal.main_v1_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v1_0) = v0 c
          ∧ r.2.mem ((c.tc : Thread Cert.UpdateIdeal.nD Cert.UpdateIdeal.τ).loc Cert.UpdateIdeal.main_v1_1) = v1 c
          ∧ r.2.mem ((c.tc : Thread Cert.UpdateIdeal.nD Cert.UpdateIdeal.τ).loc Cert.UpdateIdeal.main_v1_2) = v2 c
          ∧ r.2.mem ((c.tc : Thread Cert.UpdateIdeal.nD Cert.UpdateIdeal.τ).loc Cert.UpdateIdeal.main_v1_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_arg0) = v0 c
          ∧ r.2.mem ((c.tc : Thread Cert.UpdateReferenceIdeal.nD Cert.UpdateReferenceIdeal.τ).loc Cert.UpdateReferenceIdeal.main_v23) = v1 c
          ∧ r.2.mem ((c.tc : Thread Cert.UpdateReferenceIdeal.nD Cert.UpdateReferenceIdeal.τ).loc Cert.UpdateReferenceIdeal.main_v4) = v2 c
          ∧ r.2.mem ((c.tc : Thread Cert.UpdateReferenceIdeal.nD Cert.UpdateReferenceIdeal.τ).loc Cert.UpdateReferenceIdeal.main_v10) = v3 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m ((c.tc : Thread Cert.LossIdeal.nD Cert.LossIdeal.τ).loc Cert.LossIdeal.main_arg0) = Layout.block ⟨2, ![4096, 1024]⟩ ⟨2, ![32768, 1024]⟩ 0 8 c (m' (((0 : Dev Cert.LossReferenceIdeal.nD).tc : Thread Cert.LossReferenceIdeal.nD Cert.LossReferenceIdeal.τ).loc Cert.LossReferenceIdeal.main_arg0))
      ∧ m ((c.tc : Thread Cert.LossIdeal.nD Cert.LossIdeal.τ).loc Cert.LossIdeal.main_arg1) = Layout.block ⟨2, ![4096, 1024]⟩ ⟨2, ![32768, 1024]⟩ 0 8 c (m' (((0 : Dev Cert.LossReferenceIdeal.nD).tc : Thread Cert.LossReferenceIdeal.nD Cert.LossReferenceIdeal.τ).loc Cert.LossReferenceIdeal.main_arg1))) →
    ∃ (v0 : Buf (Elt Ideal) (((0 : Dev Cert.LossReferenceIdeal.nD).tc : Thread Cert.LossReferenceIdeal.nD Cert.LossReferenceIdeal.τ).loc Cert.LossReferenceIdeal.main_v6)) (v1 : Buf (Elt Ideal) (((0 : Dev Cert.LossReferenceIdeal.nD).tc : Thread Cert.LossReferenceIdeal.nD Cert.LossReferenceIdeal.τ).loc Cert.LossReferenceIdeal.main_v9)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0
          ∧ r.2.mem ((c.tc : Thread Cert.LossIdeal.nD Cert.LossIdeal.τ).loc Cert.LossIdeal.main_v1_1) = Layout.block ⟨2, ![4096, 1024]⟩ ⟨2, ![32768, 1024]⟩ 0 8 c v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r =>
          r.2.mem (((0 : Dev Cert.LossReferenceIdeal.nD).tc : Thread Cert.LossReferenceIdeal.nD Cert.LossReferenceIdeal.τ).loc Cert.LossReferenceIdeal.main_v6) = v0
          ∧ r.2.mem (((0 : Dev Cert.LossReferenceIdeal.nD).tc : Thread Cert.LossReferenceIdeal.nD Cert.LossReferenceIdeal.τ).loc Cert.LossReferenceIdeal.main_v9) = v1
          ∧ r.2.mem (((0 : Dev Cert.LossReferenceIdeal.nD).tc : Thread Cert.LossReferenceIdeal.nD Cert.LossReferenceIdeal.τ).loc Cert.LossReferenceIdeal.main_arg0) = m' (((0 : Dev Cert.LossReferenceIdeal.nD).tc : Thread Cert.LossReferenceIdeal.nD Cert.LossReferenceIdeal.τ).loc Cert.LossReferenceIdeal.main_arg0)
          ∧ r.2.mem (((0 : Dev Cert.LossReferenceIdeal.nD).tc : Thread Cert.LossReferenceIdeal.nD Cert.LossReferenceIdeal.τ).loc Cert.LossReferenceIdeal.main_arg1) = m' (((0 : Dev Cert.LossReferenceIdeal.nD).tc : Thread Cert.LossReferenceIdeal.nD Cert.LossReferenceIdeal.τ).loc Cert.LossReferenceIdeal.main_arg1))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v3) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2))

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v23) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v56) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v17) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v26) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v4) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0))

def preserves_Enter_EnterIdeal : Prop :=
  True

def algebraic_EnterIdeal_EnterReferenceIdeal [hEnterIdeal : Cert.EnterIdeal.Facts] [hEnterReferenceIdeal : Cert.EnterReferenceIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterReferenceIdeal.nD Cert.EnterReferenceIdeal.τ Cert.EnterReferenceIdeal.sig) → Buf (Elt Ideal) ℓ) (g' : Dev Cert.EnterReferenceIdeal.nD → PrngReg), Pre_EnterIdeal m →
    (∀ c : Dev Cert.EnterIdeal.nD,
      m' ((c.tc : Thread Cert.EnterReferenceIdeal.nD Cert.EnterReferenceIdeal.τ).loc Cert.EnterReferenceIdeal.main_arg0) = m ((c.tc : Thread Cert.EnterIdeal.nD Cert.EnterIdeal.τ).loc Cert.EnterIdeal.main_arg0)
      ∧ m' ((c.tc : Thread Cert.EnterReferenceIdeal.nD Cert.EnterReferenceIdeal.τ).loc Cert.EnterReferenceIdeal.main_arg1) = m ((c.tc : Thread Cert.EnterIdeal.nD Cert.EnterIdeal.τ).loc Cert.EnterIdeal.main_arg1)) →
    ∃ (v0 : (c : Dev Cert.EnterIdeal.nD) → Buf (Elt Ideal) ((c.tc : Thread Cert.EnterIdeal.nD Cert.EnterIdeal.τ).loc Cert.EnterIdeal.main_v0)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v0) = v0 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1))
      ∧ θ_run (Cert.EnterReferenceIdeal.defs (F := Ideal)) (onTc (τ := Cert.EnterReferenceIdeal.τ) (Cert.EnterReferenceIdeal.main (F := Ideal))) ⟨m', fun _ => 0, g'⟩ (fun r => ∀ c : Dev Cert.EnterReferenceIdeal.nD,
          r.2.mem ((c.tc : Thread Cert.EnterReferenceIdeal.nD Cert.EnterReferenceIdeal.τ).loc Cert.EnterReferenceIdeal.main_v1) = v0 c
          ∧ r.2.mem ((c.tc : Thread Cert.EnterReferenceIdeal.nD Cert.EnterReferenceIdeal.τ).loc Cert.EnterReferenceIdeal.main_arg0) = m' ((c.tc : Thread Cert.EnterReferenceIdeal.nD Cert.EnterReferenceIdeal.τ).loc Cert.EnterReferenceIdeal.main_arg0)
          ∧ r.2.mem ((c.tc : Thread Cert.EnterReferenceIdeal.nD Cert.EnterReferenceIdeal.τ).loc Cert.EnterReferenceIdeal.main_arg1) = m' ((c.tc : Thread Cert.EnterReferenceIdeal.nD Cert.EnterReferenceIdeal.τ).loc Cert.EnterReferenceIdeal.main_arg1))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v23) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v36) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v2) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v1) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v2) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v0)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v1) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1))

def preserves_Widen_WidenIdeal : Prop :=
  True

def algebraic_WidenIdeal_WidenReferenceIdeal [hWidenIdeal : Cert.WidenIdeal.Facts] [hWidenReferenceIdeal : Cert.WidenReferenceIdeal.Facts] : Prop :=
  ∀ (m : (ℓ : Loc Cert.WidenIdeal.nD Cert.WidenIdeal.τ Cert.WidenIdeal.sig) → Buf (Elt Ideal) ℓ) (g : Dev Cert.WidenIdeal.nD → PrngReg)
    (m' : (ℓ : Loc Cert.WidenReferenceIdeal.nD Cert.WidenReferenceIdeal.τ Cert.WidenReferenceIdeal.sig) → Buf (Elt Ideal) ℓ) (g' : Dev Cert.WidenReferenceIdeal.nD → PrngReg), Pre_WidenIdeal m →
    (∀ c : Dev Cert.WidenIdeal.nD,
      m' ((c.tc : Thread Cert.WidenReferenceIdeal.nD Cert.WidenReferenceIdeal.τ).loc Cert.WidenReferenceIdeal.main_arg0) = m ((c.tc : Thread Cert.WidenIdeal.nD Cert.WidenIdeal.τ).loc Cert.WidenIdeal.main_arg0)
      ∧ m' ((c.tc : Thread Cert.WidenReferenceIdeal.nD Cert.WidenReferenceIdeal.τ).loc Cert.WidenReferenceIdeal.main_arg1) = m ((c.tc : Thread Cert.WidenIdeal.nD Cert.WidenIdeal.τ).loc Cert.WidenIdeal.main_arg1)) →
    ∃ (v0 : (c : Dev Cert.WidenIdeal.nD) → Buf (Elt Ideal) ((c.tc : Thread Cert.WidenIdeal.nD Cert.WidenIdeal.τ).loc Cert.WidenIdeal.main_v0)),
      θ_run (Cert.WidenIdeal.defs (F := Ideal)) (onTc (τ := Cert.WidenIdeal.τ) (Cert.WidenIdeal.main (F := Ideal))) ⟨m, fun _ => 0, g⟩ (fun r => ∀ c : Dev Cert.WidenIdeal.nD,
          r.2.mem ((c.tc : Thread Cert.WidenIdeal.nD Cert.WidenIdeal.τ).loc Cert.WidenIdeal.main_v0) = v0 c
          ∧ r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
          ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1))
      ∧ θ_run (Cert.WidenReferenceIdeal.defs (F := Ideal)) (onTc (τ := Cert.WidenReferenceIdeal.τ) (Cert.WidenReferenceIdeal.main (F := Ideal))) ⟨m', fun _ => 0, g'⟩ (fun r => ∀ c : Dev Cert.WidenReferenceIdeal.nD,
          r.2.mem ((c.tc : Thread Cert.WidenReferenceIdeal.nD Cert.WidenReferenceIdeal.τ).loc Cert.WidenReferenceIdeal.main_v1) = v0 c
          ∧ r.2.mem ((c.tc : Thread Cert.WidenReferenceIdeal.nD Cert.WidenReferenceIdeal.τ).loc Cert.WidenReferenceIdeal.main_arg0) = m' ((c.tc : Thread Cert.WidenReferenceIdeal.nD Cert.WidenReferenceIdeal.τ).loc Cert.WidenReferenceIdeal.main_arg0)
          ∧ r.2.mem ((c.tc : Thread Cert.WidenReferenceIdeal.nD Cert.WidenReferenceIdeal.τ).loc Cert.WidenReferenceIdeal.main_arg1) = m' ((c.tc : Thread Cert.WidenReferenceIdeal.nD Cert.WidenReferenceIdeal.τ).loc Cert.WidenReferenceIdeal.main_arg1))

def preserves_Narrow_NarrowIdeal : Prop :=
  True

def algebraic_NarrowIdeal_NarrowReferenceIdeal [hNarrowIdeal : Cert.NarrowIdeal.Facts] [hNarrowReferenceIdeal : Cert.NarrowReferenceIdeal.Facts] : Prop :=
  ∀ (m : (ℓ : Loc Cert.NarrowIdeal.nD Cert.NarrowIdeal.τ Cert.NarrowIdeal.sig) → Buf (Elt Ideal) ℓ) (g : Dev Cert.NarrowIdeal.nD → PrngReg)
    (m' : (ℓ : Loc Cert.NarrowReferenceIdeal.nD Cert.NarrowReferenceIdeal.τ Cert.NarrowReferenceIdeal.sig) → Buf (Elt Ideal) ℓ) (g' : Dev Cert.NarrowReferenceIdeal.nD → PrngReg), Pre_NarrowIdeal m →
    (∀ c : Dev Cert.NarrowIdeal.nD,
      m' ((c.tc : Thread Cert.NarrowReferenceIdeal.nD Cert.NarrowReferenceIdeal.τ).loc Cert.NarrowReferenceIdeal.main_arg0) = m ((c.tc : Thread Cert.NarrowIdeal.nD Cert.NarrowIdeal.τ).loc Cert.NarrowIdeal.main_arg0)
      ∧ m' ((c.tc : Thread Cert.NarrowReferenceIdeal.nD Cert.NarrowReferenceIdeal.τ).loc Cert.NarrowReferenceIdeal.main_arg1) = m ((c.tc : Thread Cert.NarrowIdeal.nD Cert.NarrowIdeal.τ).loc Cert.NarrowIdeal.main_arg1)) →
    ∃ (v0 : (c : Dev Cert.NarrowIdeal.nD) → Buf (Elt Ideal) ((c.tc : Thread Cert.NarrowIdeal.nD Cert.NarrowIdeal.τ).loc Cert.NarrowIdeal.main_v0)),
      θ_run (Cert.NarrowIdeal.defs (F := Ideal)) (onTc (τ := Cert.NarrowIdeal.τ) (Cert.NarrowIdeal.main (F := Ideal))) ⟨m, fun _ => 0, g⟩ (fun r => ∀ c : Dev Cert.NarrowIdeal.nD,
          r.2.mem ((c.tc : Thread Cert.NarrowIdeal.nD Cert.NarrowIdeal.τ).loc Cert.NarrowIdeal.main_v0) = v0 c
          ∧ r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
          ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1))
      ∧ θ_run (Cert.NarrowReferenceIdeal.defs (F := Ideal)) (onTc (τ := Cert.NarrowReferenceIdeal.τ) (Cert.NarrowReferenceIdeal.main (F := Ideal))) ⟨m', fun _ => 0, g'⟩ (fun r => ∀ c : Dev Cert.NarrowReferenceIdeal.nD,
          r.2.mem ((c.tc : Thread Cert.NarrowReferenceIdeal.nD Cert.NarrowReferenceIdeal.τ).loc Cert.NarrowReferenceIdeal.main_v2) = v0 c
          ∧ r.2.mem ((c.tc : Thread Cert.NarrowReferenceIdeal.nD Cert.NarrowReferenceIdeal.τ).loc Cert.NarrowReferenceIdeal.main_arg0) = m' ((c.tc : Thread Cert.NarrowReferenceIdeal.nD Cert.NarrowReferenceIdeal.τ).loc Cert.NarrowReferenceIdeal.main_arg0)
          ∧ r.2.mem ((c.tc : Thread Cert.NarrowReferenceIdeal.nD Cert.NarrowReferenceIdeal.τ).loc Cert.NarrowReferenceIdeal.main_arg1) = m' ((c.tc : Thread Cert.NarrowReferenceIdeal.nD Cert.NarrowReferenceIdeal.τ).loc Cert.NarrowReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v2) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradSquare_GradSquareIdeal : Prop :=
  True

def algebraic_GradSquareIdeal_GradSquareReferenceIdeal [hGradSquareIdeal : Cert.GradSquareIdeal.Facts] [hGradSquareReferenceIdeal : Cert.GradSquareReferenceIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareReferenceIdeal.nD Cert.GradSquareReferenceIdeal.τ Cert.GradSquareReferenceIdeal.sig) → Buf (Elt Ideal) ℓ) (g' : Dev Cert.GradSquareReferenceIdeal.nD → PrngReg), Pre_GradSquareIdeal m →
    (∀ c : Dev Cert.GradSquareIdeal.nD,
      m' ((c.tc : Thread Cert.GradSquareReferenceIdeal.nD Cert.GradSquareReferenceIdeal.τ).loc Cert.GradSquareReferenceIdeal.main_arg0) = m ((c.tc : Thread Cert.GradSquareIdeal.nD Cert.GradSquareIdeal.τ).loc Cert.GradSquareIdeal.main_arg0)
      ∧ m' ((c.tc : Thread Cert.GradSquareReferenceIdeal.nD Cert.GradSquareReferenceIdeal.τ).loc Cert.GradSquareReferenceIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v0)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v0) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareReferenceIdeal.defs (F := Ideal)) (onTc (τ := Cert.GradSquareReferenceIdeal.τ) (Cert.GradSquareReferenceIdeal.main (F := Ideal))) ⟨m', fun _ => 0, g'⟩ (fun r => ∀ c : Dev Cert.GradSquareReferenceIdeal.nD,
          r.2.mem ((c.tc : Thread Cert.GradSquareReferenceIdeal.nD Cert.GradSquareReferenceIdeal.τ).loc Cert.GradSquareReferenceIdeal.main_v3) = v0 c
          ∧ r.2.mem ((c.tc : Thread Cert.GradSquareReferenceIdeal.nD Cert.GradSquareReferenceIdeal.τ).loc Cert.GradSquareReferenceIdeal.main_arg0) = m' ((c.tc : Thread Cert.GradSquareReferenceIdeal.nD Cert.GradSquareReferenceIdeal.τ).loc Cert.GradSquareReferenceIdeal.main_arg0)
          ∧ r.2.mem ((c.tc : Thread Cert.GradSquareReferenceIdeal.nD Cert.GradSquareReferenceIdeal.τ).loc Cert.GradSquareReferenceIdeal.main_arg1) = m' ((c.tc : Thread Cert.GradSquareReferenceIdeal.nD Cert.GradSquareReferenceIdeal.τ).loc Cert.GradSquareReferenceIdeal.main_arg1))

def preserves_GradQuery_GradQueryIdeal : Prop :=
  True

def algebraic_GradQueryIdeal_GradQueryReferenceIdeal [hGradQueryIdeal : Cert.GradQueryIdeal.Facts] [hGradQueryReferenceIdeal : Cert.GradQueryReferenceIdeal.Facts] : Prop :=
  ∀ (m : (ℓ : Loc Cert.GradQueryIdeal.nD Cert.GradQueryIdeal.τ Cert.GradQueryIdeal.sig) → Buf (Elt Ideal) ℓ) (g : Dev Cert.GradQueryIdeal.nD → PrngReg)
    (m' : (ℓ : Loc Cert.GradQueryReferenceIdeal.nD Cert.GradQueryReferenceIdeal.τ Cert.GradQueryReferenceIdeal.sig) → Buf (Elt Ideal) ℓ) (g' : Dev Cert.GradQueryReferenceIdeal.nD → PrngReg), Pre_GradQueryIdeal m →
    (∀ c : Dev Cert.GradQueryIdeal.nD,
      m' ((c.tc : Thread Cert.GradQueryReferenceIdeal.nD Cert.GradQueryReferenceIdeal.τ).loc Cert.GradQueryReferenceIdeal.main_arg0) = m ((c.tc : Thread Cert.GradQueryIdeal.nD Cert.GradQueryIdeal.τ).loc Cert.GradQueryIdeal.main_arg0)
      ∧ m' ((c.tc : Thread Cert.GradQueryReferenceIdeal.nD Cert.GradQueryReferenceIdeal.τ).loc Cert.GradQueryReferenceIdeal.main_arg1) = m ((c.tc : Thread Cert.GradQueryIdeal.nD Cert.GradQueryIdeal.τ).loc Cert.GradQueryIdeal.main_arg1)) →
    ∃ (v0 : (c : Dev Cert.GradQueryIdeal.nD) → Buf (Elt Ideal) ((c.tc : Thread Cert.GradQueryIdeal.nD Cert.GradQueryIdeal.τ).loc Cert.GradQueryIdeal.main_v0)),
      θ_run (Cert.GradQueryIdeal.defs (F := Ideal)) (onTc (τ := Cert.GradQueryIdeal.τ) (Cert.GradQueryIdeal.main (F := Ideal))) ⟨m, fun _ => 0, g⟩ (fun r => ∀ c : Dev Cert.GradQueryIdeal.nD,
          r.2.mem ((c.tc : Thread Cert.GradQueryIdeal.nD Cert.GradQueryIdeal.τ).loc Cert.GradQueryIdeal.main_v0) = v0 c
          ∧ r.2.mem ((c.tc : Thread Cert.GradQueryIdeal.nD Cert.GradQueryIdeal.τ).loc Cert.GradQueryIdeal.main_arg0) = m ((c.tc : Thread Cert.GradQueryIdeal.nD Cert.GradQueryIdeal.τ).loc Cert.GradQueryIdeal.main_arg0)
          ∧ r.2.mem ((c.tc : Thread Cert.GradQueryIdeal.nD Cert.GradQueryIdeal.τ).loc Cert.GradQueryIdeal.main_arg1) = m ((c.tc : Thread Cert.GradQueryIdeal.nD Cert.GradQueryIdeal.τ).loc Cert.GradQueryIdeal.main_arg1))
      ∧ θ_run (Cert.GradQueryReferenceIdeal.defs (F := Ideal)) (onTc (τ := Cert.GradQueryReferenceIdeal.τ) (Cert.GradQueryReferenceIdeal.main (F := Ideal))) ⟨m', fun _ => 0, g'⟩ (fun r => ∀ c : Dev Cert.GradQueryReferenceIdeal.nD,
          r.2.mem ((c.tc : Thread Cert.GradQueryReferenceIdeal.nD Cert.GradQueryReferenceIdeal.τ).loc Cert.GradQueryReferenceIdeal.main_v2) = v0 c
          ∧ r.2.mem ((c.tc : Thread Cert.GradQueryReferenceIdeal.nD Cert.GradQueryReferenceIdeal.τ).loc Cert.GradQueryReferenceIdeal.main_arg0) = m' ((c.tc : Thread Cert.GradQueryReferenceIdeal.nD Cert.GradQueryReferenceIdeal.τ).loc Cert.GradQueryReferenceIdeal.main_arg0)
          ∧ r.2.mem ((c.tc : Thread Cert.GradQueryReferenceIdeal.nD Cert.GradQueryReferenceIdeal.τ).loc Cert.GradQueryReferenceIdeal.main_arg1) = m' ((c.tc : Thread Cert.GradQueryReferenceIdeal.nD Cert.GradQueryReferenceIdeal.τ).loc Cert.GradQueryReferenceIdeal.main_arg1))

def preserves_GradKeys_GradKeysIdeal : Prop :=
  True

def algebraic_GradKeysIdeal_GradKeysReferenceIdeal [hGradKeysIdeal : Cert.GradKeysIdeal.Facts] [hGradKeysReferenceIdeal : Cert.GradKeysReferenceIdeal.Facts] : Prop :=
  ∀ (m : (ℓ : Loc Cert.GradKeysIdeal.nD Cert.GradKeysIdeal.τ Cert.GradKeysIdeal.sig) → Buf (Elt Ideal) ℓ) (g : Dev Cert.GradKeysIdeal.nD → PrngReg)
    (m' : (ℓ : Loc Cert.GradKeysReferenceIdeal.nD Cert.GradKeysReferenceIdeal.τ Cert.GradKeysReferenceIdeal.sig) → Buf (Elt Ideal) ℓ) (g' : Dev Cert.GradKeysReferenceIdeal.nD → PrngReg), Pre_GradKeysIdeal m →
    (∀ c : Dev Cert.GradKeysIdeal.nD,
      m' ((c.tc : Thread Cert.GradKeysReferenceIdeal.nD Cert.GradKeysReferenceIdeal.τ).loc Cert.GradKeysReferenceIdeal.main_arg0) = m ((c.tc : Thread Cert.GradKeysIdeal.nD Cert.GradKeysIdeal.τ).loc Cert.GradKeysIdeal.main_arg0)
      ∧ m' ((c.tc : Thread Cert.GradKeysReferenceIdeal.nD Cert.GradKeysReferenceIdeal.τ).loc Cert.GradKeysReferenceIdeal.main_arg1) = m ((c.tc : Thread Cert.GradKeysIdeal.nD Cert.GradKeysIdeal.τ).loc Cert.GradKeysIdeal.main_arg1)) →
    ∃ (v0 : (c : Dev Cert.GradKeysIdeal.nD) → Buf (Elt Ideal) ((c.tc : Thread Cert.GradKeysIdeal.nD Cert.GradKeysIdeal.τ).loc Cert.GradKeysIdeal.main_v0)),
      θ_run (Cert.GradKeysIdeal.defs (F := Ideal)) (onTc (τ := Cert.GradKeysIdeal.τ) (Cert.GradKeysIdeal.main (F := Ideal))) ⟨m, fun _ => 0, g⟩ (fun r => ∀ c : Dev Cert.GradKeysIdeal.nD,
          r.2.mem ((c.tc : Thread Cert.GradKeysIdeal.nD Cert.GradKeysIdeal.τ).loc Cert.GradKeysIdeal.main_v0) = v0 c
          ∧ r.2.mem ((c.tc : Thread Cert.GradKeysIdeal.nD Cert.GradKeysIdeal.τ).loc Cert.GradKeysIdeal.main_arg0) = m ((c.tc : Thread Cert.GradKeysIdeal.nD Cert.GradKeysIdeal.τ).loc Cert.GradKeysIdeal.main_arg0)
          ∧ r.2.mem ((c.tc : Thread Cert.GradKeysIdeal.nD Cert.GradKeysIdeal.τ).loc Cert.GradKeysIdeal.main_arg1) = m ((c.tc : Thread Cert.GradKeysIdeal.nD Cert.GradKeysIdeal.τ).loc Cert.GradKeysIdeal.main_arg1))
      ∧ θ_run (Cert.GradKeysReferenceIdeal.defs (F := Ideal)) (onTc (τ := Cert.GradKeysReferenceIdeal.τ) (Cert.GradKeysReferenceIdeal.main (F := Ideal))) ⟨m', fun _ => 0, g'⟩ (fun r => ∀ c : Dev Cert.GradKeysReferenceIdeal.nD,
          r.2.mem ((c.tc : Thread Cert.GradKeysReferenceIdeal.nD Cert.GradKeysReferenceIdeal.τ).loc Cert.GradKeysReferenceIdeal.main_v2) = v0 c
          ∧ r.2.mem ((c.tc : Thread Cert.GradKeysReferenceIdeal.nD Cert.GradKeysReferenceIdeal.τ).loc Cert.GradKeysReferenceIdeal.main_arg0) = m' ((c.tc : Thread Cert.GradKeysReferenceIdeal.nD Cert.GradKeysReferenceIdeal.τ).loc Cert.GradKeysReferenceIdeal.main_arg0)
          ∧ r.2.mem ((c.tc : Thread Cert.GradKeysReferenceIdeal.nD Cert.GradKeysReferenceIdeal.τ).loc Cert.GradKeysReferenceIdeal.main_arg1) = m' ((c.tc : Thread Cert.GradKeysReferenceIdeal.nD Cert.GradKeysReferenceIdeal.τ).loc Cert.GradKeysReferenceIdeal.main_arg1))

def preserves_GradBranch_GradBranchIdeal : Prop :=
  True

def algebraic_GradBranchIdeal_GradBranchReferenceIdeal [hGradBranchIdeal : Cert.GradBranchIdeal.Facts] [hGradBranchReferenceIdeal : Cert.GradBranchReferenceIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg)
    (m' : (ℓ : Loc Cert.GradBranchReferenceIdeal.nD Cert.GradBranchReferenceIdeal.τ Cert.GradBranchReferenceIdeal.sig) → Buf (Elt Ideal) ℓ) (g' : Dev Cert.GradBranchReferenceIdeal.nD → PrngReg), Pre_GradBranchIdeal m →
    (∀ c : Dev Cert.GradBranchIdeal.nD,
      m' ((c.tc : Thread Cert.GradBranchReferenceIdeal.nD Cert.GradBranchReferenceIdeal.τ).loc Cert.GradBranchReferenceIdeal.main_arg0) = m ((c.tc : Thread Cert.GradBranchIdeal.nD Cert.GradBranchIdeal.τ).loc Cert.GradBranchIdeal.main_arg0)
      ∧ m' ((c.tc : Thread Cert.GradBranchReferenceIdeal.nD Cert.GradBranchReferenceIdeal.τ).loc Cert.GradBranchReferenceIdeal.main_arg1) = m ((c.tc : Thread Cert.GradBranchIdeal.nD Cert.GradBranchIdeal.τ).loc Cert.GradBranchIdeal.main_arg1)) →
    ∃ (v0 : (c : Dev Cert.GradBranchIdeal.nD) → Buf (Elt Ideal) ((c.tc : Thread Cert.GradBranchIdeal.nD Cert.GradBranchIdeal.τ).loc Cert.GradBranchIdeal.main_v0)),
      θ_run (Cert.GradBranchIdeal.defs (F := Ideal)) (onTc (τ := Cert.GradBranchIdeal.τ) (Cert.GradBranchIdeal.main (F := Ideal))) ⟨m, fun _ => 0, g⟩ (fun r => ∀ c : Dev Cert.GradBranchIdeal.nD,
          r.2.mem ((c.tc : Thread Cert.GradBranchIdeal.nD Cert.GradBranchIdeal.τ).loc Cert.GradBranchIdeal.main_v0) = v0 c
          ∧ r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
          ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ θ_run (Cert.GradBranchReferenceIdeal.defs (F := Ideal)) (onTc (τ := Cert.GradBranchReferenceIdeal.τ) (Cert.GradBranchReferenceIdeal.main (F := Ideal))) ⟨m', fun _ => 0, g'⟩ (fun r => ∀ c : Dev Cert.GradBranchReferenceIdeal.nD,
          r.2.mem ((c.tc : Thread Cert.GradBranchReferenceIdeal.nD Cert.GradBranchReferenceIdeal.τ).loc Cert.GradBranchReferenceIdeal.main_v3) = v0 c
          ∧ r.2.mem ((c.tc : Thread Cert.GradBranchReferenceIdeal.nD Cert.GradBranchReferenceIdeal.τ).loc Cert.GradBranchReferenceIdeal.main_arg0) = m' ((c.tc : Thread Cert.GradBranchReferenceIdeal.nD Cert.GradBranchReferenceIdeal.τ).loc Cert.GradBranchReferenceIdeal.main_arg0)
          ∧ r.2.mem ((c.tc : Thread Cert.GradBranchReferenceIdeal.nD Cert.GradBranchReferenceIdeal.τ).loc Cert.GradBranchReferenceIdeal.main_arg1) = m' ((c.tc : Thread Cert.GradBranchReferenceIdeal.nD Cert.GradBranchReferenceIdeal.τ).loc Cert.GradBranchReferenceIdeal.main_arg1))

def preserves_GradEnter_GradEnterIdeal : Prop :=
  True

def algebraic_GradEnterIdeal_GradEnterReferenceIdeal [hGradEnterIdeal : Cert.GradEnterIdeal.Facts] [hGradEnterReferenceIdeal : Cert.GradEnterReferenceIdeal.Facts] : Prop :=
  ∀ (m : (ℓ : Loc Cert.GradEnterIdeal.nD Cert.GradEnterIdeal.τ Cert.GradEnterIdeal.sig) → Buf (Elt Ideal) ℓ) (g : Dev Cert.GradEnterIdeal.nD → PrngReg)
    (m' : (ℓ : Loc Cert.GradEnterReferenceIdeal.nD Cert.GradEnterReferenceIdeal.τ Cert.GradEnterReferenceIdeal.sig) → Buf (Elt Ideal) ℓ) (g' : Dev Cert.GradEnterReferenceIdeal.nD → PrngReg), Pre_GradEnterIdeal m →
    (∀ c : Dev Cert.GradEnterIdeal.nD,
      m' ((c.tc : Thread Cert.GradEnterReferenceIdeal.nD Cert.GradEnterReferenceIdeal.τ).loc Cert.GradEnterReferenceIdeal.main_arg0) = m ((c.tc : Thread Cert.GradEnterIdeal.nD Cert.GradEnterIdeal.τ).loc Cert.GradEnterIdeal.main_arg0)
      ∧ m' ((c.tc : Thread Cert.GradEnterReferenceIdeal.nD Cert.GradEnterReferenceIdeal.τ).loc Cert.GradEnterReferenceIdeal.main_arg1) = m ((c.tc : Thread Cert.GradEnterIdeal.nD Cert.GradEnterIdeal.τ).loc Cert.GradEnterIdeal.main_arg1)) →
    ∃ (v0 : (c : Dev Cert.GradEnterIdeal.nD) → Buf (Elt Ideal) ((c.tc : Thread Cert.GradEnterIdeal.nD Cert.GradEnterIdeal.τ).loc Cert.GradEnterIdeal.main_v0)),
      θ_run (Cert.GradEnterIdeal.defs (F := Ideal)) (onTc (τ := Cert.GradEnterIdeal.τ) (Cert.GradEnterIdeal.main (F := Ideal))) ⟨m, fun _ => 0, g⟩ (fun r => ∀ c : Dev Cert.GradEnterIdeal.nD,
          r.2.mem ((c.tc : Thread Cert.GradEnterIdeal.nD Cert.GradEnterIdeal.τ).loc Cert.GradEnterIdeal.main_v0) = v0 c
          ∧ r.2.mem ((c.tc : Thread Cert.GradEnterIdeal.nD Cert.GradEnterIdeal.τ).loc Cert.GradEnterIdeal.main_arg0) = m ((c.tc : Thread Cert.GradEnterIdeal.nD Cert.GradEnterIdeal.τ).loc Cert.GradEnterIdeal.main_arg0)
          ∧ r.2.mem ((c.tc : Thread Cert.GradEnterIdeal.nD Cert.GradEnterIdeal.τ).loc Cert.GradEnterIdeal.main_arg1) = m ((c.tc : Thread Cert.GradEnterIdeal.nD Cert.GradEnterIdeal.τ).loc Cert.GradEnterIdeal.main_arg1))
      ∧ θ_run (Cert.GradEnterReferenceIdeal.defs (F := Ideal)) (onTc (τ := Cert.GradEnterReferenceIdeal.τ) (Cert.GradEnterReferenceIdeal.main (F := Ideal))) ⟨m', fun _ => 0, g'⟩ (fun r => ∀ c : Dev Cert.GradEnterReferenceIdeal.nD,
          r.2.mem ((c.tc : Thread Cert.GradEnterReferenceIdeal.nD Cert.GradEnterReferenceIdeal.τ).loc Cert.GradEnterReferenceIdeal.main_v2) = v0 c
          ∧ r.2.mem ((c.tc : Thread Cert.GradEnterReferenceIdeal.nD Cert.GradEnterReferenceIdeal.τ).loc Cert.GradEnterReferenceIdeal.main_arg0) = m' ((c.tc : Thread Cert.GradEnterReferenceIdeal.nD Cert.GradEnterReferenceIdeal.τ).loc Cert.GradEnterReferenceIdeal.main_arg0)
          ∧ r.2.mem ((c.tc : Thread Cert.GradEnterReferenceIdeal.nD Cert.GradEnterReferenceIdeal.τ).loc Cert.GradEnterReferenceIdeal.main_arg1) = m' ((c.tc : Thread Cert.GradEnterReferenceIdeal.nD Cert.GradEnterReferenceIdeal.τ).loc Cert.GradEnterReferenceIdeal.main_arg1))

def preserves_PastOut_PastOutIdeal : Prop :=
  True

def algebraic_PastOutIdeal_PastOutReferenceIdeal [hPastOutIdeal : Cert.PastOutIdeal.Facts] [hPastOutReferenceIdeal : Cert.PastOutReferenceIdeal.Facts] : Prop :=
  ∀ (m : (ℓ : Loc Cert.PastOutIdeal.nD Cert.PastOutIdeal.τ Cert.PastOutIdeal.sig) → Buf (Elt Ideal) ℓ) (g : Dev Cert.PastOutIdeal.nD → PrngReg)
    (m' : (ℓ : Loc Cert.PastOutReferenceIdeal.nD Cert.PastOutReferenceIdeal.τ Cert.PastOutReferenceIdeal.sig) → Buf (Elt Ideal) ℓ) (g' : Dev Cert.PastOutReferenceIdeal.nD → PrngReg), Pre_PastOutIdeal m →
    (∀ c : Dev Cert.PastOutIdeal.nD,
      m' ((c.tc : Thread Cert.PastOutReferenceIdeal.nD Cert.PastOutReferenceIdeal.τ).loc Cert.PastOutReferenceIdeal.main_arg0) = m ((c.tc : Thread Cert.PastOutIdeal.nD Cert.PastOutIdeal.τ).loc Cert.PastOutIdeal.main_arg0)
      ∧ m' ((c.tc : Thread Cert.PastOutReferenceIdeal.nD Cert.PastOutReferenceIdeal.τ).loc Cert.PastOutReferenceIdeal.main_arg1) = m ((c.tc : Thread Cert.PastOutIdeal.nD Cert.PastOutIdeal.τ).loc Cert.PastOutIdeal.main_arg1)) →
    ∃ (v0 : (c : Dev Cert.PastOutIdeal.nD) → Buf (Elt Ideal) ((c.tc : Thread Cert.PastOutIdeal.nD Cert.PastOutIdeal.τ).loc Cert.PastOutIdeal.main_v0)),
      θ_run (Cert.PastOutIdeal.defs (F := Ideal)) (onTc (τ := Cert.PastOutIdeal.τ) (Cert.PastOutIdeal.main (F := Ideal))) ⟨m, fun _ => 0, g⟩ (fun r => ∀ c : Dev Cert.PastOutIdeal.nD,
          r.2.mem ((c.tc : Thread Cert.PastOutIdeal.nD Cert.PastOutIdeal.τ).loc Cert.PastOutIdeal.main_v0) = v0 c
          ∧ r.2.mem ((c.tc : Thread Cert.PastOutIdeal.nD Cert.PastOutIdeal.τ).loc Cert.PastOutIdeal.main_arg0) = m ((c.tc : Thread Cert.PastOutIdeal.nD Cert.PastOutIdeal.τ).loc Cert.PastOutIdeal.main_arg0)
          ∧ r.2.mem ((c.tc : Thread Cert.PastOutIdeal.nD Cert.PastOutIdeal.τ).loc Cert.PastOutIdeal.main_arg1) = m ((c.tc : Thread Cert.PastOutIdeal.nD Cert.PastOutIdeal.τ).loc Cert.PastOutIdeal.main_arg1))
      ∧ θ_run (Cert.PastOutReferenceIdeal.defs (F := Ideal)) (onTc (τ := Cert.PastOutReferenceIdeal.τ) (Cert.PastOutReferenceIdeal.main (F := Ideal))) ⟨m', fun _ => 0, g'⟩ (fun r => ∀ c : Dev Cert.PastOutReferenceIdeal.nD,
          r.2.mem ((c.tc : Thread Cert.PastOutReferenceIdeal.nD Cert.PastOutReferenceIdeal.τ).loc Cert.PastOutReferenceIdeal.main_v2) = v0 c
          ∧ r.2.mem ((c.tc : Thread Cert.PastOutReferenceIdeal.nD Cert.PastOutReferenceIdeal.τ).loc Cert.PastOutReferenceIdeal.main_arg0) = m' ((c.tc : Thread Cert.PastOutReferenceIdeal.nD Cert.PastOutReferenceIdeal.τ).loc Cert.PastOutReferenceIdeal.main_arg0)
          ∧ r.2.mem ((c.tc : Thread Cert.PastOutReferenceIdeal.nD Cert.PastOutReferenceIdeal.τ).loc Cert.PastOutReferenceIdeal.main_arg1) = m' ((c.tc : Thread Cert.PastOutReferenceIdeal.nD Cert.PastOutReferenceIdeal.τ).loc Cert.PastOutReferenceIdeal.main_arg1))

def preserves_PastSquare_PastSquareIdeal : Prop :=
  True

def algebraic_PastSquareIdeal_PastSquareReferenceIdeal [hPastSquareIdeal : Cert.PastSquareIdeal.Facts] [hPastSquareReferenceIdeal : Cert.PastSquareReferenceIdeal.Facts] : Prop :=
  ∀ (m : (ℓ : Loc Cert.PastSquareIdeal.nD Cert.PastSquareIdeal.τ Cert.PastSquareIdeal.sig) → Buf (Elt Ideal) ℓ) (g : Dev Cert.PastSquareIdeal.nD → PrngReg)
    (m' : (ℓ : Loc Cert.PastSquareReferenceIdeal.nD Cert.PastSquareReferenceIdeal.τ Cert.PastSquareReferenceIdeal.sig) → Buf (Elt Ideal) ℓ) (g' : Dev Cert.PastSquareReferenceIdeal.nD → PrngReg), Pre_PastSquareIdeal m →
    (∀ c : Dev Cert.PastSquareIdeal.nD,
      m' ((c.tc : Thread Cert.PastSquareReferenceIdeal.nD Cert.PastSquareReferenceIdeal.τ).loc Cert.PastSquareReferenceIdeal.main_arg0) = m ((c.tc : Thread Cert.PastSquareIdeal.nD Cert.PastSquareIdeal.τ).loc Cert.PastSquareIdeal.main_arg0)
      ∧ m' ((c.tc : Thread Cert.PastSquareReferenceIdeal.nD Cert.PastSquareReferenceIdeal.τ).loc Cert.PastSquareReferenceIdeal.main_arg1) = m ((c.tc : Thread Cert.PastSquareIdeal.nD Cert.PastSquareIdeal.τ).loc Cert.PastSquareIdeal.main_arg1)) →
    ∃ (v0 : (c : Dev Cert.PastSquareIdeal.nD) → Buf (Elt Ideal) ((c.tc : Thread Cert.PastSquareIdeal.nD Cert.PastSquareIdeal.τ).loc Cert.PastSquareIdeal.main_v0)),
      θ_run (Cert.PastSquareIdeal.defs (F := Ideal)) (onTc (τ := Cert.PastSquareIdeal.τ) (Cert.PastSquareIdeal.main (F := Ideal))) ⟨m, fun _ => 0, g⟩ (fun r => ∀ c : Dev Cert.PastSquareIdeal.nD,
          r.2.mem ((c.tc : Thread Cert.PastSquareIdeal.nD Cert.PastSquareIdeal.τ).loc Cert.PastSquareIdeal.main_v0) = v0 c
          ∧ r.2.mem ((c.tc : Thread Cert.PastSquareIdeal.nD Cert.PastSquareIdeal.τ).loc Cert.PastSquareIdeal.main_arg0) = m ((c.tc : Thread Cert.PastSquareIdeal.nD Cert.PastSquareIdeal.τ).loc Cert.PastSquareIdeal.main_arg0)
          ∧ r.2.mem ((c.tc : Thread Cert.PastSquareIdeal.nD Cert.PastSquareIdeal.τ).loc Cert.PastSquareIdeal.main_arg1) = m ((c.tc : Thread Cert.PastSquareIdeal.nD Cert.PastSquareIdeal.τ).loc Cert.PastSquareIdeal.main_arg1))
      ∧ θ_run (Cert.PastSquareReferenceIdeal.defs (F := Ideal)) (onTc (τ := Cert.PastSquareReferenceIdeal.τ) (Cert.PastSquareReferenceIdeal.main (F := Ideal))) ⟨m', fun _ => 0, g'⟩ (fun r => ∀ c : Dev Cert.PastSquareReferenceIdeal.nD,
          r.2.mem ((c.tc : Thread Cert.PastSquareReferenceIdeal.nD Cert.PastSquareReferenceIdeal.τ).loc Cert.PastSquareReferenceIdeal.main_v2) = v0 c
          ∧ r.2.mem ((c.tc : Thread Cert.PastSquareReferenceIdeal.nD Cert.PastSquareReferenceIdeal.τ).loc Cert.PastSquareReferenceIdeal.main_arg0) = m' ((c.tc : Thread Cert.PastSquareReferenceIdeal.nD Cert.PastSquareReferenceIdeal.τ).loc Cert.PastSquareReferenceIdeal.main_arg0)
          ∧ r.2.mem ((c.tc : Thread Cert.PastSquareReferenceIdeal.nD Cert.PastSquareReferenceIdeal.τ).loc Cert.PastSquareReferenceIdeal.main_arg1) = m' ((c.tc : Thread Cert.PastSquareReferenceIdeal.nD Cert.PastSquareReferenceIdeal.τ).loc Cert.PastSquareReferenceIdeal.main_arg1))

def preserves_PastKeys_PastKeysIdeal : Prop :=
  True

def algebraic_PastKeysIdeal_PastKeysReferenceIdeal [hPastKeysIdeal : Cert.PastKeysIdeal.Facts] [hPastKeysReferenceIdeal : Cert.PastKeysReferenceIdeal.Facts] : Prop :=
  ∀ (m : (ℓ : Loc Cert.PastKeysIdeal.nD Cert.PastKeysIdeal.τ Cert.PastKeysIdeal.sig) → Buf (Elt Ideal) ℓ) (g : Dev Cert.PastKeysIdeal.nD → PrngReg)
    (m' : (ℓ : Loc Cert.PastKeysReferenceIdeal.nD Cert.PastKeysReferenceIdeal.τ Cert.PastKeysReferenceIdeal.sig) → Buf (Elt Ideal) ℓ) (g' : Dev Cert.PastKeysReferenceIdeal.nD → PrngReg), Pre_PastKeysIdeal m →
    (∀ c : Dev Cert.PastKeysIdeal.nD,
      m' ((c.tc : Thread Cert.PastKeysReferenceIdeal.nD Cert.PastKeysReferenceIdeal.τ).loc Cert.PastKeysReferenceIdeal.main_arg0) = m ((c.tc : Thread Cert.PastKeysIdeal.nD Cert.PastKeysIdeal.τ).loc Cert.PastKeysIdeal.main_arg0)
      ∧ m' ((c.tc : Thread Cert.PastKeysReferenceIdeal.nD Cert.PastKeysReferenceIdeal.τ).loc Cert.PastKeysReferenceIdeal.main_arg1) = m ((c.tc : Thread Cert.PastKeysIdeal.nD Cert.PastKeysIdeal.τ).loc Cert.PastKeysIdeal.main_arg1)) →
    ∃ (v0 : (c : Dev Cert.PastKeysIdeal.nD) → Buf (Elt Ideal) ((c.tc : Thread Cert.PastKeysIdeal.nD Cert.PastKeysIdeal.τ).loc Cert.PastKeysIdeal.main_v0)),
      θ_run (Cert.PastKeysIdeal.defs (F := Ideal)) (onTc (τ := Cert.PastKeysIdeal.τ) (Cert.PastKeysIdeal.main (F := Ideal))) ⟨m, fun _ => 0, g⟩ (fun r => ∀ c : Dev Cert.PastKeysIdeal.nD,
          r.2.mem ((c.tc : Thread Cert.PastKeysIdeal.nD Cert.PastKeysIdeal.τ).loc Cert.PastKeysIdeal.main_v0) = v0 c
          ∧ r.2.mem ((c.tc : Thread Cert.PastKeysIdeal.nD Cert.PastKeysIdeal.τ).loc Cert.PastKeysIdeal.main_arg0) = m ((c.tc : Thread Cert.PastKeysIdeal.nD Cert.PastKeysIdeal.τ).loc Cert.PastKeysIdeal.main_arg0)
          ∧ r.2.mem ((c.tc : Thread Cert.PastKeysIdeal.nD Cert.PastKeysIdeal.τ).loc Cert.PastKeysIdeal.main_arg1) = m ((c.tc : Thread Cert.PastKeysIdeal.nD Cert.PastKeysIdeal.τ).loc Cert.PastKeysIdeal.main_arg1))
      ∧ θ_run (Cert.PastKeysReferenceIdeal.defs (F := Ideal)) (onTc (τ := Cert.PastKeysReferenceIdeal.τ) (Cert.PastKeysReferenceIdeal.main (F := Ideal))) ⟨m', fun _ => 0, g'⟩ (fun r => ∀ c : Dev Cert.PastKeysReferenceIdeal.nD,
          r.2.mem ((c.tc : Thread Cert.PastKeysReferenceIdeal.nD Cert.PastKeysReferenceIdeal.τ).loc Cert.PastKeysReferenceIdeal.main_v2) = v0 c
          ∧ r.2.mem ((c.tc : Thread Cert.PastKeysReferenceIdeal.nD Cert.PastKeysReferenceIdeal.τ).loc Cert.PastKeysReferenceIdeal.main_arg0) = m' ((c.tc : Thread Cert.PastKeysReferenceIdeal.nD Cert.PastKeysReferenceIdeal.τ).loc Cert.PastKeysReferenceIdeal.main_arg0)
          ∧ r.2.mem ((c.tc : Thread Cert.PastKeysReferenceIdeal.nD Cert.PastKeysReferenceIdeal.τ).loc Cert.PastKeysReferenceIdeal.main_arg1) = m' ((c.tc : Thread Cert.PastKeysReferenceIdeal.nD Cert.PastKeysReferenceIdeal.τ).loc Cert.PastKeysReferenceIdeal.main_arg1))

def preserves_PastBranch_PastBranchIdeal : Prop :=
  True

def algebraic_PastBranchIdeal_PastBranchReferenceIdeal [hPastBranchIdeal : Cert.PastBranchIdeal.Facts] [hPastBranchReferenceIdeal : Cert.PastBranchReferenceIdeal.Facts] : Prop :=
  ∀ (m : (ℓ : Loc Cert.PastBranchIdeal.nD Cert.PastBranchIdeal.τ Cert.PastBranchIdeal.sig) → Buf (Elt Ideal) ℓ) (g : Dev Cert.PastBranchIdeal.nD → PrngReg)
    (m' : (ℓ : Loc Cert.PastBranchReferenceIdeal.nD Cert.PastBranchReferenceIdeal.τ Cert.PastBranchReferenceIdeal.sig) → Buf (Elt Ideal) ℓ) (g' : Dev Cert.PastBranchReferenceIdeal.nD → PrngReg), Pre_PastBranchIdeal m →
    (∀ c : Dev Cert.PastBranchIdeal.nD,
      m' ((c.tc : Thread Cert.PastBranchReferenceIdeal.nD Cert.PastBranchReferenceIdeal.τ).loc Cert.PastBranchReferenceIdeal.main_arg0) = m ((c.tc : Thread Cert.PastBranchIdeal.nD Cert.PastBranchIdeal.τ).loc Cert.PastBranchIdeal.main_arg0)
      ∧ m' ((c.tc : Thread Cert.PastBranchReferenceIdeal.nD Cert.PastBranchReferenceIdeal.τ).loc Cert.PastBranchReferenceIdeal.main_arg1) = m ((c.tc : Thread Cert.PastBranchIdeal.nD Cert.PastBranchIdeal.τ).loc Cert.PastBranchIdeal.main_arg1)) →
    ∃ (v0 : (c : Dev Cert.PastBranchIdeal.nD) → Buf (Elt Ideal) ((c.tc : Thread Cert.PastBranchIdeal.nD Cert.PastBranchIdeal.τ).loc Cert.PastBranchIdeal.main_v0)),
      θ_run (Cert.PastBranchIdeal.defs (F := Ideal)) (onTc (τ := Cert.PastBranchIdeal.τ) (Cert.PastBranchIdeal.main (F := Ideal))) ⟨m, fun _ => 0, g⟩ (fun r => ∀ c : Dev Cert.PastBranchIdeal.nD,
          r.2.mem ((c.tc : Thread Cert.PastBranchIdeal.nD Cert.PastBranchIdeal.τ).loc Cert.PastBranchIdeal.main_v0) = v0 c
          ∧ r.2.mem ((c.tc : Thread Cert.PastBranchIdeal.nD Cert.PastBranchIdeal.τ).loc Cert.PastBranchIdeal.main_arg0) = m ((c.tc : Thread Cert.PastBranchIdeal.nD Cert.PastBranchIdeal.τ).loc Cert.PastBranchIdeal.main_arg0)
          ∧ r.2.mem ((c.tc : Thread Cert.PastBranchIdeal.nD Cert.PastBranchIdeal.τ).loc Cert.PastBranchIdeal.main_arg1) = m ((c.tc : Thread Cert.PastBranchIdeal.nD Cert.PastBranchIdeal.τ).loc Cert.PastBranchIdeal.main_arg1))
      ∧ θ_run (Cert.PastBranchReferenceIdeal.defs (F := Ideal)) (onTc (τ := Cert.PastBranchReferenceIdeal.τ) (Cert.PastBranchReferenceIdeal.main (F := Ideal))) ⟨m', fun _ => 0, g'⟩ (fun r => ∀ c : Dev Cert.PastBranchReferenceIdeal.nD,
          r.2.mem ((c.tc : Thread Cert.PastBranchReferenceIdeal.nD Cert.PastBranchReferenceIdeal.τ).loc Cert.PastBranchReferenceIdeal.main_v2) = v0 c
          ∧ r.2.mem ((c.tc : Thread Cert.PastBranchReferenceIdeal.nD Cert.PastBranchReferenceIdeal.τ).loc Cert.PastBranchReferenceIdeal.main_arg0) = m' ((c.tc : Thread Cert.PastBranchReferenceIdeal.nD Cert.PastBranchReferenceIdeal.τ).loc Cert.PastBranchReferenceIdeal.main_arg0)
          ∧ r.2.mem ((c.tc : Thread Cert.PastBranchReferenceIdeal.nD Cert.PastBranchReferenceIdeal.τ).loc Cert.PastBranchReferenceIdeal.main_arg1) = m' ((c.tc : Thread Cert.PastBranchReferenceIdeal.nD Cert.PastBranchReferenceIdeal.τ).loc Cert.PastBranchReferenceIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hFew : Cert.Few.Facts) (hFewIdeal : Cert.FewIdeal.Facts) (hFewReferenceIdeal : Cert.FewReferenceIdeal.Facts) (hFewReference : Cert.FewReference.Facts) (hSmall : Cert.Small.Facts) (hSmallIdeal : Cert.SmallIdeal.Facts) (hSmallReferenceIdeal : Cert.SmallReferenceIdeal.Facts) (hUpdate : Cert.Update.Facts) (hUpdateIdeal : Cert.UpdateIdeal.Facts) (hUpdateReferenceIdeal : Cert.UpdateReferenceIdeal.Facts) (hLoss : Cert.Loss.Facts) (hLossIdeal : Cert.LossIdeal.Facts) (hLossReferenceIdeal : Cert.LossReferenceIdeal.Facts) (hBack : Cert.Back.Facts) (hBackIdeal : Cert.BackIdeal.Facts) (hBackReferenceIdeal : Cert.BackReferenceIdeal.Facts) (hAttend : Cert.Attend.Facts) (hAttendIdeal : Cert.AttendIdeal.Facts) (hAttendReferenceIdeal : Cert.AttendReferenceIdeal.Facts) (hSgu : Cert.Sgu.Facts) (hSguIdeal : Cert.SguIdeal.Facts) (hSguReferenceIdeal : Cert.SguReferenceIdeal.Facts) (hMerge : Cert.Merge.Facts) (hMergeIdeal : Cert.MergeIdeal.Facts) (hMergeReferenceIdeal : Cert.MergeReferenceIdeal.Facts) (hNorm : Cert.Norm.Facts) (hNormIdeal : Cert.NormIdeal.Facts) (hNormReferenceIdeal : Cert.NormReferenceIdeal.Facts) (hGlu : Cert.Glu.Facts) (hGluIdeal : Cert.GluIdeal.Facts) (hGluReferenceIdeal : Cert.GluReferenceIdeal.Facts) (hEnter : Cert.Enter.Facts) (hEnterIdeal : Cert.EnterIdeal.Facts) (hEnterReferenceIdeal : Cert.EnterReferenceIdeal.Facts) (hMemory : Cert.Memory.Facts) (hMemoryIdeal : Cert.MemoryIdeal.Facts) (hMemoryReferenceIdeal : Cert.MemoryReferenceIdeal.Facts) (hConv : Cert.Conv.Facts) (hConvIdeal : Cert.ConvIdeal.Facts) (hConvReferenceIdeal : Cert.ConvReferenceIdeal.Facts) (hSquare : Cert.Square.Facts) (hSquareIdeal : Cert.SquareIdeal.Facts) (hSquareReferenceIdeal : Cert.SquareReferenceIdeal.Facts) (hQuery : Cert.Query.Facts) (hQueryIdeal : Cert.QueryIdeal.Facts) (hQueryReferenceIdeal : Cert.QueryReferenceIdeal.Facts) (hBranch : Cert.Branch.Facts) (hBranchIdeal : Cert.BranchIdeal.Facts) (hBranchReferenceIdeal : Cert.BranchReferenceIdeal.Facts) (hKeys : Cert.Keys.Facts) (hKeysIdeal : Cert.KeysIdeal.Facts) (hKeysReferenceIdeal : Cert.KeysReferenceIdeal.Facts) (hWiden : Cert.Widen.Facts) (hWidenIdeal : Cert.WidenIdeal.Facts) (hWidenReferenceIdeal : Cert.WidenReferenceIdeal.Facts) (hNarrow : Cert.Narrow.Facts) (hNarrowIdeal : Cert.NarrowIdeal.Facts) (hNarrowReferenceIdeal : Cert.NarrowReferenceIdeal.Facts) (hGradOut : Cert.GradOut.Facts) (hGradOutIdeal : Cert.GradOutIdeal.Facts) (hGradOutReferenceIdeal : Cert.GradOutReferenceIdeal.Facts) (hGradIn : Cert.GradIn.Facts) (hGradInIdeal : Cert.GradInIdeal.Facts) (hGradInReferenceIdeal : Cert.GradInReferenceIdeal.Facts) (hGradSquare : Cert.GradSquare.Facts) (hGradSquareIdeal : Cert.GradSquareIdeal.Facts) (hGradSquareReferenceIdeal : Cert.GradSquareReferenceIdeal.Facts) (hGradQuery : Cert.GradQuery.Facts) (hGradQueryIdeal : Cert.GradQueryIdeal.Facts) (hGradQueryReferenceIdeal : Cert.GradQueryReferenceIdeal.Facts) (hGradKeys : Cert.GradKeys.Facts) (hGradKeysIdeal : Cert.GradKeysIdeal.Facts) (hGradKeysReferenceIdeal : Cert.GradKeysReferenceIdeal.Facts) (hGradBranch : Cert.GradBranch.Facts) (hGradBranchIdeal : Cert.GradBranchIdeal.Facts) (hGradBranchReferenceIdeal : Cert.GradBranchReferenceIdeal.Facts) (hGradEnter : Cert.GradEnter.Facts) (hGradEnterIdeal : Cert.GradEnterIdeal.Facts) (hGradEnterReferenceIdeal : Cert.GradEnterReferenceIdeal.Facts) (hPastOut : Cert.PastOut.Facts) (hPastOutIdeal : Cert.PastOutIdeal.Facts) (hPastOutReferenceIdeal : Cert.PastOutReferenceIdeal.Facts) (hPastSquare : Cert.PastSquare.Facts) (hPastSquareIdeal : Cert.PastSquareIdeal.Facts) (hPastSquareReferenceIdeal : Cert.PastSquareReferenceIdeal.Facts) (hPastKeys : Cert.PastKeys.Facts) (hPastKeysIdeal : Cert.PastKeysIdeal.Facts) (hPastKeysReferenceIdeal : Cert.PastKeysReferenceIdeal.Facts) (hPastBranch : Cert.PastBranch.Facts) (hPastBranchIdeal : Cert.PastBranchIdeal.Facts) (hPastBranchReferenceIdeal : Cert.PastBranchReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Few (hFew := hFew)
    ∧ quiescent_FewIdeal (hFewIdeal := hFewIdeal)
    ∧ quiescent_FewReferenceIdeal (hFewReferenceIdeal := hFewReferenceIdeal)
    ∧ quiescent_FewReference (hFewReference := hFewReference)
    ∧ quiescent_Small (hSmall := hSmall)
    ∧ quiescent_SmallIdeal (hSmallIdeal := hSmallIdeal)
    ∧ quiescent_SmallReferenceIdeal (hSmallReferenceIdeal := hSmallReferenceIdeal)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Back (hBack := hBack)
    ∧ quiescent_BackIdeal (hBackIdeal := hBackIdeal)
    ∧ quiescent_BackReferenceIdeal (hBackReferenceIdeal := hBackReferenceIdeal)
    ∧ quiescent_Attend (hAttend := hAttend)
    ∧ quiescent_AttendIdeal (hAttendIdeal := hAttendIdeal)
    ∧ quiescent_AttendReferenceIdeal (hAttendReferenceIdeal := hAttendReferenceIdeal)
    ∧ quiescent_Sgu (hSgu := hSgu)
    ∧ quiescent_SguIdeal (hSguIdeal := hSguIdeal)
    ∧ quiescent_SguReferenceIdeal (hSguReferenceIdeal := hSguReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Enter (hEnter := hEnter)
    ∧ quiescent_EnterIdeal (hEnterIdeal := hEnterIdeal)
    ∧ quiescent_EnterReferenceIdeal (hEnterReferenceIdeal := hEnterReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Widen (hWiden := hWiden)
    ∧ quiescent_WidenIdeal (hWidenIdeal := hWidenIdeal)
    ∧ quiescent_WidenReferenceIdeal (hWidenReferenceIdeal := hWidenReferenceIdeal)
    ∧ quiescent_Narrow (hNarrow := hNarrow)
    ∧ quiescent_NarrowIdeal (hNarrowIdeal := hNarrowIdeal)
    ∧ quiescent_NarrowReferenceIdeal (hNarrowReferenceIdeal := hNarrowReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradSquare (hGradSquare := hGradSquare)
    ∧ quiescent_GradSquareIdeal (hGradSquareIdeal := hGradSquareIdeal)
    ∧ quiescent_GradSquareReferenceIdeal (hGradSquareReferenceIdeal := hGradSquareReferenceIdeal)
    ∧ quiescent_GradQuery (hGradQuery := hGradQuery)
    ∧ quiescent_GradQueryIdeal (hGradQueryIdeal := hGradQueryIdeal)
    ∧ quiescent_GradQueryReferenceIdeal (hGradQueryReferenceIdeal := hGradQueryReferenceIdeal)
    ∧ quiescent_GradKeys (hGradKeys := hGradKeys)
    ∧ quiescent_GradKeysIdeal (hGradKeysIdeal := hGradKeysIdeal)
    ∧ quiescent_GradKeysReferenceIdeal (hGradKeysReferenceIdeal := hGradKeysReferenceIdeal)
    ∧ quiescent_GradBranch (hGradBranch := hGradBranch)
    ∧ quiescent_GradBranchIdeal (hGradBranchIdeal := hGradBranchIdeal)
    ∧ quiescent_GradBranchReferenceIdeal (hGradBranchReferenceIdeal := hGradBranchReferenceIdeal)
    ∧ quiescent_GradEnter (hGradEnter := hGradEnter)
    ∧ quiescent_GradEnterIdeal (hGradEnterIdeal := hGradEnterIdeal)
    ∧ quiescent_GradEnterReferenceIdeal (hGradEnterReferenceIdeal := hGradEnterReferenceIdeal)
    ∧ quiescent_PastOut (hPastOut := hPastOut)
    ∧ quiescent_PastOutIdeal (hPastOutIdeal := hPastOutIdeal)
    ∧ quiescent_PastOutReferenceIdeal (hPastOutReferenceIdeal := hPastOutReferenceIdeal)
    ∧ quiescent_PastSquare (hPastSquare := hPastSquare)
    ∧ quiescent_PastSquareIdeal (hPastSquareIdeal := hPastSquareIdeal)
    ∧ quiescent_PastSquareReferenceIdeal (hPastSquareReferenceIdeal := hPastSquareReferenceIdeal)
    ∧ quiescent_PastKeys (hPastKeys := hPastKeys)
    ∧ quiescent_PastKeysIdeal (hPastKeysIdeal := hPastKeysIdeal)
    ∧ quiescent_PastKeysReferenceIdeal (hPastKeysReferenceIdeal := hPastKeysReferenceIdeal)
    ∧ quiescent_PastBranch (hPastBranch := hPastBranch)
    ∧ quiescent_PastBranchIdeal (hPastBranchIdeal := hPastBranchIdeal)
    ∧ quiescent_PastBranchReferenceIdeal (hPastBranchReferenceIdeal := hPastBranchReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Few_FewIdeal
    ∧ algebraic_FewIdeal_FewReferenceIdeal (hFewIdeal := hFewIdeal) (hFewReferenceIdeal := hFewReferenceIdeal)
    ∧ bitexact_Few_FewReference (hFew := hFew) (hFewReference := hFewReference)
    ∧ preserves_Small_SmallIdeal
    ∧ algebraic_SmallIdeal_SmallReferenceIdeal (hSmallIdeal := hSmallIdeal) (hSmallReferenceIdeal := hSmallReferenceIdeal)
    ∧ preserves_Update_UpdateIdeal
    ∧ algebraic_UpdateIdeal_UpdateReferenceIdeal (hUpdateIdeal := hUpdateIdeal) (hUpdateReferenceIdeal := hUpdateReferenceIdeal)
    ∧ preserves_Loss_LossIdeal
    ∧ algebraic_LossIdeal_LossReferenceIdeal (hLossIdeal := hLossIdeal) (hLossReferenceIdeal := hLossReferenceIdeal)
    ∧ preserves_Back_BackIdeal
    ∧ algebraic_BackIdeal_BackReferenceIdeal (hBackIdeal := hBackIdeal) (hBackReferenceIdeal := hBackReferenceIdeal)
    ∧ preserves_Attend_AttendIdeal
    ∧ algebraic_AttendIdeal_AttendReferenceIdeal (hAttendIdeal := hAttendIdeal) (hAttendReferenceIdeal := hAttendReferenceIdeal)
    ∧ preserves_Sgu_SguIdeal
    ∧ algebraic_SguIdeal_SguReferenceIdeal (hSguIdeal := hSguIdeal) (hSguReferenceIdeal := hSguReferenceIdeal)
    ∧ preserves_Merge_MergeIdeal
    ∧ algebraic_MergeIdeal_MergeReferenceIdeal (hMergeIdeal := hMergeIdeal) (hMergeReferenceIdeal := hMergeReferenceIdeal)
    ∧ preserves_Norm_NormIdeal
    ∧ algebraic_NormIdeal_NormReferenceIdeal (hNormIdeal := hNormIdeal) (hNormReferenceIdeal := hNormReferenceIdeal)
    ∧ preserves_Glu_GluIdeal
    ∧ algebraic_GluIdeal_GluReferenceIdeal (hGluIdeal := hGluIdeal) (hGluReferenceIdeal := hGluReferenceIdeal)
    ∧ preserves_Enter_EnterIdeal
    ∧ algebraic_EnterIdeal_EnterReferenceIdeal (hEnterIdeal := hEnterIdeal) (hEnterReferenceIdeal := hEnterReferenceIdeal)
    ∧ preserves_Memory_MemoryIdeal
    ∧ algebraic_MemoryIdeal_MemoryReferenceIdeal (hMemoryIdeal := hMemoryIdeal) (hMemoryReferenceIdeal := hMemoryReferenceIdeal)
    ∧ preserves_Conv_ConvIdeal
    ∧ algebraic_ConvIdeal_ConvReferenceIdeal (hConvIdeal := hConvIdeal) (hConvReferenceIdeal := hConvReferenceIdeal)
    ∧ preserves_Square_SquareIdeal
    ∧ algebraic_SquareIdeal_SquareReferenceIdeal (hSquareIdeal := hSquareIdeal) (hSquareReferenceIdeal := hSquareReferenceIdeal)
    ∧ preserves_Query_QueryIdeal
    ∧ algebraic_QueryIdeal_QueryReferenceIdeal (hQueryIdeal := hQueryIdeal) (hQueryReferenceIdeal := hQueryReferenceIdeal)
    ∧ preserves_Branch_BranchIdeal
    ∧ algebraic_BranchIdeal_BranchReferenceIdeal (hBranchIdeal := hBranchIdeal) (hBranchReferenceIdeal := hBranchReferenceIdeal)
    ∧ preserves_Keys_KeysIdeal
    ∧ algebraic_KeysIdeal_KeysReferenceIdeal (hKeysIdeal := hKeysIdeal) (hKeysReferenceIdeal := hKeysReferenceIdeal)
    ∧ preserves_Widen_WidenIdeal
    ∧ algebraic_WidenIdeal_WidenReferenceIdeal (hWidenIdeal := hWidenIdeal) (hWidenReferenceIdeal := hWidenReferenceIdeal)
    ∧ preserves_Narrow_NarrowIdeal
    ∧ algebraic_NarrowIdeal_NarrowReferenceIdeal (hNarrowIdeal := hNarrowIdeal) (hNarrowReferenceIdeal := hNarrowReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradIn_GradInIdeal
    ∧ algebraic_GradInIdeal_GradInReferenceIdeal (hGradInIdeal := hGradInIdeal) (hGradInReferenceIdeal := hGradInReferenceIdeal)
    ∧ preserves_GradSquare_GradSquareIdeal
    ∧ algebraic_GradSquareIdeal_GradSquareReferenceIdeal (hGradSquareIdeal := hGradSquareIdeal) (hGradSquareReferenceIdeal := hGradSquareReferenceIdeal)
    ∧ preserves_GradQuery_GradQueryIdeal
    ∧ algebraic_GradQueryIdeal_GradQueryReferenceIdeal (hGradQueryIdeal := hGradQueryIdeal) (hGradQueryReferenceIdeal := hGradQueryReferenceIdeal)
    ∧ preserves_GradKeys_GradKeysIdeal
    ∧ algebraic_GradKeysIdeal_GradKeysReferenceIdeal (hGradKeysIdeal := hGradKeysIdeal) (hGradKeysReferenceIdeal := hGradKeysReferenceIdeal)
    ∧ preserves_GradBranch_GradBranchIdeal
    ∧ algebraic_GradBranchIdeal_GradBranchReferenceIdeal (hGradBranchIdeal := hGradBranchIdeal) (hGradBranchReferenceIdeal := hGradBranchReferenceIdeal)
    ∧ preserves_GradEnter_GradEnterIdeal
    ∧ algebraic_GradEnterIdeal_GradEnterReferenceIdeal (hGradEnterIdeal := hGradEnterIdeal) (hGradEnterReferenceIdeal := hGradEnterReferenceIdeal)
    ∧ preserves_PastOut_PastOutIdeal
    ∧ algebraic_PastOutIdeal_PastOutReferenceIdeal (hPastOutIdeal := hPastOutIdeal) (hPastOutReferenceIdeal := hPastOutReferenceIdeal)
    ∧ preserves_PastSquare_PastSquareIdeal
    ∧ algebraic_PastSquareIdeal_PastSquareReferenceIdeal (hPastSquareIdeal := hPastSquareIdeal) (hPastSquareReferenceIdeal := hPastSquareReferenceIdeal)
    ∧ preserves_PastKeys_PastKeysIdeal
    ∧ algebraic_PastKeysIdeal_PastKeysReferenceIdeal (hPastKeysIdeal := hPastKeysIdeal) (hPastKeysReferenceIdeal := hPastKeysReferenceIdeal)
    ∧ preserves_PastBranch_PastBranchIdeal
    ∧ algebraic_PastBranchIdeal_PastBranchReferenceIdeal (hPastBranchIdeal := hPastBranchIdeal) (hPastBranchReferenceIdeal := hPastBranchReferenceIdeal)
-- ==== Kernel.lean ====
abbrev S8x6656x1024 : Shape := ⟨3, ![8, 6656, 1024]⟩
abbrev S6656x1024 : Shape := ⟨2, ![6656, 1024]⟩
abbrev S7 : Shape := ⟨1, ![7]⟩
abbrev S_ : Shape := ⟨0, ![]⟩
abbrev S1x6656x1024 : Shape := ⟨3, ![1, 6656, 1024]⟩
abbrev S1 : Shape := ⟨1, ![1]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x6656x1024, .bf16⟩
  | .hbm, ⟨1, _⟩ => ⟨S6656x1024, .f32⟩
  | .hbm, ⟨2, _⟩ => ⟨S6656x1024, .f32⟩
  | .hbm, ⟨3, _⟩ => ⟨S6656x1024, .f32⟩
  | .hbm, ⟨4, _⟩ => ⟨S8x6656x1024, .bf16⟩
  | .hbm, ⟨5, _⟩ => ⟨S6656x1024, .f32⟩
  | .hbm, ⟨6, _⟩ => ⟨S6656x1024, .f32⟩
  | .hbm, ⟨7, _⟩ => ⟨S6656x1024, .f32⟩
  | .hbm, ⟨8, _⟩ => ⟨S6656x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x6656x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
abbrev grid1 : Pipeline.Grid := ⟨1, ![26], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x6656x1024 : Shape := ⟨3, ![64, 6656, 1024]⟩
abbrev S53248x1024 : Shape := ⟨2, ![53248, 1024]⟩
abbrev S8x53248x1024 : Shape := ⟨3, ![8, 53248, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S64x6656x1024, .bf16⟩
  | .hbm, ⟨1, _⟩ => ⟨S53248x1024, .f32⟩
  | .hbm, ⟨2, _⟩ => ⟨S53248x1024, .f32⟩
  | .hbm, ⟨3, _⟩ => ⟨S53248x1024, .f32⟩
  | .hbm, ⟨4, _⟩ => ⟨S8x53248x1024, .bf16⟩
  | .hbm, ⟨5, _⟩ => ⟨S8x53248x1024, .f32⟩
  | .hbm, ⟨6, _⟩ => ⟨S_, .f32⟩
  | .hbm, ⟨7, _⟩ => ⟨S53248x1024, .f32⟩
  | .hbm, ⟨8, _⟩ => ⟨S_, .f32⟩
  | .hbm, ⟨9, _⟩ => ⟨S53248x1024, .f32⟩
  | .hbm, ⟨10, _⟩ => ⟨S53248x1024, .f32⟩
  | .hbm, ⟨11, _⟩ => ⟨S_, .f32⟩
  | .hbm, ⟨12, _⟩ => ⟨S53248x1024, .f32⟩
  | .hbm, ⟨13, _⟩ => ⟨S53248x1024, .f32⟩
  | .hbm, ⟨14, _⟩ => ⟨S53248x1024, .f32⟩
  | .hbm, ⟨15, _⟩ => ⟨S_, .f32⟩
  | .hbm, ⟨16, _⟩ => ⟨S53248x1024, .f32⟩
  | .hbm, ⟨17, _⟩ => ⟨S53248x1024, .f32⟩
  | .hbm, ⟨18, _⟩ => ⟨S53248x1024, .f32⟩
  | .hbm, ⟨19, _⟩ => ⟨S_, .f32⟩
  | .hbm, ⟨20, _⟩ => ⟨S53248x1024, .f32⟩
  | .hbm, ⟨21, _⟩ => ⟨S53248x1024, .f32⟩
  | .hbm, ⟨22, _⟩ => ⟨S53248x1024, .f32⟩
  | .hbm, ⟨23, _⟩ => ⟨S_, .f32⟩
  | .hbm, ⟨24, _⟩ => ⟨S53248x1024, .f32⟩
  | .hbm, ⟨25, _⟩ => ⟨S53248x1024, .f32⟩
  | .hbm, ⟨26, _⟩ => ⟨S_, .f32⟩
  | .hbm, ⟨27, _⟩ => ⟨S53248x1024, .f32⟩
  | .hbm, ⟨28, _⟩ => ⟨S53248x1024, .f32⟩
  | .hbm, ⟨29, _⟩ => ⟨S53248x1024, .f32⟩
  | .hbm, ⟨30, _⟩ => ⟨S_, .f32⟩
  | .hbm, ⟨31, _⟩ => ⟨S53248x1024, .f32⟩
  | .hbm, ⟨32, _⟩ => ⟨S53248x1024, .f32⟩
  | .hbm, ⟨33, _⟩ => ⟨S53248x1024, .f32⟩
  | .hbm, ⟨34, _⟩ => ⟨S_, .f32⟩
  | .hbm, ⟨35, _⟩ => ⟨S53248x1024, .f32⟩
  | .hbm, ⟨36, _⟩ => ⟨S53248x1024, .f32⟩
  | .hbm, ⟨37, _⟩ => ⟨S53248x1024, .f32⟩
  | .hbm, ⟨38, _⟩ => ⟨S_, .f32⟩
  | .hbm, ⟨39, _⟩ => ⟨S53248x1024, .f32⟩
  | .hbm, ⟨40, _⟩ => ⟨S53248x1024, .f32⟩
  | _, _ => ⟨S64x6656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Gather.lean ====
abbrev S6656x1024 : Shape := ⟨2, ![6656, 1024]⟩
abbrev S8x6656x1024 : Shape := ⟨3, ![8, 6656, 1024]⟩
abbrev S7 : Shape := ⟨1, ![7]⟩
abbrev S_ : Shape := ⟨0, ![]⟩
abbrev S1x6656x1024 : Shape := ⟨3, ![1, 6656, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S6656x1024, .bf16⟩
  | .hbm, ⟨1, _⟩ => ⟨S8x6656x1024, .bf16⟩
  | _, _ => ⟨S6656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherReference.lean ====
abbrev S53248x1024 : Shape := ⟨2, ![53248, 1024]⟩
abbrev S8x6656x1024 : Shape := ⟨3, ![8, 6656, 1024]⟩

abbrev nBuf : Space → Nat
  | .hbm => 2
  | .vmem => 0
  | .smem => 0
  | _ => 0

abbrev bufTy : (tb : Table) → Fin (tcTables nBuf tb) → BufTy
  | .hbm, ⟨0, _⟩ => ⟨S53248x1024, .bf16⟩
  | .hbm, ⟨1, _⟩ => ⟨S8x6656x1024, .bf16⟩
  | _, _ => ⟨S53248x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Few.lean ====
abbrev S256x128 : Shape := ⟨2, ![256, 128]⟩
abbrev S8x256x128 : Shape := ⟨3, ![8, 256, 128]⟩
abbrev S7 : Shape := ⟨1, ![7]⟩
abbrev S_ : Shape := ⟨0, ![]⟩
abbrev S1x256x128 : Shape := ⟨3, ![1, 256, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S8x256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== FewReference.lean ====
abbrev S2048x128 : Shape := ⟨2, ![2048, 128]⟩
abbrev S8x256x128 : Shape := ⟨3, ![8, 256, 128]⟩

abbrev nBuf : Space → Nat
  | .hbm => 2
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S8x256x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S2560x128 : Shape := ⟨2, ![2560, 128]⟩
abbrev S8x2560x128 : Shape := ⟨3, ![8, 2560, 128]⟩
abbrev S7 : Shape := ⟨1, ![7]⟩
abbrev S_ : Shape := ⟨0, ![]⟩
abbrev S1x2560x128 : Shape := ⟨3, ![1, 2560, 128]⟩
abbrev S1 : Shape := ⟨1, ![1]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S2560x128, .f32⟩
  | .hbm, ⟨1, _⟩ => ⟨S8x2560x128, .f32⟩
  | .hbm, ⟨2, _⟩ => ⟨S2560x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SmallReferenceIdeal.lean ====
abbrev S20480x128 : Shape := ⟨2, ![20480, 128]⟩
abbrev S8x2560x128 : Shape := ⟨3, ![8, 2560, 128]⟩
abbrev S_ : Shape := ⟨0, ![]⟩
abbrev S2560x128 : Shape := ⟨2, ![2560, 128]⟩

abbrev nBuf : Space → Nat
  | .hbm => 4
  | .vmem => 0
  | .smem => 0
  | _ => 0

abbrev bufTy : (tb : Table) → Fin (tcTables nBuf tb) → BufTy
  | .hbm, ⟨0, _⟩ => ⟨S20480x128, .f32⟩
  | .hbm, ⟨1, _⟩ => ⟨S8x2560x128, .f32⟩
  | .hbm, ⟨2, _⟩ => ⟨S_, .f32⟩
  | .hbm, ⟨3, _⟩ => ⟨S2560x128, .f32⟩
  | _, _ => ⟨S20480x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Update.lean ====
abbrev S2304x128 : Shape := ⟨2, ![2304, 128]⟩
abbrev S1x2304x128 : Shape := ⟨3, ![1, 2304, 128]⟩
abbrev S1x256x128 : Shape := ⟨3, ![1, 256, 128]⟩
abbrev S256x128 : Shape := ⟨2, ![256, 128]⟩

abbrev nBuf : Space → Nat
  | .hbm => 9
  | .vmem => 16
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S1x2304x128, .f32⟩
  | .hbm, ⟨5, _⟩ => ⟨S2304x128, .f32⟩
  | .hbm, ⟨6, _⟩ => ⟨S2304x128, .f32⟩
  | .hbm, ⟨7, _⟩ => ⟨S2304x128, .f32⟩
  | .hbm, ⟨8, _⟩ => ⟨S2304x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateReferenceIdeal.lean ====
abbrev S2304x128 : Shape := ⟨2, ![2304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S2304x128, .f32⟩
  | .hbm, ⟨7, _⟩ => ⟨S_, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S_, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S_, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S_, .f32⟩
  | .hbm, ⟨20, _⟩ => ⟨S2304x128, .f32⟩
  | .hbm, ⟨21, _⟩ => ⟨S2304x128, .f32⟩
  | .hbm, ⟨22, _⟩ => ⟨S_, .f32⟩
  | .hbm, ⟨23, _⟩ => ⟨S2304x128, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .f32⟩
  | .hbm, ⟨29, _⟩ => ⟨S2304x128, .f32⟩
  | .hbm, ⟨30, _⟩ => ⟨S_, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S2304x128, .f32⟩
  | .hbm, ⟨36, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 14
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v3_s0 : Ref sig .tc := ⟨.hbm, 6, rfl⟩
abbrev main_v3_s1 : Ref sig .tc := ⟨.hbm, 7, rfl⟩
abbrev main_v3_s2 : Ref sig .tc := ⟨.hbm, 8, rfl⟩
abbrev main_v3_s3 : Ref sig .tc := ⟨.hbm, 9, rfl⟩
abbrev main_v3_s4 : Ref sig .tc := ⟨.hbm, 10, rfl⟩
abbrev main_v3_s5 : Ref sig .tc := ⟨.hbm, 11, rfl⟩
abbrev main_v3_s6 : Ref sig .tc := ⟨.hbm, 12, rfl⟩
abbrev main_v3_s7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S32768x1024 : Shape := ⟨2, ![32768, 1024]⟩
abbrev S_ : Shape := ⟨0, ![]⟩
abbrev S32768 : Shape := ⟨1, ![32768]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Back.lean ====
abbrev S4096x9728 : Shape := ⟨2, ![4096, 9728]⟩
abbrev S1024x9728 : Shape := ⟨2, ![1024, 9728]⟩
abbrev S4096x1024 : Shape := ⟨2, ![4096, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x9728, .f32⟩
  | .hbm, ⟨1, _⟩ => ⟨S1024x9728, .bf16⟩
  | .hbm, ⟨2, _⟩ => ⟨S4096x1024, .f32⟩
  | .hbm, ⟨3, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 19], ![false, false, false]⟩

def k0_cond3 (i : grid0.Coords) : BitVec 1 :=
  let arg2 : BitVec 32 := BitVec.ofNat 32 (i 2).val
  let c18_i32 : BitVec 32 := 18#32
  let v10 : BitVec 1 := Scalar.cmpi .eq arg2 c18_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackReferenceIdeal.lean ====
abbrev S4096x9728 : Shape := ⟨2, ![4096, 9728]⟩
abbrev S1024x9728 : Shape := ⟨2, ![1024, 9728]⟩
abbrev S4096x1024 : Shape := ⟨2, ![4096, 1024]⟩
abbrev S9728x1024 : Shape := ⟨2, ![9728, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S1024x9728, .bf16⟩
  | .hbm, ⟨2, _⟩ => ⟨S4096x1024, .f32⟩
  | .hbm, ⟨3, _⟩ => ⟨S1024x9728, .f32⟩
  | .hbm, ⟨4, _⟩ => ⟨S9728x1024, .f32⟩
  | .hbm, ⟨5, _⟩ => ⟨S4096x1024, .f32⟩
  | .hbm, ⟨6, _⟩ => ⟨S4096x1024, .f32⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attend.lean ====
abbrev S4096x1024 : Shape := ⟨2, ![4096, 1024]⟩
abbrev S512x2048 : Shape := ⟨2, ![512, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x2048, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S256x2048, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttendReferenceIdeal.lean ====
abbrev S4096x1024 : Shape := ⟨2, ![4096, 1024]⟩
abbrev S512x2048 : Shape := ⟨2, ![512, 2048]⟩
abbrev S2x2048x4x256 : Shape := ⟨4, ![2, 2048, 4, 256]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x2048, .f32⟩
  | .hbm, ⟨2, _⟩ => ⟨S2x2048x4x256, .f32⟩
  | .hbm, ⟨3, _⟩ => ⟨S2x256x2048, .f32⟩
  | .hbm, ⟨4, _⟩ => ⟨S2x256x1024, .f32⟩
  | .hbm, ⟨5, _⟩ => ⟨S2x256x1024, .f32⟩
  | .hbm, ⟨6, _⟩ => ⟨S2x256x4x256, .f32⟩
  | .hbm, ⟨7, _⟩ => ⟨S2x256x4x256, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S_, .f32⟩
  | .hbm, ⟨15, _⟩ => ⟨S2x4x2048, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .f32⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x256, .f32⟩
  | .hbm, ⟨25, _⟩ => ⟨S2x4x2048x256, .f32⟩
  | .hbm, ⟨26, _⟩ => ⟨S2x4x256x2048, .f32⟩
  | .hbm, ⟨27, _⟩ => ⟨S2x2048x4x256, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Sgu.lean ====
abbrev S4096x9728 : Shape := ⟨2, ![4096, 9728]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S4096x1024 : Shape := ⟨2, ![4096, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S4096x9728, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S128x1024, .bf16⟩
  | .local _ .vmem, ⟨9, _⟩ => ⟨S128x1024, .bf16⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguReferenceIdeal.lean ====
abbrev S4096x9728 : Shape := ⟨2, ![4096, 9728]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S2x2048x1024, .f32⟩
  | .hbm, ⟨7, _⟩ => ⟨S4096x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S2x16x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S8x2x16x128x128, .f32⟩
  | .hbm, ⟨74, _⟩ => ⟨S2x16x128x8x128, .f32⟩
  | .hbm, ⟨75, _⟩ => ⟨S128x8, .f32⟩
  | .hbm, ⟨76, _⟩ => ⟨S1x1x128x8x1, .f32⟩
  | .hbm, ⟨77, _⟩ => ⟨S2x16x128x8x128, .f32⟩
  | .hbm, ⟨78, _⟩ => ⟨S2x16x128x8x128, .f32⟩
  | .hbm, ⟨79, _⟩ => ⟨S2x2048x1024, .f32⟩
  | .hbm, ⟨80, _⟩ => ⟨S2x2048x1024, .f32⟩
  | .hbm, ⟨81, _⟩ => ⟨S4096x1024, .f32⟩
  | .hbm, ⟨82, _⟩ => ⟨S4096x1024, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Merge.lean ====
abbrev S4096x9728 : Shape := ⟨2, ![4096, 9728]⟩
abbrev S4096x1024 : Shape := ⟨2, ![4096, 1024]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x9728, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeReferenceIdeal.lean ====
abbrev S4096x9728 : Shape := ⟨2, ![4096, 9728]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Glu.lean ====
abbrev S4096x5632 : Shape := ⟨2, ![4096, 5632]⟩
abbrev S4096x2816 : Shape := ⟨2, ![4096, 2816]⟩
abbrev S128x5632 : Shape := ⟨2, ![128, 5632]⟩
abbrev S128x2816 : Shape := ⟨2, ![128, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S128x5632, .f32⟩
  | .local _ .vmem, ⟨1, _⟩ => ⟨S128x5632, .f32⟩
  | .local _ .vmem, ⟨2, _⟩ => ⟨S128x2816, .bf16⟩
  | .local _ .vmem, ⟨3, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluReferenceIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Enter.lean ====
abbrev S4096x1024 : Shape := ⟨2, ![4096, 1024]⟩
abbrev S1024x9728 : Shape := ⟨2, ![1024, 9728]⟩
abbrev S4096x9728 : Shape := ⟨2, ![4096, 9728]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9728, .bf16⟩
  | .hbm, ⟨2, _⟩ => ⟨S4096x9728, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 19, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EnterReferenceIdeal.lean ====
abbrev S4096x1024 : Shape := ⟨2, ![4096, 1024]⟩
abbrev S1024x9728 : Shape := ⟨2, ![1024, 9728]⟩
abbrev S4096x9728 : Shape := ⟨2, ![4096, 9728]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9728, .bf16⟩
  | .hbm, ⟨2, _⟩ => ⟨S1024x9728, .f32⟩
  | .hbm, ⟨3, _⟩ => ⟨S4096x9728, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Memory.lean ====
abbrev S512x1024 : Shape := ⟨2, ![512, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S1x1024, .f32⟩
  | .hbm, ⟨30, _⟩ => ⟨S512x1024, .f32⟩
  | .hbm, ⟨31, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Conv.lean ====
abbrev S4096x9728 : Shape := ⟨2, ![4096, 9728]⟩
abbrev S4x3072 : Shape := ⟨2, ![4, 3072]⟩
abbrev S3072 : Shape := ⟨1, ![3072]⟩
abbrev S1x3072 : Shape := ⟨2, ![1, 3072]⟩
abbrev S4096x3072 : Shape := ⟨2, ![4096, 3072]⟩
abbrev S2048x256 : Shape := ⟨2, ![2048, 256]⟩
abbrev S4x256 : Shape := ⟨2, ![4, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x9728, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4096x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvReferenceIdeal.lean ====
abbrev S4096x9728 : Shape := ⟨2, ![4096, 9728]⟩
abbrev S4x3072 : Shape := ⟨2, ![4, 3072]⟩
abbrev S3072 : Shape := ⟨1, ![3072]⟩
abbrev S4096x3072 : Shape := ⟨2, ![4096, 3072]⟩
abbrev S2x2048x3072 : Shape := ⟨3, ![2, 2048, 3072]⟩
abbrev S_ : Shape := ⟨0, ![]⟩
abbrev S2x2051x3072 : Shape := ⟨3, ![2, 2051, 3072]⟩
abbrev S1x3072 : Shape := ⟨2, ![1, 3072]⟩
abbrev S1x1x3072 : Shape := ⟨3, ![1, 1, 3072]⟩

abbrev nBuf : Space → Nat
  | .hbm => 51
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S2x2048x3072, .f32⟩
  | .hbm, ⟨5, _⟩ => ⟨S_, .i32⟩
  | .hbm, ⟨6, _⟩ => ⟨S_, .f32⟩
  | .hbm, ⟨7, _⟩ => ⟨S2x2051x3072, .f32⟩
  | .hbm, ⟨8, _⟩ => ⟨S2x2048x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S2x2048x3072, .f32⟩
  | .hbm, ⟨13, _⟩ => ⟨S2x2048x3072, .f32⟩
  | .hbm, ⟨14, _⟩ => ⟨S_, .f32⟩
  | .hbm, ⟨15, _⟩ => ⟨S2x2048x3072, .f32⟩
  | .hbm, ⟨16, _⟩ => ⟨S2x2048x3072, .f32⟩
  | .hbm, ⟨17, _⟩ => ⟨S2x2048x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S2x2048x3072, .f32⟩
  | .hbm, ⟨22, _⟩ => ⟨S2x2048x3072, .f32⟩
  | .hbm, ⟨23, _⟩ => ⟨S2x2048x3072, .f32⟩
  | .hbm, ⟨24, _⟩ => ⟨S2x2048x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S2x2048x3072, .f32⟩
  | .hbm, ⟨29, _⟩ => ⟨S2x2048x3072, .f32⟩
  | .hbm, ⟨30, _⟩ => ⟨S2x2048x3072, .f32⟩
  | .hbm, ⟨31, _⟩ => ⟨S2x2048x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S2x2048x3072, .f32⟩
  | .hbm, ⟨36, _⟩ => ⟨S2x2048x3072, .f32⟩
  | .hbm, ⟨37, _⟩ => ⟨S2x2048x3072, .f32⟩
  | .hbm, ⟨38, _⟩ => ⟨S1x1x3072, .f32⟩
  | .hbm, ⟨39, _⟩ => ⟨S2x2048x3072, .f32⟩
  | .hbm, ⟨40, _⟩ => ⟨S2x2048x3072, .f32⟩
  | .hbm, ⟨41, _⟩ => ⟨S2x2048x3072, .f32⟩
  | .hbm, ⟨42, _⟩ => ⟨S2x2048x3072, .f32⟩
  | .hbm, ⟨43, _⟩ => ⟨S_, .f32⟩
  | .hbm, ⟨44, _⟩ => ⟨S2x2048x3072, .f32⟩
  | .hbm, ⟨45, _⟩ => ⟨S2x2048x3072, .f32⟩
  | .hbm, ⟨46, _⟩ => ⟨S_, .f32⟩
  | .hbm, ⟨47, _⟩ => ⟨S2x2048x3072, .f32⟩
  | .hbm, ⟨48, _⟩ => ⟨S2x2048x3072, .f32⟩
  | .hbm, ⟨49, _⟩ => ⟨S2x2048x3072, .f32⟩
  | .hbm, ⟨50, _⟩ => ⟨S4096x3072, .f32⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Square.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Branch.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Keys.lean ====
abbrev S512x1024 : Shape := ⟨2, ![512, 1024]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x2048, .bf16⟩
  | .hbm, ⟨2, _⟩ => ⟨S512x2048, .f32⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeysReferenceIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x2048, .bf16⟩
  | .hbm, ⟨2, _⟩ => ⟨S1024x2048, .f32⟩
  | .hbm, ⟨3, _⟩ => ⟨S512x2048, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Widen.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WidenReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S1024x5632, .f32⟩
  | .hbm, ⟨3, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Narrow.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NarrowReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S4096x2816 : Shape := ⟨2, ![4096, 2816]⟩
abbrev S4096x1024 : Shape := ⟨2, ![4096, 1024]⟩
abbrev S2816x1024 : Shape := ⟨2, ![2816, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .f32⟩
  | .local _ .vmem, ⟨3, _⟩ => ⟨S2048x512, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradIn.lean ====
abbrev S4096x1024 : Shape := ⟨2, ![4096, 1024]⟩
abbrev S4096x5632 : Shape := ⟨2, ![4096, 5632]⟩
abbrev S1024x5632 : Shape := ⟨2, ![1024, 5632]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInReferenceIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x4096, .f32⟩
  | .hbm, ⟨3, _⟩ => ⟨S1024x5632, .f32⟩
  | .hbm, ⟨4, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradSquare.lean ====
abbrev S4096x1024 : Shape := ⟨2, ![4096, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradSquareReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradQuery.lean ====
abbrev S4096x1024 : Shape := ⟨2, ![4096, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradQueryReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradKeys.lean ====
abbrev S512x1024 : Shape := ⟨2, ![512, 1024]⟩
abbrev S512x2048 : Shape := ⟨2, ![512, 2048]⟩
abbrev S1024x2048 : Shape := ⟨2, ![1024, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S1024x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKeysReferenceIdeal.lean ====
abbrev S512x1024 : Shape := ⟨2, ![512, 1024]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S1024x512, .f32⟩
  | .hbm, ⟨3, _⟩ => ⟨S1024x2048, .f32⟩
  | .hbm, ⟨4, _⟩ => ⟨S1024x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradBranch.lean ====
abbrev S4096x2048 : Shape := ⟨2, ![4096, 2048]⟩
abbrev S4096x1024 : Shape := ⟨2, ![4096, 1024]⟩
abbrev S2048x1024 : Shape := ⟨2, ![2048, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradBranchReferenceIdeal.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S2048x4096, .f32⟩
  | .hbm, ⟨4, _⟩ => ⟨S2048x1024, .f32⟩
  | .hbm, ⟨5, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradEnter.lean ====
abbrev S4096x1024 : Shape := ⟨2, ![4096, 1024]⟩
abbrev S4096x9728 : Shape := ⟨2, ![4096, 9728]⟩
abbrev S1024x9728 : Shape := ⟨2, ![1024, 9728]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x9728, .f32⟩
  | .hbm, ⟨2, _⟩ => ⟨S1024x9728, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradEnterReferenceIdeal.lean ====
abbrev S4096x1024 : Shape := ⟨2, ![4096, 1024]⟩
abbrev S4096x9728 : Shape := ⟨2, ![4096, 9728]⟩
abbrev S1024x4096 : Shape := ⟨2, ![1024, 4096]⟩
abbrev S1024x9728 : Shape := ⟨2, ![1024, 9728]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9728, .f32⟩
  | .hbm, ⟨2, _⟩ => ⟨S1024x4096, .f32⟩
  | .hbm, ⟨3, _⟩ => ⟨S1024x9728, .f32⟩
  | .hbm, ⟨4, _⟩ => ⟨S1024x9728, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PastOut.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PastOutReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PastSquare.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PastSquareReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PastKeys.lean ====
abbrev S512x2048 : Shape := ⟨2, ![512, 2048]⟩
abbrev S1024x2048 : Shape := ⟨2, ![1024, 2048]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S1024x2048, .bf16⟩
  | .hbm, ⟨2, _⟩ => ⟨S512x1024, .f32⟩
  | .local _ .vmem, ⟨0, _⟩ => ⟨S512x2048, .f32⟩
  | .local _ .vmem, ⟨1, _⟩ => ⟨S512x2048, .bf16⟩
  | .local _ .vmem, ⟨2, _⟩ => ⟨S512x2048, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PastKeysReferenceIdeal.lean ====
abbrev S512x2048 : Shape := ⟨2, ![512, 2048]⟩
abbrev S1024x2048 : Shape := ⟨2, ![1024, 2048]⟩
abbrev S2048x1024 : Shape := ⟨2, ![2048, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1024x2048, .bf16⟩
  | .hbm, ⟨2, _⟩ => ⟨S1024x2048, .f32⟩
  | .hbm, ⟨3, _⟩ => ⟨S2048x1024, .f32⟩
  | .hbm, ⟨4, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PastBranch.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PastBranchReferenceIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.OneShot.lean ====
/-
  A protocol of one-shot DMA cells.

  Every device has the same `n` DMA cells. Each cell is credited exactly once, by one transfer: its own device's local copy,
  the sending end of one of its remote copies, or the receiving end of a peer's remote copy. Cell `k` of device `dest k c` is
  the one that device `c` pays, so every `dest k` is a permutation of the devices. What a transfer hands to the cell's owner
  is `pay`. The owner waits once and then has the counter at zero for good.

  The file builds the schedule of such cells for the rounds library, the ghost state that the launch funds, the way the
  cells' invariants are opened for all devices at once and the tokens dealt to the payers, and the three steps of a kernel's
  body: a local copy, a remote copy and a wait.
-/
module

public import Idealize.ShloMosaic.Lib.Pipeline.Launch
public import Idealize.ShloMosaic.Lib.Pipeline.Kit
public import Idealize.ShloMosaic.Lib.Tactic

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

/-- The ghost state: the pipelines' rounds and the protocol's own. -/
abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (nD τ sig Val) in
/-- The protocol: `n` DMA semaphores a device, each credited once. -/
structure Talk (n : ℕ) where
  /-- The cells' semaphores. -/
  sem : Fin n → DmaSem sig
  sem_inj : Function.Injective sem
  /-- The one credit that each cell gets. -/
  amt : Fin n → ℕ
  amt_pos : ∀ k, 0 < amt k
  /-- A cell's level: a device waits below everything that it still owes. -/
  lev : Fin n → ℕ
  /-- The device whose cell `k` device `c` pays. -/
  dest : Fin n → Dev nD ≃ Dev nD
  /-- The cells that a peer pays, which it owes from the launch on. -/
  remote : Finset (Fin n)
  /-- What the payment hands to the cell's owner. -/
  pay : Dev nD → Fin n → sProp 𝕄
  stor : ∀ c k, BI.Storable (upEmb : UEmb _ 𝕄) (pay c k)

namespace Talk

variable {n : ℕ} (T : Talk nD τ sig Val n)

abbrev osem (k : Fin n) : SemLoc sig := .dma (T.sem k)
/-- Cell `k` of device `c`. -/
abbrev cell (ck : Dev nD × Fin n) : GSem nD τ sig := ((ck.1 : Thread nD τ), T.osem ck.2)

theorem cell_inj : Function.Injective (T.cell : Dev nD × Fin n → GSem nD τ sig) := by
  rintro ⟨c, k⟩ ⟨c', k'⟩ h
  have h1 : c = c' := congrArg (fun g : GSem nD τ sig => g.1.1) h
  have h2 : T.osem k = T.osem k' := congrArg Prod.snd h
  have h3 : k = k' := T.sem_inj (by injection h2)
  rw [h1, h3]

/-! ### The schedule -/

open Classical in
/-- One round, one duty, for each of the protocol's cells. -/
def sched : Rounds.Schedule (GSem nD τ sig) Unit 𝕄 where
  duties g r := if r = 0 ∧ ∃ ck, T.cell ck = g then {()} else ∅
  unitless _ := False
  amount g _ _ := Function.extend T.cell (fun ck => T.amt ck.2) (fun _ => 1) g
  payload g _ _ := Function.extend T.cell (fun ck => T.pay ck.1 ck.2) (fun _ => iprop(emp)) g
  amount_pos g _ _ _ := by
    by_cases h : ∃ ck, T.cell ck = g
    · obtain ⟨ck, rfl⟩ := h; rw [T.cell_inj.extend_apply]; exact T.amt_pos _
    · rw [Function.extend_apply' _ _ _ h]; exact Nat.one_pos

instance payload_storable (g : GSem nD τ sig) (r : ℕ) (d : Unit) : BI.Storable (upEmb : UEmb _ 𝕄) (T.sched.payload g r d) := by
  show BI.Storable upEmb (Function.extend T.cell (fun ck => T.pay ck.1 ck.2) (fun _ => iprop(emp)) g)
  by_cases h : ∃ ck, T.cell ck = g
  · obtain ⟨ck, rfl⟩ := h; rw [T.cell_inj.extend_apply]; exact T.stor _ _
  · rw [Function.extend_apply' _ _ _ h]; infer_instance

theorem duties_cell (ck : Dev nD × Fin n) : T.sched.duties (T.cell ck) 0 = {()} := if_pos ⟨rfl, ck, rfl⟩
theorem duties_later (g : GSem nD τ sig) : ∀ r, 1 ≤ r → T.sched.duties g r = ∅ := fun r hr => if_neg fun h => by omega
theorem mem_duties (ck : Dev nD × Fin n) : () ∈ T.sched.duties (T.cell ck) 0 := by rw [duties_cell]; exact Finset.mem_singleton_self _
theorem amount_cell (ck : Dev nD × Fin n) (u : Unit) : T.sched.amount (T.cell ck) 0 u = T.amt ck.2 := by
  dsimp only [sched]; rw [T.cell_inj.extend_apply]
theorem payload_cell (ck : Dev nD × Fin n) (u : Unit) : T.sched.payload (T.cell ck) 0 u = T.pay ck.1 ck.2 := by
  dsimp only [sched]; rw [T.cell_inj.extend_apply]
theorem expect_cell (ck : Dev nD × Fin n) : T.sched.expect (T.cell ck) 0 = T.amt ck.2 := by
  unfold Schedule.expect Schedule.amountOf; rw [duties_cell, Finset.sum_singleton, amount_cell]
theorem rest_cell (ck : Dev nD × Fin n) :
    bigSep (T.sched.duties (T.cell ck) 0 \ ∅) (fun u => T.sched.payload (T.cell ck) 0 u) = T.pay ck.1 ck.2 := by
  rw [Finset.sdiff_empty, duties_cell, bigSep_singleton, payload_cell]

/-! ### What is owed, and the levels -/

/-- What device `c` owes its peers' cells `S`. -/
def owe (S : Finset (Fin n)) (c : Dev nD) : CellTallies nD τ sig Unit := ∑ k ∈ S, tallyAt (T.cell (T.dest k c, k)) () (T.amt k)
/-- What it owes at launch. -/
def O₀ (c : Dev nD) : CellTallies nD τ sig Unit := T.owe T.remote c

theorem owe_empty (c : Dev nD) : T.owe ∅ c = 0 := Finset.sum_empty
theorem owe_insert {S : Finset (Fin n)} {k : Fin n} (h : k ∉ S) (c : Dev nD) :
    T.owe (insert k S) c = T.owe S c + tallyAt (T.cell (T.dest k c, k)) () (T.amt k) := by
  unfold owe; rw [Finset.sum_insert h, add_comm]

def L (g : GSem nD τ sig) : Finset Unit := if g.1.2 = .tc then {()} else ∅
def lv (g : GSem nD τ sig) (_ : Unit) : ℕ := Function.extend T.cell (fun ck => T.lev ck.2) (fun _ => 0) g
theorem L_of_ne (g : GSem nD τ sig) (h : g.1.2 ≠ .tc) : (L g : Finset Unit) = ∅ := if_neg h
theorem L_tc (c : Dev nD) (sm : SemLoc sig) : L ((c : Thread nD τ), sm) = {()} := if_pos rfl
theorem lv_cell (ck : Dev nD × Fin n) (u : Unit) : T.lv (T.cell ck) u = T.lev ck.2 := T.cell_inj.extend_apply _ _ ck

theorem owe_apply (S : Finset (Fin n)) (c : Dev nD) (g : GSem nD τ sig) (u : Unit) :
    T.owe S c g u = ∑ k ∈ S, if g = T.cell (T.dest k c, k) ∧ u = () then T.amt k else 0 := by
  unfold owe
  rw [Finset.sum_apply, Finsupp.finset_sum_apply]
  exact Finset.sum_congr rfl fun k _ => tallyAt_apply _ _ _ _ _

theorem owe_pos {S : Finset (Fin n)} {c : Dev nD} {g : GSem nD τ sig} {u : Unit} (h : 0 < T.owe S c g u) :
    ∃ k ∈ S, g = T.cell (T.dest k c, k) := by
  rw [owe_apply] at h
  obtain ⟨k, hk, h⟩ := Finset.exists_ne_zero_of_sum_ne_zero h.ne'
  exact ⟨k, hk, by by_contra hn; exact h (if_neg fun h' => hn h'.1)⟩

/-- A wait on cell `k` is allowed while only cells of a higher level are owed. -/
theorem mayWait (c : Dev nD) (k : Fin n) (S : Finset (Fin n)) (h : ∀ j ∈ S, T.lev k < T.lev j) :
    (levAts L T.lv : sProp 𝕄) ⊢ MayWait (c : Thread nD τ) (T.osem k) () (T.owe S c) :=
  MayOwe.of_cut (L := L) (lev := T.lv) (T.lev k) (fun p hp => by rw [Finset.mem_singleton.mp hp, L_tc]; exact Finset.mem_singleton_self _)
    (fun g u hg => by obtain ⟨j, _, rfl⟩ := T.owe_pos hg; exact Finset.mem_singleton_self _)
    (fun p hp => by rw [Finset.mem_singleton.mp hp]; exact (T.lv_cell (c, k) ()).le)
    (fun g u hg => by obtain ⟨j, hj, rfl⟩ := T.owe_pos hg; rw [T.lv_cell]; exact h j hj)

/-! ### The ghost state, and how it is dealt -/

def cells : Finset (GSem nD τ sig) := Finset.univ.map ⟨T.cell, T.cell_inj⟩
def toks : Finset (GSem nD τ sig × ℕ × Unit) :=
  Finset.univ.map ⟨fun ck : Dev nD × Fin n => (T.cell ck, 0, ()), fun _ _ h => T.cell_inj (congrArg Prod.fst h)⟩

/-- What the launch funds for device `c`'s cells. -/
def G (c : Dev nD) : sProp 𝕄 :=
  iprop((bigSep Finset.univ fun k : Fin n => roundState ER T.sched (T.cell (c, k)) 0)
    ∗ (bigSep Finset.univ fun k : Fin n => atPos ER (T.cell (c, k)) 0 ∅ 0)
    ∗ (bigSep Finset.univ fun k : Fin n => reached ER (T.cell (c, k)) 0)
    ∗ bigSep Finset.univ fun k : Fin n => dutyTok ER (T.cell (c, k)) 0 ())

theorem fund_G : BI.own (ER (initOf T.cells T.toks)) ⊢ (|==> bigSep Finset.univ T.G : sProp 𝕄) := by
  have hX (Φ : GSem nD τ sig → sProp 𝕄) : bigSep T.cells Φ = bigSep Finset.univ fun c : Dev nD => bigSep Finset.univ fun k : Fin n => Φ (T.cell (c, k)) := by
    unfold cells; rw [bigSep_map, bigSep_univ_prod]; rfl
  have hT : bigSep T.toks (fun x => (dutyTok ER x.1 x.2.1 x.2.2 : sProp 𝕄))
      = bigSep Finset.univ fun c : Dev nD => bigSep Finset.univ fun k : Fin n => dutyTok ER (T.cell (c, k)) 0 () := by
    unfold toks; rw [bigSep_map, bigSep_univ_prod]; rfl
  iintro HX
  imod (Rounds.fund ER T.sched T.cells T.toks) $$ HX with ⟨Hst, Hr, Hat, Htok⟩
  imodintro
  ihave Hst' := (Entails.of_eq (hX fun g => roundState ER T.sched g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The invariants of every device's cells, and that each cell is at its round. -/
def records (K : Dev nD × Fin n → ℕ) : sProp 𝕄 :=
  iprop((bigSep Finset.univ fun ck : Dev nD × Fin n => cellInv ER T.sched (K ck) (T.cell ck))
    ∗ bigSep Finset.univ fun ck : Dev nD × Fin n => reached ER (T.cell ck) 0)
instance records_persistent (K : Dev nD × Fin n → ℕ) : BI.Persistent (T.records K) := by unfold records; infer_instance

theorem records_inv (K : Dev nD × Fin n → ℕ) (ck : Dev nD × Fin n) : T.records K ⊢ cellInv ER T.sched (K ck) (T.cell ck) := by
  unfold records
  iintro ⟨HI, -⟩
  iapply (show (bigSep Finset.univ fun ck : Dev nD × Fin n => cellInv ER T.sched (K ck) (T.cell ck) : sProp 𝕄) ⊢ cellInv ER T.sched (K ck) (T.cell ck)
    from bigSep_elim (Finset.mem_univ ck))
  iexact HI
theorem records_reached (K : Dev nD × Fin n → ℕ) (ck : Dev nD × Fin n) : T.records K ⊢ (reached ER (T.cell ck) 0 : sProp 𝕄) := by
  unfold records
  iintro ⟨-, HR⟩
  iapply (show (bigSep Finset.univ fun ck : Dev nD × Fin n => reached ER (T.cell ck) 0 : sProp 𝕄) ⊢ reached ER (T.cell ck) 0
    from bigSep_elim (Finset.mem_univ ck))
  iexact HR

/-- Device `c`'s positions at its cells. -/
def positions (c : Dev nD) : sProp 𝕄 := bigSep Finset.univ fun k : Fin n => atPos ER (T.cell (c, k)) 0 ∅ 0
/-- The tokens of the cells that it pays. -/
def payToks (c : Dev nD) : sProp 𝕄 := bigSep Finset.univ fun k : Fin n => dutyTok ER (T.cell (T.dest k c, k)) 0 ()

/-- Each cell's token to the device that pays it. -/
theorem toks_around :
    (bigSep Finset.univ fun c : Dev nD => bigSep Finset.univ fun k : Fin n => (dutyTok ER (T.cell (c, k)) 0 () : sProp 𝕄))
      = bigSep Finset.univ fun c : Dev nD => T.payToks c := by
  unfold payToks
  rw [← bigSep_univ_prod (fun ck : Dev nD × Fin n => (dutyTok ER (T.cell ck) 0 () : sProp 𝕄)),
    ← bigSep_univ_prod (fun ck : Dev nD × Fin n => (dutyTok ER (T.cell (T.dest ck.2 ck.1, ck.2)) 0 () : sProp 𝕄)),
    bigSep_univ_equiv (⟨fun ck : Dev nD × Fin n => (T.dest ck.2 ck.1, ck.2), fun ck => ((T.dest ck.2).symm ck.1, ck.2),
      fun ck => by simp, fun ck => by simp⟩ : Dev nD × Fin n ≃ Dev nD × Fin n) (fun ck : Dev nD × Fin n => (dutyTok ER (T.cell ck) 0 () : sProp 𝕄))]
  rfl

theorem ownSems0_eq (c : Dev nD) :
    (Pipeline.ownSems0 (Ix := Unit) (Name := ℕ) (U := UU nD τ sig) (Lvl := ℕ) (Val := Val) (τ := τ) T.osem c : sProp 𝕄)
      = bigSep Finset.univ fun k : Fin n => semVal (T.cell (c, k)) 0 := rfl

theorem core_alloc (c : Dev nD) :
    iprop(Pipeline.ownSems0 (Ix := Unit) (Name := ℕ) (U := UU nD τ sig) (Lvl := ℕ) (Val := Val) (τ := τ) T.osem c ∗ T.G c)
      ⊢ |={Set.univ}=> iprop((bigSep Finset.univ fun k => iprop(∃ κ : ℕ, cellInv ER T.sched κ (T.cell (c, k))))
          ∗ T.positions c ∗ (bigSep Finset.univ fun k : Fin n => reached ER (T.cell (c, k)) 0)
          ∗ bigSep Finset.univ fun k : Fin n => dutyTok ER (T.cell (c, k)) 0 ()) := by
  unfold G positions
  rw [ownSems0_eq]
  iintro ⟨Hv, Hst, Hat, Hr, Htok⟩
  imod (show iprop((bigSep Finset.univ fun k : Fin n => semVal (T.cell (c, k)) 0) ∗ bigSep Finset.univ fun k : Fin n => roundState ER T.sched (T.cell (c, k)) 0)
      ⊢ (|={Set.univ}=> bigSep Finset.univ fun k => iprop(∃ κ : ℕ, cellInv ER T.sched κ (T.cell (c, k))) : sProp 𝕄) from by
        rw [← bigSep_sep']
        exact (bigSep_mono fun k _ => (Rounds.body_intro ER T.sched (T.cell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The invariants' names gathered, the tokens taken to their payers. -/
theorem regroup :
    (bigSep Finset.univ fun c : Dev nD => iprop((bigSep Finset.univ fun k => iprop(∃ κ : ℕ, cellInv ER T.sched κ (T.cell (c, k))))
          ∗ T.positions c ∗ (bigSep Finset.univ fun k : Fin n => reached ER (T.cell (c, k)) 0)
          ∗ bigSep Finset.univ fun k : Fin n => dutyTok ER (T.cell (c, k)) 0 ()) : sProp 𝕄)
      ⊢ iprop(∃ K, T.records K ∗ (bigSep Finset.univ fun c : Dev nD => T.positions c) ∗ bigSep Finset.univ fun c : Dev nD => T.payToks c) := by
  rw [bigSep_sep', bigSep_sep', bigSep_sep', ← bigSep_univ_prod (fun ck : Dev nD × Fin n => iprop(∃ κ : ℕ, cellInv ER T.sched κ (T.cell ck))),
    ← bigSep_univ_prod (fun ck : Dev nD × Fin n => (reached ER (T.cell ck) 0 : sProp 𝕄)), toks_around]
  iintro ⟨HI, Hat, HR, Htok⟩
  ihave HK := (BI.bigSep_exists_pi Finset.univ (fun (ck : Dev nD × Fin n) (κ : ℕ) => (cellInv ER T.sched κ (T.cell ck) : sProp 𝕄))) $$ HI
  icases HK with ⟨%K, HI⟩
  iexists K
  isplitl [HI HR]
  · unfold records; isplitl [HI] <;> iassumption
  isplitl [Hat] <;> iassumption

/-- All devices' cells opened at once, the tokens with their payers. -/
theorem deal :
    (bigSep Finset.univ fun c : Dev nD =>
        iprop(Pipeline.ownSems0 (Ix := Unit) (Name := ℕ) (U := UU nD τ sig) (Lvl := ℕ) (Val := Val) (τ := τ) T.osem c ∗ T.G c) : sProp 𝕄)
      ⊢ |={Set.univ}=> iprop(∃ K, T.records K ∗ (bigSep Finset.univ fun c : Dev nD => T.positions c) ∗ bigSep Finset.univ fun c : Dev nD => T.payToks c) :=
  ((bigSep_mono fun c _ => T.core_alloc c).trans (bigSep_fupd _ _)).trans (BI.fupd_mono T.regroup)

/-! ### The launch credit -/

theorem owed_cell (c : Dev nD) {k : Fin n} (hk : k ∈ T.remote) (d : Dev nD) :
    T.O₀ d (T.cell (c, k)) () = if d = (T.dest k).symm c then T.amt k else 0 := by
  unfold O₀
  rw [owe_apply, Finset.sum_eq_single k (fun j _ hj => if_neg fun h => hj (congrArg Prod.snd (T.cell_inj h.1)).symm) (fun h => absurd hk h)]
  refine if_congr ⟨fun h => ?_, fun h => ⟨?_, rfl⟩⟩ rfl rfl
  · exact (Equiv.eq_symm_apply _).mpr (congrArg Prod.fst (T.cell_inj h.1)).symm
  · rw [h, Equiv.apply_symm_apply]

theorem launch_cell (c : Dev nD) {k : Fin n} (hk : k ∈ T.remote) :
    tallyOn (T.cell (c, k)) (launchCredit (Pipeline.owing T.O₀) 0 (T.cell (c, k))) = (tallyAt (T.cell (c, k)) () (T.amt k) : CellTallies nD τ sig Unit) := by
  unfold tallyAt; refine congrArg _ (Finsupp.ext fun u => ?_); cases u
  rw [Pipeline.launchCredit_owing, Finsupp.single_eq_same, Finset.sum_congr rfl fun d _ => T.owed_cell c hk d,
    Finset.sum_ite_eq' Finset.univ ((T.dest k).symm c) fun _ => T.amt k, if_pos (Finset.mem_univ _)]

theorem creds (c : Dev nD) :
    (Pipeline.launchCred T.O₀ c : sProp 𝕄) ⊢ bigSep T.remote fun k => cred (tallyAt (T.cell (c, k)) () (T.amt k)) := by
  classical
  have h : (bigSep T.remote fun k => (cred (tallyAt (T.cell (c, k)) () (T.amt k)) : sProp 𝕄))
      = bigSep (T.remote.map ⟨T.osem, fun a b h => T.sem_inj (by injection h)⟩)
          fun sm : SemLoc sig => cred (tallyOn (((c : Thread nD τ), sm) : GSem nD τ sig) (launchCredit (Pipeline.owing T.O₀) 0 ((c : Thread nD τ), sm))) := by
    rw [bigSep_map]
    exact bigSep_congr fun k hk => by rw [← T.launch_cell c hk]; rfl
  rw [h]
  unfold Pipeline.launchCred
  exact bigSep_subset (Finset.subset_univ _)

/-! ### The steps of a body -/

/-- What device `c` owes, under whatever waits it has done. -/
def ow (_ : Talk nD τ sig Val n) (c : Dev nD) (O : CellTallies nD τ sig Unit) : sProp 𝕄 := iprop(∃ W, owes (c : Thread nD τ) O W)

variable {Λ : Idealize.SL.Sem.Labels} (defs : Defs nD τ sig Val Λ) (𝒱 : Variants)

/-- A local copy paying cell `k` of its own device. -/
theorem wp_copy (K : Dev nD × Fin n → ℕ) (c : Dev nD) (k : Fin n) (hto : T.dest k c = c) {sp sp' : Space} {s : Shape} {e : EltTy}
    {src : Memref sig .tc sp s e} {dst : Memref sig .tc sp' s e} {sem : DmaSem sig} (hs : sem = T.sem k)
    {hsrc : src.view.WordExact} {hdst : dst.view.WordExact} {hsem : DmaTarget.Typed (nD := nD) sp (.dma sem) (DmaTarget.here (τ := τ) (p := Proc.tc) dst)}
    {α : Type} {kk : PUnit → Prog (TpuEff nD τ sig Val Λ .tc) α} {Q : α → sProp 𝕄} {q : PosShare TreeShare}
    (fs : Buf Val (src.view.loc (c : Thread nD τ))) (fd : Buf Val (dst.view.loc (c : Thread nD τ))) (hN : dst.view.dmaCredit = T.amt k)
    (hpay : iprop((dst.view.loc (c : Thread nD τ) ↦[dst.view.set]{fullShare} (dst.view.write Val fd (src.view.read Val fs) Finset.univ))
              ∗ (src.view.loc (c : Thread nD τ) ↦[src.view.set]{q} fs)) ⊢ T.pay c k) :
    iprop(T.records K ∗ (src.view.loc (c : Thread nD τ) ↦[src.view.set]{q} fs) ∗ (dst.view.loc (c : Thread nD τ) ↦[dst.view.set]{fullShare} fd)
        ∗ dutyTok ER (T.cell (T.dest k c, k)) 0 ())
      ⊢ iprop((cred (tallyAt (T.cell (c, k)) () (T.amt k)) -∗ wp frame (wpE defs 𝒱 (c : Thread nD τ) none) Set.univ (kk ⟨⟩) Q)
          -∗ wp frame (wpE defs 𝒱 (c : Thread nD τ) none) Set.univ (.op (.enqueueDma src (.here dst) (.dma sem) hsrc hdst hsem) kk) Q) := by
  subst hs
  rw [hto]
  iintro ⟨#HR, Hs, Hd, Ht⟩ Hk
  iapply (Rounds.wp_copy_pointsTo 𝒱 ER T.sched (c : Thread nD τ) none (κ := K (c, k)) (r := 0) (d := ()) (fs := fs) (fd := fd) (q := q)
      (T.mem_duties (c, k)) () (T.amt k) hN (T.amount_cell (c, k) ()) (hpay.trans (Entails.of_eq (T.payload_cell (c, k) ()).symm))) $$ [Hs Hd Ht]
  · isplitr; · iapply (T.records_inv K (c, k)); iexact HR
    isplitl [Hs]; · iexact Hs
    isplitl [Hd]; · iexact Hd
    isplitl [Ht]; · iexact Ht
    iapply (T.records_reached K (c, k)); iexact HR
  iexact Hk

/-- A remote copy paying cell `ks` of its own device and cell `kr` of a peer. -/
theorem wp_send (K : Dev nD × Fin n → ℕ) (c p : Dev nD) (ks kr : Fin n) (hp : p = T.dest kr c) (hto : T.dest ks c = c) {sp sp' : Space} {s : Shape} {e : EltTy}
    {src : Memref sig .tc sp s e} {dst : Memref sig .tc sp' s e} {sS sR : DmaSem sig} (hsS : sS = T.sem ks) (hsR : sR = T.sem kr)
    {hsc : (dst : Memref sig (Dev.tc p : Thread nD τ).2.kind sp' s e).view.ref.isScScratch = false}
    {hsrc : src.view.WordExact} {hdst : dst.view.WordExact}
    {hsem : DmaTarget.Typed sp (.dma sR) (.remote (Dev.tc p : Thread nD τ) (dst : Memref sig (Dev.tc p : Thread nD τ).2.kind sp' s e) (.dma sS) hsc)}
    {α : Type} {kk : PUnit → Prog (TpuEff nD τ sig Val Λ .tc) α} {Q : α → sProp 𝕄} {q : PosShare TreeShare}
    {S : Finset (Fin n)} (hS : kr ∉ S)
    (fs : Buf Val (src.view.loc (c : Thread nD τ))) (fd : Buf Val (dst.view.loc (p : Thread nD τ)))
    (hN : dst.view.dmaCredit = T.amt kr) (hN' : T.amt ks = T.amt kr)
    (hpay₁ : (src.view.loc (c : Thread nD τ) ↦[src.view.set]{q} fs) ⊢ T.pay c ks)
    (hpay₂ : (dst.view.loc (p : Thread nD τ) ↦[dst.view.set]{fullShare} (dst.view.write Val fd (src.view.read Val fs) Finset.univ)) ⊢ T.pay p kr)
    (hr : τ.routes (c : Thread nD τ) (p : Thread nD τ) = true) :
    iprop(T.records K ∗ (src.view.loc (c : Thread nD τ) ↦[src.view.set]{q} fs) ∗ (dst.view.loc (p : Thread nD τ) ↦[dst.view.set]{fullShare} fd)
        ∗ T.ow c (T.owe (insert kr S) c) ∗ dutyTok ER (T.cell (T.dest ks c, ks)) 0 () ∗ dutyTok ER (T.cell (T.dest kr c, kr)) 0 ())
      ⊢ iprop(((cred (tallyAt (T.cell (c, ks)) () (T.amt ks)) ∗ T.ow c (T.owe S c)) -∗ wp frame (wpE defs 𝒱 (c : Thread nD τ) none) Set.univ (kk ⟨⟩) Q)
          -∗ wp frame (wpE defs 𝒱 (c : Thread nD τ) none) Set.univ
              (.op (.enqueueDma src (.remote (Dev.tc p : Thread nD τ) (dst : Memref sig (Dev.tc p : Thread nD τ).2.kind sp' s e) (.dma sS) hsc) (.dma sR) hsrc hdst hsem) kk) Q) := by
  subst hsS hsR hp
  rw [hto, T.owe_insert hS]
  unfold ow
  iintro ⟨#HR, Hs, Hd, ⟨%W, HO⟩, Ht, Ht'⟩ Hk
  iapply (Rounds.wp_send_pointsTo 𝒱 ER T.sched (c : Thread nD τ) none (κ₁ := K (c, ks)) (κ₂ := K (T.dest kr c, kr)) (fs := fs) (fd := fd) (q := q)
      (r₁ := 0) (r₂ := 0) (d₁ := ()) (d₂ := ()) (T.mem_duties (c, ks)) (T.mem_duties (T.dest kr c, kr)) () () (T.amt kr) hN
      ((T.amount_cell (c, ks) ()).trans hN') (T.amount_cell (T.dest kr c, kr) ()) (T.owe S c) rfl (W := W)
      (hpay₁.trans (Entails.of_eq (T.payload_cell (c, ks) ()).symm)) (hpay₂.trans (Entails.of_eq (T.payload_cell (T.dest kr c, kr) ()).symm)) hr) $$ [Hs Hd HO Ht Ht']
  · isplitr; · iapply (T.records_inv K (c, ks)); iexact HR
    isplitr; · iapply (T.records_inv K (T.dest kr c, kr)); iexact HR
    isplitl [Hs]; · iexact Hs
    isplitl [Hd]; · iexact Hd
    isplitl [HO]; · iexact HO
    isplitl [Ht]; · iexact Ht
    isplitr; · iapply (T.records_reached K (c, ks)); iexact HR
    isplitl [Ht']; · iexact Ht'
    iapply (T.records_reached K (T.dest kr c, kr)); iexact HR
  iintro ⟨Hc, HO⟩
  iapply Hk
  isplitl [Hc]
  · rw [hN']; iexact Hc
  iexists W; iexact HO

/-- The wait on cell `k`, below what is still owed: the payload, and the counter at zero for good. -/
theorem wp_wait (K : Dev nD × Fin n → ℕ) (c : Dev nD) (k : Fin n) {sp sp' : Space} {s s' : Shape} {e e' : EltTy}
    {src : Memref sig .tc sp' s' e'} {dst : Memref sig .tc sp s e} {sem : DmaSem sig} (hs : sem = T.sem k)
    {hsrc : src.view.WordExact} {hdst : dst.view.WordExact}
    {α : Type} {kk : PUnit → Prog (TpuEff nD τ sig Val Λ .tc) α} {Q : α → sProp 𝕄}
    (S : Finset (Fin n)) (hS : ∀ j ∈ S, T.lev k < T.lev j) (hN : dst.view.dmaCredit = T.amt k) :
    iprop(T.records K ∗ levAts L T.lv ∗ cred (tallyAt (T.cell (c, k)) () (T.amt k)) ∗ T.ow c (T.owe S c) ∗ atPos ER (T.cell (c, k)) 0 ∅ 0)
      ⊢ iprop(((T.ow c (T.owe S c) ∗ T.pay c k ∗ semVal (T.cell (c, k)) 0) -∗ wp frame (wpE defs 𝒱 (c : Thread nD τ) none) Set.univ (kk ⟨⟩) Q)
          -∗ wp frame (wpE defs 𝒱 (c : Thread nD τ) none) Set.univ (.op (.waitDma2 sem src dst hsrc hdst) kk) Q) := by
  subst hs
  unfold ow
  iintro ⟨#HR, #Hlev, Hc, ⟨%W, HO⟩, Hat⟩ Hk
  iapply (Rounds.wp_wait_rest_token 𝒱 ER T.sched (c : Thread nD τ) none (κ := K (c, k))
      (wpE_waitDma2_eq 𝒱 (c : Thread nD τ) none Set.univ) (Set.mem_univ _) () (O := T.owe S c) (W := W) (R := 0) (m := 0) (T := ∅)
      (by rw [Nat.zero_add]; exact hN.trans (T.expect_cell (c, k)).symm)) $$ [Hc HO Hat]
  · isplitr; · iapply (T.records_inv K (c, k)); iexact HR
    isplitl [Hc]; · rw [hN]; iexact Hc
    isplitl [HO]; · iexact HO
    isplitr; · iapply (T.mayWait c k S hS); iexact Hlev
    iexact Hat
  iintro ⟨HO, Hat, -, Hpay⟩
  ihave Hp := (Entails.of_eq (T.rest_cell (c, k))) $$ Hpay
  iapply (fupd_wp frame (wpE defs 𝒱 (c : Thread nD τ) none) Set.univ _ _)
  imod (Rounds.cell_close ER T.sched (Set.mem_univ (K (c, k))) (fun h => h) (R := 0 + 1) (T.duties_later (T.cell (c, k)))) $$ [Hat] with Hz
  · isplitr; · iapply (T.records_inv K (c, k)); iexact HR
    iexact Hat
  imodintro
  iapply Hk
  isplitl [HO]; · iexists _; iexact HO
  isplitl [Hp] <;> iassumption

end Talk

end Cert.OneShot

end
-- ==== Proof.Slots.lean ====
/-
  A stack of eight blocks, seen block by block.

  The exchange kernels move whole blocks `M[p]` of a stacked array `M` of shape `8 × R × C`. `slot M p` is that view; the
  eight of them are disjoint and fill the array, so that the array's points-to is the eight blocks'. `landed` says what a
  copy leaves in a block when the block is known by what it is to read.
-/
module

public import Idealize.ShloMosaic.Lib.Pipeline.Kit
public import Idealize.ShloMosaic.Lib.ValueLayout
public import Idealize.ShloMosaic.Lib.Exec

@[expose] public section

noncomputable section

namespace Cert.Slots

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U]

local notation "𝕄" => MT nD τ sig Unit Val ℕ U ℕ

section Landed

variable {sp sp' : Space} {s : Shape} {e : EltTy}

/-- After a copy the destination's elements are as in any contents that read there what the source reads. -/
theorem landed {c c' : Dev nD} {src : Memref sig .tc sp s e} {dst : Memref sig .tc sp' s e}
    (fs : Buf Val (src.view.loc (c : Thread nD τ))) (fd g : Buf Val (dst.view.loc (c' : Thread nD τ)))
    (h : dst.view.read Val g = src.view.read Val fs) :
    ((dst.view.loc (c' : Thread nD τ) ↦[dst.view.set]{fullShare} (dst.view.write Val fd (src.view.read Val fs) Finset.univ)) : sProp 𝕄)
      = (dst.view.loc (c' : Thread nD τ) ↦[dst.view.set]{fullShare} g) := by
  refine pointsTo_congr fun i hi => ?_
  obtain ⟨x, -, rfl⟩ := Finset.mem_map.mp hi
  rw [View.write_emb_of_mem _ _ (Finset.mem_univ x), ← h, View.read_apply]
  simp

end Landed

variable {R C : ℕ} {e : EltTy} {sp : Space}

/-- The stack of eight blocks of `R × C`, one block of it, and a block. -/
abbrev Stack (R C : ℕ) : Shape := ⟨3, ![8, R, C]⟩
abbrev One (R C : ℕ) : Shape := ⟨3, ![1, R, C]⟩
abbrev Block (R C : ℕ) : Shape := ⟨2, ![R, C]⟩

theorem inb (p : Fin 8) : ∀ a, (![p.val, 0, 0] : Fin 3 → ℕ) a + (One R C).size a ≤ (Stack R C).size a := by
  intro a; have := p.isLt; fin_cases a
  · show p.val + 1 ≤ 8; omega
  · show 0 + R ≤ R; omega
  · show 0 + C ≤ C; omega

theorem squeezes_one (hq : (One R C).Squeezes (Block R C)) : (One R C).Squeezes (Block R C) := hq

variable (M : Memref sig .tc sp (Stack R C) e) (hq : (One R C).Squeezes (Block R C))

/-- Block `p`. -/
abbrev slot (p : Fin 8) : Memref sig .tc sp (Block R C) e :=
  (M.slice (Rect.unit (s := Stack R C) ![p.val, 0, 0] (One R C).size (inb p)) (fun _ => rfl)).squeeze (Block R C) hq

/-- A printed slice whose offsets are `(p, 0, 0)` is block `p`. -/
theorem slot_of_off (p : Fin 8) (off : Fin 3 → ℕ) (ho : off = ![p.val, 0, 0])
    (hi : ∀ a, off a + (One R C).size a ≤ (Stack R C).size a) :
    ((M.slice (Rect.unit (s := Stack R C) off (One R C).size hi) (fun _ => rfl)).squeeze (Block R C) hq) = slot M hq p := by
  subst ho; rfl

theorem slot_emb (p : Fin 8) (r : Fin R) (l : Fin C) :
    (slot M hq p).view.emb (ix2 r l) = M.view.emb (ix3 (n0 := 8) p r l) := by
  show M.view.emb ((Rect.unit (s := Stack R C) ![p.val, 0, 0] (One R C).size (inb p)).emb (Shape.reshapeEquiv _ (ix2 r l))) = _
  rw [reshapeEquiv_ix2_1ab]
  congr 1
  funext a
  apply Fin.ext
  fin_cases a
  · show p.val + 1 * 0 = p.val; omega
  · show 0 + 1 * r.val = r.val; omega
  · show 0 + 1 * l.val = l.val; omega

theorem slot_set (p : Fin 8) :
    (slot M hq p).view.set = (Rect.unit (s := Stack R C) ![p.val, 0, 0] (One R C).size (inb p)).set.map M.view.emb := by
  show ((M.view.slice _).reshape _ _).set = _
  rw [View.set_reshape, View.set_slice]

theorem slot_disjoint (p q : Fin 8) (h : p ≠ q) : Disjoint (slot M hq p).view.set (slot M hq q).view.set := by
  rw [slot_set, slot_set, Finset.disjoint_map]
  refine Rect.unit_disjoint (0 : Fin 3) ?_
  have : p.val ≠ q.val := fun h' => h (Fin.ext h')
  show p.val + 1 ≤ q.val ∨ q.val + 1 ≤ p.val
  omega

theorem slot_union : (Finset.univ.biUnion fun p : Fin 8 => (slot M hq p).view.set) = M.view.set := by
  ext i
  constructor
  · intro h
    obtain ⟨p, -, hp⟩ := Finset.mem_biUnion.mp h
    rw [slot_set] at hp
    obtain ⟨x, -, rfl⟩ := Finset.mem_map.mp hp
    exact View.emb_mem_set _ x
  · intro h
    obtain ⟨x, -, rfl⟩ := Finset.mem_map.mp h
    refine Finset.mem_biUnion.mpr ⟨x 0, Finset.mem_univ _, ?_⟩
    have hx : x = ix3 (n0 := 8) (n1 := R) (n2 := C) (x 0) (x 1) (x 2) := by funext a; fin_cases a <;> rfl
    have h2 := View.emb_mem_set (slot M hq (x 0)).view (ix2 (n0 := R) (n1 := C) (x 1) (x 2))
    have h3 := slot_emb M hq (x 0) (x 1) (x 2)
    rw [h3, ← hx] at h2
    exact h2

/-- The stack's points-to is its blocks'. -/
theorem slots_split (c : Dev nD) (q : PosShare TreeShare) (f : Buf Val (M.view.loc (c : Thread nD τ))) :
    ((M.view.loc (c : Thread nD τ) ↦[M.view.set]{q} f) : sProp 𝕄)
      = bigSep Finset.univ fun p : Fin 8 => (M.view.loc (c : Thread nD τ) ↦[(slot M hq p).view.set]{q} f : sProp 𝕄) := by
  have h := pointsTo_biUnion (Ix := Unit) (Name := ℕ) (U := U) (Lvl := ℕ) (q := q) (f := f) (ℓ := M.view.loc (c : Thread nD τ))
    (Finset.univ : Finset (Fin 8)) (fun p : Fin 8 => (slot M hq p).view.set) (fun p _ p' _ h => slot_disjoint M hq p p' h)
  have hu := slot_union M hq
  rw [← h]
  exact congrArg (fun S => (M.view.loc (c : Thread nD τ) ↦[S]{q} f : sProp 𝕄)) hu.symm

end Cert.Slots

end
-- ==== Proof.Peers.lean ====
/-
  Eight devices, seven peers, fifteen cells.

  Device `c` of the cube reaches its `j`-th peer by flipping the bits of `j + 1`. Each exchange has seven sending cells, seven
  receiving cells and one for the local copy. A kernel's body handles the peers in order: `rest i` are those from the `i`-th on
  and `done i` those before it.
-/
module

public import Idealize.ShloMosaic.Lib.Pipeline.Kit

@[expose] public section

noncomputable section

namespace Cert.Peers

open Idealize.SL Idealize.SL.RA Idealize.SL.BI
open scoped Idealize.SL.BI
open Idealize.SL.BI.BIBase Idealize.SL.BI.Laws Idealize.SL.ProofMode

/-! ### The peers -/

/-- The `j`-th peer of device `c`. -/
def peer (j : Fin 7) (c : Fin 8) : Fin 8 := ⟨(c.val ^^^ (j.val + 1)) % 8, Nat.mod_lt _ (by decide)⟩

theorem peer_peer : ∀ (j : Fin 7) (c : Fin 8), peer j (peer j c) = c := by decide
theorem peer_inj : ∀ (c : Fin 8), Function.Injective fun j => peer j c := by decide
theorem univ_peers : ∀ c : Fin 8, (Finset.univ : Finset (Fin 8)) = insert c (Finset.univ.map ⟨fun j => peer j c, peer_inj c⟩) := by decide
theorem not_peer : ∀ c : Fin 8, c ∉ Finset.univ.map ⟨fun j => peer j c, peer_inj c⟩ := by decide

/-- Flipping is a permutation of the devices. -/
def flip (j : Fin 7) : Fin 8 ≃ Fin 8 := ⟨peer j, peer j, peer_peer j, peer_peer j⟩

variable {M : Type} [URA M]

/-- Something for every device: for this one and for its peers. -/
theorem bigSep_peers (c : Fin 8) (Φ : Fin 8 → sProp M) :
    bigSep Finset.univ Φ = iprop(Φ c ∗ bigSep Finset.univ fun j : Fin 7 => Φ (peer j c)) := by
  rw [univ_peers c, bigSep_insert (not_peer c), bigSep_map]; rfl

/-! ### The order of the peers -/

def rest (i : ℕ) : Finset (Fin 7) := Finset.univ.filter fun j => i ≤ j.val
def done (i : ℕ) : Finset (Fin 7) := Finset.univ.filter fun j => j.val < i

theorem rest_zero : rest 0 = Finset.univ := by decide
theorem rest_end : rest 7 = ∅ := by decide
theorem done_zero : done 0 = ∅ := by decide
theorem done_end : done 7 = Finset.univ := by decide
theorem rest_step : ∀ j : Fin 7, rest j.val = insert j (rest (j.val + 1)) := by decide
theorem not_rest : ∀ j : Fin 7, j ∉ rest (j.val + 1) := by decide
theorem done_step : ∀ j : Fin 7, done (j.val + 1) = insert j (done j.val) := by decide
theorem not_done : ∀ j : Fin 7, j ∉ done j.val := by decide

theorem bigSep_rest (j : Fin 7) (Φ : Fin 7 → sProp M) : bigSep (rest j.val) Φ = iprop(Φ j ∗ bigSep (rest (j.val + 1)) Φ) := by
  rw [rest_step, bigSep_insert (not_rest j)]; rfl
theorem bigSep_done (j : Fin 7) (Φ : Fin 7 → sProp M) : bigSep (done (j.val + 1)) Φ = iprop(Φ j ∗ bigSep (done j.val) Φ) := by
  rw [done_step, bigSep_insert (not_done j)]; rfl

/-! ### The cells -/

/-- The cell of the `j`-th send's departure, of its arrival, and of the local copy. -/
def sendC (j : Fin 7) : Fin 15 := ⟨j.val, by omega⟩
def recvC (j : Fin 7) : Fin 15 := ⟨7 + j.val, by omega⟩
def homeC : Fin 15 := 14

theorem sendC_inj : Function.Injective sendC := by decide
theorem recvC_inj : Function.Injective recvC := by decide
abbrev sendE : Fin 7 ↪ Fin 15 := ⟨sendC, sendC_inj⟩
abbrev recvE : Fin 7 ↪ Fin 15 := ⟨recvC, recvC_inj⟩

theorem univ_cells : (Finset.univ : Finset (Fin 15)) = Finset.univ.map sendE ∪ (Finset.univ.map recvE ∪ {homeC}) := by decide

/-- Something for every cell. -/
theorem bigSep_cells (Φ : Fin 15 → sProp M) :
    bigSep Finset.univ Φ = iprop((bigSep Finset.univ fun j => Φ (sendC j)) ∗ (bigSep Finset.univ fun j => Φ (recvC j)) ∗ Φ homeC) := by
  rw [univ_cells, bigSep_union (by decide), bigSep_union (by decide), bigSep_map, bigSep_map, bigSep_singleton]; rfl

/-- The receiving cells of the peers still to be served. -/
def recvRest (i : ℕ) : Finset (Fin 15) := (rest i).map recvE
theorem recvRest_step (j : Fin 7) : recvRest j.val = insert (recvC j) (recvRest (j.val + 1)) := by
  unfold recvRest; rw [rest_step, Finset.map_insert]; rfl
theorem not_recvRest : ∀ j : Fin 7, recvC j ∉ recvRest (j.val + 1) := by decide
theorem recvRest_end : recvRest 7 = ∅ := by decide

/-- A value for each kind of cell. -/
def byCell {α : Sort*} (f g : Fin 7 → α) (h : α) (k : Fin 15) : α :=
  if hs : k.val < 7 then f ⟨k.val, hs⟩ else if hr : k.val < 14 then g ⟨k.val - 7, by omega⟩ else h
variable {α : Sort*} (f g : Fin 7 → α) (h : α)
theorem byCell_send (j : Fin 7) : byCell f g h (sendC j) = f j := dif_pos j.isLt
theorem byCell_recv (j : Fin 7) : byCell f g h (recvC j) = g j := by
  unfold byCell recvC
  have := j.isLt
  rw [dif_neg (by simp), dif_pos (by simp; omega)]
  congr 1; apply Fin.ext; simp
theorem byCell_home : byCell f g h homeC = h := rfl

end Cert.Peers

end
-- ==== Proof.AllToAll.lean ====
/-
  The exchange of the gradients: device `c` sends block `p` of its stack to device `p`, which stores it as block `c`.

  The protocol has fifteen cells a device, each credited once. The departure of a send gives back the block that it read. The
  arrival at device `d` of its `j`-th peer's send hands over block `peer j d` of `d`'s result, with that peer's block `d` in
  it. No device waits before it has sent everything, so nothing is owed at any wait. Before the launch every device's result
  is dealt, block by block, to the devices that write it.
-/
module

public import proofs.«01_k».proof.Proof.OneShot
public import proofs.«01_k».proof.Proof.Slots
public import proofs.«01_k».proof.Proof.Peers
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.AllToAll

open Cert.KernelIdeal Cert.KernelIdeal.Gen Cert.OneShot Cert.Slots Cert.Peers
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

/-! ### The arrays and their blocks -/

/-- What the devices send: the launch's arguments. -/
abbrev Sent (F : FTy → Type) : Type := (c : Dev nD) → Buf (Elt F) ((c : Thread nD τ).loc main_arg0)
/-- Contents of the devices' results. -/
abbrev Got (F : FTy → Type) : Type := (c : Dev nD) → Buf (Elt F) ((c : Thread nD τ).loc main_v1)

abbrev xM : Memref sig .tc .hbm S8x6656x1024 .bf16 := Memref.whole main_arg0
abbrev oM : Memref sig .tc .hbm S8x6656x1024 .bf16 := Memref.whole main_v1
abbrev xS (p : Fin 8) : Memref sig .tc .hbm S6656x1024 .bf16 := slot xM squeezes_S1x6656x1024_S6656x1024 p
abbrev oS (p : Fin 8) : Memref sig .tc .hbm S6656x1024 .bf16 := slot oM squeezes_S1x6656x1024_S6656x1024 p

/-- What device `d` ends with: block `p` is device `p`'s block `d`. -/
def got (X : Sent F) : Got F := fun d (i : S8x6656x1024.Idx) => X (i 0) (ix3 (n0 := 8) (n1 := 6656) (n2 := 1024) d (i 1) (i 2))

/-- Block `p` of what `c` sends, and of what `d` receives. -/
def xPts (X : Sent F) (c : Dev nD) (p : Fin 8) : sProp 𝕄 := (xS p).view.loc (c : Thread nD τ) ↦[(xS p).view.set]{fullShare} X c
def oPts (G : Got F) (d : Dev nD) (p : Fin 8) : sProp 𝕄 := (oS p).view.loc (d : Thread nD τ) ↦[(oS p).view.set]{fullShare} G d

theorem x_split (X : Sent F) (c : Dev nD) :
    ((c : Thread nD τ).loc main_arg0 ↦{fullShare} X c : sProp 𝕄) = bigSep Finset.univ (xPts X c) := by
  have h := slots_split (nD := nD) (τ := τ) (Val := Elt F) (U := UU nD τ sig) xM squeezes_S1x6656x1024_S6656x1024 c fullShare (X c)
  rw [View.set_whole] at h
  exact h
theorem o_split (G : Got F) (d : Dev nD) :
    ((d : Thread nD τ).loc main_v1 ↦{fullShare} G d : sProp 𝕄) = bigSep Finset.univ (oPts G d) := by
  have h := slots_split (nD := nD) (τ := τ) (Val := Elt F) (U := UU nD τ sig) oM squeezes_S1x6656x1024_S6656x1024 d fullShare (G d)
  rw [View.set_whole] at h
  exact h

/-- Device `c`'s block `d`, copied to device `d`'s block `c`, is what device `d` should have there. -/
theorem read_got (X : Sent F) (c d : Dev nD) : (oS c).view.read (Elt F) (got X d) = (xS d).view.read (Elt F) (X c) := by
  funext i
  obtain ⟨r, l, rfl⟩ : ∃ (r : Fin 6656) (l : Fin 1024), i = ix2 r l := ⟨i 0, i 1, by funext a; fin_cases a <;> rfl⟩
  rw [View.read_apply, View.read_apply, slot_emb, slot_emb]
  rfl

theorem landed_got (X : Sent F) (c d : Dev nD) (fd : Buf (Elt F) ((oS c).view.loc (d : Thread nD τ))) :
    ((oS c).view.loc (d : Thread nD τ) ↦[(oS c).view.set]{fullShare} ((oS c).view.write (Elt F) fd ((xS d).view.read (Elt F) (X c)) Finset.univ) : sProp 𝕄)
      = oPts (got X) d c := by
  unfold oPts
  exact landed (nD := nD) (τ := τ) (U := UU nD τ sig) (c := c) (c' := d) (src := xS d) (dst := oS c) (X c) fd (got X d) (read_got X c d)

/-! ### The protocol -/

/-- The credit of one block's transfer. -/
def credit : ℕ := (oS 0).view.dmaCredit
theorem credit_o (p : Fin 8) : (oS p).view.dmaCredit = credit := rfl
theorem credit_x (p : Fin 8) : (xS p).view.dmaCredit = credit := rfl

theorem credit_of_o (p : Fin 8) {M : Memref sig .tc .hbm S6656x1024 .bf16} (h : M = oS p) : M.view.dmaCredit = credit := by
  subst h; exact credit_o p
theorem credit_of_x (p : Fin 8) {M : Memref sig .tc .hbm S6656x1024 .bf16} (h : M = xS p) : M.view.dmaCredit = credit := by
  subst h; exact credit_x p

def payload (X : Sent F) (d : Dev nD) : Fin 15 → sProp 𝕄 :=
  byCell (fun j => xPts X d (peer j d)) (fun j => oPts (got X) d (peer j d)) iprop(xPts X d d ∗ oPts (got X) d d)

def talk (X : Sent F) : Talk nD τ sig (Elt F) 15 where
  sem k := ⟨k.val, by have := k.isLt; show k.val < 31; omega⟩
  sem_inj a b h := Fin.ext (Fin.mk.inj h)
  amt _ := credit
  amt_pos _ := View.dmaCredit_pos _ (by decide)
  lev _ := 0
  dest := byCell (fun _ => Equiv.refl _) (fun j => Peers.flip j) (Equiv.refl _)
  remote := recvRest 0
  pay := payload X
  stor d k := by
    unfold payload byCell xPts oPts
    split
    · infer_instance
    · split <;> infer_instance

variable (X : Sent F)

theorem amt_eq (k : Fin 15) : (talk X).amt k = credit := rfl
theorem routes_peer : ∀ (j : Fin 7) (c : Dev nD), τ.routes (c : Thread nD τ) (peer j c : Thread nD τ) = true := by decide
theorem dest_send (j : Fin 7) (c : Dev nD) : (talk X).dest (sendC j) c = c := by
  show (byCell (fun _ => Equiv.refl (Dev nD)) (fun j => Peers.flip j) (Equiv.refl (Dev nD)) (sendC j)) c = c
  rw [byCell_send]; rfl
theorem dest_recv (j : Fin 7) (c : Dev nD) : (talk X).dest (recvC j) c = peer j c := by
  show (byCell (fun _ => Equiv.refl (Dev nD)) (fun j => Peers.flip j) (Equiv.refl (Dev nD)) (recvC j)) c = peer j c
  rw [byCell_recv]; rfl
theorem dest_home (c : Dev nD) : (talk X).dest homeC c = c := rfl
theorem pay_send (d : Dev nD) (j : Fin 7) : (talk X).pay d (sendC j) = xPts X d (peer j d) := by
  show payload X d (sendC j) = _; unfold payload; rw [byCell_send]
theorem pay_recv (d : Dev nD) (j : Fin 7) : (talk X).pay d (recvC j) = oPts (got X) d (peer j d) := by
  show payload X d (recvC j) = _; unfold payload; rw [byCell_recv]
theorem pay_home (d : Dev nD) : (talk X).pay d homeC = iprop(xPts X d d ∗ oPts (got X) d d) := rfl

/-! ### The body's states -/

variable (G₀ : Got F) (K : Dev nD × Fin 15 → ℕ) (c : Dev nD)

/-- Before the send to the `i`-th peer: what the remaining sends take, and the departures' credits so far. -/
def Sending (i : ℕ) : sProp 𝕄 :=
  iprop((talk X).ow c ((talk X).owe (recvRest i) c)
    ∗ (bigSep (rest i) fun j => iprop(xPts X c (peer j c) ∗ oPts G₀ (peer j c) c
        ∗ dutyTok ER ((talk X).cell ((talk X).dest (sendC j) c, sendC j)) 0 () ∗ dutyTok ER ((talk X).cell ((talk X).dest (recvC j) c, recvC j)) 0 ()))
    ∗ bigSep (done i) fun j => cred (tallyAt ((talk X).cell (c, sendC j)) () credit))

/-- Before the wait on the `i`-th of the cells `cc`: the credits and positions of the others, the payloads so far. -/
def Waiting (cc : Fin 7 → Fin 15) (i : ℕ) : sProp 𝕄 :=
  iprop((talk X).ow c ((talk X).owe ∅ c)
    ∗ (bigSep (rest i) fun j => iprop(cred (tallyAt ((talk X).cell (c, cc j)) () credit) ∗ atPos ER ((talk X).cell (c, cc j)) 0 ∅ 0))
    ∗ bigSep (done i) fun j => iprop((talk X).pay c (cc j) ∗ semVal ((talk X).cell (c, cc j)) 0))

theorem sending_last : Sending X G₀ c ((6 : Fin 7).val + 1) = iprop((talk X).ow c ((talk X).owe ∅ c)
    ∗ emp ∗ bigSep Finset.univ fun j => cred (tallyAt ((talk X).cell (c, sendC j)) () credit)) := by
  show Sending X G₀ c 7 = _
  unfold Sending; rw [recvRest_end, rest_end, done_end, bigSep_empty]; rfl
theorem waiting_first (cc : Fin 7 → Fin 15) : Waiting X c cc 0 = iprop((talk X).ow c ((talk X).owe ∅ c)
    ∗ (bigSep Finset.univ fun j => iprop(cred (tallyAt ((talk X).cell (c, cc j)) () credit) ∗ atPos ER ((talk X).cell (c, cc j)) 0 ∅ 0)) ∗ emp) := by
  unfold Waiting; rw [rest_zero, done_zero, bigSep_empty]; rfl
theorem waiting_last (cc : Fin 7 → Fin 15) : Waiting X c cc ((6 : Fin 7).val + 1) = iprop((talk X).ow c ((talk X).owe ∅ c)
    ∗ emp ∗ bigSep Finset.univ fun j => iprop((talk X).pay c (cc j) ∗ semVal ((talk X).cell (c, cc j)) 0)) := by
  show Waiting X c cc 7 = _
  unfold Waiting; rw [rest_end, done_end, bigSep_empty]; rfl

/-! ### The body's steps -/

variable (𝒱 : Variants)

local notation "dd" => defs₀ (F := F)

/-- The send to the `j`-th peer. -/
theorem send_step (j : Fin 7) {p : Dev nD} {src dst : Memref sig .tc .hbm S6656x1024 .bf16} (hs : src = xS (peer j c)) (hd : dst = oS c)
    (hp : p = peer j c) {sS sR : DmaSem sig} (hsS : sS = (talk X).sem (sendC j)) (hsR : sR = (talk X).sem (recvC j))
    {hsc : (dst : Memref sig (Dev.tc p : Thread nD τ).2.kind .hbm S6656x1024 .bf16).view.ref.isScScratch = false}
    {hsrc : src.view.WordExact} {hdst : dst.view.WordExact}
    {hsem : DmaTarget.Typed .hbm (.dma sR) (.remote (Dev.tc p : Thread nD τ) (dst : Memref sig (Dev.tc p : Thread nD τ).2.kind .hbm S6656x1024 .bf16) (.dma sS) hsc)}
    {α : Type} {kk : PUnit → Prog (TpuEff nD τ sig (Elt F) Λ₀ .tc) α} {Q : α → sProp 𝕄} :
    iprop((talk X).records K ∗ Sending X G₀ c j.val)
      ⊢ iprop((Sending X G₀ c (j.val + 1) -∗ wp frame (wpE dd 𝒱 (c : Thread nD τ) none) Set.univ (kk ⟨⟩) Q)
          -∗ wp frame (wpE dd 𝒱 (c : Thread nD τ) none) Set.univ
              (.op (.enqueueDma src (.remote (Dev.tc p : Thread nD τ) (dst : Memref sig (Dev.tc p : Thread nD τ).2.kind .hbm S6656x1024 .bf16) (.dma sS) hsc) (.dma sR) hsrc hdst hsem) kk) Q) := by
  subst hs hd hp
  have hland := landed_got X c (peer j c) (G₀ (peer j c))
  have hpay : oPts (got X) (peer j c) c = (talk X).pay (peer j c) (recvC j) := by rw [pay_recv, peer_peer]
  have hx : ((xS (peer j c)).view.loc (c : Thread nD τ) ↦[(xS (peer j c)).view.set]{fullShare} X c : sProp 𝕄) ⊢ (talk X).pay c (sendC j) := by
    rw [pay_send]; unfold xPts; exact BI.Entails.refl _
  unfold Sending
  rw [recvRest_step, bigSep_rest, bigSep_done]
  iintro ⟨#HR, HO, ⟨⟨Hx, Ho, Ht, Ht'⟩, Hrest⟩, Hdone⟩ Hk
  iapply ((talk X).wp_send (src := xS (peer j c)) (dst := oS c) (q := fullShare) dd 𝒱 K c (peer j c) (sendC j) (recvC j) (dest_recv X j c).symm (dest_send X j c) hsS hsR
      (not_recvRest j) (X c) (G₀ (peer j c)) ((credit_o c).trans (amt_eq X _).symm) ((amt_eq X _).trans (amt_eq X _).symm) hx
      (Entails.of_eq (hland.trans hpay)) (routes_peer j c)) $$ [HO Hx Ho Ht Ht']
  · isplitr; · iexact HR
    isplitl [Hx]; · unfold xPts; iexact Hx
    isplitl [Ho]; · unfold oPts; iexact Ho
    isplitl [HO]; · iexact HO
    isplitl [Ht] <;> iassumption
  iintro ⟨Hc, HO⟩
  iapply Hk
  isplitl [HO]; · iexact HO
  isplitl [Hrest]; · iexact Hrest
  isplitl [Hc]; · iexact Hc
  iexact Hdone

/-- The device's own block, copied at home. -/
theorem home_step {src dst : Memref sig .tc .hbm S6656x1024 .bf16} (hs : src = xS c) (hd : dst = oS c)
    {sem : DmaSem sig} (hsem' : sem = (talk X).sem homeC)
    {hsrc : src.view.WordExact} {hdst : dst.view.WordExact} {hsem : DmaTarget.Typed (nD := nD) .hbm (.dma sem) (DmaTarget.here (τ := τ) (p := Proc.tc) dst)}
    {α : Type} {kk : PUnit → Prog (TpuEff nD τ sig (Elt F) Λ₀ .tc) α} {Q : α → sProp 𝕄} :
    iprop((talk X).records K ∗ xPts X c c ∗ oPts G₀ c c ∗ dutyTok ER ((talk X).cell ((talk X).dest homeC c, homeC)) 0 ())
      ⊢ iprop((cred (tallyAt ((talk X).cell (c, homeC)) () credit) -∗ wp frame (wpE dd 𝒱 (c : Thread nD τ) none) Set.univ (kk ⟨⟩) Q)
          -∗ wp frame (wpE dd 𝒱 (c : Thread nD τ) none) Set.univ (.op (.enqueueDma src (.here dst) (.dma sem) hsrc hdst hsem) kk) Q) := by
  subst hs hd
  have hland := landed_got X c c (G₀ c)
  have hpay : iprop(((oS c).view.loc (c : Thread nD τ) ↦[(oS c).view.set]{fullShare} ((oS c).view.write (Elt F) (G₀ c) ((xS c).view.read (Elt F) (X c)) Finset.univ))
      ∗ ((xS c).view.loc (c : Thread nD τ) ↦[(xS c).view.set]{fullShare} X c)) ⊢ (talk X).pay c homeC := by
    rw [pay_home, hland]; unfold xPts
    iintro ⟨Ho, Hx⟩
    isplitl [Hx] <;> iassumption
  iintro ⟨#HR, Hx, Ho, Ht⟩ Hk
  iapply ((talk X).wp_copy (src := xS c) (dst := oS c) (q := fullShare) dd 𝒱 K c homeC (dest_home X c) hsem' (X c) (G₀ c)
      ((credit_o c).trans (amt_eq X _).symm) hpay) $$ [Hx Ho Ht]
  · isplitr; · iexact HR
    isplitl [Hx]; · unfold xPts; iexact Hx
    isplitl [Ho]; · unfold oPts; iexact Ho
    iexact Ht
  iexact Hk

/-- The wait on the `j`-th of the cells `cc`. -/
theorem wait_step (cc : Fin 7 → Fin 15) (j : Fin 7) {src dst : Memref sig .tc .hbm S6656x1024 .bf16} (hN : dst.view.dmaCredit = credit)
    {sem : DmaSem sig} (hs : sem = (talk X).sem (cc j)) {hsrc : src.view.WordExact} {hdst : dst.view.WordExact}
    {α : Type} {kk : PUnit → Prog (TpuEff nD τ sig (Elt F) Λ₀ .tc) α} {Q : α → sProp 𝕄} :
    iprop((talk X).records K ∗ levAts Talk.L (talk X).lv ∗ Waiting X c cc j.val)
      ⊢ iprop((Waiting X c cc (j.val + 1) -∗ wp frame (wpE dd 𝒱 (c : Thread nD τ) none) Set.univ (kk ⟨⟩) Q)
          -∗ wp frame (wpE dd 𝒱 (c : Thread nD τ) none) Set.univ (.op (.waitDma2 sem src dst hsrc hdst) kk) Q) := by
  unfold Waiting
  rw [bigSep_rest, bigSep_done]
  iintro ⟨#HR, #Hlev, HO, ⟨⟨Hc, Hat⟩, Hrest⟩, Hdone⟩ Hk
  iapply ((talk X).wp_wait dd 𝒱 K c (cc j) hs ∅ (fun _ h => absurd h (Finset.notMem_empty _)) (hN.trans (amt_eq X _).symm)) $$ [HO Hc Hat]
  · isplitr; · iexact HR
    isplitr; · iexact Hlev
    isplitl [Hc]; · iexact Hc
    isplitl [HO] <;> iassumption
  iintro ⟨HO, Hp, Hz⟩
  iapply Hk
  isplitl [HO]; · iexact HO
  isplitl [Hrest]; · iexact Hrest
  isplitl [Hp Hz]; · isplitl [Hp] <;> iassumption
  iexact Hdone

/-! ### The body -/

theorem off_me : ∀ c : Dev nD, k0_off1 c = ![c.val, 0, 0] := fun c => (k0_off1_eq c).trans (by revert c; decide)
theorem off_peer0 : ∀ c : Dev nD, k0_off2 c = ![(peer 0 c).val, 0, 0] := fun c => (k0_off2_eq c).trans (by revert c; decide)
theorem dev_peer0 (c : Dev nD) : (⟨k0_dev1 c, k0_dev1_lt c⟩ : Dev nD) = peer 0 c := Fin.ext ((k0_dev1_eq c).trans (by revert c; decide))
theorem off_peer1 : ∀ c : Dev nD, k0_off3 c = ![(peer 1 c).val, 0, 0] := fun c => (k0_off3_eq c).trans (by revert c; decide)
theorem dev_peer1 (c : Dev nD) : (⟨k0_dev2 c, k0_dev2_lt c⟩ : Dev nD) = peer 1 c := Fin.ext ((k0_dev2_eq c).trans (by revert c; decide))
theorem off_peer2 : ∀ c : Dev nD, k0_off4 c = ![(peer 2 c).val, 0, 0] := fun c => (k0_off4_eq c).trans (by revert c; decide)
theorem dev_peer2 (c : Dev nD) : (⟨k0_dev3 c, k0_dev3_lt c⟩ : Dev nD) = peer 2 c := Fin.ext ((k0_dev3_eq c).trans (by revert c; decide))
theorem off_peer3 : ∀ c : Dev nD, k0_off5 c = ![(peer 3 c).val, 0, 0] := fun c => (k0_off5_eq c).trans (by revert c; decide)
theorem dev_peer3 (c : Dev nD) : (⟨k0_dev4 c, k0_dev4_lt c⟩ : Dev nD) = peer 3 c := Fin.ext ((k0_dev4_eq c).trans (by revert c; decide))
theorem off_peer4 : ∀ c : Dev nD, k0_off6 c = ![(peer 4 c).val, 0, 0] := fun c => (k0_off6_eq c).trans (by revert c; decide)
theorem dev_peer4 (c : Dev nD) : (⟨k0_dev5 c, k0_dev5_lt c⟩ : Dev nD) = peer 4 c := Fin.ext ((k0_dev5_eq c).trans (by revert c; decide))
theorem off_peer5 : ∀ c : Dev nD, k0_off7 c = ![(peer 5 c).val, 0, 0] := fun c => (k0_off7_eq c).trans (by revert c; decide)
theorem dev_peer5 (c : Dev nD) : (⟨k0_dev6 c, k0_dev6_lt c⟩ : Dev nD) = peer 5 c := Fin.ext ((k0_dev6_eq c).trans (by revert c; decide))
theorem off_peer6 : ∀ c : Dev nD, k0_off8 c = ![(peer 6 c).val, 0, 0] := fun c => (k0_off8_eq c).trans (by revert c; decide)
theorem dev_peer6 (c : Dev nD) : (⟨k0_dev7 c, k0_dev7_lt c⟩ : Dev nD) = peer 6 c := Fin.ext ((k0_dev7_eq c).trans (by revert c; decide))

end Cert.AllToAll

end
-- ==== Proof.AllToAllBody.lean ====
/-
  The body of the gradients' exchange, run once at an arbitrary device: the copy at home, the seven sends, the waits for the
  seven arrivals and departures, and the wait for the copy at home. Its end: the device's argument as it was, and its result
  `got X c`.
-/
module

public import proofs.«01_k».proof.Proof.AllToAll

@[expose] public section

noncomputable section

namespace Cert.AllToAll

open Cert.KernelIdeal Cert.KernelIdeal.Gen Cert.OneShot Cert.Slots Cert.Peers
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ
local notation "dd" => defs₀ (F := F)

variable (X : Sent F) (G₀ : Got F) (K : Dev nD × Fin 15 → ℕ) (c : Dev nD) (𝒱 : Variants)

/-- What the sends start from: the tokens, the blocks to send, and the blocks of the peers' results to fill. -/
theorem sending_first :
    iprop((talk X).ow c ((talk X).owe (talk X).remote c)
      ∗ (bigSep Finset.univ fun j => xPts X c (peer j c)) ∗ (bigSep Finset.univ fun j => oPts G₀ (peer j c) c)
      ∗ (bigSep Finset.univ fun j => dutyTok ER ((talk X).cell ((talk X).dest (sendC j) c, sendC j)) 0 ())
      ∗ (bigSep Finset.univ fun j => dutyTok ER ((talk X).cell ((talk X).dest (recvC j) c, recvC j)) 0 ()))
    ⊢ (Sending X G₀ c 0 : sProp 𝕄) := by
  unfold Sending
  rw [rest_zero, done_zero, bigSep_empty]
  simp only [bigSep_sep']
  iintro ⟨HO, Hx, Ho, Ht, Ht'⟩
  isplitl [HO]; · iexact HO
  isplitl [Hx Ho Ht Ht']
  · isplitl [Hx]; · iexact Hx
    isplitl [Ho]; · iexact Ho
    isplitl [Ht] <;> iassumption
  iempintro

/-- What the waits on the cells `cc` start from. -/
theorem waiting_start (cc : Fin 7 → Fin 15) :
    iprop((talk X).ow c ((talk X).owe ∅ c) ∗ (bigSep Finset.univ fun j => cred (tallyAt ((talk X).cell (c, cc j)) () credit))
      ∗ (bigSep Finset.univ fun j => atPos ER ((talk X).cell (c, cc j)) 0 ∅ 0))
    ⊢ (Waiting X c cc 0 : sProp 𝕄) := by
  rw [waiting_first]
  simp only [bigSep_sep']
  iintro ⟨HO, Hc, Hp⟩
  isplitl [HO]; · iexact HO
  isplitl [Hc Hp]
  · isplitl [Hc] <;> iassumption
  iempintro

/-- The body's end: everything is back. -/
theorem finish :
    iprop((bigSep Finset.univ fun j => iprop((talk X).pay c (recvC j) ∗ semVal ((talk X).cell (c, recvC j)) 0))
      ∗ (bigSep Finset.univ fun j => iprop((talk X).pay c (sendC j) ∗ semVal ((talk X).cell (c, sendC j)) 0))
      ∗ (talk X).pay c homeC ∗ semVal ((talk X).cell (c, homeC)) 0)
    ⊢ (iprop(((c : Thread nD τ).loc main_arg0 ↦{fullShare} X c) ∗ ((c : Thread nD τ).loc main_v1 ↦{fullShare} got X c)
        ∗ Pipeline.ownSems0 (talk X).osem c) : sProp 𝕄) := by
  rw [x_split, o_split, bigSep_peers c (xPts X c), bigSep_peers c (oPts (got X) c), pay_home]
  unfold Pipeline.ownSems0
  rw [bigSep_cells]
  simp only [bigSep_sep', pay_recv, pay_send]
  iintro ⟨⟨Hor, Hzr⟩, ⟨Hxs, Hzs⟩, ⟨Hx, Ho⟩, Hz⟩
  isplitl [Hx Hxs]; · isplitl [Hx] <;> iassumption
  isplitl [Ho Hor]; · isplitl [Ho] <;> iassumption
  isplitl [Hzs]; · iexact Hzs
  isplitl [Hzr] <;> iassumption

set_option maxRecDepth 8000 in
/-- THE BODY. -/
theorem body_run (Q : PUnit → sProp 𝕄) :
    iprop((talk X).records K ∗ levAts Talk.L (talk X).lv ∗ (talk X).positions c ∗ (talk X).payToks c
      ∗ (talk X).ow c ((talk X).owe (talk X).remote c)
      ∗ (bigSep (talk X).remote fun k => cred (tallyAt ((talk X).cell (c, k)) () ((talk X).amt k)))
      ∗ ((c : Thread nD τ).loc main_arg0 ↦{fullShare} X c) ∗ (bigSep Finset.univ fun d => oPts G₀ d c))
    ⊢ iprop((((talk X).ow c ((talk X).owe ∅ c) ∗ ((c : Thread nD τ).loc main_arg0 ↦{fullShare} X c)
          ∗ ((c : Thread nD τ).loc main_v1 ↦{fullShare} got X c) ∗ Pipeline.ownSems0 (talk X).osem c) -∗ Q ⟨⟩)
        -∗ wp frame (wpE dd 𝒱 (c : Thread nD τ) none) Set.univ (bodyAt0 (F := F) t0_0) Q) := by
  have hrem : (talk X).remote = Finset.univ.map recvE := congrArg (fun s => Finset.map recvE s) rest_zero
  simp only [bodyAt0, cc0_scatter_grads_eq_skeleton]
  unfold cc0_scatter_grads_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel,
    Prog.lift, Prog.bind_op, Prog.bind_ret, Prog.pure_eq_ret, wp_deviceId]
  unfold Talk.positions Talk.payToks
  rw [bigSep_cells, bigSep_cells, bigSep_peers c (fun d => oPts G₀ d c)]
  iintro ⟨#HR, #Hlev, ⟨Hps, Hpr, Hph⟩, ⟨Hts, Htr, Hth⟩, HO, Hcr, Hx, ⟨Ho, Hos⟩⟩ Hk
  ihave Hx := (Entails.of_eq ((x_split X c).trans (bigSep_peers c (xPts X c)))) $$ Hx
  icases Hx with ⟨Hx, Hxs⟩
  iapply (home_step X G₀ K c 𝒱 (slot_of_off xM _ c _ (off_me c) _) (slot_of_off oM _ c _ (off_me c) _) rfl) $$ [Hx Ho Hth]
  · isplitr; · iexact HR
    isplitl [Hx]; · iexact Hx
    isplitl [Ho] <;> iassumption
  iintro Hch
  ihave HS := (sending_first X G₀ c) $$ [HO Hxs Hos Hts Htr]
  · isplitl [HO]; · iexact HO
    isplitl [Hxs]; · iexact Hxs
    isplitl [Hos]; · iexact Hos
    isplitl [Hts] <;> iassumption
  iapply (send_step X G₀ K c 𝒱 0 (slot_of_off xM _ (peer 0 c) _ (off_peer0 c) _) (slot_of_off oM _ c _ (off_me c) _) (dev_peer0 c) rfl rfl) $$ [HS]
  · isplitr; · iexact HR
    iexact HS
  iintro HS
  iapply (send_step X G₀ K c 𝒱 1 (slot_of_off xM _ (peer 1 c) _ (off_peer1 c) _) (slot_of_off oM _ c _ (off_me c) _) (dev_peer1 c) rfl rfl) $$ [HS]
  · isplitr; · iexact HR
    iexact HS
  iintro HS
  iapply (send_step X G₀ K c 𝒱 2 (slot_of_off xM _ (peer 2 c) _ (off_peer2 c) _) (slot_of_off oM _ c _ (off_me c) _) (dev_peer2 c) rfl rfl) $$ [HS]
  · isplitr; · iexact HR
    iexact HS
  iintro HS
  iapply (send_step X G₀ K c 𝒱 3 (slot_of_off xM _ (peer 3 c) _ (off_peer3 c) _) (slot_of_off oM _ c _ (off_me c) _) (dev_peer3 c) rfl rfl) $$ [HS]
  · isplitr; · iexact HR
    iexact HS
  iintro HS
  iapply (send_step X G₀ K c 𝒱 4 (slot_of_off xM _ (peer 4 c) _ (off_peer4 c) _) (slot_of_off oM _ c _ (off_me c) _) (dev_peer4 c) rfl rfl) $$ [HS]
  · isplitr; · iexact HR
    iexact HS
  iintro HS
  iapply (send_step X G₀ K c 𝒱 5 (slot_of_off xM _ (peer 5 c) _ (off_peer5 c) _) (slot_of_off oM _ c _ (off_me c) _) (dev_peer5 c) rfl rfl) $$ [HS]
  · isplitr; · iexact HR
    iexact HS
  iintro HS
  iapply (send_step X G₀ K c 𝒱 6 (slot_of_off xM _ (peer 6 c) _ (off_peer6 c) _) (slot_of_off oM _ c _ (off_me c) _) (dev_peer6 c) rfl rfl) $$ [HS]
  · isplitr; · iexact HR
    iexact HS
  iintro HS
  ihave HS := (Entails.of_eq (sending_last X G₀ c)) $$ HS
  icases HS with ⟨HO, -, Hcs⟩
  ihave Hcr := (Entails.of_eq (show (bigSep (talk X).remote fun k => cred (tallyAt ((talk X).cell (c, k)) () ((talk X).amt k)) : sProp 𝕄)
    = bigSep Finset.univ fun j => cred (tallyAt ((talk X).cell (c, recvC j)) () credit) from by rw [hrem, bigSep_map]; rfl)) $$ Hcr
  ihave HW := (waiting_start X c recvC) $$ [HO Hcr Hpr]
  · isplitl [HO]; · iexact HO
    isplitl [Hcr] <;> iassumption
  iapply (wait_step X K c 𝒱 recvC 0 (credit_of_o c (slot_of_off oM _ c _ (off_me c) _)) rfl) $$ [HW]
  · isplitr; · iexact HR
    isplitr; · iexact Hlev
    iexact HW
  iintro HW
  iapply (wait_step X K c 𝒱 recvC 1 (credit_of_o c (slot_of_off oM _ c _ (off_me c) _)) rfl) $$ [HW]
  · isplitr; · iexact HR
    isplitr; · iexact Hlev
    iexact HW
  iintro HW
  iapply (wait_step X K c 𝒱 recvC 2 (credit_of_o c (slot_of_off oM _ c _ (off_me c) _)) rfl) $$ [HW]
  · isplitr; · iexact HR
    isplitr; · iexact Hlev
    iexact HW
  iintro HW
  iapply (wait_step X K c 𝒱 recvC 3 (credit_of_o c (slot_of_off oM _ c _ (off_me c) _)) rfl) $$ [HW]
  · isplitr; · iexact HR
    isplitr; · iexact Hlev
    iexact HW
  iintro HW
  iapply (wait_step X K c 𝒱 recvC 4 (credit_of_o c (slot_of_off oM _ c _ (off_me c) _)) rfl) $$ [HW]
  · isplitr; · iexact HR
    isplitr; · iexact Hlev
    iexact HW
  iintro HW
  iapply (wait_step X K c 𝒱 recvC 5 (credit_of_o c (slot_of_off oM _ c _ (off_me c) _)) rfl) $$ [HW]
  · isplitr; · iexact HR
    isplitr; · iexact Hlev
    iexact HW
  iintro HW
  iapply (wait_step X K c 𝒱 recvC 6 (credit_of_o c (slot_of_off oM _ c _ (off_me c) _)) rfl) $$ [HW]
  · isplitr; · iexact HR
    isplitr; · iexact Hlev
    iexact HW
  iintro HW
  ihave HW := (Entails.of_eq (waiting_last X c recvC)) $$ HW
  icases HW with ⟨HO, -, Hfr⟩
  ihave HW := (waiting_start X c sendC) $$ [HO Hcs Hps]
  · isplitl [HO]; · iexact HO
    isplitl [Hcs] <;> iassumption
  iapply (wait_step X K c 𝒱 sendC 0 (credit_of_x (peer 0 c) (slot_of_off xM _ (peer 0 c) _ (off_peer0 c) _)) rfl) $$ [HW]
  · isplitr; · iexact HR
    isplitr; · iexact Hlev
    iexact HW
  iintro HW
  iapply (wait_step X K c 𝒱 sendC 1 (credit_of_x (peer 1 c) (slot_of_off xM _ (peer 1 c) _ (off_peer1 c) _)) rfl) $$ [HW]
  · isplitr; · iexact HR
    isplitr; · iexact Hlev
    iexact HW
  iintro HW
  iapply (wait_step X K c 𝒱 sendC 2 (credit_of_x (peer 2 c) (slot_of_off xM _ (peer 2 c) _ (off_peer2 c) _)) rfl) $$ [HW]
  · isplitr; · iexact HR
    isplitr; · iexact Hlev
    iexact HW
  iintro HW
  iapply (wait_step X K c 𝒱 sendC 3 (credit_of_x (peer 3 c) (slot_of_off xM _ (peer 3 c) _ (off_peer3 c) _)) rfl) $$ [HW]
  · isplitr; · iexact HR
    isplitr; · iexact Hlev
    iexact HW
  iintro HW
  iapply (wait_step X K c 𝒱 sendC 4 (credit_of_x (peer 4 c) (slot_of_off xM _ (peer 4 c) _ (off_peer4 c) _)) rfl) $$ [HW]
  · isplitr; · iexact HR
    isplitr; · iexact Hlev
    iexact HW
  iintro HW
  iapply (wait_step X K c 𝒱 sendC 5 (credit_of_x (peer 5 c) (slot_of_off xM _ (peer 5 c) _ (off_peer5 c) _)) rfl) $$ [HW]
  · isplitr; · iexact HR
    isplitr; · iexact Hlev
    iexact HW
  iintro HW
  iapply (wait_step X K c 𝒱 sendC 6 (credit_of_x (peer 6 c) (slot_of_off xM _ (peer 6 c) _ (off_peer6 c) _)) rfl) $$ [HW]
  · isplitr; · iexact HR
    isplitr; · iexact Hlev
    iexact HW
  iintro HW
  ihave HW := (Entails.of_eq (waiting_last X c sendC)) $$ HW
  icases HW with ⟨HO, -, Hfs⟩
  iapply ((talk X).wp_wait dd 𝒱 K c homeC rfl ∅ (fun _ h => absurd h (Finset.notMem_empty _))
      ((credit_of_o c (slot_of_off oM _ c _ (off_me c) _)).trans (amt_eq X _).symm)) $$ [HO Hch Hph]
  · isplitr; · iexact HR
    isplitr; · iexact Hlev
    isplitl [Hch]; · iexact Hch
    isplitl [HO] <;> iassumption
  iintro ⟨HO, Hp, Hz⟩
  ihave HF := (finish X c) $$ [Hfr Hfs Hp Hz]
  · isplitl [Hfr]; · iexact Hfr
    isplitl [Hfs]; · iexact Hfs
    isplitl [Hp] <;> iassumption
  icases HF with ⟨Hx, Ho, Hz⟩
  rw [wp_ret]
  imodintro
  iapply Hk
  isplitl [HO]; · iexact HO
  isplitl [Hx]; · iexact Hx
  isplitl [Ho] <;> iassumption

end Cert.AllToAll

end
-- ==== Proof.DealtLaunch.lean ====
/-
  The launch of a program whose FIRST operation is a kernel that writes into its peers' buffers without a barrier.

  In such a kernel device `d`'s very first remote copy may land in device `e`'s result array, and credit `e`'s receive
  semaphore, before `e` has executed anything. So when the machine starts, two kinds of holdings of EVERY device have to
  be dealt among the devices in one step: the scoped semaphores that the kernel allocates for itself (the receive cells'
  invariants must be open from the start) and the arrays of @main (each device starts with its slot of every peer's
  result array).

  `DealtRegion` is a kernel region entered from such a dealt state: a `Pipeline.RegionSeg` whose own semaphores were
  already handed out. `run_dealt` is the launch: `deal` receives, for all the devices at once, the own semaphores at zero,
  the arrays at their launch contents, what each device owes and its launch credit, and makes each device's first thread
  state; after the region the remaining segments of @main run as in `Pipeline.wp_segs`.
-/
module

public import Idealize.ShloMosaic.Lib.Pipeline.Regions
public import Idealize.ShloMosaic.Lib.Pipeline.Kit

@[expose] public section

set_option Elab.async false

noncomputable section

namespace Cert.Dealt

open Idealize.ShloMosaic Idealize.ShloMosaic.TcCoe Idealize.ShloMosaic.Pipeline Idealize.ShloMosaic.Rounds
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

section Levels

variable [Preorder Lvl]

/-- The level assignment made at launch: pairs outside the TensorCores' cells carry no index. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : (bigSep Finset.univ fun d : Dev nD =>
      bigSep (Finset.univ.erase Proc.tc) fun p => (coreLevAts ((d, p) : Thread nD τ) L lv : sProp 𝕄)) = BI.emp := by
    refine (bigSep_congr fun d _ => (bigSep_congr fun p hp => ?_).trans (BI.bigSep_emp_const _)).trans (BI.bigSep_emp_const _)
    unfold coreLevAts
    refine (bigSep_congr fun sm _ => ?_).trans (BI.bigSep_emp_const _)
    rw [hL (((d, p) : Thread nD τ), sm) (Finset.ne_of_mem_erase hp), BI.bigSep_empty]
  refine (bigSep_mono fun c _ => lev_assign_cells (c.tc : Thread nD τ) L lv).trans ((BI.bigSep_bupd _ _).trans (BI.bupd_mono ?_))
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv)]
  show _ ⊢ iprop((bigSep Finset.univ fun d : Dev nD => coreLevAts (d.tc : Thread nD τ) L lv)
      ∗ bigSep Finset.univ fun d : Dev nD => bigSep (Finset.univ.erase Proc.tc) fun p => (coreLevAts ((d, p) : Thread nD τ) L lv : sProp 𝕄))
  rw [hother, bigSep_sep']
  iintro ⟨-, H⟩
  isplitl [H]; · iexact H
  iempintro

end Levels

variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

variable [Preorder Lvl]

/-- A kernel region whose own semaphores `osem` were dealt at launch: its fields are `RegionSeg`'s, but `hentry` receives
    no semaphore. At its end it gives them all back at zero (`hout`). -/
structure DealtRegion (p : P) where
  win : WinFacts₀ (pcs p).spec
  block_pos : ∀ w : Fin (pin pcs a p).W, 0 < ((pin pcs a p).spec w).block.numel
  stage_whole : ∀ (w : Fin (pin pcs a p).W) (s : Fin ((pin pcs a p).spec w).nbuf), (((pin pcs a p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (levAts L lv : sProp 𝕄) ⊢ cellsWaits (pin pcs a) pdats ι p c
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((pdats p c).arrays ((pdats p c).arrAt · 0) ∗ prefHeld (pcs p).pre c (fun _ => fullShare) (a p).1
        ∗ (pdats p c).owesAt ι 0 ∗ X c ∗ Z c)
  hin : ∀ c, iprop(X c ∗ prefHeld (pcs p).pre c (fun _ => fullShare) (a p).1 ∗ scopedRest (pin pcs a p).spec c) ⊢ (pdats p c).Φ 0
  hout : ∀ c, (pdats p c).Φ (Fin.last (pin pcs a p).N) ⊢ iprop(Y c ∗ ownSems0 osem c ∗ scopedRest (pin pcs a p).spec c)
  hexit : ∀ c, iprop((pdats p c).arrays ((pdats p c).arrAt · (pin pcs a p).N) ∗ (pdats p c).owesAt ι (Fin.last (pin pcs a p).N) ∗ Y c ∗ Z c)
    ⊢ |={Set.univ}=> post c

attribute [instance] DealtRegion.fK

variable {pcs a pdats ι defs₀ 𝒱₀ L lv} in
/-- What a core holds of its region boundary before a dealt region: everything but the region's own semaphores. -/
def DealtRegion.rest {p : P} (R : DealtRegion pcs a pdats ι defs₀ 𝒱₀ L lv p) (c : Dev nD) : sProp 𝕄 :=
  iprop(scopedBufs (c.tc : Thread nD τ) ∗ cellsSems0 (pin pcs a) p c ∗ idleSems0 (pin pcs a) phinj p R.ho c ∗ opIdle (c.tc : Thread nD τ))

variable {pcs a pdats ι defs₀ 𝒱₀ L lv} in
/-- A boundary is that rest and the own semaphores. -/
theorem DealtRegion.boundary_split {p : P} (R : DealtRegion pcs a pdats ι defs₀ 𝒱₀ L lv p) (c : Dev nD) :
    (boundary (c.tc : Thread nD τ) : sProp 𝕄) ⊢ iprop(R.rest phinj c ∗ ownSems0 R.osem c) := by
  unfold boundary DealtRegion.rest
  rw [scopedSems0_split (pin pcs a) phinj p R.win R.ho c]
  iintro ⟨Hb, ⟨⟨Hcell, Hown⟩, Hidle⟩, Hop⟩
  isplitr [Hown]
  · isplitl [Hb]; · iexact Hb
    isplitl [Hcell]; · iexact Hcell
    isplitl [Hidle]; · iexact Hidle
    iexact Hop
  · iexact Hown

variable {pcs a pdats ι defs₀ 𝒱₀ L lv} in
include phinj in
/-- One dealt region's step on core `c`. -/
theorem DealtRegion.wp [∀ e, Nonempty (Val e)] [Infinite Name] [EP.LandsIn (upEmb : UEmb _ 𝕄)]
    {p : P} (R : DealtRegion pcs a pdats ι defs₀ 𝒱₀ L lv p) (c : Dev nD)
    {α : Type} (k : PUnit → Prog (TpuEff nD τ sig Val (Sig Λ₀ P fun p => (pcs p).Adm) .tc) α) (Q : α → sProp 𝕄) :
    iprop((iprop(boundary (c.tc : Thread nD τ) ∗ R.post c) -∗ wp frame (wpE 𝔻 𝕍 (c.tc : Thread nD τ) none) Set.univ (k ⟨⟩) Q)
        ∗ R.rest phinj c ∗ R.pre c ∗ levAts L lv ∗ cellsGhost (pin pcs a) EP p c ∗ toksInit (pin pcs a) EP p c)
      ⊢ wp frame (wpE 𝔻 𝕍 (c.tc : Thread nD τ) none) Set.univ (.op (.customCall (entry p) ()) k) Q := by
  classical
  have hbufs := scopedBufs_split (pin pcs a) p R.win.stage_scoped R.win.stage_inj R.stage_whole (nD := nD) (τ := τ) (Ix := Ix) (Val := Val) (Name := Name) (U := U) (Lvl := Lvl) c
  have hleave : iprop((pdats p c).Φ (Fin.last (pin pcs a p).N) ∗ cellsSems0 (pin pcs a) p c ∗ Dat.staging (pin pcs a p) c ∗ idleSems0 (pin pcs a) phinj p R.ho c)
      ⊢ iprop(R.Y c ∗ scopedSems0 (c.tc : Thread nD τ) ∗ scopedBufs (c.tc : Thread nD τ)) := by
    rw [scopedSems0_split (pin pcs a) phinj p R.win R.ho c, hbufs]
    iintro ⟨HΦ, Hcell, Hstage, Hidle⟩
    ihave H := (R.hout c) $$ HΦ
    icases H with ⟨HY, Hown, Hscr⟩
    isplitl [HY]; · iexact HY
    isplitr [Hstage Hscr]
    · isplitr [Hidle]
      · isplitl [Hcell] <;> iassumption
      · iexact Hidle
    · isplitl [Hstage] <;> iassumption
  unfold DealtRegion.rest
  iintro ⟨Hk, ⟨Hb, Hcell, Hidle, Hop⟩, Hpre, #Hlev, Hg, Ht⟩
  ihave Hw := (R.hwaits c) $$ Hlev
  iapply (fupd_wp frame (wpE 𝔻 𝕍 (c.tc : Thread nD τ) none) Set.univ _ _)
  imod (cellsInit_alloc (pin pcs a) pdats EP phinj p c) $$ [Hcell Hg] with ⟨%κ, -, Hinit⟩
  · isplitl [Hcell] <;> iassumption
  imod (R.hentry c) $$ [Hpre] with ⟨Harr, Hpf, HO, HX, HZ⟩
  · isplitl [Hpre]; · iexact Hpre
    iexact Hlev
  imodintro
  iapply (wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pin pcs a p).spec c)
      (I := idleSems0 (pin pcs a) phinj p R.ho c) (Entails.of_eq hbufs) (R.hin c) hleave (k := k) (Q := Q)) $$ [Harr HO Hw Hinit Ht Hpf HX Hidle Hb]
  · isplitl [Harr HO Hw Hinit Ht]
    · unfold EntryPre PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hsems, Hb⟩
  unfold EntryPost PerCore.EntryPost
  icases Hpost with ⟨Harr, HO⟩
  iapply (fupd_wp frame (wpE 𝔻 𝕍 (c.tc : Thread nD τ) none) Set.univ _ _)
  imod (R.hexit c) $$ [Harr HO HY HZ] with Hpost
  · isplitl [Harr]; · iexact Harr
    isplitl [HO]; · iexact HO
    isplitl [HY] <;> iassumption
  imodintro
  iapply Hk
  isplitr [Hpost]
  · unfold boundary
    isplitl [Hb]; · iexact Hb
    isplitl [Hsems] <;> iassumption
  · iexact Hpost

/-- What the launch deals of one device: its kernel's own semaphores at zero, its arrays at the launch contents, what it
    owes, its launch credit, and the certificate's ghost state. -/
def dealtOf {K : Type} [Fintype K] (osem : K → SemLoc sig) (m : (ℓ : Loc nD τ sig) → Buf Val ℓ) (O₀ : Dev nD → CellTallies nD τ sig Ix)
    (G : Dev nD → sProp 𝕄) (c : Dev nD) : sProp 𝕄 :=
  iprop(ownSems0 osem c ∗ unscopedBufs c (fun b => m ((c.tc : Thread nD τ).loc b)) ∗ unscopedSems0 c
    ∗ owes (c.tc : Thread nD τ) (O₀ c) ∅ ∗ launchCred O₀ c ∗ G c)

omit [Fintype P] [Preorder Lvl] in
/-- The ghost state added to what is dealt. -/
theorem dealtOf_join {K : Type} [Fintype K] (osem : K → SemLoc sig) (m : (ℓ : Loc nD τ sig) → Buf Val ℓ) (O₀ : Dev nD → CellTallies nD τ sig Ix)
    (G : Dev nD → sProp 𝕄) (c : Dev nD) : iprop(dealtOf osem m O₀ (fun _ => iprop(emp)) c ∗ G c) ⊢ dealtOf osem m O₀ G c := by
  unfold dealtOf
  iintro ⟨⟨Hown, Hbufs, Hsems, HO, Hcr, -⟩, HG⟩
  isplitl [Hown]; · iexact Hown
  isplitl [Hbufs]; · iexact Hbufs
  isplitl [Hsems]; · iexact Hsems
  isplitl [HO]; · iexact HO
  isplitl [Hcr] <;> iassumption

include phinj in
/-- The launch of `main`, a dealt region followed by the segments `segs`: every weakly fair execution from memory `m` with
    zero counters terminates, and a final memory has what `QY` reads off the last thread states and every counter outside
    the TensorCores' unscoped ones at zero. -/
theorem run_dealt [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    {p : P} (R : DealtRegion pcs a pdats ι defs₀ 𝒱₀ L lv p) (segs : List (Seg pcs a pdats ι defs₀ 𝒱₀ L lv))
    (hmain : ∀ c, main c = .op (.customCall (entry p) ()) fun _ => Seg.run segs)
    (hnd : (p :: Seg.pipes segs).Nodup)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (deal : iprop((bigSep Finset.univ fun c : Dev nD => dealtOf R.osem m O₀ G c) ∗ levAts L lv) ⊢ |={Set.univ}=> bigSep Finset.univ R.pre)
    (Tₙ : Dev nD → sProp 𝕄) (hch : Seg.Chains R.post segs fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(R.rest phinj c ∗ R.pre c ∗ levAts L lv ∗ PerCore.ghostOn pcs (fun _ => a) EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => fin)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(R.rest phinj c ∗ dealtOf R.osem m O₀ (fun _ => iprop(emp)) c ∗ levels0 c) :=
      (coreInit_boundary_owing O₀ m g c).trans (by
        unfold dealtOf
        iintro ⟨Hb, Hbufs, Hsems, HO, Hlv, -, Hcr⟩
        ihave H := (R.boundary_split phinj c) $$ Hb
        icases H with ⟨Hrest, Hown⟩
        isplitl [Hrest]; · iexact Hrest
        isplitr [Hlv]
        · isplitl [Hown]; · iexact Hown
          isplitl [Hbufs]; · iexact Hbufs
          isplitl [Hsems]; · iexact Hsems
          isplitl [HO]; · iexact HO
          isplitl [Hcr]; · iexact Hcr
          iempintro
        · iexact Hlv)
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => R.rest phinj c) ∗ (bigSep Finset.univ fun c : Dev nD => dealtOf R.osem m O₀ (fun _ => iprop(emp)) c)
            ∗ (bigSep Finset.univ fun c : Dev nD => levels0 c)) := (bigSep_mono (s := Finset.univ) fun (c : Dev nD) _ => hcore c).trans
      (Entails.of_eq ((bigSep_sep' _ _ _).trans (congrArg _ (bigSep_sep' _ _ _))))
    have hjoin : iprop((bigSep Finset.univ fun c : Dev nD => dealtOf R.osem m O₀ (fun _ => iprop(emp)) c) ∗ bigSep Finset.univ G)
        ⊢ bigSep Finset.univ fun c : Dev nD => dealtOf R.osem m O₀ G c := by
      rw [← bigSep_sep']
      exact bigSep_mono fun c _ => dealtOf_join R.osem m O₀ G c
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => PerCore.ghostOn pcs (fun _ => a) EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ PerCore.ghostOn pcs (fun _ => a) EP Finset.univ c
        from Entails.of_eq (by unfold PerCore.ghostOn; rw [bigSep_sep'])
    iintro ⟨Hcores, Hu⟩
    ihave Hc := hcores $$ Hcores
    icases Hc with ⟨Hrest, Hdealt, Hlv⟩
    imod (assign_levels L lv hL) $$ Hlv with #Hlev
    imod hu₀ $$ Hu with ⟨HP, HG⟩
    imod (fund_ghost (pin pcs a) EP phinj) $$ HP with ⟨Hg, Ht⟩
    imod deal $$ [Hdealt HG] with Hpre
    · isplitr [Hlev]
      · iapply hjoin
        isplitl [Hdealt] <;> iassumption
      · iexact Hlev
    imodintro
    iexists ()
    isplitr []
    · simp only [start, bigSep_sep']
      isplitl [Hrest]; · iexact Hrest
      isplitl [Hpre]; · iexact Hpre
      isplitr
      · iapply (BI.bigSep_intro_persistent (S := Finset.univ) fun (c : Dev nD) _ => (BI.Entails.refl (levAts L lv : sProp 𝕄))); iexact Hlev
      iapply hghost
      isplitl [Hg] <;> iassumption
    · iempintro
  · obtain ⟨hp, hnd'⟩ := List.nodup_cons.mp hnd
    simp only [start]
    rw [hmain c, PerCore.ghostOn_erase pcs (fun _ => a) EP (Finset.mem_univ p) c]
    iintro ⟨Hrest, Hpre, #Hlev, ⟨Hg, Ht⟩, Hother⟩
    iapply (R.wp phinj EP c (fun _ => Seg.run segs) _)
    isplitr [Hrest Hpre Hg Ht]
    · iintro ⟨Hb, Hpost⟩
      iapply (wp_segs pcs a pdats ι phinj EP defs₀ 𝒱₀ L lv c segs (Finset.univ.erase p) R.post _ hnd'
        (fun p' hp' => Finset.mem_erase.mpr ⟨fun h => hp (h ▸ hp'), Finset.mem_univ _⟩) hch)
      isplitr [Hb Hpost Hother]
      · iintro ⟨Hb, HT, HW⟩
        unfold post; simp only [liftTc_tc, fin]
        isplitr [HW]
        · isplitl [HT] <;> iassumption
        · iexact HW
      · isplitl [Hb]; · iexact Hb
        isplitl [Hpost]; · iexact Hpost
        isplitr; · iexact Hlev
        iexact Hother
    · isplitl [Hrest]; · iexact Hrest
      isplitl [Hpre]; · iexact Hpre
      isplitr; · iexact Hlev
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Dealt

end
-- ==== Proof.TalkRun.lean ====
/-
  A program whose first kernel region has no grid and no window and is a protocol of one-shot cells (`OneShot.Talk`),
  followed by any segments: its launch, once for every such program.

  Given: how the arrays of all the devices are dealt among them at the start (`B c` is what device `c` gets), the body's
  run from that state to every array held at `W₁`, and the segments' chain from there to every array held at `Wₙ`. Then
  every weakly fair execution terminates with every array of every device at `Wₙ` and every semaphore counter at zero.
-/
module

public import proofs.«01_k».proof.Proof.DealtLaunch
public import proofs.«01_k».proof.Proof.OneShot
public import Idealize.ShloMosaic.Lib.Pipeline.RegionArrays

@[expose] public section

noncomputable section

namespace Cert.TalkRun

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OneShot Cert.Dealt

variable {nD : ℕ} {τ : Topo} {sig : RefSig} {Val : EltTy → Type} {n : ℕ}

local notation "𝕄" => MT nD τ sig Unit Val ℕ (UU nD τ sig) ℕ

variable (T : Talk nD τ sig Val n) (B : Dev nD → sProp (MT nD τ sig Unit Val ℕ (UU nD τ sig) ℕ)) (W₁ : Dev nD → Valuation τ sig Val)

/-- The credits of the cells that peers pay. -/
def creds (c : Dev nD) : sProp 𝕄 := bigSep T.remote fun k => cred (tallyAt (T.cell (c, k)) () (T.amt k))

/-- What device `c` enters the exchange with. -/
def start (c : Dev nD) : sProp 𝕄 :=
  iprop(∃ K, T.records K ∗ levAts Talk.L T.lv ∗ T.positions c ∗ T.payToks c ∗ creds T c ∗ B c)

/-- What it leaves with. -/
def stop (c : Dev nD) : sProp 𝕄 :=
  iprop(StableHlo.held (c.tc : Thread nD τ) (ucRefs τ sig) (W₁ c) ∗ ownSems0 T.osem c)

/-- Every level is at most the levels' sum. -/
theorem lv_le (g : GSem nD τ sig) (u : Unit) : T.lv g u ≤ ∑ k, T.lev k := by
  unfold Talk.lv
  by_cases h : ∃ ck, T.cell ck = g
  · obtain ⟨ck, rfl⟩ := h
    rw [T.cell_inj.extend_apply]
    exact Finset.single_le_sum (f := T.lev) (fun _ _ => Nat.zero_le _) (Finset.mem_univ ck.2)
  · rw [Function.extend_apply' _ _ _ h]
    exact Nat.zero_le _

section Region

variable {Λ₀ : Labels}

/-- The exchange's proof data: no window; before the one point what a device enters with, after it what it leaves with. -/
def dat (cfg : Cfg sig Λ₀) (hW : IsEmpty (Fin cfg.W)) (c : Dev nD) : Dat τ Val Unit ℕ (UU nD τ sig) ℕ cfg c where
  A w := hW.elim w
  after w := hW.elim w
  Φ t := iprop(scopedRest cfg.spec c ∗ if t.val = 0 then start T B c else stop T W₁ c)
  q _ := fullShare
  owed t := if t.val = 0 then T.O₀ c else 0

variable {P : Type} [Fintype P] (pcs : P → PCfg sig Λ₀ Val) (a : (p : P) → (pcs p).Adm)
  (pdats : (p : P) → (c : Dev nD) → Dat τ Val Unit ℕ (UU nD τ sig) ℕ (pin pcs a p) c)
  (defs₀ : Defs nD τ sig Val Λ₀) (𝒱₀ : Variants) (p : P)

/-- The body's run, as a kernel's proof gives it. -/
def BodyRuns : Prop := ∀ (c : Dev nD) (K : Dev nD × Fin n → ℕ) (t : Fin (pin pcs a p).N) (Q : sProp 𝕄),
  iprop(T.records K ∗ levAts Talk.L T.lv ∗ T.positions c ∗ T.payToks c ∗ T.ow c (T.owe T.remote c) ∗ creds T c ∗ B c)
    ⊢ iprop((iprop(T.ow c (T.owe ∅ c) ∗ StableHlo.held (c.tc : Thread nD τ) (ucRefs τ sig) (W₁ c) ∗ ownSems0 T.osem c) -∗ Q)
      -∗ wp frame (wpE defs₀ 𝒱₀ (c : Thread nD τ) none) Set.univ (defs₀ .tc (pin pcs a p).body ((pin pcs a p).bodyArgs t ((pin pcs a p).slots t))) fun _ => Q)

variable {pcs a defs₀ 𝒱₀ p T B W₁}

theorem body_obligation (hW : IsEmpty (Fin (pin pcs a p).W)) (hN : (pin pcs a p).N = 1)
    (h : BodyRuns T B W₁ pcs a defs₀ 𝒱₀ p) (c : Dev nD) :
    BodyObligation (dat T B W₁ (pin pcs a p) hW c) defs₀ 𝒱₀ () Set.univ := fun t => by
  have h0 : t.val = 0 := by have := t.isLt; omega
  rw [Finset.univ_eq_empty, bigSep_empty, bigSep_empty]
  unfold Dat.owesAt owesWithin
  dsimp only [dat]
  rw [if_pos (show t.castSucc.val = 0 from h0), if_pos (show t.castSucc.val = 0 from h0),
    if_neg (show ¬ t.succ.val = 0 by rw [Fin.val_succ]; omega), if_neg (show ¬ t.succ.val = 0 by rw [Fin.val_succ]; omega)]
  unfold start stop
  iintro ⟨⟨Hs, %K, #HR, #Hl, Hp, Ht, Hc, HB⟩, ⟨%Wd, -, HO⟩, -⟩
  iapply (h c K t _) $$ [Hp Ht Hc HB HO]
  · isplitr; · iexact HR
    isplitr; · iexact Hl
    isplitl [Hp]; · iexact Hp
    isplitl [Ht]; · iexact Ht
    isplitl [HO]
    · unfold Talk.ow
      iexists Wd; iexact HO
    isplitl [Hc]; · iexact Hc
    iexact HB
  iintro ⟨HO, Hh, Hz⟩
  isplitl [Hs Hh Hz]
  · isplitl [Hs]; · iexact Hs
    isplitl [Hh]; · iexact Hh
    iexact Hz
  isplitl
  · unfold Talk.ow
    rw [T.owe_empty]
    icases HO with ⟨%Wd', HO⟩
    iexists Wd'
    isplitr; · ipureintro; exact fun _ _ => Or.inl trivial
    iexact HO
  · iempintro

variable (T B W₁) in
/-- The exchange as a dealt region. -/
def region (kit : PLaunchFacts (nD := nD) (τ := τ) pcs p) (ho : OwnSemFacts (pcs p).spec T.osem) (hK : (pcs p).pre.K = 0)
    (hW : IsEmpty (Fin (pin pcs a p).W)) (hN : (pin pcs a p).N = 1) (h : BodyRuns T B W₁ pcs a defs₀ 𝒱₀ p)
    (hd : ∀ c, pdats p c = dat T B W₁ (pin pcs a p) hW c) :
    DealtRegion pcs a pdats () defs₀ 𝒱₀ Talk.L T.lv p where
  win := kit.to₀.win
  block_pos w := hW.elim w
  stage_whole w := hW.elim w
  K := Fin n
  osem := T.osem
  ho := ho
  hbody c := by rw [hd]; exact (body_obligation hW hN h c).loose
  hwaits c := by
    refine cellsWaits_intro (pin pcs a) pdats () p c fun w => hW.elim w
  pre c := iprop(start T B c ∗ T.ow c (T.O₀ c))
  post c := iprop(StableHlo.held (c.tc : Thread nD τ) (ucRefs τ sig) (W₁ c) ∗ ∃ W, owes (c.tc : Thread nD τ) (0 : CellTallies nD τ sig Unit) W)
  X c := start T B c
  Y c := StableHlo.held (c.tc : Thread nD τ) (ucRefs τ sig) (W₁ c)
  Z c := iprop(emp)
  hentry c := by
    rw [hd, prefHeld_of_none _ hK]
    unfold Dat.arrays Dat.owesAt owesWithin Talk.ow
    rw [Finset.univ_eq_empty, bigSep_empty]
    iintro ⟨⟨Hs, %Wd, HO⟩, -⟩
    imodintro
    isplitr; · iempintro
    isplitr; · iempintro
    isplitl [HO]
    · iexists Wd
      isplitr; · ipureintro; exact fun _ _ => Or.inl trivial
      iexact HO
    isplitl [Hs]; · iexact Hs
    iempintro
  hin c := by
    rw [hd]
    show _ ⊢ iprop(scopedRest (pin pcs a p).spec c ∗ if (0 : Fin ((pin pcs a p).N + 1)).val = 0 then start T B c else stop T W₁ c)
    rw [if_pos (show (0 : Fin ((pin pcs a p).N + 1)).val = 0 from rfl)]
    iintro ⟨HX, -, Hs⟩
    isplitl [Hs]; · iexact Hs
    iexact HX
  hout c := by
    rw [hd]
    show iprop(scopedRest (pin pcs a p).spec c ∗ if (Fin.last (pin pcs a p).N).val = 0 then start T B c else stop T W₁ c) ⊢ _
    rw [if_neg (by rw [Fin.val_last]; omega)]
    unfold stop
    iintro ⟨Hs, Hh, Hz⟩
    isplitl [Hh]; · iexact Hh
    isplitl [Hz]; · iexact Hz
    iexact Hs
  hexit c := by
    rw [hd]
    unfold Dat.owesAt owesWithin
    iintro ⟨-, ⟨%Wd, -, HO⟩, HY, -⟩
    imodintro
    isplitl [HY]; · iexact HY
    iexists Wd
    dsimp only [dat]
    rw [if_neg (by rw [Fin.val_last]; omega)]
    iexact HO

end Region

section Launch

variable {Λ₀ : Labels} {P : Type} [Fintype P] [DecidableEq P] {pcs : P → PCfg sig Λ₀ Val} {a : (p : P) → (pcs p).Adm}
  {pdats : (p : P) → (c : Dev nD) → Dat τ Val Unit ℕ (UU nD τ sig) ℕ (pin pcs a p) c}
  {defs₀ : Defs nD τ sig Val Λ₀} {𝒱₀ : Variants} {p : P} {T B W₁}

/-- What the launch deals of one device, sorted. -/
theorem part (m : (ℓ : Loc nD τ sig) → Buf Val ℓ) (c : Dev nD) :
    (dealtOf T.osem m T.O₀ T.G c : sProp 𝕄)
      ⊢ iprop(iprop(ownSems0 T.osem c ∗ T.G c) ∗ StableHlo.held (c.tc : Thread nD τ) (ucRefs τ sig) (fun b => m (c, b))
        ∗ T.ow c (T.O₀ c) ∗ creds T c) := by
  unfold dealtOf
  rw [← unscopedBufs_held (Ix := Unit) (Name := ℕ) (U := UU nD τ sig) (Lvl := ℕ) c (fun b => m (c, b))]
  iintro ⟨Ho, Hb, -, HO, Hc, HG⟩
  isplitl [Ho HG]
  · isplitl [Ho]; · iexact Ho
    iexact HG
  isplitl [Hb]; · iexact Hb
  isplitl [HO]
  · unfold Talk.ow
    iexists ∅; iexact HO
  unfold creds
  iapply (T.creds c); iexact Hc

/-- One device's parts together. -/
theorem joined (K : Dev nD × Fin n → ℕ) (c : Dev nD) :
    iprop(iprop(T.records K ∗ levAts Talk.L T.lv) ∗ T.positions c ∗ T.payToks c ∗ creds T c ∗ B c ∗ T.ow c (T.O₀ c))
      ⊢ (iprop(start T B c ∗ T.ow c (T.O₀ c)) : sProp 𝕄) := by
  unfold start
  iintro ⟨⟨HR, Hl⟩, Hp, Ht, Hc, HB, HO⟩
  isplitr [HO]
  · iexists K
    isplitl [HR]; · iexact HR
    isplitl [Hl]; · iexact Hl
    isplitl [Hp]; · iexact Hp
    isplitl [Ht]; · iexact Ht
    isplitl [Hc]; · iexact Hc
    iexact HB
  iexact HO

/-- What the launch deals makes what every device enters with. -/
theorem deal_start (m : (ℓ : Loc nD τ sig) → Buf Val ℓ)
    (hB : (bigSep Finset.univ fun c : Dev nD => StableHlo.held (c.tc : Thread nD τ) (ucRefs τ sig) (fun b => m (c, b)))
      ⊢ (bigSep Finset.univ B : sProp 𝕄)) :
    iprop((bigSep Finset.univ fun c : Dev nD => dealtOf T.osem m T.O₀ T.G c) ∗ levAts Talk.L T.lv)
      ⊢ (|={Set.univ}=> bigSep Finset.univ fun c => iprop(start T B c ∗ T.ow c (T.O₀ c)) : sProp 𝕄) := by
  classical
  have hsplit : (bigSep Finset.univ fun c : Dev nD => dealtOf T.osem m T.O₀ T.G c)
      ⊢ (iprop((bigSep Finset.univ fun c : Dev nD => iprop(ownSems0 T.osem c ∗ T.G c))
        ∗ (bigSep Finset.univ fun c : Dev nD => StableHlo.held (c.tc : Thread nD τ) (ucRefs τ sig) (fun b => m (c, b)))
        ∗ (bigSep Finset.univ fun c : Dev nD => T.ow c (T.O₀ c))
        ∗ bigSep Finset.univ fun c : Dev nD => creds T c) : sProp 𝕄) := by
    rw [← bigSep_sep', ← bigSep_sep', ← bigSep_sep']
    exact bigSep_mono fun c _ => part m c
  iintro ⟨H, #Hl⟩
  ihave H' := hsplit $$ H
  icases H' with ⟨Hg, Hm, HO, Hc⟩
  imod T.deal $$ Hg with ⟨%K, #HR, Hp, Ht⟩
  ihave HB := hB $$ Hm
  imodintro
  have hall : iprop(T.records K ∗ levAts Talk.L T.lv) ⊢ (bigSep Finset.univ fun _ : Dev nD => iprop(T.records K ∗ levAts Talk.L T.lv) : sProp 𝕄) :=
    bigSep_of_persistent _ _
  ihave HRl := hall $$ []
  · isplitr; · iexact HR
    iexact Hl
  have hjoin : iprop((bigSep Finset.univ fun _ : Dev nD => iprop(T.records K ∗ levAts Talk.L T.lv))
        ∗ (bigSep Finset.univ fun c : Dev nD => T.positions c) ∗ (bigSep Finset.univ fun c : Dev nD => T.payToks c)
        ∗ (bigSep Finset.univ fun c : Dev nD => creds T c) ∗ (bigSep Finset.univ B) ∗ (bigSep Finset.univ fun c : Dev nD => T.ow c (T.O₀ c)))
      ⊢ (bigSep Finset.univ fun c => iprop(start T B c ∗ T.ow c (T.O₀ c)) : sProp 𝕄) := by
    rw [← bigSep_sep', ← bigSep_sep', ← bigSep_sep', ← bigSep_sep', ← bigSep_sep']
    exact bigSep_mono fun c _ => joined K c
  iapply hjoin
  isplitl [HRl]; · iexact HRl
  isplitl [Hp]; · iexact Hp
  isplitl [Ht]; · iexact Ht
  isplitl [Hc]; · iexact Hc
  isplitl [HB]; · iexact HB
  iexact HO

/-- The run of the whole program. -/
theorem run (phinj : Function.Injective (cellOf (nD := nD) (τ := τ) (pin pcs a))) [∀ e, Nonempty (Val e)]
    (m : (ℓ : Loc nD τ sig) → Buf Val ℓ) (g : Dev nD → PrngReg)
    (main : Dev nD → Prog (TpuEff nD τ sig Val (Sig Λ₀ P fun p => (pcs p).Adm) .tc) PUnit)
    (kit : PLaunchFacts (nD := nD) (τ := τ) pcs p) (ho : OwnSemFacts (pcs p).spec T.osem) (hK : (pcs p).pre.K = 0)
    (hW : IsEmpty (Fin (pin pcs a p).W)) (hN : (pin pcs a p).N = 1) (h : BodyRuns T B W₁ pcs a defs₀ 𝒱₀ p)
    (hd : ∀ c, pdats p c = dat T B W₁ (pin pcs a p) hW c)
    (hB : (bigSep Finset.univ fun c : Dev nD => StableHlo.held (c.tc : Thread nD τ) (ucRefs τ sig) (fun b => m (c, b)))
      ⊢ (bigSep Finset.univ B : sProp 𝕄))
    (segs : List (Seg pcs a pdats () defs₀ 𝒱₀ Talk.L T.lv))
    (hmain : ∀ c, main c = .op (.customCall (entry p) ()) fun _ => Seg.run segs)
    (hnd : (p :: Seg.pipes segs).Nodup) (Wₙ : Dev nD → Valuation τ sig Val)
    (hch : Seg.Chains (fun c : Dev nD => iprop(StableHlo.held (c.tc : Thread nD τ) (ucRefs τ sig) (W₁ c) ∗ ∃ W, owes (c.tc : Thread nD τ) (0 : CellTallies nD τ sig Unit) W)) segs
      (fun c : Dev nD => iprop(StableHlo.held (c.tc : Thread nD τ) (ucRefs τ sig) (Wₙ c) ∗ ∃ W, owes (c.tc : Thread nD τ) (0 : CellTallies nD τ sig Unit) W)))
    (hs : ∀ sm : SemLoc sig, sm.isScoped .tc = true) :
    θ_run (Pipeline.defs pcs defs₀) (onTc main) ⟨m, fun _ => 0, g⟩
      (fun r => (∀ (c : Dev nD) (b : DevRef τ sig), b ∈ ucRefs τ sig → r.2.mem (c, b) = Wₙ c b) ∧ r.2.sem = fun _ => 0) := by
  classical
  refine run_dealt pcs a pdats () phinj OneShot.EP defs₀ 𝒱₀ Talk.L T.lv m g main
    (region T B W₁ pdats kit ho hK hW hN h hd) segs hmain hnd T.O₀ Talk.L_of_ne T.G
    (initOf (cells (pin pcs a) phinj) (launchToks (pin pcs a) phinj), initOf T.cells T.toks) ?_ (deal_start m hB)
    (fun c => StableHlo.held (c.tc : Thread nD τ) (ucRefs τ sig) (Wₙ c)) hch
    (fun c s => ∀ b ∈ ucRefs τ sig, s.mem (c, b) = Wₙ c b) (fun c s' => ?_)
    (fun s h hz => ⟨h, funext fun g' => hz g' (.inr (hs g'.2))⟩)
  · iintro Hu
    ihave H := (ownU_pair _ _) $$ Hu
    icases H with ⟨HP, HX⟩
    imod T.fund_G $$ HX with HG
    imodintro
    isplitl [HP] <;> iassumption
  · unfold StableHlo.held
    iintro ⟨Hh, HSI⟩
    ihave Hr := (pointsTo_read_all (ucRefs τ sig) (fun b => ((c.tc : Thread nD τ).1, b)) (Wₙ c) s') $$ [Hh HSI]
    · isplitl [Hh] <;> iassumption
    icases Hr with ⟨%h, HSI⟩
    imodintro
    isplitr
    · ipureintro; exact h
    · iexact HSI

end Launch

end Cert.TalkRun

end
-- ==== Proof.Step.lean ====
/-
  The optimizer's region: a grid over row blocks of 256 rows, each read from the eight received blocks and from the weights
  and the two moments, and written to the gradient, the update and the new moments.

  Stated over any contents `W c` of device `c`'s arrays when the region is entered; the region leaves the four results at
  `afterRegion` of the proof data below.
-/
module

public import proofs.«01_k».proof.Proof.TalkRun
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionArraysS
public import Idealize.ShloMosaic.Lib.Pipeline.Value
public import Idealize.ShloMosaic.Lib.Tactic

@[expose] public section

set_option maxRecDepth 16384

noncomputable section

namespace Cert.Step

open Cert.KernelIdeal Cert.KernelIdeal.Gen Cert.OneShot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU nD τ sig) ℕ

/-! ## What one row block computes -/

/-- Row block `p` of the eight, as the body loads it. -/
abbrev row0 : Rect S8x256x1024 := Rect.unit (s := S8x256x1024) ![0, 0, 0] S1x256x1024.size inb_S8x256x1024_S1x256x1024_0_0_0
abbrev row1 : Rect S8x256x1024 := Rect.unit (s := S8x256x1024) ![1, 0, 0] S1x256x1024.size inb_S8x256x1024_S1x256x1024_1_0_0
abbrev row2 : Rect S8x256x1024 := Rect.unit (s := S8x256x1024) ![2, 0, 0] S1x256x1024.size inb_S8x256x1024_S1x256x1024_2_0_0
abbrev row3 : Rect S8x256x1024 := Rect.unit (s := S8x256x1024) ![3, 0, 0] S1x256x1024.size inb_S8x256x1024_S1x256x1024_3_0_0
abbrev row4 : Rect S8x256x1024 := Rect.unit (s := S8x256x1024) ![4, 0, 0] S1x256x1024.size inb_S8x256x1024_S1x256x1024_4_0_0
abbrev row5 : Rect S8x256x1024 := Rect.unit (s := S8x256x1024) ![5, 0, 0] S1x256x1024.size inb_S8x256x1024_S1x256x1024_5_0_0
abbrev row6 : Rect S8x256x1024 := Rect.unit (s := S8x256x1024) ![6, 0, 0] S1x256x1024.size inb_S8x256x1024_S1x256x1024_6_0_0
abbrev row7 : Rect S8x256x1024 := Rect.unit (s := S8x256x1024) ![7, 0, 0] S1x256x1024.size inb_S8x256x1024_S1x256x1024_7_0_0
abbrev all : Rect S256x1024 := Rect.unit (s := S256x1024) ![0, 0] S256x1024.size inb_S256x1024_S256x1024_0_0

/-- The gradient: the sum of the eight blocks. -/
def grad (x : Vec F S8x256x1024 .bf16) : FVec F S256x1024 .f32 :=
  k1_pay4 (View.ld x row0) (View.ld x row1) (View.ld x row2) (View.ld x row3) (View.ld x row4) (View.ld x row5) (View.ld x row6) (View.ld x row7)
/-- The new first moment. -/
def mom (x : Vec F S8x256x1024 .bf16) (mm : Vec F S256x1024 .f32) : FVec F S256x1024 .f32 := k1_pay1 (grad x) (k1_pay5 (View.ld mm all))
/-- The new second moment. -/
def var (x : Vec F S8x256x1024 .bf16) (vv : Vec F S256x1024 .f32) : FVec F S256x1024 .f32 := k1_pay2 (grad x) (View.ld vv all)
/-- The weights' update. -/
def upd (x : Vec F S8x256x1024 .bf16) (w mm vv : Vec F S256x1024 .f32) : FVec F S256x1024 .f32 :=
  k1_pay3 (grad x) (k1_pay5 (View.ld mm all)) (View.ld vv all) (View.ld w all)

/-- A store over the whole block leaves its payload. -/
theorem stored {e : EltTy} {sp : Space} (v : View sig .tc sp S256x1024 e) (f : v.ty.Contents (Elt F)) (p : Vec F S256x1024 e) :
    v.read (Elt F) (v.writes (Elt F) f [⟨all, p⟩]) = p :=
  (View.read_writes_eq_canon _ _ _ fun y => View.cover_of_tiled [⟨all, p⟩] S256x1024.size (by rfl) y).trans
    (View.canon_cons_unit_zero (by funext a; fin_cases a <;> rfl) _ p [])

set_option maxHeartbeats 1000000 in
/-- The body, on staging buffers at any contents: it leaves the inputs as they were and the four results in the outputs. -/
theorem body_run (c : Dev nD) (i : grid1.Coords)
    (a1 : Memref sig .tc .vmem S8x256x1024 .bf16) (h1 : a1.IsWhole) (a2 : Memref sig .tc .vmem S256x1024 .f32) (h2 : a2.IsWhole)
    (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S256x1024 .f32) (h6 : a6.IsWhole)
    (a7 : Memref sig .tc .vmem S256x1024 .f32) (h7 : a7.IsWhole) (a8 : Memref sig .tc .vmem S256x1024 .f32) (h8 : a8.IsWhole)
    (x : Vec F S8x256x1024 .bf16) (w mm vv : Vec F S256x1024 .f32) (Q : PUnit → sProp 𝕄) :
    iprop(owns (c : Thread nD τ) a1 fullShare x ∗ owns (c : Thread nD τ) a2 fullShare w ∗ owns (c : Thread nD τ) a3 fullShare mm ∗ owns (c : Thread nD τ) a4 fullShare vv
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare mm ∗ owns (c : Thread nD τ) a4 fullShare vv
            ∗ owns (c : Thread nD τ) a5 fullShare (grad x) ∗ owns (c : Thread nD τ) a6 fullShare (upd x w mm vv)
            ∗ owns (c : Thread nD τ) a7 fullShare (mom x mm) ∗ owns (c : Thread nD τ) a8 fullShare (var x vv)) -∗ Q ⟨⟩))
      ⊢ wp frame (wpE (defs₀ (F := F)) Variants.none c none) Set.univ (cc1_adamw_big i a1 h1 a2 h2 a3 h3 a4 h4 a5 h5 a6 h6 a7 h7 a8 h8) Q := by
  simp only [cc1_adamw_big_eq_skeleton]; unfold cc1_adamw_big_skel
  simp only [k1_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  subst e1 e2 e3 e4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; exact (stored _ _ _).trans rfl
  isplitl [H6]
  · iexists _; isplitr
    swap; · iexact H6
    ipureintro; exact (stored _ _ _).trans rfl
  isplitl [H7]
  · iexists _; isplitr
    swap; · iexact H7
    ipureintro; exact (stored _ _ _).trans rfl
  iexists _; isplitr
  swap; · iexact H8
  ipureintro; exact (stored _ _ _).trans rfl

/-! ## The pipeline's proof data -/

variable (W : Dev nD → Valuation τ sig (Elt F))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

def dat (c : Dev nD) : Dat τ (Elt F) Unit ℕ (UU nD τ sig) ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => grad (blk W c 0 t)
    | ⟨5, _⟩ => upd (blk W c 0 t) (blk W c 1 t) (blk W c 2 t) (blk W c 3 t)
    | ⟨6, _⟩ => mom (blk W c 0 t) (blk W c 2 t)
    | ⟨7, _⟩ => var (blk W c 0 t) (blk W c 3 t)
  Φ _ := Pipeline.scopedRest cfg1.spec c
  q _ := fullShare
  owed _ := 0

theorem Φ_eq (c : Dev nD) (t) : (dat W c).Φ t = Pipeline.scopedRest cfg1.spec c := by dsimp only [dat]
theorem A_eq (c : Dev nD) (w : Fin cfg1.W) : (dat W c).A w = W c (Proc.devRef .tc (Pipeline.arrRef spec1 w)) := by dsimp only [dat]
theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = blk W c 2 t := by dsimp only [dat]
theorem after_3 (c : Dev nD) (t : Fin cfg1.N) : (dat W c).after 3 t = blk W c 3 t := by dsimp only [dat]
theorem after_4 (c : Dev nD) (t : Fin cfg1.N) : (dat W c).after 4 t = grad (blk W c 0 t) := by dsimp only [dat]
theorem after_5 (c : Dev nD) (t : Fin cfg1.N) : (dat W c).after 5 t = upd (blk W c 0 t) (blk W c 1 t) (blk W c 2 t) (blk W c 3 t) := by dsimp only [dat]
theorem after_6 (c : Dev nD) (t : Fin cfg1.N) : (dat W c).after 6 t = mom (blk W c 0 t) (blk W c 2 t) := by dsimp only [dat]
theorem after_7 (c : Dev nD) (t : Fin cfg1.N) : (dat W c).after 7 t = var (blk W c 0 t) (blk W c 3 t) := by dsimp only [dat]

/-- An input's staging buffer holds its block at every point. -/
theorem before_0 (c : Dev nD) (t : Fin cfg1.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat W c).before 2 t d = blk W c 2 t :=
  ((dat W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat W c).before 3 t d = blk W c 3 t :=
  ((dat W c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The body obligation -/

def pre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d)))

def post (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t)
    ∗ owns (c : Thread nD τ) (st1_7 t) fullShare ((dat W c).after 7 t))

theorem step_point (c : Dev nD) (t : Fin cfg1.N) :
    pre W c t ⊢ wp frame (wpE (defs₀ (F := F)) Variants.none c none) Set.univ (bodyAt1 t) (fun _ => post W c t) := by
  unfold pre post bodyAt1
  simp only [before_0, before_1, before_2, before_3]
  rw [show (dat W c).Φ t.succ = (dat W c).Φ t.castSucc from rfl, show (dat W c).owesAt () t.succ = (dat W c).owesAt () t.castSucc from rfl,
    after_0, after_1, after_2, after_3, after_4, after_5, after_6, after_7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid1.coords t) _ _ _ _ _ _ _ _ _ _ _ _ _ _ _ _ (blk W c 0 t) (blk W c 1 t) (blk W c 2 t) (blk W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq (t : Fin cfg1.N) : defs₀ (F := F) .tc cfg1.body (cfg1.bodyArgs t (cfg1.slots t)) = bodyAt1 t := by
  unfold defs₀; rw [Defs.onTc_tc]

theorem body_obligation (c : Dev nD) : BodyObligation (dat W c) (defs₀ (F := F)) Variants.none () Set.univ := fun t => by
  rw [bigSep_W1, bigSep_W1, row_eq]
  exact triple_restated (step_point W c t) rfl .rfl fun _ => .rfl

end Cert.Step

end
-- ==== Proof.HeldTwo.lean ====
/-
  Two arrays taken out of a set of arrays held whole.
-/
module

public import Idealize.ShloMosaic.Lib.Pipeline.Regions
public import Idealize.ShloMosaic.Lib.Pipeline.RegionArraysS

@[expose] public section

noncomputable section

namespace Cert.HeldTwo

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Ix : Type} [DecidableEq Ix] {Name U Lvl : Type} [DecidableEq Name] [URA U] [Preorder Lvl]

local notation "𝕄" => MT nD τ sig Ix Val Name U Lvl

/-- The order in which a table's entries are joined doesn't matter: by rows or by columns. -/
theorem rows_columns {M : Type} [URA M] {A C : Type} (R : Finset A) (S : Finset C) (E : A → C → sProp M) :
    (bigSep R fun a => bigSep S fun c => E a c) = bigSep S fun c => bigSep R fun a => E a c := by
  classical
  refine S.induction_on ?_ fun c S hc h => ?_
  · refine R.induction_on rfl fun a R ha h => ?_
    rw [bigSep_insert ha, h]; exact BI.Entails.antisymm BI.emp_sep.1 BI.emp_sep.2
  · rw [bigSep_insert hc, ← h, ← bigSep_sep]
    exact bigSep_congr fun a _ => bigSep_insert hc

/-- A set of arrays held whole is two of its members beside the others. -/
theorem held_two (t : Thread nD τ) (S : Finset (DevRef τ sig)) (x o : DevRef τ sig) (hx : x ∈ S) (ho : o ∈ S) (hne : o ≠ x) (V : Valuation τ sig Val) :
    (StableHlo.held t S V : sProp 𝕄)
      = iprop(((t.1, x) ↦{fullShare} V x) ∗ ((t.1, o) ↦{fullShare} V o) ∗ StableHlo.held t ((S.erase x).erase o) V) := by
  unfold StableHlo.held
  rw [← Finset.insert_erase hx, bigSep_insert (Finset.notMem_erase x S), Finset.erase_insert (Finset.notMem_erase x S),
    ← Finset.insert_erase (Finset.mem_erase.mpr ⟨hne, ho⟩), bigSep_insert (Finset.notMem_erase o _), Finset.erase_insert (Finset.notMem_erase o _)]
  rfl

/-- The arrays held, one of them at new contents, from that one at its new contents and the others as they were. -/
theorem held_back (t : Thread nD τ) (S : Finset (DevRef τ sig)) (x o : DevRef τ sig) (hx : x ∈ S) (ho : o ∈ S) (hne : o ≠ x) (V : Valuation τ sig Val)
    (G : (o.ty).Contents Val) :
    iprop(((t.1, x) ↦{fullShare} V x) ∗ ((t.1, o) ↦{fullShare} G) ∗ StableHlo.held t ((S.erase x).erase o) V)
      ⊢ (StableHlo.held t S (Function.update V o G) : sProp 𝕄) := by
  rw [held_two t S x o hx ho hne (Function.update V o G), Function.update_self, Function.update_of_ne hne.symm,
    StableHlo.held_congr t (S := (S.erase x).erase o) (V := Function.update V o G) (V' := V)
      fun b hb => Function.update_of_ne (Finset.ne_of_mem_erase hb) _ _]

end Cert.HeldTwo

end
-- ==== Proof.PlainRegion.lean ====
/-
  A region that talks to nobody, after the exchange: entered from the device's arrays held whole and nothing owed, and left
  with its windows' arrays at their final contents and the other arrays as they were.
-/
module

public import proofs.«01_k».proof.Proof.TalkRun
public import Idealize.ShloMosaic.Lib.Pipeline.RegionArraysS
public import Idealize.ShloMosaic.Lib.Pipeline.RegionArraysD

@[expose] public section

noncomputable section

namespace Cert.PlainRegion

open Cert.OneShot
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {n : ℕ} {Λ₀ : Labels} {P : Type} [Fintype P]

local notation "𝕄" => MT nD τ sig Unit Val ℕ (UU nD τ sig) ℕ

/-- What stands between two regions: the arrays at `W c`, and nothing owed. -/
abbrev between (W : Dev nD → Valuation τ sig Val) (c : Dev nD) : sProp 𝕄 :=
  iprop(StableHlo.held (c.tc : Thread nD τ) (ucRefs τ sig) (W c) ∗ ∃ Wd, owes (c.tc : Thread nD τ) (0 : CellTallies nD τ sig Unit) Wd)

variable (T : Talk nD τ sig Val n) {pcs : P → PCfg sig Λ₀ Val} {a : (p : P) → (pcs p).Adm}
  (pdats : (p : P) → (c : Dev nD) → Dat τ Val Unit ℕ (UU nD τ sig) ℕ (pin pcs a p) c)
  (defs₀ : Defs nD τ sig Val Λ₀) (𝒱₀ : Variants) (p : P)

def region (kit : PLaunchFacts (nD := nD) (τ := τ) pcs p) (hK : (pcs p).pre.K = 0) (hS : arrRefs (τ := τ) (pcs p).spec ⊆ ucRefs τ sig)
    (hbody : ∀ c, BodyObligation (pdats p c) defs₀ 𝒱₀ () Set.univ)
    (howed : ∀ c t, (pdats p c).owed t = 0) (hrec : ∀ c, (pdats p c).recorded 0 = Set.univ)
    (hshare : ∀ c w, (pdats p c).share w = fullShare)
    (hΦ : ∀ c t, (pdats p c).Φ t = scopedRest (pin pcs a p).spec c) (W : Dev nD → Valuation τ sig Val)
    (hW : ∀ c w, (pdats p c).arrAt w 0 = W c (Proc.devRef .tc (arrRef (pin pcs a p).spec w))) :
    RegionSeg pcs a pdats () defs₀ 𝒱₀ Talk.L T.lv p :=
  (RegionSeg.ofHeldIn pcs a pdats () defs₀ 𝒱₀ Talk.L T.lv p (fun _ => 0) (ucRefs τ sig) (fun _ => iprop(emp)) (fun _ => iprop(emp)) kit hK
    (fun c => (hbody c).loose) howed hrec hshare
    (fun c => by rw [hΦ]; iintro ⟨H, -⟩; iexact H)
    (fun c => by
      rw [hΦ]; iintro H
      isplitl [H]; · iexact H
      iempintro)
    (fun _ => ∑ k, T.lev k)
    { hι := fun c w s => by rw [Talk.L_tc]; exact Finset.mem_singleton_self _
      hιb := fun c w s => TalkRun.lv_le T _ ()
      hD := fun c g i h => absurd h (Nat.lt_irrefl 0) }
    (fun _ => iprop(emp)) W hW).conseq (between W) (between fun c => afterRegion (pdats p c) (W c))
    (fun c => by
      refine .trans ?_ (RegionSeg.ofHeldIn_pre hS c)
      iintro ⟨H, HO⟩
      isplitl [H]; · iexact H
      isplitl [HO]; · iexact HO
      isplitr; · iempintro
      iempintro)
    (fun c => by
      refine (RegionSeg.ofHeldIn_post hS c).trans ?_
      iintro ⟨H, HO, -, -⟩
      isplitl [H]; · iexact H
      iexact HO)

end Cert.PlainRegion

end
-- ==== Proof.Run.lean ====
/-
  The gradients' exchange followed by the optimizer, run as a whole: from any contents `m`, device `c` ends with the exchange's
  result `got`, and with the optimizer's four results, the other arrays as they were and every counter at zero.
-/
module

public import proofs.«01_k».proof.Proof.AllToAllBody
public import proofs.«01_k».proof.Proof.Step
public import proofs.«01_k».proof.Proof.HeldTwo
public import proofs.«01_k».proof.Proof.PlainRegion
public import proofs.«01_k».proof.Proof.Gen.KernelIdeal.Regions

@[expose] public section

set_option maxRecDepth 16384

noncomputable section

namespace Cert.Run

open Cert.KernelIdeal Cert.KernelIdeal.Gen Cert.OneShot Cert.AllToAll
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Seg ucRefs arrRefs arrRef)

variable {F : FTy → Type} [FloatOps F]

local notation "𝕄" => MT nD τ sig Unit (Elt F) ℕ (UU nD τ sig) ℕ
/-- The exchange's argument and its result. -/
abbrev xR : DevRef τ sig := Proc.devRef .tc main_arg0
abbrev oR : DevRef τ sig := Proc.devRef .tc main_v1

theorem x_mem : xR ∈ ucRefs τ sig := Finset.mem_filter.mpr ⟨StableHlo.devRef_mem_tcRefs main_arg0, by decide⟩
theorem o_mem : oR ∈ ucRefs τ sig := Finset.mem_filter.mpr ⟨StableHlo.devRef_mem_tcRefs main_v1, by decide⟩
theorem o_ne_x : oR ≠ xR := StableHlo.devRef_ne_of_ne (by decide)

variable (m : (ℓ : Loc nD τ sig) → Buf (Elt F) ℓ)

/-- What the devices send, and what their results hold at the launch. -/
abbrev sent : Sent F := fun c => m ((c : Thread nD τ).loc main_arg0)
abbrev got₀ : Got F := fun c => m ((c : Thread nD τ).loc main_v1)

/-- The arrays that the exchange doesn't touch. -/
abbrev others : Finset (DevRef τ sig) := ((ucRefs τ sig).erase xR).erase oR

/-- What device `c` starts the exchange with: its argument, its block of every device's result, and the other arrays. -/
def B (c : Dev nD) : sProp 𝕄 :=
  iprop(((c : Thread nD τ).loc main_arg0 ↦{fullShare} sent m c) ∗ (bigSep Finset.univ fun d => oPts (got₀ m) d c)
    ∗ StableHlo.held (c.tc : Thread nD τ) others fun b => m (c, b))

/-- The arrays after the exchange. -/
def W₁ (c : Dev nD) : Valuation τ sig (Elt F) := Function.update (fun b => m (c, b)) oR (got (sent m) c)

theorem split_one (c : Dev nD) : (StableHlo.held (c.tc : Thread nD τ) (ucRefs τ sig) (fun b => m (c, b)) : sProp 𝕄)
    = iprop(((c : Thread nD τ).loc main_arg0 ↦{fullShare} sent m c) ∗ (bigSep Finset.univ fun p => oPts (got₀ m) c p)
      ∗ StableHlo.held (c.tc : Thread nD τ) others fun b => m (c, b)) :=
  (HeldTwo.held_two (c.tc : Thread nD τ) _ xR oR x_mem o_mem o_ne_x _).trans (by
    show iprop(_ ∗ ((c : Thread nD τ).loc main_v1 ↦{fullShare} got₀ m c) ∗ _) = _
    rw [o_split (got₀ m) c])

theorem hB : (bigSep Finset.univ fun c : Dev nD => StableHlo.held (c.tc : Thread nD τ) (ucRefs τ sig) (fun b => m (c, b)))
    ⊢ (bigSep Finset.univ (B m) : sProp 𝕄) := by
  rw [bigSep_congr fun c _ => split_one m c, bigSep_sep', bigSep_sep', HeldTwo.rows_columns, ← bigSep_sep', ← bigSep_sep']
  exact .rfl

theorem runs : TalkRun.BodyRuns (talk (sent m)) (B m) (W₁ m) (pcfgs (F := F)) adm (defs₀ (F := F)) Variants.none 0 := by
  intro c K t Q
  have ht : t = (t0_0 : Fin cfg0.N) := Subsingleton.elim (α := Fin 1) _ _
  rw [ht]
  iintro ⟨HR, Hl, Hp, Ht, HO, Hc, HB⟩ HQ
  unfold B TalkRun.creds
  icases HB with ⟨Hx, Ho, Hr⟩
  have h := body_run (sent m) (got₀ m) K c Variants.none (fun _ => Q)
  iapply h $$ [HR Hl Hp Ht HO Hc Hx Ho]
  · isplitl [HR]; · iexact HR
    isplitl [Hl]; · iexact Hl
    isplitl [Hp]; · iexact Hp
    isplitl [Ht]; · iexact Ht
    isplitl [HO]; · iexact HO
    isplitl [Hc]; · iexact Hc
    isplitl [Hx]; · iexact Hx
    iexact Ho
  iintro ⟨HO, Hx, Ho, Hz⟩
  iapply HQ
  isplitl [HO]; · iexact HO
  isplitr [Hz]
  · iapply (HeldTwo.held_back (c.tc : Thread nD τ) (ucRefs τ sig) xR oR x_mem o_mem o_ne_x (fun b => m (c, b)) (got (sent m) c))
    isplitl [Hx]; · iexact Hx
    isplitl [Ho]; · iexact Ho
    iexact Hr
  iexact Hz

theorem own_sems : Pipeline.OwnSemFacts (pcfgs (F := F) 0).spec (talk (sent m)).osem :=
  ⟨fun k => regions_no_unscoped _, fun a b h => (talk (sent m)).sem_inj (by injection h), fun k w => Fin.elim0 w⟩

theorem no_window : IsEmpty (Fin cfg0.W) := ⟨fun w => Fin.elim0 w⟩

/-- The two regions' proof data. -/
def pdats : (p : Fin 2) → (c : Dev nD) → Dat τ (Elt F) Unit ℕ (UU nD τ sig) ℕ (cfgs p) c
  | ⟨0, _⟩ => TalkRun.dat (talk (sent m)) (B m) (W₁ m) cfg0 no_window
  | ⟨1, _⟩ => Step.dat (W₁ m)

/-- The arrays at the end. -/
def W₂ (c : Dev nD) : Valuation τ sig (Elt F) := Pipeline.afterRegion (Step.dat (W₁ m) c) (W₁ m c)

theorem arr_mem : arrRefs (τ := τ) spec1 ⊆ ucRefs τ sig := Pipeline.arrRefs_sub_ucRefs _ (by decide)

def optimizer := PlainRegion.region (talk (sent m)) (pdats m) (pcs := pcfgs (F := F)) (a := adm) (defs₀ (F := F)) Variants.none 1 launch1.toP rfl arr_mem
  (Step.body_obligation (W₁ m)) (fun _ _ => rfl) (fun _ => rfl) (fun c => (Step.dat (W₁ m) c).share_full fun _ => rfl) (Step.Φ_eq (W₁ m)) (W₁ m) (Step.A_eq (W₁ m))

theorem two_regions : ((0 : Fin 2) :: [1]).Nodup := by decide

/-- The run: every array at the end, and every counter at zero. -/
theorem run_main (g : Dev nD → PrngReg) :
    θ_run (defs (F := F)) (onTc (τ := τ) (main (F := F))) ⟨m, fun _ => 0, g⟩
      (fun r => (∀ (c : Dev nD) (b : DevRef τ sig), b ∈ ucRefs τ sig → r.2.mem (c, b) = W₂ m c b) ∧ r.2.sem = fun _ => 0) :=
  TalkRun.run (pcs := pcfgs (F := F)) (a := adm) (pdats := pdats m) (p := 0) (defs₀ := defs₀ (F := F)) (𝒱₀ := Variants.none) (T := talk (sent m)) (B := B m) (W₁ := W₁ m)
    cellOf_inj m g main launch0.toP (own_sems m) rfl no_window rfl (runs m) (fun _ => rfl) (hB m)
    [.region (optimizer m)] (fun c => by rfl) two_regions (W₂ m)
    ⟨fun _ => .rfl, fun _ => .rfl⟩ regions_no_unscoped

end Cert.Run

end
-- ==== Proof.Final.lean ====
/-
  The optimizer's results, whole: at row `r` and column `k` each is the row block's result of the rows `r` of the arrays that
  the region reads.
-/
module

public import proofs.«01_k».proof.Proof.Step
public import Idealize.ShloMosaic.Lib.ValueIdx
public import Idealize.ShloMosaic.Lib.Pointwise

@[expose] public section

set_option maxRecDepth 16384

noncomputable section

namespace Cert.Step

open Cert.KernelIdeal Cert.KernelIdeal.Gen
open Idealize.ShloMosaic Idealize.ShloMosaic.TcCoe
open Idealize.ShloMosaic.Pipeline (Dat Cfg Window)

variable {F : FTy → Type} [FloatOps F]
variable (W : Dev nD → Valuation τ sig (Elt F))

/-! ## Where a block lies: block `t` is the rows `256 t` to `256 t + 255` -/

/-- Row `a` of block `t`. -/
abbrev row (t : Fin cfg1.N) (a : Fin 256) : Fin 6656 := ⟨t.val * 256 + a.val, by have := t.isLt; have h : cfg1.N = 26 := rfl; omega⟩

theorem index_0 : ∀ t : Fin grid1.N, win1_0.index t 0 = 0 ∧ win1_0.index t 1 = t.val ∧ win1_0.index t 2 = 0 := by decide +kernel
theorem index_1 : ∀ t : Fin grid1.N, win1_1.index t 0 = t.val ∧ win1_1.index t 1 = 0 := by decide +kernel
theorem index_2 : ∀ t : Fin grid1.N, win1_2.index t 0 = t.val ∧ win1_2.index t 1 = 0 := by decide +kernel
theorem index_3 : ∀ t : Fin grid1.N, win1_3.index t 0 = t.val ∧ win1_3.index t 1 = 0 := by decide +kernel
theorem index_4 : ∀ t : Fin grid1.N, win1_4.index t 0 = t.val ∧ win1_4.index t 1 = 0 := by decide +kernel

theorem blk_0 (c : Dev nD) (t : Fin cfg1.N) (p : Fin 8) (a : Fin 256) (b : Fin 1024) :
    (blk W c 0 t : S8x256x1024.Idx → F .bf16) (ix3 p a b) = (W c (Proc.devRef .tc main_v1) : S8x6656x1024.Idx → F .bf16) (ix3 p (row t a) b) := by
  show (W c (Proc.devRef .tc main_v1) : S8x6656x1024.Idx → F .bf16) ((win1_0.rect t).emb (ix3 p a b)) = _
  refine congrArg _ (funext fun x => Fin.ext ?_)
  obtain ⟨h0, h1, h2⟩ := index_0 t
  refine (win1_0.rect_emb_val t (ix3 p a b) x rfl).trans ?_
  fin_cases x
  · show win1_0.index t 0 * 8 + p.val = _; rw [h0]; simp
  · show win1_0.index t 1 * 256 + a.val = _; rw [h1]; simp
  · show win1_0.index t 2 * 1024 + b.val = _; rw [h2]; simp

theorem blk_1 (c : Dev nD) (t : Fin cfg1.N) (a : Fin 256) (b : Fin 1024) :
    (blk W c 1 t : S256x1024.Idx → F .f32) (ix2 a b) = (W c (Proc.devRef .tc main_arg1) : S6656x1024.Idx → F .f32) (ix2 (row t a) b) := by
  show (W c (Proc.devRef .tc main_arg1) : S6656x1024.Idx → F .f32) ((win1_1.rect t).emb (ix2 a b)) = _
  refine congrArg _ (funext fun x => Fin.ext ?_)
  obtain ⟨h0, h1⟩ := index_1 t
  refine (win1_1.rect_emb_val t (ix2 a b) x rfl).trans ?_
  fin_cases x
  · show win1_1.index t 0 * 256 + a.val = _; rw [h0]; rfl
  · show win1_1.index t 1 * 1024 + b.val = _; rw [h1]; simp

theorem blk_2 (c : Dev nD) (t : Fin cfg1.N) (a : Fin 256) (b : Fin 1024) :
    (blk W c 2 t : S256x1024.Idx → F .f32) (ix2 a b) = (W c (Proc.devRef .tc main_arg2) : S6656x1024.Idx → F .f32) (ix2 (row t a) b) := by
  show (W c (Proc.devRef .tc main_arg2) : S6656x1024.Idx → F .f32) ((win1_2.rect t).emb (ix2 a b)) = _
  refine congrArg _ (funext fun x => Fin.ext ?_)
  obtain ⟨h0, h1⟩ := index_2 t
  refine (win1_2.rect_emb_val t (ix2 a b) x rfl).trans ?_
  fin_cases x
  · show win1_2.index t 0 * 256 + a.val = _; rw [h0]; rfl
  · show win1_2.index t 1 * 1024 + b.val = _; rw [h1]; simp

theorem blk_3 (c : Dev nD) (t : Fin cfg1.N) (a : Fin 256) (b : Fin 1024) :
    (blk W c 3 t : S256x1024.Idx → F .f32) (ix2 a b) = (W c (Proc.devRef .tc main_arg3) : S6656x1024.Idx → F .f32) (ix2 (row t a) b) := by
  show (W c (Proc.devRef .tc main_arg3) : S6656x1024.Idx → F .f32) ((win1_3.rect t).emb (ix2 a b)) = _
  refine congrArg _ (funext fun x => Fin.ext ?_)
  obtain ⟨h0, h1⟩ := index_3 t
  refine (win1_3.rect_emb_val t (ix2 a b) x rfl).trans ?_
  fin_cases x
  · show win1_3.index t 0 * 256 + a.val = _; rw [h0]; rfl
  · show win1_3.index t 1 * 1024 + b.val = _; rw [h1]; simp

/-- The block of the outputs' windows, which cut all four results alike. -/
theorem out_emb (t : Fin cfg1.N) (a : Fin 256) (b : Fin 1024) : (win1_4.rect t).emb (ix2 a b) = (ix2 (row t a) b : S6656x1024.Idx) := by
  refine funext fun x => Fin.ext ?_
  obtain ⟨h0, h1⟩ := index_4 t
  refine (win1_4.rect_emb_val t (ix2 a b) x rfl).trans ?_
  fin_cases x
  · show win1_4.index t 0 * 256 + a.val = _; rw [h0]; rfl
  · show win1_4.index t 1 * 1024 + b.val = _; rw [h1]; simp

/-- Every row lies in one point's block. -/
theorem row_of (r : Fin 6656) : ∃ (t : Fin cfg1.N) (a : Fin 256), row t a = r := by
  have hN : cfg1.N = 26 := rfl
  have hr := r.isLt
  exact ⟨⟨r.val / 256, by omega⟩, ⟨r.val % 256, Nat.mod_lt _ (by decide)⟩, Fin.ext (Nat.div_add_mod' r.val 256)⟩

/-! ## The results at a row of a point's block -/

theorem apart_4 : ∀ t t' : Fin cfg1.N, win1_4.index t = win1_4.index t' → t = t' :=
  (by decide +kernel : ∀ t t' : Fin grid1.N, win1_4.index t = win1_4.index t' → t = t')
theorem apart_5 : ∀ t t' : Fin cfg1.N, win1_5.index t = win1_5.index t' → t = t' :=
  (by decide +kernel : ∀ t t' : Fin grid1.N, win1_5.index t = win1_5.index t' → t = t')
theorem apart_6 : ∀ t t' : Fin cfg1.N, win1_6.index t = win1_6.index t' → t = t' :=
  (by decide +kernel : ∀ t t' : Fin grid1.N, win1_6.index t = win1_6.index t' → t = t')
theorem apart_7 : ∀ t t' : Fin cfg1.N, win1_7.index t = win1_7.index t' → t = t' :=
  (by decide +kernel : ∀ t t' : Fin grid1.N, win1_7.index t = win1_7.index t' → t = t')

theorem flush_4 : ∀ t : Fin cfg1.N, (cfg1.win 4).flush t = true := (by decide +kernel : ∀ t : Fin grid1.N, win1_4.flush t = true)
theorem flush_5 : ∀ t : Fin cfg1.N, (cfg1.win 5).flush t = true := (by decide +kernel : ∀ t : Fin grid1.N, win1_5.flush t = true)
theorem flush_6 : ∀ t : Fin cfg1.N, (cfg1.win 6).flush t = true := (by decide +kernel : ∀ t : Fin grid1.N, win1_6.flush t = true)
theorem flush_7 : ∀ t : Fin cfg1.N, (cfg1.win 7).flush t = true := (by decide +kernel : ∀ t : Fin grid1.N, win1_7.flush t = true)

theorem grad_at (c : Dev nD) (t : Fin cfg1.N) (a : Fin 256) (b : Fin 1024) :
    ((dat W c).arrAt 4 cfg1.N : S6656x1024.Idx → F .f32) (ix2 (row t a) b) = grad (blk W c 0 t) (ix2 a b) := by
  rw [← out_emb]
  exact ((dat W c).arrAt_emb_eq_flushed 4 (fun t t' _ _ hne => (cfg1.win 4).disjoint_blk fun h => hne (apart_4 t t' h)) t (flush_4 t) (ix2 a b)).trans rfl
theorem upd_at (c : Dev nD) (t : Fin cfg1.N) (a : Fin 256) (b : Fin 1024) :
    ((dat W c).arrAt 5 cfg1.N : S6656x1024.Idx → F .f32) (ix2 (row t a) b)
      = upd (blk W c 0 t) (blk W c 1 t) (blk W c 2 t) (blk W c 3 t) (ix2 a b) := by
  rw [← out_emb]
  exact ((dat W c).arrAt_emb_eq_flushed 5 (fun t t' _ _ hne => (cfg1.win 5).disjoint_blk fun h => hne (apart_5 t t' h)) t (flush_5 t) (ix2 a b)).trans rfl
theorem mom_at (c : Dev nD) (t : Fin cfg1.N) (a : Fin 256) (b : Fin 1024) :
    ((dat W c).arrAt 6 cfg1.N : S6656x1024.Idx → F .f32) (ix2 (row t a) b) = mom (blk W c 0 t) (blk W c 2 t) (ix2 a b) := by
  rw [← out_emb]
  exact ((dat W c).arrAt_emb_eq_flushed 6 (fun t t' _ _ hne => (cfg1.win 6).disjoint_blk fun h => hne (apart_6 t t' h)) t (flush_6 t) (ix2 a b)).trans rfl
theorem var_at (c : Dev nD) (t : Fin cfg1.N) (a : Fin 256) (b : Fin 1024) :
    ((dat W c).arrAt 7 cfg1.N : S6656x1024.Idx → F .f32) (ix2 (row t a) b) = var (blk W c 0 t) (blk W c 3 t) (ix2 a b) := by
  rw [← out_emb]
  exact ((dat W c).arrAt_emb_eq_flushed 7 (fun t t' _ _ hne => (cfg1.win 7).disjoint_blk fun h => hne (apart_7 t t' h)) t (flush_7 t) (ix2 a b)).trans rfl

end Cert.Step

end
-- ==== Proof.Math.lean ====
/-
  The optimizer's arithmetic over the extended reals: what a row block of the kernel computes, and what the reference
  computes, at one row and column, as the same formulas of the same numbers.
-/
module

public import proofs.«01_k».proof.Proof.Step
public import proofs.«01_k».proof.Proof.Gen.ReferenceIdeal.Run
public import Idealize.ShloMosaic.Lib.Pointwise

@[expose] public section

set_option maxRecDepth 16384

noncomputable section

namespace Cert.Math

open Idealize.ShloMosaic

/-! ## The formulas -/

/-- The new first moment of a gradient `g` and a moment `a`. -/
def newM (g a : EReal) : EReal := Ideal.ofBits .f32 0x3F666666#32 * a + Ideal.ofBits .f32 0x3DCCCCCD#32 * g
/-- The new second moment of a gradient `g` and a moment `b`. -/
def newV (g b : EReal) : EReal := Ideal.ofBits .f32 0x3F7FBE77#32 * b + Ideal.ofBits .f32 0x3A83126F#32 * (g * g)
/-- The change of a weight `w`, of the new moments `a` and `b`. -/
def change (w a b : EReal) : EReal :=
  Ideal.ofBits .f32 0xBA83126F#32
    * (Ideal.div (Ideal.div a (Ideal.ofBits .f32 0x3F26BD02#32)) (Ideal.sqrt (Ideal.div b (Ideal.ofBits .f32 0x3C231ACC#32)) + Ideal.ofBits .f32 0x322BCC77#32)
      + Ideal.ofBits .f32 0x3C23D70A#32 * w)

/-! ## The kernel's row block -/

section Kernel

open Cert.KernelIdeal Cert.KernelIdeal.Gen Cert.Step

theorem grad_eq (x : Vec Ideal S8x256x1024 .bf16) (a : Fin 256) (b : Fin 1024) :
    (grad (F := Ideal) x (ix2 a b) : EReal) = ∑ p : Fin 8, (x (ix3 p a b) : EReal) := by
  unfold grad
  pointwise [k1_pay4]
  rw [Fin.sum_univ_eight]

theorem mom_eq (x : Vec Ideal S8x256x1024 .bf16) (mm : Vec Ideal S256x1024 .f32) (a : Fin 256) (b : Fin 1024) :
    (mom (F := Ideal) x mm (ix2 a b) : EReal) = newM (grad (F := Ideal) x (ix2 a b)) (mm (ix2 a b)) := by
  unfold mom newM
  pointwise [k1_pay1, k1_pay5]

theorem var_eq (x : Vec Ideal S8x256x1024 .bf16) (vv : Vec Ideal S256x1024 .f32) (a : Fin 256) (b : Fin 1024) :
    (Step.var (F := Ideal) x vv (ix2 a b) : EReal) = newV (grad (F := Ideal) x (ix2 a b)) (vv (ix2 a b)) := by
  unfold Step.var newV
  pointwise [k1_pay2]

theorem upd_eq (x : Vec Ideal S8x256x1024 .bf16) (w mm vv : Vec Ideal S256x1024 .f32) (a : Fin 256) (b : Fin 1024) :
    (upd (F := Ideal) x w mm vv (ix2 a b) : EReal)
      = change (w (ix2 a b)) (newM (grad (F := Ideal) x (ix2 a b)) (mm (ix2 a b))) (newV (grad (F := Ideal) x (ix2 a b)) (vv (ix2 a b))) := by
  unfold upd change newM newV
  pointwise [k1_pay1, k1_pay2, k1_pay3, k1_pay5]

end Kernel

/-! ## The reference -/

section Reference

open Cert.ReferenceIdeal Cert.ReferenceIdeal.Gen

/-- The reference's gradient: the sum over the devices. -/
def refG (X : FVec Ideal S64x6656x1024 .bf16) : FVec Ideal S53248x1024 .f32 :=
  Host.reduceAdd (extf .f32 (shapeCast _ X shapeCasts_S64x6656x1024_S8x53248x1024) bitsLt_bf16_f32) (constant S_ .f32 0x00000000#32)
    reducesTo_S8x53248x1024_S53248x1024_d0 h_S_
/-- Its new first moment, of a gradient and a moment. -/
def refM (G M : FVec Ideal S53248x1024 .f32) : FVec Ideal S53248x1024 .f32 :=
  addf (mulf (broadcastInDim S53248x1024 ![] bcast_S_S53248x1024 (constant S_ .f32 0x3F666666#32)) M)
    (mulf (broadcastInDim S53248x1024 ![] bcast_S_S53248x1024 (constant S_ .f32 0x3DCCCCCD#32)) G)
/-- Its new second moment. -/
def refV (G V : FVec Ideal S53248x1024 .f32) : FVec Ideal S53248x1024 .f32 :=
  addf (mulf (broadcastInDim S53248x1024 ![] bcast_S_S53248x1024 (constant S_ .f32 0x3F7FBE77#32)) V)
    (mulf (broadcastInDim S53248x1024 ![] bcast_S_S53248x1024 (constant S_ .f32 0x3A83126F#32)) (mulf G G))
/-- Its change of the weights, of the new moments. -/
def refD (W M V : FVec Ideal S53248x1024 .f32) : FVec Ideal S53248x1024 .f32 :=
  mulf (broadcastInDim S53248x1024 ![] bcast_S_S53248x1024 (constant S_ .f32 0xBA83126F#32))
    (addf
      (Host.divf (Host.divf M (broadcastInDim S53248x1024 ![] bcast_S_S53248x1024 (constant S_ .f32 0x3F26BD02#32)))
        (addf (Host.sqrt (Host.divf V (broadcastInDim S53248x1024 ![] bcast_S_S53248x1024 (constant S_ .f32 0x3C231ACC#32))))
          (broadcastInDim S53248x1024 ![] bcast_S_S53248x1024 (constant S_ .f32 0x322BCC77#32))))
      (mulf (broadcastInDim S53248x1024 ![] bcast_S_S53248x1024 (constant S_ .f32 0x3C23D70A#32)) W))

theorem refM_eq (G M : FVec Ideal S53248x1024 .f32) (r : Fin 53248) (b : Fin 1024) :
    (refM G M (ix2 r b) : EReal) = newM (G (ix2 r b)) (M (ix2 r b)) := by
  unfold refM newM
  pointwise

theorem refV_eq (G V : FVec Ideal S53248x1024 .f32) (r : Fin 53248) (b : Fin 1024) :
    (refV G V (ix2 r b) : EReal) = newV (G (ix2 r b)) (V (ix2 r b)) := by
  unfold refV newV
  pointwise

theorem refD_eq (W M V : FVec Ideal S53248x1024 .f32) (r : Fin 53248) (b : Fin 1024) :
    (refD W M V (ix2 r b) : EReal) = change (W (ix2 r b)) (M (ix2 r b)) (V (ix2 r b)) := by
  unfold refD change
  pointwise

/-- Row `r` of device `c`'s part of the gradient: the sum over the devices `p` of their blocks for `c`. -/
theorem refG_eq (X : FVec Ideal S64x6656x1024 .bf16) (c : Fin 8) (r : Fin 6656) (b : Fin 1024) :
    (refG X (ix2 ⟨c.val * 6656 + r.val, by omega⟩ b) : EReal) = ∑ p : Fin 8, (X (ix3 ⟨p.val * 8 + c.val, by omega⟩ r b) : EReal) := by
  unfold refG
  pointwise
  refine Finset.sum_congr rfl fun p _ => congrArg X (congrArg (fun q : Fin 64 => ix3 q r b) (Fin.ext ?_))
  show p.val * 8 + (c.val * 6656 + r.val) / 6656 = p.val * 8 + c.val
  omega

end Reference

end Cert.Math

end
-- ==== Proof.Twin.lean ====
/-
  The gradients' exchange and its ideal program have the same text: their calls, and so their tables of calls, are equal.
-/
module

public import proofs.«01_k».proof.Proof.Gen.Kernel
public import proofs.«01_k».proof.Proof.Gen.KernelIdeal

@[expose] public section

set_option maxRecDepth 65536

noncomputable section

namespace Cert.Twin

open Idealize.ShloMosaic

variable {F : FTy → Type} [FloatOps F]

theorem call0 : Cert.Kernel.cc0_scatter_grads (F := F) = Cert.KernelIdeal.cc0_scatter_grads (F := F) := rfl
theorem call1 : Cert.Kernel.cc1_adamw_big (F := F) = Cert.KernelIdeal.cc1_adamw_big (F := F) := rfl

theorem calls : Cert.Kernel.defs₀ (F := F) = Cert.KernelIdeal.defs₀ (F := F) :=
  congrArg Defs.onTc (funext fun l => funext fun x => match l, x with
    | 0, (_, _) => congrFun (congrFun (congrFun (congrFun (congrFun (congrFun (congrFun call0 _) _) _) _) _) _) _
    | 1, (_, _) => rfl
    | ⟨_ + 2, h⟩, _ => absurd h (Nat.not_lt.2 (Nat.le_add_left _ _)))

theorem tables : Cert.Kernel.defs (F := F) = Cert.KernelIdeal.defs (F := F) := congrArg (Pipeline.defs Cert.KernelIdeal.pcfgs) calls

end Cert.Twin

end
-- ==== Proof.Algebraic.lean ====
/-
  The gradients' exchange with the optimizer and its reference compute the same function over the extended reals: device `c`'s
  results are block `c` of the reference's.
-/
module

public import proofs.«01_k».proof.Proof.Run
public import proofs.«01_k».proof.Proof.Final
public import proofs.«01_k».proof.Proof.Math
public import proofs.«01_k».proof.Proof.Twin
public import proofs.«01_k».proof.Proof.Gen.ReferenceIdeal.Run
public import proofs.«01_k».proof.Defs

@[expose] public section

set_option maxRecDepth 16384

noncomputable section

namespace Cert.Algebraic

open Cert.KernelIdeal Cert.KernelIdeal.Gen Cert.AllToAll Cert.Math
open Idealize.ShloMosaic Idealize.ShloMosaic.TcCoe Idealize.SL.Sem
open Idealize.ShloMosaic.Pipeline (Dat ucRefs arrRef)

/-! ## The arrays at the end -/

section Ends

variable {F : FTy → Type} [FloatOps F] (m : (ℓ : Loc nD τ sig) → Buf (Elt F) ℓ) (c : Dev nD)

theorem mem_uc (b : Ref sig .tc) (h : ¬(Proc.devRef .tc b : DevRef τ sig).isScoped = true) : (Proc.devRef .tc b : DevRef τ sig) ∈ ucRefs τ sig :=
  Finset.mem_filter.mpr ⟨StableHlo.devRef_mem_tcRefs b, h⟩

/-- A result ends as the optimizer's region leaves its window's array. -/
theorem end_arr (w : Fin cfg1.W) : Run.W₂ m c (Proc.devRef .tc (arrRef spec1 w)) = (Step.dat (Run.W₁ m) c).arrAt w cfg1.N :=
  Pipeline.afterRegion_arr (Step.dat (Run.W₁ m) c) (Run.W₁ m c) winFacts1.arr_inj w

/-- An array that the exchange doesn't write is as launched when the optimizer starts. -/
theorem start_other (b : Ref sig .tc) (h : b ≠ main_v1) : Run.W₁ m c (Proc.devRef .tc b) = m ((c : Thread nD τ).loc b) :=
  Function.update_of_ne (StableHlo.devRef_ne_of_ne h) _ _

theorem start_got : Run.W₁ m c (Proc.devRef .tc main_v1) = got (Run.sent m) c := Function.update_self _ _ _

/-- An input of the optimizer ends as launched. -/
theorem end_in (w : Fin cfg1.W) (h : (cfg1.win w).isOut = false) (hb : arrRef spec1 w ≠ main_v1) :
    Run.W₂ m c (Proc.devRef .tc (arrRef spec1 w)) = m ((c : Thread nD τ).loc (arrRef spec1 w)) :=
  ((end_arr m c w).trans ((Step.dat (Run.W₁ m) c).arrAt_in w h cfg1.N)).trans ((Step.A_eq (Run.W₁ m) c w).trans (start_other m c _ hb))

theorem end_arg1 : Run.W₂ m c (Proc.devRef .tc main_arg1) = m ((c : Thread nD τ).loc main_arg1) := end_in m c 1 rfl (by decide)
theorem end_arg2 : Run.W₂ m c (Proc.devRef .tc main_arg2) = m ((c : Thread nD τ).loc main_arg2) := end_in m c 2 rfl (by decide)
theorem end_arg3 : Run.W₂ m c (Proc.devRef .tc main_arg3) = m ((c : Thread nD τ).loc main_arg3) := end_in m c 3 rfl (by decide)
theorem end_arg0 : Run.W₂ m c (Proc.devRef .tc main_arg0) = m ((c : Thread nD τ).loc main_arg0) :=
  (Pipeline.afterRegion_off (Step.dat (Run.W₁ m) c) (Run.W₁ m c) (ucRefs τ sig) _
    (Finset.mem_sdiff.mpr ⟨mem_uc main_arg0 (by decide), by decide⟩)).trans (start_other m c main_arg0 (by decide))

end Ends

/-! ## The results -/

section Values

variable (m : (ℓ : Loc nD τ sig) → Buf (Elt Ideal) ℓ) (c : Dev nD)

/-- The sum of what the devices sent to `c`, at a row and a column. -/
def total (r : Fin 6656) (b : Fin 1024) : EReal := ∑ p : Fin 8, ((m ((p : Thread nD τ).loc main_arg0) : S8x6656x1024.Idx → EReal) (ix3 c r b))

theorem grad_total (t : Fin cfg1.N) (a : Fin 256) (b : Fin 1024) :
    (Step.grad (Step.blk (Run.W₁ m) c 0 t) (ix2 a b) : EReal) = total m c (Step.row t a) b := by
  rw [grad_eq]
  refine Finset.sum_congr rfl fun p _ => ?_
  rw [Step.blk_0, start_got]
  rfl

theorem end_G (r : Fin 6656) (b : Fin 1024) :
    (Run.W₂ m c (Proc.devRef .tc main_v2_0) : S6656x1024.Idx → EReal) (ix2 r b) = total m c r b := by
  obtain ⟨t, a, rfl⟩ := Step.row_of r
  exact ((congrFun (end_arr m c 4) _).trans (Step.grad_at _ c t a b)).trans (grad_total m c t a b)

theorem end_M (r : Fin 6656) (b : Fin 1024) :
    (Run.W₂ m c (Proc.devRef .tc main_v2_2) : S6656x1024.Idx → EReal) (ix2 r b)
      = newM (total m c r b) ((m ((c : Thread nD τ).loc main_arg2) : S6656x1024.Idx → EReal) (ix2 r b)) := by
  obtain ⟨t, a, rfl⟩ := Step.row_of r
  refine ((congrFun (end_arr m c 6) _).trans (Step.mom_at _ c t a b)).trans ?_
  rw [mom_eq, grad_total, Step.blk_2, start_other m c main_arg2 (by decide)]

theorem end_V (r : Fin 6656) (b : Fin 1024) :
    (Run.W₂ m c (Proc.devRef .tc main_v2_3) : S6656x1024.Idx → EReal) (ix2 r b)
      = newV (total m c r b) ((m ((c : Thread nD τ).loc main_arg3) : S6656x1024.Idx → EReal) (ix2 r b)) := by
  obtain ⟨t, a, rfl⟩ := Step.row_of r
  refine ((congrFun (end_arr m c 7) _).trans (Step.var_at _ c t a b)).trans ?_
  rw [var_eq, grad_total, Step.blk_3, start_other m c main_arg3 (by decide)]

theorem end_D (r : Fin 6656) (b : Fin 1024) :
    (Run.W₂ m c (Proc.devRef .tc main_v2_1) : S6656x1024.Idx → EReal) (ix2 r b)
      = change ((m ((c : Thread nD τ).loc main_arg1) : S6656x1024.Idx → EReal) (ix2 r b))
        (newM (total m c r b) ((m ((c : Thread nD τ).loc main_arg2) : S6656x1024.Idx → EReal) (ix2 r b)))
        (newV (total m c r b) ((m ((c : Thread nD τ).loc main_arg3) : S6656x1024.Idx → EReal) (ix2 r b))) := by
  obtain ⟨t, a, rfl⟩ := Step.row_of r
  refine ((congrFun (end_arr m c 5) _).trans (Step.upd_at _ c t a b)).trans ?_
  rw [upd_eq, grad_total, Step.blk_1, Step.blk_2, Step.blk_3, start_other m c main_arg1 (by decide), start_other m c main_arg2 (by decide),
    start_other m c main_arg3 (by decide)]

end Values

/-! ## Blocks of the whole arrays -/

/-- Row `r` of block `c` is row `6656 c + r` of the whole. -/
theorem rows_block {A : Type} (v : (⟨2, ![53248, 1024]⟩ : Shape).Idx → A) (c : Fin 8) (r : Fin 6656) (b : Fin 1024) :
    Layout.block ⟨2, ![6656, 1024]⟩ ⟨2, ![53248, 1024]⟩ 0 8 c v (by decide) (ix2 r b) = v (ix2 ⟨c.val * 6656 + r.val, by omega⟩ b) := by
  refine congrArg v (funext fun a => Fin.ext ?_)
  fin_cases a <;> rfl

theorem parts_block {A : Type} (v : (⟨3, ![64, 6656, 1024]⟩ : Shape).Idx → A) (p c : Fin 8) (r : Fin 6656) (b : Fin 1024) :
    Layout.block ⟨3, ![8, 6656, 1024]⟩ ⟨3, ![64, 6656, 1024]⟩ 0 8 p v (by decide) (ix3 c r b) = v (ix3 ⟨p.val * 8 + c.val, by omega⟩ r b) := by
  refine congrArg v (funext fun a => Fin.ext ?_)
  fin_cases a <;> rfl

/-! ## The claim -/

/-- No argument is changed, and no counter is left up. -/
theorem quiet {F : FTy → Type} [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨(h.1 c _ (mem_uc main_arg0 (by decide))).trans (end_arg0 m c),
    (h.1 c _ (mem_uc main_arg1 (by decide))).trans (end_arg1 m c), (h.1 c _ (mem_uc main_arg2 (by decide))).trans (end_arg2 m c),
    (h.1 c _ (mem_uc main_arg3 (by decide))).trans (end_arg3 m c)⟩, h.2⟩) (Run.run_main m g)

theorem frame_ideal : Cert.quiescent_KernelIdeal := fun m g _ => quiet m g

/-- The kernel at the machine's words: the two programs have the same text. -/
theorem frame_kernel : Cert.quiescent_Kernel := fun m g _ => by
  rw [Cert.Twin.tables]
  exact quiet (F := Bits) m g

theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

open Cert.ReferenceIdeal (S64x6656x1024 S53248x1024)

variable (m : (ℓ : Loc nD τ sig) → Buf (Elt Ideal) ℓ) (X : FVec Ideal S64x6656x1024 .bf16) (W M V : FVec Ideal S53248x1024 .f32)
  (hX : ∀ p : Dev nD, m ((p : Thread nD τ).loc main_arg0) = Layout.block ⟨3, ![8, 6656, 1024]⟩ ⟨3, ![64, 6656, 1024]⟩ 0 8 p X)
  (hW : ∀ p : Dev nD, m ((p : Thread nD τ).loc main_arg1) = Layout.block ⟨2, ![6656, 1024]⟩ ⟨2, ![53248, 1024]⟩ 0 8 p W)
  (hM : ∀ p : Dev nD, m ((p : Thread nD τ).loc main_arg2) = Layout.block ⟨2, ![6656, 1024]⟩ ⟨2, ![53248, 1024]⟩ 0 8 p M)
  (hV : ∀ p : Dev nD, m ((p : Thread nD τ).loc main_arg3) = Layout.block ⟨2, ![6656, 1024]⟩ ⟨2, ![53248, 1024]⟩ 0 8 p V)
  (c : Dev nD)

include hX in
theorem total_eq (r : Fin 6656) (b : Fin 1024) : total m c r b = (refG X (ix2 ⟨c.val * 6656 + r.val, by have := (show Fin 8 from c).isLt; have h : c.val < 8 := this; omega⟩ b) : EReal) := by
  rw [refG_eq X c r b]
  refine Finset.sum_congr rfl fun p _ => ?_
  rw [hX p]
  exact parts_block X p c r b

include hX in
theorem block_G : Run.W₂ m c (Proc.devRef .tc main_v2_0) = Layout.block ⟨2, ![6656, 1024]⟩ ⟨2, ![53248, 1024]⟩ 0 8 c (refG X) := by
  refine funext fun i => ?_
  obtain ⟨r, b, rfl⟩ : ∃ (r : Fin 6656) (b : Fin 1024), i = ix2 r b := ⟨i 0, i 1, eq_ix2 i⟩
  exact ((end_G m c r b).trans (total_eq m X hX c r b)).trans (rows_block (refG X) c r b).symm

include hX hM in
theorem block_M : Run.W₂ m c (Proc.devRef .tc main_v2_2) = Layout.block ⟨2, ![6656, 1024]⟩ ⟨2, ![53248, 1024]⟩ 0 8 c (refM (refG X) M) := by
  refine funext fun i => ?_
  obtain ⟨r, b, rfl⟩ : ∃ (r : Fin 6656) (b : Fin 1024), i = ix2 r b := ⟨i 0, i 1, eq_ix2 i⟩
  refine ((end_M m c r b).trans ?_).trans (rows_block (refM (refG X) M) c r b).symm
  rw [refM_eq, total_eq m X hX c r b, hM c, rows_block]

include hX hV in
theorem block_V : Run.W₂ m c (Proc.devRef .tc main_v2_3) = Layout.block ⟨2, ![6656, 1024]⟩ ⟨2, ![53248, 1024]⟩ 0 8 c (refV (refG X) V) := by
  refine funext fun i => ?_
  obtain ⟨r, b, rfl⟩ : ∃ (r : Fin 6656) (b : Fin 1024), i = ix2 r b := ⟨i 0, i 1, eq_ix2 i⟩
  refine ((end_V m c r b).trans ?_).trans (rows_block (refV (refG X) V) c r b).symm
  rw [refV_eq, total_eq m X hX c r b, hV c, rows_block]

include hX hW hM hV in
theorem block_D : Run.W₂ m c (Proc.devRef .tc main_v2_1)
    = Layout.block ⟨2, ![6656, 1024]⟩ ⟨2, ![53248, 1024]⟩ 0 8 c (refD W (refM (refG X) M) (refV (refG X) V)) := by
  refine funext fun i => ?_
  obtain ⟨r, b, rfl⟩ : ∃ (r : Fin 6656) (b : Fin 1024), i = ix2 r b := ⟨i 0, i 1, eq_ix2 i⟩
  refine ((end_D m c r b).trans ?_).trans (rows_block (refD W (refM (refG X) M) (refV (refG X) V)) c r b).symm
  rw [refD_eq, refM_eq, refV_eq, total_eq m X hX c r b, hW c, hM c, hV c, rows_block, rows_block, rows_block]

theorem algebraic : Cert.algebraic_KernelIdeal_ReferenceIdeal := by
  intro m g m' g' _ h
  refine ⟨_, _, _, _, (θ_run Cert.KernelIdeal.defs _ _).mono (fun r hr c => ?_) (Run.run_main (F := Ideal) m g),
    (θ_run Cert.ReferenceIdeal.defs _ _).mono (fun r hr => hr 0) (Cert.ReferenceIdeal.Value.run (F := Ideal) m' g')⟩
  have hX := fun p => (h p).1
  have hW := fun p => (h p).2.1
  have hM := fun p => (h p).2.2.1
  have hV := fun p => (h p).2.2.2
  obtain ⟨hr, -⟩ := hr
  refine ⟨(hr c _ (mem_uc main_v2_0 (by decide))).trans (block_G m _ hX c), (hr c _ (mem_uc main_v2_1 (by decide))).trans (block_D m _ _ _ _ hX hW hM hV c),
    (hr c _ (mem_uc main_v2_2 (by decide))).trans (block_M m _ _ hX hM c), (hr c _ (mem_uc main_v2_3 (by decide))).trans (block_V m _ _ hX hV c),
    (hr c _ (mem_uc main_arg0 (by decide))).trans (end_arg0 m c), (hr c _ (mem_uc main_arg1 (by decide))).trans (end_arg1 m c),
    (hr c _ (mem_uc main_arg2 (by decide))).trans (end_arg2 m c), (hr c _ (mem_uc main_arg3 (by decide))).trans (end_arg3 m c)⟩

end Cert.Algebraic

end
-- ==== Proof.Relay.lean ====
/-
  The routes of an all-gather on the cube of eight devices.

  A device sends its block to its sibling and to its three fellows on the other chips; each fellow's block that arrives it
  passes on to its sibling. So copy `k` of a device goes to its peer `via k`, and what device `d` gets by copy `k` is the
  block of its peer `route k`. Copies 0 to 3 carry the device's own block, copies 4 to 6 what arrived by copies 1 to 3.
  A device waits for the fellows' blocks first (`early`), each time passing the block on (`late`), and then, in the order
  `waited`, for everything else.
-/
module

public import proofs.«01_k».proof.Proof.Peers

@[expose] public section

noncomputable section

namespace Cert.Relay

open Cert.Peers
open Idealize.SL Idealize.SL.RA Idealize.SL.BI
open scoped Idealize.SL.BI
open Idealize.SL.BI.BIBase Idealize.SL.BI.Laws Idealize.SL.ProofMode

variable {M : Type} [URA M]

/-- Copy `k` goes to this peer. -/
def via : Fin 7 → Fin 7 := ![0, 3, 1, 5, 0, 0, 0]
/-- What arrives by copy `k` is this peer's block. -/
def route : Fin 7 → Fin 7 := ![0, 3, 1, 5, 4, 2, 6]

/-- The block that reaches device `d` by copy `k`, and the block that device `c` sends by copy `k`. -/
def frm (k : Fin 7) (d : Fin 8) : Fin 8 := peer (route k) d
def blk (k : Fin 7) (c : Fin 8) : Fin 8 := frm k (peer (via k) c)

/-- The copies of the own block, those of the fellows' blocks as they arrive, and those that pass them on. -/
def own (i : Fin 4) : Fin 7 := ⟨i.val, by omega⟩
def early (j : Fin 3) : Fin 7 := ⟨1 + j.val, by omega⟩
def late (j : Fin 3) : Fin 7 := ⟨4 + j.val, by omega⟩
/-- The arrivals that are waited for last. -/
def arrive : Fin 4 → Fin 7 := ![0, 4, 5, 6]

theorem blk_own : ∀ (i : Fin 4) (c : Fin 8), blk (own i) c = c := by decide
theorem blk_late : ∀ (j : Fin 3) (c : Fin 8), blk (late j) c = frm (early j) c := by decide

theorem route_inj : Function.Injective route := by decide
theorem own_inj : Function.Injective own := by decide
theorem early_inj : Function.Injective early := by decide
theorem late_inj : Function.Injective late := by decide
theorem arrive_inj : Function.Injective arrive := by decide

theorem by_sending : (Finset.univ : Finset (Fin 7)) = Finset.univ.map ⟨own, own_inj⟩ ∪ Finset.univ.map ⟨late, late_inj⟩ := by decide
theorem by_arrival : (Finset.univ : Finset (Fin 7)) = Finset.univ.map ⟨early, early_inj⟩ ∪ Finset.univ.map ⟨arrive, arrive_inj⟩ := by decide
theorem routes_all : (Finset.univ : Finset (Fin 7)) = Finset.univ.map ⟨route, route_inj⟩ := by decide

/-- Something for every copy, by what it sends or by when it is waited for. -/
theorem bigSep_sending (Φ : Fin 7 → sProp M) :
    bigSep Finset.univ Φ = iprop((bigSep Finset.univ fun i => Φ (own i)) ∗ bigSep Finset.univ fun j => Φ (late j)) := by
  rw [by_sending, bigSep_union (by decide), bigSep_map, bigSep_map]; rfl
theorem bigSep_arrival (Φ : Fin 7 → sProp M) :
    bigSep Finset.univ Φ = iprop((bigSep Finset.univ fun j => Φ (early j)) ∗ bigSep Finset.univ fun i => Φ (arrive i)) := by
  rw [by_arrival, bigSep_union (by decide), bigSep_map, bigSep_map]; rfl
/-- Something for every device: for this one and for those whose blocks arrive. -/
theorem bigSep_blocks (d : Fin 8) (Φ : Fin 8 → sProp M) :
    bigSep Finset.univ Φ = iprop(Φ d ∗ bigSep Finset.univ fun k => Φ (frm k d)) := by
  rw [bigSep_peers d Φ]
  exact congrArg (fun P => iprop(Φ d ∗ P)) ((congrArg (fun s => bigSep s fun j => Φ (peer j d)) routes_all).trans (bigSep_map _))

/-! ### The cells that are waited for last -/

def waited : Fin 12 → Fin 15 := ![7, 11, 12, 13, 0, 1, 2, 3, 4, 5, 6, 14]
theorem waited_inj : Function.Injective waited := by decide
theorem waited_all : (Finset.univ : Finset (Fin 12)).map ⟨waited, waited_inj⟩
    = (Finset.univ.map ⟨fun i => recvC (arrive i), recvC_inj.comp arrive_inj⟩) ∪ (Finset.univ.map sendE ∪ {homeC}) := by decide
theorem bigSep_waited (Φ : Fin 15 → sProp M) :
    (bigSep Finset.univ fun i => Φ (waited i)) = iprop((bigSep Finset.univ fun i => Φ (recvC (arrive i))) ∗ (bigSep Finset.univ fun k => Φ (sendC k)) ∗ Φ homeC) := by
  have h : bigSep (Finset.univ.map ⟨waited, waited_inj⟩) Φ = bigSep Finset.univ fun i => Φ (waited i) := bigSep_map _
  rw [← h, waited_all, bigSep_union (by decide), bigSep_union (by decide), bigSep_map, bigSep_map, bigSep_singleton]; rfl

def after (i : ℕ) : Finset (Fin 12) := Finset.univ.filter fun j => i ≤ j.val
def before (i : ℕ) : Finset (Fin 12) := Finset.univ.filter fun j => j.val < i
theorem after_zero : after 0 = Finset.univ := by decide
theorem after_end : after 12 = ∅ := by decide
theorem before_zero : before 0 = ∅ := by decide
theorem before_end : before 12 = Finset.univ := by decide
theorem after_step : ∀ j : Fin 12, after j.val = insert j (after (j.val + 1)) := by decide
theorem not_after : ∀ j : Fin 12, j ∉ after (j.val + 1) := by decide
theorem before_step : ∀ j : Fin 12, before (j.val + 1) = insert j (before j.val) := by decide
theorem not_before : ∀ j : Fin 12, j ∉ before j.val := by decide
theorem bigSep_after (j : Fin 12) (Φ : Fin 12 → sProp M) : bigSep (after j.val) Φ = iprop(Φ j ∗ bigSep (after (j.val + 1)) Φ) := by
  rw [after_step, bigSep_insert (not_after j)]; rfl
theorem bigSep_before (j : Fin 12) (Φ : Fin 12 → sProp M) : bigSep (before (j.val + 1)) Φ = iprop(Φ j ∗ bigSep (before j.val) Φ) := by
  rw [before_step, bigSep_insert (not_before j)]; rfl

/-! ### The levels -/

/-- What is passed on lies above everything else: a device that waits for a fellow's block owes only such arrivals. -/
def level : Fin 15 → ℕ := byCell (fun _ => 0) (fun k => if k.val < 4 then 0 else 1) 0
theorem level_early : ∀ (j : Fin 3), ∀ k ∈ recvRest (late j).val, level (recvC (early j)) < level k := by decide

end Cert.Relay

end
-- ==== Proof.Gathering.lean ====
/-
  An all-gather by two hops: every device ends with everybody's block.

  The protocol has fifteen cells a device, each credited once. The departure of a copy gives back what it read: a share of the
  device's own block for the first four, the block that was passed on for the last three. The arrival of copy `k` at device
  `d` hands over block `frm k d` of `d`'s result, with that device's contents in it. Before the launch every device's result
  is dealt, block by block, to the devices that write it.

  The file is for any program whose arrays and semaphores are those of `Gather`. A printed body is matched with it one
  operation a time (`Runs`).
-/
module

public import proofs.«01_k».proof.Proof.OneShot
public import proofs.«01_k».proof.Proof.Slots
public import proofs.«01_k».proof.Proof.Relay
public import proofs.«01_k».proof.Proof.HeldTwo
public import Idealize.ShloMosaic.Lib.Transfers

@[expose] public section

noncomputable section

namespace Cert.Gathering

open Cert.OneShot Cert.Slots Cert.Peers Cert.Relay
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {τ : Topo} {sig : RefSig} {Val : EltTy → Type} {R C : ℕ} {e : EltTy}

local notation "𝕄" => MT 8 τ sig Unit Val ℕ (UU 8 τ sig) ℕ

variable (τ sig Val R C e) in
/-- The arrays and semaphores of an all-gather, the devices' blocks, and what every device is to have. -/
structure Gather where
  x : Memref sig .tc .hbm (Block R C) e
  o : Memref sig .tc .hbm (Stack R C) e
  hq : (One R C).Squeezes (Block R C)
  sem : Fin 15 → DmaSem sig
  sem_inj : Function.Injective sem
  /-- The credit of one block's transfer. -/
  credit : ℕ
  credit_pos : 0 < credit
  credit_x : x.view.dmaCredit = credit
  credit_o : ∀ p, (slot o hq p).view.dmaCredit = credit
  routes : ∀ c p : Dev 8, τ.routes (c : Thread 8 τ) (p : Thread 8 τ) = true
  X : (c : Dev 8) → Buf Val (x.view.loc (c : Thread 8 τ))
  G : (c : Dev 8) → Buf Val (o.view.loc (c : Thread 8 τ))
  reads : ∀ c d : Dev 8, (slot o hq c).view.read Val (G d) = x.view.read Val (X c)

namespace Gather

variable (A : Gather τ sig Val R C e)

/-! ### The pieces of the arrays -/

/-- Block `p` of device `d`'s result, with contents `f`. -/
def oPts (f : (c : Dev 8) → Buf Val (A.o.view.loc (c : Thread 8 τ))) (d : Dev 8) (p : Fin 8) : sProp 𝕄 :=
  (slot A.o A.hq p).view.loc (d : Thread 8 τ) ↦[(slot A.o A.hq p).view.set]{fullShare} f d
/-- A share of device `c`'s own block. -/
def xPts (q : PosShare TreeShare) (c : Dev 8) : sProp 𝕄 := A.x.view.loc (c : Thread 8 τ) ↦[A.x.view.set]{q} A.X c

/-- The share of the own block that a copy of it reads, and the one that the copy at home reads. -/
abbrev tok (i : Fin 4) : PosShare TreeShare := shareTok fullShare 4 i
abbrev left : PosShare TreeShare := shareDrop fullShare 4

theorem x_split (c : Dev 8) : (A.xPts fullShare c : sProp 𝕄) ⊣⊢ iprop(A.xPts left c ∗ bigSep Finset.univ fun i : Fin 4 => A.xPts (tok i) c) :=
  pointsTo_toks fullShare 4
theorem o_split (f : (c : Dev 8) → Buf Val (A.o.view.loc (c : Thread 8 τ))) (d : Dev 8) :
    (A.o.view.loc (d : Thread 8 τ) ↦[A.o.view.set]{fullShare} f d : sProp 𝕄) = bigSep Finset.univ (A.oPts f d) :=
  slots_split A.o A.hq d fullShare (f d)

/-- The devices' results, dealt block by block to the devices that write them. -/
theorem o_deal (f : (c : Dev 8) → Buf Val (A.o.view.loc (c : Thread 8 τ))) :
    (bigSep Finset.univ fun d : Dev 8 => (bigSep Finset.univ (A.oPts f d) : sProp 𝕄))
      = bigSep Finset.univ fun c : Dev 8 => iprop(A.oPts f c c ∗ bigSep Finset.univ fun k => A.oPts f (peer (via k) c) (blk k c)) := by
  rw [bigSep_congr fun d _ => bigSep_blocks d (A.oPts f d), bigSep_sep', bigSep_sep']
  refine congrArg (fun P => iprop(_ ∗ P)) ?_
  rw [HeldTwo.rows_columns, bigSep_congr fun k _ => bigSep_univ_equiv (Peers.flip (via k)) fun d => A.oPts f d (frm k d), HeldTwo.rows_columns]
  rfl

theorem landed_x (c d : Dev 8) (fd : Buf Val ((slot A.o A.hq c).view.loc (d : Thread 8 τ))) :
    ((slot A.o A.hq c).view.loc (d : Thread 8 τ) ↦[(slot A.o A.hq c).view.set]{fullShare}
        ((slot A.o A.hq c).view.write Val fd (A.x.view.read Val (A.X c)) Finset.univ) : sProp 𝕄) = A.oPts A.G d c := by
  unfold oPts
  exact landed (nD := 8) (τ := τ) (U := UU 8 τ sig) (c := c) (c' := d) (src := A.x) (dst := slot A.o A.hq c) (A.X c) fd (A.G d) (A.reads c d)
theorem landed_o (p : Fin 8) (c d : Dev 8) (fd : Buf Val ((slot A.o A.hq p).view.loc (d : Thread 8 τ))) :
    ((slot A.o A.hq p).view.loc (d : Thread 8 τ) ↦[(slot A.o A.hq p).view.set]{fullShare}
        ((slot A.o A.hq p).view.write Val fd ((slot A.o A.hq p).view.read Val (A.G c)) Finset.univ) : sProp 𝕄) = A.oPts A.G d p := by
  unfold oPts
  exact landed (nD := 8) (τ := τ) (U := UU 8 τ sig) (c := c) (c' := d) (src := slot A.o A.hq p) (dst := slot A.o A.hq p) (A.G c) fd (A.G d)
    ((A.reads p d).trans (A.reads p c).symm)

/-! ### The protocol -/

/-- What the departure of copy `k` gives back. -/
def sent (c : Dev 8) (k : Fin 7) : sProp 𝕄 := if h : k.val < 4 then A.xPts (tok ⟨k.val, h⟩) c else A.oPts A.G c (blk k c)

def payload (d : Dev 8) : Fin 15 → sProp 𝕄 :=
  byCell (A.sent d) (fun k => A.oPts A.G d (frm k d)) iprop(A.xPts left d ∗ A.oPts A.G d d)

def talk : Talk 8 τ sig Val 15 where
  sem := A.sem
  sem_inj := A.sem_inj
  amt _ := A.credit
  amt_pos _ := A.credit_pos
  lev := level
  dest := byCell (fun _ => Equiv.refl _) (fun k => Peers.flip (via k)) (Equiv.refl _)
  remote := recvRest 0
  pay := A.payload
  stor d k := by
    unfold payload byCell sent xPts oPts
    split
    · split <;> infer_instance
    · split <;> infer_instance

theorem dest_send (k : Fin 7) (c : Dev 8) : A.talk.dest (sendC k) c = c := by
  show (byCell (fun _ => Equiv.refl (Dev 8)) (fun k => Peers.flip (via k)) (Equiv.refl (Dev 8)) (sendC k)) c = c
  rw [byCell_send]; rfl
theorem dest_recv (k : Fin 7) (c : Dev 8) : A.talk.dest (recvC k) c = peer (via k) c := by
  show (byCell (fun _ => Equiv.refl (Dev 8)) (fun k => Peers.flip (via k)) (Equiv.refl (Dev 8)) (recvC k)) c = _
  rw [byCell_recv]; rfl
theorem pay_send (d : Dev 8) (k : Fin 7) : A.talk.pay d (sendC k) = A.sent d k := by
  show A.payload d (sendC k) = _; unfold payload; rw [byCell_send]
theorem pay_own (d : Dev 8) (i : Fin 4) : A.talk.pay d (sendC (own i)) = A.xPts (tok i) d := by
  rw [pay_send]; exact dif_pos i.isLt
theorem pay_late (d : Dev 8) (j : Fin 3) : A.talk.pay d (sendC (late j)) = A.oPts A.G d (frm (early j) d) := by
  rw [pay_send, ← blk_late]; exact dif_neg (by show ¬(4 + j.val < 4); omega)
theorem pay_recv (d : Dev 8) (k : Fin 7) : A.talk.pay d (recvC k) = A.oPts A.G d (frm k d) := by
  show A.payload d (recvC k) = _; unfold payload; rw [byCell_recv]
theorem pay_home (d : Dev 8) : A.talk.pay d homeC = iprop(A.xPts left d ∗ A.oPts A.G d d) := rfl

end Gather

end Cert.Gathering

end
-- ==== Proof.GatheringBody.lean ====
/-
  The body of an all-gather, run once at an arbitrary device `c`: the copy at home, four sends of the own block, three times a
  wait for a fellow's block and a send that passes it on, and the waits for everything else. Its end: the device's own block
  as it was, and everybody's block in its result.

  `Runs P p` says that the program `p`, started with `P`, comes to that end. There is one lemma for each kind of operation.
-/
module

public import proofs.«01_k».proof.Proof.Gathering

@[expose] public section

noncomputable section

namespace Cert.Gathering.Gather

open Cert.OneShot Cert.Slots Cert.Peers Cert.Relay
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {τ : Topo} {sig : RefSig} {Val : EltTy → Type} {R C : ℕ} {e : EltTy}

local notation "𝕄" => MT 8 τ sig Unit Val ℕ (UU 8 τ sig) ℕ

variable (A : Gather τ sig Val R C e) (F₀ : (c : Dev 8) → Buf Val (A.o.view.loc (c : Thread 8 τ))) (c : Dev 8)

/-! ### The states -/

/-- A cell of this device: its credit, its position, its counter at the end. -/
abbrev crd (k : Fin 15) : sProp 𝕄 := cred (tallyAt (A.talk.cell (c, k)) () A.credit)
abbrev pos (k : Fin 15) : sProp 𝕄 := atPos ER (A.talk.cell (c, k)) 0 ∅ 0
abbrev zero (k : Fin 15) : sProp 𝕄 := semVal (A.talk.cell (c, k)) 0
/-- The right to pay the cell that this device pays. -/
abbrev duty (k : Fin 15) : sProp 𝕄 := dutyTok ER (A.talk.cell (A.talk.dest k c, k)) 0 ()

/-- What copy `k` starts from, apart from its target: a share of the own block, or the right to wait for what it passes on. -/
def source (k : Fin 7) : sProp 𝕄 :=
  if h : k.val < 4 then A.xPts (tok ⟨k.val, h⟩) c else iprop(A.crd c (recvC ⟨k.val - 3, by omega⟩) ∗ A.pos c (recvC ⟨k.val - 3, by omega⟩))
/-- What is left of a wait before copy `k`. -/
def spent (k : Fin 7) : sProp 𝕄 := if k.val < 4 then iprop(emp) else A.zero c (recvC ⟨k.val - 3, by omega⟩)

theorem source_own (i : Fin 4) : A.source c (own i) = A.xPts (tok i) c := dif_pos i.isLt
theorem source_late (j : Fin 3) : A.source c (late j) = iprop(A.crd c (recvC (early j)) ∗ A.pos c (recvC (early j))) := by
  have h : (⟨(late j).val - 3, by have := j.isLt; show 4 + j.val - 3 < 7; omega⟩ : Fin 7) = early j := Fin.ext (by show 4 + j.val - 3 = 1 + j.val; omega)
  exact (dif_neg (by show ¬(4 + j.val < 4); omega)).trans (by rw [h])
theorem spent_own (i : Fin 4) : A.spent c (own i) = iprop(emp) := if_pos i.isLt
theorem spent_late (j : Fin 3) : A.spent c (late j) = A.zero c (recvC (early j)) := by
  have h : (⟨(late j).val - 3, by have := j.isLt; show 4 + j.val - 3 < 7; omega⟩ : Fin 7) = early j := Fin.ext (by show 4 + j.val - 3 = 1 + j.val; omega)
  exact (if_neg (by show ¬(4 + j.val < 4); omega)).trans (by rw [h])

/-- Before copy `s`. -/
def Sending (s : ℕ) : sProp 𝕄 :=
  iprop(A.talk.ow c (A.talk.owe (recvRest s) c)
    ∗ (bigSep (rest s) fun k => iprop(A.oPts F₀ (peer (via k) c) (blk k c) ∗ A.duty c (sendC k) ∗ A.duty c (recvC k) ∗ A.source c k))
    ∗ (bigSep (done s) fun k => iprop(A.crd c (sendC k) ∗ A.spent c k)))
/-- What the copies leave alone: the rights to wait afterwards. -/
def Later : sProp 𝕄 :=
  iprop((bigSep Finset.univ fun i => iprop(A.crd c (recvC (arrive i)) ∗ A.pos c (recvC (arrive i)))) ∗ (bigSep Finset.univ fun k => A.pos c (sendC k))
    ∗ A.crd c homeC ∗ A.pos c homeC)
/-- Before the `i`-th of the last waits. -/
def Waiting (i : ℕ) : sProp 𝕄 :=
  iprop(A.talk.ow c (A.talk.owe ∅ c) ∗ (bigSep (after i) fun j => iprop(A.crd c (waited j) ∗ A.pos c (waited j)))
    ∗ (bigSep (before i) fun j => iprop(A.talk.pay c (waited j) ∗ A.zero c (waited j)))
    ∗ bigSep Finset.univ fun j => A.zero c (recvC (early j)))
/-- What the body starts from. -/
def Start : sProp 𝕄 :=
  iprop(A.talk.positions c ∗ A.talk.payToks c ∗ A.talk.ow c (A.talk.owe A.talk.remote c)
    ∗ (bigSep A.talk.remote fun k => cred (tallyAt (A.talk.cell (c, k)) () (A.talk.amt k)))
    ∗ A.xPts fullShare c ∗ A.oPts F₀ c c ∗ bigSep Finset.univ fun k => A.oPts F₀ (peer (via k) c) (blk k c))
/-- What it ends with. -/
def End : sProp 𝕄 :=
  iprop(A.talk.ow c (A.talk.owe ∅ c) ∗ A.xPts fullShare c ∗ (A.o.view.loc (c : Thread 8 τ) ↦[A.o.view.set]{fullShare} A.G c)
    ∗ Pipeline.ownSems0 A.talk.osem c)

theorem start_split : A.Start F₀ c
    ⊢ (iprop((A.xPts left c ∗ A.oPts F₀ c c ∗ A.duty c homeC) ∗ A.Sending F₀ c 0 ∗ (A.crd c homeC -∗ A.Later c)) : sProp 𝕄) := by
  have hrem : A.talk.remote = Finset.univ.map recvE := congrArg (fun s => Finset.map recvE s) rest_zero
  have hc : (bigSep A.talk.remote fun k => cred (tallyAt (A.talk.cell (c, k)) () (A.talk.amt k)) : sProp 𝕄) = bigSep Finset.univ fun k => A.crd c (recvC k) := by
    rw [hrem, bigSep_map]; rfl
  have hs : (bigSep Finset.univ fun k => A.source c k : sProp 𝕄)
      = iprop((bigSep Finset.univ fun i : Fin 4 => A.xPts (tok i) c) ∗ (bigSep Finset.univ fun j => A.crd c (recvC (early j))) ∗ bigSep Finset.univ fun j => A.pos c (recvC (early j))) := by
    rw [bigSep_sending, bigSep_congr fun i _ => A.source_own c i, bigSep_congr fun j _ => A.source_late c j, bigSep_sep']
  unfold Start Sending Later Talk.positions Talk.payToks
  rw [hc, rest_zero, done_zero, bigSep_empty, bigSep_cells, bigSep_cells, bigSep_arrival (fun k => A.crd c (recvC k)), bigSep_arrival (fun k => atPos ER (A.talk.cell (c, recvC k)) 0 ∅ 0)]
  simp only [bigSep_sep', hs]
  iintro ⟨⟨Hps, ⟨Hpe, Hpa⟩, Hph⟩, ⟨Hts, Htr, Hth⟩, HO, ⟨Hce, Hca⟩, Hx, Ho, Hos⟩
  ihave Hx := (A.x_split c).1 $$ Hx
  icases Hx with ⟨Hx, Hxs⟩
  isplitl [Hx Ho Hth]
  · isplitl [Hx]; · iexact Hx
    isplitl [Ho]; · iexact Ho
    iexact Hth
  isplitl [HO Hos Hts Htr Hxs Hce Hpe]
  · isplitl [HO]; · iexact HO
    isplitl
    · isplitl [Hos]; · iexact Hos
      isplitl [Hts]; · iexact Hts
      isplitl [Htr]; · iexact Htr
      isplitl [Hxs]; · iexact Hxs
      isplitl [Hce]; · iexact Hce
      iexact Hpe
    iempintro
  iintro Hch
  isplitl [Hca Hpa]
  · isplitl [Hca]; · iexact Hca
    iexact Hpa
  isplitl [Hps]; · iexact Hps
  isplitl [Hch]; · iexact Hch
  iexact Hph

/-- Everything is sent: what is left are the waits. -/
theorem turn : iprop(A.Sending F₀ c 7 ∗ A.Later c) ⊢ (A.Waiting c 0 : sProp 𝕄) := by
  have hd : (bigSep Finset.univ fun k => A.spent c k : sProp 𝕄) ⊢ bigSep Finset.univ fun j => A.zero c (recvC (early j)) := by
    rw [bigSep_sending, bigSep_congr fun i _ => A.spent_own c i, bigSep_congr fun j _ => A.spent_late c j]
    iintro ⟨-, H⟩
    iexact H
  have hw : (bigSep Finset.univ fun j => A.crd c (waited j) : sProp 𝕄) = _ := bigSep_waited (fun k => A.crd c k)
  have hp : (bigSep Finset.univ fun j => A.pos c (waited j) : sProp 𝕄) = _ := bigSep_waited (fun k => A.pos c k)
  unfold Sending Later Waiting
  rw [recvRest_end, rest_end, done_end, after_zero, before_zero, bigSep_empty, bigSep_empty]
  simp only [bigSep_sep', hw, hp]
  iintro ⟨⟨HO, -, Hcs, Hd⟩, ⟨Hca, Hpa⟩, Hps, Hch, Hph⟩
  isplitl [HO]; · iexact HO
  isplitl [Hcs Hca Hpa Hps Hch Hph]
  · isplitl [Hca Hcs Hch]
    · isplitl [Hca]; · iexact Hca
      isplitl [Hcs] <;> iassumption
    isplitl [Hpa]; · iexact Hpa
    isplitl [Hps] <;> iassumption
  isplitr; · iempintro
  iapply hd
  iexact Hd

/-- Everything is waited for: the arrays whole again. -/
theorem finish : A.Waiting c 12 ⊢ (A.End c : sProp 𝕄) := by
  have hw : (bigSep Finset.univ fun j => A.talk.pay c (waited j) : sProp 𝕄) = _ := bigSep_waited (fun k => A.talk.pay c k)
  have hz : (bigSep Finset.univ fun j => A.zero c (waited j) : sProp 𝕄) = _ := bigSep_waited (fun k => A.zero c k)
  have hs : (bigSep Finset.univ fun k => A.talk.pay c (sendC k) : sProp 𝕄)
      = iprop((bigSep Finset.univ fun i : Fin 4 => A.xPts (tok i) c) ∗ bigSep Finset.univ fun j => A.oPts A.G c (frm (early j) c)) := by
    rw [bigSep_sending, bigSep_congr fun i _ => A.pay_own c i, bigSep_congr fun j _ => A.pay_late c j]
  unfold Waiting End Pipeline.ownSems0
  rw [after_end, before_end, bigSep_empty, bigSep_cells, A.o_split A.G c, bigSep_blocks c (A.oPts A.G c), bigSep_arrival (fun k => A.oPts A.G c (frm k c)),
    bigSep_arrival (fun k => semVal (A.talk.cell (c, recvC k)) 0)]
  simp only [bigSep_sep', hw, hz, hs, pay_home, pay_recv]
  iintro ⟨HO, -, ⟨⟨Hoa, ⟨Hxs, Hoe⟩, Hx, Ho⟩, Hza, Hzs, Hzh⟩, Hze⟩
  isplitl [HO]; · iexact HO
  isplitl [Hx Hxs]
  · iapply (A.x_split c).2
    isplitl [Hx] <;> iassumption
  isplitl [Ho Hoe Hoa]
  · isplitl [Ho]; · iexact Ho
    isplitl [Hoe] <;> iassumption
  isplitl [Hzs]; · iexact Hzs
  isplitl [Hze Hza]
  · isplitl [Hze] <;> iassumption
  iexact Hzh

/-! ### The operations -/

variable {Λ : Idealize.SL.Sem.Labels} (dd : Defs 8 τ sig Val Λ) (𝒱 : Variants)

/-- Started with `P`, the program comes to the body's end. -/
def Runs {α : Type} (P : sProp 𝕄) (p : Prog (TpuEff 8 τ sig Val Λ .tc) α) : Prop :=
  ∀ (K : Dev 8 × Fin 15 → ℕ) (Q : sProp 𝕄), iprop(A.talk.records K ∗ levAts Talk.L A.talk.lv ∗ P)
    ⊢ iprop((A.End c -∗ Q) -∗ wp frame (wpE dd 𝒱 (c : Thread 8 τ) none) Set.univ p fun _ => Q)

/-- The device asks for its number. -/
theorem run_device {P : sProp 𝕄} {α : Type} {kk : Dev 8 → Prog (TpuEff 8 τ sig Val Λ .tc) α} (h : A.Runs c dd 𝒱 P (kk c)) :
    A.Runs c dd 𝒱 P (.op .deviceId kk) := by
  intro K Q
  rw [wp_deviceId]
  exact h K Q

/-- The copy of the own block at home. -/
theorem run_home {src : Memref sig .tc .hbm (Block R C) e} {dst : Memref sig .tc .hbm (Block R C) e} (hs : src = A.x) (hd : dst = slot A.o A.hq c)
    {sem : DmaSem sig} (hsem' : sem = A.sem homeC)
    {hsrc : src.view.WordExact} {hdst : dst.view.WordExact} {hsem : DmaTarget.Typed (nD := 8) .hbm (.dma sem) (DmaTarget.here (τ := τ) (p := Proc.tc) dst)}
    {α : Type} {kk : PUnit → Prog (TpuEff 8 τ sig Val Λ .tc) α} (h : A.Runs c dd 𝒱 iprop(A.Sending F₀ c 0 ∗ A.Later c) (kk ⟨⟩)) :
    A.Runs c dd 𝒱 (A.Start F₀ c) (.op (.enqueueDma src (.here dst) (.dma sem) hsrc hdst hsem) kk) := by
  subst hs hd
  intro K Q
  have hland := A.landed_x c c (F₀ c)
  have hpay : iprop(((slot A.o A.hq c).view.loc (c : Thread 8 τ) ↦[(slot A.o A.hq c).view.set]{fullShare} ((slot A.o A.hq c).view.write Val (F₀ c) (A.x.view.read Val (A.X c)) Finset.univ))
      ∗ (A.x.view.loc (c : Thread 8 τ) ↦[A.x.view.set]{left} A.X c)) ⊢ A.talk.pay c homeC := by
    rw [pay_home, hland]; unfold xPts
    iintro ⟨Ho, Hx⟩
    isplitl [Hx] <;> iassumption
  iintro ⟨#HR, #Hl, HS⟩ HQ
  ihave HS := (A.start_split F₀ c) $$ HS
  icases HS with ⟨⟨Hx, Ho, Ht⟩, HS, Hlater⟩
  iapply (A.talk.wp_copy (src := A.x) (dst := slot A.o A.hq c) (q := left) dd 𝒱 K c homeC rfl hsem' (A.X c) (F₀ c) (A.credit_o c) hpay) $$ [Hx Ho Ht]
  · isplitr; · iexact HR
    isplitl [Hx]; · unfold xPts; iexact Hx
    isplitl [Ho]; · unfold oPts; iexact Ho
    iexact Ht
  iintro Hc
  iapply (h K Q) $$ [HS Hlater Hc]
  · isplitr; · iexact HR
    isplitr; · iexact Hl
    isplitl [HS]; · iexact HS
    iapply Hlater
    iexact Hc
  iexact HQ

/-- A send of the own block. -/
theorem run_own (i : Fin 4) {p : Dev 8} {src dst : Memref sig .tc .hbm (Block R C) e} (hs : src = A.x) (hd : dst = slot A.o A.hq c)
    (hp : p = peer (via (own i)) c) {sS sR : DmaSem sig} (hsS : sS = A.sem (sendC (own i))) (hsR : sR = A.sem (recvC (own i)))
    {hsc : (dst : Memref sig (Dev.tc p : Thread 8 τ).2.kind .hbm (Block R C) e).view.ref.isScScratch = false}
    {hsrc : src.view.WordExact} {hdst : dst.view.WordExact}
    {hsem : DmaTarget.Typed .hbm (.dma sR) (.remote (Dev.tc p : Thread 8 τ) (dst : Memref sig (Dev.tc p : Thread 8 τ).2.kind .hbm (Block R C) e) (.dma sS) hsc)}
    {α : Type} {kk : PUnit → Prog (TpuEff 8 τ sig Val Λ .tc) α} (h : A.Runs c dd 𝒱 iprop(A.Sending F₀ c ((own i).val + 1) ∗ A.Later c) (kk ⟨⟩)) :
    A.Runs c dd 𝒱 iprop(A.Sending F₀ c (own i).val ∗ A.Later c)
      (.op (.enqueueDma src (.remote (Dev.tc p : Thread 8 τ) (dst : Memref sig (Dev.tc p : Thread 8 τ).2.kind .hbm (Block R C) e) (.dma sS) hsc) (.dma sR) hsrc hdst hsem) kk) := by
  subst hs hd hp
  intro K Q
  have hland := A.landed_x c (peer (via (own i)) c) (F₀ _)
  have hpay : A.oPts A.G (peer (via (own i)) c) c = A.talk.pay (peer (via (own i)) c) (recvC (own i)) := by
    rw [pay_recv]; exact congrArg _ (blk_own i c).symm
  have hx : (A.x.view.loc (c : Thread 8 τ) ↦[A.x.view.set]{tok i} A.X c : sProp 𝕄) ⊢ A.talk.pay c (sendC (own i)) := by
    rw [pay_own]; unfold xPts; exact BI.Entails.refl _
  unfold Sending
  rw [recvRest_step, bigSep_rest, blk_own, source_own]
  iintro ⟨#HR, #Hl, ⟨HO, ⟨⟨Ho, Ht, Ht', Hx⟩, Hrest⟩, Hdone⟩, Hlater⟩ HQ
  iapply (A.talk.wp_send (src := A.x) (dst := slot A.o A.hq c) (q := tok i) dd 𝒱 K c (peer (via (own i)) c) (sendC (own i)) (recvC (own i)) (A.dest_recv (own i) c).symm
      (A.dest_send (own i) c) hsS hsR (not_recvRest (own i)) (A.X c) (F₀ _) (A.credit_o c) rfl hx (Entails.of_eq (hland.trans hpay)) (A.routes _ _)) $$ [HO Hx Ho Ht Ht']
  · isplitr; · iexact HR
    isplitl [Hx]; · unfold xPts; iexact Hx
    isplitl [Ho]; · unfold oPts; iexact Ho
    isplitl [HO]; · iexact HO
    isplitl [Ht] <;> iassumption
  iintro ⟨Hc, HO⟩
  iapply (h K Q) $$ [HO Hrest Hdone Hlater Hc]
  · isplitr; · iexact HR
    isplitr; · iexact Hl
    isplitr [Hlater]
    · unfold Sending
      rw [bigSep_done, spent_own]
      isplitl [HO]; · iexact HO
      isplitl [Hrest]; · iexact Hrest
      isplitl [Hc]
      · isplitl [Hc]; · iexact Hc
        iempintro
      iexact Hdone
    iexact Hlater
  iexact HQ

/-- The wait for a fellow's block, and the send that passes it on. -/
theorem run_pass (j : Fin 3) {p : Dev 8} {src dst src' dst' : Memref sig .tc .hbm (Block R C) e} (hN : dst'.view.dmaCredit = A.credit)
    (hs : src = slot A.o A.hq (frm (early j) c)) (hd : dst = slot A.o A.hq (frm (early j) c)) (hp : p = peer (via (late j)) c)
    {sW sS sR : DmaSem sig} (hsW : sW = A.sem (recvC (early j))) (hsS : sS = A.sem (sendC (late j))) (hsR : sR = A.sem (recvC (late j)))
    {hsrc' : src'.view.WordExact} {hdst' : dst'.view.WordExact}
    {hsc : (dst : Memref sig (Dev.tc p : Thread 8 τ).2.kind .hbm (Block R C) e).view.ref.isScScratch = false}
    {hsrc : src.view.WordExact} {hdst : dst.view.WordExact}
    {hsem : DmaTarget.Typed .hbm (.dma sR) (.remote (Dev.tc p : Thread 8 τ) (dst : Memref sig (Dev.tc p : Thread 8 τ).2.kind .hbm (Block R C) e) (.dma sS) hsc)}
    {α : Type} {kk : PUnit → Prog (TpuEff 8 τ sig Val Λ .tc) α} (h : A.Runs c dd 𝒱 iprop(A.Sending F₀ c ((late j).val + 1) ∗ A.Later c) (kk ⟨⟩)) :
    A.Runs c dd 𝒱 iprop(A.Sending F₀ c (late j).val ∗ A.Later c)
      (.op (.waitDma2 sW src' dst' hsrc' hdst') fun _ => .op (.enqueueDma src (.remote (Dev.tc p : Thread 8 τ) (dst : Memref sig (Dev.tc p : Thread 8 τ).2.kind .hbm (Block R C) e) (.dma sS) hsc) (.dma sR) hsrc hdst hsem) kk) := by
  subst hs hd hp
  intro K Q
  have hland := A.landed_o (frm (early j) c) c (peer (via (late j)) c) (F₀ _)
  have hpay : A.oPts A.G (peer (via (late j)) c) (frm (early j) c) = A.talk.pay (peer (via (late j)) c) (recvC (late j)) := by
    rw [pay_recv]; exact congrArg _ (blk_late j c).symm
  have hx : ((slot A.o A.hq (frm (early j) c)).view.loc (c : Thread 8 τ) ↦[(slot A.o A.hq (frm (early j) c)).view.set]{fullShare} A.G c : sProp 𝕄) ⊢ A.talk.pay c (sendC (late j)) := by
    rw [pay_late]; unfold oPts; exact BI.Entails.refl _
  unfold Sending
  rw [bigSep_rest, blk_late, source_late]
  iintro ⟨#HR, #Hl, ⟨HO, ⟨⟨Ho, Ht, Ht', Hcw, Hat⟩, Hrest⟩, Hdone⟩, Hlater⟩ HQ
  iapply (A.talk.wp_wait dd 𝒱 K c (recvC (early j)) hsW (recvRest (late j).val) (level_early j) hN) $$ [HO Hcw Hat]
  · isplitr; · iexact HR
    isplitr; · iexact Hl
    isplitl [Hcw]; · iexact Hcw
    isplitl [HO] <;> iassumption
  rw [pay_recv, recvRest_step]
  iintro ⟨HO, Hx, Hz⟩
  iapply (A.talk.wp_send (src := slot A.o A.hq (frm (early j) c)) (dst := slot A.o A.hq (frm (early j) c)) (q := fullShare) dd 𝒱 K c (peer (via (late j)) c)
      (sendC (late j)) (recvC (late j)) (A.dest_recv (late j) c).symm
      (A.dest_send (late j) c) hsS hsR (not_recvRest (late j)) (A.G c) (F₀ _) (A.credit_o _) rfl hx (Entails.of_eq (hland.trans hpay)) (A.routes _ _)) $$ [HO Hx Ho Ht Ht']
  · isplitr; · iexact HR
    isplitl [Hx]; · unfold oPts; iexact Hx
    isplitl [Ho]; · unfold oPts; iexact Ho
    isplitl [HO]; · iexact HO
    isplitl [Ht] <;> iassumption
  iintro ⟨Hc, HO⟩
  iapply (h K Q) $$ [HO Hrest Hdone Hlater Hc Hz]
  · isplitr; · iexact HR
    isplitr; · iexact Hl
    isplitr [Hlater]
    · unfold Sending
      rw [bigSep_done, spent_late]
      isplitl [HO]; · iexact HO
      isplitl [Hrest]; · iexact Hrest
      isplitl [Hc Hz]
      · isplitl [Hc]; · iexact Hc
        iexact Hz
      iexact Hdone
    iexact Hlater
  iexact HQ

/-- One of the last waits. -/
theorem run_wait (i : Fin 12) {sp sp' : Space} {s s' : Shape} {e₁ e₂ : EltTy} {src : Memref sig .tc sp' s' e₂} {dst : Memref sig .tc sp s e₁} (hN : dst.view.dmaCredit = A.credit)
    {sem : DmaSem sig} (hs : sem = A.sem (waited i)) {hsrc : src.view.WordExact} {hdst : dst.view.WordExact}
    {α : Type} {kk : PUnit → Prog (TpuEff 8 τ sig Val Λ .tc) α} (h : A.Runs c dd 𝒱 (A.Waiting c (i.val + 1)) (kk ⟨⟩)) :
    A.Runs c dd 𝒱 (A.Waiting c i.val) (.op (.waitDma2 sem src dst hsrc hdst) kk) := by
  intro K Q
  unfold Waiting
  rw [bigSep_after]
  iintro ⟨#HR, #Hl, HO, ⟨⟨Hc, Hat⟩, Hrest⟩, Hdone, Hz⟩ HQ
  iapply (A.talk.wp_wait dd 𝒱 K c (waited i) hs ∅ (fun _ h => absurd h (Finset.notMem_empty _)) hN) $$ [HO Hc Hat]
  · isplitr; · iexact HR
    isplitr; · iexact Hl
    isplitl [Hc]; · iexact Hc
    isplitl [HO] <;> iassumption
  iintro ⟨HO, Hp, Hz'⟩
  iapply (h K Q) $$ [HO Hrest Hdone Hp Hz Hz']
  · isplitr; · iexact HR
    isplitr; · iexact Hl
    unfold Waiting
    rw [bigSep_before]
    isplitl [HO]; · iexact HO
    isplitl [Hrest]; · iexact Hrest
    isplitr [Hz]
    · isplitl [Hp Hz']; · isplitl [Hp] <;> iassumption
      iexact Hdone
    iexact Hz
  iexact HQ

/-- Between the sends and the last waits. -/
theorem run_turn {α : Type} {p : Prog (TpuEff 8 τ sig Val Λ .tc) α} (h : A.Runs c dd 𝒱 (A.Waiting c 0) p) :
    A.Runs c dd 𝒱 iprop(A.Sending F₀ c 7 ∗ A.Later c) p := by
  intro K Q
  iintro ⟨#HR, #Hl, HS⟩
  ihave HS := (A.turn F₀ c) $$ HS
  iapply (h K Q)
  isplitr; · iexact HR
  isplitr; · iexact Hl
  iexact HS

/-- The body's end. -/
theorem run_end {α : Type} (v : α) : A.Runs c dd 𝒱 (A.Waiting c 12) (.ret v) := by
  intro K Q
  iintro ⟨-, -, HS⟩ HQ
  rw [wp_ret]
  imodintro
  iapply HQ
  iapply (A.finish c)
  iexact HS

end Cert.Gathering.Gather

end
-- ==== Proof.GatheringRun.lean ====
/-
  An all-gather as the first region of a program: what each device starts with, how the launch deals it, and that the body's
  run (`Runs`) is what the launch asks for.

  The program's arrays come in by three equations: the own block is the array `xR`, the result the array `oR`, before and after.
-/
module

public import proofs.«01_k».proof.Proof.GatheringBody
public import proofs.«01_k».proof.Proof.TalkRun

@[expose] public section

noncomputable section

namespace Cert.Gathering.Gather

open Cert.OneShot Cert.Slots Cert.Peers Cert.Relay
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (PCfg Cfg ucRefs pin)

variable {τ : Topo} {sig : RefSig} {Val : EltTy → Type} {R C : ℕ} {e : EltTy}

local notation "𝕄" => MT 8 τ sig Unit Val ℕ (UU 8 τ sig) ℕ

variable (A : Gather τ sig Val R C e) (F₀ : (c : Dev 8) → Buf Val (A.o.view.loc (c : Thread 8 τ)))
  (m : (ℓ : Loc 8 τ sig) → Buf Val ℓ) (xR oR : DevRef τ sig) (G : (c : Dev 8) → (oR.ty).Contents Val)

/-- The program's arrays are the all-gather's. -/
structure Matches : Prop where
  x_mem : xR ∈ ucRefs τ sig
  o_mem : oR ∈ ucRefs τ sig
  ne : oR ≠ xR
  own : ∀ c : Dev 8, (A.xPts fullShare c : sProp 𝕄) = ((c, xR) ↦{fullShare} m (c, xR))
  first : ∀ c : Dev 8, (A.o.view.loc (c : Thread 8 τ) ↦[A.o.view.set]{fullShare} F₀ c : sProp 𝕄) = ((c, oR) ↦{fullShare} m (c, oR))
  last : ∀ c : Dev 8, (A.o.view.loc (c : Thread 8 τ) ↦[A.o.view.set]{fullShare} A.G c : sProp 𝕄) = ((c, oR) ↦{fullShare} G c)

/-- What device `c` starts with: its own block, a block of its own result and of those of the peers that it sends to, and the
    arrays that the all-gather doesn't touch. -/
def deals (c : Dev 8) : sProp 𝕄 :=
  iprop(A.xPts fullShare c ∗ (A.oPts F₀ c c ∗ bigSep Finset.univ fun k => A.oPts F₀ (peer (via k) c) (blk k c))
    ∗ StableHlo.held (c.tc : Thread 8 τ) (((ucRefs τ sig).erase xR).erase oR) fun b => m (c, b))

/-- The arrays after the all-gather. -/
def arrays (c : Dev 8) : Valuation τ sig Val := Function.update (fun b => m (c, b)) oR (G c)

variable {A F₀ m xR oR G} (M : A.Matches F₀ m xR oR G)
include M

theorem Matches.deal : (bigSep Finset.univ fun c : Dev 8 => StableHlo.held (c.tc : Thread 8 τ) (ucRefs τ sig) (fun b => m (c, b)))
    ⊢ (bigSep Finset.univ (A.deals F₀ m xR oR) : sProp 𝕄) := by
  have h (c : Dev 8) : (StableHlo.held (c.tc : Thread 8 τ) (ucRefs τ sig) (fun b => m (c, b)) : sProp 𝕄)
      = iprop(A.xPts fullShare c ∗ (bigSep Finset.univ (A.oPts F₀ c)) ∗ StableHlo.held (c.tc : Thread 8 τ) (((ucRefs τ sig).erase xR).erase oR) fun b => m (c, b)) := by
    rw [← A.o_split F₀ c, M.own, M.first]
    exact HeldTwo.held_two (c.tc : Thread 8 τ) _ xR oR M.x_mem M.o_mem M.ne _
  rw [bigSep_congr fun c _ => h c, bigSep_sep', bigSep_sep', A.o_deal F₀, ← bigSep_sep', ← bigSep_sep']
  exact .rfl

variable {Λ₀ : Labels} {P : Type} [Fintype P] {pcs : P → PCfg sig Λ₀ Val} {a : (p : P) → (pcs p).Adm} {defs₀ : Defs 8 τ sig Val Λ₀} {𝒱₀ : Variants} {p : P}

theorem Matches.runs (h : ∀ c t, A.Runs c defs₀ 𝒱₀ (A.Start F₀ c) (defs₀ .tc (pin pcs a p).body ((pin pcs a p).bodyArgs t ((pin pcs a p).slots t)))) :
    TalkRun.BodyRuns A.talk (A.deals F₀ m xR oR) (arrays m oR G) pcs a defs₀ 𝒱₀ p := by
  intro c K t Q
  iintro ⟨HR, Hl, Hp, Ht, HO, Hc, HB⟩ HQ
  unfold deals TalkRun.creds
  icases HB with ⟨Hx, ⟨Ho, Hos⟩, Hr⟩
  iapply (h c t K Q) $$ [HR Hl Hp Ht HO Hc Hx Ho Hos]
  · isplitl [HR]; · iexact HR
    isplitl [Hl]; · iexact Hl
    unfold Start
    isplitl [Hp]; · iexact Hp
    isplitl [Ht]; · iexact Ht
    isplitl [HO]; · iexact HO
    isplitl [Hc]; · iexact Hc
    isplitl [Hx]; · iexact Hx
    isplitl [Ho] <;> iassumption
  unfold End
  rw [M.own, M.last]
  iintro ⟨HO, Hx, Ho, Hz⟩
  iapply HQ
  isplitl [HO]; · iexact HO
  isplitr [Hz]
  · iapply (HeldTwo.held_back (c.tc : Thread 8 τ) (ucRefs τ sig) xR oR M.x_mem M.o_mem M.ne (fun b => m (c, b)) (G c))
    isplitl [Hx]; · iexact Hx
    isplitl [Ho]; · iexact Ho
    iexact Hr
  iexact Hz

end Cert.Gathering.Gather

end
-- ==== Proof.GatherRun.lean ====
/-
  The all-gather of the weights, run as a whole: from any contents `m` every device ends with all devices' blocks of weights,
  its other arrays as they were and every counter at zero.
-/
module

public import proofs.«01_k».proof.Proof.GatheringRun
public import proofs.«01_k».proof.Proof.Gen.GatherIdeal.Skeleton
public import proofs.«01_k».proof.Proof.Gen.GatherIdeal.Points
public import proofs.«01_k».proof.Proof.Gen.GatherIdeal.Launch

@[expose] public section

set_option maxRecDepth 16384

noncomputable section

namespace Cert.GatherRun

open Cert.GatherIdeal Cert.GatherIdeal.Gen Cert.OneShot Cert.Slots Cert.Peers Cert.Relay Cert.Gathering Cert.Gathering.Gather
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Seg ucRefs)

variable {F : FTy → Type} [FloatOps F]

local notation "𝕄" => MT nD τ sig Unit (Elt F) ℕ (UU nD τ sig) ℕ

/-- The devices' blocks, and the result that every device is to have. -/
abbrev Blocks (F : FTy → Type) : Type := (c : Dev nD) → Buf (Elt F) ((c : Thread nD τ).loc main_arg0)
abbrev Results (F : FTy → Type) : Type := (c : Dev nD) → Buf (Elt F) ((c : Thread nD τ).loc main_v1)
def all (X : Blocks F) : Results F := fun _ (i : S8x6656x1024.Idx) => X (i 0) (ix2 (n0 := 6656) (n1 := 1024) (i 1) (i 2))

abbrev oM : Memref sig .tc .hbm S8x6656x1024 .bf16 := Memref.whole main_v1
abbrev oS (p : Fin 8) : Memref sig .tc .hbm S6656x1024 .bf16 := slot oM squeezes_S1x6656x1024_S6656x1024 p

theorem all_routes : ∀ c p : Dev nD, τ.routes (c : Thread nD τ) (p : Thread nD τ) = true := by decide

/-- The all-gather of this program. -/
def weights (X : Blocks F) : Gather τ sig (Elt F) 6656 1024 .bf16 where
  x := Memref.whole main_arg0
  o := oM
  hq := squeezes_S1x6656x1024_S6656x1024
  sem k := ⟨k.val, k.isLt⟩
  sem_inj _ _ h := Fin.ext (Fin.mk.inj h)
  credit := (oS 0).view.dmaCredit
  credit_pos := View.dmaCredit_pos _ (by decide)
  credit_x := rfl
  credit_o _ := rfl
  routes := all_routes
  X := X
  G := all X
  reads c d := by
    funext i
    obtain ⟨r, l, rfl⟩ : ∃ (r : Fin 6656) (l : Fin 1024), i = ix2 r l := ⟨i 0, i 1, by funext a; fin_cases a <;> rfl⟩
    rw [View.read_apply, View.read_apply, slot_emb]
    rfl

/-! ### The printed offsets and devices -/

theorem off_me (c : Dev nD) : k0_off1 c = ![c.val, 0, 0] := (k0_off1_eq c).trans (by revert c; decide)
theorem off_a (c : Dev nD) : k0_off2 c = ![(frm (early 0) c).val, 0, 0] := (k0_off2_eq c).trans (by revert c; decide)
theorem off_b (c : Dev nD) : k0_off3 c = ![(frm (early 1) c).val, 0, 0] := (k0_off3_eq c).trans (by revert c; decide)
theorem off_c (c : Dev nD) : k0_off4 c = ![(frm (early 2) c).val, 0, 0] := (k0_off4_eq c).trans (by revert c; decide)
theorem off_d (c : Dev nD) : k0_off5 c = ![(frm (arrive 0) c).val, 0, 0] := (k0_off5_eq c).trans (by revert c; decide)
theorem off_e (c : Dev nD) : k0_off6 c = ![(frm (arrive 1) c).val, 0, 0] := (k0_off6_eq c).trans (by revert c; decide)
theorem off_f (c : Dev nD) : k0_off7 c = ![(frm (arrive 2) c).val, 0, 0] := (k0_off7_eq c).trans (by revert c; decide)
theorem off_g (c : Dev nD) : k0_off8 c = ![(frm (arrive 3) c).val, 0, 0] := (k0_off8_eq c).trans (by revert c; decide)
theorem dev_0 (c : Dev nD) : (⟨k0_dev1 c, k0_dev1_lt c⟩ : Dev nD) = peer (via (own 0)) c := Fin.ext ((k0_dev1_eq c).trans (by revert c; decide))
theorem dev_1 (c : Dev nD) : (⟨k0_dev2 c, k0_dev2_lt c⟩ : Dev nD) = peer (via (own 1)) c := Fin.ext ((k0_dev2_eq c).trans (by revert c; decide))
theorem dev_2 (c : Dev nD) : (⟨k0_dev3 c, k0_dev3_lt c⟩ : Dev nD) = peer (via (own 2)) c := Fin.ext ((k0_dev3_eq c).trans (by revert c; decide))
theorem dev_3 (c : Dev nD) : (⟨k0_dev4 c, k0_dev4_lt c⟩ : Dev nD) = peer (via (own 3)) c := Fin.ext ((k0_dev4_eq c).trans (by revert c; decide))
theorem dev_4 (c : Dev nD) : (⟨k0_dev5 c, k0_dev5_lt c⟩ : Dev nD) = peer (via (late 0)) c := Fin.ext ((k0_dev5_eq c).trans (by revert c; decide))
theorem dev_5 (c : Dev nD) : (⟨k0_dev6 c, k0_dev6_lt c⟩ : Dev nD) = peer (via (late 1)) c := Fin.ext ((k0_dev6_eq c).trans (by revert c; decide))
theorem dev_6 (c : Dev nD) : (⟨k0_dev7 c, k0_dev7_lt c⟩ : Dev nD) = peer (via (late 2)) c := Fin.ext ((k0_dev7_eq c).trans (by revert c; decide))

/-! ### The body -/

theorem slot_at (X : Blocks F) (p : Fin 8) (off : Fin 3 → ℕ) (ho : off = ![p.val, 0, 0]) (hi : ∀ a, off a + S1x6656x1024.size a ≤ S8x6656x1024.size a) :
    (oM.slice (Rect.unit (s := S8x6656x1024) off S1x6656x1024.size hi) (fun _ => rfl)).squeeze S6656x1024 squeezes_S1x6656x1024_S6656x1024
      = slot (weights X).o (weights X).hq p :=
  slot_of_off oM squeezes_S1x6656x1024_S6656x1024 p off ho hi

theorem credit_at (X : Blocks F) {p : Fin 8} {M : Memref sig .tc .hbm S6656x1024 .bf16} (h : M = slot (weights X).o (weights X).hq p) : M.view.dmaCredit = (weights X).credit := by
  subst h; rfl
theorem own_at (X : Blocks F) : (Memref.whole main_arg0 : Memref sig .tc .hbm S6656x1024 .bf16) = (weights X).x := rfl

theorem body_runs (X : Blocks F) (F₀ : Results F) (c : Dev nD) (𝒱 : Variants) :
    (weights X).Runs c (defs₀ (F := F)) 𝒱 ((weights X).Start F₀ c) (bodyAt0 (F := F) t0_0) := by
  simp only [bodyAt0, cc0_gather_weights_eq_skeleton]
  unfold cc0_gather_weights_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel,
    Prog.lift, Prog.bind_op, Prog.bind_ret, Prog.pure_eq_ret]
  refine run_device (weights X) c _ 𝒱 ?_
  refine run_home (weights X) F₀ c _ 𝒱 (own_at X) (slot_at X _ _ (off_me c) _) rfl ?_
  refine run_own (weights X) F₀ c _ 𝒱 0 (own_at X) (slot_at X _ _ (off_me c) _) (dev_0 c) rfl rfl ?_
  refine run_own (weights X) F₀ c _ 𝒱 1 (own_at X) (slot_at X _ _ (off_me c) _) (dev_1 c) rfl rfl ?_
  refine run_own (weights X) F₀ c _ 𝒱 2 (own_at X) (slot_at X _ _ (off_me c) _) (dev_2 c) rfl rfl ?_
  refine run_own (weights X) F₀ c _ 𝒱 3 (own_at X) (slot_at X _ _ (off_me c) _) (dev_3 c) rfl rfl ?_
  refine run_pass (weights X) F₀ c _ 𝒱 0 (credit_at X (slot_at X _ _ (off_a c) _)) (slot_at X _ _ (off_a c) _) (slot_at X _ _ (off_a c) _) (dev_4 c) rfl rfl rfl ?_
  refine run_pass (weights X) F₀ c _ 𝒱 1 (credit_at X (slot_at X _ _ (off_b c) _)) (slot_at X _ _ (off_b c) _) (slot_at X _ _ (off_b c) _) (dev_5 c) rfl rfl rfl ?_
  refine run_pass (weights X) F₀ c _ 𝒱 2 (credit_at X (slot_at X _ _ (off_c c) _)) (slot_at X _ _ (off_c c) _) (slot_at X _ _ (off_c c) _) (dev_6 c) rfl rfl rfl ?_
  refine run_turn (weights X) F₀ c _ 𝒱 ?_
  refine run_wait (weights X) c _ 𝒱 0 (credit_at X (slot_at X _ _ (off_d c) _)) rfl ?_
  refine run_wait (weights X) c _ 𝒱 1 (credit_at X (slot_at X _ _ (off_e c) _)) rfl ?_
  refine run_wait (weights X) c _ 𝒱 2 (credit_at X (slot_at X _ _ (off_f c) _)) rfl ?_
  refine run_wait (weights X) c _ 𝒱 3 (credit_at X (slot_at X _ _ (off_g c) _)) rfl ?_
  refine run_wait (weights X) c _ 𝒱 4 (weights X).credit_x rfl ?_
  refine run_wait (weights X) c _ 𝒱 5 (weights X).credit_x rfl ?_
  refine run_wait (weights X) c _ 𝒱 6 (weights X).credit_x rfl ?_
  refine run_wait (weights X) c _ 𝒱 7 (weights X).credit_x rfl ?_
  refine run_wait (weights X) c _ 𝒱 8 (credit_at X (slot_at X _ _ (off_a c) _)) rfl ?_
  refine run_wait (weights X) c _ 𝒱 9 (credit_at X (slot_at X _ _ (off_b c) _)) rfl ?_
  refine run_wait (weights X) c _ 𝒱 10 (credit_at X (slot_at X _ _ (off_c c) _)) rfl ?_
  refine run_wait (weights X) c _ 𝒱 11 (credit_at X (slot_at X _ _ (off_me c) _)) rfl ?_
  exact run_end (weights X) c _ 𝒱 _

/-! ### The launch -/

variable (m : (ℓ : Loc nD τ sig) → Buf (Elt F) ℓ)

/-- The devices' blocks and what their results hold at the launch. -/
abbrev mine : Blocks F := fun c => m ((c : Thread nD τ).loc main_arg0)
abbrev before₀ : Results F := fun c => m ((c : Thread nD τ).loc main_v1)
abbrev xR : DevRef τ sig := Proc.devRef .tc main_arg0
abbrev oR : DevRef τ sig := Proc.devRef .tc main_v1

theorem whole_x (X : Blocks F) (c : Dev nD) : ((weights X).xPts fullShare c : sProp 𝕄) = ((c : Thread nD τ).loc main_arg0 ↦{fullShare} X c) := by
  unfold xPts
  rw [show (weights X).x.view.set = _ from View.set_whole main_arg0]
  rfl
theorem whole_o (X : Blocks F) (R : Results F) (c : Dev nD) :
    ((weights X).o.view.loc (c : Thread nD τ) ↦[(weights X).o.view.set]{fullShare} R c : sProp 𝕄) = ((c : Thread nD τ).loc main_v1 ↦{fullShare} R c) := by
  rw [show (weights X).o.view.set = _ from View.set_whole main_v1]
  rfl

theorem matches_weights : (weights (mine m)).Matches (before₀ m) m xR oR (all (mine m)) where
  x_mem := Finset.mem_filter.mpr ⟨StableHlo.devRef_mem_tcRefs main_arg0, by decide⟩
  o_mem := Finset.mem_filter.mpr ⟨StableHlo.devRef_mem_tcRefs main_v1, by decide⟩
  ne := StableHlo.devRef_ne_of_ne (by decide)
  own c := whole_x (mine m) c
  first c := whole_o (mine m) (before₀ m) c
  last c := whole_o (mine m) (all (mine m)) c

/-- The arrays at the end. -/
abbrev after₀ : Dev nD → Valuation τ sig (Elt F) := arrays m oR (all (mine m))

abbrev adm : (p : Fin 1) → (pcfgs (F := F) p).Adm := fun p => (cfgs p).toPCfg_adm

theorem runs : TalkRun.BodyRuns (weights (mine m)).talk ((weights (mine m)).deals (before₀ m) m xR oR) (after₀ m) (pcfgs (F := F)) adm (defs₀ (F := F)) Variants.none 0 :=
  (matches_weights m).runs fun c t => by
    have ht : t = (t0_0 : Fin cfg0.N) := Subsingleton.elim (α := Fin 1) _ _
    rw [ht]
    exact body_runs (mine m) (before₀ m) c Variants.none

theorem all_scoped : ∀ sm : SemLoc sig, sm.isScoped .tc = true := by decide

theorem own_sems : Pipeline.OwnSemFacts (pcfgs (F := F) 0).spec (weights (mine m)).talk.osem :=
  ⟨fun _ => all_scoped _, fun _ _ h => (weights (mine m)).talk.sem_inj (by injection h), fun _ w => Fin.elim0 w⟩

theorem no_window : IsEmpty (Fin cfg0.W) := ⟨fun w => Fin.elim0 w⟩

/-- The region's proof data. -/
def pdats : (p : Fin 1) → (c : Dev nD) → Dat τ (Elt F) Unit ℕ (UU nD τ sig) ℕ (cfgs p) c
  | ⟨0, _⟩ => TalkRun.dat (weights (mine m)).talk ((weights (mine m)).deals (before₀ m) m xR oR) (after₀ m) cfg0 no_window

/-- The run: every array at the end, and every counter at zero. -/
theorem run_main (g : Dev nD → PrngReg) :
    θ_run (defs (F := F)) (onTc (τ := τ) (main (F := F))) ⟨m, fun _ => 0, g⟩
      (fun r => (∀ (c : Dev nD) (b : DevRef τ sig), b ∈ ucRefs τ sig → r.2.mem (c, b) = after₀ m c b) ∧ r.2.sem = fun _ => 0) :=
  TalkRun.run (pcs := pcfgs (F := F)) (a := adm) (pdats := pdats m) (p := 0) (defs₀ := defs₀ (F := F)) (𝒱₀ := Variants.none)
    (T := (weights (mine m)).talk) (B := (weights (mine m)).deals (before₀ m) m xR oR) (W₁ := after₀ m)
    cellOf_inj m g main launch0.toP (own_sems m) rfl no_window rfl (runs m) (fun _ => rfl) (matches_weights m).deal
    [] (fun c => by rfl) (List.nodup_singleton _) (after₀ m) (fun _ => .rfl) all_scoped

/-- At the end every device holds all devices' blocks, and its own as it was. -/
theorem run_ends (g : Dev nD → PrngReg) :
    θ_run (defs (F := F)) (onTc (τ := τ) (main (F := F))) ⟨m, fun _ => 0, g⟩ (fun r => (∀ c : Dev nD,
      r.2.mem ((c.tc : Thread nD τ).loc main_v1) = all (mine m) c
      ∧ r.2.mem ((c.tc : Thread nD τ).loc main_arg0) = m ((c.tc : Thread nD τ).loc main_arg0)) ∧ r.2.sem = fun _ => 0) :=
  (θ_run defs _ _).mono (fun _ h => ⟨fun c => ⟨(h.1 c _ (matches_weights m).o_mem).trans (Function.update_self _ _ _),
    (h.1 c _ (matches_weights m).x_mem).trans (Function.update_of_ne (matches_weights m).ne.symm _ _)⟩, h.2⟩) (run_main m g)

end Cert.GatherRun

end
-- ==== Proof.Stacked.lean ====
/-
  Eight devices' blocks of rows: row `r` of block `p` is row `p R + r` of the whole array, and the whole array read as eight
  blocks has the devices' blocks as its members.
-/
module

public import Idealize.ShloMosaic.Lib.Layout
public import Idealize.ShloMosaic.Lib.Pipeline.Value
public import Idealize.ShloMosaic.Lib.ValueIdx

@[expose] public section

noncomputable section

namespace Cert.Stacked

open Idealize.ShloMosaic Idealize.ShloMosaic.ValueIdx

variable {R C N : ℕ} {A : Type} (hN : N = 8 * R)

theorem row_lt {R N : ℕ} (hN : N = 8 * R) (p : Fin 8) (r : Fin R) : p.val * R + r.val < N := by
  have hp := p.isLt
  have hr := r.isLt
  subst hN
  have h : p.val * R + R ≤ 8 * R := by
    rw [← Nat.succ_mul]
    exact Nat.mul_le_mul_right R hp
  omega

theorem rows_block (v : (⟨2, ![N, C]⟩ : Shape).Idx → A) (p : Fin 8) (r : Fin R) (b : Fin C)
    (ht : Layout.Tiles ⟨2, ![R, C]⟩ ⟨2, ![N, C]⟩ 0 8) :
    Layout.block ⟨2, ![R, C]⟩ ⟨2, ![N, C]⟩ 0 8 p v ht (ix2 r b) = v (ix2 ⟨p.val * R + r.val, row_lt hN p r⟩ b) := by
  refine congrArg v (funext fun a => Fin.ext ?_)
  fin_cases a <;> rfl

include hN in
theorem stack_block (v : (⟨2, ![N, C]⟩ : Shape).Idx → A) (p : Fin 8) (r : Fin R) (b : Fin C)
    (ht : Layout.Tiles ⟨2, ![R, C]⟩ ⟨2, ![N, C]⟩ 0 8) (hs : (⟨2, ![N, C]⟩ : Shape).ShapeCasts ⟨3, ![8, R, C]⟩) :
    shapeCast ⟨3, ![8, R, C]⟩ v hs (ix3 p r b) = Layout.block ⟨2, ![R, C]⟩ ⟨2, ![N, C]⟩ 0 8 p v ht (ix2 r b) := by
  rw [rows_block hN]
  refine shapeCast_apply v hs _ _ ?_
  rw [Shape.rowMajor_val_two, Shape.rowMajor_val_three]
  rfl

end Cert.Stacked

end
-- ==== Proof.GatherAlgebraic.lean ====
/-
  The all-gather of the weights against its reference: every device ends with the whole array of weights, as eight blocks.  The
  same over the extended reals and at the machine's words, since nothing is computed.
-/
module

public import proofs.«01_k».proof.Proof.GatherRun
public import proofs.«01_k».proof.Proof.Stacked
public import proofs.«01_k».proof.Proof.Gen.Gather
public import proofs.«01_k».proof.Proof.Gen.GatherReferenceIdeal.Run
public import proofs.«01_k».proof.Proof.Gen.GatherReference.Run
public import proofs.«01_k».proof.Defs

@[expose] public section

set_option maxRecDepth 65536

noncomputable section

namespace Cert.GatherAlgebraic

open Idealize.ShloMosaic Idealize.ShloMosaic.TcCoe Idealize.ShloMosaic.ValueIdx
open Cert.GatherRun

variable {F : FTy → Type} [FloatOps F]

/-! ## The program and its ideal program have the same text -/

theorem call : Cert.Gather.cc0_gather_weights (F := F) = Cert.GatherIdeal.cc0_gather_weights (F := F) := rfl

theorem calls : Cert.Gather.defs₀ (F := F) = Cert.GatherIdeal.defs₀ (F := F) :=
  congrArg Defs.onTc (funext fun l => funext fun x => match l, x with
    | 0, (_, _) => congrFun (congrFun (congrFun (congrFun (congrFun (congrFun (congrFun call _) _) _) _) _) _) _
    | ⟨_ + 1, h⟩, _ => absurd h (Nat.not_lt.2 (Nat.le_add_left _ _)))

theorem tables : Cert.Gather.defs (F := F) = Cert.GatherIdeal.defs (F := F) := congrArg (Pipeline.defs Cert.GatherIdeal.pcfgs) calls

/-! ## The value -/

/-- The devices' blocks, put one after another, are the whole array in eight blocks. -/
theorem all_blocks (X : (⟨2, ![53248, 1024]⟩ : Shape).Idx → Elt F .bf16) (B : Blocks F)
    (h : ∀ c : Fin 8, B c = Layout.block ⟨2, ![6656, 1024]⟩ ⟨2, ![53248, 1024]⟩ 0 8 c X (by decide)) (c : Fin 8)
    (hs : (⟨2, ![53248, 1024]⟩ : Shape).ShapeCasts ⟨3, ![8, 6656, 1024]⟩) :
    all B c = shapeCast ⟨3, ![8, 6656, 1024]⟩ X hs := by
  funext i
  obtain ⟨p, r, l, rfl⟩ : ∃ (p : Fin 8) (r : Fin 6656) (l : Fin 1024), i = ix3 p r l := ⟨i 0, i 1, i 2, eq_ix3 i⟩
  show B p (ix2 r l) = _
  rw [h p]
  exact (Stacked.stack_block rfl X p r l _ hs).symm

/-! ## The claims -/

theorem frame_ideal : Cert.quiescent_GatherIdeal := fun m g _ =>
  (θ_run _ _ _).mono (fun _ h => ⟨fun c => (h.1 c).2, h.2⟩) (run_ends (F := Ideal) m g)

theorem frame_kernel : Cert.quiescent_Gather := fun m g _ => by
  rw [tables]
  exact (θ_run _ _ _).mono (fun _ h => ⟨fun c => (h.1 c).2, h.2⟩) (run_ends (F := Bits) m g)

theorem frame_reference : Cert.quiescent_GatherReferenceIdeal := fun m g _ =>
  (θ_run Cert.GatherReferenceIdeal.defs _ _).mono (fun r h => ⟨fun c => (h c).2, sem_eq_zero_of_no_sems (by decide) r.2⟩)
    (Cert.GatherReferenceIdeal.Value.run (F := Ideal) m g)

/-- The reference at the machine's words. -/
theorem frame_words : Cert.quiescent_GatherReference := fun m g _ =>
  (θ_run Cert.GatherReference.defs _ _).mono (fun r h => ⟨fun c => (h c).2, sem_eq_zero_of_no_sems (by decide) r.2⟩)
    (Cert.GatherReference.Value.run (F := Bits) m g)

theorem algebraic : Cert.algebraic_GatherIdeal_GatherReferenceIdeal := fun m g m' g' _ h =>
  ⟨_, (θ_run Cert.GatherIdeal.defs _ _).mono (fun _ hr c => ⟨(hr.1 c).1.trans (all_blocks _ (mine m) h c _), (hr.1 c).2⟩) (run_ends (F := Ideal) m g),
    (θ_run Cert.GatherReferenceIdeal.defs _ _).mono (fun _ hr => hr 0) (Cert.GatherReferenceIdeal.Value.run (F := Ideal) m' g')⟩

theorem bitexact : Cert.bitexact_Gather_GatherReference := fun m g m' g' _ h => by
  rw [tables]
  exact ⟨_, (θ_run Cert.GatherIdeal.defs _ _).mono (fun _ hr c => ⟨(hr.1 c).1.trans (all_blocks _ (mine m) h c _), (hr.1 c).2⟩) (run_ends (F := Bits) m g),
    (θ_run Cert.GatherReference.defs _ _).mono (fun _ hr => hr 0) (Cert.GatherReference.Value.run (F := Bits) m' g')⟩

end Cert.GatherAlgebraic

end
-- ==== Proof.FewRun.lean ====
/-
  The all-gather of the small sharded weights, run as a whole.  Its copies go the same way as those of `GatherRun`, whose facts
  about the printed offsets and devices are used.
-/
module

public import proofs.«01_k».proof.Proof.GatherRun
public import proofs.«01_k».proof.Proof.Gen.FewIdeal.Skeleton
public import proofs.«01_k».proof.Proof.Gen.FewIdeal.Points
public import proofs.«01_k».proof.Proof.Gen.FewIdeal.Launch

@[expose] public section

set_option maxRecDepth 16384

noncomputable section

namespace Cert.FewRun

open Cert.FewIdeal Cert.FewIdeal.Gen Cert.OneShot Cert.Slots Cert.Peers Cert.Relay Cert.Gathering Cert.Gathering.Gather
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Seg ucRefs)

open Cert.GatherRun (off_me off_a off_b off_c off_d off_e off_f off_g dev_0 dev_1 dev_2 dev_3 dev_4 dev_5 dev_6 all_routes)

variable {F : FTy → Type} [FloatOps F]

local notation "𝕄" => MT nD τ sig Unit (Elt F) ℕ (UU nD τ sig) ℕ

/-- The devices' blocks, and the result that every device is to have. -/
abbrev Blocks (F : FTy → Type) : Type := (c : Dev nD) → Buf (Elt F) ((c : Thread nD τ).loc main_arg0)
abbrev Results (F : FTy → Type) : Type := (c : Dev nD) → Buf (Elt F) ((c : Thread nD τ).loc main_v1)
def all (X : Blocks F) : Results F := fun _ (i : S8x256x128.Idx) => X (i 0) (ix2 (n0 := 256) (n1 := 128) (i 1) (i 2))

abbrev oM : Memref sig .tc .hbm S8x256x128 .f32 := Memref.whole main_v1
abbrev oS (p : Fin 8) : Memref sig .tc .hbm S256x128 .f32 := slot oM squeezes_S1x256x128_S256x128 p

/-- The all-gather of this program. -/
def few (X : Blocks F) : Gather τ sig (Elt F) 256 128 .f32 where
  x := Memref.whole main_arg0
  o := oM
  hq := squeezes_S1x256x128_S256x128
  sem k := ⟨k.val, k.isLt⟩
  sem_inj _ _ h := Fin.ext (Fin.mk.inj h)
  credit := (oS 0).view.dmaCredit
  credit_pos := View.dmaCredit_pos _ (by decide)
  credit_x := rfl
  credit_o _ := rfl
  routes := all_routes
  X := X
  G := all X
  reads c d := by
    funext i
    obtain ⟨r, l, rfl⟩ : ∃ (r : Fin 256) (l : Fin 128), i = ix2 r l := ⟨i 0, i 1, by funext a; fin_cases a <;> rfl⟩
    rw [View.read_apply, View.read_apply, slot_emb]
    rfl

/-! ### The body -/

theorem slot_at (X : Blocks F) (p : Fin 8) (off : Fin 3 → ℕ) (ho : off = ![p.val, 0, 0]) (hi : ∀ a, off a + S1x256x128.size a ≤ S8x256x128.size a) :
    (oM.slice (Rect.unit (s := S8x256x128) off S1x256x128.size hi) (fun _ => rfl)).squeeze S256x128 squeezes_S1x256x128_S256x128
      = slot (few X).o (few X).hq p :=
  slot_of_off oM squeezes_S1x256x128_S256x128 p off ho hi

theorem credit_at (X : Blocks F) {p : Fin 8} {M : Memref sig .tc .hbm S256x128 .f32} (h : M = slot (few X).o (few X).hq p) : M.view.dmaCredit = (few X).credit := by
  subst h; rfl
theorem own_at (X : Blocks F) : (Memref.whole main_arg0 : Memref sig .tc .hbm S256x128 .f32) = (few X).x := rfl

theorem body_runs (X : Blocks F) (F₀ : Results F) (c : Dev nD) (𝒱 : Variants) :
    (few X).Runs c (defs₀ (F := F)) 𝒱 ((few X).Start F₀ c) (bodyAt0 (F := F) t0_0) := by
  simp only [bodyAt0, cc0_gather_small_eq_skeleton]
  unfold cc0_gather_small_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel,
    Prog.lift, Prog.bind_op, Prog.bind_ret, Prog.pure_eq_ret]
  refine run_device (few X) c _ 𝒱 ?_
  refine run_home (few X) F₀ c _ 𝒱 (own_at X) (slot_at X _ _ (off_me c) _) rfl ?_
  refine run_own (few X) F₀ c _ 𝒱 0 (own_at X) (slot_at X _ _ (off_me c) _) (dev_0 c) rfl rfl ?_
  refine run_own (few X) F₀ c _ 𝒱 1 (own_at X) (slot_at X _ _ (off_me c) _) (dev_1 c) rfl rfl ?_
  refine run_own (few X) F₀ c _ 𝒱 2 (own_at X) (slot_at X _ _ (off_me c) _) (dev_2 c) rfl rfl ?_
  refine run_own (few X) F₀ c _ 𝒱 3 (own_at X) (slot_at X _ _ (off_me c) _) (dev_3 c) rfl rfl ?_
  refine run_pass (few X) F₀ c _ 𝒱 0 (credit_at X (slot_at X _ _ (off_a c) _)) (slot_at X _ _ (off_a c) _) (slot_at X _ _ (off_a c) _) (dev_4 c) rfl rfl rfl ?_
  refine run_pass (few X) F₀ c _ 𝒱 1 (credit_at X (slot_at X _ _ (off_b c) _)) (slot_at X _ _ (off_b c) _) (slot_at X _ _ (off_b c) _) (dev_5 c) rfl rfl rfl ?_
  refine run_pass (few X) F₀ c _ 𝒱 2 (credit_at X (slot_at X _ _ (off_c c) _)) (slot_at X _ _ (off_c c) _) (slot_at X _ _ (off_c c) _) (dev_6 c) rfl rfl rfl ?_
  refine run_turn (few X) F₀ c _ 𝒱 ?_
  refine run_wait (few X) c _ 𝒱 0 (credit_at X (slot_at X _ _ (off_d c) _)) rfl ?_
  refine run_wait (few X) c _ 𝒱 1 (credit_at X (slot_at X _ _ (off_e c) _)) rfl ?_
  refine run_wait (few X) c _ 𝒱 2 (credit_at X (slot_at X _ _ (off_f c) _)) rfl ?_
  refine run_wait (few X) c _ 𝒱 3 (credit_at X (slot_at X _ _ (off_g c) _)) rfl ?_
  refine run_wait (few X) c _ 𝒱 4 (few X).credit_x rfl ?_
  refine run_wait (few X) c _ 𝒱 5 (few X).credit_x rfl ?_
  refine run_wait (few X) c _ 𝒱 6 (few X).credit_x rfl ?_
  refine run_wait (few X) c _ 𝒱 7 (few X).credit_x rfl ?_
  refine run_wait (few X) c _ 𝒱 8 (credit_at X (slot_at X _ _ (off_a c) _)) rfl ?_
  refine run_wait (few X) c _ 𝒱 9 (credit_at X (slot_at X _ _ (off_b c) _)) rfl ?_
  refine run_wait (few X) c _ 𝒱 10 (credit_at X (slot_at X _ _ (off_c c) _)) rfl ?_
  refine run_wait (few X) c _ 𝒱 11 (credit_at X (slot_at X _ _ (off_me c) _)) rfl ?_
  exact run_end (few X) c _ 𝒱 _

/-! ### The launch -/

variable (m : (ℓ : Loc nD τ sig) → Buf (Elt F) ℓ)

/-- The devices' blocks and what their results hold at the launch. -/
abbrev mine : Blocks F := fun c => m ((c : Thread nD τ).loc main_arg0)
abbrev before₀ : Results F := fun c => m ((c : Thread nD τ).loc main_v1)
abbrev xR : DevRef τ sig := Proc.devRef .tc main_arg0
abbrev oR : DevRef τ sig := Proc.devRef .tc main_v1

theorem whole_x (X : Blocks F) (c : Dev nD) : ((few X).xPts fullShare c : sProp 𝕄) = ((c : Thread nD τ).loc main_arg0 ↦{fullShare} X c) := by
  unfold xPts
  rw [show (few X).x.view.set = _ from View.set_whole main_arg0]
  rfl
theorem whole_o (X : Blocks F) (R : Results F) (c : Dev nD) :
    ((few X).o.view.loc (c : Thread nD τ) ↦[(few X).o.view.set]{fullShare} R c : sProp 𝕄) = ((c : Thread nD τ).loc main_v1 ↦{fullShare} R c) := by
  rw [show (few X).o.view.set = _ from View.set_whole main_v1]
  rfl

theorem matches_few : (few (mine m)).Matches (before₀ m) m xR oR (all (mine m)) where
  x_mem := Finset.mem_filter.mpr ⟨StableHlo.devRef_mem_tcRefs main_arg0, by decide⟩
  o_mem := Finset.mem_filter.mpr ⟨StableHlo.devRef_mem_tcRefs main_v1, by decide⟩
  ne := StableHlo.devRef_ne_of_ne (by decide)
  own c := whole_x (mine m) c
  first c := whole_o (mine m) (before₀ m) c
  last c := whole_o (mine m) (all (mine m)) c

/-- The arrays at the end. -/
abbrev after₀ : Dev nD → Valuation τ sig (Elt F) := arrays m oR (all (mine m))

abbrev adm : (p : Fin 1) → (pcfgs (F := F) p).Adm := fun p => (cfgs p).toPCfg_adm

theorem runs : TalkRun.BodyRuns (few (mine m)).talk ((few (mine m)).deals (before₀ m) m xR oR) (after₀ m) (pcfgs (F := F)) adm (defs₀ (F := F)) Variants.none 0 :=
  (matches_few m).runs fun c t => by
    have ht : t = (t0_0 : Fin cfg0.N) := Subsingleton.elim (α := Fin 1) _ _
    rw [ht]
    exact body_runs (mine m) (before₀ m) c Variants.none

theorem all_scoped : ∀ sm : SemLoc sig, sm.isScoped .tc = true := by decide

theorem own_sems : Pipeline.OwnSemFacts (pcfgs (F := F) 0).spec (few (mine m)).talk.osem :=
  ⟨fun _ => all_scoped _, fun _ _ h => (few (mine m)).talk.sem_inj (by injection h), fun _ w => Fin.elim0 w⟩

theorem no_window : IsEmpty (Fin cfg0.W) := ⟨fun w => Fin.elim0 w⟩

/-- The region's proof data. -/
def pdats : (p : Fin 1) → (c : Dev nD) → Dat τ (Elt F) Unit ℕ (UU nD τ sig) ℕ (cfgs p) c
  | ⟨0, _⟩ => TalkRun.dat (few (mine m)).talk ((few (mine m)).deals (before₀ m) m xR oR) (after₀ m) cfg0 no_window

/-- The run: every array at the end, and every counter at zero. -/
theorem run_main (g : Dev nD → PrngReg) :
    θ_run (defs (F := F)) (onTc (τ := τ) (main (F := F))) ⟨m, fun _ => 0, g⟩
      (fun r => (∀ (c : Dev nD) (b : DevRef τ sig), b ∈ ucRefs τ sig → r.2.mem (c, b) = after₀ m c b) ∧ r.2.sem = fun _ => 0) :=
  TalkRun.run (pcs := pcfgs (F := F)) (a := adm) (pdats := pdats m) (p := 0) (defs₀ := defs₀ (F := F)) (𝒱₀ := Variants.none)
    (T := (few (mine m)).talk) (B := (few (mine m)).deals (before₀ m) m xR oR) (W₁ := after₀ m)
    cellOf_inj m g main launch0.toP (own_sems m) rfl no_window rfl (runs m) (fun _ => rfl) (matches_few m).deal
    [] (fun c => by rfl) (List.nodup_singleton _) (after₀ m) (fun _ => .rfl) all_scoped

/-- At the end every device holds all devices' blocks, and its own as it was. -/
theorem run_ends (g : Dev nD → PrngReg) :
    θ_run (defs (F := F)) (onTc (τ := τ) (main (F := F))) ⟨m, fun _ => 0, g⟩ (fun r => (∀ c : Dev nD,
      r.2.mem ((c.tc : Thread nD τ).loc main_v1) = all (mine m) c
      ∧ r.2.mem ((c.tc : Thread nD τ).loc main_arg0) = m ((c.tc : Thread nD τ).loc main_arg0)) ∧ r.2.sem = fun _ => 0) :=
  (θ_run defs _ _).mono (fun _ h => ⟨fun c => ⟨(h.1 c _ (matches_few m).o_mem).trans (Function.update_self _ _ _),
    (h.1 c _ (matches_few m).x_mem).trans (Function.update_of_ne (matches_few m).ne.symm _ _)⟩, h.2⟩) (run_main m g)

end Cert.FewRun

end
-- ==== Proof.FewAlgebraic.lean ====
/-
  The all-gather of the small sharded weights against its reference: every device ends with the whole array, as eight blocks.  The
  same over the extended reals and at the machine's words, since nothing is computed.
-/
module

public import proofs.«01_k».proof.Proof.FewRun
public import proofs.«01_k».proof.Proof.Stacked
public import proofs.«01_k».proof.Proof.Gen.Few
public import proofs.«01_k».proof.Proof.Gen.FewReferenceIdeal.Run
public import proofs.«01_k».proof.Proof.Gen.FewReference.Run
public import proofs.«01_k».proof.Defs

@[expose] public section

set_option maxRecDepth 65536

noncomputable section

namespace Cert.FewAlgebraic

open Idealize.ShloMosaic Idealize.ShloMosaic.TcCoe Idealize.ShloMosaic.ValueIdx
open Cert.FewRun

variable {F : FTy → Type} [FloatOps F]

/-! ## The program and its ideal program have the same text -/

theorem call : Cert.Few.cc0_gather_small (F := F) = Cert.FewIdeal.cc0_gather_small (F := F) := rfl

theorem calls : Cert.Few.defs₀ (F := F) = Cert.FewIdeal.defs₀ (F := F) :=
  congrArg Defs.onTc (funext fun l => funext fun x => match l, x with
    | 0, (_, _) => congrFun (congrFun (congrFun (congrFun (congrFun (congrFun (congrFun call _) _) _) _) _) _) _
    | ⟨_ + 1, h⟩, _ => absurd h (Nat.not_lt.2 (Nat.le_add_left _ _)))

theorem tables : Cert.Few.defs (F := F) = Cert.FewIdeal.defs (F := F) := congrArg (Pipeline.defs Cert.FewIdeal.pcfgs) calls

/-! ## The value -/

/-- The devices' blocks, put one after another, are the whole array in eight blocks. -/
theorem all_blocks (X : (⟨2, ![2048, 128]⟩ : Shape).Idx → Elt F .f32) (B : Blocks F)
    (h : ∀ c : Fin 8, B c = Layout.block ⟨2, ![256, 128]⟩ ⟨2, ![2048, 128]⟩ 0 8 c X (by decide)) (c : Fin 8)
    (hs : (⟨2, ![2048, 128]⟩ : Shape).ShapeCasts ⟨3, ![8, 256, 128]⟩) :
    all B c = shapeCast ⟨3, ![8, 256, 128]⟩ X hs := by
  funext i
  obtain ⟨p, r, l, rfl⟩ : ∃ (p : Fin 8) (r : Fin 256) (l : Fin 128), i = ix3 p r l := ⟨i 0, i 1, i 2, eq_ix3 i⟩
  show B p (ix2 r l) = _
  rw [h p]
  exact (Stacked.stack_block rfl X p r l _ hs).symm

/-! ## The claims -/

theorem frame_ideal : Cert.quiescent_FewIdeal := fun m g _ =>
  (θ_run _ _ _).mono (fun _ h => ⟨fun c => (h.1 c).2, h.2⟩) (run_ends (F := Ideal) m g)

theorem frame_kernel : Cert.quiescent_Few := fun m g _ => by
  rw [tables]
  exact (θ_run _ _ _).mono (fun _ h => ⟨fun c => (h.1 c).2, h.2⟩) (run_ends (F := Bits) m g)

theorem frame_reference : Cert.quiescent_FewReferenceIdeal := fun m g _ =>
  (θ_run Cert.FewReferenceIdeal.defs _ _).mono (fun r h => ⟨fun c => (h c).2, sem_eq_zero_of_no_sems (by decide) r.2⟩)
    (Cert.FewReferenceIdeal.Value.run (F := Ideal) m g)

/-- The reference at the machine's words. -/
theorem frame_words : Cert.quiescent_FewReference := fun m g _ =>
  (θ_run Cert.FewReference.defs _ _).mono (fun r h => ⟨fun c => (h c).2, sem_eq_zero_of_no_sems (by decide) r.2⟩)
    (Cert.FewReference.Value.run (F := Bits) m g)

theorem algebraic : Cert.algebraic_FewIdeal_FewReferenceIdeal := fun m g m' g' _ h =>
  ⟨_, (θ_run Cert.FewIdeal.defs _ _).mono (fun _ hr c => ⟨(hr.1 c).1.trans (all_blocks _ (mine m) h c _), (hr.1 c).2⟩) (run_ends (F := Ideal) m g),
    (θ_run Cert.FewReferenceIdeal.defs _ _).mono (fun _ hr => hr 0) (Cert.FewReferenceIdeal.Value.run (F := Ideal) m' g')⟩

theorem bitexact : Cert.bitexact_Few_FewReference := fun m g m' g' _ h => by
  rw [tables]
  exact ⟨_, (θ_run Cert.FewIdeal.defs _ _).mono (fun _ hr c => ⟨(hr.1 c).1.trans (all_blocks _ (mine m) h c _), (hr.1 c).2⟩) (run_ends (F := Bits) m g),
    (θ_run Cert.FewReference.defs _ _).mono (fun _ hr => hr 0) (Cert.FewReference.Value.run (F := Bits) m' g')⟩

end Cert.FewAlgebraic

end
-- ==== Proof.SmallStep.lean ====
/-
  The region that adds up the small weights' gradients: a grid over row blocks of 512 rows, each the sum of the eight gathered
  blocks at these rows.

  Stated over any contents `W c` of device `c`'s arrays when the region is entered.
-/
module

public import proofs.«01_k».proof.Proof.TalkRun
public import proofs.«01_k».proof.Proof.Gen.SmallIdeal.Skeleton
public import proofs.«01_k».proof.Proof.Gen.SmallIdeal.Points
public import proofs.«01_k».proof.Proof.Gen.SmallIdeal.Launch
public import Idealize.ShloMosaic.Lib.Pipeline.FrameBody
public import Idealize.ShloMosaic.Lib.Pipeline.RegionArraysS
public import Idealize.ShloMosaic.Lib.Pipeline.Value
public import Idealize.ShloMosaic.Lib.ValueIdx
public import Idealize.ShloMosaic.Lib.Pointwise
public import Idealize.ShloMosaic.Lib.Tactic

@[expose] public section

set_option maxRecDepth 16384

noncomputable section

namespace Cert.SmallStep

open Cert.SmallIdeal Cert.SmallIdeal.Gen Cert.OneShot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU nD τ sig) ℕ

/-! ## What one row block computes -/

theorem part_inb (p : Fin 8) : ∀ a, (![p.val, 0, 0] : Fin 3 → ℕ) a + S1x512x128.size a ≤ S8x512x128.size a := by revert p; decide

/-- Block `p` of the eight, as the body loads it. -/
abbrev part (p : Fin 8) : Rect S8x512x128 := Rect.unit (s := S8x512x128) ![p.val, 0, 0] S1x512x128.size (part_inb p)
abbrev all : Rect S512x128 := Rect.unit (s := S512x128) ![0, 0] S512x128.size inb_S512x128_S512x128_0_0

/-- The sum of the eight blocks. -/
def total (x : Vec F S8x512x128 .f32) : FVec F S512x128 .f32 :=
  k1_pay1 (View.ld x (part 0)) (View.ld x (part 1)) (View.ld x (part 2)) (View.ld x (part 3)) (View.ld x (part 4)) (View.ld x (part 5)) (View.ld x (part 6)) (View.ld x (part 7))

theorem stored {sp : Space} (v : View sig .tc sp S512x128 .f32) (f : v.ty.Contents (Elt F)) (p : Vec F S512x128 .f32) :
    v.read (Elt F) (v.writes (Elt F) f [⟨all, p⟩]) = p :=
  (View.read_writes_eq_canon _ _ _ fun y => View.cover_of_tiled [⟨all, p⟩] S512x128.size (by rfl) y).trans
    (View.canon_cons_unit_zero (by funext a; fin_cases a <;> rfl) _ p [])

/-- The body leaves the gathered blocks as they were and their sum in the output. -/
theorem body_run (c : Dev nD) (i : grid1.Coords) (a1 : Memref sig .tc .vmem S8x512x128 .f32) (h1 : a1.IsWhole) (a2 : Memref sig .tc .vmem S512x128 .f32) (h2 : a2.IsWhole)
    (x : Vec F S8x512x128 .f32) (Q : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (total x)) -∗ Q ⟨⟩))
      ⊢ wp frame (wpE (defs₀ (F := F)) Variants.none c none) Set.univ (cc1_sum_small_grads i a1 h1 a2 h2) Q := by
  simp only [cc1_sum_small_grads_eq_skeleton]; unfold cc1_sum_small_grads_skel owns
  iintro ⟨⟨%f1, %e1, H1⟩, ⟨%d2, %f2, -, H2⟩, Hk⟩
  subst e1
  sl_exec
  sl_step
  iapply Hk
  isplitl [H1]
  · iexists f1; isplitr; · ipureintro; rfl
    iexact H1
  iexists _; isplitr
  swap; · iexact H2
  ipureintro; exact (stored _ _ _).trans rfl

/-! ## The pipeline's proof data -/

variable (W : Dev nD → Valuation τ sig (Elt F))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

def dat (c : Dev nD) : Dat τ (Elt F) Unit ℕ (UU nD τ sig) ℕ cfg1 c where
  A w := W c (Proc.devRef .tc (Pipeline.arrRef spec1 w))
  after w t := match w with
    | ⟨0, _⟩ => blk W c 0 t
    | ⟨1, _⟩ => total (blk W c 0 t)
  Φ _ := Pipeline.scopedRest cfg1.spec c
  q _ := fullShare
  owed _ := 0

theorem Φ_eq (c : Dev nD) (t) : (dat W c).Φ t = Pipeline.scopedRest cfg1.spec c := by dsimp only [dat]
theorem A_eq (c : Dev nD) (w : Fin cfg1.W) : (dat W c).A w = W c (Proc.devRef .tc (Pipeline.arrRef spec1 w)) := by dsimp only [dat]
theorem after_0 (c : Dev nD) (t : Fin cfg1.N) : (dat W c).after 0 t = blk W c 0 t := by dsimp only [dat]
theorem after_1 (c : Dev nD) (t : Fin cfg1.N) : (dat W c).after 1 t = total (blk W c 0 t) := by dsimp only [dat]

theorem before_0 (c : Dev nD) (t : Fin cfg1.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)

def pre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d)))

def post (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t))

theorem step_point (c : Dev nD) (t : Fin cfg1.N) :
    pre W c t ⊢ wp frame (wpE (defs₀ (F := F)) Variants.none c none) Set.univ (bodyAt1 t) (fun _ => post W c t) := by
  unfold pre post bodyAt1
  simp only [before_0]
  rw [show (dat W c).Φ t.succ = (dat W c).Φ t.castSucc from rfl, show (dat W c).owesAt () t.succ = (dat W c).owesAt () t.castSucc from rfl,
    after_0, after_1]
  iintro ⟨HΦ, HO, ⟨%d0, H0⟩, ⟨%d1, H1⟩⟩
  iapply (body_run c (grid1.coords t) _ _ _ _ (blk W c 0 t) _)
  isplitl [H0]; · iexact H0
  isplitl [H1]; · iexists _; iexact H1
  iintro ⟨H0, H1⟩
  isplitl [HΦ]; · iexact HΦ
  isplitl [HO]; · iexact HO
  isplitl [H0]; · iexact H0
  iexact H1

theorem row_eq (t : Fin cfg1.N) : defs₀ (F := F) .tc cfg1.body (cfg1.bodyArgs t (cfg1.slots t)) = bodyAt1 t := by
  unfold defs₀; rw [Defs.onTc_tc]

theorem body_obligation (c : Dev nD) : BodyObligation (dat W c) (defs₀ (F := F)) Variants.none () Set.univ := fun t => by
  rw [bigSep_W1, bigSep_W1, row_eq]
  exact triple_restated (step_point W c t) rfl .rfl fun _ => .rfl

/-! ## The sum, whole -/

/-- Row `a` of block `t`. -/
abbrev row (t : Fin cfg1.N) (a : Fin 512) : Fin 2560 := ⟨t.val * 512 + a.val, by have := t.isLt; have h : cfg1.N = 5 := rfl; omega⟩

theorem index_0 : ∀ t : Fin grid1.N, win1_0.index t 0 = 0 ∧ win1_0.index t 1 = t.val ∧ win1_0.index t 2 = 0 := by decide +kernel
theorem index_1 : ∀ t : Fin grid1.N, win1_1.index t 0 = t.val ∧ win1_1.index t 1 = 0 := by decide +kernel

theorem blk_0 (c : Dev nD) (t : Fin cfg1.N) (p : Fin 8) (a : Fin 512) (b : Fin 128) :
    (blk W c 0 t : S8x512x128.Idx → F .f32) (ix3 p a b) = (W c (Proc.devRef .tc main_v1) : S8x2560x128.Idx → F .f32) (ix3 p (row t a) b) := by
  show (W c (Proc.devRef .tc main_v1) : S8x2560x128.Idx → F .f32) ((win1_0.rect t).emb (ix3 p a b)) = _
  refine congrArg _ (funext fun x => Fin.ext ?_)
  obtain ⟨h0, h1, h2⟩ := index_0 t
  refine (win1_0.rect_emb_val t (ix3 p a b) x rfl).trans ?_
  fin_cases x
  · show win1_0.index t 0 * 8 + p.val = _; rw [h0]; simp
  · show win1_0.index t 1 * 512 + a.val = _; rw [h1]; simp
  · show win1_0.index t 2 * 128 + b.val = _; rw [h2]; simp

theorem out_emb (t : Fin cfg1.N) (a : Fin 512) (b : Fin 128) : (win1_1.rect t).emb (ix2 a b) = (ix2 (row t a) b : S2560x128.Idx) := by
  refine funext fun x => Fin.ext ?_
  obtain ⟨h0, h1⟩ := index_1 t
  refine (win1_1.rect_emb_val t (ix2 a b) x rfl).trans ?_
  fin_cases x
  · show win1_1.index t 0 * 512 + a.val = _; rw [h0]; rfl
  · show win1_1.index t 1 * 128 + b.val = _; rw [h1]; simp

theorem row_of (r : Fin 2560) : ∃ (t : Fin cfg1.N) (a : Fin 512), row t a = r := by
  have hN : cfg1.N = 5 := rfl
  have hr := r.isLt
  exact ⟨⟨r.val / 512, by omega⟩, ⟨r.val % 512, Nat.mod_lt _ (by decide)⟩, Fin.ext (Nat.div_add_mod' r.val 512)⟩

theorem apart : ∀ t t' : Fin cfg1.N, win1_1.index t = win1_1.index t' → t = t' :=
  (by decide +kernel : ∀ t t' : Fin grid1.N, win1_1.index t = win1_1.index t' → t = t')
theorem flush : ∀ t : Fin cfg1.N, (cfg1.win 1).flush t = true := (by decide +kernel : ∀ t : Fin grid1.N, win1_1.flush t = true)

theorem total_at (c : Dev nD) (t : Fin cfg1.N) (a : Fin 512) (b : Fin 128) :
    ((dat W c).arrAt 1 cfg1.N : S2560x128.Idx → F .f32) (ix2 (row t a) b) = total (blk W c 0 t) (ix2 a b) := by
  rw [← out_emb]
  exact ((dat W c).arrAt_emb_eq_flushed 1 (fun t t' _ _ hne => (cfg1.win 1).disjoint_blk fun h => hne (apart t t' h)) t (flush t) (ix2 a b)).trans rfl

/-- Over the reals: the sum of the eight gathered blocks. -/
theorem total_eq (x : Vec Ideal S8x512x128 .f32) (a : Fin 512) (b : Fin 128) :
    (total (F := Ideal) x (ix2 a b) : EReal) = ∑ p : Fin 8, (x (ix3 p a b) : EReal) := by
  unfold total
  pointwise [k1_pay1]
  rw [Fin.sum_univ_eight]

/-- The gathered blocks, as numbers. -/
def gathered (W : Dev nD → Valuation τ sig (Elt Ideal)) (c : Dev nD) : S8x2560x128.Idx → EReal := W c (Proc.devRef .tc main_v1)

theorem sum_at (W : Dev nD → Valuation τ sig (Elt Ideal)) (c : Dev nD) (r : Fin 2560) (b : Fin 128) :
    ((dat W c).arrAt 1 cfg1.N : S2560x128.Idx → EReal) (ix2 r b) = (∑ p : Fin 8, gathered W c (ix3 p r b) : EReal) := by
  obtain ⟨t, a, rfl⟩ := row_of r
  exact (total_at W c t a b).trans ((total_eq (blk W c 0 t) a b).trans (Finset.sum_congr (M := EReal) rfl fun p _ => blk_0 W c t p a b))

end Cert.SmallStep

end
-- ==== Proof.SmallRun.lean ====
/-
  The gathering of the small grads' gradients, followed by their sum, run as a whole.
-/
module

public import proofs.«01_k».proof.Proof.GatherRun
public import proofs.«01_k».proof.Proof.SmallStep
public import proofs.«01_k».proof.Proof.PlainRegion
public import proofs.«01_k».proof.Proof.Gen.SmallIdeal.Skeleton
public import proofs.«01_k».proof.Proof.Gen.SmallIdeal.Points
public import proofs.«01_k».proof.Proof.Gen.SmallIdeal.Launch
public import proofs.«01_k».proof.Proof.Gen.SmallIdeal.Regions

@[expose] public section

set_option maxRecDepth 16384

noncomputable section

namespace Cert.SmallRun

open Cert.SmallIdeal Cert.SmallIdeal.Gen Cert.OneShot Cert.Slots Cert.Peers Cert.Relay Cert.Gathering Cert.Gathering.Gather
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Seg ucRefs)

open Cert.GatherRun (off_me off_a off_b off_c off_d off_e off_f off_g dev_0 dev_1 dev_2 dev_3 dev_4 dev_5 dev_6 all_routes)

variable {F : FTy → Type} [FloatOps F]

local notation "𝕄" => MT nD τ sig Unit (Elt F) ℕ (UU nD τ sig) ℕ

/-- The devices' blocks, and the result that every device is to have. -/
abbrev Blocks (F : FTy → Type) : Type := (c : Dev nD) → Buf (Elt F) ((c : Thread nD τ).loc main_arg0)
abbrev Results (F : FTy → Type) : Type := (c : Dev nD) → Buf (Elt F) ((c : Thread nD τ).loc main_v1)
def all (X : Blocks F) : Results F := fun _ (i : S8x2560x128.Idx) => X (i 0) (ValueIdx.ix2 (n0 := 2560) (n1 := 128) (i 1) (i 2))

abbrev oM : Memref sig .tc .hbm S8x2560x128 .f32 := Memref.whole main_v1
abbrev oS (p : Fin 8) : Memref sig .tc .hbm S2560x128 .f32 := slot oM squeezes_S1x2560x128_S2560x128 p

/-- The all-gather of this program. -/
def grads (X : Blocks F) : Gather τ sig (Elt F) 2560 128 .f32 where
  x := Memref.whole main_arg0
  o := oM
  hq := squeezes_S1x2560x128_S2560x128
  sem k := ⟨k.val, Nat.lt_of_lt_of_le k.isLt (by decide)⟩
  sem_inj _ _ h := Fin.ext (Fin.mk.inj h)
  credit := (oS 0).view.dmaCredit
  credit_pos := View.dmaCredit_pos _ (by decide)
  credit_x := rfl
  credit_o _ := rfl
  routes := all_routes
  X := X
  G := all X
  reads c d := by
    funext i
    obtain ⟨r, l, rfl⟩ : ∃ (r : Fin 2560) (l : Fin 128), i = ValueIdx.ix2 r l := ⟨i 0, i 1, by funext a; fin_cases a <;> rfl⟩
    rw [View.read_apply, View.read_apply, slot_emb]
    rfl

/-! ### The body -/

theorem slot_at (X : Blocks F) (p : Fin 8) (off : Fin 3 → ℕ) (ho : off = ![p.val, 0, 0]) (hi : ∀ a, off a + S1x2560x128.size a ≤ S8x2560x128.size a) :
    (oM.slice (Rect.unit (s := S8x2560x128) off S1x2560x128.size hi) (fun _ => rfl)).squeeze S2560x128 squeezes_S1x2560x128_S2560x128
      = slot (grads X).o (grads X).hq p :=
  slot_of_off oM squeezes_S1x2560x128_S2560x128 p off ho hi

theorem credit_at (X : Blocks F) {p : Fin 8} {M : Memref sig .tc .hbm S2560x128 .f32} (h : M = slot (grads X).o (grads X).hq p) : M.view.dmaCredit = (grads X).credit := by
  subst h; rfl
theorem own_at (X : Blocks F) : (Memref.whole main_arg0 : Memref sig .tc .hbm S2560x128 .f32) = (grads X).x := rfl

theorem body_runs (X : Blocks F) (F₀ : Results F) (c : Dev nD) (𝒱 : Variants) :
    (grads X).Runs c (defs₀ (F := F)) 𝒱 ((grads X).Start F₀ c) (bodyAt0 (F := F) t0_0) := by
  simp only [bodyAt0, cc0_gather_small_grads_eq_skeleton]
  unfold cc0_gather_small_grads_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel,
    Prog.lift, Prog.bind_op, Prog.bind_ret, Prog.pure_eq_ret]
  refine run_device (grads X) c _ 𝒱 ?_
  refine run_home (grads X) F₀ c _ 𝒱 (own_at X) (slot_at X _ _ (off_me c) _) rfl ?_
  refine run_own (grads X) F₀ c _ 𝒱 0 (own_at X) (slot_at X _ _ (off_me c) _) (dev_0 c) rfl rfl ?_
  refine run_own (grads X) F₀ c _ 𝒱 1 (own_at X) (slot_at X _ _ (off_me c) _) (dev_1 c) rfl rfl ?_
  refine run_own (grads X) F₀ c _ 𝒱 2 (own_at X) (slot_at X _ _ (off_me c) _) (dev_2 c) rfl rfl ?_
  refine run_own (grads X) F₀ c _ 𝒱 3 (own_at X) (slot_at X _ _ (off_me c) _) (dev_3 c) rfl rfl ?_
  refine run_pass (grads X) F₀ c _ 𝒱 0 (credit_at X (slot_at X _ _ (off_a c) _)) (slot_at X _ _ (off_a c) _) (slot_at X _ _ (off_a c) _) (dev_4 c) rfl rfl rfl ?_
  refine run_pass (grads X) F₀ c _ 𝒱 1 (credit_at X (slot_at X _ _ (off_b c) _)) (slot_at X _ _ (off_b c) _) (slot_at X _ _ (off_b c) _) (dev_5 c) rfl rfl rfl ?_
  refine run_pass (grads X) F₀ c _ 𝒱 2 (credit_at X (slot_at X _ _ (off_c c) _)) (slot_at X _ _ (off_c c) _) (slot_at X _ _ (off_c c) _) (dev_6 c) rfl rfl rfl ?_
  refine run_turn (grads X) F₀ c _ 𝒱 ?_
  refine run_wait (grads X) c _ 𝒱 0 (credit_at X (slot_at X _ _ (off_d c) _)) rfl ?_
  refine run_wait (grads X) c _ 𝒱 1 (credit_at X (slot_at X _ _ (off_e c) _)) rfl ?_
  refine run_wait (grads X) c _ 𝒱 2 (credit_at X (slot_at X _ _ (off_f c) _)) rfl ?_
  refine run_wait (grads X) c _ 𝒱 3 (credit_at X (slot_at X _ _ (off_g c) _)) rfl ?_
  refine run_wait (grads X) c _ 𝒱 4 (grads X).credit_x rfl ?_
  refine run_wait (grads X) c _ 𝒱 5 (grads X).credit_x rfl ?_
  refine run_wait (grads X) c _ 𝒱 6 (grads X).credit_x rfl ?_
  refine run_wait (grads X) c _ 𝒱 7 (grads X).credit_x rfl ?_
  refine run_wait (grads X) c _ 𝒱 8 (credit_at X (slot_at X _ _ (off_a c) _)) rfl ?_
  refine run_wait (grads X) c _ 𝒱 9 (credit_at X (slot_at X _ _ (off_b c) _)) rfl ?_
  refine run_wait (grads X) c _ 𝒱 10 (credit_at X (slot_at X _ _ (off_c c) _)) rfl ?_
  refine run_wait (grads X) c _ 𝒱 11 (credit_at X (slot_at X _ _ (off_me c) _)) rfl ?_
  exact run_end (grads X) c _ 𝒱 _

/-! ### The launch -/

variable (m : (ℓ : Loc nD τ sig) → Buf (Elt F) ℓ)

/-- The devices' blocks and what their results hold at the launch. -/
abbrev mine : Blocks F := fun c => m ((c : Thread nD τ).loc main_arg0)
abbrev before₀ : Results F := fun c => m ((c : Thread nD τ).loc main_v1)
abbrev xR : DevRef τ sig := Proc.devRef .tc main_arg0
abbrev oR : DevRef τ sig := Proc.devRef .tc main_v1

theorem whole_x (X : Blocks F) (c : Dev nD) : ((grads X).xPts fullShare c : sProp 𝕄) = ((c : Thread nD τ).loc main_arg0 ↦{fullShare} X c) := by
  unfold xPts
  rw [show (grads X).x.view.set = _ from View.set_whole main_arg0]
  rfl
theorem whole_o (X : Blocks F) (R : Results F) (c : Dev nD) :
    ((grads X).o.view.loc (c : Thread nD τ) ↦[(grads X).o.view.set]{fullShare} R c : sProp 𝕄) = ((c : Thread nD τ).loc main_v1 ↦{fullShare} R c) := by
  rw [show (grads X).o.view.set = _ from View.set_whole main_v1]
  rfl

theorem matches_grads : (grads (mine m)).Matches (before₀ m) m xR oR (all (mine m)) where
  x_mem := Finset.mem_filter.mpr ⟨StableHlo.devRef_mem_tcRefs main_arg0, by decide⟩
  o_mem := Finset.mem_filter.mpr ⟨StableHlo.devRef_mem_tcRefs main_v1, by decide⟩
  ne := StableHlo.devRef_ne_of_ne (by decide)
  own c := whole_x (mine m) c
  first c := whole_o (mine m) (before₀ m) c
  last c := whole_o (mine m) (all (mine m)) c

/-- The arrays at the end. -/
abbrev after₀ : Dev nD → Valuation τ sig (Elt F) := arrays m oR (all (mine m))

theorem runs : TalkRun.BodyRuns (grads (mine m)).talk ((grads (mine m)).deals (before₀ m) m xR oR) (after₀ m) (pcfgs (F := F)) adm (defs₀ (F := F)) Variants.none 0 :=
  (matches_grads m).runs fun c t => by
    have ht : t = (t0_0 : Fin cfg0.N) := Subsingleton.elim (α := Fin 1) _ _
    rw [ht]
    exact body_runs (mine m) (before₀ m) c Variants.none

theorem own_sems : Pipeline.OwnSemFacts (pcfgs (F := F) 0).spec (grads (mine m)).talk.osem :=
  ⟨fun _ => regions_no_unscoped _, fun _ _ h => (grads (mine m)).talk.sem_inj (by injection h), fun _ w => Fin.elim0 w⟩

theorem no_window : IsEmpty (Fin cfg0.W) := ⟨fun w => Fin.elim0 w⟩

/-- The two regions' proof data. -/
def pdats : (p : Fin 2) → (c : Dev nD) → Dat τ (Elt F) Unit ℕ (UU nD τ sig) ℕ (cfgs p) c
  | ⟨0, _⟩ => TalkRun.dat (grads (mine m)).talk ((grads (mine m)).deals (before₀ m) m xR oR) (after₀ m) cfg0 no_window
  | ⟨1, _⟩ => SmallStep.dat (after₀ m)

/-- The arrays after the sum. -/
def after₁ (c : Dev nD) : Valuation τ sig (Elt F) := Pipeline.afterRegion (SmallStep.dat (after₀ m) c) (after₀ m c)

theorem arr_mem : Pipeline.arrRefs (τ := τ) spec1 ⊆ ucRefs τ sig := Pipeline.arrRefs_sub_ucRefs _ (by decide)

def summed := PlainRegion.region (grads (mine m)).talk (pdats m) (pcs := pcfgs (F := F)) (a := adm) (defs₀ (F := F)) Variants.none 1 launch1.toP rfl arr_mem
  (SmallStep.body_obligation (after₀ m)) (fun _ _ => rfl) (fun _ => rfl) (fun c => (SmallStep.dat (after₀ m) c).share_full fun _ => rfl) (SmallStep.Φ_eq (after₀ m)) (after₀ m)
  (SmallStep.A_eq (after₀ m))

theorem two_regions : ((0 : Fin 2) :: [1]).Nodup := by decide

/-- The run: every array at the end, and every counter at zero. -/
theorem run_main (g : Dev nD → PrngReg) :
    θ_run (defs (F := F)) (onTc (τ := τ) (main (F := F))) ⟨m, fun _ => 0, g⟩
      (fun r => (∀ (c : Dev nD) (b : DevRef τ sig), b ∈ ucRefs τ sig → r.2.mem (c, b) = after₁ m c b) ∧ r.2.sem = fun _ => 0) :=
  TalkRun.run (pcs := pcfgs (F := F)) (a := adm) (pdats := pdats m) (p := 0) (defs₀ := defs₀ (F := F)) (𝒱₀ := Variants.none)
    (T := (grads (mine m)).talk) (B := (grads (mine m)).deals (before₀ m) m xR oR) (W₁ := after₀ m)
    cellOf_inj m g main launch0.toP (own_sems m) rfl no_window rfl (runs m) (fun _ => rfl) (matches_grads m).deal
    [.region (summed m)] (fun c => by rfl) two_regions (after₁ m) ⟨fun _ => .rfl, fun _ => .rfl⟩ regions_no_unscoped

/-- The sum ends as the region leaves its output. -/
theorem end_sum (c : Dev nD) : after₁ m c (Proc.devRef .tc main_v2) = (SmallStep.dat (after₀ m) c).arrAt 1 cfg1.N :=
  Pipeline.afterRegion_arr (SmallStep.dat (after₀ m) c) (after₀ m c) winFacts1.arr_inj 1

/-- The argument ends as launched. -/
theorem end_arg (c : Dev nD) : after₁ m c (Proc.devRef .tc main_arg0) = m ((c : Thread nD τ).loc main_arg0) :=
  (Pipeline.afterRegion_off (SmallStep.dat (after₀ m) c) (after₀ m c) (ucRefs τ sig) _
    (Finset.mem_sdiff.mpr ⟨(matches_grads m).x_mem, by decide⟩)).trans (Function.update_of_ne (matches_grads m).ne.symm _ _)

theorem v2_mem : (Proc.devRef .tc main_v2 : DevRef τ sig) ∈ ucRefs τ sig := Finset.mem_filter.mpr ⟨StableHlo.devRef_mem_tcRefs main_v2, by decide⟩

/-- The run, read back: the sum, the argument and the counters. -/
theorem run_ends (g : Dev nD → PrngReg) :
    θ_run (defs (F := F)) (onTc (τ := τ) (main (F := F))) ⟨m, fun _ => 0, g⟩ (fun r => (∀ c : Dev nD,
      r.2.mem ((c.tc : Thread nD τ).loc main_v2) = (SmallStep.dat (after₀ m) c).arrAt 1 cfg1.N
      ∧ r.2.mem ((c.tc : Thread nD τ).loc main_arg0) = m ((c.tc : Thread nD τ).loc main_arg0)) ∧ r.2.sem = fun _ => 0) :=
  (θ_run defs _ _).mono (fun _ h => ⟨fun c => ⟨(h.1 c _ v2_mem).trans (end_sum m c), (h.1 c _ (matches_grads m).x_mem).trans (end_arg m c)⟩, h.2⟩) (run_main m g)

end Cert.SmallRun

end
-- ==== Proof.SmallAlgebraic.lean ====
/-
  The sum of the small weights' gradients over the devices, against its reference: every device ends with the sum of all
  devices' partial gradients.
-/
module

public import proofs.«01_k».proof.Proof.SmallRun
public import proofs.«01_k».proof.Proof.Stacked
public import proofs.«01_k».proof.Proof.Gen.Small
public import proofs.«01_k».proof.Proof.Gen.SmallReferenceIdeal.Run
public import proofs.«01_k».proof.Defs

@[expose] public section

set_option maxRecDepth 65536

noncomputable section

namespace Cert.SmallAlgebraic

open Idealize.ShloMosaic Idealize.ShloMosaic.TcCoe
open Cert.SmallRun

/-! ## The program and its ideal program have the same text -/

section Text

variable {F : FTy → Type} [FloatOps F]

theorem call0 : Cert.Small.cc0_gather_small_grads (F := F) = Cert.SmallIdeal.cc0_gather_small_grads (F := F) := rfl

theorem calls : Cert.Small.defs₀ (F := F) = Cert.SmallIdeal.defs₀ (F := F) :=
  congrArg Defs.onTc (funext fun l => funext fun x => match l, x with
    | 0, (_, _) => congrFun (congrFun (congrFun (congrFun (congrFun (congrFun (congrFun call0 _) _) _) _) _) _) _
    | 1, (_, _) => rfl
    | ⟨_ + 2, h⟩, _ => absurd h (Nat.not_lt.2 (Nat.le_add_left _ _)))

theorem tables : Cert.Small.defs (F := F) = Cert.SmallIdeal.defs (F := F) := congrArg (Pipeline.defs Cert.SmallIdeal.pcfgs) calls

end Text

/-! ## The value -/

/-- The reference: the whole array as eight blocks, summed. -/
def sumRef (X : FVec Ideal Cert.SmallReferenceIdeal.S20480x128 .f32) : FVec Ideal Cert.SmallReferenceIdeal.S2560x128 .f32 :=
  Host.reduceAdd (shapeCast _ X Cert.SmallReferenceIdeal.Facts₀.shapeCasts_S20480x128_S8x2560x128) (constant Cert.SmallReferenceIdeal.S_ .f32 0x00000000#32)
    Cert.SmallReferenceIdeal.Facts₀.reducesTo_S8x2560x128_S2560x128_d0 Cert.SmallReferenceIdeal.Facts₀.h_S_

theorem sumRef_eq (X : FVec Ideal Cert.SmallReferenceIdeal.S20480x128 .f32) (r : Fin 2560) (b : Fin 128) :
    (sumRef X (ValueIdx.ix2 r b) : EReal) = (∑ p : Fin 8, X (ValueIdx.ix2 ⟨p.val * 2560 + r.val, Stacked.row_lt rfl p r⟩ b) : EReal) := by
  unfold sumRef
  pointwise
  exact Finset.sum_congr rfl fun p _ => rfl

/-- The gathered blocks are the blocks of the whole array. -/
theorem gathered_eq (m : (ℓ : Loc Cert.SmallIdeal.nD Cert.SmallIdeal.τ Cert.SmallIdeal.sig) → Buf (Elt Ideal) ℓ)
    (X : (⟨2, ![20480, 128]⟩ : Shape).Idx → EReal)
    (h : ∀ c : Fin 8, mine m c = Layout.block ⟨2, ![2560, 128]⟩ ⟨2, ![20480, 128]⟩ 0 8 c X (by decide))
    (c : Fin 8) (p : Fin 8) (r : Fin 2560) (b : Fin 128) :
    SmallStep.gathered (after₀ m) c (ValueIdx.ix3 p r b) = X (ValueIdx.ix2 ⟨p.val * 2560 + r.val, Stacked.row_lt rfl p r⟩ b) := by
  have e : after₀ m c oR = all (mine m) c := Function.update_self _ _ _
  refine (congrFun e _).trans ?_
  show mine m p (ValueIdx.ix2 r b) = _
  rw [h p]
  exact Stacked.rows_block rfl X p r b _

/-- Every device's sum is the reference's. -/
theorem sum_eq (m : (ℓ : Loc Cert.SmallIdeal.nD Cert.SmallIdeal.τ Cert.SmallIdeal.sig) → Buf (Elt Ideal) ℓ)
    (X : (⟨2, ![20480, 128]⟩ : Shape).Idx → EReal)
    (h : ∀ c : Fin 8, mine m c = Layout.block ⟨2, ![2560, 128]⟩ ⟨2, ![20480, 128]⟩ 0 8 c X (by decide)) (c : Fin 8) :
    (SmallStep.dat (after₀ m) c).arrAt 1 Cert.SmallIdeal.cfg1.N = sumRef X := by
  funext i
  obtain ⟨r, b, rfl⟩ : ∃ (r : Fin 2560) (b : Fin 128), i = ValueIdx.ix2 r b := ⟨i 0, i 1, ValueIdx.eq_ix2 i⟩
  exact (SmallStep.sum_at (after₀ m) c r b).trans
    ((Finset.sum_congr (M := EReal) rfl fun p _ => gathered_eq m X h c p r b).trans (sumRef_eq X r b).symm)

/-! ## The claims -/

theorem frame_ideal : Cert.quiescent_SmallIdeal := fun m g _ =>
  (θ_run _ _ _).mono (fun _ h => ⟨fun c => (h.1 c).2, h.2⟩) (run_ends (F := Ideal) m g)

theorem frame_kernel : Cert.quiescent_Small := fun m g _ => by
  rw [tables]
  exact (θ_run _ _ _).mono (fun _ h => ⟨fun c => (h.1 c).2, h.2⟩) (run_ends (F := Bits) m g)

theorem frame_reference : Cert.quiescent_SmallReferenceIdeal := fun m g _ =>
  (θ_run Cert.SmallReferenceIdeal.defs _ _).mono (fun r h => ⟨fun c => (h c).2, sem_eq_zero_of_no_sems (by decide) r.2⟩)
    (Cert.SmallReferenceIdeal.Value.run (F := Ideal) m g)

theorem algebraic : Cert.algebraic_SmallIdeal_SmallReferenceIdeal := fun m g m' g' _ h =>
  ⟨_, (θ_run Cert.SmallIdeal.defs _ _).mono (fun _ hr c => ⟨(hr.1 c).1.trans (sum_eq m _ h c), (hr.1 c).2⟩) (run_ends (F := Ideal) m g),
    (θ_run Cert.SmallReferenceIdeal.defs _ _).mono (fun _ hr => hr 0) (Cert.SmallReferenceIdeal.Value.run (F := Ideal) m' g')⟩

end Cert.SmallAlgebraic

end
-- ==== Proof.UpdateAlgebraic.lean ====
/-
  The optimizer's update of the packed small weights, against its reference: nine blocks of 256 rows, each updated on its own,
  are the update of the whole arrays.
-/
module

public import proofs.«01_k».proof.Proof.Math
public import proofs.«01_k».proof.Proof.Gen.Update.Frame
public import proofs.«01_k».proof.Proof.Gen.UpdateIdeal.Value
public import proofs.«01_k».proof.Proof.Gen.UpdateReferenceIdeal.Run
public import proofs.«01_k».proof.Defs

@[expose] public section

set_option maxRecDepth 65536

noncomputable section

namespace Cert.UpdateAlgebraic

open Cert.UpdateIdeal Cert.UpdateIdeal.Gen Cert.UpdateIdeal.Value
open Idealize.ShloMosaic Idealize.ShloMosaic.TcCoe Idealize.SL.Sem
open Cert.Math (newM newV change)

/-! ## Rows -/

/-- Row `a` of block `t`. -/
abbrev row (t : Fin cfg0.N) (a : Fin 256) : Fin 2304 := ⟨t.val * 256 + a.val, by have := t.isLt; have h : cfg0.N = 9 := rfl; omega⟩

theorem row_of (r : Fin 2304) : ∃ (t : Fin cfg0.N) (a : Fin 256), row t a = r := by
  have hN : cfg0.N = 9 := rfl
  have hr := r.isLt
  exact ⟨⟨r.val / 256, by omega⟩, ⟨r.val % 256, Nat.mod_lt _ (by decide)⟩, Fin.ext (Nat.div_add_mod' r.val 256)⟩

theorem index_0 : ∀ t : Fin grid0.N, win0_0.index t 0 = 0 ∧ win0_0.index t 1 = t.val ∧ win0_0.index t 2 = 0 := by decide +kernel
theorem index_1 : ∀ t : Fin grid0.N, win0_1.index t 0 = t.val ∧ win0_1.index t 1 = 0 := by decide +kernel

theorem emb_0 (t : Fin cfg0.N) (a : Fin 256) (b : Fin 128) : (win0_0.rect t).emb (ix3 0 a b) = (ix3 0 (row t a) b : S1x2304x128.Idx) := by
  refine funext fun x => Fin.ext ?_
  obtain ⟨h0, h1, h2⟩ := index_0 t
  refine (win0_0.rect_emb_val t (ix3 0 a b) x rfl).trans ?_
  fin_cases x
  · show win0_0.index t 0 * 1 + 0 = _; rw [h0]; rfl
  · show win0_0.index t 1 * 256 + a.val = _; rw [h1]; rfl
  · show win0_0.index t 2 * 128 + b.val = _; rw [h2]; simp

/-- The blocks of the weights, the moments and the four results are the same rows. -/
theorem emb_1 (t : Fin cfg0.N) (a : Fin 256) (b : Fin 128) : (win0_1.rect t).emb (ix2 a b) = (ix2 (row t a) b : S2304x128.Idx) := by
  refine funext fun x => Fin.ext ?_
  obtain ⟨h0, h1⟩ := index_1 t
  refine (win0_1.rect_emb_val t (ix2 a b) x rfl).trans ?_
  fin_cases x
  · show win0_1.index t 0 * 256 + a.val = _; rw [h0]; rfl
  · show win0_1.index t 1 * 128 + b.val = _; rw [h1]; simp

theorem flush : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

/-! ## One block -/

theorem zero3 : (![0, 0, 0] : Fin 3 → ℕ) = fun _ => 0 := by funext a; fin_cases a <;> rfl
theorem zero2 : (![0, 0] : Fin 2 → ℕ) = fun _ => 0 := by funext a; fin_cases a <;> rfl

variable (x : Vec Ideal S1x256x128 .f32) (w u v : Vec Ideal S256x128 .f32) (a : Fin 256) (b : Fin 128)

theorem grad_eq : (out0_4 x w u v (ix2 a b) : EReal) = x (ix3 0 a b) := by
  unfold out0_4
  rw [View.canon_cons_unit_zero zero2, View.ld_unit_zero zero3]
  pointwise [k0_pay1]

theorem mom_eq : (out0_6 x w u v (ix2 a b) : EReal) = newM (x (ix3 0 a b)) (u (ix2 a b)) := by
  unfold out0_6 newM
  rw [View.canon_cons_unit_zero zero2, View.ld_unit_zero zero3, View.ld_unit_zero zero2]
  pointwise [k0_pay1, k0_pay2]

theorem var_eq : (out0_7 x w u v (ix2 a b) : EReal) = newV (x (ix3 0 a b)) (v (ix2 a b)) := by
  unfold out0_7 newV
  rw [View.canon_cons_unit_zero zero2, View.ld_unit_zero zero3, View.ld_unit_zero zero2]
  pointwise [k0_pay1, k0_pay3]

theorem upd_eq : (out0_5 x w u v (ix2 a b) : EReal) = change (w (ix2 a b)) (newM (x (ix3 0 a b)) (u (ix2 a b))) (newV (x (ix3 0 a b)) (v (ix2 a b))) := by
  unfold out0_5 change newM newV
  rw [View.canon_cons_unit_zero zero2, View.ld_unit_zero zero3, View.ld_unit_zero zero2, View.ld_unit_zero zero2, View.ld_unit_zero zero2]
  pointwise [k0_pay1, k0_pay2, k0_pay3, k0_pay4]

/-! ## The arrays at the end -/

section Ends

variable (m : (ℓ : Loc nD τ sig) → Buf (Elt Ideal) ℓ) (c : Dev nD) (t : Fin cfg0.N)

/-- The four arguments, as numbers. -/
def G (r : Fin 2304) (l : Fin 128) : EReal := (m ((c : Thread nD τ).loc main_arg0) : S2304x128.Idx → EReal) (ix2 r l)
def W (r : Fin 2304) (l : Fin 128) : EReal := (m ((c : Thread nD τ).loc main_arg1) : S2304x128.Idx → EReal) (ix2 r l)
def M (r : Fin 2304) (l : Fin 128) : EReal := (m ((c : Thread nD τ).loc main_arg2) : S2304x128.Idx → EReal) (ix2 r l)
def N (r : Fin 2304) (l : Fin 128) : EReal := (m ((c : Thread nD τ).loc main_arg3) : S2304x128.Idx → EReal) (ix2 r l)

/-- The gradient as the region finds it: the argument under a leading axis of size one. -/
theorem start_0 : (V m c main_v0 : S1x2304x128.Idx → EReal)
    = broadcastInDim S1x2304x128 ![1, 2] bcast_S2304x128_S1x2304x128_1_2 (m ((c : Thread nD τ).loc main_arg0)) := by
  show StableHlo.after hostOps0 (fun b => m (c, b)) (Proc.devRef .tc main_v0) = _
  after_results <;> rfl

theorem blk_0 : (iblk m c 0 t : S1x256x128.Idx → EReal) (ix3 0 a b) = G m c (row t a) b := by
  show (V m c main_v0 : S1x2304x128.Idx → EReal) ((win0_0.rect t).emb (ix3 0 a b)) = _
  rw [emb_0, start_0]
  pointwise
  rfl
theorem blk_1 : (iblk m c 1 t : S256x128.Idx → EReal) (ix2 a b) = W m c (row t a) b := by
  show (V m c main_arg1 : S2304x128.Idx → EReal) ((win0_1.rect t).emb (ix2 a b)) = _
  rw [emb_1, V_main_arg1]
  rfl
theorem blk_2 : (iblk m c 2 t : S256x128.Idx → EReal) (ix2 a b) = M m c (row t a) b := by
  show (V m c main_arg2 : S2304x128.Idx → EReal) ((win0_1.rect t).emb (ix2 a b)) = _
  rw [emb_1, V_main_arg2]
  rfl
theorem blk_3 : (iblk m c 3 t : S256x128.Idx → EReal) (ix2 a b) = N m c (row t a) b := by
  show (V m c main_arg3 : S2304x128.Idx → EReal) ((win0_1.rect t).emb (ix2 a b)) = _
  rw [emb_1, V_main_arg3]
  rfl

/-- The four results, at a row and a column. -/
theorem end_G (r : Fin 2304) (b : Fin 128) : ((dats m 0 c).arrAt 4 cfg0.N : S2304x128.Idx → EReal) (ix2 r b) = G m c r b := by
  obtain ⟨t, a, rfl⟩ := row_of r
  have h := congrFun ((blocks4 m c t (flush t).1).trans (flushed4 m c t)) (ix2 a b)
  refine (congrArg ((dats m 0 c).arrAt 4 cfg0.N : S2304x128.Idx → EReal) (emb_1 t a b)).symm.trans (h.trans ?_)
  exact (grad_eq _ _ _ _ a b).trans (blk_0 a b m c t)

theorem end_D (r : Fin 2304) (b : Fin 128) : ((dats m 0 c).arrAt 5 cfg0.N : S2304x128.Idx → EReal) (ix2 r b)
    = change (W m c r b) (newM (G m c r b) (M m c r b)) (newV (G m c r b) (N m c r b)) := by
  obtain ⟨t, a, rfl⟩ := row_of r
  have h := congrFun ((blocks5 m c t (flush t).2.1).trans (flushed5 m c t)) (ix2 a b)
  refine (congrArg ((dats m 0 c).arrAt 5 cfg0.N : S2304x128.Idx → EReal) (emb_1 t a b)).symm.trans (h.trans ?_)
  refine (upd_eq _ _ _ _ a b).trans ?_
  rw [blk_0, blk_1, blk_2, blk_3]

theorem end_M (r : Fin 2304) (b : Fin 128) : ((dats m 0 c).arrAt 6 cfg0.N : S2304x128.Idx → EReal) (ix2 r b) = newM (G m c r b) (M m c r b) := by
  obtain ⟨t, a, rfl⟩ := row_of r
  have h := congrFun ((blocks6 m c t (flush t).2.2.1).trans (flushed6 m c t)) (ix2 a b)
  refine (congrArg ((dats m 0 c).arrAt 6 cfg0.N : S2304x128.Idx → EReal) (emb_1 t a b)).symm.trans (h.trans ?_)
  refine (mom_eq _ _ _ _ a b).trans ?_
  rw [blk_0, blk_2]

theorem end_V (r : Fin 2304) (b : Fin 128) : ((dats m 0 c).arrAt 7 cfg0.N : S2304x128.Idx → EReal) (ix2 r b) = newV (G m c r b) (N m c r b) := by
  obtain ⟨t, a, rfl⟩ := row_of r
  have h := congrFun ((blocks7 m c t (flush t).2.2.2).trans (flushed7 m c t)) (ix2 a b)
  refine (congrArg ((dats m 0 c).arrAt 7 cfg0.N : S2304x128.Idx → EReal) (emb_1 t a b)).symm.trans (h.trans ?_)
  refine (var_eq _ _ _ _ a b).trans ?_
  rw [blk_0, blk_3]

end Ends

/-! ## The reference -/

section Reference

open Cert.UpdateReferenceIdeal.Facts₀

/-- One number in every place. -/
abbrev num (k : BitVec 32) : FVec Ideal Cert.UpdateReferenceIdeal.S2304x128 .f32 :=
  broadcastInDim Cert.UpdateReferenceIdeal.S2304x128 ![] bcast_S_S2304x128 (constant Cert.UpdateReferenceIdeal.S_ .f32 k)

variable (G W M N : FVec Ideal Cert.UpdateReferenceIdeal.S2304x128 .f32)

/-- The reference's new first moment, its new second moment, and its change of the weights. -/
def refM : FVec Ideal Cert.UpdateReferenceIdeal.S2304x128 .f32 := addf (mulf (num 0x3F666666#32) M) (mulf (num 0x3DCCCCCD#32) G)
def refV : FVec Ideal Cert.UpdateReferenceIdeal.S2304x128 .f32 := addf (mulf (num 0x3F7FBE77#32) N) (mulf (num 0x3A83126F#32) (mulf G G))
def refD : FVec Ideal Cert.UpdateReferenceIdeal.S2304x128 .f32 :=
  mulf (num 0xBA83126F#32)
    (addf (Host.divf (Host.divf (refM G M) (num 0x3F26BD02#32)) (addf (Host.sqrt (Host.divf (refV G N) (num 0x3C231ACC#32))) (num 0x322BCC77#32)))
      (mulf (num 0x3C23D70A#32) W))

theorem refM_eq (r : Fin 2304) (b : Fin 128) : (refM G M (ix2 r b) : EReal) = newM (G (ix2 r b)) (M (ix2 r b)) := by
  unfold refM newM
  pointwise
theorem refV_eq (r : Fin 2304) (b : Fin 128) : (refV G N (ix2 r b) : EReal) = newV (G (ix2 r b)) (N (ix2 r b)) := by
  unfold refV newV
  pointwise
theorem refD_eq (r : Fin 2304) (b : Fin 128) :
    (refD G W M N (ix2 r b) : EReal) = change (W (ix2 r b)) (newM (G (ix2 r b)) (M (ix2 r b))) (newV (G (ix2 r b)) (N (ix2 r b))) := by
  rw [← refM_eq, ← refV_eq]
  unfold refD change
  pointwise

end Reference

/-! ## The claims -/

theorem frame_kernel : Cert.quiescent_Update := fun m g _ => Cert.Update.Gen.frame m g
theorem frame_ideal : Cert.quiescent_UpdateIdeal := fun m g _ => Cert.UpdateIdeal.Gen.frame m g
theorem frame_reference : Cert.quiescent_UpdateReferenceIdeal := fun m g _ =>
  (θ_run Cert.UpdateReferenceIdeal.defs _ _).mono (fun r h => ⟨fun c => (h c).2.2.2.2, sem_eq_zero_of_no_sems (by decide) r.2⟩)
    (Cert.UpdateReferenceIdeal.Value.run (F := Ideal) m g)

section Whole

variable (m : (ℓ : Loc nD τ sig) → Buf (Elt Ideal) ℓ) (c : Dev nD) (X W' M' N' : S2304x128.Idx → EReal)
  (hX : X = m ((c : Thread nD τ).loc main_arg0)) (hW : W' = m ((c : Thread nD τ).loc main_arg1))
  (hM : M' = m ((c : Thread nD τ).loc main_arg2)) (hN : N' = m ((c : Thread nD τ).loc main_arg3))

include hX in
theorem whole_G : (dats m 0 c).arrAt 4 cfg0.N = X := by
  funext i
  obtain ⟨r, b, rfl⟩ : ∃ (r : Fin 2304) (b : Fin 128), i = ix2 r b := ⟨i 0, i 1, eq_ix2 i⟩
  subst hX
  exact end_G m c r b

include hX hM in
theorem whole_M : (dats m 0 c).arrAt 6 cfg0.N = refM X M' := by
  funext i
  obtain ⟨r, b, rfl⟩ : ∃ (r : Fin 2304) (b : Fin 128), i = ix2 r b := ⟨i 0, i 1, eq_ix2 i⟩
  subst hX hM
  exact (end_M m c r b).trans (refM_eq _ _ r b).symm

include hX hN in
theorem whole_V : (dats m 0 c).arrAt 7 cfg0.N = refV X N' := by
  funext i
  obtain ⟨r, b, rfl⟩ : ∃ (r : Fin 2304) (b : Fin 128), i = ix2 r b := ⟨i 0, i 1, eq_ix2 i⟩
  subst hX hN
  exact (end_V m c r b).trans (refV_eq _ _ r b).symm

include hX hW hM hN in
theorem whole_D : (dats m 0 c).arrAt 5 cfg0.N = refD X W' M' N' := by
  funext i
  obtain ⟨r, b, rfl⟩ : ∃ (r : Fin 2304) (b : Fin 128), i = ix2 r b := ⟨i 0, i 1, eq_ix2 i⟩
  subst hX hW hM hN
  exact (end_D m c r b).trans (refD_eq _ _ _ _ r b).symm

end Whole

theorem algebraic : Cert.algebraic_UpdateIdeal_UpdateReferenceIdeal := by
  intro m g m' g' _ h
  refine ⟨_, _, _, _, (θ_run Cert.UpdateIdeal.defs _ _).mono (fun r hr c => ?_) (run_blocks (F := Ideal) m g),
    Cert.UpdateReferenceIdeal.Value.run (F := Ideal) m' g'⟩
  obtain ⟨hX, hW, hM, hN⟩ := h c
  obtain ⟨h4, h5, h6, h7, hr⟩ := hr c
  exact ⟨h4.trans (whole_G m c _ hX), h5.trans (whole_D m c _ _ _ _ hX hW hM hN), h6.trans (whole_M m c _ _ hX hM), h7.trans (whole_V m c _ _ hX hN), hr⟩

end Cert.UpdateAlgebraic

end
-- ==== Proof.BackAlgebraic.lean ====
/-
  The product that carries a gradient back through the projection's weight, against its reference: a block of the result gathers
  nineteen products of blocks of 512 columns in a scratch array, and at the end adds the residual's gradient.
-/
module

public import proofs.«01_k».proof.Proof.Gen.Back.Frame
public import proofs.«01_k».proof.Proof.Gen.BackIdeal.Value
public import proofs.«01_k».proof.Proof.Gen.BackReferenceIdeal.Run
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.BackAlgebraic

open Cert.BackIdeal Cert.BackIdeal.Gen Cert.BackIdeal.Value
open Idealize.ShloMosaic Idealize.ShloMosaic.TcCoe Idealize.SL.Sem

/-! ## Rows, columns and points -/

/-- Row `a` and column `b` of the block that the points of group `q` compute. -/
abbrev row (q : Fin 16) (a : Fin 512) : Fin 4096 := ⟨q.val / 2 * 512 + a.val, by have := q.isLt; have := a.isLt; omega⟩
abbrev col (q : Fin 16) (b : Fin 512) : Fin 1024 := ⟨q.val % 2 * 512 + b.val, by have := b.isLt; omega⟩
/-- Place `l` of the `k`-th of the nineteen blocks that a sum runs over. -/
abbrev mid (k : Fin 19) (l : Fin 512) : Fin 9728 := ⟨k.val * 512 + l.val, by have := k.isLt; have := l.isLt; omega⟩
/-- The `k`-th point of group `q`. -/
abbrev pt (q : Fin 16) (k : Fin 19) : Fin cfg0.N := ⟨19 * q.val + k.val, by have := q.isLt; have := k.isLt; have h : cfg0.N = 304 := N_0; omega⟩

theorem index_of : ∀ (q : Fin 16) (k : Fin 19),
    (win0_0.index (pt q k) 0 = q.val / 2 ∧ win0_0.index (pt q k) 1 = k.val) ∧ (win0_1.index (pt q k) 0 = q.val % 2 ∧ win0_1.index (pt q k) 1 = k.val)
    ∧ (win0_2.index (pt q k) 0 = q.val / 2 ∧ win0_2.index (pt q k) 1 = q.val % 2) := by decide +kernel

theorem emb_0 (q : Fin 16) (k : Fin 19) (a l : Fin 512) : (win0_0.rect (pt q k)).emb (ix2 a l) = (ix2 (row q a) (mid k l) : S4096x9728.Idx) := by
  refine funext fun x => Fin.ext ?_
  obtain ⟨⟨h0, h1⟩, -, -⟩ := index_of q k
  refine (win0_0.rect_emb_val (pt q k) (ix2 a l) x rfl).trans ?_
  fin_cases x
  · show win0_0.index (pt q k) 0 * 512 + a.val = _; rw [h0]; rfl
  · show win0_0.index (pt q k) 1 * 512 + l.val = _; rw [h1]; rfl

theorem emb_1 (q : Fin 16) (k : Fin 19) (b l : Fin 512) : (win0_1.rect (pt q k)).emb (ix2 b l) = (ix2 (col q b) (mid k l) : S1024x9728.Idx) := by
  refine funext fun x => Fin.ext ?_
  obtain ⟨-, ⟨h0, h1⟩, -⟩ := index_of q k
  refine (win0_1.rect_emb_val (pt q k) (ix2 b l) x rfl).trans ?_
  fin_cases x
  · show win0_1.index (pt q k) 0 * 512 + b.val = _; rw [h0]; rfl
  · show win0_1.index (pt q k) 1 * 512 + l.val = _; rw [h1]; rfl

theorem emb_2 (q : Fin 16) (k : Fin 19) (a b : Fin 512) : (win0_2.rect (pt q k)).emb (ix2 a b) = (ix2 (row q a) (col q b) : S4096x1024.Idx) := by
  refine funext fun x => Fin.ext ?_
  obtain ⟨-, -, ⟨h0, h1⟩⟩ := index_of q k
  refine (win0_2.rect_emb_val (pt q k) (ix2 a b) x rfl).trans ?_
  fin_cases x
  · show win0_2.index (pt q k) 0 * 512 + a.val = _; rw [h0]; rfl
  · show win0_2.index (pt q k) 1 * 512 + b.val = _; rw [h1]; rfl

/-! ## One point -/

theorem zero2 : (![0, 0] : Fin 2 → ℕ) = fun _ => 0 := by funext a; fin_cases a <;> rfl

section Point

variable (x : Vec Ideal S512x512 .f32) (w : Vec Ideal S512x512 .bf16) (z s : Vec Ideal S512x512 .f32) (a b : Fin 512)

/-- The product of two blocks, at a place. -/
theorem prod_eq : (k0_pay1 x w (ix2 a b) : EReal) = ∑ l : Fin 512, (x (ix2 a l) : EReal) * w (ix2 b l) := by
  pointwise [k0_pay1]
theorem first_eq : (k0_pay2 x w (ix2 a b) : EReal) = k0_pay1 x w (ix2 a b) := by
  unfold k0_pay2
  pointwise
theorem next_eq : (k0_pay3 x w s (ix2 a b) : EReal) = (s (ix2 a b) : EReal) + k0_pay1 x w (ix2 a b) := by
  unfold k0_pay3
  pointwise
theorem last_eq : (k0_pay4 s z (ix2 a b) : EReal) = (s (ix2 a b) : EReal) + z (ix2 a b) := by
  unfold k0_pay4
  pointwise

end Point

section Runs

variable (m : (ℓ : Loc nD τ sig) → Buf (Elt Ideal) ℓ) (c : Dev nD)

theorem scratch_A (t : Fin cfg0.N) (h0 : t.val % 19 = 0) (h1 : ¬1 ≤ t.val % 19) (h2 : ¬t.val % 19 = 18) :
    (outsAt0 m c t.val t.isLt).2 = k0_pay2 (iblk m c 0 t) (iblk m c 1 t) := by
  rw [outsAt0_A m c t h0 h1 h2]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem scratch_B (t : Fin cfg0.N) (h0 : ¬t.val % 19 = 0) (h1 : 1 ≤ t.val % 19) (h2 : ¬t.val % 19 = 18) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 h1 h2]
  dsimp only
  unfold sout0_B_0 kernelRun0_B
  refine (View.read_writes_full _ _ inb_S512x512_S512x512_0_0 _ []).trans ?_
  rw [View.readAt_full, View.readAt_full, View.readAt_full, Memref.IsWhole.read_unread, Memref.IsWhole.read_unread, Memref.IsWhole.read_unread]

theorem out_C (t : Fin cfg0.N) (h0 : ¬t.val % 19 = 0) (h1 : 1 ≤ t.val % 19) (h2 : t.val % 19 = 18) :
    (outsAt0 m c t.val t.isLt).1
      = k0_pay4 (k0_pay3 (iblk m c 0 t) (iblk m c 1 t) (outsAt0 m c (t.val - 1) (Nat.lt_of_le_of_lt (Nat.sub_le _ _) t.isLt)).2) (iblk m c 2 t) := by
  rw [outsAt0_C m c t h0 h1 h2]
  dsimp only
  unfold out0_C_3 kernelRun0_C
  refine (View.read_writes_full _ _ inb_S512x512_S512x512_0_0 _ []).trans ?_
  unfold kernelRun0_C.sl.v13 kernelRun0_C.sl.HS0_1
  rw [View.readCov_full, View.readAt_full, View.readAt_full, View.readAt_full, View.readAt_full, Memref.IsWhole.read_unread, Memref.IsWhole.read_unread,
    Memref.IsWhole.read_unread, Memref.IsWhole.read_unread]

/-- The three arguments, as numbers. -/
def A (r : Fin 4096) (k : Fin 9728) : EReal := (m ((c : Thread nD τ).loc main_arg0) : S4096x9728.Idx → EReal) (ix2 r k)
def W (o : Fin 1024) (k : Fin 9728) : EReal := (m ((c : Thread nD τ).loc main_arg1) : S1024x9728.Idx → EReal) (ix2 o k)
def Z (r : Fin 4096) (o : Fin 1024) : EReal := (m ((c : Thread nD τ).loc main_arg2) : S4096x1024.Idx → EReal) (ix2 r o)

variable (q : Fin 16) (k : Fin 19) (a b l : Fin 512)

theorem blk_0 : (iblk m c 0 (pt q k) : S512x512.Idx → EReal) (ix2 a l) = A m c (row q a) (mid k l) := by
  show (V m c main_arg0 : S4096x9728.Idx → EReal) ((win0_0.rect (pt q k)).emb (ix2 a l)) = _
  rw [emb_0, V_main_arg0]
  rfl
theorem blk_1 : (iblk m c 1 (pt q k) : S512x512.Idx → EReal) (ix2 b l) = W m c (col q b) (mid k l) := by
  show (V m c main_arg1 : S1024x9728.Idx → EReal) ((win0_1.rect (pt q k)).emb (ix2 b l)) = _
  rw [emb_1, V_main_arg1]
  rfl
theorem blk_2 : (iblk m c 2 (pt q k) : S512x512.Idx → EReal) (ix2 a b) = Z m c (row q a) (col q b) := by
  show (V m c main_arg2 : S4096x1024.Idx → EReal) ((win0_2.rect (pt q k)).emb (ix2 a b)) = _
  rw [emb_2, V_main_arg2]
  rfl

/-- The `n`-th term of the sum for row `r` and column `o`. -/
def term (r : Fin 4096) (o : Fin 1024) (n : ℕ) : EReal := if h : n < 9728 then A m c r ⟨n, h⟩ * W m c o ⟨n, h⟩ else 0

/-- The part of that sum that one point adds. -/
def part (n : ℕ) : EReal := ∑ l : Fin 512, term m c (row q a) (col q b) (n * 512 + l.val)

/-- The product of two blocks is the part of the sum over their columns. -/
theorem prod_part : (k0_pay1 (iblk m c 0 (pt q k)) (iblk m c 1 (pt q k)) (ix2 a b) : EReal) = part m c q a b k.val := by
  refine (prod_eq _ _ a b).trans (Finset.sum_congr (M := EReal) rfl fun l _ => ?_)
  have hl : k.val * 512 + l.val < 9728 := (mid k l).isLt
  rw [blk_0, blk_1, term, dif_pos hl]

/-- What the scratch holds after a point that is not the last of its group: the parts up to it. -/
theorem scratch_eq : ∀ (n : ℕ) (hn : n < 18), ((outsAt0 m c (19 * q.val + n) (pt q ⟨n, by omega⟩).isLt).2 (ix2 a b) : EReal) = ∑ s ∈ Finset.range (n + 1), part m c q a b s
  | 0, _ => by
    have e := scratch_A m c (pt q 0) (by show (19 * q.val + 0) % 19 = 0; omega) (by show ¬1 ≤ (19 * q.val + 0) % 19; omega) (by show ¬(19 * q.val + 0) % 19 = 18; omega)
    refine (congrFun e (ix2 a b)).trans ((first_eq _ _ a b).trans ((prod_part m c q 0 a b).trans ?_))
    rw [Finset.sum_range_one]
    rfl
  | n + 1, hn => by
    have e := scratch_B m c (pt q ⟨n + 1, by omega⟩) (by show ¬(19 * q.val + (n + 1)) % 19 = 0; omega) (by show 1 ≤ (19 * q.val + (n + 1)) % 19; omega)
      (by show ¬(19 * q.val + (n + 1)) % 19 = 18; omega)
    refine (congrFun e (ix2 a b)).trans ((next_eq _ _ _ a b).trans ?_)
    rw [Finset.sum_range_succ, prod_part m c q ⟨n + 1, by omega⟩ a b]
    exact congrArg (· + _) (scratch_eq n (by omega))

/-- The whole sum for a row and a column, and the residual's gradient there. -/
def total (r : Fin 4096) (o : Fin 1024) : EReal := (∑ k : Fin 9728, A m c r k * W m c o k) + Z m c r o

theorem parts_eq : ∑ s ∈ Finset.range 19, part m c q a b s = ∑ k : Fin 9728, A m c (row q a) k * W m c (col q b) k := by
  rw [← Fin.sum_univ_eq_sum_range (fun s => part m c q a b s) 19]
  refine (Fin.sum_univ_univ_mul_add 19 512 (term m c (row q a) (col q b))).trans (Finset.sum_congr (M := EReal) rfl fun k _ => ?_)
  exact dif_pos k.isLt

/-- What the last point of a group leaves in the result's block. -/
theorem out_eq : ((outsAt0 m c (19 * q.val + 18) (pt q 18).isLt).1 (ix2 a b) : EReal) = total m c (row q a) (col q b) := by
  have e := out_C m c (pt q 18) (by show ¬(19 * q.val + 18) % 19 = 0; omega) (by show 1 ≤ (19 * q.val + 18) % 19; omega)
    (by show (19 * q.val + 18) % 19 = 18; omega)
  refine (congrFun e (ix2 a b)).trans ((last_eq _ _ a b).trans ?_)
  rw [next_eq, prod_part, blk_2]
  refine congrArg (· + _) (Eq.trans ?_ (parts_eq m c q a b))
  rw [Finset.sum_range_succ]
  exact congrArg (· + _) (scratch_eq m c q a b 17 (by omega))

/-- The array at the end. -/
theorem end_eq (r : Fin 4096) (o : Fin 1024) : (G3 m c : S4096x1024.Idx → EReal) (ix2 r o) = total m c r o := by
  have hr := r.isLt
  have ho := o.isLt
  obtain ⟨q, a, b, rfl, rfl⟩ : ∃ (q : Fin 16) (a b : Fin 512), r = row q a ∧ o = col q b :=
    ⟨⟨2 * (r.val / 512) + o.val / 512, by omega⟩, ⟨r.val % 512, Nat.mod_lt _ (by decide)⟩, ⟨o.val % 512, Nat.mod_lt _ (by decide)⟩,
      Fin.ext (by show r.val = (2 * (r.val / 512) + o.val / 512) / 2 * 512 + r.val % 512; omega),
      Fin.ext (by show o.val = (2 * (r.val / 512) + o.val / 512) % 2 * 512 + o.val % 512; omega)⟩
  have hq := q.isLt
  have ha := a.isLt
  have hb := b.isLt
  have hp : pt3Of (ix2 (row q a) (col q b)) = 19 * q.val + 18 := by
    show 19 * (2 * ((q.val / 2 * 512 + a.val) / 512 - 0) + 1 * ((q.val % 2 * 512 + b.val) / 512 - 0)) + 18 = _
    omega
  have hl : loc3Of (ix2 (row q a) (col q b)) = ix2 a b := by
    funext x
    apply Fin.ext
    match x with
    | ⟨0, _⟩ => show (q.val / 2 * 512 + a.val) % 512 = a.val; omega
    | ⟨1, _⟩ => show (q.val % 2 * 512 + b.val) % 512 = b.val; omega
  have hN : pt3Of (ix2 (row q a) (col q b)) < cfg0.N := by rw [hp]; exact (pt q 18).isLt
  unfold G3
  rw [dif_pos hN, hl, fold0_congr m c _ _ (19 * q.val + 18) (by rw [Nat.zero_add]; exact (pt q 18).isLt) hp]
  exact (congrFun (congrArg Prod.fst (outsAt0_sweep m c (19 * q.val + 18) (pt q 18).isLt)) (ix2 a b)).symm.trans (out_eq m c q a b)

end Runs

/-! ## The reference -/

section Reference

open Cert.BackReferenceIdeal.Facts₀

variable (x : FVec Ideal Cert.BackReferenceIdeal.S4096x9728 .f32) (w : FVec Ideal Cert.BackReferenceIdeal.S1024x9728 .bf16)
  (z : FVec Ideal Cert.BackReferenceIdeal.S4096x1024 .f32)

/-- The reference's result. -/
def ref : FVec Ideal Cert.BackReferenceIdeal.S4096x1024 .f32 :=
  addf (Host.dotGeneral Cert.BackReferenceIdeal.dot_S4096x9728_S9728x1024_S4096x1024_1_0_0_1_n_n none
    x (transpose Cert.BackReferenceIdeal.S9728x1024 [1, 0] (extf .f32 w Cert.BackReferenceIdeal.Facts₀.bitsLt_bf16_f32) transposes_S1024x9728_S9728x1024_1_0)) z

theorem ref_eq (r : Fin 4096) (o : Fin 1024) :
    (ref x w z (ix2 r o) : EReal) = (∑ k : Fin 9728, (x (ix2 r k) : EReal) * w (ix2 o k)) + z (ix2 r o) := by
  unfold ref
  pointwise

end Reference

/-! ## The claims -/

theorem frame_kernel : Cert.quiescent_Back := fun m g _ => Cert.Back.Gen.frame m g
theorem frame_ideal : Cert.quiescent_BackIdeal := fun m g _ => Cert.BackIdeal.Gen.frame m g
theorem frame_reference : Cert.quiescent_BackReferenceIdeal := fun m g _ =>
  (θ_run Cert.BackReferenceIdeal.defs _ _).mono (fun r h => ⟨fun c => (h c).2, sem_eq_zero_of_no_sems (by decide) r.2⟩)
    (Cert.BackReferenceIdeal.Value.run (F := Ideal) m g)

theorem whole (m : (ℓ : Loc nD τ sig) → Buf (Elt Ideal) ℓ) (c : Dev nD) (x : FVec Ideal S4096x9728 .f32) (w : FVec Ideal S1024x9728 .bf16)
    (z : FVec Ideal S4096x1024 .f32) (hx : x = m ((c : Thread nD τ).loc main_arg0)) (hw : w = m ((c : Thread nD τ).loc main_arg1))
    (hz : z = m ((c : Thread nD τ).loc main_arg2)) : G3 m c = ref x w z := by
  funext i
  obtain ⟨r, o, rfl⟩ : ∃ (r : Fin 4096) (o : Fin 1024), i = ix2 r o := ⟨i 0, i 1, eq_ix2 i⟩
  subst hx hw hz
  exact (end_eq m c r o).trans (ref_eq _ _ _ r o).symm

theorem algebraic : Cert.algebraic_BackIdeal_BackReferenceIdeal := by
  intro m g m' g' _ h
  refine ⟨_, (θ_run Cert.BackIdeal.defs _ _).mono (fun r hr c => ?_) (Cert.BackIdeal.Value.run (F := Ideal) m g),
    Cert.BackReferenceIdeal.Value.run (F := Ideal) m' g'⟩
  obtain ⟨hx, hw, hz⟩ := h c
  obtain ⟨h3, hr⟩ := hr c
  exact ⟨h3.trans (whole m c _ _ _ hx hw hz), hr⟩

end Cert.BackAlgebraic

end
-- ==== Proof.LossStep.lean ====
/-
  The region that computes a device's part of the loss: a grid over row blocks of 256 rows. Each point writes the gradient of
  its rows and adds its rows' part of the loss to one number, which stays in its buffer from point to point.

  Stated over any contents `W c` of device `c`'s arrays when the region is entered, and whatever `O c` device `c` owes to
  what comes after the region.
-/
module

public import proofs.«01_k».proof.Proof.Gen.LossIdeal.Skeleton
public import proofs.«01_k».proof.Proof.Gen.LossIdeal.Points
public import proofs.«01_k».proof.Proof.Gen.LossIdeal.Launch
public import Idealize.ShloMosaic.Lib.Pipeline.FrameBody
public import Idealize.ShloMosaic.Lib.Pipeline.RegionArraysS
public import Idealize.ShloMosaic.Lib.Pipeline.Value
public import Idealize.ShloMosaic.Lib.ValueIdx
public import Idealize.ShloMosaic.Lib.VecWindow
public import Idealize.ShloMosaic.Lib.Pointwise
public import Idealize.ShloMosaic.Lib.Tactic

@[expose] public section

set_option maxRecDepth 16384

noncomputable section

namespace Cert.LossStep

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The region's launch state beside that of the sum over the devices. -/
abbrev UL : Type := UR sig nD τ × Sites.UC

local notation "𝕄" => MT nD τ sig ℕ (Elt F) ℕ UL ℕ

/-! ## What one point computes -/

/-- The first point starts the sum from zero. -/
theorem body_first (c : Dev nD) (i : grid0.Coords) (hi : (i 0).val = 0)
    (a1 : Memref sig .tc .vmem S256x1024 .f32) (h1 : a1.IsWhole) (a2 : Memref sig .tc .vmem S256x1024 .f32) (h2 : a2.IsWhole)
    (a3 : Memref sig .tc .vmem S1x1 .f32) (h3 : a3.IsWhole) (a4 : Memref sig .tc .vmem S256x1024 .f32) (h4 : a4.IsWhole)
    (x y : Vec F S256x1024 .f32) (Q : PUnit → sProp 𝕄) :
    iprop(owns (c : Thread nD τ) a1 fullShare x ∗ owns (c : Thread nD τ) a2 fullShare y
        ∗ (∃ d, owns (c : Thread nD τ) a3 fullShare d) ∗ (∃ d, owns (c : Thread nD τ) a4 fullShare d)
        ∗ (iprop(owns (c : Thread nD τ) a1 fullShare x ∗ owns (c : Thread nD τ) a2 fullShare y
            ∗ owns (c : Thread nD τ) a3 fullShare (k0_pay4 x y k0_pay3) ∗ owns (c : Thread nD τ) a4 fullShare (k0_pay2 x y)) -∗ Q ⟨⟩))
      ⊢ wp frame (wpE (defs₀ (F := F)) Variants.none c none) Set.univ (cc0_loss_head i a1 h1 a2 h2 a3 h3 a4 h4) Q := by
  have hcond : Scalar.cmpi .ne (Scalar.extui (Scalar.cmpi .eq (BitVec.ofNat 32 (i 0).val) 0#32)) 0#32 = 1#1 := by rw [hi]; rfl
  simp only [cc0_loss_head_eq_skeleton]; unfold cc0_loss_head_skel owns
  iintro ⟨⟨%f1, %e1, H1⟩, ⟨%f2, %e2, H2⟩, ⟨%d3, %f3, -, H3⟩, ⟨%d4, %f4, -, H4⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact (View.read_writes_full _ _ inb_S1x1_S1x1_0_0 _ _).trans (by
      unfold body_first.sl.v11 body_first.sl.H3_1
      rw [View.readAt_full, View.readAt_full, View.readCov_full])
  iexists _; isplitr
  swap; · iexact H4
  ipureintro; exact (View.read_writes_full _ _ inb_S256x1024_S256x1024_0_0 _ _).trans (by rw [View.readAt_full, View.readAt_full])

/-- A later point goes on from what the sum holds. -/
theorem body_later (c : Dev nD) (i : grid0.Coords) (hi : (i 0).val ≠ 0)
    (a1 : Memref sig .tc .vmem S256x1024 .f32) (h1 : a1.IsWhole) (a2 : Memref sig .tc .vmem S256x1024 .f32) (h2 : a2.IsWhole)
    (a3 : Memref sig .tc .vmem S1x1 .f32) (h3 : a3.IsWhole) (a4 : Memref sig .tc .vmem S256x1024 .f32) (h4 : a4.IsWhole)
    (x y : Vec F S256x1024 .f32) (z : Vec F S1x1 .f32) (Q : PUnit → sProp 𝕄) :
    iprop(owns (c : Thread nD τ) a1 fullShare x ∗ owns (c : Thread nD τ) a2 fullShare y
        ∗ owns (c : Thread nD τ) a3 fullShare z ∗ (∃ d, owns (c : Thread nD τ) a4 fullShare d)
        ∗ (iprop(owns (c : Thread nD τ) a1 fullShare x ∗ owns (c : Thread nD τ) a2 fullShare y
            ∗ owns (c : Thread nD τ) a3 fullShare (k0_pay4 x y z) ∗ owns (c : Thread nD τ) a4 fullShare (k0_pay2 x y)) -∗ Q ⟨⟩))
      ⊢ wp frame (wpE (defs₀ (F := F)) Variants.none c none) Set.univ (cc0_loss_head i a1 h1 a2 h2 a3 h3 a4 h4) Q := by
  have hcond : Scalar.cmpi .ne (Scalar.extui (Scalar.cmpi .eq (BitVec.ofNat 32 (i 0).val) 0#32)) 0#32 ≠ 1#1 := by
    exact (by decide : ∀ n : Fin 16, n.val ≠ 0 → Scalar.cmpi .ne (Scalar.extui (Scalar.cmpi .eq (BitVec.ofNat 32 n.val) 0#32)) 0#32 ≠ 1#1) (i 0) hi
  simp only [cc0_loss_head_eq_skeleton]; unfold cc0_loss_head_skel owns
  iintro ⟨⟨%f1, %e1, H1⟩, ⟨%f2, %e2, H2⟩, ⟨%f3, %e3, H3⟩, ⟨%d4, %f4, -, H4⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact (View.read_writes_full _ _ inb_S1x1_S1x1_0_0 _ _).trans (by
      rw [View.readAt_full, View.readAt_full, View.readAt_full])
  iexists _; isplitr
  swap; · iexact H4
  ipureintro; exact (View.read_writes_full _ _ inb_S256x1024_S256x1024_0_0 _ _).trans (by rw [View.readAt_full, View.readAt_full])

/-! ## The pipeline's proof data -/

variable (W : Dev nD → Valuation τ sig (Elt F))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The rows of `y` and of the target at point `t`. -/
def rowsY (c : Dev nD) (t : Fin cfg0.N) : Vec F S256x1024 .f32 := blk W c 0 t
def rowsT (c : Dev nD) (t : Fin cfg0.N) : Vec F S256x1024 .f32 := blk W c 1 t

/-- The sum after point `n`. -/
def acc (c : Dev nD) : (n : ℕ) → n < cfg0.N → Vec F S1x1 .f32
  | 0, h => k0_pay4 (rowsY W c ⟨0, h⟩) (rowsT W c ⟨0, h⟩) k0_pay3
  | n + 1, h => k0_pay4 (rowsY W c ⟨n + 1, h⟩) (rowsT W c ⟨n + 1, h⟩) (acc c n (Nat.lt_of_succ_lt h))

def dat (c : Dev nD) : Dat τ (Elt F) ℕ ℕ UL ℕ cfg0 c where
  A w := W c (Proc.devRef .tc (Pipeline.arrRef spec0 w))
  after w t := match w with
    | ⟨0, _⟩ => blk W c 0 t
    | ⟨1, _⟩ => blk W c 1 t
    | ⟨2, _⟩ => acc W c t.val t.isLt
    | ⟨3, _⟩ => k0_pay2 (rowsY W c t) (rowsT W c t)
  Φ _ := Pipeline.scopedRest cfg0.spec c
  q _ := fullShare
  owed _ := Sites.O0 (F := F) c

theorem Φ_eq (c : Dev nD) (t) : (dat W c).Φ t = Pipeline.scopedRest cfg0.spec c := by dsimp only [dat]
theorem A_eq (c : Dev nD) (w : Fin cfg0.W) : (dat W c).A w = W c (Proc.devRef .tc (Pipeline.arrRef spec0 w)) := by dsimp only [dat]
theorem after_0 (c : Dev nD) (t : Fin cfg0.N) : (dat W c).after 0 t = blk W c 0 t := by dsimp only [dat]
theorem after_1 (c : Dev nD) (t : Fin cfg0.N) : (dat W c).after 1 t = blk W c 1 t := by dsimp only [dat]
theorem after_2 (c : Dev nD) (t : Fin cfg0.N) : (dat W c).after 2 t = acc W c t.val t.isLt := by dsimp only [dat]
theorem after_3 (c : Dev nD) (t : Fin cfg0.N) : (dat W c).after 3 t = k0_pay2 (rowsY W c t) (rowsT W c t) := by dsimp only [dat]

theorem before_0 (c : Dev nD) (t : Fin cfg0.N) (d) : (dat W c).before 0 t d = rowsY W c t :=
  ((dat W c).before_in_eq_fetched 0 rfl (fun _ => rfl) (fun _ _ _ => rfl) (fun t => by rw [after_0]; unfold Dat.blockOf blk; rw [A_eq]; try rfl) t d).trans
    (by unfold Dat.fetched Dat.blockOf rowsY blk; rw [A_eq]; try rfl)
theorem before_1 (c : Dev nD) (t : Fin cfg0.N) (d) : (dat W c).before 1 t d = rowsT W c t :=
  ((dat W c).before_in_eq_fetched 1 rfl (fun _ => rfl) (fun _ _ _ => rfl) (fun t => by rw [after_1]; unfold Dat.blockOf blk; rw [A_eq]; try rfl) t d).trans
    (by unfold Dat.fetched Dat.blockOf rowsT blk; rw [A_eq]; try rfl)

/-- The sum is not written back before the last point, so a later point finds what the one before left. -/
theorem before_2 (c : Dev nD) (t : Fin cfg0.N) (ht : t.val ≠ 0) (d) :
    (dat W c).before 2 t d = acc W c (t.val - 1) (Nat.lt_of_le_of_lt (Nat.sub_le _ _) t.isLt) :=
  ((dat W c).before_out_kept 2 rfl t ht
    (Bool.eq_false_iff.mpr fun h => by
      have h' := (flush0_2 _).mp h
      have := t.isLt; have hN : cfg0.N = 16 := rfl
      simp only at h'; omega) (fun _ => rfl) (fun _ _ => rfl) d).trans (after_2 W c _)

theorem acc_first (c : Dev nD) (t : Fin cfg0.N) (ht : t.val = 0) : acc W c t.val t.isLt = k0_pay4 (rowsY W c t) (rowsT W c t) k0_pay3 := by
  obtain ⟨n, h⟩ := t
  obtain rfl : n = 0 := ht
  rfl
theorem acc_later (c : Dev nD) (t : Fin cfg0.N) (ht : t.val ≠ 0) :
    acc W c t.val t.isLt = k0_pay4 (rowsY W c t) (rowsT W c t) (acc W c (t.val - 1) (Nat.lt_of_le_of_lt (Nat.sub_le _ _) t.isLt)) := by
  obtain ⟨n, h⟩ := t
  obtain ⟨k, rfl⟩ := Nat.exists_eq_succ_of_ne_zero ht
  rfl

def pre (c : Dev nD) (t : Fin cfg0.N) : sProp 𝕄 :=
  iprop((dat W c).Φ t.castSucc ∗ (dat W c).owesAt 0 t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d)))

def post (c : Dev nD) (t : Fin cfg0.N) : sProp 𝕄 :=
  iprop((dat W c).Φ t.succ ∗ (dat W c).owesAt 0 t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t))

theorem coord (t : Fin cfg0.N) : (grid0.coords t 0).val = t.val :=
  (by decide +kernel : ∀ t : Fin grid0.N, (grid0.coords t 0).val = t.val) t

theorem step_point (c : Dev nD) (t : Fin cfg0.N) :
    pre W c t ⊢ wp frame (wpE (defs₀ (F := F)) Variants.none c none) Set.univ (bodyAt0 t) (fun _ => post W c t) := by
  unfold pre post bodyAt0
  simp only [before_0, before_1]
  rw [show (dat W c).Φ t.succ = (dat W c).Φ t.castSucc from rfl, show (dat W c).owesAt 0 t.succ = (dat W c).owesAt 0 t.castSucc from rfl,
    after_0, after_1, after_2, after_3]
  by_cases ht : t.val = 0
  · rw [acc_first W c t ht]
    iintro ⟨HΦ, HO, ⟨%d0, H0⟩, ⟨%d1, H1⟩, ⟨%d2, H2⟩, ⟨%d3, H3⟩⟩
    iapply (body_first c (grid0.coords t) ((coord t).trans ht) _ _ _ _ _ _ _ _ (rowsY W c t) (rowsT W c t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [HO]; · iexact HO
    isplitl [H0]; · iexact H0
    isplitl [H1]; · iexact H1
    isplitl [H2]; · iexact H2
    iexact H3
  · simp only [before_2 W c t ht]
    rw [acc_later W c t ht]
    iintro ⟨HΦ, HO, ⟨%d0, H0⟩, ⟨%d1, H1⟩, ⟨%d2, H2⟩, ⟨%d3, H3⟩⟩
    iapply (body_later c (grid0.coords t) (fun h => ht ((coord t).symm.trans h)) _ _ _ _ _ _ _ _ (rowsY W c t) (rowsT W c t) _ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [HO]; · iexact HO
    isplitl [H0]; · iexact H0
    isplitl [H1]; · iexact H1
    isplitl [H2]; · iexact H2
    iexact H3

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dat W c) (defs₀ (F := F)) Variants.none 0 Set.univ := fun t => by
  rw [bigSep_W0, bigSep_W0, row_eq]
  exact triple_restated (step_point W c t) rfl .rfl fun _ => .rfl

/-! ## What the region leaves -/

/-- Row `a` of block `t`. -/
abbrev row (t : Fin cfg0.N) (a : Fin 256) : Fin 4096 := ⟨t.val * 256 + a.val, by have := t.isLt; have h : cfg0.N = 16 := rfl; omega⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = t.val ∧ win0_3.index t 1 = 0 := by decide +kernel

theorem rowsY_at (c : Dev nD) (t : Fin cfg0.N) (a : Fin 256) (b : Fin 1024) :
    rowsY W c t (ix2 a b) = (W c (Proc.devRef .tc main_arg0) : S4096x1024.Idx → F .f32) (ix2 (row t a) b) := by
  show (W c (Proc.devRef .tc main_arg0) : S4096x1024.Idx → F .f32) ((win0_0.rect t).emb (ix2 a b)) = _
  refine congrArg _ (funext fun x => Fin.ext ?_)
  obtain ⟨h0, h1⟩ := index_0 t
  refine (win0_0.rect_emb_val t (ix2 a b) x rfl).trans ?_
  fin_cases x
  · show win0_0.index t 0 * 256 + a.val = _; rw [h0]; rfl
  · show win0_0.index t 1 * 1024 + b.val = _; rw [h1]; simp

theorem rowsT_at (c : Dev nD) (t : Fin cfg0.N) (a : Fin 256) (b : Fin 1024) :
    rowsT W c t (ix2 a b) = (W c (Proc.devRef .tc main_arg1) : S4096x1024.Idx → F .f32) (ix2 (row t a) b) := by
  show (W c (Proc.devRef .tc main_arg1) : S4096x1024.Idx → F .f32) ((win0_1.rect t).emb (ix2 a b)) = _
  refine congrArg _ (funext fun x => Fin.ext ?_)
  obtain ⟨h0, h1⟩ := index_1 t
  refine (win0_1.rect_emb_val t (ix2 a b) x rfl).trans ?_
  fin_cases x
  · show win0_1.index t 0 * 256 + a.val = _; rw [h0]; rfl
  · show win0_1.index t 1 * 1024 + b.val = _; rw [h1]; simp

theorem out_emb (t : Fin cfg0.N) (a : Fin 256) (b : Fin 1024) : (win0_3.rect t).emb (ix2 a b) = (ix2 (row t a) b : S4096x1024.Idx) := by
  refine funext fun x => Fin.ext ?_
  obtain ⟨h0, h1⟩ := index_3 t
  refine (win0_3.rect_emb_val t (ix2 a b) x rfl).trans ?_
  fin_cases x
  · show win0_3.index t 0 * 256 + a.val = _; rw [h0]; rfl
  · show win0_3.index t 1 * 1024 + b.val = _; rw [h1]; simp

theorem row_of (r : Fin 4096) : ∃ (t : Fin cfg0.N) (a : Fin 256), row t a = r := by
  have hN : cfg0.N = 16 := rfl
  have hr := r.isLt
  exact ⟨⟨r.val / 256, by omega⟩, ⟨r.val % 256, Nat.mod_lt _ (by decide)⟩, Fin.ext (Nat.div_add_mod' r.val 256)⟩

theorem apart : ∀ t t' : Fin cfg0.N, win0_3.index t = win0_3.index t' → t = t' :=
  (by decide +kernel : ∀ t t' : Fin grid0.N, win0_3.index t = win0_3.index t' → t = t')

/-- The gradient of row `a` of block `t`. -/
theorem grad_at (c : Dev nD) (t : Fin cfg0.N) (a : Fin 256) (b : Fin 1024) :
    ((dat W c).arrAt 3 cfg0.N : S4096x1024.Idx → F .f32) (ix2 (row t a) b) = k0_pay2 (rowsY W c t) (rowsT W c t) (ix2 a b) := by
  rw [← out_emb]
  exact ((dat W c).arrAt_emb_eq_flushed 3 (fun t t' _ _ hne => (cfg0.win 3).disjoint_blk fun h => hne (apart t t' h)) t (flush0_3 t) (ix2 a b)).trans rfl

/-- The last point. -/
abbrev last : Fin cfg0.N := ⟨15, by decide⟩

theorem one_emb : (win0_2.rect last).emb (ix2 0 0) = (ix2 0 0 : S1x1.Idx) := by
  refine funext fun x => Fin.ext ?_
  obtain ⟨h0, h1⟩ := index_2 last
  refine (win0_2.rect_emb_val last (ix2 0 0) x rfl).trans ?_
  fin_cases x
  · show win0_2.index last 0 * 1 + 0 = _; rw [h0]; rfl
  · show win0_2.index last 1 * 1 + 0 = _; rw [h1]; rfl

/-- The sum, as the last point leaves it. -/
theorem sum_at (c : Dev nD) : ((dat W c).arrAt 2 cfg0.N : S1x1.Idx → F .f32) (ix2 0 0) = acc W c 15 (by decide) (ix2 0 0) := by
  rw [← one_emb]
  refine ((dat W c).arrAt_emb_eq_flushed 2 (fun t t' ht ht' hne => absurd (Fin.ext ?_) hne) last ((flush0_2 last).mpr rfl) (ix2 0 0)).trans ?_
  · have h := (flush0_2 t).mp ht; have h' := (flush0_2 t').mp ht'
    have := t.isLt; have := t'.isLt; have hN : cfg0.N = 16 := rfl
    omega
  · rw [one_emb]; rfl

end Cert.LossStep

end
-- ==== Proof.LossRun.lean ====
/-
  A device's part of the loss, followed by the sum of the parts over the devices, run as a whole.
-/
module

public import proofs.«01_k».proof.Proof.LossStep
public import proofs.«01_k».proof.Proof.Gen.LossIdeal.Regions
public import Idealize.ShloMosaic.Lib.Pipeline.RegionArraysD
public import Idealize.ShloMosaic.Lib.Pipeline.Regions
public import Idealize.ShloMosaic.Lib.Pipeline.CollectiveSegs
public import Idealize.ShloMosaic.Lib.Pipeline.Kit
public import Idealize.ShloMosaic.Lib.Tactic

@[expose] public section

set_option maxRecDepth 16384

noncomputable section

namespace Cert.LossRun

open Cert.LossIdeal Cert.LossIdeal.Gen Cert.LossStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Seg HostSeg RegionSeg ucRefs)

variable {F : FTy → Type} [FloatOps F]

local notation "𝕄" => MT nD τ sig ℕ (Elt F) ℕ UL ℕ

abbrev EP : Emb (UR sig nD τ) (MT nD τ sig ℕ (Elt F) ℕ UL ℕ) := embL
abbrev EC : Emb Sites.UC (MT nD τ sig ℕ (Elt F) ℕ UL ℕ) := embR

variable (m : (ℓ : Loc nD τ sig) → Buf (Elt F) ℓ)

/-! ### The arrays from step to step -/

/-- At the launch, after the region, after the reshape, after the sum over the devices. -/
abbrev at₀ (c : Dev nD) : Valuation τ sig (Elt F) := fun b => m (c, b)
def at₁ (c : Dev nD) : Valuation τ sig (Elt F) := Pipeline.afterRegion (dat (at₀ m) c) (at₀ m c)
def at₂ (c : Dev nD) : Valuation τ sig (Elt F) := StableHlo.after hostOps1 (at₁ m c)
def at₃ (c : Dev nD) : Valuation τ sig (Elt F) := (ar0 (F := F)).after₀ (at₂ m) c

/-! ### The three steps -/

def pdats : (p : Fin 1) → (c : Dev nD) → Dat τ (Elt F) ℕ ℕ UL ℕ (cfgs p) c
  | ⟨0, _⟩ => dat (at₀ m)

/-- What stands between the steps before the sum over the devices. -/
def waiting (c : Dev nD) : sProp 𝕄 :=
  iprop((∃ Wd, owes (c : Thread nD τ) (Sites.O0 (F := F) c) Wd) ∗ (∃ r, prngReg c r) ∗ Sites.rides0 EC (at₂ m) c)
theorem waiting_eq (c : Dev nD) : waiting m c = Sites.Es EC (at₂ m) 0 c := rfl

/-- That every counter of the sum over the devices follows its schedule. -/
abbrev kept : sProp 𝕄 := iprop(∃ κ, (AllReduce.Dat.once (ar0 (F := F)) (at₂ m)).cellInvs (Sites.E0 EC) κ)

theorem arr_sub : Pipeline.arrRefs (τ := τ) spec0 ⊆ ucRefs τ sig := Pipeline.arrRefs_sub_ucRefs _ (by decide)

theorem cut : Pipeline.LevelCut (pcfgs (F := F)) adm 0 Sites.L Sites.lv 0 (Sites.O0 (F := F)) (fun _ => 0) where
  hι c w s := Sites.mem_L c _ (by decide)
  hιb c w s := le_refl _
  hD c g i h := ⟨(Sites.O0_pos h).1, (Sites.O0_pos h).2⟩

/-- The region, entered and left with the arrays whole. -/
def base : RegionSeg (pcfgs (F := F)) adm (pdats m) 0 (defs₀ (F := F)) Variants.none Sites.L Sites.lv 0 :=
  RegionSeg.ofHeldIn (pcfgs (F := F)) adm (pdats m) 0 (defs₀ (F := F)) Variants.none Sites.L Sites.lv 0 (Sites.O0 (F := F)) (ucRefs τ sig)
    (fun _ => iprop(emp)) (fun _ => iprop(emp)) launch0.toP rfl
    (fun c => (body_obligation (at₀ m) c).loose) (fun _ _ => rfl) (fun _ => rfl) (fun c => (dat (at₀ m) c).share_full fun _ => rfl)
    (fun c => by
      rw [show (pdats m 0 c).Φ = fun _ => Pipeline.scopedRest cfg0.spec c from rfl]; iintro ⟨H, -⟩; iexact H)
    (fun c => by
      rw [show (pdats m 0 c).Φ = fun _ => Pipeline.scopedRest cfg0.spec c from rfl]; iintro H
      isplitl [H]; · iexact H
      iempintro)
    (fun _ => 0) cut
    (fun c => iprop((∃ r, prngReg c r) ∗ Sites.rides0 EC (at₂ m) c)) (at₀ m) (A_eq (at₀ m))

theorem base_pre (c : Dev nD) :
    iprop(StableHlo.held (c.tc : Thread nD τ) (ucRefs τ sig) (at₀ m c) ∗ ((∃ Wd, owes (c : Thread nD τ) (Sites.O0 (F := F) c) Wd) ∗ emp
      ∗ ((∃ r, prngReg c r) ∗ Sites.rides0 EC (at₂ m) c))) ⊢ (base m).pre c := by
  refine .trans (.of_eq ?_) (RegionSeg.ofHeldIn_pre arr_sub c)
  rfl

theorem base_post (c : Dev nD) :
    (base m).post c ⊢ iprop(StableHlo.held (c.tc : Thread nD τ) (ucRefs τ sig) (Pipeline.afterRegion (pdats m 0 c) (at₀ m c))
      ∗ ((∃ Wd, owes (c : Thread nD τ) (Sites.O0 (F := F) c) Wd) ∗ emp ∗ ((∃ r, prngReg c r) ∗ Sites.rides0 EC (at₂ m) c))) := RegionSeg.ofHeldIn_post arr_sub c

theorem at₁_eq (c : Dev nD) : at₁ m c = Pipeline.afterRegion (pdats m 0 c) (at₀ m c) := rfl

def computed : RegionSeg (pcfgs (F := F)) adm (pdats m) 0 (defs₀ (F := F)) Variants.none Sites.L Sites.lv 0 :=
  (base m).conseq
    (fun c => iprop(StableHlo.held (c.tc : Thread nD τ) (ucRefs τ sig) (at₀ m c) ∗ waiting m c))
    (fun c => iprop(StableHlo.held (c.tc : Thread nD τ) (ucRefs τ sig) (at₁ m c) ∗ waiting m c))
    (fun c => by
      refine .trans ?_ (base_pre m c)
      unfold waiting
      iintro ⟨H, HO, Hr⟩
      isplitl [H]; · iexact H
      isplitl [HO]; · iexact HO
      isplitr; · iempintro
      iexact Hr)
    (fun c => by
      refine (base_post m c).trans ?_
      rw [at₁_eq]
      unfold waiting
      iintro ⟨H, HO, -, Hr⟩
      isplitl [H]; · iexact H
      isplitl [HO]; · iexact HO
      iexact Hr)

def reshaped : HostSeg (Ix := ℕ) (Name := ℕ) (U := UL) (Lvl := ℕ) (pcfgs (F := F)) (defs₀ (F := F)) Variants.none Sites.L Sites.lv :=
  HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (at₁ m) (waiting m)

def added : HostSeg (Ix := ℕ) (Name := ℕ) (U := UL) (Lvl := ℕ) (pcfgs (F := F)) (defs₀ (F := F)) Variants.none Sites.L Sites.lv :=
  Sites.seg0 EC Variants.none (at₂ m) (Sites.Rest0 (at₂ m) fun _ => kept m)

def steps : List (Seg (pcfgs (F := F)) adm (pdats m) 0 (defs₀ (F := F)) Variants.none Sites.L Sites.lv) :=
  [.region (computed m), .host (reshaped m), .host (added m)]

/-- What a device holds at the end. -/
abbrev ended (c : Dev nD) : sProp 𝕄 :=
  iprop(StableHlo.held (c.tc : Thread nD τ) (ucRefs τ sig) (at₃ m c) ∗ (kept m ∗ Sites.Ghost0 EC c))

/-- The sum over the devices is entered with its invariants copied out. -/
theorem enter (c : Dev nD) :
    iprop(StableHlo.held (c.tc : Thread nD τ) (ucRefs τ sig) (at₂ m c) ∗ waiting m c) ⊢ (added m).pre c := by
  refine .trans ?_ (Sites.pre0 EC Variants.none (at₂ m) (fun _ => kept m) c)
  rw [waiting_eq, Sites.Es_0]
  iintro ⟨H, HO, Hp, Hr⟩
  ihave #Hi := (show Sites.rides0 EC (at₂ m) c ⊢ kept m from by unfold Sites.rides0 AllReduce.Dat.rides; iintro ⟨Hi, -⟩; iexact Hi) $$ Hr
  isplitl [H]; · iexact H
  isplitr []
  · isplitl [HO]; · iexact HO
    isplitl [Hp]; · iexact Hp
    iexact Hr
  iexact Hi

theorem leave (c : Dev nD) :
    (added m).post c ⊢ iprop(ended m c ∗ ∃ Wd, owes (c.tc : Thread nD τ) (0 : CellTallies nD τ sig ℕ) Wd) := by
  refine (Sites.post0 EC Variants.none (at₂ m) (fun _ => kept m) c).trans ?_
  rw [Sites.Es_1]; dsimp only [Sites.O1]
  iintro ⟨H, ⟨HO, -⟩, Hg, Hi⟩
  isplitr [HO]
  · isplitl [H]; · iexact H
    isplitl [Hi]; · iexact Hi
    iexact Hg
  iexact HO

/-! ### The run -/

variable (ρ : Dev nD → PrngReg)

theorem launch : iprop((bigSep Finset.univ fun c : Dev nD => iprop(unscopedBufs c (fun b => m ((c.tc : Thread nD τ).loc b)) ∗ unscopedSems0 c
      ∗ owes (c.tc : Thread nD τ) (Sites.O0 (F := F) c) ∅ ∗ Pipeline.launchCred (Sites.O0 (F := F)) c ∗ prngReg c (ρ c) ∗ Sites.G EC (at₂ m) c)) ∗ levAts Sites.L Sites.lv)
    ⊢ (|={Set.univ}=> bigSep Finset.univ fun c : Dev nD => iprop(StableHlo.held (c.tc : Thread nD τ) (ucRefs τ sig) (at₀ m c) ∗ waiting m c) : sProp 𝕄) := by
  have hsplit : (bigSep Finset.univ fun c : Dev nD => iprop(unscopedBufs c (fun b => m ((c.tc : Thread nD τ).loc b)) ∗ unscopedSems0 c
        ∗ owes (c.tc : Thread nD τ) (Sites.O0 (F := F) c) ∅ ∗ Pipeline.launchCred (Sites.O0 (F := F)) c ∗ prngReg c (ρ c) ∗ Sites.G EC (at₂ m) c))
      ⊢ (iprop((bigSep Finset.univ fun c : Dev nD => StableHlo.held (c : Thread nD τ) (ucRefs τ sig) (at₀ m c))
          ∗ bigSep Finset.univ fun c : Dev nD => iprop(unscopedSems0 c ∗ owes (c : Thread nD τ) (Sites.O0 (F := F) c) ∅ ∗ Pipeline.launchCred (Sites.O0 (F := F)) c
              ∗ prngReg c (ρ c) ∗ Sites.G EC (at₂ m) c)) : sProp 𝕄) := by
    rw [← bigSep_sep']
    exact bigSep_mono fun c _ => by rw [← Pipeline.unscopedBufs_held (Ix := ℕ) (Name := ℕ) (U := UL) (Lvl := ℕ) c (at₀ m c)]; exact BI.Entails.refl _
  iintro ⟨H, Hla⟩
  ihave H' := hsplit $$ H
  icases H' with ⟨Hh, Hr⟩
  imod (Sites.hE0 EC (at₂ m) ρ) $$ [Hr Hla] with HE
  · isplitl [Hr]; · iexact Hr
    iexact Hla
  imodintro
  rw [bigSep_sep']
  isplitl [Hh]; · iexact Hh
  iexact HE

def u₀ : UL :=
  (initOf (Pipeline.cells (Pipeline.pin (pcfgs (F := F)) adm) cellOf_inj) (Pipeline.launchToks (Pipeline.pin (pcfgs (F := F)) adm) cellOf_inj),
    Sites.uC (U := UL) (at₂ m))

set_option backward.isDefEq.respectTransparency.types false in
/-- The run: every array at the end, and every counter at zero. -/
theorem run_main : θ_run (defs (F := F)) (onTc (τ := τ) (main (F := F))) ⟨m, fun _ => 0, ρ⟩
    (fun r => (∀ (c : Dev nD) (b : DevRef τ sig), b ∈ ucRefs τ sig → r.2.mem (c, b) = at₃ m c b) ∧ r.2.sem = fun _ => 0) :=
  Pipeline.θ_run_regions_kit_sems (pcfgs (F := F)) adm (pdats m) 0 cellOf_inj EP (defs₀ (F := F)) Variants.none Sites.L Sites.lv m ρ main (steps m)
    (fun c Q => by
      rewrite [main_chain c, Seg.run_eq_chain,
        show (steps m).map Seg.prog = [Prog.lift (.customCall (Pipeline.entry 0) ()), StableHlo.seq hostOps1, StableHlo.allReduce ar0] from rfl]
      exact .rfl)
    (by simp only [steps, Seg.pipes_host, Seg.pipes_region, Seg.pipes_nil]; decide)
    (O₀ := Sites.O0 (F := F)) (hL := Sites.hL) (G := Sites.G EC (at₂ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := fun c => iprop(StableHlo.held (c.tc : Thread nD τ) (ucRefs τ sig) (at₀ m c) ∗ waiting m c)) (Tₙ := ended m)
    (hch := ⟨fun _ => .rfl, fun _ => .rfl, enter m, leave m⟩)
    (hinit := launch m ρ)
    (QY := fun c s => (∀ b ∈ ucRefs τ sig, s.mem (c, b) = at₃ m c b)
      ∧ s.sem ((ar0 (F := F)).barrierCell c) = 0 ∧ s.sem ((ar0 (F := F)).recvCell c) = 0 ∧ s.sem ((ar0 (F := F)).sendCell c) = 0)
    (hfin := fun c s' => by
      unfold ended StableHlo.held
      iintro ⟨⟨Hh, He⟩, HSI⟩
      imod ((AllReduce.Dat.once (ar0 (F := F)) (at₂ m)).ghostAfter_read (Sites.E0 EC) c (k := 0) le_rfl s') $$ [He HSI] with ⟨%hz, HSI⟩
      · isplitl [He] <;> iassumption
      ihave Hr := (pointsTo_read_all (ucRefs τ sig) (fun b => ((c : Thread nD τ).1, b)) (at₃ m c) s') $$ [Hh HSI]
      · isplitl [Hh] <;> iassumption
      icases Hr with ⟨%h, HSI⟩
      imodintro
      isplitr; · ipureintro; exact ⟨fun b hb => h b hb, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.LossRun

end
-- ==== Proof.LossValue.lean ====
/-
  The loss over the extended reals: half the sum, over the rows, of the mean of the squared errors, in whatever order its
  rows are added.
-/
module

public import proofs.«01_k».proof.Proof.LossRun
public import proofs.«01_k».proof.Proof.Gen.LossReferenceIdeal.Run
public import Idealize.ShloMosaic.Lib.StableHlo.AllReduceFold
public import Idealize.ShloMosaic.Lib.Pipeline.ValueKit.Acc
public import proofs.«01_k».proof.Proof.Stacked

@[expose] public section

set_option maxRecDepth 16384

noncomputable section

namespace Cert.LossValue

open Idealize.ShloMosaic Idealize.ShloMosaic.TcCoe
open Cert.LossIdeal Cert.LossIdeal.Gen Cert.LossStep Cert.LossRun

/-! ## The numbers -/

/-- One half and the number of columns, as the programs write them. -/
abbrev half : EReal := Ideal.ofBits .f32 0x3F000000#32
abbrev cols : EReal := Ideal.ofBits .f32 0x44800000#32

theorem half_eq : half = (((1 : ℝ) / 2 : ℝ) : EReal) := by
  simp [Ideal.ofBits, Ideal.ieee, -EReal.coe_mul]
  norm_num
theorem cols_eq : cols = ((1024 : ℝ) : EReal) := by
  simp [Ideal.ofBits, Ideal.ieee, -EReal.coe_mul]
  norm_num
theorem inv_eq : Ideal.ofBits .f32 0x3A800000#32 = (((1 : ℝ) / 1024 : ℝ) : EReal) := by
  simp [Ideal.ofBits, Ideal.ieee, -EReal.coe_mul]
  norm_num

/-- Multiplying by 1/1024 is dividing by 1024. -/
theorem mul_inv (x : EReal) : x * Ideal.ofBits .f32 0x3A800000#32 = Ideal.div x cols := by
  rw [inv_eq, cols_eq, Ideal.div_coe (by norm_num)]

/-- Half a sum is the sum of the halves. -/
theorem half_sum {ι : Type} (s : Finset ι) (f : ι → EReal) : half * ∑ i ∈ s, f i = ∑ i ∈ s, half * f i := by
  classical
  induction s using Finset.induction_on with
  | empty => simp
  | insert i s hi ih =>
    rw [Finset.sum_insert hi, Finset.sum_insert hi, EReal.left_distrib_of_nonneg_of_ne_top _ _ _, ih]
    · rw [half_eq]; exact EReal.coe_nonneg.mpr (by norm_num)
    · rw [half_eq]; exact EReal.coe_ne_top _

/-- The mean of a row's squared errors. -/
def mean (x y : Fin 1024 → EReal) : EReal := Ideal.div (∑ b, (x b - y b) * (x b - y b)) cols

/-! ## What one point computes -/

theorem grad_eq (x y : Vec Ideal S256x1024 .f32) (a : Fin 256) (b : Fin 1024) :
    (k0_pay2 (F := Ideal) x y (ix2 a b) : EReal) = Ideal.div (x (ix2 a b) - y (ix2 a b)) cols := by
  pointwise [k0_pay2, k0_pay1]
  exact mul_inv _

theorem part_eq (x y : Vec Ideal S256x1024 .f32) (z : Vec Ideal S1x1 .f32) :
    (k0_pay4 (F := Ideal) x y z (ix2 0 0) : EReal) = z (ix2 0 0) + half * ∑ a : Fin 256, mean (fun b => x (ix2 a b)) fun b => y (ix2 a b) := by
  pointwise [k0_pay4, k0_pay1]
  rfl

theorem zero_eq : (k0_pay3 (F := Ideal) (ix2 0 0) : EReal) = 0 := by
  pointwise [k0_pay3]

section Device

variable (W : Dev nD → Valuation τ sig (Elt Ideal)) (c : Dev nD)

/-- A device's rows, as numbers. -/
def devY (r : Fin 4096) (b : Fin 1024) : EReal := (W c (Proc.devRef .tc main_arg0) : S4096x1024.Idx → EReal) (ix2 r b)
def devT (r : Fin 4096) (b : Fin 1024) : EReal := (W c (Proc.devRef .tc main_arg1) : S4096x1024.Idx → EReal) (ix2 r b)

/-- A point's part of the loss. -/
def pointLoss (t : Fin cfg0.N) : EReal := half * ∑ a : Fin 256, mean (devY W c (row t a)) (devT W c (row t a))

theorem point_eq (t : Fin cfg0.N) (z : Vec Ideal S1x1 .f32) :
    (k0_pay4 (F := Ideal) (rowsY W c t) (rowsT W c t) z (ix2 0 0) : EReal) = z (ix2 0 0) + pointLoss W c t := by
  refine (part_eq _ _ z).trans (congrArg (fun e : EReal => z (ix2 0 0) + half * e) ?_)
  refine Finset.sum_congr (M := EReal) rfl fun a _ => ?_
  exact congrArg₂ mean (funext fun b => rowsY_at W c t a b) (funext fun b => rowsT_at W c t a b)

/-- The sum after point `n` is that of the points' parts up to it. -/
theorem acc_eq (n : ℕ) (h : n < cfg0.N) :
    (acc W c n h (ix2 0 0) : EReal) = ∑ k : Fin (n + 1), pointLoss W c ⟨k.val, by have := k.isLt; omega⟩ := by
  induction n with
  | zero =>
    refine (point_eq W c ⟨0, h⟩ (k0_pay3 (F := Ideal))).trans ?_
    rw [zero_eq, zero_add]
    exact (Fin.sum_univ_one (M := EReal) fun k : Fin 1 => pointLoss W c ⟨k.val, by have := k.isLt; omega⟩).symm
  | succ n ih =>
    refine (point_eq W c ⟨n + 1, h⟩ _).trans ?_
    rw [ih (Nat.lt_of_succ_lt h), Fin.sum_univ_castSucc (n := n + 1)]
    rfl

/-- A device's part of the loss. -/
theorem device_eq : ((dat W c).arrAt 2 cfg0.N : S1x1.Idx → EReal) (ix2 0 0) = half * ∑ t : Fin 16, ∑ a : Fin 256, mean (devY W c (row t a)) (devT W c (row t a)) := by
  refine (sum_at W c).trans ((acc_eq W c 15 (by decide)).trans ?_)
  rw [half_sum]
  rfl

/-- A device's rows of the gradient. -/
theorem deviceGrad_eq (r : Fin 4096) (b : Fin 1024) :
    ((dat W c).arrAt 3 cfg0.N : S4096x1024.Idx → EReal) (ix2 r b) = Ideal.div (devY W c r b - devT W c r b) cols := by
  obtain ⟨t, a, rfl⟩ := row_of r
  refine (grad_at W c t a b).trans ((grad_eq _ _ a b).trans ?_)
  rw [rowsY_at, rowsT_at]
  rfl

end Device

/-! ## The reference -/

section
open Cert.LossReferenceIdeal Cert.LossReferenceIdeal.Facts₀
def lossRef (x y : FVec Ideal Cert.LossReferenceIdeal.S32768x1024 .f32) : FVec Ideal Cert.LossReferenceIdeal.S_ .f32 :=
  mulf (constant Cert.LossReferenceIdeal.S_ .f32 0x3F000000#32) (Host.reduceAdd (Host.divf (Host.reduceAdd (mulf (subf x y) (subf x y)) (constant Cert.LossReferenceIdeal.S_ .f32 0x00000000#32) reducesTo_S32768x1024_S32768_d1 Cert.LossReferenceIdeal.Facts₀.h_S_) (broadcastInDim Cert.LossReferenceIdeal.S32768 ![] bcast_S_S32768 (constant Cert.LossReferenceIdeal.S_ .f32 0x44800000#32))) (constant Cert.LossReferenceIdeal.S_ .f32 0x00000000#32) reducesTo_S32768_S_d0 Cert.LossReferenceIdeal.Facts₀.h_S_)
def gradRef (x y : FVec Ideal Cert.LossReferenceIdeal.S32768x1024 .f32) : FVec Ideal Cert.LossReferenceIdeal.S32768x1024 .f32 :=
  Host.divf (subf x y) (broadcastInDim Cert.LossReferenceIdeal.S32768x1024 ![] bcast_S_S32768x1024 (constant Cert.LossReferenceIdeal.S_ .f32 0x44800000#32))
end

theorem lossRef_eq (x y : FVec Ideal Cert.LossReferenceIdeal.S32768x1024 .f32) (i : Cert.LossReferenceIdeal.S_.Idx) :
    (lossRef x y i : EReal) = half * ∑ r : Fin 32768, mean (fun b => x (ix2 r b)) fun b => y (ix2 r b) := by
  unfold lossRef
  pointwise
  rfl

theorem gradRef_eq (x y : FVec Ideal Cert.LossReferenceIdeal.S32768x1024 .f32) (r : Fin 32768) (b : Fin 1024) :
    (gradRef x y (ix2 r b) : EReal) = Ideal.div (x (ix2 r b) - y (ix2 r b)) cols := by
  unfold gradRef
  pointwise

/-- The rows' means added up device by device and point by point, or all at once. -/
theorem rows_sum (G : ℕ → EReal) : ∑ c : Fin 8, half * ∑ t : Fin 16, ∑ a : Fin 256, G (c.val * 4096 + (t.val * 256 + a.val)) = half * ∑ r : Fin 32768, G r.val := by
  refine (half_sum Finset.univ _).symm.trans (congrArg (fun e : EReal => half * e) ?_)
  have inner (c : Fin 8) : ∑ t : Fin 16, ∑ a : Fin 256, G (c.val * 4096 + (t.val * 256 + a.val)) = ∑ l : Fin 4096, G (c.val * 4096 + l.val) :=
    Fin.sum_univ_univ_mul_add 16 256 fun n => G (c.val * 4096 + n)
  have outer : ∑ c : Fin 8, ∑ l : Fin 4096, G (c.val * 4096 + l.val) = ∑ r : Fin 32768, G r.val := Fin.sum_univ_univ_mul_add 8 4096 G
  rw [← outer]
  exact Finset.sum_congr (M := EReal) rfl fun c _ => inner c

end Cert.LossValue

end
-- ==== Proof.LossAlgebraic.lean ====
/-
  The loss and its gradient in the forward pass's output, against their reference: every device ends with the loss of all
  rows, and with its rows of the gradient.
-/
module

public import proofs.«01_k».proof.Proof.LossValue
public import proofs.«01_k».proof.Proof.Gen.Loss
public import proofs.«01_k».proof.Proof.Gen.LossReferenceIdeal.Run
public import Idealize.ShloMosaic.Lib.Pipeline.RegionArraysS
public import proofs.«01_k».proof.Defs

@[expose] public section

set_option maxRecDepth 65536

noncomputable section

namespace Cert.LossAlgebraic

open Idealize.ShloMosaic Idealize.ShloMosaic.TcCoe Idealize.ShloMosaic.StableHlo
open Idealize.ShloMosaic.Pipeline (ucRefs)
open Cert.LossStep Cert.LossRun Cert.LossValue

/-! ## The program and its ideal program have the same text -/

section Text

variable {F : FTy → Type} [FloatOps F]

theorem call0 : Cert.Loss.cc0_loss_head (F := F) = Cert.LossIdeal.cc0_loss_head (F := F) := rfl

theorem calls : Cert.Loss.defs₀ (F := F) = Cert.LossIdeal.defs₀ (F := F) :=
  congrArg Defs.onTc (funext fun l => funext fun x => match l, x with
    | 0, (_, _) => rfl
    | ⟨_ + 1, h⟩, _ => absurd h (Nat.not_lt.2 (Nat.le_add_left _ _)))

theorem tables : Cert.Loss.defs (F := F) = Cert.LossIdeal.defs (F := F) := congrArg (Pipeline.defs Cert.LossIdeal.pcfgs) calls

end Text

/-! ## What the run leaves -/

section Ends

open Cert.LossIdeal Cert.LossIdeal.Gen

variable {F : FTy → Type} [FloatOps F] (m : (ℓ : Loc nD τ sig) → Buf (Elt F) ℓ) (c : Dev nD)

theorem mem_uc (r : Ref sig .tc) (h : ¬ (Proc.devRef .tc r : DevRef τ sig).isScoped) : (Proc.devRef .tc r : DevRef τ sig) ∈ ucRefs τ sig :=
  Finset.mem_filter.mpr ⟨StableHlo.devRef_mem_tcRefs r, h⟩

/-- The arrays that the sum over the devices uses are its result, its operand and its slots. -/
theorem not_site (r : Ref sig .tc) (h : r ≠ main_v3) (h' : r ≠ main_v2) (hs : ∀ j, r ≠ ar0_stage j) :
    (Proc.devRef .tc r : DevRef τ sig) ∉ (ar0 (F := F)).siteRefs := fun hm => by
  rcases (ar0 (F := F)).mem_siteRefs.mp hm with e | e | ⟨j, e⟩
  · exact h (Proc.devRef_injective _ e)
  · exact h' (Proc.devRef_injective _ e)
  · exact hs j (Proc.devRef_injective _ e)

/-- The sum over the devices and the reshape leave every other array as the call left it. -/
theorem kept_at (r : Ref sig .tc) (h : (Proc.devRef .tc r : DevRef τ sig) ∉ (ar0 (F := F)).siteRefs) (h' : r ∉ hostOps1_W) :
    at₃ m c (Proc.devRef .tc r) = at₁ m c (Proc.devRef .tc r) :=
  ((ar0 (F := F)).after₀_off_siteRefs (at₂ m) c h).trans (StableHlo.after_of_writes_sub hostOps1 _ hostOps1_writes h')

theorem grad_end : at₃ m c (Proc.devRef .tc main_v1_1) = (dat (at₀ m) c).arrAt 3 cfg0.N :=
  (kept_at m c main_v1_1 (not_site _ (by decide) (by decide) (by decide)) (by decide)).trans (Pipeline.afterRegion_arr (dat (at₀ m) c) (at₀ m c) winFacts0.arr_inj 3)

theorem arg0_end : at₃ m c (Proc.devRef .tc main_arg0) = m (c, Proc.devRef .tc main_arg0) :=
  (kept_at m c main_arg0 (not_site _ (by decide) (by decide) (by decide)) (by decide)).trans
    (Pipeline.afterRegion_keeps (dat (at₀ m) c) (at₀ m c) winFacts0.arr_inj (A_eq (at₀ m) c) main_arg0 (by decide))

theorem arg1_end : at₃ m c (Proc.devRef .tc main_arg1) = m (c, Proc.devRef .tc main_arg1) :=
  (kept_at m c main_arg1 (not_site _ (by decide) (by decide) (by decide)) (by decide)).trans
    (Pipeline.afterRegion_keeps (dat (at₀ m) c) (at₀ m c) winFacts0.arr_inj (A_eq (at₀ m) c) main_arg1 (by decide))

/-- An array of one cell has one index. -/
theorem cell_eq (j : S1x1.Idx) : j = ix2 0 0 := by
  rw [ValueIdx.eq_ix2 j]
  exact congrArg₂ (fun (a b : Fin 1) => (ix2 a b : S1x1.Idx)) (Subsingleton.elim _ _) (Subsingleton.elim _ _)

/-- What a device adds to the loss: its one-cell array, reshaped. -/
theorem operand_eq (i : S_.Idx) : (at₂ m c (Proc.devRef .tc main_v2) : S_.Idx → Elt F .f32) i
    = ((dat (at₀ m) c).arrAt 2 cfg0.N : S1x1.Idx → Elt F .f32) (ix2 0 0) := by
  have e : at₂ m c (Proc.devRef .tc main_v2) = shapeCast _ (at₁ m c (Proc.devRef .tc main_v1_0)) shapeCasts_S1x1_S_ := by
    unfold at₂
    after_results <;> rfl
  refine (congrFun e i).trans ?_
  refine (congrFun (congrArg (fun u => shapeCast S_ u shapeCasts_S1x1_S_) (Pipeline.afterRegion_arr (dat (at₀ m) c) (at₀ m c) winFacts0.arr_inj 2)) i).trans ?_
  exact congrArg ((dat (at₀ m) c).arrAt 2 cfg0.N : S1x1.Idx → Elt F .f32) (cell_eq _)

end Ends

section Value

open Cert.LossIdeal Cert.LossIdeal.Gen

variable (m : (ℓ : Loc nD τ sig) → Buf (Elt Ideal) ℓ)

theorem peer_eq (d : Dev nD) (j : Fin 8) : (ar0 (F := Ideal)).peer d j = j := by
  fin_cases d <;> fin_cases j <;> rfl

/-- A device's part of the loss. -/
def part (d : Fin 8) : EReal := ((dat (at₀ m) d).arrAt 2 cfg0.N : S1x1.Idx → EReal) (ix2 0 0)

/-- The devices' operands, folded in the order of the devices, are their sum. -/
theorem fold_eq (v : Fin 8 → S_.Idx → EReal) (i : S_.Idx) (t : Fin 8 → EReal) (h : ∀ j, v j i = t j) :
    ((ar0 (F := Ideal)).toResult ((ar0 (F := Ideal)).foldGroup v) : S_.Idx → EReal) i = (∑ d : Fin 8, t d : EReal) := by
  have g := AllReduce.Cfg.foldGroup_graded (ar0 (F := Ideal)) (M := EReal) (Grading.ofHom (fun e : EReal => e) fun _ _ => rfl) v i 0 t h
  exact g

/-- The loss is the sum of the devices' parts. -/
theorem loss_end (c : Dev nD) (i : S_.Idx) : (at₃ m c (Proc.devRef .tc main_v3) : S_.Idx → EReal) i = (∑ d : Fin 8, part m d : EReal) := by
  have h1 : at₃ m c (Proc.devRef .tc main_v3) = (ar0 (F := Ideal)).toResult ((ar0 (F := Ideal)).foldGroup fun j => at₂ m ((ar0 (F := Ideal)).peer c j) (Proc.devRef .tc main_v2)) :=
    (ar0 (F := Ideal)).after₀_result (at₂ m) c
  rw [h1]
  exact fold_eq _ _ _ fun j => by
    rw [peer_eq]
    exact operand_eq m j i

variable (X Y : (⟨2, ![32768, 1024]⟩ : Shape).Idx → EReal)
  (hX : ∀ c : Fin 8, m (c, Proc.devRef .tc main_arg0) = Layout.block ⟨2, ![4096, 1024]⟩ ⟨2, ![32768, 1024]⟩ 0 8 c X (by decide))
  (hY : ∀ c : Fin 8, m (c, Proc.devRef .tc main_arg1) = Layout.block ⟨2, ![4096, 1024]⟩ ⟨2, ![32768, 1024]⟩ 0 8 c Y (by decide))

include hX in
theorem devY_eq (c : Fin 8) (r : Fin 4096) (b : Fin 1024) : devY (at₀ m) c r b = X (ix2 ⟨c.val * 4096 + r.val, Stacked.row_lt rfl c r⟩ b) :=
  (congrFun (hX c) (ix2 r b)).trans (Stacked.rows_block rfl X c r b _)

include hY in
theorem devT_eq (c : Fin 8) (r : Fin 4096) (b : Fin 1024) : devT (at₀ m) c r b = Y (ix2 ⟨c.val * 4096 + r.val, Stacked.row_lt rfl c r⟩ b) :=
  (congrFun (hY c) (ix2 r b)).trans (Stacked.rows_block rfl Y c r b _)

/-- The mean of the squared errors of row `n` of the whole arrays. -/
def rowMean (n : ℕ) : EReal := if h : n < 32768 then mean (fun b => X (ix2 ⟨n, h⟩ b)) fun b => Y (ix2 ⟨n, h⟩ b) else 0

include hX hY in
theorem mean_eq (c : Fin 8) (r : Fin 4096) : mean (devY (at₀ m) c r) (devT (at₀ m) c r) = rowMean X Y (c.val * 4096 + r.val) := by
  unfold rowMean
  rw [dif_pos (Stacked.row_lt rfl c r)]
  exact congrArg₂ mean (funext fun b => devY_eq m X hX c r b) (funext fun b => devT_eq m Y hY c r b)

include hX hY in
/-- Every device's loss is the reference's. -/
theorem loss_eq (c : Dev nD) : at₃ m c (Proc.devRef .tc main_v3) = lossRef X Y := by
  funext i
  refine (loss_end m c i).trans (Eq.trans ?_ (lossRef_eq X Y i).symm)
  refine Eq.trans ?_ ((rows_sum (rowMean X Y)).trans (congrArg (fun e : EReal => half * e)
    (Finset.sum_congr (M := EReal) rfl fun r _ => by unfold rowMean; exact dif_pos r.isLt)))
  refine Finset.sum_congr (M := EReal) rfl fun d _ => (device_eq (at₀ m) d).trans (congrArg (fun e : EReal => half * e) ?_)
  exact Finset.sum_congr (M := EReal) rfl fun t _ => Finset.sum_congr (M := EReal) rfl fun a _ => mean_eq m X Y hX hY d (row t a)

include hX hY in
/-- A device's rows of the gradient are the reference's. -/
theorem grad_block (c : Fin 8) : at₃ m c (Proc.devRef .tc main_v1_1)
    = Layout.block ⟨2, ![4096, 1024]⟩ ⟨2, ![32768, 1024]⟩ 0 8 c (gradRef X Y) (by decide) := by
  refine (grad_end m c).trans ?_
  funext i
  obtain ⟨r, b, rfl⟩ : ∃ (r : Fin 4096) (b : Fin 1024), i = ix2 r b := ⟨i 0, i 1, ValueIdx.eq_ix2 i⟩
  refine (deviceGrad_eq (at₀ m) c r b).trans ?_
  rw [devY_eq m X hX, devT_eq m Y hY]
  exact (gradRef_eq X Y _ b).symm.trans (Stacked.rows_block rfl (gradRef X Y) c r b _).symm

end Value

/-! ## The claims -/

section Claims

variable {F : FTy → Type} [FloatOps F]

/-- The run: the arrays it ends with, and every counter at zero. -/
theorem run_ends (m : (ℓ : Loc Cert.LossIdeal.nD Cert.LossIdeal.τ Cert.LossIdeal.sig) → Buf (Elt F) ℓ) (g : Dev Cert.LossIdeal.nD → PrngReg) :
    θ_run (Cert.LossIdeal.defs (F := F)) (onTc (τ := Cert.LossIdeal.τ) (Cert.LossIdeal.main (F := F))) ⟨m, fun _ => 0, g⟩ (fun r =>
      (∀ c : Dev Cert.LossIdeal.nD,
        r.2.mem ((c.tc : Thread Cert.LossIdeal.nD Cert.LossIdeal.τ).loc Cert.LossIdeal.main_v3) = at₃ m c (Proc.devRef .tc Cert.LossIdeal.main_v3)
        ∧ r.2.mem ((c.tc : Thread Cert.LossIdeal.nD Cert.LossIdeal.τ).loc Cert.LossIdeal.main_v1_1) = at₃ m c (Proc.devRef .tc Cert.LossIdeal.main_v1_1)
        ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
        ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0) :=
  (θ_run Cert.LossIdeal.defs _ _).mono (fun _ h => ⟨fun c =>
    ⟨h.1 c _ (mem_uc _ (by decide)), h.1 c _ (mem_uc _ (by decide)), (h.1 c _ (mem_uc _ (by decide))).trans (arg0_end m c),
      (h.1 c _ (mem_uc _ (by decide))).trans (arg1_end m c)⟩, h.2⟩) (run_main m g)

end Claims

theorem frame_ideal : Cert.quiescent_LossIdeal := fun m g _ =>
  (θ_run _ _ _).mono (fun _ h => ⟨fun c => (h.1 c).2.2, h.2⟩) (run_ends (F := Ideal) m g)

theorem frame_kernel : Cert.quiescent_Loss := fun m g _ => by
  rw [tables]
  exact (θ_run _ _ _).mono (fun _ h => ⟨fun c => (h.1 c).2.2, h.2⟩) (run_ends (F := Bits) m g)

theorem frame_reference : Cert.quiescent_LossReferenceIdeal := fun m g _ =>
  (θ_run Cert.LossReferenceIdeal.defs _ _).mono (fun r h => ⟨fun c => (h c).2.2, sem_eq_zero_of_no_sems (by decide) r.2⟩)
    (Cert.LossReferenceIdeal.Value.run (F := Ideal) m g)

theorem algebraic : Cert.algebraic_LossIdeal_LossReferenceIdeal := fun m g m' g' _ h =>
  ⟨_, _, (θ_run Cert.LossIdeal.defs _ _).mono (fun _ hr c =>
      ⟨(hr.1 c).1.trans (loss_eq m _ _ (fun d => (h d).1) (fun d => (h d).2) c),
        (hr.1 c).2.1.trans (grad_block m _ _ (fun d => (h d).1) (fun d => (h d).2) c), (hr.1 c).2.2⟩) (run_ends (F := Ideal) m g),
    (θ_run Cert.LossReferenceIdeal.defs _ _).mono (fun _ hr => hr 0) (Cert.LossReferenceIdeal.Value.run (F := Ideal) m' g')⟩

end Cert.LossAlgebraic

end
-- ==== Proof.AttendAlgebraic.lean ====
/-
  The attention of the rows to the memory, between its two projections, against its reference: eight blocks of 512 rows, each
  with its own batch's 256 memory rows and four heads, are the attention of the whole arrays.
-/
module

public import proofs.«01_k».proof.Proof.Gen.Attend.Frame
public import proofs.«01_k».proof.Proof.Gen.AttendIdeal.Value
public import proofs.«01_k».proof.Proof.Gen.AttendReferenceIdeal.Run
public import proofs.«01_k».proof.Defs
public import Idealize.ShloMosaic.Lib.VecWindow
public import Idealize.ShloMosaic.Lib.Pointwise
public import Idealize.ShloMosaic.PureOps.Ideal.Laws

@[expose] public section

set_option maxRecDepth 65536

noncomputable section

namespace Cert.AttendAlgebraic

open Cert.AttendIdeal Cert.AttendIdeal.Gen Cert.AttendIdeal.Value
open Idealize.ShloMosaic Idealize.ShloMosaic.TcCoe Idealize.SL.Sem

/-! ## One row of one head -/

/-- The scaled products of a query with the keys. -/
def score (Q : Fin 256 → EReal) (K : Fin 256 → Fin 256 → EReal) (l : Fin 256) : EReal := (∑ x, Q x * K l x) * Ideal.ofBits .f32 0x3D800000#32
/-- The exponential of a score's distance to the greatest. -/
def up (s : Fin 256 → EReal) (l : Fin 256) : EReal := Ideal.exp (s l - Finset.univ.fold max (Ideal.ofBits .f32 0xFF800000#32) s)
/-- The values, weighted by the softmax of the scores. -/
def mix (Q : Fin 256 → EReal) (K V : Fin 256 → Fin 256 → EReal) (j : Fin 256) : EReal :=
  ∑ l, Ideal.div (up (score Q K) l) (∑ k, up (score Q K) k) * V l j

theorem mix_congr {Q Q' : Fin 256 → EReal} {K K' V V' : Fin 256 → Fin 256 → EReal} {j j' : Fin 256} (hQ : ∀ z, Q z = Q' z)
    (hK : ∀ l z, K l z = K' l z) (hV : ∀ l z, V l z = V' l z) (hj : j = j') : mix Q K V j = mix Q' K' V' j' := by
  obtain rfl : Q = Q' := funext hQ
  obtain rfl : K = K' := funext fun l => funext (hK l)
  obtain rfl : V = V' := funext fun l => funext (hV l)
  rw [hj]

/-- Column `z` of head `h`: of the queries and the result, of the keys, and of the values, which stand after all the keys. -/
abbrev col (h : Fin 4) (z : Fin 256) : Fin 1024 := ⟨h.val * 256 + z.val, by omega⟩
abbrev keyCol (h : Fin 4) (z : Fin 256) : Fin 2048 := ⟨h.val * 256 + z.val, by omega⟩
abbrev valCol (h : Fin 4) (z : Fin 256) : Fin 2048 := ⟨1024 + (h.val * 256 + z.val), by omega⟩
/-- Row `l` of the memory that row `R` of the queries attends to: its batch's. -/
abbrev mem (R : Fin 4096) (l : Fin 256) : Fin 512 := ⟨R.val / 2048 * 256 + l.val, by omega⟩

theorem col_of (C : Fin 1024) : ∃ (h : Fin 4) (j : Fin 256), col h j = C := by
  have hr := C.isLt
  exact ⟨⟨C.val / 256, by omega⟩, ⟨C.val % 256, Nat.mod_lt _ (by decide)⟩, Fin.ext (Nat.div_add_mod' C.val 256)⟩

/-! ## One head of one block -/

section Head

variable {F : FTy → Type} [FloatOps F] (q : FVec F S512x256 .bf16) (k v : FVec F S256x256 .bf16)

/-- The scaled scores of a block's rows. -/
def scores : FVec F S512x256 .f32 :=
  mulf (matmul dot_S512x256_S256x256_S512x256_1_1_0_0_n_n none q k (constant S512x256 .f32 0x00000000#32)) (broadcast S512x256 (Scalar.ofBits .f32 0x3D800000#32))
/-- The exponentials of the scores, less each row's greatest. -/
def raised : FVec F S512x256 .f32 :=
  exp (subf (scores q k) (broadcastTo S512x256 (shapeCast S512x1
    (multiReduction .maximumf [1] S512 (scores q k) 0xFF800000#32 reduces_S512x256_S512 (.inl rfl) rfl) shapeCasts_S512_S512x1) broadcasts_S512x1_S512x256))
/-- One head's part of the block's result. -/
def head : FVec F S512x256 .f32 :=
  matmul dot_S512x256_S256x256_S512x256_1_0_0_1_n_n none (truncf .bf16 (divf (raised q k) (broadcastTo S512x256 (shapeCast S512x1
    (multiReduction .add [1] S512 (raised q k) 0x00000000#32 reduces_S512x256_S512 (.inl rfl) rfl) shapeCasts_S512_S512x1) broadcasts_S512x1_S512x256)) bitsLt_bf16_f32)
    v (constant S512x256 .f32 0x00000000#32)

end Head

theorem scores_eq (q : FVec Ideal S512x256 .bf16) (k : FVec Ideal S256x256 .bf16) (a : Fin 512) (b : Fin 256) :
    (scores q k (ix2 a b) : EReal) = score (fun x => q (ix2 a x)) (fun l x => k (ix2 l x)) b := by
  unfold scores score
  pointwise
theorem raised_eq (q : FVec Ideal S512x256 .bf16) (k : FVec Ideal S256x256 .bf16) (a : Fin 512) (b : Fin 256) :
    (raised q k (ix2 a b) : EReal) = up (score (fun x => q (ix2 a x)) (fun l x => k (ix2 l x))) b := by
  rw [← funext (scores_eq q k a)]
  unfold raised up
  generalize scores q k = s
  pointwise
theorem head_eq (q : FVec Ideal S512x256 .bf16) (k v : FVec Ideal S256x256 .bf16) (a : Fin 512) (b : Fin 256) :
    (head q k v (ix2 a b) : EReal) = mix (fun x => q (ix2 a x)) (fun l x => k (ix2 l x)) (fun l x => v (ix2 l x)) b := by
  unfold mix
  rw [← funext (raised_eq q k a)]
  unfold head
  generalize raised q k = s
  pointwise

/-! ## One block -/

theorem zero2 : (![0, 0] : Fin 2 → ℕ) = fun _ => 0 := by funext a; fin_cases a <;> rfl

section Block

variable (x : Vec Ideal S512x1024 .f32) (y : Vec Ideal S256x2048 .f32) (a : Fin 512) (j : Fin 256)

/-- The four heads of a block. -/
def head0 : FVec Ideal S512x256 .f32 := head (truncf .bf16 (extractStridedSlice S512x256 ![0, 0] x slices_S512x1024_o0_0_S512x256) bitsLt_bf16_f32)
  (truncf .bf16 (extractStridedSlice S256x256 ![0, 0] y slices_S256x2048_o0_0_S256x256) bitsLt_bf16_f32)
  (truncf .bf16 (extractStridedSlice S256x256 ![0, 1024] y slices_S256x2048_o0_1024_S256x256) bitsLt_bf16_f32)
def head1 : FVec Ideal S512x256 .f32 := head (truncf .bf16 (extractStridedSlice S512x256 ![0, 256] x slices_S512x1024_o0_256_S512x256) bitsLt_bf16_f32)
  (truncf .bf16 (extractStridedSlice S256x256 ![0, 256] y slices_S256x2048_o0_256_S256x256) bitsLt_bf16_f32)
  (truncf .bf16 (extractStridedSlice S256x256 ![0, 1280] y slices_S256x2048_o0_1280_S256x256) bitsLt_bf16_f32)
def head2 : FVec Ideal S512x256 .f32 := head (truncf .bf16 (extractStridedSlice S512x256 ![0, 512] x slices_S512x1024_o0_512_S512x256) bitsLt_bf16_f32)
  (truncf .bf16 (extractStridedSlice S256x256 ![0, 512] y slices_S256x2048_o0_512_S256x256) bitsLt_bf16_f32)
  (truncf .bf16 (extractStridedSlice S256x256 ![0, 1536] y slices_S256x2048_o0_1536_S256x256) bitsLt_bf16_f32)
def head3 : FVec Ideal S512x256 .f32 := head (truncf .bf16 (extractStridedSlice S512x256 ![0, 768] x slices_S512x1024_o0_768_S512x256) bitsLt_bf16_f32)
  (truncf .bf16 (extractStridedSlice S256x256 ![0, 768] y slices_S256x2048_o0_768_S256x256) bitsLt_bf16_f32)
  (truncf .bf16 (extractStridedSlice S256x256 ![0, 1792] y slices_S256x2048_o0_1792_S256x256) bitsLt_bf16_f32)

/-- What head `h` gives a row of the block. -/
abbrev part (h : Fin 4) : EReal := mix (fun z => x (ix2 a (col h z))) (fun l z => y (ix2 l (keyCol h z))) (fun l z => y (ix2 l (valCol h z))) j

theorem head0_eq : (head0 x y (ix2 a j) : EReal) = part x y a j 0 := by
  refine (head_eq _ _ _ a j).trans (mix_congr (fun z => ?_) (fun l z => ?_) (fun l z => ?_) rfl)
  · pointwise
    exact congrArg (fun c => (x (ix2 a c) : EReal)) (Fin.ext (by simp [col]))
  · pointwise
    exact congrArg (fun c => (y (ix2 l c) : EReal)) (Fin.ext (by simp [keyCol]))
  · pointwise
    exact congrArg (fun c => (y (ix2 l c) : EReal)) (Fin.ext (by simp [valCol]; try omega))
theorem head1_eq : (head1 x y (ix2 a j) : EReal) = part x y a j 1 := by
  refine (head_eq _ _ _ a j).trans (mix_congr (fun z => ?_) (fun l z => ?_) (fun l z => ?_) rfl)
  · pointwise
    exact congrArg (fun c => (x (ix2 a c) : EReal)) (Fin.ext (by simp [col]))
  · pointwise
    exact congrArg (fun c => (y (ix2 l c) : EReal)) (Fin.ext (by simp [keyCol]))
  · pointwise
    exact congrArg (fun c => (y (ix2 l c) : EReal)) (Fin.ext (by simp [valCol]; try omega))
theorem head2_eq : (head2 x y (ix2 a j) : EReal) = part x y a j 2 := by
  refine (head_eq _ _ _ a j).trans (mix_congr (fun z => ?_) (fun l z => ?_) (fun l z => ?_) rfl)
  · pointwise
    exact congrArg (fun c => (x (ix2 a c) : EReal)) (Fin.ext (by simp [col]))
  · pointwise
    exact congrArg (fun c => (y (ix2 l c) : EReal)) (Fin.ext (by simp [keyCol]))
  · pointwise
    exact congrArg (fun c => (y (ix2 l c) : EReal)) (Fin.ext (by simp [valCol]; try omega))
theorem head3_eq : (head3 x y (ix2 a j) : EReal) = part x y a j 3 := by
  refine (head_eq _ _ _ a j).trans (mix_congr (fun z => ?_) (fun l z => ?_) (fun l z => ?_) rfl)
  · pointwise
    exact congrArg (fun c => (x (ix2 a c) : EReal)) (Fin.ext (by simp [col]))
  · pointwise
    exact congrArg (fun c => (y (ix2 l c) : EReal)) (Fin.ext (by simp [keyCol]))
  · pointwise
    exact congrArg (fun c => (y (ix2 l c) : EReal)) (Fin.ext (by simp [valCol]; try omega))

/-- A block's result: the heads, side by side. -/
theorem out_eq (h : Fin 4) : (out0_2 x y (ix2 a (col h j)) : EReal) = part x y a j h := by
  unfold out0_2
  rw [View.canon_cons_unit_zero zero2, View.ld_unit_zero zero2, View.ld_unit_zero zero2]
  show (truncf .bf16 (concatenate S512x1024 1 [⟨S512x256, head0 x y⟩, ⟨S512x256, head1 x y⟩, ⟨S512x256, head2 x y⟩, ⟨S512x256, head3 x y⟩]
    concatenates_S512x256_S512x256_S512x256_S512x256_S512x1024_d1) bitsLt_bf16_f32 (ix2 a (col h j)) : EReal) = _
  have e0 := head0_eq x y a
  have e1 := head1_eq x y a
  have e2 := head2_eq x y a
  have e3 := head3_eq x y a
  generalize head0 x y = h0 at *
  generalize head1 x y = h1 at *
  generalize head2 x y = h2 at *
  generalize head3 x y = h3 at *
  have hj := j.isLt
  pointwise
  match h with
  | 0 =>
    rw [dif_pos (by show 0 * 256 + j.val < 256; omega)]
    exact (congrArg (fun b => (h0 (ix2 a b) : EReal)) (Fin.ext (by show 0 * 256 + j.val = j.val; omega))).trans (e0 j)
  | 1 =>
    rw [dif_neg (by show ¬ 1 * 256 + j.val < 256; omega), dif_pos (by show 1 * 256 + j.val - 256 < 256; omega)]
    exact (congrArg (fun b => (h1 (ix2 a b) : EReal)) (Fin.ext (by show 1 * 256 + j.val - 256 = j.val; omega))).trans (e1 j)
  | 2 =>
    rw [dif_neg (by show ¬ 2 * 256 + j.val < 256; omega), dif_neg (by show ¬ 2 * 256 + j.val - 256 < 256; omega),
      dif_pos (by show 2 * 256 + j.val - 256 - 256 < 256; omega)]
    exact (congrArg (fun b => (h2 (ix2 a b) : EReal)) (Fin.ext (by show 2 * 256 + j.val - 256 - 256 = j.val; omega))).trans (e2 j)
  | 3 =>
    rw [dif_neg (by show ¬ 3 * 256 + j.val < 256; omega), dif_neg (by show ¬ 3 * 256 + j.val - 256 < 256; omega),
      dif_neg (by show ¬ 3 * 256 + j.val - 256 - 256 < 256; omega)]
    exact (congrArg (fun b => (h3 (ix2 a b) : EReal)) (Fin.ext (by show 3 * 256 + j.val - 256 - 256 - 256 = j.val; omega))).trans (e3 j)

end Block

/-! ## The array at the end -/

/-- Row `a` of block `t`. -/
abbrev row (t : Fin cfg0.N) (a : Fin 512) : Fin 4096 := ⟨t.val * 512 + a.val, by have := t.isLt; have h : cfg0.N = 8 := rfl; omega⟩

theorem row_of (r : Fin 4096) : ∃ (t : Fin cfg0.N) (a : Fin 512), row t a = r := by
  have hN : cfg0.N = 8 := rfl
  have hr := r.isLt
  exact ⟨⟨r.val / 512, by omega⟩, ⟨r.val % 512, Nat.mod_lt _ (by decide)⟩, Fin.ext (Nat.div_add_mod' r.val 512)⟩

theorem index_0 : ∀ t : Fin grid0.N, win0_0.index t 0 = t.val ∧ win0_0.index t 1 = 0 := by decide +kernel
theorem index_1 : ∀ t : Fin grid0.N, win0_1.index t 0 = t.val / 4 ∧ win0_1.index t 1 = 0 := by decide +kernel
theorem flush : ∀ t : Fin cfg0.N, (cfg0.win 2).flush t = true := (by decide +kernel : ∀ t : Fin grid0.N, win0_2.flush t = true)

/-- The blocks of the queries and of the result are the same rows. -/
theorem emb_0 (t : Fin cfg0.N) (a : Fin 512) (b : Fin 1024) : (win0_0.rect t).emb (ix2 a b) = (ix2 (row t a) b : S4096x1024.Idx) := by
  refine funext fun x => Fin.ext ?_
  obtain ⟨h0, h1⟩ := index_0 t
  refine (win0_0.rect_emb_val t (ix2 a b) x rfl).trans ?_
  fin_cases x
  · show win0_0.index t 0 * 512 + a.val = _; rw [h0]; rfl
  · show win0_0.index t 1 * 1024 + b.val = _; rw [h1]; simp

theorem emb_1 (t : Fin cfg0.N) (a : Fin 512) (l : Fin 256) (b : Fin 2048) : (win0_1.rect t).emb (ix2 l b) = (ix2 (mem (row t a) l) b : S512x2048.Idx) := by
  refine funext fun x => Fin.ext ?_
  obtain ⟨h0, h1⟩ := index_1 t
  refine (win0_1.rect_emb_val t (ix2 l b) x rfl).trans ?_
  fin_cases x
  · show win0_1.index t 0 * 256 + l.val = (t.val * 512 + a.val) / 2048 * 256 + l.val; rw [h0]; have := a.isLt; omega
  · show win0_1.index t 1 * 2048 + b.val = _; rw [h1]; simp

section Ends

variable (m : (ℓ : Loc nD τ sig) → Buf (Elt Ideal) ℓ) (c : Dev nD) (t : Fin cfg0.N)

/-- The queries, and the keys and values, as numbers. -/
def Q (r : Fin 4096) (l : Fin 1024) : EReal := (m ((c : Thread nD τ).loc main_arg0) : S4096x1024.Idx → EReal) (ix2 r l)
def KV (r : Fin 512) (l : Fin 2048) : EReal := (m ((c : Thread nD τ).loc main_arg1) : S512x2048.Idx → EReal) (ix2 r l)

theorem blk_0 (a : Fin 512) (b : Fin 1024) : (iblk m c 0 t : S512x1024.Idx → EReal) (ix2 a b) = Q m c (row t a) b := by
  show (V m c main_arg0 : S4096x1024.Idx → EReal) ((win0_0.rect t).emb (ix2 a b)) = _
  rw [emb_0, V_main_arg0]
  rfl
theorem blk_1 (a : Fin 512) (l : Fin 256) (b : Fin 2048) : (iblk m c 1 t : S256x2048.Idx → EReal) (ix2 l b) = KV m c (mem (row t a) l) b := by
  show (V m c main_arg1 : S512x2048.Idx → EReal) ((win0_1.rect t).emb (ix2 l b)) = _
  rw [emb_1 t a, V_main_arg1]
  rfl

/-- The result, at a row and a column of a head. -/
theorem end_eq (r : Fin 4096) (h : Fin 4) (j : Fin 256) : ((dats m 0 c).arrAt 2 cfg0.N : S4096x1024.Idx → EReal) (ix2 r (col h j))
    = mix (fun z => Q m c r (col h z)) (fun l z => KV m c (mem r l) (keyCol h z)) (fun l z => KV m c (mem r l) (valCol h z)) j := by
  obtain ⟨t, a, rfl⟩ := row_of r
  have e := congrFun ((blocks2 m c t (flush t)).trans (flushed2 m c t)) (ix2 a (col h j))
  refine (congrArg ((dats m 0 c).arrAt 2 cfg0.N : S4096x1024.Idx → EReal) (emb_0 t a (col h j))).symm.trans (e.trans ?_)
  exact (out_eq _ _ a j h).trans (mix_congr (fun z => blk_0 m c t a _) (fun l z => blk_1 m c t a l _) (fun l z => blk_1 m c t a l _) rfl)

end Ends

/-! ## The reference -/

section Reference

open Cert.AttendReferenceIdeal.Facts₀ hiding bitsLt_bf16_f32
open Cert.AttendReferenceIdeal (S2x2048x4x256 S2x256x2048 S2x256x1024 S2x256x4x256 S2x4x2048x256 S2x4x2048 S2x4x2048x1 S2x4x256x2048 S_
  dot_S2x2048x4x256_S2x256x4x256_S2x4x2048x256_3_3_1_1_02_02 dot_S2x256x4x256_S2x4x2048x256_S2x4x256x2048_1_3_3_2_02_01)

variable (n : Fin 2) (r : Fin 2048) (h : Fin 4) (j l : Fin 256)

/-- The reference's scores. -/
def refScores (q : FVec Ideal S2x2048x4x256 .f32) (k : FVec Ideal S2x256x4x256 .f32) : FVec Ideal S2x4x2048x256 .f32 :=
  mulf (Host.dotGeneral dot_S2x2048x4x256_S2x256x4x256_S2x4x2048x256_3_3_1_1_02_02 none q k) (broadcastInDim S2x4x2048x256 ![] bcast_S_S2x4x2048x256 (constant S_ .f32 0x3D800000#32))
/-- The greatest score of each row, and the same once more compared with the least of all numbers. -/
def refMax (s : FVec Ideal S2x4x2048x256 .f32) : FVec Ideal S2x4x2048 .f32 :=
  Host.reduce FloatOps.maximumf s (constant S_ .f32 0xFF800000#32) reducesTo_S2x4x2048x256_S2x4x2048_d3 h_S_
def refTop (s : FVec Ideal S2x4x2048x256 .f32) : FVec Ideal S2x4x2048 .f32 :=
  maximumf (broadcastInDim S2x4x2048 ![] bcast_S_S2x4x2048 (constant S_ .f32 0xFF800000#32)) (refMax s)
/-- A number for each row, along the row. -/
def along (u : FVec Ideal S2x4x2048 .f32) : FVec Ideal S2x4x2048x256 .f32 :=
  broadcastInDim S2x4x2048x256 ![0, 1, 2, 3] bcast_S2x4x2048x1_S2x4x2048x256_0_1_2_3 (broadcastInDim S2x4x2048x1 ![0, 1, 2] bcast_S2x4x2048_S2x4x2048x1_0_1_2 u)
def refUp (s : FVec Ideal S2x4x2048x256 .f32) : FVec Ideal S2x4x2048x256 .f32 := Host.exp (subf s (along (refTop s)))
def refWeight (e : FVec Ideal S2x4x2048x256 .f32) : FVec Ideal S2x4x2048x256 .f32 :=
  Host.divf e (along (Host.reduceAdd e (constant S_ .f32 0x00000000#32) reducesTo_S2x4x2048x256_S2x4x2048_d3 h_S_))
/-- The four heads of every row. -/
def refHeads (w : FVec Ideal S2x4x2048x256 .f32) (v : FVec Ideal S2x256x4x256 .f32) : FVec Ideal S2x2048x4x256 .f32 :=
  transpose S2x2048x4x256 [0, 3, 1, 2] (Host.dotGeneral dot_S2x256x4x256_S2x4x2048x256_S2x4x256x2048_1_3_3_2_02_01 none v w) transposes_S2x4x256x2048_S2x2048x4x256_0_3_1_2

theorem refScores_eq (q : FVec Ideal S2x2048x4x256 .f32) (k : FVec Ideal S2x256x4x256 .f32) :
    (refScores q k (ix4 n h r l) : EReal) = score (fun x => q (ix4 n r h x)) (fun l x => k (ix4 n l h x)) l := by
  unfold refScores score
  pointwise

theorem reduces : S2x4x2048x256.Reduces [3] S2x4x2048 := by decide
theorem refMax_eq (s : FVec Ideal S2x4x2048x256 .f32) : (refMax s (ix3 n h r) : EReal)
    = Finset.univ.fold max (Ideal.ofBits .f32 0xFF800000#32) (fun x : Fin 256 => (s (ix4 n h r x) : EReal)) := by
  unfold refMax
  refine (Host.reduce_eq_fold_single (FloatOps.maximumf (F := Ideal) (φ := .f32)) s (constant S_ .f32 0xFF800000#32) reducesTo_S2x4x2048x256_S2x4x2048_d3
    reduces h_S_ (ix3 n h r)).trans ?_
  have hl : (s ∘ reduces.lift (ix3 n h r)) = fun x : Fin 256 => s (ix4 n h r x) := by
    funext x
    refine congrArg s (funext fun a => ?_)
    fin_cases a <;> rfl
  rw [hl]
  rfl
theorem max_at (u v : FVec Ideal S2x4x2048 .f32) (i : S2x4x2048.Idx) : (maximumf u v i : EReal) = max (u i : EReal) (v i) := by pointwise
theorem fill_at (w : BitVec 32) (i : S2x4x2048.Idx) :
    (broadcastInDim S2x4x2048 ![] bcast_S_S2x4x2048 (constant (F := Ideal) S_ .f32 w) i : EReal) = Ideal.ofBits .f32 w := by
  pointwise
theorem refTop_eq (s : FVec Ideal S2x4x2048x256 .f32) : (refTop s (ix3 n h r) : EReal)
    = Finset.univ.fold max (Ideal.ofBits .f32 0xFF800000#32) (fun x : Fin 256 => (s (ix4 n h r x) : EReal)) := by
  have e := max_at (broadcastInDim S2x4x2048 ![] bcast_S_S2x4x2048 (constant (F := Ideal) S_ .f32 0xFF800000#32)) (refMax s) (ix3 n h r)
  unfold refTop
  rw [e, refMax_eq, fill_at]
  generalize Ideal.ofBits .f32 0xFF800000#32 = z
  exact max_eq_right ((Finset.le_fold_max z).mpr (Or.inl le_rfl))
theorem along_at (u : FVec Ideal S2x4x2048 .f32) : (along u (ix4 n h r l) : EReal) = u (ix3 n h r) := by
  unfold along
  pointwise
theorem refUp_eq (s : FVec Ideal S2x4x2048x256 .f32) : (refUp s (ix4 n h r l) : EReal) = up (fun x => s (ix4 n h r x)) l := by
  unfold up
  rw [← refTop_eq n r h s, ← along_at n r h l (refTop s)]
  unfold refUp
  generalize along (refTop s) = u
  pointwise
theorem refWeight_eq (e : FVec Ideal S2x4x2048x256 .f32) : (refWeight e (ix4 n h r l) : EReal) = Ideal.div (e (ix4 n h r l)) (∑ x : Fin 256, (e (ix4 n h r x) : EReal)) := by
  unfold refWeight along
  pointwise
theorem refHeads_eq (w : FVec Ideal S2x4x2048x256 .f32) (v : FVec Ideal S2x256x4x256 .f32) : (refHeads w v (ix4 n r h j) : EReal)
    = (∑ x : Fin 256, (v (ix4 n x h j) : EReal) * w (ix4 n h r x) : EReal) := by
  unfold refHeads
  pointwise

/-- A row of a head, in the reference. -/
theorem refMix (q : FVec Ideal S2x2048x4x256 .f32) (k v : FVec Ideal S2x256x4x256 .f32) : (refHeads (refWeight (refUp (refScores q k))) v (ix4 n r h j) : EReal)
    = mix (fun x => q (ix4 n r h x)) (fun l x => k (ix4 n l h x)) (fun l x => v (ix4 n l h x)) j := by
  rw [refHeads_eq]
  unfold mix
  refine Finset.sum_congr (M := EReal) rfl fun x _ => ?_
  have hs : (fun x => (refScores q k (ix4 n h r x) : EReal)) = score (fun x => q (ix4 n r h x)) (fun l x => k (ix4 n l h x)) :=
    funext fun l => refScores_eq n r h l q k
  have hu : (fun x => (refUp (refScores q k) (ix4 n h r x) : EReal)) = up (score (fun x => q (ix4 n r h x)) (fun l x => k (ix4 n l h x))) :=
    funext fun l => (refUp_eq n r h l _).trans (congrArg (fun s => up s l) hs)
  rw [← hu, refWeight_eq]
  exact mul_comm _ _

variable (Q : FVec Ideal S4096x1024 .f32) (KV : FVec Ideal S512x2048 .f32)

/-- The queries, the keys and the values by batch, row, head and column. -/
def refQ : FVec Ideal S2x2048x4x256 .f32 := shapeCast _ Q shapeCasts_S4096x1024_S2x2048x4x256
def refK : FVec Ideal S2x256x4x256 .f32 := shapeCast _ (extractStridedSlice S2x256x1024 ![0, 0, 0] (shapeCast _ KV shapeCasts_S512x2048_S2x256x2048)
  slices_S2x256x2048_S2x256x1024_0_0_0) shapeCasts_S2x256x1024_S2x256x4x256
def refV : FVec Ideal S2x256x4x256 .f32 := shapeCast _ (extractStridedSlice S2x256x1024 ![0, 0, 1024] (shapeCast _ KV shapeCasts_S512x2048_S2x256x2048)
  slices_S2x256x2048_S2x256x1024_0_0_1024) shapeCasts_S2x256x1024_S2x256x4x256
/-- The reference's result. -/
def refAll : FVec Ideal S4096x1024 .bf16 :=
  truncf .bf16 (shapeCast _ (refHeads (refWeight (refUp (refScores (refQ Q) (refK KV)))) (refV KV)) shapeCasts_S2x2048x4x256_S4096x1024) bitsLt_bf16_f32

theorem flat_at (v : FVec Ideal S2x2048x4x256 .f32) (R : Fin 4096) (C : Fin 1024) :
    (truncf .bf16 (shapeCast S4096x1024 v shapeCasts_S2x2048x4x256_S4096x1024) bitsLt_bf16_f32 (ix2 R C) : EReal)
      = v (ix4 ⟨R.val / 2048, by omega⟩ ⟨R.val % 2048, by omega⟩ ⟨C.val / 256, by omega⟩ ⟨C.val % 256, by omega⟩) := by
  pointwise
theorem refQ_at : (refQ Q (ix4 n r h j) : EReal) = Q (ix2 ⟨n.val * 2048 + r.val, by omega⟩ (col h j)) := by
  unfold refQ
  pointwise
theorem refK_at : (refK KV (ix4 n l h j) : EReal) = KV (ix2 ⟨n.val * 256 + l.val, by omega⟩ (keyCol h j)) := by
  unfold refK
  pointwise
theorem refV_at : (refV KV (ix4 n l h j) : EReal) = KV (ix2 ⟨n.val * 256 + l.val, by omega⟩ (valCol h j)) := by
  unfold refV
  pointwise

theorem refAll_eq (R : Fin 4096) : (refAll Q KV (ix2 R (col h j)) : EReal)
    = mix (fun z => Q (ix2 R (col h z))) (fun l z => KV (ix2 (mem R l) (keyCol h z))) (fun l z => KV (ix2 (mem R l) (valCol h z))) j := by
  unfold refAll
  rw [flat_at, refMix]
  have hh : (⟨(col h j).val / 256, by omega⟩ : Fin 4) = h := Fin.ext (by show (h.val * 256 + j.val) / 256 = h.val; omega)
  rw [hh]
  refine mix_congr (fun z => ?_) (fun l z => refK_at _ h z l KV) (fun l z => refV_at _ h z l KV) (Fin.ext (by show (h.val * 256 + j.val) % 256 = j.val; omega))
  refine (refQ_at _ _ h z Q).trans (congrArg (fun R => (Q (ix2 R (col h z)) : EReal)) (Fin.ext ?_))
  show R.val / 2048 * 2048 + R.val % 2048 = R.val
  omega

end Reference

/-! ## The claims -/

theorem frame_kernel : Cert.quiescent_Attend := fun m g _ => Cert.Attend.Gen.frame m g
theorem frame_ideal : Cert.quiescent_AttendIdeal := fun m g _ => Cert.AttendIdeal.Gen.frame m g
theorem frame_reference : Cert.quiescent_AttendReferenceIdeal := fun m g _ =>
  (θ_run Cert.AttendReferenceIdeal.defs _ _).mono (fun r h => ⟨fun c => (h c).2, sem_eq_zero_of_no_sems (by decide) r.2⟩)
    (Cert.AttendReferenceIdeal.Value.run (F := Ideal) m g)

section Whole

variable (m : (ℓ : Loc nD τ sig) → Buf (Elt Ideal) ℓ) (c : Dev nD) (X : S4096x1024.Idx → EReal) (Y : S512x2048.Idx → EReal)
  (hX : X = m ((c : Thread nD τ).loc main_arg0)) (hY : Y = m ((c : Thread nD τ).loc main_arg1))

include hX hY in
theorem whole : (dats m 0 c).arrAt 2 cfg0.N = refAll X Y := by
  funext i
  obtain ⟨r, b, rfl⟩ : ∃ (r : Fin 4096) (b : Fin 1024), i = ix2 r b := ⟨i 0, i 1, eq_ix2 i⟩
  obtain ⟨h, j, rfl⟩ := col_of b
  subst hX hY
  exact (end_eq m c r h j).trans (refAll_eq h j _ _ r).symm

end Whole

theorem algebraic : Cert.algebraic_AttendIdeal_AttendReferenceIdeal := by
  intro m g m' g' _ h
  refine ⟨_, (θ_run Cert.AttendIdeal.defs _ _).mono (fun r hr c => ?_) (run_blocks (F := Ideal) m g),
    Cert.AttendReferenceIdeal.Value.run (F := Ideal) m' g'⟩
  obtain ⟨hX, hY⟩ := h c
  obtain ⟨h2, hr⟩ := hr c
  exact ⟨h2.trans (whole m c _ _ hX hY), hr⟩

end Cert.AttendAlgebraic

end
-- ==== Proof.SguAlgebraic.lean ====
/-
  The spatial gating of the mixer's projection, against its reference: thirty-two chunks of 128 rows, each gated on its own, are the
  gating of the whole array.
-/
module

public import proofs.«01_k».proof.Proof.Gen.Sgu.Frame
public import proofs.«01_k».proof.Proof.Gen.SguIdeal.Value
public import proofs.«01_k».proof.Proof.Gen.SguReferenceIdeal.Run
public import proofs.«01_k».proof.Defs
public import Idealize.ShloMosaic.Lib.VecWindow
public import Idealize.ShloMosaic.Lib.Pointwise
public import Idealize.ShloMosaic.PureOps.Ideal.Laws

@[expose] public section

set_option maxRecDepth 65536

noncomputable section

namespace Cert.SguAlgebraic

open Cert.SguIdeal Cert.SguIdeal.Gen Cert.SguIdeal.Value
open Idealize.ShloMosaic Idealize.ShloMosaic.TcCoe Idealize.SL.Sem

/-! ## One row -/

/-- The Gaussian error unit of a number. -/
def gelu (x : EReal) : EReal := Ideal.ofBits .f32 0x3F000000#32 * x * (1 + Ideal.erf (x * Ideal.ofBits .f32 0x3F3504F3#32))
/-- A row's distance to its mean, and the row brought to mean zero and variance one. -/
def apart (s : Fin 1024 → EReal) (k : Fin 1024) : EReal := s k - Ideal.div (∑ l, s l) (Ideal.ofBits .f32 0x44800000#32)
def normed (s : Fin 1024 → EReal) (g b : EReal) (k : Fin 1024) : EReal :=
  apart s k * Ideal.rsqrt (Ideal.div (∑ l, apart s l * apart s l) (Ideal.ofBits .f32 0x44800000#32) + Ideal.ofBits .f32 0x3727C5AC#32) * g + b

theorem one : Ideal.ofBits .f32 0x3F800000#32 = 1 := by simp [Ideal.ofBits, Ideal.ieee, -EReal.coe_mul]; norm_num

/-- The group of a column, and its place within the group. -/
abbrev grp (k : Fin 1024) : Fin 8 := ⟨k.val / 128, by omega⟩
abbrev within (k : Fin 1024) : Fin 128 := ⟨k.val % 128, by omega⟩

/-! ## One block -/

section Block

variable (u v : Vec Ideal S128x1024 .f32) (g b : Vec Ideal S1x1024 .f32) (w : Vec Ideal S8x128x128 .f32) (z : Vec Ideal S128x8 .f32)
  (a : Fin 128) (k : Fin 1024)

theorem gelu_eq : (k0_pay4 u (ix2 a k) : EReal) = gelu (u (ix2 a k)) := by
  have h : (k0_pay4 u (ix2 a k) : EReal) = Ideal.ofBits .f32 0x3F000000#32 * u (ix2 a k)
      * (Ideal.ofBits .f32 0x3F800000#32 + Ideal.erf (u (ix2 a k) * Ideal.ofBits .f32 0x3F3504F3#32)) := by
    pointwise [k0_pay4]
    rfl
  rw [h, one]
  rfl

/-- The distance to each row's mean. -/
def dist (s : FVec Ideal S128x1024 .f32) : FVec Ideal S128x1024 .f32 :=
  subf s (broadcastTo S128x1024 (divf (shapeCast S128x1 (multiReduction .add [1] S128 s 0x00000000#32 reduces_S128x1024_S128 (.inl rfl) rfl)
    shapeCasts_S128_S128x1) (broadcast S128x1 (Scalar.ofBits .f32 0x44800000#32))) broadcasts_S128x1_S128x1024)

theorem dist_eq (s : FVec Ideal S128x1024 .f32) : (dist s (ix2 a k) : EReal) = apart (fun l => s (ix2 a l)) k := by
  unfold dist apart
  pointwise
theorem apart_eq : (k0_pay5 v (ix2 a k) : EReal) = apart (fun l => gelu (v (ix2 a l))) k :=
  (dist_eq a k (k0_pay4 v)).trans (congrArg (fun f => apart f k) (funext fun l => gelu_eq v a l))

theorem scaled_eq (d : FVec Ideal S128x1024 .f32) (q : FVec Ideal S128x1 .f32) :
    (k0_pay7 (k0_pay1 g) (k0_pay2 b) d q (ix2 a k) : EReal)
      = (d (ix2 a k) : EReal) * Ideal.rsqrt (q (ix2 a 0) + Ideal.ofBits .f32 0x3727C5AC#32) * g (ix2 0 k) + b (ix2 0 k) := by
  pointwise [k0_pay7, k0_pay1, k0_pay2]
theorem spread_eq : (k0_pay6 v (ix2 a 0) : EReal)
    = Ideal.div (∑ l : Fin 1024, (k0_pay5 v (ix2 a l) : EReal) * k0_pay5 v (ix2 a l)) (Ideal.ofBits .f32 0x44800000#32) := by
  pointwise [k0_pay6]
theorem normed_eq : (k0_pay7 (k0_pay1 g) (k0_pay2 b) (k0_pay5 v) (k0_pay6 v) (ix2 a k) : EReal)
    = normed (fun l => gelu (v (ix2 a l))) (g (ix2 0 k)) (b (ix2 0 k)) k := by
  rw [scaled_eq, spread_eq]
  unfold normed
  rw [← funext fun l => apart_eq v a l]

end Block

section Mix

variable (M : IVec S128x128 1) (w : Vec Ideal S8x128x128 .f32) (z : Vec Ideal S128x8 .f32) (y : FVec Ideal S128x1024 .f32)
  (a b : Fin 128) (k : Fin 1024)

/-- One group of a chunk: a weight where the mask is set and zero elsewhere, times the rows, plus the group's shift. -/
def group (W : FVec Ideal S128x128 .f32) (Y : FVec Ideal S128x128 .f32) (Z : FVec Ideal S128x1 .f32) : FVec Ideal S128x128 .f32 :=
  addf (matmul dot_S128x128_S128x128_S128x128_1_0_0_1_n_n none
    (truncf .bf16 (select M W (broadcast S128x128 (Scalar.ofBits .f32 0x00000000#32))) bitsLt_bf16_f32) (truncf .bf16 Y bitsLt_bf16_f32)
    (constant S128x128 .f32 0x00000000#32)) (broadcastTo S128x128 Z broadcasts_S128x1_S128x128)

/-- A product where the mask is set, and zero elsewhere. -/
def masked (p : BitVec 1) (x y : EReal) : EReal := Scalar.select p (x * y) 0

theorem group_eq (W : FVec Ideal S128x128 .f32) (Y : FVec Ideal S128x128 .f32) (Z : FVec Ideal S128x1 .f32) : (group M W Y Z (ix2 a b) : EReal)
    = (∑ s : Fin 128, masked (M (ix2 a s)) (W (ix2 a s)) (Y (ix2 s b))) + Z (ix2 a 0) := by
  unfold group masked
  pointwise

/-- The eight groups of a chunk. -/
def groups : Fin 8 → FVec Ideal S128x128 .f32
  | 0 => group k0_pay8 (shapeCast S128x128 (extractStridedSlice S1x128x128 ![0, 0, 0] w slices_S8x128x128_o0_0_0_S1x128x128) shapeCasts_S1x128x128_S128x128)
      (extractStridedSlice S128x128 ![0, 0] y slices_S128x1024_o0_0_S128x128) (extractStridedSlice S128x1 ![0, 0] z slices_S128x8_o0_0_S128x1)
  | 1 => group k0_pay8 (shapeCast S128x128 (extractStridedSlice S1x128x128 ![1, 0, 0] w slices_S8x128x128_o1_0_0_S1x128x128) shapeCasts_S1x128x128_S128x128)
      (extractStridedSlice S128x128 ![0, 128] y slices_S128x1024_o0_128_S128x128) (extractStridedSlice S128x1 ![0, 1] z slices_S128x8_o0_1_S128x1)
  | 2 => group k0_pay8 (shapeCast S128x128 (extractStridedSlice S1x128x128 ![2, 0, 0] w slices_S8x128x128_o2_0_0_S1x128x128) shapeCasts_S1x128x128_S128x128)
      (extractStridedSlice S128x128 ![0, 256] y slices_S128x1024_o0_256_S128x128) (extractStridedSlice S128x1 ![0, 2] z slices_S128x8_o0_2_S128x1)
  | 3 => group k0_pay8 (shapeCast S128x128 (extractStridedSlice S1x128x128 ![3, 0, 0] w slices_S8x128x128_o3_0_0_S1x128x128) shapeCasts_S1x128x128_S128x128)
      (extractStridedSlice S128x128 ![0, 384] y slices_S128x1024_o0_384_S128x128) (extractStridedSlice S128x1 ![0, 3] z slices_S128x8_o0_3_S128x1)
  | 4 => group k0_pay8 (shapeCast S128x128 (extractStridedSlice S1x128x128 ![4, 0, 0] w slices_S8x128x128_o4_0_0_S1x128x128) shapeCasts_S1x128x128_S128x128)
      (extractStridedSlice S128x128 ![0, 512] y slices_S128x1024_o0_512_S128x128) (extractStridedSlice S128x1 ![0, 4] z slices_S128x8_o0_4_S128x1)
  | 5 => group k0_pay8 (shapeCast S128x128 (extractStridedSlice S1x128x128 ![5, 0, 0] w slices_S8x128x128_o5_0_0_S1x128x128) shapeCasts_S1x128x128_S128x128)
      (extractStridedSlice S128x128 ![0, 640] y slices_S128x1024_o0_640_S128x128) (extractStridedSlice S128x1 ![0, 5] z slices_S128x8_o0_5_S128x1)
  | 6 => group k0_pay8 (shapeCast S128x128 (extractStridedSlice S1x128x128 ![6, 0, 0] w slices_S8x128x128_o6_0_0_S1x128x128) shapeCasts_S1x128x128_S128x128)
      (extractStridedSlice S128x128 ![0, 768] y slices_S128x1024_o0_768_S128x128) (extractStridedSlice S128x1 ![0, 6] z slices_S128x8_o0_6_S128x1)
  | 7 => group k0_pay8 (shapeCast S128x128 (extractStridedSlice S1x128x128 ![7, 0, 0] w slices_S8x128x128_o7_0_0_S1x128x128) shapeCasts_S1x128x128_S128x128)
      (extractStridedSlice S128x128 ![0, 896] y slices_S128x1024_o0_896_S128x128) (extractStridedSlice S128x1 ![0, 7] z slices_S128x8_o0_7_S128x1)

theorem groups_eq (q : Fin 8) : (groups w z y q (ix2 a b) : EReal)
    = (∑ s : Fin 128, masked (k0_pay8 (ix2 a s)) (w (ix3 q a s)) (y (ix2 s ⟨q.val * 128 + b.val, by omega⟩))) + z (ix2 a q) := by
  have hs (W : FVec Ideal S128x128 .f32) (Y : FVec Ideal S128x128 .f32) (Z : FVec Ideal S128x1 .f32)
      (hW : ∀ s, (W (ix2 a s) : EReal) = w (ix3 q a s)) (hY : ∀ s, (Y (ix2 s b) : EReal) = y (ix2 s ⟨q.val * 128 + b.val, by omega⟩))
      (hZ : (Z (ix2 a 0) : EReal) = z (ix2 a q)) : (group k0_pay8 W Y Z (ix2 a b) : EReal)
      = (∑ s : Fin 128, masked (k0_pay8 (ix2 a s)) (w (ix3 q a s)) (y (ix2 s ⟨q.val * 128 + b.val, by omega⟩))) + z (ix2 a q) := by
    rw [group_eq, hZ]
    exact congrArg (fun e : EReal => e + z (ix2 a q)) (Finset.sum_congr (M := EReal) rfl fun s _ => by rw [hW, hY])
  fin_cases q <;> refine hs _ _ _ (fun s => ?_) (fun s => ?_) ?_ <;> pointwise <;> rfl

/-- The eight groups side by side. -/
def beside (p : Fin 8 → FVec Ideal S128x128 .f32) : FVec Ideal S128x1024 .f32 :=
  concatenate S128x1024 1 [⟨S128x128, p 0⟩, ⟨S128x128, p 1⟩, ⟨S128x128, p 2⟩, ⟨S128x128, p 3⟩, ⟨S128x128, p 4⟩, ⟨S128x128, p 5⟩, ⟨S128x128, p 6⟩, ⟨S128x128, p 7⟩]
    concatenates_S128x128_S128x128_S128x128_S128x128_S128x128_S128x128_S128x128_S128x128_S128x1024_d1

theorem beside_eq (p : Fin 8 → FVec Ideal S128x128 .f32) : (beside p (ix2 a k) : EReal) = p (grp k) (ix2 a (within k)) := by
  have at_ (i : Fin 8) (b : Fin 128) (e : i.val * 128 + b.val = k.val) : p i (ix2 a b) = p (grp k) (ix2 a (within k)) := by
    have hi : grp k = i := Fin.ext (show k.val / 128 = i.val by omega)
    have hb : within k = b := Fin.ext (show k.val % 128 = b.val by omega)
    rw [hi, hb]
  unfold beside
  pointwise
  split_ifs <;> exact at_ _ _ (by simp; try omega)

/-- What the body makes of its blocks. -/
theorem made_eq (u v : Vec Ideal S128x1024 .f32) (g c : Vec Ideal S1x1024 .f32) :
    k0_pay14 w (k0_pay3 z) (k0_pay4 u) (k0_pay7 (k0_pay1 g) (k0_pay2 c) (k0_pay5 v) (k0_pay6 v)) k0_pay8
        (k0_pay9 (k0_pay1 g) (k0_pay2 c) w (k0_pay3 z) (k0_pay5 v) (k0_pay6 v)) (k0_pay10 (k0_pay1 g) (k0_pay2 c) w (k0_pay3 z) (k0_pay5 v) (k0_pay6 v))
        (k0_pay11 (k0_pay1 g) (k0_pay2 c) w (k0_pay3 z) (k0_pay5 v) (k0_pay6 v)) (k0_pay12 w) (k0_pay13 (k0_pay1 g) (k0_pay2 c) (k0_pay5 v) (k0_pay6 v))
      = truncf .bf16 (mulf (k0_pay4 u) (beside (groups w (k0_pay3 z) (k0_pay7 (k0_pay1 g) (k0_pay2 c) (k0_pay5 v) (k0_pay6 v))))) bitsLt_bf16_f32 := rfl

/-- One entry of the gating: the first part's error unit, times the group's mixture of the normed rows. -/
def gated (u : EReal) (n : Fin 128 → EReal) (W : Fin 128 → EReal) (M : Fin 128 → BitVec 1) (Z : EReal) : EReal :=
  gelu u * ((∑ s, masked (M s) (W s) (n s)) + Z)

theorem all_eq (u v : Vec Ideal S128x1024 .f32) (g c : Vec Ideal S1x1024 .f32) :
    ((truncf .bf16 (mulf (k0_pay4 u) (beside (groups w (k0_pay3 z) (k0_pay7 (k0_pay1 g) (k0_pay2 c) (k0_pay5 v) (k0_pay6 v))))) bitsLt_bf16_f32
        : FVec Ideal S128x1024 .bf16) (ix2 a k) : EReal)
      = gated (u (ix2 a k)) (fun s => normed (fun l => gelu (v (ix2 s l))) (g (ix2 0 k)) (c (ix2 0 k)) k) (fun s => w (ix3 (grp k) a s))
          (fun s => k0_pay8 (ix2 a s)) (z (ix2 a (grp k))) := by
  have hk : (⟨(grp k).val * 128 + (within k).val, by omega⟩ : Fin 1024) = k := Fin.ext (by show k.val / 128 * 128 + k.val % 128 = k.val; omega)
  have hz : (k0_pay3 z (ix2 a (grp k)) : EReal) = z (ix2 a (grp k)) := by pointwise [k0_pay3]
  show (k0_pay4 u (ix2 a k) : EReal) * beside (groups w (k0_pay3 z) (k0_pay7 (k0_pay1 g) (k0_pay2 c) (k0_pay5 v) (k0_pay6 v))) (ix2 a k) = _
  rw [gelu_eq, beside_eq, groups_eq, hk, hz]
  unfold gated
  exact congrArg (fun e : EReal => gelu (u (ix2 a k)) * (e + z (ix2 a (grp k)))) (Finset.sum_congr (M := EReal) rfl fun s _ => by rw [normed_eq])

theorem out_eq (x : Dev nD) (i : grid0.Coords) (arg1 : Memref sig .tc .vmem S128x1024 .f32) (harg1 : arg1.IsWhole)
    (arg2 : Memref sig .tc .vmem S128x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S8x128x128 .f32) (harg5 : arg5.IsWhole)
    (arg6 : Memref sig .tc .vmem S128x8 .f32) (harg6 : arg6.IsWhole) (arg7 : Memref sig .tc .vmem S128x1024 .bf16) (harg7 : arg7.IsWhole)
    (u v : Vec Ideal S128x1024 .f32) (g c : Vec Ideal S1x1024 .f32) :
    (out0_A_6 x i arg1 harg1 arg2 harg2 arg3 harg3 arg4 harg4 arg5 harg5 arg6 harg6 arg7 harg7 u v g c w z (ix2 a k) : EReal)
      = gated (u (ix2 a k)) (fun s => normed (fun l => gelu (v (ix2 s l))) (g (ix2 0 k)) (c (ix2 0 k)) k) (fun s => w (ix3 (grp k) a s))
          (fun s => k0_pay8 (ix2 a s)) (z (ix2 a (grp k))) := by
  refine Eq.trans (congrFun ?_ (ix2 a k)) (all_eq w z a k u v g c)
  rw [← made_eq]
  unfold out0_A_6 kernelRun0_A
  refine (View.read_writes_full _ _ inb_S128x1024_S128x1024_0_0 _ []).trans ?_
  sl_unfold_words
  rw [View.readAt_full, View.readAt_full, View.readAt_full, View.readAt_full, View.readAt_full, View.readAt_full, Memref.IsWhole.read_unread,
    Memref.IsWhole.read_unread, Memref.IsWhole.read_unread, Memref.IsWhole.read_unread, Memref.IsWhole.read_unread, Memref.IsWhole.read_unread]

end Mix

/-! ## The array at the end -/

/-- Row `a` of chunk `t`; the chunk of a row and its place within the chunk; the columns of the two parts. -/
abbrev row (t : Fin cfg0.N) (a : Fin 128) : Fin 4096 := ⟨t.val * 128 + a.val, by have := t.isLt; have h : cfg0.N = 32 := rfl; omega⟩
abbrev place (r : Fin 4096) : Fin 128 := ⟨r.val % 128, by omega⟩
abbrev near (r : Fin 4096) (s : Fin 128) : Fin 4096 := ⟨r.val / 128 * 128 + s.val, by omega⟩
abbrev colU (k : Fin 1024) : Fin 9728 := ⟨k.val, by omega⟩
abbrev colV (k : Fin 1024) : Fin 9728 := ⟨1024 + k.val, by omega⟩

theorem row_of (r : Fin 4096) : ∃ (t : Fin cfg0.N) (a : Fin 128), row t a = r := by
  have hN : cfg0.N = 32 := rfl
  have hr := r.isLt
  exact ⟨⟨r.val / 128, by omega⟩, ⟨r.val % 128, Nat.mod_lt _ (by decide)⟩, Fin.ext (Nat.div_add_mod' r.val 128)⟩
theorem place_row (t : Fin cfg0.N) (a : Fin 128) : place (row t a) = a := Fin.ext (show (t.val * 128 + a.val) % 128 = a.val by omega)
theorem near_row (t : Fin cfg0.N) (a s : Fin 128) : near (row t a) s = row t s :=
  Fin.ext (show (t.val * 128 + a.val) / 128 * 128 + s.val = t.val * 128 + s.val by omega)

theorem index_0 : ∀ t : Fin grid0.N, win0_0.index t 0 = t.val ∧ win0_0.index t 1 = 0 := by decide +kernel
theorem index_1 : ∀ t : Fin grid0.N, win0_1.index t 0 = t.val ∧ win0_1.index t 1 = 1 := by decide +kernel
theorem index_2 : ∀ t : Fin grid0.N, win0_2.index t 0 = 0 ∧ win0_2.index t 1 = 0 := by decide +kernel
theorem index_4 : ∀ t : Fin grid0.N, win0_4.index t 0 = 0 ∧ win0_4.index t 1 = 0 ∧ win0_4.index t 2 = 0 := by decide +kernel
theorem index_5 : ∀ t : Fin grid0.N, win0_5.index t 0 = 0 ∧ win0_5.index t 1 = 0 := by decide +kernel
theorem index_6 : ∀ t : Fin grid0.N, win0_6.index t 0 = t.val ∧ win0_6.index t 1 = 0 := by decide +kernel
theorem flush : ∀ t : Fin cfg0.N, (cfg0.win 6).flush t = true := (by decide +kernel : ∀ t : Fin grid0.N, win0_6.flush t = true)

theorem emb_2 (t : Fin cfg0.N) (b : Fin 1024) : (win0_2.rect t).emb (ix2 0 b) = (ix2 0 b : S1x1024.Idx) := by
  refine funext fun x => Fin.ext ?_
  obtain ⟨h0, h1⟩ := index_2 t
  refine (win0_2.rect_emb_val t (ix2 0 b) x rfl).trans ?_
  fin_cases x
  · show win0_2.index t 0 * 1 + 0 = _; rw [h0]; rfl
  · show win0_2.index t 1 * 1024 + b.val = _; rw [h1]; simp
theorem emb_4 (t : Fin cfg0.N) (q : Fin 8) (a b : Fin 128) : (win0_4.rect t).emb (ix3 q a b) = (ix3 q a b : S8x128x128.Idx) := by
  refine funext fun x => Fin.ext ?_
  obtain ⟨h0, h1, h2⟩ := index_4 t
  refine (win0_4.rect_emb_val t (ix3 q a b) x rfl).trans ?_
  fin_cases x
  · show win0_4.index t 0 * 8 + q.val = _; rw [h0]; simp
  · show win0_4.index t 1 * 128 + a.val = _; rw [h1]; simp
  · show win0_4.index t 2 * 128 + b.val = _; rw [h2]; simp
theorem emb_5 (t : Fin cfg0.N) (a : Fin 128) (q : Fin 8) : (win0_5.rect t).emb (ix2 a q) = (ix2 a q : S128x8.Idx) := by
  refine funext fun x => Fin.ext ?_
  obtain ⟨h0, h1⟩ := index_5 t
  refine (win0_5.rect_emb_val t (ix2 a q) x rfl).trans ?_
  fin_cases x
  · show win0_5.index t 0 * 128 + a.val = _; rw [h0]; simp
  · show win0_5.index t 1 * 8 + q.val = _; rw [h1]; simp
theorem emb_6 (t : Fin cfg0.N) (a : Fin 128) (b : Fin 1024) : (win0_6.rect t).emb (ix2 a b) = (ix2 (row t a) b : S4096x1024.Idx) := by
  refine funext fun x => Fin.ext ?_
  obtain ⟨h0, h1⟩ := index_6 t
  refine (win0_6.rect_emb_val t (ix2 a b) x rfl).trans ?_
  fin_cases x
  · show win0_6.index t 0 * 128 + a.val = _; rw [h0]; rfl
  · show win0_6.index t 1 * 1024 + b.val = _; rw [h1]; simp

section Ends

variable (m : (ℓ : Loc nD τ sig) → Buf (Elt Ideal) ℓ) (c : Dev nD) (t : Fin cfg0.N)

/-- The five arguments, as numbers. -/
def P (r : Fin 4096) (l : Fin 9728) : EReal := (m ((c : Thread nD τ).loc main_arg0) : S4096x9728.Idx → EReal) (ix2 r l)
def G (l : Fin 1024) : EReal := (m ((c : Thread nD τ).loc main_arg1) : S1024.Idx → EReal) (ix1 l)
def B (l : Fin 1024) : EReal := (m ((c : Thread nD τ).loc main_arg2) : S1024.Idx → EReal) (ix1 l)
def W (q : Fin 8) (a s : Fin 128) : EReal := (m ((c : Thread nD τ).loc main_arg3) : S8x128x128.Idx → EReal) (ix3 q a s)
def Z (q : Fin 8) (a : Fin 128) : EReal := (m ((c : Thread nD τ).loc main_arg4) : S8x128.Idx → EReal) (ix2 q a)

theorem start_2 : (V m c main_v0 : S1x1024.Idx → EReal) = shapeCast S1x1024 (m ((c : Thread nD τ).loc main_arg1)) shapeCasts_S1024_S1x1024 := by
  show StableHlo.after hostOps0 (fun b => m (c, b)) (Proc.devRef .tc main_v0) = _
  after_results <;> rfl
theorem start_3 : (V m c main_v1 : S1x1024.Idx → EReal) = shapeCast S1x1024 (m ((c : Thread nD τ).loc main_arg2)) shapeCasts_S1024_S1x1024 := by
  show StableHlo.after hostOps0 (fun b => m (c, b)) (Proc.devRef .tc main_v1) = _
  after_results <;> rfl
theorem start_5 : (V m c main_v2 : S128x8.Idx → EReal) = transpose S128x8 [1, 0] (m ((c : Thread nD τ).loc main_arg4)) transposes_S8x128_S128x8_1_0 := by
  show StableHlo.after hostOps0 (fun b => m (c, b)) (Proc.devRef .tc main_v2) = _
  after_results <;> rfl

theorem blk_0 (a : Fin 128) (k : Fin 1024) : (X0_0 m c t : S128x1024.Idx → EReal) (ix2 a k) = P m c (row t a) (colU k) := by
  unfold X0_0 Pipeline.Window.fill
  refine (dif_pos (moved0_0 t (ix2 a k))).trans ?_
  refine Eq.trans (b := (V m c main_arg0 : S4096x9728.Idx → EReal) (ix2 (row t a) (colU k))) ?_ (by rw [V_main_arg0]; rfl)
  refine congrArg (V m c main_arg0 : S4096x9728.Idx → EReal) (funext fun x => Fin.ext ?_)
  obtain ⟨h0, h1⟩ := index_0 t
  refine (win0_0.rect_emb_val t _ x rfl).trans ?_
  fin_cases x
  · show win0_0.index t 0 * 128 + a.val = _; rw [h0]; rfl
  · show win0_0.index t 1 * 1024 + k.val = _; rw [h1]; simp
theorem blk_1 (a : Fin 128) (k : Fin 1024) : (X0_1 m c t : S128x1024.Idx → EReal) (ix2 a k) = P m c (row t a) (colV k) := by
  unfold X0_1 Pipeline.Window.fill
  refine (dif_pos (moved0_1 t (ix2 a k))).trans ?_
  refine Eq.trans (b := (V m c main_arg0 : S4096x9728.Idx → EReal) (ix2 (row t a) (colV k))) ?_ (by rw [V_main_arg0]; rfl)
  refine congrArg (V m c main_arg0 : S4096x9728.Idx → EReal) (funext fun x => Fin.ext ?_)
  obtain ⟨h0, h1⟩ := index_1 t
  refine (win0_1.rect_emb_val t _ x rfl).trans ?_
  fin_cases x
  · show win0_1.index t 0 * 128 + a.val = _; rw [h0]; rfl
  · show win0_1.index t 1 * 1024 + k.val = 1024 + k.val; rw [h1]
theorem blk_2 (k : Fin 1024) : (iblk m c 2 t : S1x1024.Idx → EReal) (ix2 0 k) = G m c k := by
  show (V m c main_v0 : S1x1024.Idx → EReal) ((win0_2.rect t).emb (ix2 0 k)) = _
  rw [emb_2, start_2]
  pointwise
  rfl
theorem blk_3 (k : Fin 1024) : (iblk m c 3 t : S1x1024.Idx → EReal) (ix2 0 k) = B m c k := by
  show (V m c main_v1 : S1x1024.Idx → EReal) ((win0_2.rect t).emb (ix2 0 k)) = _
  rw [emb_2, start_3]
  pointwise
  rfl
theorem blk_4 (q : Fin 8) (a s : Fin 128) : (iblk m c 4 t : S8x128x128.Idx → EReal) (ix3 q a s) = W m c q a s := by
  show (V m c main_arg3 : S8x128x128.Idx → EReal) ((win0_4.rect t).emb (ix3 q a s)) = _
  rw [emb_4, V_main_arg3]
  rfl
theorem blk_5 (a : Fin 128) (q : Fin 8) : (iblk m c 5 t : S128x8.Idx → EReal) (ix2 a q) = Z m c q a := by
  show (V m c main_v2 : S128x8.Idx → EReal) ((win0_5.rect t).emb (ix2 a q)) = _
  rw [emb_5, start_5]
  pointwise
  rfl

/-- One entry of the gating of five arrays, for a mask. -/
def entry (P : Fin 4096 → Fin 9728 → EReal) (G B : Fin 1024 → EReal) (W : Fin 8 → Fin 128 → Fin 128 → EReal) (Z : Fin 8 → Fin 128 → EReal)
    (M : Fin 128 → Fin 128 → BitVec 1) (r : Fin 4096) (k : Fin 1024) : EReal :=
  gated (P r (colU k)) (fun s => normed (fun l => gelu (P (near r s) (colV l))) (G k) (B k) k) (fun s => W (grp k) (place r) s)
    (fun s => M (place r) s) (Z (grp k) (place r))

theorem end_eq (r : Fin 4096) (k : Fin 1024) : ((dats m 0 c).arrAt 6 cfg0.N : S4096x1024.Idx → EReal) (ix2 r k)
    = entry (P m c) (G m c) (B m c) (W m c) (Z m c) (fun a s => k0_pay8 (ix2 a s)) r k := by
  obtain ⟨t, a, rfl⟩ := row_of r
  have e := congrFun ((blocks6 m c t (flush t)).trans (flushed6_A m c t)) (ix2 a k)
  refine (congrArg ((dats m 0 c).arrAt 6 cfg0.N : S4096x1024.Idx → EReal) (emb_6 t a k)).symm.trans (e.trans ?_)
  refine (out_eq _ _ a k _ _ _ _ _ _ _ _ _ _ _ _ _ _ _ _ _ _ _ _).trans ?_
  unfold entry
  rw [place_row, blk_0, blk_2, blk_3, blk_5, funext fun s => blk_4 m c t (grp k) a s]
  refine congrArg (fun f => gated _ f _ _ _) (funext fun s => ?_)
  rw [near_row]
  exact congrArg (fun f => normed f _ _ k) (funext fun l => congrArg gelu (blk_1 m c t s l))

end Ends

/-! ## The reference -/

section Reference

open Cert.SguReferenceIdeal.Facts₀ hiding bitsLt_bf16_f32 transposes_S8x128_S128x8_1_0
open Cert.SguReferenceIdeal (S_ S2x2048x1024 S2x2048x1 S2x2048 S1x1x1024 S2x16x128x8x128 S8x2x16x128x128 S1x1x128x8x1 dot_S2x16x128x8x128_S8x128x128_S8x2x16x128x128_2_2_014_1_3_0)

variable (X : FVec Ideal S4096x9728 .f32) (G B : FVec Ideal S1024 .f32) (W : FVec Ideal S8x128x128 .f32) (Z : FVec Ideal S8x128 .f32)
  (q : Fin 2) (r : Fin 2048) (k : Fin 1024)

/-- The row of a place in a batch. -/
abbrev whole₂ (q : Fin 2) (r : Fin 2048) : Fin 4096 := ⟨q.val * 2048 + r.val, by omega⟩

/-- The two parts of the projection that the gating reads, batch by batch. -/
def refU : FVec Ideal S2x2048x1024 .f32 :=
  shapeCast _ (extractStridedSlice S4096x1024 ![0, 0] X slices_S4096x9728_S4096x1024_0_0) shapeCasts_S4096x1024_S2x2048x1024
def refV : FVec Ideal S2x2048x1024 .f32 :=
  shapeCast _ (extractStridedSlice S4096x1024 ![0, 1024] X slices_S4096x9728_S4096x1024_0_1024) shapeCasts_S4096x1024_S2x2048x1024
/-- The Gaussian error unit, as the reference writes it. -/
def refGelu (x : FVec Ideal S2x2048x1024 .f32) : FVec Ideal S2x2048x1024 .f32 :=
  mulf (mulf (broadcastInDim S2x2048x1024 ![] bcast_S_S2x2048x1024 (constant S_ .f32 0x3F000000#32)) x)
    (Host.erfc (mulf (Host.negf x) (broadcastInDim S2x2048x1024 ![] bcast_S_S2x2048x1024 (constant S_ .f32 0x3F3504F3#32))))
/-- A value at every place of a row, and a vector at every row. -/
def refCol (w : FVec Ideal S2x2048x1 .f32) : FVec Ideal S2x2048x1024 .f32 :=
  broadcastInDim S2x2048x1024 ![0, 1, 2] bcast_S2x2048x1_S2x2048x1024_0_1_2 w
def refRow (G : FVec Ideal S1024 .f32) : FVec Ideal S2x2048x1024 .f32 :=
  broadcastInDim S2x2048x1024 ![0, 1, 2] bcast_S1x1x1024_S2x2048x1024_0_1_2 (broadcastInDim S1x1x1024 ![2] bcast_S1024_S1x1x1024_2 G)
/-- The mean of each row. -/
def refMean (s : FVec Ideal S2x2048x1024 .f32) : FVec Ideal S2x2048x1 .f32 :=
  Host.divf (broadcastInDim S2x2048x1 ![0, 1] bcast_S2x2048_S2x2048x1_0_1
    (Host.reduceAdd s (constant S_ .f32 0x00000000#32) reducesTo_S2x2048x1024_S2x2048_d2 h_S_))
    (broadcastInDim S2x2048x1 ![] bcast_S_S2x2048x1 (constant S_ .f32 0x44800000#32))
def refApart (s : FVec Ideal S2x2048x1024 .f32) : FVec Ideal S2x2048x1024 .f32 := subf s (refCol (refMean s))
def refRoot (d : FVec Ideal S2x2048x1024 .f32) : FVec Ideal S2x2048x1 .f32 :=
  Host.rsqrt (addf (refMean (mulf d d)) (broadcastInDim S2x2048x1 ![] bcast_S_S2x2048x1 (constant S_ .f32 0x3727C5AC#32)))
def refNorm (d : FVec Ideal S2x2048x1024 .f32) : FVec Ideal S2x2048x1024 .f32 := addf (mulf (mulf d (refCol (refRoot d))) (refRow G)) (refRow B)
/-- The mask: a place reads itself and the places before it. -/
def refMask : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
/-- The mixture of the rows of each chunk, group by group. -/
def refMix (M : IVec S128x128 1) (y : FVec Ideal S2x2048x1024 .f32) : FVec Ideal S2x2048x1024 .f32 :=
  shapeCast _ (addf (transpose S2x16x128x8x128 [1, 2, 4, 0, 3] (Host.dotGeneral dot_S2x16x128x8x128_S8x128x128_S8x2x16x128x128_2_2_014_1_3_0 none
      (shapeCast _ y shapeCasts_S2x2048x1024_S2x16x128x8x128)
      (select (broadcastInDim S8x128x128 ![0, 1, 2] bcast_S1x128x128_S8x128x128_0_1_2 (broadcastInDim S1x128x128 ![1, 2] bcast_S128x128_S1x128x128_1_2 M)) W
        (broadcastInDim S8x128x128 ![] bcast_S_S8x128x128 (constant S_ .f32 0x00000000#32)))) transposes_S8x2x16x128x128_S2x16x128x8x128_1_2_4_0_3)
    (broadcastInDim S2x16x128x8x128 ![0, 1, 2, 3, 4] bcast_S1x1x128x8x1_S2x16x128x8x128_0_1_2_3_4 (broadcastInDim S1x1x128x8x1 ![2, 3]
      bcast_S128x8_S1x1x128x8x1_2_3 (transpose S128x8 [1, 0] Z transposes_S8x128_S128x8_1_0)))) shapeCasts_S2x16x128x8x128_S2x2048x1024
/-- The reference's result, from the normed rows. -/
def refOut (y : FVec Ideal S2x2048x1024 .f32) : FVec Ideal S4096x1024 .bf16 :=
  truncf .bf16 (shapeCast S4096x1024 (mulf (refGelu (refU X)) (refMix W Z refMask y)) shapeCasts_S2x2048x1024_S4096x1024) bitsLt_bf16_f32
/-- The reference's result. -/
def refAll : FVec Ideal S4096x1024 .bf16 := refOut X W Z (refNorm G B (refApart (refGelu (refV X))))

theorem refU_eq : (refU X (ix3 q r k) : EReal) = X (ix2 (whole₂ q r) (colU k)) := by
  unfold refU
  pointwise
theorem refV_eq : (refV X (ix3 q r k) : EReal) = X (ix2 (whole₂ q r) (colV k)) := by
  unfold refV
  pointwise
theorem refGelu_eq (x : FVec Ideal S2x2048x1024 .f32) : (refGelu x (ix3 q r k) : EReal) = gelu (x (ix3 q r k)) := by
  have h : (refGelu x (ix3 q r k) : EReal) = Ideal.ofBits .f32 0x3F000000#32 * x (ix3 q r k)
      * Ideal.erfc (-(x (ix3 q r k)) * Ideal.ofBits .f32 0x3F3504F3#32) := by
    unfold refGelu
    pointwise
  rw [h, EReal.neg_mul, Ideal.erfc_neg]
  rfl
theorem refMean_eq (s : FVec Ideal S2x2048x1024 .f32) : (refMean s (ix3 q r 0) : EReal)
    = Ideal.div (∑ l : Fin 1024, (s (ix3 q r l) : EReal)) (Ideal.ofBits .f32 0x44800000#32) := by
  unfold refMean
  pointwise
theorem refCol_eq (w : FVec Ideal S2x2048x1 .f32) : (refCol w (ix3 q r k) : EReal) = w (ix3 q r 0) := by
  unfold refCol
  pointwise
theorem refRow_eq : (refRow G (ix3 q r k) : EReal) = G (ix1 k) := by
  unfold refRow
  pointwise
theorem refApart_eq (s : FVec Ideal S2x2048x1024 .f32) : (refApart s (ix3 q r k) : EReal) = apart (fun l => s (ix3 q r l)) k := by
  show (s (ix3 q r k) : EReal) - refCol (refMean s) (ix3 q r k) = _
  rw [refCol_eq, refMean_eq]
  rfl
theorem refRoot_eq (d : FVec Ideal S2x2048x1024 .f32) : (refRoot d (ix3 q r 0) : EReal)
    = Ideal.rsqrt (Ideal.div (∑ l : Fin 1024, (d (ix3 q r l) : EReal) * d (ix3 q r l)) (Ideal.ofBits .f32 0x44800000#32)
        + Ideal.ofBits .f32 0x3727C5AC#32) := by
  have h : (refRoot d (ix3 q r 0) : EReal) = Ideal.rsqrt ((refMean (mulf d d) (ix3 q r 0) : EReal) + Ideal.ofBits .f32 0x3727C5AC#32) := by
    unfold refRoot
    pointwise
  rw [h, refMean_eq]
  rfl
theorem refNorm_eq (s : FVec Ideal S2x2048x1024 .f32) : (refNorm G B (refApart s) (ix3 q r k) : EReal)
    = normed (fun l => s (ix3 q r l)) (G (ix1 k)) (B (ix1 k)) k := by
  have h (d : FVec Ideal S2x2048x1024 .f32) : (refNorm G B d (ix3 q r k) : EReal)
      = (d (ix3 q r k) : EReal) * Ideal.rsqrt (Ideal.div (∑ l : Fin 1024, (d (ix3 q r l) : EReal) * d (ix3 q r l)) (Ideal.ofBits .f32 0x44800000#32)
          + Ideal.ofBits .f32 0x3727C5AC#32) * G (ix1 k) + B (ix1 k) :=
    congrArg₂ (fun u v : EReal => u + v) (congrArg₂ (fun u v : EReal => (d (ix3 q r k) : EReal) * u * v)
      ((refCol_eq q r k (refRoot d)).trans (refRoot_eq q r d)) (refRow_eq G q r k)) (refRow_eq B q r k)
  refine (h (refApart s)).trans ?_
  unfold normed
  rw [← funext fun l => refApart_eq q r l s]
theorem refMix_eq (M : IVec S128x128 1) (y : FVec Ideal S2x2048x1024 .f32) : (refMix W Z M y (ix3 q r k) : EReal)
    = (∑ s : Fin 128, masked (M (ix2 ⟨r.val % 128, by omega⟩ s)) (W (ix3 (grp k) ⟨r.val % 128, by omega⟩ s))
        (y (ix3 q ⟨r.val / 128 * 128 + s.val, by omega⟩ k))) + Z (ix2 (grp k) ⟨r.val % 128, by omega⟩) := by
  unfold refMix masked
  pointwise
  exact congrArg (fun e : EReal => e + _) (Finset.sum_congr (M := EReal) rfl fun s _ =>
    congrArg (fun v : EReal => Scalar.select (M (ix2 ⟨r.val % 128, by omega⟩ s)) v (0 : EReal)) (mul_comm (_ : EReal) _))

theorem mask_eq : ∀ a s : Fin 128, k0_pay8 (ix2 a s) = refMask (ix2 a s) := by decide +kernel

theorem refAll_eq (r : Fin 4096) : (refAll X G B W Z (ix2 r k) : EReal)
    = entry (fun r l => X (ix2 r l)) (fun l => G (ix1 l)) (fun l => B (ix1 l)) (fun q a s => W (ix3 q a s)) (fun q a => Z (ix2 q a))
        (fun a s => k0_pay8 (ix2 a s)) r k := by
  have hr := r.isLt
  have h (y : FVec Ideal S2x2048x1024 .f32) : (refOut X W Z y (ix2 r k) : EReal)
      = (refGelu (refU X) (ix3 ⟨r.val / 2048, by omega⟩ ⟨r.val % 2048, by omega⟩ k) : EReal)
        * refMix W Z refMask y (ix3 ⟨r.val / 2048, by omega⟩ ⟨r.val % 2048, by omega⟩ k) := by
    unfold refOut
    pointwise
  refine (h _).trans ?_
  have e0 : whole₂ ⟨r.val / 2048, by omega⟩ ⟨r.val % 2048, by omega⟩ = r := Fin.ext (Nat.div_add_mod' r.val 2048)
  have e1 : (⟨r.val % 2048 % 128, by omega⟩ : Fin 128) = place r := Fin.ext (show r.val % 2048 % 128 = r.val % 128 by omega)
  have e2 (s : Fin 128) : whole₂ ⟨r.val / 2048, by omega⟩ ⟨r.val % 2048 / 128 * 128 + s.val, by omega⟩ = near r s :=
    Fin.ext (show r.val / 2048 * 2048 + (r.val % 2048 / 128 * 128 + s.val) = r.val / 128 * 128 + s.val by omega)
  rw [refMix_eq, refGelu_eq, refU_eq, e0]
  unfold entry gated
  refine congrArg (fun v : EReal => gelu (X (ix2 r (colU k))) * v) ?_
  refine congrArg₂ (fun u v : EReal => u + v) (Finset.sum_congr (M := EReal) rfl fun s _ => ?_) (by rw [e1])
  rw [refNorm_eq, e1, ← mask_eq]
  refine congrArg (fun v : EReal => masked _ _ v) (congrArg (fun f => normed f _ _ k) (funext fun l => ?_))
  rw [refGelu_eq, refV_eq, e2]

end Reference

/-! ## The claims -/

theorem frame_kernel : Cert.quiescent_Sgu := fun m g _ => Cert.Sgu.Gen.frame m g
theorem frame_ideal : Cert.quiescent_SguIdeal := fun m g _ => Cert.SguIdeal.Gen.frame m g
theorem frame_reference : Cert.quiescent_SguReferenceIdeal := fun m g _ =>
  (θ_run Cert.SguReferenceIdeal.defs _ _).mono (fun r h => ⟨fun c => (h c).2, sem_eq_zero_of_no_sems (by decide) r.2⟩)
    (Cert.SguReferenceIdeal.Value.run (F := Ideal) m g)

section Whole

variable (m : (ℓ : Loc nD τ sig) → Buf (Elt Ideal) ℓ) (c : Dev nD) (X' : S4096x9728.Idx → EReal) (G' B' : S1024.Idx → EReal)
  (W' : S8x128x128.Idx → EReal) (Z' : S8x128.Idx → EReal)
  (hX : X' = m ((c : Thread nD τ).loc main_arg0)) (hG : G' = m ((c : Thread nD τ).loc main_arg1)) (hB : B' = m ((c : Thread nD τ).loc main_arg2))
  (hW : W' = m ((c : Thread nD τ).loc main_arg3)) (hZ : Z' = m ((c : Thread nD τ).loc main_arg4))

include hX hG hB hW hZ in
theorem whole : (dats m 0 c).arrAt 6 cfg0.N = refAll X' G' B' W' Z' := by
  funext i
  obtain ⟨r, k, rfl⟩ : ∃ (r : Fin 4096) (k : Fin 1024), i = ix2 r k := ⟨i 0, i 1, eq_ix2 i⟩
  subst hX hG hB hW hZ
  exact (end_eq m c r k).trans (refAll_eq _ _ _ _ _ k r).symm

end Whole

/-- What the reference's run names its result is the result. -/
theorem result_eq (m : (ℓ : Loc nD τ Cert.SguReferenceIdeal.sig) → Buf (Elt Ideal) ℓ) (c : Dev nD) :
    Cert.SguReferenceIdeal.Value.res_main_v56 m c = refAll (m ((c : Thread nD τ).loc Cert.SguReferenceIdeal.main_arg0))
      (m ((c : Thread nD τ).loc Cert.SguReferenceIdeal.main_arg1)) (m ((c : Thread nD τ).loc Cert.SguReferenceIdeal.main_arg2))
      (m ((c : Thread nD τ).loc Cert.SguReferenceIdeal.main_arg3)) (m ((c : Thread nD τ).loc Cert.SguReferenceIdeal.main_arg4)) := rfl

theorem algebraic : Cert.algebraic_SguIdeal_SguReferenceIdeal := by
  intro m g m' g' _ h
  refine ⟨_, (θ_run Cert.SguIdeal.defs _ _).mono (fun r hr c => ?_) (run_blocks (F := Ideal) m g),
    Cert.SguReferenceIdeal.Value.run (F := Ideal) m' g'⟩
  obtain ⟨hX, hG, hB, hW, hZ⟩ := h c
  obtain ⟨h6, hr⟩ := hr c
  exact ⟨(h6.trans (whole m c _ _ _ _ _ hX hG hB hW hZ)).trans (result_eq m' c).symm, hr⟩

end Cert.SguAlgebraic

end
-- ==== Proof.MergeAlgebraic.lean ====
/-
  The gated sum of the mixer's two branches, against its reference: sixteen blocks of 512 rows and 512 columns, each summed on
  its own, are the sum of the whole arrays.
-/
module

public import proofs.«01_k».proof.Proof.Gen.Merge.Frame
public import proofs.«01_k».proof.Proof.Gen.MergeIdeal.Value
public import proofs.«01_k».proof.Proof.Gen.MergeReferenceIdeal.Run
public import proofs.«01_k».proof.Defs
public import Idealize.ShloMosaic.Lib.VecWindow
public import Idealize.ShloMosaic.Lib.Pointwise

@[expose] public section

set_option maxRecDepth 65536

noncomputable section

namespace Cert.MergeAlgebraic

open Cert.MergeIdeal Cert.MergeIdeal.Gen Cert.MergeIdeal.Value
open Idealize.ShloMosaic Idealize.ShloMosaic.TcCoe Idealize.SL.Sem

theorem zero2 : (![0, 0] : Fin 2 → ℕ) = fun _ => 0 := by funext a; fin_cases a <;> rfl

/-- Two gates and two branches: each branch times the logistic of its gate. -/
def gated (ga gb a b : EReal) : EReal := Ideal.logistic ga * a + Ideal.logistic gb * b

/-! ## One block -/

theorem out_eq (x y u v : Vec Ideal S512x512 .f32) (a b : Fin 512) :
    (out0_4 x y u v (ix2 a b) : EReal) = gated (x (ix2 a b)) (y (ix2 a b)) (u (ix2 a b)) (v (ix2 a b)) := by
  unfold out0_4 gated
  rw [View.canon_cons_unit_zero zero2, View.ld_unit_zero zero2, View.ld_unit_zero zero2, View.ld_unit_zero zero2, View.ld_unit_zero zero2]
  pointwise [k0_pay1]

/-! ## The array at the end -/

/-- Row `a` and column `b` of block `t`; the columns of its two gates in the projection. -/
abbrev row (t : Fin cfg0.N) (a : Fin 512) : Fin 4096 := ⟨t.val / 2 * 512 + a.val, by have := t.isLt; have h : cfg0.N = 16 := rfl; omega⟩
abbrev col (t : Fin cfg0.N) (b : Fin 512) : Fin 1024 := ⟨t.val % 2 * 512 + b.val, by omega⟩
abbrev gateA (k : Fin 1024) : Fin 9728 := ⟨7680 + k.val, by omega⟩
abbrev gateB (k : Fin 1024) : Fin 9728 := ⟨8704 + k.val, by omega⟩

theorem place_of (r : Fin 4096) (k : Fin 1024) : ∃ (t : Fin cfg0.N) (a b : Fin 512), row t a = r ∧ col t b = k := by
  have hN : cfg0.N = 16 := rfl
  have hr := r.isLt
  have hk := k.isLt
  refine ⟨⟨r.val / 512 * 2 + k.val / 512, by omega⟩, ⟨r.val % 512, Nat.mod_lt _ (by decide)⟩, ⟨k.val % 512, Nat.mod_lt _ (by decide)⟩, Fin.ext ?_, Fin.ext ?_⟩
  · show (r.val / 512 * 2 + k.val / 512) / 2 * 512 + r.val % 512 = r.val
    omega
  · show (r.val / 512 * 2 + k.val / 512) % 2 * 512 + k.val % 512 = k.val
    omega

theorem index_0 : ∀ t : Fin grid0.N, win0_0.index t 0 = t.val / 2 ∧ win0_0.index t 1 = 15 + t.val % 2 := by decide +kernel
theorem index_1 : ∀ t : Fin grid0.N, win0_1.index t 0 = t.val / 2 ∧ win0_1.index t 1 = 17 + t.val % 2 := by decide +kernel
theorem index_2 : ∀ t : Fin grid0.N, win0_2.index t 0 = t.val / 2 ∧ win0_2.index t 1 = t.val % 2 := by decide +kernel
theorem flush : ∀ t : Fin cfg0.N, (cfg0.win 4).flush t = true := (by decide +kernel : ∀ t : Fin grid0.N, win0_4.flush t = true)

theorem emb_0 (t : Fin cfg0.N) (a b : Fin 512) : (win0_0.rect t).emb (ix2 a b) = (ix2 (row t a) (gateA (col t b)) : S4096x9728.Idx) := by
  refine funext fun x => Fin.ext ?_
  obtain ⟨h0, h1⟩ := index_0 t
  refine (win0_0.rect_emb_val t (ix2 a b) x rfl).trans ?_
  fin_cases x
  · show win0_0.index t 0 * 512 + a.val = _; rw [h0]; rfl
  · show win0_0.index t 1 * 512 + b.val = 7680 + (t.val % 2 * 512 + b.val); rw [h1]; omega
theorem emb_1 (t : Fin cfg0.N) (a b : Fin 512) : (win0_1.rect t).emb (ix2 a b) = (ix2 (row t a) (gateB (col t b)) : S4096x9728.Idx) := by
  refine funext fun x => Fin.ext ?_
  obtain ⟨h0, h1⟩ := index_1 t
  refine (win0_1.rect_emb_val t (ix2 a b) x rfl).trans ?_
  fin_cases x
  · show win0_1.index t 0 * 512 + a.val = _; rw [h0]; rfl
  · show win0_1.index t 1 * 512 + b.val = 8704 + (t.val % 2 * 512 + b.val); rw [h1]; omega
/-- The blocks of the branches and of the result are at the same place. -/
theorem emb_2 (t : Fin cfg0.N) (a b : Fin 512) : (win0_2.rect t).emb (ix2 a b) = (ix2 (row t a) (col t b) : S4096x1024.Idx) := by
  refine funext fun x => Fin.ext ?_
  obtain ⟨h0, h1⟩ := index_2 t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512)

/-- The projection and the two branches, as numbers. -/
def P (r : Fin 4096) (l : Fin 9728) : EReal := (m ((c : Thread nD τ).loc main_arg0) : S4096x9728.Idx → EReal) (ix2 r l)
def A (r : Fin 4096) (l : Fin 1024) : EReal := (m ((c : Thread nD τ).loc main_arg1) : S4096x1024.Idx → EReal) (ix2 r l)
def B (r : Fin 4096) (l : Fin 1024) : EReal := (m ((c : Thread nD τ).loc main_arg2) : S4096x1024.Idx → EReal) (ix2 r l)

theorem blk_0 : (iblk m c 0 t : S512x512.Idx → EReal) (ix2 a b) = P m c (row t a) (gateA (col t b)) := by
  show (V m c main_arg0 : S4096x9728.Idx → EReal) ((win0_0.rect t).emb (ix2 a b)) = _
  rw [emb_0, V_main_arg0]
  rfl
theorem blk_1 : (iblk m c 1 t : S512x512.Idx → EReal) (ix2 a b) = P m c (row t a) (gateB (col t b)) := by
  show (V m c main_arg0 : S4096x9728.Idx → EReal) ((win0_1.rect t).emb (ix2 a b)) = _
  rw [emb_1, V_main_arg0]
  rfl
theorem blk_2 : (iblk m c 2 t : S512x512.Idx → EReal) (ix2 a b) = A m c (row t a) (col t b) := by
  show (V m c main_arg1 : S4096x1024.Idx → EReal) ((win0_2.rect t).emb (ix2 a b)) = _
  rw [emb_2, V_main_arg1]
  rfl
theorem blk_3 : (iblk m c 3 t : S512x512.Idx → EReal) (ix2 a b) = B m c (row t a) (col t b) := by
  show (V m c main_arg2 : S4096x1024.Idx → EReal) ((win0_2.rect t).emb (ix2 a b)) = _
  rw [emb_2, V_main_arg2]
  rfl

theorem end_eq (r : Fin 4096) (k : Fin 1024) : ((dats m 0 c).arrAt 4 cfg0.N : S4096x1024.Idx → EReal) (ix2 r k)
    = gated (P m c r (gateA k)) (P m c r (gateB k)) (A m c r k) (B m c r k) := by
  obtain ⟨t, a, b, rfl, rfl⟩ := place_of r k
  have e := congrFun ((blocks4 m c t (flush t)).trans (flushed4 m c t)) (ix2 a b)
  refine (congrArg ((dats m 0 c).arrAt 4 cfg0.N : S4096x1024.Idx → EReal) (emb_2 t a b)).symm.trans (e.trans ?_)
  refine (out_eq _ _ _ _ a b).trans ?_
  rw [blk_0, blk_1, blk_2, blk_3]

end Ends

/-! ## The reference -/

section Reference

open Cert.MergeReferenceIdeal.Facts₀ hiding bitsLt_bf16_f32
open Cert.MergeReferenceIdeal (S_)

variable (P : FVec Ideal S4096x9728 .f32) (A B : FVec Ideal S4096x1024 .f32)

/-- The logistic of an array, as the reference writes it. -/
def refGate (x : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))
/-- The reference's result. -/
def refAll : FVec Ideal S4096x1024 .bf16 :=
  truncf .bf16 (addf (mulf (refGate (extractStridedSlice S4096x1024 ![0, 7680] P slices_S4096x9728_S4096x1024_0_7680)) A)
    (mulf (refGate (extractStridedSlice S4096x1024 ![0, 8704] P slices_S4096x9728_S4096x1024_0_8704)) B)) bitsLt_bf16_f32

theorem one : Ideal.ofBits .f32 0x3F800000#32 = 1 := by simp [Ideal.ofBits, Ideal.ieee, -EReal.coe_mul]; norm_num

theorem refGate_eq (x : FVec Ideal S4096x1024 .f32) (i : S4096x1024.Idx) : (refGate x i : EReal) = Ideal.logistic (x i) := by
  have h : (refGate x i : EReal) = Ideal.div (Ideal.ofBits .f32 0x3F800000#32) (Ideal.ofBits .f32 0x3F800000#32 + Ideal.exp (-(x i : EReal))) := by
    unfold refGate
    pointwise
  rw [h, one]
  rfl
theorem refAll_eq (r : Fin 4096) (k : Fin 1024) : (refAll P A B (ix2 r k) : EReal)
    = gated (P (ix2 r (gateA k))) (P (ix2 r (gateB k))) (A (ix2 r k)) (B (ix2 r k)) := by
  have ha : (extractStridedSlice S4096x1024 ![0, 7680] P slices_S4096x9728_S4096x1024_0_7680 (ix2 r k) : EReal) = P (ix2 r (gateA k)) := by pointwise
  have hb : (extractStridedSlice S4096x1024 ![0, 8704] P slices_S4096x9728_S4096x1024_0_8704 (ix2 r k) : EReal) = P (ix2 r (gateB k)) := by pointwise
  unfold gated
  rw [← ha, ← hb, ← refGate_eq, ← refGate_eq]
  rfl

end Reference

/-! ## The claims -/

theorem frame_kernel : Cert.quiescent_Merge := fun m g _ => Cert.Merge.Gen.frame m g
theorem frame_ideal : Cert.quiescent_MergeIdeal := fun m g _ => Cert.MergeIdeal.Gen.frame m g
theorem frame_reference : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

section Whole

variable (m : (ℓ : Loc nD τ sig) → Buf (Elt Ideal) ℓ) (c : Dev nD) (X : S4096x9728.Idx → EReal) (Y Z : S4096x1024.Idx → EReal)
  (hX : X = m ((c : Thread nD τ).loc main_arg0)) (hY : Y = m ((c : Thread nD τ).loc main_arg1)) (hZ : Z = m ((c : Thread nD τ).loc main_arg2))

include hX hY hZ in
theorem whole : (dats m 0 c).arrAt 4 cfg0.N = refAll X Y Z := by
  funext i
  obtain ⟨r, k, rfl⟩ : ∃ (r : Fin 4096) (k : Fin 1024), i = ix2 r k := ⟨i 0, i 1, eq_ix2 i⟩
  subst hX hY hZ
  exact (end_eq m c r k).trans (refAll_eq _ _ _ r k).symm

end Whole

theorem algebraic : Cert.algebraic_MergeIdeal_MergeReferenceIdeal := by
  intro m g m' g' _ h
  refine ⟨_, (θ_run Cert.MergeIdeal.defs _ _).mono (fun r hr c => ?_) (run_blocks (F := Ideal) m g),
    Cert.MergeReferenceIdeal.Value.run (F := Ideal) m' g'⟩
  obtain ⟨hX, hY, hZ⟩ := h c
  obtain ⟨h4, hr⟩ := hr c
  exact ⟨h4.trans (whole m c _ _ _ hX hY hZ), hr⟩

end Cert.MergeAlgebraic

end
-- ==== Proof.NormAlgebraic.lean ====
/-
  The residual and the layer norm, against their reference: sixteen blocks of 256 rows, each on its own, are the norm of the
  whole array.
-/
module

public import proofs.«01_k».proof.Proof.Gen.Norm.Frame
public import proofs.«01_k».proof.Proof.Gen.NormIdeal.Value
public import proofs.«01_k».proof.Proof.Gen.NormReferenceIdeal.Run
public import proofs.«01_k».proof.Defs
public import Idealize.ShloMosaic.Lib.VecWindow
public import Idealize.ShloMosaic.Lib.Pointwise

@[expose] public section

set_option maxRecDepth 65536

noncomputable section

namespace Cert.NormAlgebraic

open Cert.NormIdeal Cert.NormIdeal.Gen Cert.NormIdeal.Value
open Idealize.ShloMosaic Idealize.ShloMosaic.TcCoe Idealize.SL.Sem

theorem zero2 : (![0, 0] : Fin 2 → ℕ) = fun _ => 0 := by funext a; fin_cases a <;> rfl

/-! ## One row -/

/-- The scaled residual and what is added to it. -/
def total (x y : Fin 1024 → EReal) (k : Fin 1024) : EReal := Ideal.ofBits .f32 0x3FB504F3#32 * x k + y k
/-- A row's distance to its mean, and the row brought to mean zero and variance one. -/
def apart (s : Fin 1024 → EReal) (k : Fin 1024) : EReal := s k - Ideal.div (∑ l, s l) (Ideal.ofBits .f32 0x44800000#32)
def normed (s : Fin 1024 → EReal) (g b : EReal) (k : Fin 1024) : EReal :=
  apart s k * Ideal.rsqrt (Ideal.div (∑ l, apart s l * apart s l) (Ideal.ofBits .f32 0x44800000#32) + Ideal.ofBits .f32 0x3727C5AC#32) * g + b

/-! ## One block -/

section Block

variable (x y : Vec Ideal S256x1024 .f32) (g b : Vec Ideal S1x1024 .f32) (a : Fin 256) (k : Fin 1024)

/-- The sum that is normed, and its distance to each row's mean. -/
def sums : FVec Ideal S256x1024 .f32 := addf (mulf (broadcast S256x1024 (Scalar.ofBits .f32 0x3FB504F3#32)) x) y
def dist (s : FVec Ideal S256x1024 .f32) : FVec Ideal S256x1024 .f32 :=
  subf s (broadcastTo S256x1024 (divf (shapeCast S256x1 (multiReduction .add [1] S256 s 0x00000000#32 reduces_S256x1024_S256 (.inl rfl) rfl)
    shapeCasts_S256_S256x1) (broadcast S256x1 (Scalar.ofBits .f32 0x44800000#32))) broadcasts_S256x1_S256x1024)
def scaled (d : FVec Ideal S256x1024 .f32) : FVec Ideal S256x1024 .f32 :=
  addf (mulf (mulf d (broadcastTo S256x1024 (rsqrt (addf (divf (shapeCast S256x1 (multiReduction .add [1] S256 (mulf d d) 0x00000000#32
      reduces_S256x1024_S256 (.inl rfl) rfl) shapeCasts_S256_S256x1) (broadcast S256x1 (Scalar.ofBits .f32 0x44800000#32)))
      (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem sums_eq : (sums x y (ix2 a k) : EReal) = total (fun l => x (ix2 a l)) (fun l => y (ix2 a l)) k := by
  unfold sums total
  pointwise
theorem dist_eq (s : FVec Ideal S256x1024 .f32) : (dist s (ix2 a k) : EReal) = apart (fun l => s (ix2 a l)) k := by
  unfold dist apart
  pointwise
theorem scaled_eq (d : FVec Ideal S256x1024 .f32) : (scaled g b d (ix2 a k) : EReal)
    = (d (ix2 a k) : EReal) * Ideal.rsqrt (Ideal.div (∑ l : Fin 1024, (d (ix2 a l) : EReal) * d (ix2 a l)) (Ideal.ofBits .f32 0x44800000#32)
        + Ideal.ofBits .f32 0x3727C5AC#32) * g (ix2 0 k) + b (ix2 0 k) := by
  unfold scaled
  pointwise

theorem out_eq : (out0_4 x y g b (ix2 a k) : EReal) = normed (total (fun l => x (ix2 a l)) (fun l => y (ix2 a l))) (g (ix2 0 k)) (b (ix2 0 k)) k := by
  unfold out0_4
  rw [View.canon_cons_unit_zero zero2, View.ld_unit_zero zero2, View.ld_unit_zero zero2, View.ld_unit_zero zero2, View.ld_unit_zero zero2]
  refine (scaled_eq g b a k (dist (sums x y))).trans ?_
  unfold normed
  have e : (fun l => (sums x y (ix2 a l) : EReal)) = total (fun l => x (ix2 a l)) (fun l => y (ix2 a l)) := funext fun l => sums_eq x y a l
  rw [← e, ← funext fun l => dist_eq a l (sums x y)]

end Block

/-! ## The array at the end -/

/-- Row `a` of block `t`. -/
abbrev row (t : Fin cfg0.N) (a : Fin 256) : Fin 4096 := ⟨t.val * 256 + a.val, by have := t.isLt; have h : cfg0.N = 16 := rfl; omega⟩

theorem row_of (r : Fin 4096) : ∃ (t : Fin cfg0.N) (a : Fin 256), row t a = r := by
  have hN : cfg0.N = 16 := rfl
  have hr := r.isLt
  exact ⟨⟨r.val / 256, by omega⟩, ⟨r.val % 256, Nat.mod_lt _ (by decide)⟩, Fin.ext (Nat.div_add_mod' r.val 256)⟩

theorem index_0 : ∀ t : Fin grid0.N, win0_0.index t 0 = t.val ∧ win0_0.index t 1 = 0 := by decide +kernel
theorem index_2 : ∀ t : Fin grid0.N, win0_2.index t 0 = 0 ∧ win0_2.index t 1 = 0 := by decide +kernel
theorem flush : ∀ t : Fin cfg0.N, (cfg0.win 4).flush t = true := (by decide +kernel : ∀ t : Fin grid0.N, win0_4.flush t = true)

/-- The blocks of the two summands and of the result are the same rows; the scale and the shift are whole. -/
theorem emb_0 (t : Fin cfg0.N) (a : Fin 256) (b : Fin 1024) : (win0_0.rect t).emb (ix2 a b) = (ix2 (row t a) b : S4096x1024.Idx) := by
  refine funext fun x => Fin.ext ?_
  obtain ⟨h0, h1⟩ := index_0 t
  refine (win0_0.rect_emb_val t (ix2 a b) x rfl).trans ?_
  fin_cases x
  · show win0_0.index t 0 * 256 + a.val = _; rw [h0]; rfl
  · show win0_0.index t 1 * 1024 + b.val = _; rw [h1]; simp
theorem emb_2 (t : Fin cfg0.N) (b : Fin 1024) : (win0_2.rect t).emb (ix2 0 b) = (ix2 0 b : S1x1024.Idx) := by
  refine funext fun x => Fin.ext ?_
  obtain ⟨h0, h1⟩ := index_2 t
  refine (win0_2.rect_emb_val t (ix2 0 b) x rfl).trans ?_
  fin_cases x
  · show win0_2.index t 0 * 1 + 0 = _; rw [h0]; rfl
  · show win0_2.index t 1 * 1024 + b.val = _; rw [h1]; simp

section Ends

variable (m : (ℓ : Loc nD τ sig) → Buf (Elt Ideal) ℓ) (c : Dev nD) (t : Fin cfg0.N) (a : Fin 256) (k : Fin 1024)

/-- The four arguments, as numbers. -/
def X (r : Fin 4096) (l : Fin 1024) : EReal := (m ((c : Thread nD τ).loc main_arg0) : S4096x1024.Idx → EReal) (ix2 r l)
def Y (r : Fin 4096) (l : Fin 1024) : EReal := (m ((c : Thread nD τ).loc main_arg1) : S4096x1024.Idx → EReal) (ix2 r l)
def G (l : Fin 1024) : EReal := (m ((c : Thread nD τ).loc main_arg2) : S1024.Idx → EReal) (ix1 l)
def B (l : Fin 1024) : EReal := (m ((c : Thread nD τ).loc main_arg3) : S1024.Idx → EReal) (ix1 l)

theorem start_2 : (V m c main_v0 : S1x1024.Idx → EReal) = shapeCast S1x1024 (m ((c : Thread nD τ).loc main_arg2)) shapeCasts_S1024_S1x1024 := by
  show StableHlo.after hostOps0 (fun b => m (c, b)) (Proc.devRef .tc main_v0) = _
  after_results <;> rfl
theorem start_3 : (V m c main_v1 : S1x1024.Idx → EReal) = shapeCast S1x1024 (m ((c : Thread nD τ).loc main_arg3)) shapeCasts_S1024_S1x1024 := by
  show StableHlo.after hostOps0 (fun b => m (c, b)) (Proc.devRef .tc main_v1) = _
  after_results <;> rfl

theorem blk_0 : (iblk m c 0 t : S256x1024.Idx → EReal) (ix2 a k) = X m c (row t a) k := by
  show (V m c main_arg0 : S4096x1024.Idx → EReal) ((win0_0.rect t).emb (ix2 a k)) = _
  rw [emb_0, V_main_arg0]
  rfl
theorem blk_1 : (iblk m c 1 t : S256x1024.Idx → EReal) (ix2 a k) = Y m c (row t a) k := by
  show (V m c main_arg1 : S4096x1024.Idx → EReal) ((win0_0.rect t).emb (ix2 a k)) = _
  rw [emb_0, V_main_arg1]
  rfl
theorem blk_2 : (iblk m c 2 t : S1x1024.Idx → EReal) (ix2 0 k) = G m c k := by
  show (V m c main_v0 : S1x1024.Idx → EReal) ((win0_2.rect t).emb (ix2 0 k)) = _
  rw [emb_2, start_2]
  pointwise
  rfl
theorem blk_3 : (iblk m c 3 t : S1x1024.Idx → EReal) (ix2 0 k) = B m c k := by
  show (V m c main_v1 : S1x1024.Idx → EReal) ((win0_2.rect t).emb (ix2 0 k)) = _
  rw [emb_2, start_3]
  pointwise
  rfl

theorem end_eq (r : Fin 4096) : ((dats m 0 c).arrAt 4 cfg0.N : S4096x1024.Idx → EReal) (ix2 r k)
    = normed (total (X m c r) (Y m c r)) (G m c k) (B m c k) k := by
  obtain ⟨t, a, rfl⟩ := row_of r
  have e := congrFun ((blocks4 m c t (flush t)).trans (flushed4 m c t)) (ix2 a k)
  refine (congrArg ((dats m 0 c).arrAt 4 cfg0.N : S4096x1024.Idx → EReal) (emb_0 t a k)).symm.trans (e.trans ?_)
  refine (out_eq _ _ _ _ a k).trans ?_
  rw [blk_2, blk_3, funext fun l => blk_0 m c t a l, funext fun l => blk_1 m c t a l]

end Ends

/-! ## The reference -/

section Reference

open Cert.NormReferenceIdeal.Facts₀
open Cert.NormReferenceIdeal (S_ S4096x1 S4096)

variable (G B : FVec Ideal S1024 .f32) (X Y : FVec Ideal S4096x1024 .f32) (r : Fin 4096) (k : Fin 1024)

/-- A value at every place of a row, and a vector at every row. -/
def refCol (w : FVec Ideal S4096x1 .f32) : FVec Ideal S4096x1024 .f32 :=
  broadcastInDim S4096x1024 ![0, 1] bcast_S4096x1_S4096x1024_0_1 w
def refRow (G : FVec Ideal S1024 .f32) : FVec Ideal S4096x1024 .f32 :=
  broadcastInDim S4096x1024 ![0, 1] bcast_S1x1024_S4096x1024_0_1 (broadcastInDim S1x1024 ![1] bcast_S1024_S1x1024_1 G)
/-- The mean of each row. -/
def refMean (s : FVec Ideal S4096x1024 .f32) : FVec Ideal S4096x1 .f32 :=
  Host.divf (broadcastInDim S4096x1 ![0] bcast_S4096_S4096x1_0 (Host.reduceAdd s (constant S_ .f32 0x00000000#32) reducesTo_S4096x1024_S4096_d1 h_S_))
    (broadcastInDim S4096x1 ![] bcast_S_S4096x1 (constant S_ .f32 0x44800000#32))
def refSum : FVec Ideal S4096x1024 .f32 := addf (mulf (broadcastInDim S4096x1024 ![] bcast_S_S4096x1024 (constant S_ .f32 0x3FB504F3#32)) X) Y
def refApart (s : FVec Ideal S4096x1024 .f32) : FVec Ideal S4096x1024 .f32 := subf s (refCol (refMean s))
def refRoot (d : FVec Ideal S4096x1024 .f32) : FVec Ideal S4096x1 .f32 :=
  Host.rsqrt (addf (refMean (mulf d d)) (broadcastInDim S4096x1 ![] bcast_S_S4096x1 (constant S_ .f32 0x3727C5AC#32)))
def refNorm (d : FVec Ideal S4096x1024 .f32) : FVec Ideal S4096x1024 .f32 := addf (mulf (mulf d (refCol (refRoot d))) (refRow G)) (refRow B)
/-- The reference's result. -/
def refAll : FVec Ideal S4096x1024 .f32 := refNorm G B (refApart (refSum X Y))

theorem refMean_eq (s : FVec Ideal S4096x1024 .f32) : (refMean s (ix2 r 0) : EReal)
    = Ideal.div (∑ l : Fin 1024, (s (ix2 r l) : EReal)) (Ideal.ofBits .f32 0x44800000#32) := by
  unfold refMean
  pointwise
theorem refCol_eq (w : FVec Ideal S4096x1 .f32) : (refCol w (ix2 r k) : EReal) = w (ix2 r 0) := by
  unfold refCol
  pointwise
theorem refRow_eq : (refRow G (ix2 r k) : EReal) = G (ix1 k) := by
  unfold refRow
  pointwise
theorem refSum_eq : (refSum X Y (ix2 r k) : EReal) = total (fun l => X (ix2 r l)) (fun l => Y (ix2 r l)) k := by
  unfold refSum total
  pointwise
theorem refApart_eq (s : FVec Ideal S4096x1024 .f32) : (refApart s (ix2 r k) : EReal) = apart (fun l => s (ix2 r l)) k := by
  show (s (ix2 r k) : EReal) - refCol (refMean s) (ix2 r k) = _
  rw [refCol_eq, refMean_eq]
  rfl
theorem refRoot_eq (d : FVec Ideal S4096x1024 .f32) : (refRoot d (ix2 r 0) : EReal)
    = Ideal.rsqrt (Ideal.div (∑ l : Fin 1024, (d (ix2 r l) : EReal) * d (ix2 r l)) (Ideal.ofBits .f32 0x44800000#32)
        + Ideal.ofBits .f32 0x3727C5AC#32) := by
  have h : (refRoot d (ix2 r 0) : EReal) = Ideal.rsqrt ((refMean (mulf d d) (ix2 r 0) : EReal) + Ideal.ofBits .f32 0x3727C5AC#32) := by
    unfold refRoot
    pointwise
  rw [h, refMean_eq]
  rfl
theorem refNorm_eq (d : FVec Ideal S4096x1024 .f32) : (refNorm G B d (ix2 r k) : EReal)
    = (d (ix2 r k) : EReal) * Ideal.rsqrt (Ideal.div (∑ l : Fin 1024, (d (ix2 r l) : EReal) * d (ix2 r l)) (Ideal.ofBits .f32 0x44800000#32)
        + Ideal.ofBits .f32 0x3727C5AC#32) * G (ix1 k) + B (ix1 k) :=
  (congrArg₂ (fun u v : EReal => u + v) (congrArg₂ (fun u v : EReal => (d (ix2 r k) : EReal) * u * v)
    ((refCol_eq r k (refRoot d)).trans (refRoot_eq r d)) (refRow_eq G r k)) (refRow_eq B r k))
theorem refAll_eq : (refAll G B X Y (ix2 r k) : EReal)
    = normed (total (fun l => X (ix2 r l)) (fun l => Y (ix2 r l))) (G (ix1 k)) (B (ix1 k)) k := by
  have e : (fun l => (refSum X Y (ix2 r l) : EReal)) = total (fun l => X (ix2 r l)) (fun l => Y (ix2 r l)) := funext fun l => refSum_eq X Y r l
  refine (refNorm_eq G B r k (refApart (refSum X Y))).trans ?_
  unfold normed
  rw [← e, ← funext fun l => refApart_eq r l (refSum X Y)]

end Reference

/-! ## The claims -/

theorem frame_kernel : Cert.quiescent_Norm := fun m g _ => Cert.Norm.Gen.frame m g
theorem frame_ideal : Cert.quiescent_NormIdeal := fun m g _ => Cert.NormIdeal.Gen.frame m g
theorem frame_reference : Cert.quiescent_NormReferenceIdeal := fun m g _ =>
  (θ_run Cert.NormReferenceIdeal.defs _ _).mono (fun r h => ⟨fun c => (h c).2, sem_eq_zero_of_no_sems (by decide) r.2⟩)
    (Cert.NormReferenceIdeal.Value.run (F := Ideal) m g)

section Whole

variable (m : (ℓ : Loc nD τ sig) → Buf (Elt Ideal) ℓ) (c : Dev nD) (X' Y' : S4096x1024.Idx → EReal) (G' B' : S1024.Idx → EReal)
  (hX : X' = m ((c : Thread nD τ).loc main_arg0)) (hY : Y' = m ((c : Thread nD τ).loc main_arg1))
  (hG : G' = m ((c : Thread nD τ).loc main_arg2)) (hB : B' = m ((c : Thread nD τ).loc main_arg3))

include hX hY hG hB in
theorem whole : (dats m 0 c).arrAt 4 cfg0.N = refAll G' B' X' Y' := by
  funext i
  obtain ⟨r, k, rfl⟩ : ∃ (r : Fin 4096) (k : Fin 1024), i = ix2 r k := ⟨i 0, i 1, eq_ix2 i⟩
  subst hX hY hG hB
  exact (end_eq m c k r).trans (refAll_eq _ _ _ _ r k).symm

end Whole

theorem algebraic : Cert.algebraic_NormIdeal_NormReferenceIdeal := by
  intro m g m' g' _ h
  refine ⟨_, (θ_run Cert.NormIdeal.defs _ _).mono (fun r hr c => ?_) (run_blocks (F := Ideal) m g),
    Cert.NormReferenceIdeal.Value.run (F := Ideal) m' g'⟩
  obtain ⟨hX, hY, hG, hB⟩ := h c
  obtain ⟨h4, hr⟩ := hr c
  exact ⟨h4.trans (whole m c _ _ _ _ hX hY hG hB), hr⟩

end Cert.NormAlgebraic

end
-- ==== Proof.GluAlgebraic.lean ====
/-
  The feed-forward's gated unit, against its reference: thirty-two blocks of 128 rows, each on its own, are the unit of the whole
  array.
-/
module

public import proofs.«01_k».proof.Proof.Gen.Glu.Frame
public import proofs.«01_k».proof.Proof.Gen.GluIdeal.Value
public import proofs.«01_k».proof.Proof.Gen.GluReferenceIdeal.Run
public import proofs.«01_k».proof.Defs
public import Idealize.ShloMosaic.Lib.VecWindow
public import Idealize.ShloMosaic.Lib.Pointwise

@[expose] public section

set_option maxRecDepth 65536

noncomputable section

namespace Cert.GluAlgebraic

open Cert.GluIdeal Cert.GluIdeal.Gen Cert.GluIdeal.Value
open Idealize.ShloMosaic Idealize.ShloMosaic.TcCoe Idealize.SL.Sem

theorem zero2 : (![0, 0] : Fin 2 → ℕ) = fun _ => 0 := by funext a; fin_cases a <;> rfl

/-- A number times its logistic, times a second one. -/
def unit (g u : EReal) : EReal := g * Ideal.logistic g * u

/-- The columns of the gate and of what it gates. -/
abbrev gateCol (k : Fin 2816) : Fin 5632 := ⟨k.val, by omega⟩
abbrev upCol (k : Fin 2816) : Fin 5632 := ⟨2816 + k.val, by omega⟩

/-! ## One block -/

theorem out_eq (x : Vec Ideal S128x5632 .f32) (a : Fin 128) (k : Fin 2816) :
    (out0_1 x (ix2 a k) : EReal) = unit (x (ix2 a (gateCol k))) (x (ix2 a (upCol k))) := by
  have h0 : (extractStridedSlice S128x2816 ![0, 0] x slices_S128x5632_o0_0_S128x2816 (ix2 a k) : EReal) = x (ix2 a (gateCol k)) := by
    pointwise
  have h1 : (extractStridedSlice S128x2816 ![0, 2816] x slices_S128x5632_o0_2816_S128x2816 (ix2 a k) : EReal) = x (ix2 a (upCol k)) := by
    pointwise
  unfold out0_1 unit
  rw [View.canon_cons_unit_zero zero2, View.ld_unit_zero zero2, ← h0, ← h1]
  rfl

/-! ## The array at the end -/

/-- Row `a` of block `t`. -/
abbrev row (t : Fin cfg0.N) (a : Fin 128) : Fin 4096 := ⟨t.val * 128 + a.val, by have := t.isLt; have h : cfg0.N = 32 := rfl; omega⟩

theorem row_of (r : Fin 4096) : ∃ (t : Fin cfg0.N) (a : Fin 128), row t a = r := by
  have hN : cfg0.N = 32 := rfl
  have hr := r.isLt
  exact ⟨⟨r.val / 128, by omega⟩, ⟨r.val % 128, Nat.mod_lt _ (by decide)⟩, Fin.ext (Nat.div_add_mod' r.val 128)⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem flush : ∀ t : Fin cfg0.N, (cfg0.win 1).flush t = true := (by decide +kernel : ∀ t : Fin grid0.N, win0_1.flush t = true)

theorem emb_0 (t : Fin cfg0.N) (a : Fin 128) (b : Fin 5632) : (win0_0.rect t).emb (ix2 a b) = (ix2 (row t a) b : S4096x5632.Idx) := by
  refine funext fun x => Fin.ext ?_
  obtain ⟨h0, h1⟩ := index_0 t
  refine (win0_0.rect_emb_val t (ix2 a b) x rfl).trans ?_
  fin_cases x
  · show win0_0.index t 0 * 128 + a.val = _; rw [h0]; rfl
  · show win0_0.index t 1 * 5632 + b.val = _; rw [h1]; simp
theorem emb_1 (t : Fin cfg0.N) (a : Fin 128) (b : Fin 2816) : (win0_1.rect t).emb (ix2 a b) = (ix2 (row t a) b : S4096x2816.Idx) := by
  refine funext fun x => Fin.ext ?_
  obtain ⟨h0, h1⟩ := index_1 t
  refine (win0_1.rect_emb_val t (ix2 a b) x rfl).trans ?_
  fin_cases x
  · show win0_1.index t 0 * 128 + a.val = _; rw [h0]; rfl
  · show win0_1.index t 1 * 2816 + b.val = _; rw [h1]; simp

section Ends

variable (m : (ℓ : Loc nD τ sig) → Buf (Elt Ideal) ℓ) (c : Dev nD) (t : Fin cfg0.N)

/-- The argument, as numbers. -/
def X (r : Fin 4096) (l : Fin 5632) : EReal := (m ((c : Thread nD τ).loc main_arg0) : S4096x5632.Idx → EReal) (ix2 r l)

theorem blk_0 (a : Fin 128) (b : Fin 5632) : (iblk m c 0 t : S128x5632.Idx → EReal) (ix2 a b) = X m c (row t a) b := by
  show (V m c main_arg0 : S4096x5632.Idx → EReal) ((win0_0.rect t).emb (ix2 a b)) = _
  rw [emb_0, V_main_arg0]
  rfl

theorem end_eq (r : Fin 4096) (k : Fin 2816) : ((dats m 0 c).arrAt 1 cfg0.N : S4096x2816.Idx → EReal) (ix2 r k)
    = unit (X m c r (gateCol k)) (X m c r (upCol k)) := by
  obtain ⟨t, a, rfl⟩ := row_of r
  have e := congrFun ((blocks1 m c t (flush t)).trans (flushed1 m c t)) (ix2 a k)
  refine (congrArg ((dats m 0 c).arrAt 1 cfg0.N : S4096x2816.Idx → EReal) (emb_1 t a k)).symm.trans (e.trans ?_)
  refine (out_eq _ a k).trans ?_
  rw [blk_0, blk_0]

end Ends

/-! ## The reference -/

section Reference

open Cert.GluReferenceIdeal.Facts₀ hiding bitsLt_bf16_f32
open Cert.GluReferenceIdeal (S_)

variable (X : FVec Ideal S4096x5632 .f32)

/-- The logistic of an array, as the reference writes it. -/
def refGate (x : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf x)))
/-- The reference's result. -/
def refAll : FVec Ideal S4096x2816 .bf16 :=
  truncf .bf16 (mulf (mulf (extractStridedSlice S4096x2816 ![0, 0] X slices_S4096x5632_S4096x2816_0_0)
      (refGate (extractStridedSlice S4096x2816 ![0, 0] X slices_S4096x5632_S4096x2816_0_0)))
    (extractStridedSlice S4096x2816 ![0, 2816] X slices_S4096x5632_S4096x2816_0_2816)) bitsLt_bf16_f32

theorem one : Ideal.ofBits .f32 0x3F800000#32 = 1 := by simp [Ideal.ofBits, Ideal.ieee, -EReal.coe_mul]; norm_num

theorem refGate_eq (x : FVec Ideal S4096x2816 .f32) (i : S4096x2816.Idx) : (refGate x i : EReal) = Ideal.logistic (x i) := by
  have h : (refGate x i : EReal) = Ideal.div (Ideal.ofBits .f32 0x3F800000#32) (Ideal.ofBits .f32 0x3F800000#32 + Ideal.exp (-(x i : EReal))) := by
    unfold refGate
    pointwise
  rw [h, one]
  rfl
theorem refAll_eq (r : Fin 4096) (k : Fin 2816) : (refAll X (ix2 r k) : EReal) = unit (X (ix2 r (gateCol k))) (X (ix2 r (upCol k))) := by
  have ha : (extractStridedSlice S4096x2816 ![0, 0] X slices_S4096x5632_S4096x2816_0_0 (ix2 r k) : EReal) = X (ix2 r (gateCol k)) := by pointwise
  have hb : (extractStridedSlice S4096x2816 ![0, 2816] X slices_S4096x5632_S4096x2816_0_2816 (ix2 r k) : EReal) = X (ix2 r (upCol k)) := by pointwise
  unfold unit
  rw [← ha, ← hb, ← refGate_eq]
  rfl

end Reference

/-! ## The claims -/

theorem frame_kernel : Cert.quiescent_Glu := fun m g _ => Cert.Glu.Gen.frame m g
theorem frame_ideal : Cert.quiescent_GluIdeal := fun m g _ => Cert.GluIdeal.Gen.frame m g
theorem frame_reference : Cert.quiescent_GluReferenceIdeal := fun m g _ =>
  (θ_run Cert.GluReferenceIdeal.defs _ _).mono (fun r h => ⟨fun c => (h c).2, sem_eq_zero_of_no_sems (by decide) r.2⟩)
    (Cert.GluReferenceIdeal.Value.run (F := Ideal) m g)

section Whole

variable (m : (ℓ : Loc nD τ sig) → Buf (Elt Ideal) ℓ) (c : Dev nD) (Y : S4096x5632.Idx → EReal) (hY : Y = m ((c : Thread nD τ).loc main_arg0))

include hY in
theorem whole : (dats m 0 c).arrAt 1 cfg0.N = refAll Y := by
  funext i
  obtain ⟨r, k, rfl⟩ : ∃ (r : Fin 4096) (k : Fin 2816), i = ix2 r k := ⟨i 0, i 1, eq_ix2 i⟩
  subst hY
  exact (end_eq m c r k).trans (refAll_eq _ r k).symm

end Whole

theorem algebraic : Cert.algebraic_GluIdeal_GluReferenceIdeal := by
  intro m g m' g' _ h
  refine ⟨_, (θ_run Cert.GluIdeal.defs _ _).mono (fun r hr c => ?_) (run_blocks (F := Ideal) m g),
    Cert.GluReferenceIdeal.Value.run (F := Ideal) m' g'⟩
  obtain ⟨h1, hr⟩ := hr c
  exact ⟨h1.trans (whole m c _ (h c)), hr⟩

end Cert.GluAlgebraic

end
-- ==== Proof.EnterAlgebraic.lean ====
/-
  The projection at the entry of a layer's mixer, against its reference: each block of 512 rows and 512 columns of the result is
  one product of blocks that hold whole rows and whole columns.
-/
module

public import proofs.«01_k».proof.Proof.Gen.Enter.Frame
public import proofs.«01_k».proof.Proof.Gen.EnterIdeal.Value
public import proofs.«01_k».proof.Proof.Gen.EnterReferenceIdeal.Run
public import proofs.«01_k».proof.Defs
public import Idealize.ShloMosaic.Lib.VecWindow
public import Idealize.ShloMosaic.Lib.Pointwise

@[expose] public section

set_option maxRecDepth 65536

noncomputable section

namespace Cert.EnterAlgebraic

open Cert.EnterIdeal Cert.EnterIdeal.Gen Cert.EnterIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S1024x512 .bf16) (a b : Fin 512) :
    (k0_pay2 x w (ix2 a b) : EReal) = ∑ l : Fin 1024, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 152 := rfl
/-- Row `a` and column `b` of the block that point `t` computes. -/
abbrev row (t : Fin cfg0.N) (a : Fin 512) : Fin 4096 := ⟨t.val / 19 * 512 + a.val, by have := t.isLt; have := N_eq; have := a.isLt; omega⟩
abbrev col (t : Fin cfg0.N) (b : Fin 512) : Fin 9728 := ⟨t.val % 19 * 512 + b.val, by have := b.isLt; omega⟩

theorem place_of (r : Fin 4096) (o : Fin 9728) : ∃ (t : Fin cfg0.N) (a b : Fin 512), row t a = r ∧ col t b = o := by
  have hN := N_eq
  have hr := r.isLt
  have ho := o.isLt
  exact ⟨⟨19 * (r.val / 512) + o.val / 512, by omega⟩, ⟨r.val % 512, Nat.mod_lt _ (by decide)⟩, ⟨o.val % 512, Nat.mod_lt _ (by decide)⟩,
    Fin.ext (by show (19 * (r.val / 512) + o.val / 512) / 19 * 512 + r.val % 512 = r.val; omega),
    Fin.ext (by show (19 * (r.val / 512) + o.val / 512) % 19 * 512 + o.val % 512 = o.val; omega)⟩

theorem index_of : ∀ t : Fin grid0.N, (win0_0.index t 0 = t.val / 19 ∧ win0_0.index t 1 = 0) ∧ (win0_1.index t 0 = 0 ∧ win0_1.index t 1 = t.val % 19)
    ∧ (win0_2.index t 0 = t.val / 19 ∧ win0_2.index t 1 = t.val % 19) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (l : Fin 1024) (b : Fin 512) : (win0_1.rect t).emb (ix2 l b) = (ix2 l (col t b) : S1024x9728.Idx) := by
  refine funext fun x => Fin.ext ?_
  obtain ⟨-, ⟨h0, h1⟩, -⟩ := index_of t
  refine (win0_1.rect_emb_val t (ix2 l b) x rfl).trans ?_
  fin_cases x
  · show win0_1.index t 0 * 1024 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x9728.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 1024)

/-- The two arguments, as numbers. -/
def X (r : Fin 4096) (l : Fin 1024) : EReal := (m ((c : Thread nD τ).loc main_arg0) : S4096x1024.Idx → EReal) (ix2 r l)
def W (l : Fin 1024) (o : Fin 9728) : EReal := (m ((c : Thread nD τ).loc main_arg1) : S1024x9728.Idx → EReal) (ix2 l o)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S1024x512.Idx → EReal) (ix2 l b) = W m c l (col t b) := by
  show (V m c main_arg1 : S1024x9728.Idx → EReal) ((win0_1.rect t).emb (ix2 l b)) = _
  rw [emb_1, V_main_arg1]
  rfl

theorem end_eq (r : Fin 4096) (o : Fin 9728) :
    ((dats m 0 c).arrAt 2 cfg0.N : S4096x9728.Idx → EReal) (ix2 r o) = ∑ l : Fin 1024, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x9728.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S1024x9728 .bf16) : FVec Ideal S4096x9728 .f32 :=
  Host.dotGeneral Cert.EnterReferenceIdeal.dot_S4096x1024_S1024x9728_S4096x9728_1_0_0_1_n_n none x
    (extf .f32 w Cert.EnterReferenceIdeal.Facts₀.bitsLt_bf16_f32)

theorem ref_eq (x : FVec Ideal S4096x1024 .f32) (w : FVec Ideal S1024x9728 .bf16) (r : Fin 4096) (o : Fin 9728) :
    (ref x w (ix2 r o) : EReal) = ∑ l : Fin 1024, (x (ix2 r l) : EReal) * w (ix2 l o) := by
  unfold ref
  pointwise

/-! ## The claims -/

theorem frame_kernel : Cert.quiescent_Enter := fun m g _ => Cert.Enter.Gen.frame m g
theorem frame_ideal : Cert.quiescent_EnterIdeal := fun m g _ => Cert.EnterIdeal.Gen.frame m g
theorem frame_reference : Cert.quiescent_EnterReferenceIdeal := fun m g _ =>
  (θ_run Cert.EnterReferenceIdeal.defs _ _).mono (fun r h => ⟨fun c => (h c).2, sem_eq_zero_of_no_sems (by decide) r.2⟩)
    (Cert.EnterReferenceIdeal.Value.run (F := Ideal) m g)

theorem whole (m : (ℓ : Loc nD τ sig) → Buf (Elt Ideal) ℓ) (c : Dev nD) (x : FVec Ideal S4096x1024 .f32) (w : FVec Ideal S1024x9728 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 9728), i = ix2 r o := ⟨i 0, i 1, eq_ix2 i⟩
  subst hx hw
  exact (end_eq m c r o).trans (ref_eq _ _ r o).symm

theorem algebraic : Cert.algebraic_EnterIdeal_EnterReferenceIdeal := by
  intro m g m' g' _ h
  refine ⟨_, (θ_run Cert.EnterIdeal.defs _ _).mono (fun r hr c => ?_) (run_blocks (F := Ideal) m g),
    Cert.EnterReferenceIdeal.Value.run (F := Ideal) m' g'⟩
  obtain ⟨hx, hw⟩ := h c
  obtain ⟨h2, hr⟩ := hr c
  exact ⟨h2.trans (whole m c _ _ hx hw), hr⟩

end Cert.EnterAlgebraic

end
-- ==== Proof.MemoryAlgebraic.lean ====
/-
  The layer norm of the memory, against its reference: two blocks of 256 rows, each on its own, are the norm of the whole array.
-/
module

public import proofs.«01_k».proof.Proof.Gen.Memory.Frame
public import proofs.«01_k».proof.Proof.Gen.MemoryIdeal.Value
public import proofs.«01_k».proof.Proof.Gen.MemoryReferenceIdeal.Run
public import proofs.«01_k».proof.Defs
public import Idealize.ShloMosaic.Lib.VecWindow
public import Idealize.ShloMosaic.Lib.Pointwise

@[expose] public section

set_option maxRecDepth 65536

noncomputable section

namespace Cert.MemoryAlgebraic

open Cert.MemoryIdeal Cert.MemoryIdeal.Gen Cert.MemoryIdeal.Value
open Idealize.ShloMosaic Idealize.ShloMosaic.TcCoe Idealize.SL.Sem

theorem zero2 : (![0, 0] : Fin 2 → ℕ) = fun _ => 0 := by funext a; fin_cases a <;> rfl

/-! ## One row -/

/-- A row's distance to its mean, and the row brought to mean zero and variance one. -/
def apart (s : Fin 1024 → EReal) (k : Fin 1024) : EReal := s k - Ideal.div (∑ l, s l) (Ideal.ofBits .f32 0x44800000#32)
def normed (s : Fin 1024 → EReal) (g b : EReal) (k : Fin 1024) : EReal :=
  apart s k * Ideal.rsqrt (Ideal.div (∑ l, apart s l * apart s l) (Ideal.ofBits .f32 0x44800000#32) + Ideal.ofBits .f32 0x3727C5AC#32) * g + b

/-! ## One block -/

section Block

variable (x : Vec Ideal S256x1024 .f32) (g b : Vec Ideal S1x1024 .f32) (a : Fin 256) (k : Fin 1024)

/-- The distance to each row's mean, and the norm from it. -/
def dist (s : FVec Ideal S256x1024 .f32) : FVec Ideal S256x1024 .f32 :=
  subf s (broadcastTo S256x1024 (divf (shapeCast S256x1 (multiReduction .add [1] S256 s 0x00000000#32 reduces_S256x1024_S256 (.inl rfl) rfl)
    shapeCasts_S256_S256x1) (broadcast S256x1 (Scalar.ofBits .f32 0x44800000#32))) broadcasts_S256x1_S256x1024)
def scaled (d : FVec Ideal S256x1024 .f32) : FVec Ideal S256x1024 .f32 :=
  addf (mulf (mulf d (broadcastTo S256x1024 (rsqrt (addf (divf (shapeCast S256x1 (multiReduction .add [1] S256 (mulf d d) 0x00000000#32
      reduces_S256x1024_S256 (.inl rfl) rfl) shapeCasts_S256_S256x1) (broadcast S256x1 (Scalar.ofBits .f32 0x44800000#32)))
      (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem dist_eq (s : FVec Ideal S256x1024 .f32) : (dist s (ix2 a k) : EReal) = apart (fun l => s (ix2 a l)) k := by
  unfold dist apart
  pointwise
theorem scaled_eq (d : FVec Ideal S256x1024 .f32) : (scaled g b d (ix2 a k) : EReal)
    = (d (ix2 a k) : EReal) * Ideal.rsqrt (Ideal.div (∑ l : Fin 1024, (d (ix2 a l) : EReal) * d (ix2 a l)) (Ideal.ofBits .f32 0x44800000#32)
        + Ideal.ofBits .f32 0x3727C5AC#32) * g (ix2 0 k) + b (ix2 0 k) := by
  unfold scaled
  pointwise

theorem out_eq : (out0_3 x g b (ix2 a k) : EReal) = normed (fun l => x (ix2 a l)) (g (ix2 0 k)) (b (ix2 0 k)) k := by
  unfold out0_3
  rw [View.canon_cons_unit_zero zero2, View.ld_unit_zero zero2, View.ld_unit_zero zero2, View.ld_unit_zero zero2]
  refine (scaled_eq g b a k (dist x)).trans ?_
  unfold normed
  rw [← funext fun l => dist_eq a l x]

end Block

/-! ## The array at the end -/

/-- Row `a` of block `t`. -/
abbrev row (t : Fin cfg0.N) (a : Fin 256) : Fin 512 := ⟨t.val * 256 + a.val, by have := t.isLt; have h : cfg0.N = 2 := rfl; omega⟩

theorem row_of (r : Fin 512) : ∃ (t : Fin cfg0.N) (a : Fin 256), row t a = r := by
  have hN : cfg0.N = 2 := rfl
  have hr := r.isLt
  exact ⟨⟨r.val / 256, by omega⟩, ⟨r.val % 256, Nat.mod_lt _ (by decide)⟩, Fin.ext (Nat.div_add_mod' r.val 256)⟩

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem flush : ∀ t : Fin cfg0.N, (cfg0.win 3).flush t = true := (by decide +kernel : ∀ t : Fin grid0.N, win0_3.flush t = true)

/-- The blocks of the argument and of the result are the same rows; the scale and the shift are whole. -/
theorem emb_0 (t : Fin cfg0.N) (a : Fin 256) (b : Fin 1024) : (win0_0.rect t).emb (ix2 a b) = (ix2 (row t a) b : S512x1024.Idx) := by
  refine funext fun x => Fin.ext ?_
  obtain ⟨h0, h1⟩ := index_0 t
  refine (win0_0.rect_emb_val t (ix2 a b) x rfl).trans ?_
  fin_cases x
  · show win0_0.index t 0 * 256 + a.val = _; rw [h0]; rfl
  · show win0_0.index t 1 * 1024 + b.val = _; rw [h1]; simp
theorem emb_1 (t : Fin cfg0.N) (b : Fin 1024) : (win0_1.rect t).emb (ix2 0 b) = (ix2 0 b : S1x1024.Idx) := by
  refine funext fun x => Fin.ext ?_
  obtain ⟨h0, h1⟩ := index_1 t
  refine (win0_1.rect_emb_val t (ix2 0 b) x rfl).trans ?_
  fin_cases x
  · show win0_1.index t 0 * 1 + 0 = _; rw [h0]; rfl
  · show win0_1.index t 1 * 1024 + b.val = _; rw [h1]; simp

section Ends

variable (m : (ℓ : Loc nD τ sig) → Buf (Elt Ideal) ℓ) (c : Dev nD) (t : Fin cfg0.N) (a : Fin 256) (k : Fin 1024)

/-- The three arguments, as numbers. -/
def X (r : Fin 512) (l : Fin 1024) : EReal := (m ((c : Thread nD τ).loc main_arg0) : S512x1024.Idx → EReal) (ix2 r l)
def G (l : Fin 1024) : EReal := (m ((c : Thread nD τ).loc main_arg1) : S1024.Idx → EReal) (ix1 l)
def B (l : Fin 1024) : EReal := (m ((c : Thread nD τ).loc main_arg2) : S1024.Idx → EReal) (ix1 l)

theorem start_1 : (V m c main_v0 : S1x1024.Idx → EReal) = shapeCast S1x1024 (m ((c : Thread nD τ).loc main_arg1)) shapeCasts_S1024_S1x1024 := by
  show StableHlo.after hostOps0 (fun b => m (c, b)) (Proc.devRef .tc main_v0) = _
  after_results <;> rfl
theorem start_2 : (V m c main_v1 : S1x1024.Idx → EReal) = shapeCast S1x1024 (m ((c : Thread nD τ).loc main_arg2)) shapeCasts_S1024_S1x1024 := by
  show StableHlo.after hostOps0 (fun b => m (c, b)) (Proc.devRef .tc main_v1) = _
  after_results <;> rfl

theorem blk_0 : (iblk m c 0 t : S256x1024.Idx → EReal) (ix2 a k) = X m c (row t a) k := by
  show (V m c main_arg0 : S512x1024.Idx → EReal) ((win0_0.rect t).emb (ix2 a k)) = _
  rw [emb_0, V_main_arg0]
  rfl
theorem blk_1 : (iblk m c 1 t : S1x1024.Idx → EReal) (ix2 0 k) = G m c k := by
  show (V m c main_v0 : S1x1024.Idx → EReal) ((win0_1.rect t).emb (ix2 0 k)) = _
  rw [emb_1, start_1]
  pointwise
  rfl
theorem blk_2 : (iblk m c 2 t : S1x1024.Idx → EReal) (ix2 0 k) = B m c k := by
  show (V m c main_v1 : S1x1024.Idx → EReal) ((win0_1.rect t).emb (ix2 0 k)) = _
  rw [emb_1, start_2]
  pointwise
  rfl

theorem end_eq (r : Fin 512) : ((dats m 0 c).arrAt 3 cfg0.N : S512x1024.Idx → EReal) (ix2 r k) = normed (X m c r) (G m c k) (B m c k) k := by
  obtain ⟨t, a, rfl⟩ := row_of r
  have e := congrFun ((blocks3 m c t (flush t)).trans (flushed3 m c t)) (ix2 a k)
  refine (congrArg ((dats m 0 c).arrAt 3 cfg0.N : S512x1024.Idx → EReal) (emb_0 t a k)).symm.trans (e.trans ?_)
  refine (out_eq _ _ _ a k).trans ?_
  rw [blk_1, blk_2, funext fun l => blk_0 m c t a l]

end Ends

/-! ## The reference -/

section Reference

open Cert.MemoryReferenceIdeal.Facts₀
open Cert.MemoryReferenceIdeal (S_ S512x1 S512)

variable (G B : FVec Ideal S1024 .f32) (X : FVec Ideal S512x1024 .f32) (r : Fin 512) (k : Fin 1024)

/-- A value at every place of a row, and a vector at every row. -/
def refCol (w : FVec Ideal S512x1 .f32) : FVec Ideal S512x1024 .f32 :=
  broadcastInDim S512x1024 ![0, 1] bcast_S512x1_S512x1024_0_1 w
def refRow (G : FVec Ideal S1024 .f32) : FVec Ideal S512x1024 .f32 :=
  broadcastInDim S512x1024 ![0, 1] bcast_S1x1024_S512x1024_0_1 (broadcastInDim S1x1024 ![1] bcast_S1024_S1x1024_1 G)
/-- The mean of each row. -/
def refMean (s : FVec Ideal S512x1024 .f32) : FVec Ideal S512x1 .f32 :=
  Host.divf (broadcastInDim S512x1 ![0] bcast_S512_S512x1_0 (Host.reduceAdd s (constant S_ .f32 0x00000000#32) reducesTo_S512x1024_S512_d1 h_S_))
    (broadcastInDim S512x1 ![] bcast_S_S512x1 (constant S_ .f32 0x44800000#32))
def refApart (s : FVec Ideal S512x1024 .f32) : FVec Ideal S512x1024 .f32 := subf s (refCol (refMean s))
def refRoot (d : FVec Ideal S512x1024 .f32) : FVec Ideal S512x1 .f32 :=
  Host.rsqrt (addf (refMean (mulf d d)) (broadcastInDim S512x1 ![] bcast_S_S512x1 (constant S_ .f32 0x3727C5AC#32)))
def refNorm (d : FVec Ideal S512x1024 .f32) : FVec Ideal S512x1024 .f32 := addf (mulf (mulf d (refCol (refRoot d))) (refRow G)) (refRow B)
/-- The reference's result. -/
def refAll : FVec Ideal S512x1024 .f32 := refNorm G B (refApart X)

theorem refMean_eq (s : FVec Ideal S512x1024 .f32) : (refMean s (ix2 r 0) : EReal)
    = Ideal.div (∑ l : Fin 1024, (s (ix2 r l) : EReal)) (Ideal.ofBits .f32 0x44800000#32) := by
  unfold refMean
  pointwise
theorem refCol_eq (w : FVec Ideal S512x1 .f32) : (refCol w (ix2 r k) : EReal) = w (ix2 r 0) := by
  unfold refCol
  pointwise
theorem refRow_eq : (refRow G (ix2 r k) : EReal) = G (ix1 k) := by
  unfold refRow
  pointwise
theorem refApart_eq (s : FVec Ideal S512x1024 .f32) : (refApart s (ix2 r k) : EReal) = apart (fun l => s (ix2 r l)) k := by
  show (s (ix2 r k) : EReal) - refCol (refMean s) (ix2 r k) = _
  rw [refCol_eq, refMean_eq]
  rfl
theorem refRoot_eq (d : FVec Ideal S512x1024 .f32) : (refRoot d (ix2 r 0) : EReal)
    = Ideal.rsqrt (Ideal.div (∑ l : Fin 1024, (d (ix2 r l) : EReal) * d (ix2 r l)) (Ideal.ofBits .f32 0x44800000#32)
        + Ideal.ofBits .f32 0x3727C5AC#32) := by
  have h : (refRoot d (ix2 r 0) : EReal) = Ideal.rsqrt ((refMean (mulf d d) (ix2 r 0) : EReal) + Ideal.ofBits .f32 0x3727C5AC#32) := by
    unfold refRoot
    pointwise
  rw [h, refMean_eq]
  rfl
theorem refNorm_eq (d : FVec Ideal S512x1024 .f32) : (refNorm G B d (ix2 r k) : EReal)
    = (d (ix2 r k) : EReal) * Ideal.rsqrt (Ideal.div (∑ l : Fin 1024, (d (ix2 r l) : EReal) * d (ix2 r l)) (Ideal.ofBits .f32 0x44800000#32)
        + Ideal.ofBits .f32 0x3727C5AC#32) * G (ix1 k) + B (ix1 k) :=
  (congrArg₂ (fun u v : EReal => u + v) (congrArg₂ (fun u v : EReal => (d (ix2 r k) : EReal) * u * v)
    ((refCol_eq r k (refRoot d)).trans (refRoot_eq r d)) (refRow_eq G r k)) (refRow_eq B r k))
theorem refAll_eq : (refAll G B X (ix2 r k) : EReal) = normed (fun l => X (ix2 r l)) (G (ix1 k)) (B (ix1 k)) k := by
  refine (refNorm_eq G B r k (refApart X)).trans ?_
  unfold normed
  rw [← funext fun l => refApart_eq r l X]

end Reference

/-! ## The claims -/

theorem frame_kernel : Cert.quiescent_Memory := fun m g _ => Cert.Memory.Gen.frame m g
theorem frame_ideal : Cert.quiescent_MemoryIdeal := fun m g _ => Cert.MemoryIdeal.Gen.frame m g
theorem frame_reference : Cert.quiescent_MemoryReferenceIdeal := fun m g _ =>
  (θ_run Cert.MemoryReferenceIdeal.defs _ _).mono (fun r h => ⟨fun c => (h c).2, sem_eq_zero_of_no_sems (by decide) r.2⟩)
    (Cert.MemoryReferenceIdeal.Value.run (F := Ideal) m g)

section Whole

variable (m : (ℓ : Loc nD τ sig) → Buf (Elt Ideal) ℓ) (c : Dev nD) (X' : S512x1024.Idx → EReal) (G' B' : S1024.Idx → EReal)
  (hX : X' = m ((c : Thread nD τ).loc main_arg0)) (hG : G' = m ((c : Thread nD τ).loc main_arg1))
  (hB : B' = m ((c : Thread nD τ).loc main_arg2))

include hX hG hB in
theorem whole : (dats m 0 c).arrAt 3 cfg0.N = refAll G' B' X' := by
  funext i
  obtain ⟨r, k, rfl⟩ : ∃ (r : Fin 512) (k : Fin 1024), i = ix2 r k := ⟨i 0, i 1, eq_ix2 i⟩
  subst hX hG hB
  exact (end_eq m c k r).trans (refAll_eq _ _ _ r k).symm

end Whole

theorem algebraic : Cert.algebraic_MemoryIdeal_MemoryReferenceIdeal := by
  intro m g m' g' _ h
  refine ⟨_, (θ_run Cert.MemoryIdeal.defs _ _).mono (fun r hr c => ?_) (run_blocks (F := Ideal) m g),
    Cert.MemoryReferenceIdeal.Value.run (F := Ideal) m' g'⟩
  obtain ⟨hX, hG, hB⟩ := h c
  obtain ⟨h3, hr⟩ := hr c
  exact ⟨h3.trans (whole m c _ _ _ hX hG hB), hr⟩

end Cert.MemoryAlgebraic

end
-- ==== Proof.ConvAlgebraic.lean ====
/-
  The causal depthwise convolution and its activation, against their reference: each block holds one batch's 2048 rows and 256
  columns, and turns its rows round instead of reading rows before the first.
-/
module

public import proofs.«01_k».proof.Proof.Gen.Conv.Frame
public import proofs.«01_k».proof.Proof.Gen.ConvIdeal.Value
public import proofs.«01_k».proof.Proof.Gen.ConvReferenceIdeal.Run
public import proofs.«01_k».proof.Defs
public import Idealize.ShloMosaic.Lib.VecWindow
public import Idealize.ShloMosaic.Lib.Pointwise

@[expose] public section

set_option maxRecDepth 65536

noncomputable section

namespace Cert.ConvAlgebraic

open Cert.ConvIdeal Cert.ConvIdeal.Gen Cert.ConvIdeal.Value
open Idealize.ShloMosaic Idealize.ShloMosaic.TcCoe Idealize.SL.Sem

theorem zero2 : (![0, 0] : Fin 2 → ℕ) = fun _ => 0 := by funext a; fin_cases a <;> rfl

/-! ## One entry -/

/-- What a column holds `n` rows before row `a`, and zero before its first row. -/
def lag (f : Fin 2048 → EReal) (n : ℕ) (a : Fin 2048) : EReal := if n ≤ a.val then f ⟨a.val - n, by have := a.isLt; omega⟩ else 0
/-- A row and the three before it under the four weights, and the shift. -/
def taps (f : Fin 2048 → EReal) (w : Fin 4 → EReal) (b : EReal) (a : Fin 2048) : EReal :=
  f a * w 3 + b + lag f 3 a * w 0 + lag f 2 a * w 1 + lag f 1 a * w 2
/-- The activation. -/
def act (v : EReal) : EReal := v * Ideal.logistic v

theorem zero_word : Ideal.ofBits .f32 0x00000000#32 = 0 := by simp [Ideal.ofBits, Ideal.ieee]
theorem one_word : Ideal.ofBits .f32 0x3F800000#32 = 1 := by simp [Ideal.ofBits, Ideal.ieee, -EReal.coe_mul]; norm_num

/-! ## One block -/

theorem mask_word : ∀ (n : Fin 4) (a : Fin 2048),
    Scalar.cmpi .sge (BitVec.ofNat 32 a.val) (BitVec.ofNat 32 n.val) = if n.val ≤ a.val then 1#1 else 0#1 := by decide +kernel

theorem turn_eq (x : Vec Ideal S2048x256 .f32) (n : Fin 4) (a : Fin 2048) (k : Fin 256) (h : n.val ≤ a.val) :
    dynamicRotate 0 (BitVec.ofNat 32 n.val) none x rotates_S2048x256_d0 (ix2 a k) = x (ix2 ⟨a.val - n.val, by have := a.isLt; omega⟩ k) := by
  have ha := a.isLt
  have hn := n.isLt
  have hw : (BitVec.ofNat 32 n.val).toNat = n.val := by rw [BitVec.toNat_ofNat]; omega
  rw [Pointwise.dynamicRotate_apply]
  refine congrArg x (funext fun b => Fin.ext ?_)
  fin_cases b
  · show (a.val + 2048 - ((BitVec.ofNat 32 n.val).toNat + 0) % 2048) % 2048 = a.val - n.val
    rw [hw]
    omega
  · rfl

/-- The rows turned round, with zero where the turn brought rows from the end. -/
def shifted (n : BitVec 32) (x : Vec Ideal S2048x256 .f32) : FVec Ideal S2048x256 .f32 :=
  select (cmpi .sge (iota .tc S2048x256 32 [0] iota_S2048x256_d0_w32) (broadcast S2048x256 n)) (dynamicRotate 0 n none x rotates_S2048x256_d0)
    (broadcast S2048x256 (Scalar.ofBits .f32 0x00000000#32))

theorem shifted_eq (x : Vec Ideal S2048x256 .f32) (n : Fin 4) (a : Fin 2048) (k : Fin 256) :
    (shifted (BitVec.ofNat 32 n.val) x (ix2 a k) : EReal) = lag (fun l => x (ix2 l k)) n.val a := by
  have e : (shifted (BitVec.ofNat 32 n.val) x (ix2 a k) : EReal)
      = Scalar.select (Scalar.cmpi .sge (BitVec.ofNat 32 a.val) (BitVec.ofNat 32 n.val))
          (dynamicRotate 0 (BitVec.ofNat 32 n.val) none x rotates_S2048x256_d0 (ix2 a k) : EReal) (Ideal.ofBits .f32 0x00000000#32) := by
    have i0 : iota .tc S2048x256 32 [0] iota_S2048x256_d0_w32 (ix2 a k) = BitVec.ofNat 32 a.val := by
      rw [iota_single_apply]
      rfl
    rw [← i0]
    rfl
  rw [e, mask_word, zero_word]
  unfold lag
  by_cases h : n.val ≤ a.val
  · rw [if_pos h, if_pos h, turn_eq x n a k h]
    rfl
  · rw [if_neg h, if_neg h]
    rfl

/-- A row of the weights, at every row of the block. -/
theorem weight_eq (w : Vec Ideal S4x256 .f32) (n : Fin 4) (h : S4x256.Slices ![n.val, 0] S1x256) (a : Fin 2048) (k : Fin 256) :
    (broadcastTo S2048x256 (extractStridedSlice S1x256 ![n.val, 0] w h) broadcasts_S1x256_S2048x256 (ix2 a k) : EReal) = w (ix2 n k) := by
  fin_cases n <;> pointwise

theorem out_eq (x : Vec Ideal S2048x256 .f32) (w : Vec Ideal S4x256 .f32) (b : Vec Ideal S1x256 .f32) (a : Fin 2048) (k : Fin 256) :
    (out0_3 x w b (ix2 a k) : EReal) = act (taps (fun l => x (ix2 l k)) (fun n => w (ix2 n k)) (b (ix2 0 k)) a) := by
  have hb : (broadcastTo S2048x256 (shapeCast S1x256 b shapeCasts_S1x256_S1x256) broadcasts_S1x256_S2048x256 (ix2 a k) : EReal) = b (ix2 0 k) := by
    pointwise
  unfold out0_3 taps act
  dsimp only
  rw [View.canon_cons_unit_zero zero2, View.ld_unit_zero zero2, View.ld_unit_zero zero2, View.ld_unit_zero zero2, ← hb,
    ← weight_eq w 0 slices_S4x256_o0_0_S1x256 a k, ← weight_eq w 1 slices_S4x256_o1_0_S1x256 a k,
    ← weight_eq w 2 slices_S4x256_o2_0_S1x256 a k, ← weight_eq w 3 slices_S4x256_o3_0_S1x256 a k]
  have h3 : (shifted 3#32 x (ix2 a k) : EReal) = lag (fun l => x (ix2 l k)) 3 a := shifted_eq x 3 a k
  have h2 : (shifted 2#32 x (ix2 a k) : EReal) = lag (fun l => x (ix2 l k)) 2 a := shifted_eq x 2 a k
  have h1 : (shifted 1#32 x (ix2 a k) : EReal) = lag (fun l => x (ix2 l k)) 1 a := shifted_eq x 1 a k
  rw [← h3, ← h2, ← h1]
  rfl

/-! ## The array at the end -/

theorem N_eq : cfg0.N = 24 := rfl
/-- Row `a` and column `b` of the block that point `t` computes, and that column in the projection. -/
abbrev row (t : Fin cfg0.N) (a : Fin 2048) : Fin 4096 := ⟨t.val % 2 * 2048 + a.val, by have := a.isLt; omega⟩
abbrev col (t : Fin cfg0.N) (b : Fin 256) : Fin 3072 := ⟨t.val / 2 * 256 + b.val, by have := t.isLt; have := N_eq; have := b.isLt; omega⟩
abbrev inCol (k : Fin 3072) : Fin 9728 := ⟨4096 + k.val, by have := k.isLt; omega⟩
/-- Row `a` of a batch. -/
abbrev batchRow (q : Fin 2) (a : Fin 2048) : Fin 4096 := ⟨q.val * 2048 + a.val, by have := q.isLt; have := a.isLt; omega⟩

theorem place_of (q : Fin 2) (a : Fin 2048) (o : Fin 3072) : ∃ (t : Fin cfg0.N) (b : Fin 256), t.val % 2 = q.val ∧ col t b = o := by
  have hN := N_eq
  have hq := q.isLt
  have ho := o.isLt
  exact ⟨⟨o.val / 256 * 2 + q.val, by omega⟩, ⟨o.val % 256, Nat.mod_lt _ (by decide)⟩, by show (o.val / 256 * 2 + q.val) % 2 = q.val; omega,
    Fin.ext (by show (o.val / 256 * 2 + q.val) / 2 * 256 + o.val % 256 = o.val; omega)⟩

theorem index_of : ∀ t : Fin grid0.N, (win0_0.index t 0 = t.val % 2 ∧ win0_0.index t 1 = 16 + t.val / 2) ∧ (win0_1.index t 0 = 0 ∧ win0_1.index t 1 = t.val / 2)
    ∧ (win0_2.index t 0 = 0 ∧ win0_2.index t 1 = t.val / 2) ∧ (win0_3.index t 0 = t.val % 2 ∧ win0_3.index t 1 = t.val / 2) := by decide +kernel
theorem flush : ∀ t : Fin cfg0.N, (cfg0.win 3).flush t = true := (by decide +kernel : ∀ t : Fin grid0.N, win0_3.flush t = true)

theorem emb_0 (t : Fin cfg0.N) (a : Fin 2048) (b : Fin 256) : (win0_0.rect t).emb (ix2 a b) = (ix2 (row t a) (inCol (col t b)) : S4096x9728.Idx) := by
  refine funext fun x => Fin.ext ?_
  obtain ⟨⟨h0, h1⟩, -⟩ := index_of t
  refine (win0_0.rect_emb_val t (ix2 a b) x rfl).trans ?_
  fin_cases x
  · show win0_0.index t 0 * 2048 + a.val = _; rw [h0]; rfl
  · show win0_0.index t 1 * 256 + b.val = 4096 + (t.val / 2 * 256 + b.val); rw [h1]; omega
theorem emb_1 (t : Fin cfg0.N) (n : Fin 4) (b : Fin 256) : (win0_1.rect t).emb (ix2 n b) = (ix2 n (col t b) : S4x3072.Idx) := by
  refine funext fun x => Fin.ext ?_
  obtain ⟨-, ⟨h0, h1⟩, -⟩ := index_of t
  refine (win0_1.rect_emb_val t (ix2 n b) x rfl).trans ?_
  fin_cases x
  · show win0_1.index t 0 * 4 + n.val = _; rw [h0]; simp
  · show win0_1.index t 1 * 256 + b.val = _; rw [h1]; rfl
theorem emb_2 (t : Fin cfg0.N) (b : Fin 256) : (win0_2.rect t).emb (ix2 0 b) = (ix2 0 (col t b) : S1x3072.Idx) := by
  refine funext fun x => Fin.ext ?_
  obtain ⟨-, -, ⟨h0, h1⟩, -⟩ := index_of t
  refine (win0_2.rect_emb_val t (ix2 0 b) x rfl).trans ?_
  fin_cases x
  · show win0_2.index t 0 * 1 + 0 = _; rw [h0]; rfl
  · show win0_2.index t 1 * 256 + b.val = _; rw [h1]; rfl
theorem emb_3 (t : Fin cfg0.N) (a : Fin 2048) (b : Fin 256) : (win0_3.rect t).emb (ix2 a b) = (ix2 (row t a) (col t b) : S4096x3072.Idx) := by
  refine funext fun x => Fin.ext ?_
  obtain ⟨-, -, -, ⟨h0, h1⟩⟩ := index_of t
  refine (win0_3.rect_emb_val t (ix2 a b) x rfl).trans ?_
  fin_cases x
  · show win0_3.index t 0 * 2048 + a.val = _; rw [h0]; rfl
  · show win0_3.index t 1 * 256 + b.val = _; rw [h1]; rfl

section Ends

variable (m : (ℓ : Loc nD τ sig) → Buf (Elt Ideal) ℓ) (c : Dev nD) (t : Fin cfg0.N) (a : Fin 2048) (b : Fin 256)

/-- The three arguments, as numbers. -/
def X (r : Fin 4096) (l : Fin 9728) : EReal := (m ((c : Thread nD τ).loc main_arg0) : S4096x9728.Idx → EReal) (ix2 r l)
def W (n : Fin 4) (k : Fin 3072) : EReal := (m ((c : Thread nD τ).loc main_arg1) : S4x3072.Idx → EReal) (ix2 n k)
def B (k : Fin 3072) : EReal := (m ((c : Thread nD τ).loc main_arg2) : S3072.Idx → EReal) (ix1 k)

theorem start_2 : (V m c main_v0 : S1x3072.Idx → EReal) = shapeCast S1x3072 (m ((c : Thread nD τ).loc main_arg2)) shapeCasts_S3072_S1x3072 := by
  show StableHlo.after hostOps0 (fun b => m (c, b)) (Proc.devRef .tc main_v0) = _
  after_results <;> rfl

theorem blk_0 : (iblk m c 0 t : S2048x256.Idx → EReal) (ix2 a b) = X m c (row t a) (inCol (col t b)) := by
  show (V m c main_arg0 : S4096x9728.Idx → EReal) ((win0_0.rect t).emb (ix2 a b)) = _
  rw [emb_0, V_main_arg0]
  rfl
theorem blk_1 (n : Fin 4) : (iblk m c 1 t : S4x256.Idx → EReal) (ix2 n b) = W m c n (col t b) := by
  show (V m c main_arg1 : S4x3072.Idx → EReal) ((win0_1.rect t).emb (ix2 n b)) = _
  rw [emb_1, V_main_arg1]
  rfl
theorem blk_2 : (iblk m c 2 t : S1x256.Idx → EReal) (ix2 0 b) = B m c (col t b) := by
  show (V m c main_v0 : S1x3072.Idx → EReal) ((win0_2.rect t).emb (ix2 0 b)) = _
  rw [emb_2, start_2]
  pointwise
  rfl

theorem end_eq (q : Fin 2) (k : Fin 3072) : ((dats m 0 c).arrAt 3 cfg0.N : S4096x3072.Idx → EReal) (ix2 (batchRow q a) k)
    = act (taps (fun l => X m c (batchRow q l) (inCol k)) (fun n => W m c n k) (B m c k) a) := by
  obtain ⟨t, b, hq, rfl⟩ := place_of q a k
  have hr : ∀ l, row t l = batchRow q l := fun l => Fin.ext (by show t.val % 2 * 2048 + l.val = _; rw [hq])
  have e := congrFun ((blocks3 m c t (flush t)).trans (flushed3 m c t)) (ix2 a b)
  rw [← hr a]
  refine (congrArg ((dats m 0 c).arrAt 3 cfg0.N : S4096x3072.Idx → EReal) (emb_3 t a b)).symm.trans (e.trans ?_)
  refine (out_eq _ _ _ a b).trans ?_
  rw [blk_2, funext fun l => blk_0 m c t l b, funext fun n => blk_1 m c t b n]
  simp only [hr]

end Ends

/-! ## The reference -/

section Reference

open Cert.ConvReferenceIdeal.Facts₀
open Cert.ConvReferenceIdeal (S_ S1x1x3072 S2x2048x3072 S2x2051x3072)

variable (x : FVec Ideal S4096x9728 .f32) (w : FVec Ideal S4x3072 .f32) (b : FVec Ideal S3072 .f32)

/-- The two batches' columns with three rows of zeros before each. -/
def refPad : FVec Ideal S2x2051x3072 .f32 :=
  pad S2x2051x3072 ![0, 3, 0] ![0, 0, 0] ![0, 0, 0] (shapeCast S2x2048x3072 (extractStridedSlice S4096x3072 ![0, 4096] x
    slices_S4096x9728_S4096x3072_0_4096) shapeCasts_S4096x3072_S2x2048x3072) (sitofp .f32 (constantI S_ 32 0#32))
    pads_S2x2048x3072_S2x2051x3072_000_300_000 Cert.ConvReferenceIdeal.Gen.h_S_
/-- A vector at every row. -/
def refRow (v : FVec Ideal S3072 .f32) : FVec Ideal S2x2048x3072 .f32 :=
  broadcastInDim S2x2048x3072 ![0, 1, 2] bcast_S1x1x3072_S2x2048x3072_0_1_2 (broadcastInDim S1x1x3072 ![2] bcast_S3072_S1x1x3072_2 v)
/-- One of the four products. -/
def refTerm (n : ℕ) (h : S2x2051x3072.Slices ![0, n, 0] S2x2048x3072) (hw : S4x3072.Slices ![n, 0] S1x3072) : FVec Ideal S2x2048x3072 .f32 :=
  mulf (extractStridedSlice S2x2048x3072 ![0, n, 0] (refPad x) h) (refRow (shapeCast S3072 (extractStridedSlice S1x3072 ![n, 0] w hw) shapeCasts_S1x3072_S3072))
def refSum : FVec Ideal S2x2048x3072 .f32 :=
  addf (addf (addf (addf (addf (broadcastInDim S2x2048x3072 ![] bcast_S_S2x2048x3072 (constant S_ .f32 0x00000000#32))
    (refTerm x w 0 slices_S2x2051x3072_S2x2048x3072_0_0_0 slices_S4x3072_S1x3072_0_0))
    (refTerm x w 1 slices_S2x2051x3072_S2x2048x3072_0_1_0 slices_S4x3072_S1x3072_1_0))
    (refTerm x w 2 slices_S2x2051x3072_S2x2048x3072_0_2_0 slices_S4x3072_S1x3072_2_0))
    (refTerm x w 3 slices_S2x2051x3072_S2x2048x3072_0_3_0 slices_S4x3072_S1x3072_3_0)) (refRow b)
def refAct (s : FVec Ideal S2x2048x3072 .f32) : FVec Ideal S2x2048x3072 .f32 :=
  mulf s (Host.divf (broadcastInDim S2x2048x3072 ![] bcast_S_S2x2048x3072 (constant S_ .f32 0x3F800000#32))
    (addf (broadcastInDim S2x2048x3072 ![] bcast_S_S2x2048x3072 (constant S_ .f32 0x3F800000#32)) (Host.exp (Host.negf s))))
/-- The reference's result. -/
def refAll : FVec Ideal S4096x3072 .f32 := shapeCast S4096x3072 (refAct (refSum x w b)) shapeCasts_S2x2048x3072_S4096x3072

variable (q : Fin 2) (a : Fin 2048) (k : Fin 3072)

theorem cut_eq : (shapeCast S2x2048x3072 (extractStridedSlice S4096x3072 ![0, 4096] x slices_S4096x9728_S4096x3072_0_4096)
    shapeCasts_S4096x3072_S2x2048x3072 (ix3 q a k) : EReal) = x (ix2 (batchRow q a) (inCol k)) := by
  pointwise

theorem refPad_eq (j : Fin 2051) : (refPad x (ix3 q j k) : EReal)
    = if h : 3 ≤ j.val then x (ix2 (batchRow q ⟨j.val - 3, by have := j.isLt; omega⟩) (inCol k)) else 0 := by
  have hj := j.isLt
  unfold refPad
  rw [pad_apply]
  by_cases h : 3 ≤ j.val
  · rw [dif_pos h, dif_pos (by
      intro d
      have hq := q.isLt
      have hk := k.isLt
      fin_cases d
      · show 0 ≤ q.val ∧ (q.val - 0) % (0 + 1) = 0 ∧ (q.val - 0) / (0 + 1) < 2; omega
      · show 3 ≤ j.val ∧ (j.val - 3) % (0 + 1) = 0 ∧ (j.val - 3) / (0 + 1) < 2048; omega
      · show 0 ≤ k.val ∧ (k.val - 0) % (0 + 1) = 0 ∧ (k.val - 0) / (0 + 1) < 3072; omega)]
    refine Eq.trans (congrArg _ (funext fun d => Fin.ext ?_)) (cut_eq x q ⟨j.val - 3, by omega⟩ k)
    fin_cases d
    · show (q.val - 0) / (0 + 1) = q.val; omega
    · show (j.val - 3) / (0 + 1) = j.val - 3; omega
    · show (k.val - 0) / (0 + 1) = k.val; omega
  · rw [dif_neg h, dif_neg (by
      intro e
      have e1 : 3 ≤ j.val := (e 1).1
      exact h e1)]
    show ((((0#32 : BitVec 32).toInt : ℤ) : ℝ) : EReal) = 0
    simp

theorem refRow_eq (v : FVec Ideal S3072 .f32) : (refRow v (ix3 q a k) : EReal) = v (ix1 k) := by
  unfold refRow
  pointwise

theorem refTerm_eq (n : Fin 4) (h : S2x2051x3072.Slices ![0, n.val, 0] S2x2048x3072) (hw : S4x3072.Slices ![n.val, 0] S1x3072) :
    (refTerm x w n.val h hw (ix3 q a k) : EReal) = lag (fun l => x (ix2 (batchRow q l) (inCol k))) (3 - n.val) a * w (ix2 n k) := by
  have ha := a.isLt
  have hn := n.isLt
  have e1 : (extractStridedSlice S2x2048x3072 ![0, n.val, 0] (refPad x) h (ix3 q a k) : EReal) = refPad x (ix3 q ⟨n.val + a.val, by omega⟩ k) := by
    refine congrArg (refPad x) (funext fun d => Fin.ext ?_)
    fin_cases d
    · show 0 + q.val = q.val; omega
    · rfl
    · show 0 + k.val = k.val; omega
  have e2 : (shapeCast S3072 (extractStridedSlice S1x3072 ![n.val, 0] w hw) shapeCasts_S1x3072_S3072 (ix1 k) : EReal) = w (ix2 n k) := by
    clear h e1 hn
    fin_cases n <;> pointwise
  refine congrArg₂ (fun u v : EReal => u * v) (e1.trans ((refPad_eq x q k _).trans ?_)) ((refRow_eq q a k _).trans e2)
  unfold lag
  by_cases h3 : 3 - n.val ≤ a.val
  · rw [if_pos h3, dif_pos (show 3 ≤ n.val + a.val by omega)]
    exact congrArg (fun l => (x (ix2 (batchRow q l) (inCol k)) : EReal)) (Fin.ext (by show n.val + a.val - 3 = a.val - (3 - n.val); omega))
  · rw [if_neg h3, dif_neg (show ¬3 ≤ n.val + a.val by omega)]

theorem sum_order (u v y z c : EReal) : 0 + u + v + y + z + c = z + c + u + v + y := by
  rw [zero_add]
  abel

theorem refSum_eq : (refSum x w b (ix3 q a k) : EReal)
    = taps (fun l => x (ix2 (batchRow q l) (inCol k))) (fun n => w (ix2 n k)) (b (ix1 k)) a := by
  have h0 := refTerm_eq x w q a k 0 slices_S2x2051x3072_S2x2048x3072_0_0_0 slices_S4x3072_S1x3072_0_0
  have h1 := refTerm_eq x w q a k 1 slices_S2x2051x3072_S2x2048x3072_0_1_0 slices_S4x3072_S1x3072_1_0
  have h2 := refTerm_eq x w q a k 2 slices_S2x2051x3072_S2x2048x3072_0_2_0 slices_S4x3072_S1x3072_2_0
  have h3 := refTerm_eq x w q a k 3 slices_S2x2051x3072_S2x2048x3072_0_3_0 slices_S4x3072_S1x3072_3_0
  have e : (refSum x w b (ix3 q a k) : EReal) = Ideal.ofBits .f32 0x00000000#32
      + (refTerm x w 0 slices_S2x2051x3072_S2x2048x3072_0_0_0 slices_S4x3072_S1x3072_0_0 (ix3 q a k) : EReal)
      + refTerm x w 1 slices_S2x2051x3072_S2x2048x3072_0_1_0 slices_S4x3072_S1x3072_1_0 (ix3 q a k)
      + refTerm x w 2 slices_S2x2051x3072_S2x2048x3072_0_2_0 slices_S4x3072_S1x3072_2_0 (ix3 q a k)
      + refTerm x w 3 slices_S2x2051x3072_S2x2048x3072_0_3_0 slices_S4x3072_S1x3072_3_0 (ix3 q a k) + refRow b (ix3 q a k) := rfl
  refine e.trans ?_
  refine (congrArg₂ (fun u v : EReal => u + v) (congrArg₂ (fun u v : EReal => u + v) (congrArg₂ (fun u v : EReal => u + v)
    (congrArg₂ (fun u v : EReal => u + v) (congrArg₂ (fun u v : EReal => u + v) zero_word h0) h1) h2) h3) (refRow_eq q a k b)).trans ?_
  refine (sum_order _ _ _ _ _).trans ?_
  rfl

theorem refAct_eq (s : FVec Ideal S2x2048x3072 .f32) (i : S2x2048x3072.Idx) : (refAct s i : EReal) = act (s i) := by
  have h : (refAct s i : EReal) = (s i : EReal) * Ideal.div (Ideal.ofBits .f32 0x3F800000#32) (Ideal.ofBits .f32 0x3F800000#32 + Ideal.exp (-(s i : EReal))) := by
    unfold refAct
    pointwise
  rw [h, one_word]
  rfl

theorem refAll_eq : (refAll x w b (ix2 (batchRow q a) k) : EReal)
    = act (taps (fun l => x (ix2 (batchRow q l) (inCol k))) (fun n => w (ix2 n k)) (b (ix1 k)) a) := by
  have e (s : FVec Ideal S2x2048x3072 .f32) : (shapeCast S4096x3072 s shapeCasts_S2x2048x3072_S4096x3072 (ix2 (batchRow q a) k) : EReal) = s (ix3 q a k) := by
    have ha := a.isLt
    pointwise
    exact congrArg₂ (fun u v => (s (ix3 u v k) : EReal)) (Fin.ext (by show (q.val * 2048 + a.val) / 2048 = q.val; omega))
      (Fin.ext (by show (q.val * 2048 + a.val) % 2048 = a.val; omega))
  unfold refAll
  rw [e, refAct_eq, refSum_eq]

end Reference

/-! ## The claims -/

theorem frame_kernel : Cert.quiescent_Conv := fun m g _ => Cert.Conv.Gen.frame m g
theorem frame_ideal : Cert.quiescent_ConvIdeal := fun m g _ => Cert.ConvIdeal.Gen.frame m g
theorem frame_reference : Cert.quiescent_ConvReferenceIdeal := fun m g _ =>
  (θ_run Cert.ConvReferenceIdeal.defs _ _).mono (fun r h => ⟨fun c => (h c).2, sem_eq_zero_of_no_sems (by decide) r.2⟩)
    (Cert.ConvReferenceIdeal.Value.run (F := Ideal) m g)

theorem whole (m : (ℓ : Loc nD τ sig) → Buf (Elt Ideal) ℓ) (c : Dev nD) (x : FVec Ideal S4096x9728 .f32) (w : FVec Ideal S4x3072 .f32)
    (b : FVec Ideal S3072 .f32) (hx : x = m ((c : Thread nD τ).loc main_arg0)) (hw : w = m ((c : Thread nD τ).loc main_arg1))
    (hb : b = m ((c : Thread nD τ).loc main_arg2)) : (dats m 0 c).arrAt 3 cfg0.N = refAll x w b := by
  funext i
  obtain ⟨r, k, rfl⟩ : ∃ (r : Fin 4096) (k : Fin 3072), i = ix2 r k := ⟨i 0, i 1, eq_ix2 i⟩
  have hr := r.isLt
  obtain ⟨q, a, rfl⟩ : ∃ (q : Fin 2) (a : Fin 2048), r = batchRow q a :=
    ⟨⟨r.val / 2048, by omega⟩, ⟨r.val % 2048, Nat.mod_lt _ (by decide)⟩, Fin.ext (Nat.div_add_mod' r.val 2048).symm⟩
  subst hx hw hb
  exact (end_eq m c a q k).trans (refAll_eq _ _ _ q a k).symm

theorem algebraic : Cert.algebraic_ConvIdeal_ConvReferenceIdeal := by
  intro m g m' g' _ h
  refine ⟨_, (θ_run Cert.ConvIdeal.defs _ _).mono (fun r hr c => ?_) (run_blocks (F := Ideal) m g),
    Cert.ConvReferenceIdeal.Value.run (F := Ideal) m' g'⟩
  obtain ⟨hx, hw, hb⟩ := h c
  obtain ⟨h3, hr⟩ := hr c
  exact ⟨h3.trans (whole m c _ _ _ hx hw hb), hr⟩

end Cert.ConvAlgebraic

end
-- ==== Proof.SquareAlgebraic.lean ====
/-
  The square product of bf16 rows, after the gating, after the merge and after the attention, against its reference: each block of 512 rows and 512 columns of the result is
  one product of blocks that hold whole rows and whole columns.
-/
module

public import proofs.«01_k».proof.Proof.Gen.Square.Frame
public import proofs.«01_k».proof.Proof.Gen.SquareIdeal.Value
public import proofs.«01_k».proof.Proof.Gen.SquareReferenceIdeal.Run
public import proofs.«01_k».proof.Defs
public import Idealize.ShloMosaic.Lib.VecWindow
public import Idealize.ShloMosaic.Lib.Pointwise

@[expose] public section

set_option maxRecDepth 65536

noncomputable section

namespace Cert.SquareAlgebraic

open Cert.SquareIdeal Cert.SquareIdeal.Gen Cert.SquareIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .bf16) (w : Vec Ideal S1024x512 .bf16) (a b : Fin 512) :
    (k0_pay2 x w (ix2 a b) : EReal) = ∑ l : Fin 1024, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 16 := rfl
/-- Row `a` and column `b` of the block that point `t` computes. -/
abbrev row (t : Fin cfg0.N) (a : Fin 512) : Fin 4096 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 4096) (o : Fin 1024) : ∃ (t : Fin cfg0.N) (a b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (l : Fin 1024) (b : Fin 512) : (win0_1.rect t).emb (ix2 l b) = (ix2 l (col t b) : S1024x1024.Idx) := by
  refine funext fun x => Fin.ext ?_
  obtain ⟨-, ⟨h0, h1⟩, -⟩ := index_of t
  refine (win0_1.rect_emb_val t (ix2 l b) x rfl).trans ?_
  fin_cases x
  · show win0_1.index t 0 * 1024 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 1024)

/-- The two arguments, as numbers. -/
def X (r : Fin 4096) (l : Fin 1024) : EReal := (m ((c : Thread nD τ).loc main_arg0) : S4096x1024.Idx → EReal) (ix2 r l)
def W (l : Fin 1024) (o : Fin 1024) : EReal := (m ((c : Thread nD τ).loc main_arg1) : S1024x1024.Idx → EReal) (ix2 l o)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S1024x512.Idx → EReal) (ix2 l b) = W m c l (col t b) := by
  show (V m c main_arg1 : S1024x1024.Idx → EReal) ((win0_1.rect t).emb (ix2 l b)) = _
  rw [emb_1, V_main_arg1]
  rfl

theorem end_eq (r : Fin 4096) (o : Fin 1024) :
    ((dats m 0 c).arrAt 2 cfg0.N : S4096x1024.Idx → EReal) (ix2 r o) = ∑ l : Fin 1024, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .bf16) (w : FVec Ideal S1024x1024 .bf16) : FVec Ideal S4096x1024 .bf16 :=
  Host.dotGeneral Cert.SquareReferenceIdeal.dot_S4096x1024_S1024x1024_S4096x1024_1_0_0_1_n_n none
    (extf .f32 x Cert.SquareReferenceIdeal.Facts₀.bitsLt_bf16_f32) (extf .f32 w Cert.SquareReferenceIdeal.Facts₀.bitsLt_bf16_f32)

theorem ref_eq (x : FVec Ideal S4096x1024 .bf16) (w : FVec Ideal S1024x1024 .bf16) (r : Fin 4096) (o : Fin 1024) :
    (ref x w (ix2 r o) : EReal) = ∑ l : Fin 1024, (x (ix2 r l) : EReal) * w (ix2 l o) := by
  unfold ref
  pointwise

/-! ## The claims -/

theorem frame_kernel : Cert.quiescent_Square := fun m g _ => Cert.Square.Gen.frame m g
theorem frame_ideal : Cert.quiescent_SquareIdeal := fun m g _ => Cert.SquareIdeal.Gen.frame m g
theorem frame_reference : Cert.quiescent_SquareReferenceIdeal := fun m g _ =>
  (θ_run Cert.SquareReferenceIdeal.defs _ _).mono (fun r h => ⟨fun c => (h c).2, sem_eq_zero_of_no_sems (by decide) r.2⟩)
    (Cert.SquareReferenceIdeal.Value.run (F := Ideal) m g)

theorem whole (m : (ℓ : Loc nD τ sig) → Buf (Elt Ideal) ℓ) (c : Dev nD) (x : FVec Ideal S4096x1024 .bf16) (w : FVec Ideal S1024x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 1024), i = ix2 r o := ⟨i 0, i 1, eq_ix2 i⟩
  subst hx hw
  exact (end_eq m c r o).trans (ref_eq _ _ r o).symm

theorem algebraic : Cert.algebraic_SquareIdeal_SquareReferenceIdeal := by
  intro m g m' g' _ h
  refine ⟨_, (θ_run Cert.SquareIdeal.defs _ _).mono (fun r hr c => ?_) (run_blocks (F := Ideal) m g),
    Cert.SquareReferenceIdeal.Value.run (F := Ideal) m' g'⟩
  obtain ⟨hx, hw⟩ := h c
  obtain ⟨h2, hr⟩ := hr c
  exact ⟨h2.trans (whole m c _ _ hx hw), hr⟩

end Cert.SquareAlgebraic

end
-- ==== Proof.QueryAlgebraic.lean ====
/-
  The product that gives the attention's queries, against its reference: each block of 512 rows and 512 columns of the result is
  one product of blocks that hold whole rows and whole columns.
-/
module

public import proofs.«01_k».proof.Proof.Gen.Query.Frame
public import proofs.«01_k».proof.Proof.Gen.QueryIdeal.Value
public import proofs.«01_k».proof.Proof.Gen.QueryReferenceIdeal.Run
public import proofs.«01_k».proof.Defs
public import Idealize.ShloMosaic.Lib.VecWindow
public import Idealize.ShloMosaic.Lib.Pointwise

@[expose] public section

set_option maxRecDepth 65536

noncomputable section

namespace Cert.QueryAlgebraic

open Cert.QueryIdeal Cert.QueryIdeal.Gen Cert.QueryIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S1024x512 .bf16) (a b : Fin 512) :
    (k0_pay2 x w (ix2 a b) : EReal) = ∑ l : Fin 1024, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 16 := rfl
/-- Row `a` and column `b` of the block that point `t` computes. -/
abbrev row (t : Fin cfg0.N) (a : Fin 512) : Fin 4096 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 4096) (o : Fin 1024) : ∃ (t : Fin cfg0.N) (a b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (l : Fin 1024) (b : Fin 512) : (win0_1.rect t).emb (ix2 l b) = (ix2 l (col t b) : S1024x1024.Idx) := by
  refine funext fun x => Fin.ext ?_
  obtain ⟨-, ⟨h0, h1⟩, -⟩ := index_of t
  refine (win0_1.rect_emb_val t (ix2 l b) x rfl).trans ?_
  fin_cases x
  · show win0_1.index t 0 * 1024 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 1024)

/-- The two arguments, as numbers. -/
def X (r : Fin 4096) (l : Fin 1024) : EReal := (m ((c : Thread nD τ).loc main_arg0) : S4096x1024.Idx → EReal) (ix2 r l)
def W (l : Fin 1024) (o : Fin 1024) : EReal := (m ((c : Thread nD τ).loc main_arg1) : S1024x1024.Idx → EReal) (ix2 l o)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S1024x512.Idx → EReal) (ix2 l b) = W m c l (col t b) := by
  show (V m c main_arg1 : S1024x1024.Idx → EReal) ((win0_1.rect t).emb (ix2 l b)) = _
  rw [emb_1, V_main_arg1]
  rfl

theorem end_eq (r : Fin 4096) (o : Fin 1024) :
    ((dats m 0 c).arrAt 2 cfg0.N : S4096x1024.Idx → EReal) (ix2 r o) = ∑ l : Fin 1024, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S1024x1024 .bf16) : FVec Ideal S4096x1024 .f32 :=
  Host.dotGeneral Cert.QueryReferenceIdeal.dot_S4096x1024_S1024x1024_S4096x1024_1_0_0_1_n_n none x
    (extf .f32 w Cert.QueryReferenceIdeal.Facts₀.bitsLt_bf16_f32)

theorem ref_eq (x : FVec Ideal S4096x1024 .f32) (w : FVec Ideal S1024x1024 .bf16) (r : Fin 4096) (o : Fin 1024) :
    (ref x w (ix2 r o) : EReal) = ∑ l : Fin 1024, (x (ix2 r l) : EReal) * w (ix2 l o) := by
  unfold ref
  pointwise

/-! ## The claims -/

theorem frame_kernel : Cert.quiescent_Query := fun m g _ => Cert.Query.Gen.frame m g
theorem frame_ideal : Cert.quiescent_QueryIdeal := fun m g _ => Cert.QueryIdeal.Gen.frame m g
theorem frame_reference : Cert.quiescent_QueryReferenceIdeal := fun m g _ =>
  (θ_run Cert.QueryReferenceIdeal.defs _ _).mono (fun r h => ⟨fun c => (h c).2, sem_eq_zero_of_no_sems (by decide) r.2⟩)
    (Cert.QueryReferenceIdeal.Value.run (F := Ideal) m g)

theorem whole (m : (ℓ : Loc nD τ sig) → Buf (Elt Ideal) ℓ) (c : Dev nD) (x : FVec Ideal S4096x1024 .f32) (w : FVec Ideal S1024x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 1024), i = ix2 r o := ⟨i 0, i 1, eq_ix2 i⟩
  subst hx hw
  exact (end_eq m c r o).trans (ref_eq _ _ r o).symm

theorem algebraic : Cert.algebraic_QueryIdeal_QueryReferenceIdeal := by
  intro m g m' g' _ h
  refine ⟨_, (θ_run Cert.QueryIdeal.defs _ _).mono (fun r hr c => ?_) (run_blocks (F := Ideal) m g),
    Cert.QueryReferenceIdeal.Value.run (F := Ideal) m' g'⟩
  obtain ⟨hx, hw⟩ := h c
  obtain ⟨h2, hr⟩ := hr c
  exact ⟨h2.trans (whole m c _ _ hx hw), hr⟩

end Cert.QueryAlgebraic

end
-- ==== Proof.BranchAlgebraic.lean ====
/-
  The product after the SSD branch, against its reference: each block of 512 rows and 512 columns of the result is
  one product of blocks that hold whole rows and whole columns.
-/
module

public import proofs.«01_k».proof.Proof.Gen.Branch.Frame
public import proofs.«01_k».proof.Proof.Gen.BranchIdeal.Value
public import proofs.«01_k».proof.Proof.Gen.BranchReferenceIdeal.Run
public import proofs.«01_k».proof.Defs
public import Idealize.ShloMosaic.Lib.VecWindow
public import Idealize.ShloMosaic.Lib.Pointwise

@[expose] public section

set_option maxRecDepth 65536

noncomputable section

namespace Cert.BranchAlgebraic

open Cert.BranchIdeal Cert.BranchIdeal.Gen Cert.BranchIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x2048 .bf16) (w : Vec Ideal S2048x512 .bf16) (a b : Fin 512) :
    (k0_pay2 x w (ix2 a b) : EReal) = ∑ l : Fin 2048, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 16 := rfl
/-- Row `a` and column `b` of the block that point `t` computes. -/
abbrev row (t : Fin cfg0.N) (a : Fin 512) : Fin 4096 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 4096) (o : Fin 1024) : ∃ (t : Fin cfg0.N) (a b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 2048) : (win0_0.rect t).emb (ix2 a l) = (ix2 (row t a) l : S4096x2048.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 2048 + l.val = _; rw [h1]; simp
theorem emb_1 (t : Fin cfg0.N) (l : Fin 2048) (b : Fin 512) : (win0_1.rect t).emb (ix2 l b) = (ix2 l (col t b) : S2048x1024.Idx) := by
  refine funext fun x => Fin.ext ?_
  obtain ⟨-, ⟨h0, h1⟩, -⟩ := index_of t
  refine (win0_1.rect_emb_val t (ix2 l b) x rfl).trans ?_
  fin_cases x
  · show win0_1.index t 0 * 2048 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 2048)

/-- The two arguments, as numbers. -/
def X (r : Fin 4096) (l : Fin 2048) : EReal := (m ((c : Thread nD τ).loc main_arg0) : S4096x2048.Idx → EReal) (ix2 r l)
def W (l : Fin 2048) (o : Fin 1024) : EReal := (m ((c : Thread nD τ).loc main_arg1) : S2048x1024.Idx → EReal) (ix2 l o)

theorem blk_0 : (iblk m c 0 t : S512x2048.Idx → EReal) (ix2 a l) = X m c (row t a) l := by
  show (V m c main_arg0 : S4096x2048.Idx → EReal) ((win0_0.rect t).emb (ix2 a l)) = _
  rw [emb_0, V_main_arg0]
  rfl
theorem blk_1 : (iblk m c 1 t : S2048x512.Idx → EReal) (ix2 l b) = W m c l (col t b) := by
  show (V m c main_arg1 : S2048x1024.Idx → EReal) ((win0_1.rect t).emb (ix2 l b)) = _
  rw [emb_1, V_main_arg1]
  rfl

theorem end_eq (r : Fin 4096) (o : Fin 1024) :
    ((dats m 0 c).arrAt 2 cfg0.N : S4096x1024.Idx → EReal) (ix2 r o) = ∑ l : Fin 2048, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x2048 .bf16) (w : FVec Ideal S2048x1024 .bf16) : FVec Ideal S4096x1024 .f32 :=
  Host.dotGeneral Cert.BranchReferenceIdeal.dot_S4096x2048_S2048x1024_S4096x1024_1_0_0_1_n_n none
    (extf .f32 x Cert.BranchReferenceIdeal.Facts₀.bitsLt_bf16_f32) (extf .f32 w Cert.BranchReferenceIdeal.Facts₀.bitsLt_bf16_f32)

theorem ref_eq (x : FVec Ideal S4096x2048 .bf16) (w : FVec Ideal S2048x1024 .bf16) (r : Fin 4096) (o : Fin 1024) :
    (ref x w (ix2 r o) : EReal) = ∑ l : Fin 2048, (x (ix2 r l) : EReal) * w (ix2 l o) := by
  unfold ref
  pointwise

/-! ## The claims -/

theorem frame_kernel : Cert.quiescent_Branch := fun m g _ => Cert.Branch.Gen.frame m g
theorem frame_ideal : Cert.quiescent_BranchIdeal := fun m g _ => Cert.BranchIdeal.Gen.frame m g
theorem frame_reference : Cert.quiescent_BranchReferenceIdeal := fun m g _ =>
  (θ_run Cert.BranchReferenceIdeal.defs _ _).mono (fun r h => ⟨fun c => (h c).2, sem_eq_zero_of_no_sems (by decide) r.2⟩)
    (Cert.BranchReferenceIdeal.Value.run (F := Ideal) m g)

theorem whole (m : (ℓ : Loc nD τ sig) → Buf (Elt Ideal) ℓ) (c : Dev nD) (x : FVec Ideal S4096x2048 .bf16) (w : FVec Ideal S2048x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 1024), i = ix2 r o := ⟨i 0, i 1, eq_ix2 i⟩
  subst hx hw
  exact (end_eq m c r o).trans (ref_eq _ _ r o).symm

theorem algebraic : Cert.algebraic_BranchIdeal_BranchReferenceIdeal := by
  intro m g m' g' _ h
  refine ⟨_, (θ_run Cert.BranchIdeal.defs _ _).mono (fun r hr c => ?_) (run_blocks (F := Ideal) m g),
    Cert.BranchReferenceIdeal.Value.run (F := Ideal) m' g'⟩
  obtain ⟨hx, hw⟩ := h c
  obtain ⟨h2, hr⟩ := hr c
  exact ⟨h2.trans (whole m c _ _ hx hw), hr⟩

end Cert.BranchAlgebraic

end
-- ==== Proof.KeysAlgebraic.lean ====
/-
  The product that gives the memory's keys and values, against its reference: each block of 512 rows and 512 columns of the result is
  one product of blocks that hold whole rows and whole columns.
-/
module

public import proofs.«01_k».proof.Proof.Gen.Keys.Frame
public import proofs.«01_k».proof.Proof.Gen.KeysIdeal.Value
public import proofs.«01_k».proof.Proof.Gen.KeysReferenceIdeal.Run
public import proofs.«01_k».proof.Defs
public import Idealize.ShloMosaic.Lib.VecWindow
public import Idealize.ShloMosaic.Lib.Pointwise

@[expose] public section

set_option maxRecDepth 65536

noncomputable section

namespace Cert.KeysAlgebraic

open Cert.KeysIdeal Cert.KeysIdeal.Gen Cert.KeysIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S1024x512 .bf16) (a b : Fin 512) :
    (k0_pay2 x w (ix2 a b) : EReal) = ∑ l : Fin 1024, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 4 := rfl
/-- Row `a` and column `b` of the block that point `t` computes. -/
abbrev row (t : Fin cfg0.N) (a : Fin 512) : Fin 512 := ⟨t.val / 4 * 512 + a.val, by have := t.isLt; have := N_eq; have := a.isLt; omega⟩
abbrev col (t : Fin cfg0.N) (b : Fin 512) : Fin 2048 := ⟨t.val % 4 * 512 + b.val, by have := b.isLt; omega⟩

theorem place_of (r : Fin 512) (o : Fin 2048) : ∃ (t : Fin cfg0.N) (a b : Fin 512), row t a = r ∧ col t b = o := by
  have hN := N_eq
  have hr := r.isLt
  have ho := o.isLt
  exact ⟨⟨4 * (r.val / 512) + o.val / 512, by omega⟩, ⟨r.val % 512, Nat.mod_lt _ (by decide)⟩, ⟨o.val % 512, Nat.mod_lt _ (by decide)⟩,
    Fin.ext (by show (4 * (r.val / 512) + o.val / 512) / 4 * 512 + r.val % 512 = r.val; omega),
    Fin.ext (by show (4 * (r.val / 512) + o.val / 512) % 4 * 512 + o.val % 512 = o.val; omega)⟩

theorem index_of : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S512x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (l : Fin 1024) (b : Fin 512) : (win0_1.rect t).emb (ix2 l b) = (ix2 l (col t b) : S1024x2048.Idx) := by
  refine funext fun x => Fin.ext ?_
  obtain ⟨-, ⟨h0, h1⟩, -⟩ := index_of t
  refine (win0_1.rect_emb_val t (ix2 l b) x rfl).trans ?_
  fin_cases x
  · show win0_1.index t 0 * 1024 + l.val = _; rw [h0]; simp
  · show win0_1.index t 1 * 512 + b.val = _; rw [h1]; rfl
theorem emb_2 (t : Fin cfg0.N) (a b : Fin 512) : (win0_2.rect t).emb (ix2 a b) = (ix2 (row t a) (col t b) : S512x2048.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 1024)

/-- The two arguments, as numbers. -/
def X (r : Fin 512) (l : Fin 1024) : EReal := (m ((c : Thread nD τ).loc main_arg0) : S512x1024.Idx → EReal) (ix2 r l)
def W (l : Fin 1024) (o : Fin 2048) : EReal := (m ((c : Thread nD τ).loc main_arg1) : S1024x2048.Idx → EReal) (ix2 l o)

theorem blk_0 : (iblk m c 0 t : S512x1024.Idx → EReal) (ix2 a l) = X m c (row t a) l := by
  show (V m c main_arg0 : S512x1024.Idx → EReal) ((win0_0.rect t).emb (ix2 a l)) = _
  rw [emb_0, V_main_arg0]
  rfl
theorem blk_1 : (iblk m c 1 t : S1024x512.Idx → EReal) (ix2 l b) = W m c l (col t b) := by
  show (V m c main_arg1 : S1024x2048.Idx → EReal) ((win0_1.rect t).emb (ix2 l b)) = _
  rw [emb_1, V_main_arg1]
  rfl

theorem end_eq (r : Fin 512) (o : Fin 2048) :
    ((dats m 0 c).arrAt 2 cfg0.N : S512x2048.Idx → EReal) (ix2 r o) = ∑ l : Fin 1024, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S512x2048.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S512x1024 .f32) (w : FVec Ideal S1024x2048 .bf16) : FVec Ideal S512x2048 .f32 :=
  Host.dotGeneral Cert.KeysReferenceIdeal.dot_S512x1024_S1024x2048_S512x2048_1_0_0_1_n_n none x
    (extf .f32 w Cert.KeysReferenceIdeal.Facts₀.bitsLt_bf16_f32)

theorem ref_eq (x : FVec Ideal S512x1024 .f32) (w : FVec Ideal S1024x2048 .bf16) (r : Fin 512) (o : Fin 2048) :
    (ref x w (ix2 r o) : EReal) = ∑ l : Fin 1024, (x (ix2 r l) : EReal) * w (ix2 l o) := by
  unfold ref
  pointwise

/-! ## The claims -/

theorem frame_kernel : Cert.quiescent_Keys := fun m g _ => Cert.Keys.Gen.frame m g
theorem frame_ideal : Cert.quiescent_KeysIdeal := fun m g _ => Cert.KeysIdeal.Gen.frame m g
theorem frame_reference : Cert.quiescent_KeysReferenceIdeal := fun m g _ =>
  (θ_run Cert.KeysReferenceIdeal.defs _ _).mono (fun r h => ⟨fun c => (h c).2, sem_eq_zero_of_no_sems (by decide) r.2⟩)
    (Cert.KeysReferenceIdeal.Value.run (F := Ideal) m g)

theorem whole (m : (ℓ : Loc nD τ sig) → Buf (Elt Ideal) ℓ) (c : Dev nD) (x : FVec Ideal S512x1024 .f32) (w : FVec Ideal S1024x2048 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 512) (o : Fin 2048), i = ix2 r o := ⟨i 0, i 1, eq_ix2 i⟩
  subst hx hw
  exact (end_eq m c r o).trans (ref_eq _ _ r o).symm

theorem algebraic : Cert.algebraic_KeysIdeal_KeysReferenceIdeal := by
  intro m g m' g' _ h
  refine ⟨_, (θ_run Cert.KeysIdeal.defs _ _).mono (fun r hr c => ?_) (run_blocks (F := Ideal) m g),
    Cert.KeysReferenceIdeal.Value.run (F := Ideal) m' g'⟩
  obtain ⟨hx, hw⟩ := h c
  obtain ⟨h2, hr⟩ := hr c
  exact ⟨h2.trans (whole m c _ _ hx hw), hr⟩

end Cert.KeysAlgebraic

end
-- ==== Proof.WidenAlgebraic.lean ====
/-
  The product before the feed-forward's gate, against its reference: each block of 512 rows and 512 columns of the result is
  one product of blocks that hold whole rows and whole columns.
-/
module

public import proofs.«01_k».proof.Proof.Gen.Widen.Frame
public import proofs.«01_k».proof.Proof.Gen.WidenIdeal.Value
public import proofs.«01_k».proof.Proof.Gen.WidenReferenceIdeal.Run
public import proofs.«01_k».proof.Defs
public import Idealize.ShloMosaic.Lib.VecWindow
public import Idealize.ShloMosaic.Lib.Pointwise

@[expose] public section

set_option maxRecDepth 65536

noncomputable section

namespace Cert.WidenAlgebraic

open Cert.WidenIdeal Cert.WidenIdeal.Gen Cert.WidenIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S1024x512 .bf16) (a b : Fin 512) :
    (k0_pay2 x w (ix2 a b) : EReal) = ∑ l : Fin 1024, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 88 := rfl
/-- Row `a` and column `b` of the block that point `t` computes. -/
abbrev row (t : Fin cfg0.N) (a : Fin 512) : Fin 4096 := ⟨t.val / 11 * 512 + a.val, by have := t.isLt; have := N_eq; have := a.isLt; omega⟩
abbrev col (t : Fin cfg0.N) (b : Fin 512) : Fin 5632 := ⟨t.val % 11 * 512 + b.val, by have := b.isLt; omega⟩

theorem place_of (r : Fin 4096) (o : Fin 5632) : ∃ (t : Fin cfg0.N) (a b : Fin 512), row t a = r ∧ col t b = o := by
  have hN := N_eq
  have hr := r.isLt
  have ho := o.isLt
  exact ⟨⟨11 * (r.val / 512) + o.val / 512, by omega⟩, ⟨r.val % 512, Nat.mod_lt _ (by decide)⟩, ⟨o.val % 512, Nat.mod_lt _ (by decide)⟩,
    Fin.ext (by show (11 * (r.val / 512) + o.val / 512) / 11 * 512 + r.val % 512 = r.val; omega),
    Fin.ext (by show (11 * (r.val / 512) + o.val / 512) % 11 * 512 + o.val % 512 = o.val; omega)⟩

theorem index_of : ∀ t : Fin grid0.N, (win0_0.index t 0 = t.val / 11 ∧ win0_0.index t 1 = 0) ∧ (win0_1.index t 0 = 0 ∧ win0_1.index t 1 = t.val % 11)
    ∧ (win0_2.index t 0 = t.val / 11 ∧ win0_2.index t 1 = t.val % 11) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (l : Fin 1024) (b : Fin 512) : (win0_1.rect t).emb (ix2 l b) = (ix2 l (col t b) : S1024x5632.Idx) := by
  refine funext fun x => Fin.ext ?_
  obtain ⟨-, ⟨h0, h1⟩, -⟩ := index_of t
  refine (win0_1.rect_emb_val t (ix2 l b) x rfl).trans ?_
  fin_cases x
  · show win0_1.index t 0 * 1024 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x5632.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 1024)

/-- The two arguments, as numbers. -/
def X (r : Fin 4096) (l : Fin 1024) : EReal := (m ((c : Thread nD τ).loc main_arg0) : S4096x1024.Idx → EReal) (ix2 r l)
def W (l : Fin 1024) (o : Fin 5632) : EReal := (m ((c : Thread nD τ).loc main_arg1) : S1024x5632.Idx → EReal) (ix2 l o)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S1024x512.Idx → EReal) (ix2 l b) = W m c l (col t b) := by
  show (V m c main_arg1 : S1024x5632.Idx → EReal) ((win0_1.rect t).emb (ix2 l b)) = _
  rw [emb_1, V_main_arg1]
  rfl

theorem end_eq (r : Fin 4096) (o : Fin 5632) :
    ((dats m 0 c).arrAt 2 cfg0.N : S4096x5632.Idx → EReal) (ix2 r o) = ∑ l : Fin 1024, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x5632.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S1024x5632 .bf16) : FVec Ideal S4096x5632 .f32 :=
  Host.dotGeneral Cert.WidenReferenceIdeal.dot_S4096x1024_S1024x5632_S4096x5632_1_0_0_1_n_n none x
    (extf .f32 w Cert.WidenReferenceIdeal.Facts₀.bitsLt_bf16_f32)

theorem ref_eq (x : FVec Ideal S4096x1024 .f32) (w : FVec Ideal S1024x5632 .bf16) (r : Fin 4096) (o : Fin 5632) :
    (ref x w (ix2 r o) : EReal) = ∑ l : Fin 1024, (x (ix2 r l) : EReal) * w (ix2 l o) := by
  unfold ref
  pointwise

/-! ## The claims -/

theorem frame_kernel : Cert.quiescent_Widen := fun m g _ => Cert.Widen.Gen.frame m g
theorem frame_ideal : Cert.quiescent_WidenIdeal := fun m g _ => Cert.WidenIdeal.Gen.frame m g
theorem frame_reference : Cert.quiescent_WidenReferenceIdeal := fun m g _ =>
  (θ_run Cert.WidenReferenceIdeal.defs _ _).mono (fun r h => ⟨fun c => (h c).2, sem_eq_zero_of_no_sems (by decide) r.2⟩)
    (Cert.WidenReferenceIdeal.Value.run (F := Ideal) m g)

theorem whole (m : (ℓ : Loc nD τ sig) → Buf (Elt Ideal) ℓ) (c : Dev nD) (x : FVec Ideal S4096x1024 .f32) (w : FVec Ideal S1024x5632 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 5632), i = ix2 r o := ⟨i 0, i 1, eq_ix2 i⟩
  subst hx hw
  exact (end_eq m c r o).trans (ref_eq _ _ r o).symm

theorem algebraic : Cert.algebraic_WidenIdeal_WidenReferenceIdeal := by
  intro m g m' g' _ h
  refine ⟨_, (θ_run Cert.WidenIdeal.defs _ _).mono (fun r hr c => ?_) (run_blocks (F := Ideal) m g),
    Cert.WidenReferenceIdeal.Value.run (F := Ideal) m' g'⟩
  obtain ⟨hx, hw⟩ := h c
  obtain ⟨h2, hr⟩ := hr c
  exact ⟨h2.trans (whole m c _ _ hx hw), hr⟩

end Cert.WidenAlgebraic

end
-- ==== Proof.NarrowAlgebraic.lean ====
/-
  The product after the feed-forward's gate, against its reference: each block of 512 rows and 512 columns of the result is
  one product of blocks that hold whole rows and whole columns.
-/
module

public import proofs.«01_k».proof.Proof.Gen.Narrow.Frame
public import proofs.«01_k».proof.Proof.Gen.NarrowIdeal.Value
public import proofs.«01_k».proof.Proof.Gen.NarrowReferenceIdeal.Run
public import proofs.«01_k».proof.Defs
public import Idealize.ShloMosaic.Lib.VecWindow
public import Idealize.ShloMosaic.Lib.Pointwise

@[expose] public section

set_option maxRecDepth 65536

noncomputable section

namespace Cert.NarrowAlgebraic

open Cert.NarrowIdeal Cert.NarrowIdeal.Gen Cert.NarrowIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x2816 .bf16) (w : Vec Ideal S2816x512 .bf16) (a b : Fin 512) :
    (k0_pay2 x w (ix2 a b) : EReal) = ∑ l : Fin 2816, (x (ix2 a l) : EReal) * w (ix2 l b) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 16 := rfl
/-- Row `a` and column `b` of the block that point `t` computes. -/
abbrev row (t : Fin cfg0.N) (a : Fin 512) : Fin 4096 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 4096) (o : Fin 1024) : ∃ (t : Fin cfg0.N) (a b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 2816) : (win0_0.rect t).emb (ix2 a l) = (ix2 (row t a) l : S4096x2816.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 2816 + l.val = _; rw [h1]; simp
theorem emb_1 (t : Fin cfg0.N) (l : Fin 2816) (b : Fin 512) : (win0_1.rect t).emb (ix2 l b) = (ix2 l (col t b) : S2816x1024.Idx) := by
  refine funext fun x => Fin.ext ?_
  obtain ⟨-, ⟨h0, h1⟩, -⟩ := index_of t
  refine (win0_1.rect_emb_val t (ix2 l b) x rfl).trans ?_
  fin_cases x
  · show win0_1.index t 0 * 2816 + l.val = _; rw [h0]; simp
  · show win0_1.index t 1 * 512 + b.val = _; rw [h1]; rfl
theorem emb_2 (t : Fin cfg0.N) (a b : Fin 512) : (win0_2.rect t).emb (ix2 a b) = (ix2 (row t a) (col t b) : S4096x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 2816)

/-- The two arguments, as numbers. -/
def X (r : Fin 4096) (l : Fin 2816) : EReal := (m ((c : Thread nD τ).loc main_arg0) : S4096x2816.Idx → EReal) (ix2 r l)
def W (l : Fin 2816) (o : Fin 1024) : EReal := (m ((c : Thread nD τ).loc main_arg1) : S2816x1024.Idx → EReal) (ix2 l o)

theorem blk_0 : (iblk m c 0 t : S512x2816.Idx → EReal) (ix2 a l) = X m c (row t a) l := by
  show (V m c main_arg0 : S4096x2816.Idx → EReal) ((win0_0.rect t).emb (ix2 a l)) = _
  rw [emb_0, V_main_arg0]
  rfl
theorem blk_1 : (iblk m c 1 t : S2816x512.Idx → EReal) (ix2 l b) = W m c l (col t b) := by
  show (V m c main_arg1 : S2816x1024.Idx → EReal) ((win0_1.rect t).emb (ix2 l b)) = _
  rw [emb_1, V_main_arg1]
  rfl

theorem end_eq (r : Fin 4096) (o : Fin 1024) :
    ((dats m 0 c).arrAt 2 cfg0.N : S4096x1024.Idx → EReal) (ix2 r o) = ∑ l : Fin 2816, X m c r l * W m c l o := by
  obtain ⟨t, a, b, rfl, rfl⟩ := place_of r o
  have e := congrFun ((blocks2 m c t (flush t)).trans (flushed2 m c t)) (ix2 a b)
  refine (congrArg ((dats m 0 c).arrAt 2 cfg0.N : S4096x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x2816 .bf16) (w : FVec Ideal S2816x1024 .bf16) : FVec Ideal S4096x1024 .f32 :=
  Host.dotGeneral Cert.NarrowReferenceIdeal.dot_S4096x2816_S2816x1024_S4096x1024_1_0_0_1_n_n none
    (extf .f32 x Cert.NarrowReferenceIdeal.Facts₀.bitsLt_bf16_f32) (extf .f32 w Cert.NarrowReferenceIdeal.Facts₀.bitsLt_bf16_f32)

theorem ref_eq (x : FVec Ideal S4096x2816 .bf16) (w : FVec Ideal S2816x1024 .bf16) (r : Fin 4096) (o : Fin 1024) :
    (ref x w (ix2 r o) : EReal) = ∑ l : Fin 2816, (x (ix2 r l) : EReal) * w (ix2 l o) := by
  unfold ref
  pointwise

/-! ## The claims -/

theorem frame_kernel : Cert.quiescent_Narrow := fun m g _ => Cert.Narrow.Gen.frame m g
theorem frame_ideal : Cert.quiescent_NarrowIdeal := fun m g _ => Cert.NarrowIdeal.Gen.frame m g
theorem frame_reference : Cert.quiescent_NarrowReferenceIdeal := fun m g _ =>
  (θ_run Cert.NarrowReferenceIdeal.defs _ _).mono (fun r h => ⟨fun c => (h c).2, sem_eq_zero_of_no_sems (by decide) r.2⟩)
    (Cert.NarrowReferenceIdeal.Value.run (F := Ideal) m g)

theorem whole (m : (ℓ : Loc nD τ sig) → Buf (Elt Ideal) ℓ) (c : Dev nD) (x : FVec Ideal S4096x2816 .bf16) (w : FVec Ideal S2816x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 1024), i = ix2 r o := ⟨i 0, i 1, eq_ix2 i⟩
  subst hx hw
  exact (end_eq m c r o).trans (ref_eq _ _ r o).symm

theorem algebraic : Cert.algebraic_NarrowIdeal_NarrowReferenceIdeal := by
  intro m g m' g' _ h
  refine ⟨_, (θ_run Cert.NarrowIdeal.defs _ _).mono (fun r hr c => ?_) (run_blocks (F := Ideal) m g),
    Cert.NarrowReferenceIdeal.Value.run (F := Ideal) m' g'⟩
  obtain ⟨hx, hw⟩ := h c
  obtain ⟨h2, hr⟩ := hr c
  exact ⟨h2.trans (whole m c _ _ hx hw), hr⟩

end Cert.NarrowAlgebraic

end
-- ==== Proof.Halves.lean ====
/-
  A sum over 4096 rows in two halves of 2048.
-/
module

public import Idealize.ShloMosaic.Lib.Pipeline.ValueKit.Acc
public import Idealize.ShloMosaic.Lib.Pointwise

@[expose] public section

noncomputable section

namespace Cert.Halves

/-- Row `l` of the `k`-th of the two blocks that a sum runs over. -/
abbrev mid (k : Fin 2) (l : Fin 2048) : Fin 4096 := ⟨k.val * 2048 + l.val, by have := k.isLt; have := l.isLt; omega⟩

/-- A sum over all rows is the sum over the two blocks of their parts. -/
theorem parts_eq (f : Fin 4096 → EReal) : (∑ l : Fin 2048, f (mid 0 l)) + ∑ l : Fin 2048, f (mid 1 l) = ∑ l : Fin 4096, f l := by
  have e := Fin.sum_univ_univ_mul_add 2 2048 (fun n => if h : n < 4096 then f ⟨n, h⟩ else 0)
  rw [Fin.sum_univ_two] at e
  have d (k : Fin 2) (l : Fin 2048) : (if h : k.val * 2048 + l.val < 4096 then f ⟨k.val * 2048 + l.val, h⟩ else 0) = f (mid k l) := dif_pos (mid k l).isLt
  refine Eq.trans ?_ (e.trans (Finset.sum_congr (M := EReal) rfl fun l _ => dif_pos l.isLt))
  exact congrArg₂ (fun u v : EReal => u + v) (Finset.sum_congr (M := EReal) rfl fun l _ => (d 0 l).symm) (Finset.sum_congr (M := EReal) rfl fun l _ => (d 1 l).symm)

end Cert.Halves

end
-- ==== Proof.GradOutAlgebraic.lean ====
/-
  The gradient of the feed-forward's second weight, against its reference: a block of the result is the sum of two products of blocks of
  2048 rows, one kept in a scratch array until the other is added.
-/
module

public import proofs.«01_k».proof.Proof.Gen.GradOut.Frame
public import proofs.«01_k».proof.Proof.Gen.GradOutIdeal.Value
public import proofs.«01_k».proof.Proof.Gen.GradOutReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradOutAlgebraic

open Cert.GradOutIdeal Cert.GradOutIdeal.Gen Cert.GradOutIdeal.Value Cert.Halves
open Idealize.ShloMosaic Idealize.ShloMosaic.TcCoe Idealize.SL.Sem

/-! ## Rows, columns and points -/

/-- Row `a` and column `b` of the block that the points of group `q` compute. -/
abbrev row (q : Fin 22) (a : Fin 256) : Fin 2816 := ⟨q.val / 2 * 256 + a.val, by have := q.isLt; have := a.isLt; omega⟩
abbrev col (q : Fin 22) (b : Fin 512) : Fin 1024 := ⟨q.val % 2 * 512 + b.val, by have := b.isLt; omega⟩
/-- The `k`-th point of group `q`. -/
abbrev pt (q : Fin 22) (k : Fin 2) : Fin cfg0.N := ⟨2 * q.val + k.val, by have := q.isLt; have := k.isLt; have h : cfg0.N = 44 := N_0; omega⟩

theorem index_of : ∀ (q : Fin 22) (k : Fin 2),
    (win0_0.index (pt q k) 0 = k.val ∧ win0_0.index (pt q k) 1 = q.val / 2) ∧ (win0_1.index (pt q k) 0 = k.val ∧ win0_1.index (pt q k) 1 = q.val % 2) := by
  decide +kernel

theorem emb_0 (q : Fin 22) (k : Fin 2) (l : Fin 2048) (a : Fin 256) : (win0_0.rect (pt q k)).emb (ix2 l a) = (ix2 (mid k l) (row q a) : S4096x2816.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 256 + a.val = _; rw [h1]; rfl

theorem emb_1 (q : Fin 22) (k : Fin 2) (l : Fin 2048) (b : Fin 512) : (win0_1.rect (pt q k)).emb (ix2 l b) = (ix2 (mid k l) (col q b) : S4096x1024.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x256 .bf16) (y : Vec Ideal S2048x512 .f32) (s : Vec Ideal S256x512 .f32) (a : Fin 256) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S256x512_S256x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S256x512_S256x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 2816) : EReal := (m ((c : Thread nD τ).loc main_arg0) : S4096x2816.Idx → EReal) (ix2 l r)
def Y (l : Fin 4096) (o : Fin 1024) : EReal := (m ((c : Thread nD τ).loc main_arg1) : S4096x1024.Idx → EReal) (ix2 l o)

variable (q : Fin 22) (k : Fin 2) (a : Fin 256) (b : Fin 512) (l : Fin 2048)

theorem blk_0 : (iblk m c 0 (pt q k) : S2048x256.Idx → EReal) (ix2 l a) = X m c (mid k l) (row q a) := by
  show (V m c main_arg0 : S4096x2816.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x1024.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 2816) (o : Fin 1024) : (G2 m c : S2816x1024.Idx → EReal) (ix2 r o) = ∑ l : Fin 4096, X m c l r * Y m c l o := by
  have hr := r.isLt
  have ho := o.isLt
  obtain ⟨q, a, b, rfl, rfl⟩ : ∃ (q : Fin 22) (a : Fin 256) (b : Fin 512), r = row q a ∧ o = col q b :=
    ⟨⟨2 * (r.val / 256) + o.val / 512, by omega⟩, ⟨r.val % 256, Nat.mod_lt _ (by decide)⟩, ⟨o.val % 512, Nat.mod_lt _ (by decide)⟩,
      Fin.ext (by show r.val = (2 * (r.val / 256) + o.val / 512) / 2 * 256 + r.val % 256; omega),
      Fin.ext (by show o.val = (2 * (r.val / 256) + o.val / 512) % 2 * 512 + o.val % 512; omega)⟩
  have hq := q.isLt
  have ha := a.isLt
  have hb := b.isLt
  have hp : pt2Of (ix2 (row q a) (col q b)) = 2 * q.val + 1 := by
    show 2 * (2 * ((q.val / 2 * 256 + a.val) / 256 - 0) + 1 * ((q.val % 2 * 512 + b.val) / 512 - 0)) + 1 = _
    omega
  have hl : loc2Of (ix2 (row q a) (col q b)) = ix2 a b := by
    funext x
    apply Fin.ext
    match x with
    | ⟨0, _⟩ => show (q.val / 2 * 256 + a.val) % 256 = a.val; omega
    | ⟨1, _⟩ => show (q.val % 2 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x2816 .bf16) (y : FVec Ideal S4096x1024 .f32) : FVec Ideal S2816x1024 .bf16 :=
  truncf .bf16 (Host.dotGeneral Cert.GradOutReferenceIdeal.dot_S2816x4096_S4096x1024_S2816x1024_1_0_0_1_n_n none
    (transpose Cert.GradOutReferenceIdeal.S2816x4096 [1, 0] (extf .f32 x Cert.GradOutReferenceIdeal.Facts₀.bitsLt_bf16_f32) Cert.GradOutReferenceIdeal.Facts₀.transposes_S4096x2816_S2816x4096_1_0) y)
    Cert.GradOutReferenceIdeal.Facts₀.bitsLt_bf16_f32

theorem ref_eq (x : FVec Ideal S4096x2816 .bf16) (y : FVec Ideal S4096x1024 .f32) (r : Fin 2816) (o : Fin 1024) :
    (ref x y (ix2 r o) : EReal) = ∑ l : Fin 4096, (x (ix2 l r) : EReal) * y (ix2 l o) := by
  unfold ref
  pointwise

/-! ## The claims -/

theorem frame_kernel : Cert.quiescent_GradOut := fun m g _ => Cert.GradOut.Gen.frame m g
theorem frame_ideal : Cert.quiescent_GradOutIdeal := fun m g _ => Cert.GradOutIdeal.Gen.frame m g
theorem frame_reference : Cert.quiescent_GradOutReferenceIdeal := fun m g _ =>
  (θ_run Cert.GradOutReferenceIdeal.defs _ _).mono (fun r h => ⟨fun c => (h c).2, sem_eq_zero_of_no_sems (by decide) r.2⟩)
    (Cert.GradOutReferenceIdeal.Value.run (F := Ideal) m g)

theorem whole (m : (ℓ : Loc nD τ sig) → Buf (Elt Ideal) ℓ) (c : Dev nD) (x : FVec Ideal S4096x2816 .bf16) (y : FVec Ideal S4096x1024 .f32)
    (hx : x = m ((c : Thread nD τ).loc main_arg0)) (hy : y = m ((c : Thread nD τ).loc main_arg1)) : G2 m c = ref x y := by
  funext i
  obtain ⟨r, o, rfl⟩ : ∃ (r : Fin 2816) (o : Fin 1024), i = ix2 r o := ⟨i 0, i 1, eq_ix2 i⟩
  subst hx hy
  exact (end_eq m c r o).trans (ref_eq _ _ r o).symm

theorem algebraic : Cert.algebraic_GradOutIdeal_GradOutReferenceIdeal := by
  intro m g m' g' _ h
  refine ⟨_, (θ_run Cert.GradOutIdeal.defs _ _).mono (fun r hr c => ?_) (Cert.GradOutIdeal.Value.run (F := Ideal) m g),
    Cert.GradOutReferenceIdeal.Value.run (F := Ideal) m' g'⟩
  obtain ⟨hx, hy⟩ := h c
  obtain ⟨h2, hr⟩ := hr c
  exact ⟨h2.trans (whole m c _ _ hx hy), hr⟩

end Cert.GradOutAlgebraic

end
-- ==== Proof.GradInAlgebraic.lean ====
/-
  The gradient of the feed-forward's first weight, against its reference: a block of the result is the sum of two products of blocks of
  2048 rows, one kept in a scratch array until the other is added.
-/
module

public import proofs.«01_k».proof.Proof.Gen.GradIn.Frame
public import proofs.«01_k».proof.Proof.Gen.GradInIdeal.Value
public import proofs.«01_k».proof.Proof.Gen.GradInReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradInAlgebraic

open Cert.GradInIdeal Cert.GradInIdeal.Gen Cert.GradInIdeal.Value Cert.Halves
open Idealize.ShloMosaic Idealize.ShloMosaic.TcCoe Idealize.SL.Sem

/-! ## Rows, columns and points -/

/-- Row `a` and column `b` of the block that the points of group `q` compute. -/
abbrev row (q : Fin 22) (a : Fin 512) : Fin 1024 := ⟨q.val / 11 * 512 + a.val, by have := q.isLt; have := a.isLt; omega⟩
abbrev col (q : Fin 22) (b : Fin 512) : Fin 5632 := ⟨q.val % 11 * 512 + b.val, by have := b.isLt; omega⟩
/-- The `k`-th point of group `q`. -/
abbrev pt (q : Fin 22) (k : Fin 2) : Fin cfg0.N := ⟨2 * q.val + k.val, by have := q.isLt; have := k.isLt; have h : cfg0.N = 44 := N_0; omega⟩

theorem index_of : ∀ (q : Fin 22) (k : Fin 2),
    (win0_0.index (pt q k) 0 = k.val ∧ win0_0.index (pt q k) 1 = q.val / 11) ∧ (win0_1.index (pt q k) 0 = k.val ∧ win0_1.index (pt q k) 1 = q.val % 11) := by
  decide +kernel

theorem emb_0 (q : Fin 22) (k : Fin 2) (l : Fin 2048) (a : Fin 512) : (win0_0.rect (pt q k)).emb (ix2 l a) = (ix2 (mid k l) (row q a) : S4096x1024.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 512 + a.val = _; rw [h1]; rfl

theorem emb_1 (q : Fin 22) (k : Fin 2) (l : Fin 2048) (b : Fin 512) : (win0_1.rect (pt q k)).emb (ix2 l b) = (ix2 (mid k l) (col q b) : S4096x5632.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x512 .f32) (y : Vec Ideal S2048x512 .f32) (s : Vec Ideal S512x512 .f32) (a : Fin 512) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S512x512_S512x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 1024) : EReal := (m ((c : Thread nD τ).loc main_arg0) : S4096x1024.Idx → EReal) (ix2 l r)
def Y (l : Fin 4096) (o : Fin 5632) : EReal := (m ((c : Thread nD τ).loc main_arg1) : S4096x5632.Idx → EReal) (ix2 l o)

variable (q : Fin 22) (k : Fin 2) (a : Fin 512) (b : Fin 512) (l : Fin 2048)

theorem blk_0 : (iblk m c 0 (pt q k) : S2048x512.Idx → EReal) (ix2 l a) = X m c (mid k l) (row q a) := by
  show (V m c main_arg0 : S4096x1024.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x5632.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 1024) (o : Fin 5632) : (G2 m c : S1024x5632.Idx → EReal) (ix2 r o) = ∑ l : Fin 4096, X m c l r * Y m c l o := by
  have hr := r.isLt
  have ho := o.isLt
  obtain ⟨q, a, b, rfl, rfl⟩ : ∃ (q : Fin 22) (a : Fin 512) (b : Fin 512), r = row q a ∧ o = col q b :=
    ⟨⟨11 * (r.val / 512) + o.val / 512, by omega⟩, ⟨r.val % 512, Nat.mod_lt _ (by decide)⟩, ⟨o.val % 512, Nat.mod_lt _ (by decide)⟩,
      Fin.ext (by show r.val = (11 * (r.val / 512) + o.val / 512) / 11 * 512 + r.val % 512; omega),
      Fin.ext (by show o.val = (11 * (r.val / 512) + o.val / 512) % 11 * 512 + o.val % 512; omega)⟩
  have hq := q.isLt
  have ha := a.isLt
  have hb := b.isLt
  have hp : pt2Of (ix2 (row q a) (col q b)) = 2 * q.val + 1 := by
    show 2 * (11 * ((q.val / 11 * 512 + a.val) / 512 - 0) + 1 * ((q.val % 11 * 512 + b.val) / 512 - 0)) + 1 = _
    omega
  have hl : loc2Of (ix2 (row q a) (col q b)) = ix2 a b := by
    funext x
    apply Fin.ext
    match x with
    | ⟨0, _⟩ => show (q.val / 11 * 512 + a.val) % 512 = a.val; omega
    | ⟨1, _⟩ => show (q.val % 11 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x1024 .f32) (y : FVec Ideal S4096x5632 .f32) : FVec Ideal S1024x5632 .bf16 :=
  truncf .bf16 (Host.dotGeneral Cert.GradInReferenceIdeal.dot_S1024x4096_S4096x5632_S1024x5632_1_0_0_1_n_n none
    (transpose Cert.GradInReferenceIdeal.S1024x4096 [1, 0] x Cert.GradInReferenceIdeal.Facts₀.transposes_S4096x1024_S1024x4096_1_0) y)
    Cert.GradInReferenceIdeal.Facts₀.bitsLt_bf16_f32

theorem ref_eq (x : FVec Ideal S4096x1024 .f32) (y : FVec Ideal S4096x5632 .f32) (r : Fin 1024) (o : Fin 5632) :
    (ref x y (ix2 r o) : EReal) = ∑ l : Fin 4096, (x (ix2 l r) : EReal) * y (ix2 l o) := by
  unfold ref
  pointwise

/-! ## The claims -/

theorem frame_kernel : Cert.quiescent_GradIn := fun m g _ => Cert.GradIn.Gen.frame m g
theorem frame_ideal : Cert.quiescent_GradInIdeal := fun m g _ => Cert.GradInIdeal.Gen.frame m g
theorem frame_reference : Cert.quiescent_GradInReferenceIdeal := fun m g _ =>
  (θ_run Cert.GradInReferenceIdeal.defs _ _).mono (fun r h => ⟨fun c => (h c).2, sem_eq_zero_of_no_sems (by decide) r.2⟩)
    (Cert.GradInReferenceIdeal.Value.run (F := Ideal) m g)

theorem whole (m : (ℓ : Loc nD τ sig) → Buf (Elt Ideal) ℓ) (c : Dev nD) (x : FVec Ideal S4096x1024 .f32) (y : FVec Ideal S4096x5632 .f32)
    (hx : x = m ((c : Thread nD τ).loc main_arg0)) (hy : y = m ((c : Thread nD τ).loc main_arg1)) : G2 m c = ref x y := by
  funext i
  obtain ⟨r, o, rfl⟩ : ∃ (r : Fin 1024) (o : Fin 5632), i = ix2 r o := ⟨i 0, i 1, eq_ix2 i⟩
  subst hx hy
  exact (end_eq m c r o).trans (ref_eq _ _ r o).symm

theorem algebraic : Cert.algebraic_GradInIdeal_GradInReferenceIdeal := by
  intro m g m' g' _ h
  refine ⟨_, (θ_run Cert.GradInIdeal.defs _ _).mono (fun r hr c => ?_) (Cert.GradInIdeal.Value.run (F := Ideal) m g),
    Cert.GradInReferenceIdeal.Value.run (F := Ideal) m' g'⟩
  obtain ⟨hx, hy⟩ := h c
  obtain ⟨h2, hr⟩ := hr c
  exact ⟨h2.trans (whole m c _ _ hx hy), hr⟩

end Cert.GradInAlgebraic

end
-- ==== Proof.GradSquareAlgebraic.lean ====
/-
  The gradient of a square weight, against its reference: a block of the result is the sum of two products of blocks of
  2048 rows, one kept in a scratch array until the other is added.
-/
module

public import proofs.«01_k».proof.Proof.Gen.GradSquare.Frame
public import proofs.«01_k».proof.Proof.Gen.GradSquareIdeal.Value
public import proofs.«01_k».proof.Proof.Gen.GradSquareReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradSquareAlgebraic

open Cert.GradSquareIdeal Cert.GradSquareIdeal.Gen Cert.GradSquareIdeal.Value Cert.Halves
open Idealize.ShloMosaic Idealize.ShloMosaic.TcCoe Idealize.SL.Sem

/-! ## Rows, columns and points -/

/-- Row `a` and column `b` of the block that the points of group `q` compute. -/
abbrev row (q : Fin 4) (a : Fin 512) : Fin 1024 := ⟨q.val / 2 * 512 + a.val, by have := q.isLt; have := a.isLt; omega⟩
abbrev col (q : Fin 4) (b : Fin 512) : Fin 1024 := ⟨q.val % 2 * 512 + b.val, by have := b.isLt; omega⟩
/-- The `k`-th point of group `q`. -/
abbrev pt (q : Fin 4) (k : Fin 2) : Fin cfg0.N := ⟨2 * q.val + k.val, by have := q.isLt; have := k.isLt; have h : cfg0.N = 8 := N_0; omega⟩

theorem index_of : ∀ (q : Fin 4) (k : Fin 2),
    (win0_0.index (pt q k) 0 = k.val ∧ win0_0.index (pt q k) 1 = q.val / 2) ∧ (win0_1.index (pt q k) 0 = k.val ∧ win0_1.index (pt q k) 1 = q.val % 2) := by
  decide +kernel

theorem emb_0 (q : Fin 4) (k : Fin 2) (l : Fin 2048) (a : Fin 512) : (win0_0.rect (pt q k)).emb (ix2 l a) = (ix2 (mid k l) (row q a) : S4096x1024.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 512 + a.val = _; rw [h1]; rfl

theorem emb_1 (q : Fin 4) (k : Fin 2) (l : Fin 2048) (b : Fin 512) : (win0_1.rect (pt q k)).emb (ix2 l b) = (ix2 (mid k l) (col q b) : S4096x1024.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x512 .bf16) (y : Vec Ideal S2048x512 .f32) (s : Vec Ideal S512x512 .f32) (a : Fin 512) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S512x512_S512x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 1024) : EReal := (m ((c : Thread nD τ).loc main_arg0) : S4096x1024.Idx → EReal) (ix2 l r)
def Y (l : Fin 4096) (o : Fin 1024) : EReal := (m ((c : Thread nD τ).loc main_arg1) : S4096x1024.Idx → EReal) (ix2 l o)

variable (q : Fin 4) (k : Fin 2) (a : Fin 512) (b : Fin 512) (l : Fin 2048)

theorem blk_0 : (iblk m c 0 (pt q k) : S2048x512.Idx → EReal) (ix2 l a) = X m c (mid k l) (row q a) := by
  show (V m c main_arg0 : S4096x1024.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x1024.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 1024) (o : Fin 1024) : (G2 m c : S1024x1024.Idx → EReal) (ix2 r o) = ∑ l : Fin 4096, X m c l r * Y m c l o := by
  have hr := r.isLt
  have ho := o.isLt
  obtain ⟨q, a, b, rfl, rfl⟩ : ∃ (q : Fin 4) (a : Fin 512) (b : Fin 512), r = row q a ∧ o = col q b :=
    ⟨⟨2 * (r.val / 512) + o.val / 512, by omega⟩, ⟨r.val % 512, Nat.mod_lt _ (by decide)⟩, ⟨o.val % 512, Nat.mod_lt _ (by decide)⟩,
      Fin.ext (by show r.val = (2 * (r.val / 512) + o.val / 512) / 2 * 512 + r.val % 512; omega),
      Fin.ext (by show o.val = (2 * (r.val / 512) + o.val / 512) % 2 * 512 + o.val % 512; omega)⟩
  have hq := q.isLt
  have ha := a.isLt
  have hb := b.isLt
  have hp : pt2Of (ix2 (row q a) (col q b)) = 2 * q.val + 1 := by
    show 2 * (2 * ((q.val / 2 * 512 + a.val) / 512 - 0) + 1 * ((q.val % 2 * 512 + b.val) / 512 - 0)) + 1 = _
    omega
  have hl : loc2Of (ix2 (row q a) (col q b)) = ix2 a b := by
    funext x
    apply Fin.ext
    match x with
    | ⟨0, _⟩ => show (q.val / 2 * 512 + a.val) % 512 = a.val; omega
    | ⟨1, _⟩ => show (q.val % 2 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x1024 .bf16) (y : FVec Ideal S4096x1024 .f32) : FVec Ideal S1024x1024 .bf16 :=
  truncf .bf16 (Host.dotGeneral Cert.GradSquareReferenceIdeal.dot_S1024x4096_S4096x1024_S1024x1024_1_0_0_1_n_n none
    (transpose Cert.GradSquareReferenceIdeal.S1024x4096 [1, 0] (extf .f32 x Cert.GradSquareReferenceIdeal.Facts₀.bitsLt_bf16_f32) Cert.GradSquareReferenceIdeal.Facts₀.transposes_S4096x1024_S1024x4096_1_0) y)
    Cert.GradSquareReferenceIdeal.Facts₀.bitsLt_bf16_f32

theorem ref_eq (x : FVec Ideal S4096x1024 .bf16) (y : FVec Ideal S4096x1024 .f32) (r : Fin 1024) (o : Fin 1024) :
    (ref x y (ix2 r o) : EReal) = ∑ l : Fin 4096, (x (ix2 l r) : EReal) * y (ix2 l o) := by
  unfold ref
  pointwise

/-! ## The claims -/

theorem frame_kernel : Cert.quiescent_GradSquare := fun m g _ => Cert.GradSquare.Gen.frame m g
theorem frame_ideal : Cert.quiescent_GradSquareIdeal := fun m g _ => Cert.GradSquareIdeal.Gen.frame m g
theorem frame_reference : Cert.quiescent_GradSquareReferenceIdeal := fun m g _ =>
  (θ_run Cert.GradSquareReferenceIdeal.defs _ _).mono (fun r h => ⟨fun c => (h c).2, sem_eq_zero_of_no_sems (by decide) r.2⟩)
    (Cert.GradSquareReferenceIdeal.Value.run (F := Ideal) m g)

theorem whole (m : (ℓ : Loc nD τ sig) → Buf (Elt Ideal) ℓ) (c : Dev nD) (x : FVec Ideal S4096x1024 .bf16) (y : FVec Ideal S4096x1024 .f32)
    (hx : x = m ((c : Thread nD τ).loc main_arg0)) (hy : y = m ((c : Thread nD τ).loc main_arg1)) : G2 m c = ref x y := by
  funext i
  obtain ⟨r, o, rfl⟩ : ∃ (r : Fin 1024) (o : Fin 1024), i = ix2 r o := ⟨i 0, i 1, eq_ix2 i⟩
  subst hx hy
  exact (end_eq m c r o).trans (ref_eq _ _ r o).symm

theorem algebraic : Cert.algebraic_GradSquareIdeal_GradSquareReferenceIdeal := by
  intro m g m' g' _ h
  refine ⟨_, (θ_run Cert.GradSquareIdeal.defs _ _).mono (fun r hr c => ?_) (Cert.GradSquareIdeal.Value.run (F := Ideal) m g),
    Cert.GradSquareReferenceIdeal.Value.run (F := Ideal) m' g'⟩
  obtain ⟨hx, hy⟩ := h c
  obtain ⟨h2, hr⟩ := hr c
  exact ⟨h2.trans (whole m c _ _ hx hy), hr⟩

end Cert.GradSquareAlgebraic

end
-- ==== Proof.GradQueryAlgebraic.lean ====
/-
  The gradient of the weight of the attention's queries, against its reference: a block of the result is the sum of two products of blocks of
  2048 rows, one kept in a scratch array until the other is added.
-/
module

public import proofs.«01_k».proof.Proof.Gen.GradQuery.Frame
public import proofs.«01_k».proof.Proof.Gen.GradQueryIdeal.Value
public import proofs.«01_k».proof.Proof.Gen.GradQueryReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradQueryAlgebraic

open Cert.GradQueryIdeal Cert.GradQueryIdeal.Gen Cert.GradQueryIdeal.Value Cert.Halves
open Idealize.ShloMosaic Idealize.ShloMosaic.TcCoe Idealize.SL.Sem

/-! ## Rows, columns and points -/

/-- Row `a` and column `b` of the block that the points of group `q` compute. -/
abbrev row (q : Fin 4) (a : Fin 512) : Fin 1024 := ⟨q.val / 2 * 512 + a.val, by have := q.isLt; have := a.isLt; omega⟩
abbrev col (q : Fin 4) (b : Fin 512) : Fin 1024 := ⟨q.val % 2 * 512 + b.val, by have := b.isLt; omega⟩
/-- The `k`-th point of group `q`. -/
abbrev pt (q : Fin 4) (k : Fin 2) : Fin cfg0.N := ⟨2 * q.val + k.val, by have := q.isLt; have := k.isLt; have h : cfg0.N = 8 := N_0; omega⟩

theorem index_of : ∀ (q : Fin 4) (k : Fin 2),
    (win0_0.index (pt q k) 0 = k.val ∧ win0_0.index (pt q k) 1 = q.val / 2) ∧ (win0_1.index (pt q k) 0 = k.val ∧ win0_1.index (pt q k) 1 = q.val % 2) := by
  decide +kernel

theorem emb_0 (q : Fin 4) (k : Fin 2) (l : Fin 2048) (a : Fin 512) : (win0_0.rect (pt q k)).emb (ix2 l a) = (ix2 (mid k l) (row q a) : S4096x1024.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 512 + a.val = _; rw [h1]; rfl

theorem emb_1 (q : Fin 4) (k : Fin 2) (l : Fin 2048) (b : Fin 512) : (win0_1.rect (pt q k)).emb (ix2 l b) = (ix2 (mid k l) (col q b) : S4096x1024.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x512 .f32) (y : Vec Ideal S2048x512 .f32) (s : Vec Ideal S512x512 .f32) (a : Fin 512) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S512x512_S512x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 1024) : EReal := (m ((c : Thread nD τ).loc main_arg0) : S4096x1024.Idx → EReal) (ix2 l r)
def Y (l : Fin 4096) (o : Fin 1024) : EReal := (m ((c : Thread nD τ).loc main_arg1) : S4096x1024.Idx → EReal) (ix2 l o)

variable (q : Fin 4) (k : Fin 2) (a : Fin 512) (b : Fin 512) (l : Fin 2048)

theorem blk_0 : (iblk m c 0 (pt q k) : S2048x512.Idx → EReal) (ix2 l a) = X m c (mid k l) (row q a) := by
  show (V m c main_arg0 : S4096x1024.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x1024.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 1024) (o : Fin 1024) : (G2 m c : S1024x1024.Idx → EReal) (ix2 r o) = ∑ l : Fin 4096, X m c l r * Y m c l o := by
  have hr := r.isLt
  have ho := o.isLt
  obtain ⟨q, a, b, rfl, rfl⟩ : ∃ (q : Fin 4) (a : Fin 512) (b : Fin 512), r = row q a ∧ o = col q b :=
    ⟨⟨2 * (r.val / 512) + o.val / 512, by omega⟩, ⟨r.val % 512, Nat.mod_lt _ (by decide)⟩, ⟨o.val % 512, Nat.mod_lt _ (by decide)⟩,
      Fin.ext (by show r.val = (2 * (r.val / 512) + o.val / 512) / 2 * 512 + r.val % 512; omega),
      Fin.ext (by show o.val = (2 * (r.val / 512) + o.val / 512) % 2 * 512 + o.val % 512; omega)⟩
  have hq := q.isLt
  have ha := a.isLt
  have hb := b.isLt
  have hp : pt2Of (ix2 (row q a) (col q b)) = 2 * q.val + 1 := by
    show 2 * (2 * ((q.val / 2 * 512 + a.val) / 512 - 0) + 1 * ((q.val % 2 * 512 + b.val) / 512 - 0)) + 1 = _
    omega
  have hl : loc2Of (ix2 (row q a) (col q b)) = ix2 a b := by
    funext x
    apply Fin.ext
    match x with
    | ⟨0, _⟩ => show (q.val / 2 * 512 + a.val) % 512 = a.val; omega
    | ⟨1, _⟩ => show (q.val % 2 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x1024 .f32) (y : FVec Ideal S4096x1024 .f32) : FVec Ideal S1024x1024 .bf16 :=
  truncf .bf16 (Host.dotGeneral Cert.GradQueryReferenceIdeal.dot_S1024x4096_S4096x1024_S1024x1024_1_0_0_1_n_n none
    (transpose Cert.GradQueryReferenceIdeal.S1024x4096 [1, 0] x Cert.GradQueryReferenceIdeal.Facts₀.transposes_S4096x1024_S1024x4096_1_0) y)
    Cert.GradQueryReferenceIdeal.Facts₀.bitsLt_bf16_f32

theorem ref_eq (x : FVec Ideal S4096x1024 .f32) (y : FVec Ideal S4096x1024 .f32) (r : Fin 1024) (o : Fin 1024) :
    (ref x y (ix2 r o) : EReal) = ∑ l : Fin 4096, (x (ix2 l r) : EReal) * y (ix2 l o) := by
  unfold ref
  pointwise

/-! ## The claims -/

theorem frame_kernel : Cert.quiescent_GradQuery := fun m g _ => Cert.GradQuery.Gen.frame m g
theorem frame_ideal : Cert.quiescent_GradQueryIdeal := fun m g _ => Cert.GradQueryIdeal.Gen.frame m g
theorem frame_reference : Cert.quiescent_GradQueryReferenceIdeal := fun m g _ =>
  (θ_run Cert.GradQueryReferenceIdeal.defs _ _).mono (fun r h => ⟨fun c => (h c).2, sem_eq_zero_of_no_sems (by decide) r.2⟩)
    (Cert.GradQueryReferenceIdeal.Value.run (F := Ideal) m g)

theorem whole (m : (ℓ : Loc nD τ sig) → Buf (Elt Ideal) ℓ) (c : Dev nD) (x : FVec Ideal S4096x1024 .f32) (y : FVec Ideal S4096x1024 .f32)
    (hx : x = m ((c : Thread nD τ).loc main_arg0)) (hy : y = m ((c : Thread nD τ).loc main_arg1)) : G2 m c = ref x y := by
  funext i
  obtain ⟨r, o, rfl⟩ : ∃ (r : Fin 1024) (o : Fin 1024), i = ix2 r o := ⟨i 0, i 1, eq_ix2 i⟩
  subst hx hy
  exact (end_eq m c r o).trans (ref_eq _ _ r o).symm

theorem algebraic : Cert.algebraic_GradQueryIdeal_GradQueryReferenceIdeal := by
  intro m g m' g' _ h
  refine ⟨_, (θ_run Cert.GradQueryIdeal.defs _ _).mono (fun r hr c => ?_) (Cert.GradQueryIdeal.Value.run (F := Ideal) m g),
    Cert.GradQueryReferenceIdeal.Value.run (F := Ideal) m' g'⟩
  obtain ⟨hx, hy⟩ := h c
  obtain ⟨h2, hr⟩ := hr c
  exact ⟨h2.trans (whole m c _ _ hx hy), hr⟩

end Cert.GradQueryAlgebraic

end
-- ==== Proof.GradKeysAlgebraic.lean ====
/-
  The gradient of the weight of the memory's keys and values, against its reference: each block of 512 rows and 512 columns of the
  result is one product of blocks that hold whole columns.
-/
module

public import proofs.«01_k».proof.Proof.Gen.GradKeys.Frame
public import proofs.«01_k».proof.Proof.Gen.GradKeysIdeal.Value
public import proofs.«01_k».proof.Proof.Gen.GradKeysReferenceIdeal.Run
public import proofs.«01_k».proof.Defs
public import Idealize.ShloMosaic.Lib.VecWindow
public import Idealize.ShloMosaic.Lib.Pointwise

@[expose] public section

set_option maxRecDepth 65536

noncomputable section

namespace Cert.GradKeysAlgebraic

open Cert.GradKeysIdeal Cert.GradKeysIdeal.Gen Cert.GradKeysIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch and from there into the result. -/
theorem prod_eq (x w : Vec Ideal S512x512 .f32) (a b : Fin 512) :
    (k0_pay4 (k0_pay2 x w) (ix2 a b) : EReal) = ∑ l : Fin 512, (x (ix2 l a) : EReal) * w (ix2 l b) := by
  unfold k0_pay4 k0_pay2
  pointwise [k0_pay1]

theorem out_eq (m : (ℓ : Loc nD τ sig) → Buf (Elt Ideal) ℓ) (c : Dev nD) (t : Fin cfg0.N) :
    outsAt0 m c t = k0_pay4 (k0_pay2 (iblk m c 0 t) (iblk m c 1 t)) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 8 := rfl
/-- Row `a` and column `b` of the block that point `t` computes. -/
abbrev row (t : Fin cfg0.N) (a : Fin 512) : Fin 1024 := ⟨t.val / 4 * 512 + a.val, by have := t.isLt; have := N_eq; have := a.isLt; omega⟩
abbrev col (t : Fin cfg0.N) (b : Fin 512) : Fin 2048 := ⟨t.val % 4 * 512 + b.val, by have := b.isLt; omega⟩

theorem place_of (r : Fin 1024) (o : Fin 2048) : ∃ (t : Fin cfg0.N) (a b : Fin 512), row t a = r ∧ col t b = o := by
  have hN := N_eq
  have hr := r.isLt
  have ho := o.isLt
  exact ⟨⟨4 * (r.val / 512) + o.val / 512, by omega⟩, ⟨r.val % 512, Nat.mod_lt _ (by decide)⟩, ⟨o.val % 512, Nat.mod_lt _ (by decide)⟩,
    Fin.ext (by show (4 * (r.val / 512) + o.val / 512) / 4 * 512 + r.val % 512 = r.val; omega),
    Fin.ext (by show (4 * (r.val / 512) + o.val / 512) % 4 * 512 + o.val % 512 = o.val; omega)⟩

theorem index_of : ∀ t : Fin grid0.N, (win0_0.index t 0 = 0 ∧ win0_0.index t 1 = t.val / 4) ∧ (win0_1.index t 0 = 0 ∧ win0_1.index t 1 = t.val % 4)
    ∧ (win0_2.index t 0 = t.val / 4 ∧ win0_2.index t 1 = t.val % 4) := by decide +kernel
theorem flush : ∀ t : Fin cfg0.N, (cfg0.win 2).flush t = true := (by decide +kernel : ∀ t : Fin grid0.N, win0_2.flush t = true)

theorem emb_0 (t : Fin cfg0.N) (l a : Fin 512) : (win0_0.rect t).emb (ix2 l a) = (ix2 l (row t a) : S512x1024.Idx) := by
  refine funext fun x => Fin.ext ?_
  obtain ⟨⟨h0, h1⟩, -, -⟩ := index_of t
  refine (win0_0.rect_emb_val t (ix2 l a) x rfl).trans ?_
  fin_cases x
  · show win0_0.index t 0 * 512 + l.val = _; rw [h0]; simp
  · show win0_0.index t 1 * 512 + a.val = _; rw [h1]; rfl
theorem emb_1 (t : Fin cfg0.N) (l : Fin 512) (b : Fin 512) : (win0_1.rect t).emb (ix2 l b) = (ix2 l (col t b) : S512x2048.Idx) := by
  refine funext fun x => Fin.ext ?_
  obtain ⟨-, ⟨h0, h1⟩, -⟩ := index_of t
  refine (win0_1.rect_emb_val t (ix2 l b) x rfl).trans ?_
  fin_cases x
  · show win0_1.index t 0 * 512 + l.val = _; rw [h0]; simp
  · show win0_1.index t 1 * 512 + b.val = _; rw [h1]; rfl
theorem emb_2 (t : Fin cfg0.N) (a b : Fin 512) : (win0_2.rect t).emb (ix2 a b) = (ix2 (row t a) (col t b) : S1024x2048.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a b : Fin 512) (l : Fin 512)

/-- The two arguments, as numbers. -/
def X (l : Fin 512) (r : Fin 1024) : EReal := (m ((c : Thread nD τ).loc main_arg0) : S512x1024.Idx → EReal) (ix2 l r)
def W (l : Fin 512) (o : Fin 2048) : EReal := (m ((c : Thread nD τ).loc main_arg1) : S512x2048.Idx → EReal) (ix2 l o)

theorem blk_0 : (iblk m c 0 t : S512x512.Idx → EReal) (ix2 l a) = X m c l (row t a) := by
  show (V m c main_arg0 : S512x1024.Idx → EReal) ((win0_0.rect t).emb (ix2 l a)) = _
  rw [emb_0, V_main_arg0]
  rfl
theorem blk_1 : (iblk m c 1 t : S512x512.Idx → EReal) (ix2 l b) = W m c l (col t b) := by
  show (V m c main_arg1 : S512x2048.Idx → EReal) ((win0_1.rect t).emb (ix2 l b)) = _
  rw [emb_1, V_main_arg1]
  rfl

theorem end_eq (r : Fin 1024) (o : Fin 2048) :
    ((dats m 0 c).arrAt 2 cfg0.N : S1024x2048.Idx → EReal) (ix2 r o) = ∑ l : Fin 512, X m c l r * W m c l o := by
  obtain ⟨t, a, b, rfl, rfl⟩ := place_of r o
  have e := congrFun ((blocks2 m c t (flush t)).trans (flushed2 m c t)) (ix2 a b)
  refine (congrArg ((dats m 0 c).arrAt 2 cfg0.N : S1024x2048.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S512x1024 .f32) (w : FVec Ideal S512x2048 .f32) : FVec Ideal S1024x2048 .bf16 :=
  truncf .bf16 (Host.dotGeneral Cert.GradKeysReferenceIdeal.dot_S1024x512_S512x2048_S1024x2048_1_0_0_1_n_n none
    (transpose Cert.GradKeysReferenceIdeal.S1024x512 [1, 0] x Cert.GradKeysReferenceIdeal.Facts₀.transposes_S512x1024_S1024x512_1_0) w)
    Cert.GradKeysReferenceIdeal.Facts₀.bitsLt_bf16_f32

theorem ref_eq (x : FVec Ideal S512x1024 .f32) (w : FVec Ideal S512x2048 .f32) (r : Fin 1024) (o : Fin 2048) :
    (ref x w (ix2 r o) : EReal) = ∑ l : Fin 512, (x (ix2 l r) : EReal) * w (ix2 l o) := by
  unfold ref
  pointwise

/-! ## The claims -/

theorem frame_kernel : Cert.quiescent_GradKeys := fun m g _ => Cert.GradKeys.Gen.frame m g
theorem frame_ideal : Cert.quiescent_GradKeysIdeal := fun m g _ => Cert.GradKeysIdeal.Gen.frame m g
theorem frame_reference : Cert.quiescent_GradKeysReferenceIdeal := fun m g _ =>
  (θ_run Cert.GradKeysReferenceIdeal.defs _ _).mono (fun r h => ⟨fun c => (h c).2, sem_eq_zero_of_no_sems (by decide) r.2⟩)
    (Cert.GradKeysReferenceIdeal.Value.run (F := Ideal) m g)

theorem whole (m : (ℓ : Loc nD τ sig) → Buf (Elt Ideal) ℓ) (c : Dev nD) (x : FVec Ideal S512x1024 .f32) (w : FVec Ideal S512x2048 .f32)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 1024) (o : Fin 2048), i = ix2 r o := ⟨i 0, i 1, eq_ix2 i⟩
  subst hx hw
  exact (end_eq m c r o).trans (ref_eq _ _ r o).symm

theorem algebraic : Cert.algebraic_GradKeysIdeal_GradKeysReferenceIdeal := by
  intro m g m' g' _ h
  refine ⟨_, (θ_run Cert.GradKeysIdeal.defs _ _).mono (fun r hr c => ?_) (run_blocks (F := Ideal) m g),
    Cert.GradKeysReferenceIdeal.Value.run (F := Ideal) m' g'⟩
  obtain ⟨hx, hw⟩ := h c
  obtain ⟨h2, hr⟩ := hr c
  exact ⟨h2.trans (whole m c _ _ hx hw), hr⟩

end Cert.GradKeysAlgebraic

end
-- ==== Proof.GradBranchAlgebraic.lean ====
/-
  The gradient of the SSD branch's weight, against its reference: a block of the result is the sum of two products of blocks of
  2048 rows, one kept in a scratch array until the other is added.
-/
module

public import proofs.«01_k».proof.Proof.Gen.GradBranch.Frame
public import proofs.«01_k».proof.Proof.Gen.GradBranchIdeal.Value
public import proofs.«01_k».proof.Proof.Gen.GradBranchReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradBranchAlgebraic

open Cert.GradBranchIdeal Cert.GradBranchIdeal.Gen Cert.GradBranchIdeal.Value Cert.Halves
open Idealize.ShloMosaic Idealize.ShloMosaic.TcCoe Idealize.SL.Sem

/-! ## Rows, columns and points -/

/-- Row `a` and column `b` of the block that the points of group `q` compute. -/
abbrev row (q : Fin 8) (a : Fin 512) : Fin 2048 := ⟨q.val / 2 * 512 + a.val, by have := q.isLt; have := a.isLt; omega⟩
abbrev col (q : Fin 8) (b : Fin 512) : Fin 1024 := ⟨q.val % 2 * 512 + b.val, by have := b.isLt; omega⟩
/-- The `k`-th point of group `q`. -/
abbrev pt (q : Fin 8) (k : Fin 2) : Fin cfg0.N := ⟨2 * q.val + k.val, by have := q.isLt; have := k.isLt; have h : cfg0.N = 16 := N_0; omega⟩

theorem index_of : ∀ (q : Fin 8) (k : Fin 2),
    (win0_0.index (pt q k) 0 = k.val ∧ win0_0.index (pt q k) 1 = q.val / 2) ∧ (win0_1.index (pt q k) 0 = k.val ∧ win0_1.index (pt q k) 1 = q.val % 2) := by
  decide +kernel

theorem emb_0 (q : Fin 8) (k : Fin 2) (l : Fin 2048) (a : Fin 512) : (win0_0.rect (pt q k)).emb (ix2 l a) = (ix2 (mid k l) (row q a) : S4096x2048.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 512 + a.val = _; rw [h1]; rfl

theorem emb_1 (q : Fin 8) (k : Fin 2) (l : Fin 2048) (b : Fin 512) : (win0_1.rect (pt q k)).emb (ix2 l b) = (ix2 (mid k l) (col q b) : S4096x1024.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x512 .bf16) (y : Vec Ideal S2048x512 .f32) (s : Vec Ideal S512x512 .f32) (a : Fin 512) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S512x512_S512x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 2048) : EReal := (m ((c : Thread nD τ).loc main_arg0) : S4096x2048.Idx → EReal) (ix2 l r)
def Y (l : Fin 4096) (o : Fin 1024) : EReal := (m ((c : Thread nD τ).loc main_arg1) : S4096x1024.Idx → EReal) (ix2 l o)

variable (q : Fin 8) (k : Fin 2) (a : Fin 512) (b : Fin 512) (l : Fin 2048)

theorem blk_0 : (iblk m c 0 (pt q k) : S2048x512.Idx → EReal) (ix2 l a) = X m c (mid k l) (row q a) := by
  show (V m c main_arg0 : S4096x2048.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x1024.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 2048) (o : Fin 1024) : (G2 m c : S2048x1024.Idx → EReal) (ix2 r o) = ∑ l : Fin 4096, X m c l r * Y m c l o := by
  have hr := r.isLt
  have ho := o.isLt
  obtain ⟨q, a, b, rfl, rfl⟩ : ∃ (q : Fin 8) (a : Fin 512) (b : Fin 512), r = row q a ∧ o = col q b :=
    ⟨⟨2 * (r.val / 512) + o.val / 512, by omega⟩, ⟨r.val % 512, Nat.mod_lt _ (by decide)⟩, ⟨o.val % 512, Nat.mod_lt _ (by decide)⟩,
      Fin.ext (by show r.val = (2 * (r.val / 512) + o.val / 512) / 2 * 512 + r.val % 512; omega),
      Fin.ext (by show o.val = (2 * (r.val / 512) + o.val / 512) % 2 * 512 + o.val % 512; omega)⟩
  have hq := q.isLt
  have ha := a.isLt
  have hb := b.isLt
  have hp : pt2Of (ix2 (row q a) (col q b)) = 2 * q.val + 1 := by
    show 2 * (2 * ((q.val / 2 * 512 + a.val) / 512 - 0) + 1 * ((q.val % 2 * 512 + b.val) / 512 - 0)) + 1 = _
    omega
  have hl : loc2Of (ix2 (row q a) (col q b)) = ix2 a b := by
    funext x
    apply Fin.ext
    match x with
    | ⟨0, _⟩ => show (q.val / 2 * 512 + a.val) % 512 = a.val; omega
    | ⟨1, _⟩ => show (q.val % 2 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x2048 .bf16) (y : FVec Ideal S4096x1024 .f32) : FVec Ideal S2048x1024 .bf16 :=
  truncf .bf16 (Host.dotGeneral Cert.GradBranchReferenceIdeal.dot_S2048x4096_S4096x1024_S2048x1024_1_0_0_1_n_n none
    (transpose Cert.GradBranchReferenceIdeal.S2048x4096 [1, 0] (extf .f32 x Cert.GradBranchReferenceIdeal.Facts₀.bitsLt_bf16_f32) Cert.GradBranchReferenceIdeal.Facts₀.transposes_S4096x2048_S2048x4096_1_0) y)
    Cert.GradBranchReferenceIdeal.Facts₀.bitsLt_bf16_f32

theorem ref_eq (x : FVec Ideal S4096x2048 .bf16) (y : FVec Ideal S4096x1024 .f32) (r : Fin 2048) (o : Fin 1024) :
    (ref x y (ix2 r o) : EReal) = ∑ l : Fin 4096, (x (ix2 l r) : EReal) * y (ix2 l o) := by
  unfold ref
  pointwise

/-! ## The claims -/

theorem frame_kernel : Cert.quiescent_GradBranch := fun m g _ => Cert.GradBranch.Gen.frame m g
theorem frame_ideal : Cert.quiescent_GradBranchIdeal := fun m g _ => Cert.GradBranchIdeal.Gen.frame m g
theorem frame_reference : Cert.quiescent_GradBranchReferenceIdeal := fun m g _ =>
  (θ_run Cert.GradBranchReferenceIdeal.defs _ _).mono (fun r h => ⟨fun c => (h c).2, sem_eq_zero_of_no_sems (by decide) r.2⟩)
    (Cert.GradBranchReferenceIdeal.Value.run (F := Ideal) m g)

theorem whole (m : (ℓ : Loc nD τ sig) → Buf (Elt Ideal) ℓ) (c : Dev nD) (x : FVec Ideal S4096x2048 .bf16) (y : FVec Ideal S4096x1024 .f32)
    (hx : x = m ((c : Thread nD τ).loc main_arg0)) (hy : y = m ((c : Thread nD τ).loc main_arg1)) : G2 m c = ref x y := by
  funext i
  obtain ⟨r, o, rfl⟩ : ∃ (r : Fin 2048) (o : Fin 1024), i = ix2 r o := ⟨i 0, i 1, eq_ix2 i⟩
  subst hx hy
  exact (end_eq m c r o).trans (ref_eq _ _ r o).symm

theorem algebraic : Cert.algebraic_GradBranchIdeal_GradBranchReferenceIdeal := by
  intro m g m' g' _ h
  refine ⟨_, (θ_run Cert.GradBranchIdeal.defs _ _).mono (fun r hr c => ?_) (Cert.GradBranchIdeal.Value.run (F := Ideal) m g),
    Cert.GradBranchReferenceIdeal.Value.run (F := Ideal) m' g'⟩
  obtain ⟨hx, hy⟩ := h c
  obtain ⟨h2, hr⟩ := hr c
  exact ⟨h2.trans (whole m c _ _ hx hy), hr⟩

end Cert.GradBranchAlgebraic

end
-- ==== Proof.GradEnterAlgebraic.lean ====
/-
  The gradient of the weight at a layer's entry, against its reference: a block of the result is the sum of two products of blocks of
  2048 rows, one kept in a scratch array until the other is added.
-/
module

public import proofs.«01_k».proof.Proof.Gen.GradEnter.Frame
public import proofs.«01_k».proof.Proof.Gen.GradEnterIdeal.Value
public import proofs.«01_k».proof.Proof.Gen.GradEnterReferenceIdeal.Run
public import proofs.«01_k».proof.Proof.Halves
public import proofs.«01_k».proof.Defs
public import Idealize.ShloMosaic.Lib.Pipeline.ValueKit.Acc
public import Idealize.ShloMosaic.Lib.VecWindow
public import Idealize.ShloMosaic.Lib.Pointwise

@[expose] public section

set_option maxRecDepth 65536

noncomputable section

namespace Cert.GradEnterAlgebraic

open Cert.GradEnterIdeal Cert.GradEnterIdeal.Gen Cert.GradEnterIdeal.Value Cert.Halves
open Idealize.ShloMosaic Idealize.ShloMosaic.TcCoe Idealize.SL.Sem

/-! ## Rows, columns and points -/

/-- Row `a` and column `b` of the block that the points of group `q` compute. -/
abbrev row (q : Fin 38) (a : Fin 512) : Fin 1024 := ⟨q.val / 19 * 512 + a.val, by have := q.isLt; have := a.isLt; omega⟩
abbrev col (q : Fin 38) (b : Fin 512) : Fin 9728 := ⟨q.val % 19 * 512 + b.val, by have := b.isLt; omega⟩
/-- The `k`-th point of group `q`. -/
abbrev pt (q : Fin 38) (k : Fin 2) : Fin cfg0.N := ⟨2 * q.val + k.val, by have := q.isLt; have := k.isLt; have h : cfg0.N = 76 := N_0; omega⟩

theorem index_of : ∀ (q : Fin 38) (k : Fin 2),
    (win0_0.index (pt q k) 0 = k.val ∧ win0_0.index (pt q k) 1 = q.val / 19) ∧ (win0_1.index (pt q k) 0 = k.val ∧ win0_1.index (pt q k) 1 = q.val % 19) := by
  decide +kernel

theorem emb_0 (q : Fin 38) (k : Fin 2) (l : Fin 2048) (a : Fin 512) : (win0_0.rect (pt q k)).emb (ix2 l a) = (ix2 (mid k l) (row q a) : S4096x1024.Idx) := by
  refine funext fun x => Fin.ext ?_
  obtain ⟨⟨h0, h1⟩, -⟩ := index_of q k
  refine (win0_0.rect_emb_val (pt q k) (ix2 l a) x rfl).trans ?_
  fin_cases x
  · show win0_0.index (pt q k) 0 * 2048 + l.val = _; rw [h0]; rfl
  · show win0_0.index (pt q k) 1 * 512 + a.val = _; rw [h1]; rfl

theorem emb_1 (q : Fin 38) (k : Fin 2) (l : Fin 2048) (b : Fin 512) : (win0_1.rect (pt q k)).emb (ix2 l b) = (ix2 (mid k l) (col q b) : S4096x9728.Idx) := by
  refine funext fun x => Fin.ext ?_
  obtain ⟨-, ⟨h0, h1⟩⟩ := index_of q k
  refine (win0_1.rect_emb_val (pt q k) (ix2 l b) x rfl).trans ?_
  fin_cases x
  · show win0_1.index (pt q k) 0 * 2048 + l.val = _; rw [h0]; rfl
  · show win0_1.index (pt q k) 1 * 512 + b.val = _; rw [h1]; rfl

/-! ## One point -/

section Point

variable (x : Vec Ideal S2048x512 .f32) (y : Vec Ideal S2048x512 .f32) (s : Vec Ideal S512x512 .f32) (a : Fin 512) (b : Fin 512)

/-- The product of two blocks, at a place. -/
theorem prod_eq : (k0_pay1 x y (ix2 a b) : EReal) = ∑ l : Fin 2048, (x (ix2 l a) : EReal) * y (ix2 l b) := by
  pointwise [k0_pay1]
theorem first_eq : (k0_pay2 x y (ix2 a b) : EReal) = k0_pay1 x y (ix2 a b) := by
  unfold k0_pay2
  pointwise
theorem last_eq : (k0_pay4 (k0_pay3 x y s) (ix2 a b) : EReal) = (s (ix2 a b) : EReal) + k0_pay1 x y (ix2 a b) := by
  unfold k0_pay4 k0_pay3
  pointwise

end Point

section Runs

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  dsimp only
  unfold sout0_A_0 kernelRun0_A
  refine (View.read_writes_full _ _ inb_S512x512_S512x512_0_0 _ []).trans ?_
  rw [View.readAt_full, View.readAt_full, Memref.IsWhole.read_unread, Memref.IsWhole.read_unread]

theorem out_B (t : Fin cfg0.N) (h0 : ¬t.val % 2 = 0) (h1 : t.val % 2 = 1) :
    (outsAt0 m c t.val t.isLt).1
      = k0_pay4 (k0_pay3 (iblk m c 0 t) (iblk m c 1 t) (outsAt0 m c (t.val - 1) (Nat.lt_of_le_of_lt (Nat.sub_le _ _) t.isLt)).2) := by
  rw [outsAt0_B m c t h0 h1 h1]
  dsimp only
  unfold out0_B_2 kernelRun0_B
  refine (View.read_writes_full _ _ inb_S512x512_S512x512_0_0 _ []).trans ?_
  sl_unfold_words
  rw [View.readCov_full, View.readAt_full, View.readAt_full, View.readAt_full, Memref.IsWhole.read_unread, Memref.IsWhole.read_unread,
    Memref.IsWhole.read_unread]

/-- The two arguments, as numbers. -/
def X (l : Fin 4096) (r : Fin 1024) : EReal := (m ((c : Thread nD τ).loc main_arg0) : S4096x1024.Idx → EReal) (ix2 l r)
def Y (l : Fin 4096) (o : Fin 9728) : EReal := (m ((c : Thread nD τ).loc main_arg1) : S4096x9728.Idx → EReal) (ix2 l o)

variable (q : Fin 38) (k : Fin 2) (a : Fin 512) (b : Fin 512) (l : Fin 2048)

theorem blk_0 : (iblk m c 0 (pt q k) : S2048x512.Idx → EReal) (ix2 l a) = X m c (mid k l) (row q a) := by
  show (V m c main_arg0 : S4096x1024.Idx → EReal) ((win0_0.rect (pt q k)).emb (ix2 l a)) = _
  rw [emb_0, V_main_arg0]
  rfl
theorem blk_1 : (iblk m c 1 (pt q k) : S2048x512.Idx → EReal) (ix2 l b) = Y m c (mid k l) (col q b) := by
  show (V m c main_arg1 : S4096x9728.Idx → EReal) ((win0_1.rect (pt q k)).emb (ix2 l b)) = _
  rw [emb_1, V_main_arg1]
  rfl

/-- The product of two blocks is the part of the sum over their rows. -/
theorem prod_part : (k0_pay1 (iblk m c 0 (pt q k)) (iblk m c 1 (pt q k)) (ix2 a b) : EReal)
    = ∑ l : Fin 2048, X m c (mid k l) (row q a) * Y m c (mid k l) (col q b) := by
  refine (prod_eq _ _ a b).trans (Finset.sum_congr (M := EReal) rfl fun l _ => ?_)
  rw [blk_0, blk_1]

/-- What the last point of a group leaves in the result's block. -/
theorem out_eq : ((outsAt0 m c (2 * q.val + 1) (pt q 1).isLt).1 (ix2 a b) : EReal) = ∑ l : Fin 4096, X m c l (row q a) * Y m c l (col q b) := by
  have e := out_B m c (pt q 1) (by show ¬(2 * q.val + 1) % 2 = 0; omega) (by show (2 * q.val + 1) % 2 = 1; omega)
  have e0 := scratch_A m c (pt q 0) (by show (2 * q.val + 0) % 2 = 0; omega) (by show ¬(2 * q.val + 0) % 2 = 1; omega)
  refine (congrFun e (ix2 a b)).trans ((last_eq _ _ _ a b).trans ?_)
  rw [prod_part]
  refine Eq.trans (congrArg (· + _) ((congrFun e0 (ix2 a b)).trans ((first_eq _ _ a b).trans (prod_part m c q 0 a b)))) ?_
  exact parts_eq fun l => X m c l (row q a) * Y m c l (col q b)

/-- The array at the end. -/
theorem end_eq (r : Fin 1024) (o : Fin 9728) : (G2 m c : S1024x9728.Idx → EReal) (ix2 r o) = ∑ l : Fin 4096, X m c l r * Y m c l o := by
  have hr := r.isLt
  have ho := o.isLt
  obtain ⟨q, a, b, rfl, rfl⟩ : ∃ (q : Fin 38) (a : Fin 512) (b : Fin 512), r = row q a ∧ o = col q b :=
    ⟨⟨19 * (r.val / 512) + o.val / 512, by omega⟩, ⟨r.val % 512, Nat.mod_lt _ (by decide)⟩, ⟨o.val % 512, Nat.mod_lt _ (by decide)⟩,
      Fin.ext (by show r.val = (19 * (r.val / 512) + o.val / 512) / 19 * 512 + r.val % 512; omega),
      Fin.ext (by show o.val = (19 * (r.val / 512) + o.val / 512) % 19 * 512 + o.val % 512; omega)⟩
  have hq := q.isLt
  have ha := a.isLt
  have hb := b.isLt
  have hp : pt2Of (ix2 (row q a) (col q b)) = 2 * q.val + 1 := by
    show 2 * (19 * ((q.val / 19 * 512 + a.val) / 512 - 0) + 1 * ((q.val % 19 * 512 + b.val) / 512 - 0)) + 1 = _
    omega
  have hl : loc2Of (ix2 (row q a) (col q b)) = ix2 a b := by
    funext x
    apply Fin.ext
    match x with
    | ⟨0, _⟩ => show (q.val / 19 * 512 + a.val) % 512 = a.val; omega
    | ⟨1, _⟩ => show (q.val % 19 * 512 + b.val) % 512 = b.val; omega
  have hN : pt2Of (ix2 (row q a) (col q b)) < cfg0.N := by rw [hp]; exact (pt q 1).isLt
  unfold G2
  rw [dif_pos hN, hl, fold0_congr m c _ _ (2 * q.val + 1) (by rw [Nat.zero_add]; exact (pt q 1).isLt) hp]
  exact (congrFun (congrArg Prod.fst (outsAt0_sweep m c (2 * q.val + 1) (pt q 1).isLt)) (ix2 a b)).symm.trans (out_eq m c q a b)

end Runs

/-! ## The reference -/

/-- The reference's result. -/
def ref (x : FVec Ideal S4096x1024 .f32) (y : FVec Ideal S4096x9728 .f32) : FVec Ideal S1024x9728 .bf16 :=
  truncf .bf16 (Host.dotGeneral Cert.GradEnterReferenceIdeal.dot_S1024x4096_S4096x9728_S1024x9728_1_0_0_1_n_n none
    (transpose Cert.GradEnterReferenceIdeal.S1024x4096 [1, 0] x Cert.GradEnterReferenceIdeal.Facts₀.transposes_S4096x1024_S1024x4096_1_0) y)
    Cert.GradEnterReferenceIdeal.Facts₀.bitsLt_bf16_f32

theorem ref_eq (x : FVec Ideal S4096x1024 .f32) (y : FVec Ideal S4096x9728 .f32) (r : Fin 1024) (o : Fin 9728) :
    (ref x y (ix2 r o) : EReal) = ∑ l : Fin 4096, (x (ix2 l r) : EReal) * y (ix2 l o) := by
  unfold ref
  pointwise

/-! ## The claims -/

theorem frame_kernel : Cert.quiescent_GradEnter := fun m g _ => Cert.GradEnter.Gen.frame m g
theorem frame_ideal : Cert.quiescent_GradEnterIdeal := fun m g _ => Cert.GradEnterIdeal.Gen.frame m g
theorem frame_reference : Cert.quiescent_GradEnterReferenceIdeal := fun m g _ =>
  (θ_run Cert.GradEnterReferenceIdeal.defs _ _).mono (fun r h => ⟨fun c => (h c).2, sem_eq_zero_of_no_sems (by decide) r.2⟩)
    (Cert.GradEnterReferenceIdeal.Value.run (F := Ideal) m g)

theorem whole (m : (ℓ : Loc nD τ sig) → Buf (Elt Ideal) ℓ) (c : Dev nD) (x : FVec Ideal S4096x1024 .f32) (y : FVec Ideal S4096x9728 .f32)
    (hx : x = m ((c : Thread nD τ).loc main_arg0)) (hy : y = m ((c : Thread nD τ).loc main_arg1)) : G2 m c = ref x y := by
  funext i
  obtain ⟨r, o, rfl⟩ : ∃ (r : Fin 1024) (o : Fin 9728), i = ix2 r o := ⟨i 0, i 1, eq_ix2 i⟩
  subst hx hy
  exact (end_eq m c r o).trans (ref_eq _ _ r o).symm

theorem algebraic : Cert.algebraic_GradEnterIdeal_GradEnterReferenceIdeal := by
  intro m g m' g' _ h
  refine ⟨_, (θ_run Cert.GradEnterIdeal.defs _ _).mono (fun r hr c => ?_) (Cert.GradEnterIdeal.Value.run (F := Ideal) m g),
    Cert.GradEnterReferenceIdeal.Value.run (F := Ideal) m' g'⟩
  obtain ⟨hx, hy⟩ := h c
  obtain ⟨h2, hr⟩ := hr c
  exact ⟨h2.trans (whole m c _ _ hx hy), hr⟩

end Cert.GradEnterAlgebraic

end
-- ==== Proof.PastOutAlgebraic.lean ====
/-
  The product that carries a gradient back through the feed-forward's second weight, against its reference: each block of the result is
  one product of whole rows of the gradient and whole rows of the weight.
-/
module

public import proofs.«01_k».proof.Proof.Gen.PastOut.Frame
public import proofs.«01_k».proof.Proof.Gen.PastOutIdeal.Value
public import proofs.«01_k».proof.Proof.Gen.PastOutReferenceIdeal.Run
public import proofs.«01_k».proof.Defs
public import Idealize.ShloMosaic.Lib.VecWindow
public import Idealize.ShloMosaic.Lib.Pointwise

@[expose] public section

set_option maxRecDepth 65536

noncomputable section

namespace Cert.PastOutAlgebraic

open Cert.PastOutIdeal Cert.PastOutIdeal.Gen Cert.PastOutIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S256x1024 .bf16) (a : Fin 512) (b : Fin 256) :
    (k0_pay2 x w (ix2 a b) : EReal) = ∑ l : Fin 1024, (x (ix2 a l) : EReal) * w (ix2 b l) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x256_S512x256_0_0 _ []).trans ?_
  sl_unfold_words
  rw [View.readCov_full, View.readAt_full, View.readAt_full, Memref.IsWhole.read_unread, Memref.IsWhole.read_unread]

/-! ## The array at the end -/

theorem N_eq : cfg0.N = 88 := rfl
/-- Row `a` and column `b` of the block that point `t` computes. -/
abbrev row (t : Fin cfg0.N) (a : Fin 512) : Fin 4096 := ⟨t.val / 11 * 512 + a.val, by have := t.isLt; have := N_eq; have := a.isLt; omega⟩
abbrev col (t : Fin cfg0.N) (b : Fin 256) : Fin 2816 := ⟨t.val % 11 * 256 + b.val, by have := b.isLt; omega⟩

theorem place_of (r : Fin 4096) (o : Fin 2816) : ∃ (t : Fin cfg0.N) (a : Fin 512) (b : Fin 256), row t a = r ∧ col t b = o := by
  have hN := N_eq
  have hr := r.isLt
  have ho := o.isLt
  exact ⟨⟨11 * (r.val / 512) + o.val / 256, by omega⟩, ⟨r.val % 512, Nat.mod_lt _ (by decide)⟩, ⟨o.val % 256, Nat.mod_lt _ (by decide)⟩,
    Fin.ext (by show (11 * (r.val / 512) + o.val / 256) / 11 * 512 + r.val % 512 = r.val; omega),
    Fin.ext (by show (11 * (r.val / 512) + o.val / 256) % 11 * 256 + o.val % 256 = o.val; omega)⟩

theorem index_of : ∀ t : Fin grid0.N, (win0_0.index t 0 = t.val / 11 ∧ win0_0.index t 1 = 0) ∧ (win0_1.index t 0 = t.val % 11 ∧ win0_1.index t 1 = 0)
    ∧ (win0_2.index t 0 = t.val / 11 ∧ win0_2.index t 1 = t.val % 11) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (b : Fin 256) (l : Fin 1024) : (win0_1.rect t).emb (ix2 b l) = (ix2 (col t b) l : S2816x1024.Idx) := by
  refine funext fun x => Fin.ext ?_
  obtain ⟨-, ⟨h0, h1⟩, -⟩ := index_of t
  refine (win0_1.rect_emb_val t (ix2 b l) x rfl).trans ?_
  fin_cases x
  · show win0_1.index t 0 * 256 + b.val = _; rw [h0]; rfl
  · show win0_1.index t 1 * 1024 + l.val = _; rw [h1]; simp
theorem emb_2 (t : Fin cfg0.N) (a : Fin 512) (b : Fin 256) : (win0_2.rect t).emb (ix2 a b) = (ix2 (row t a) (col t b) : S4096x2816.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 256 + b.val = _; rw [h1]; rfl

section Ends

variable (m : (ℓ : Loc nD τ sig) → Buf (Elt Ideal) ℓ) (c : Dev nD) (t : Fin cfg0.N) (a : Fin 512) (b : Fin 256) (l : Fin 1024)

/-- The two arguments, as numbers. -/
def X (r : Fin 4096) (l : Fin 1024) : EReal := (m ((c : Thread nD τ).loc main_arg0) : S4096x1024.Idx → EReal) (ix2 r l)
def W (o : Fin 2816) (l : Fin 1024) : EReal := (m ((c : Thread nD τ).loc main_arg1) : S2816x1024.Idx → EReal) (ix2 o l)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S256x1024.Idx → EReal) (ix2 b l) = W m c (col t b) l := by
  show (V m c main_arg1 : S2816x1024.Idx → EReal) ((win0_1.rect t).emb (ix2 b l)) = _
  rw [emb_1, V_main_arg1]
  rfl

theorem end_eq (r : Fin 4096) (o : Fin 2816) :
    ((dats m 0 c).arrAt 2 cfg0.N : S4096x2816.Idx → EReal) (ix2 r o) = ∑ l : Fin 1024, X m c r l * W m c o l := by
  obtain ⟨t, a, b, rfl, rfl⟩ := place_of r o
  have e := congrFun ((blocks2 m c t (flush t)).trans (flushed2 m c t)) (ix2 a b)
  refine (congrArg ((dats m 0 c).arrAt 2 cfg0.N : S4096x2816.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S2816x1024 .bf16) : FVec Ideal S4096x2816 .f32 :=
  Host.dotGeneral Cert.PastOutReferenceIdeal.dot_S4096x1024_S1024x2816_S4096x2816_1_0_0_1_n_n none x
    (transpose Cert.PastOutReferenceIdeal.S1024x2816 [1, 0] (extf .f32 w Cert.PastOutReferenceIdeal.Facts₀.bitsLt_bf16_f32)
      Cert.PastOutReferenceIdeal.Facts₀.transposes_S2816x1024_S1024x2816_1_0)

theorem ref_eq (x : FVec Ideal S4096x1024 .f32) (w : FVec Ideal S2816x1024 .bf16) (r : Fin 4096) (o : Fin 2816) :
    (ref x w (ix2 r o) : EReal) = ∑ l : Fin 1024, (x (ix2 r l) : EReal) * w (ix2 o l) := by
  unfold ref
  pointwise

/-! ## The claims -/

theorem frame_kernel : Cert.quiescent_PastOut := fun m g _ => Cert.PastOut.Gen.frame m g
theorem frame_ideal : Cert.quiescent_PastOutIdeal := fun m g _ => Cert.PastOutIdeal.Gen.frame m g
theorem frame_reference : Cert.quiescent_PastOutReferenceIdeal := fun m g _ =>
  (θ_run Cert.PastOutReferenceIdeal.defs _ _).mono (fun r h => ⟨fun c => (h c).2, sem_eq_zero_of_no_sems (by decide) r.2⟩)
    (Cert.PastOutReferenceIdeal.Value.run (F := Ideal) m g)

theorem whole (m : (ℓ : Loc nD τ sig) → Buf (Elt Ideal) ℓ) (c : Dev nD) (x : FVec Ideal S4096x1024 .f32) (w : FVec Ideal S2816x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 2816), i = ix2 r o := ⟨i 0, i 1, eq_ix2 i⟩
  subst hx hw
  exact (end_eq m c r o).trans (ref_eq _ _ r o).symm

theorem algebraic : Cert.algebraic_PastOutIdeal_PastOutReferenceIdeal := by
  intro m g m' g' _ h
  refine ⟨_, (θ_run Cert.PastOutIdeal.defs _ _).mono (fun r hr c => ?_) (run_blocks (F := Ideal) m g),
    Cert.PastOutReferenceIdeal.Value.run (F := Ideal) m' g'⟩
  obtain ⟨hx, hw⟩ := h c
  obtain ⟨h2, hr⟩ := hr c
  exact ⟨h2.trans (whole m c _ _ hx hw), hr⟩

end Cert.PastOutAlgebraic

end
-- ==== Proof.PastSquareAlgebraic.lean ====
/-
  The product that carries a gradient back through a square weight, against its reference: each block of the result is
  one product of whole rows of the gradient and whole rows of the weight.
-/
module

public import proofs.«01_k».proof.Proof.Gen.PastSquare.Frame
public import proofs.«01_k».proof.Proof.Gen.PastSquareIdeal.Value
public import proofs.«01_k».proof.Proof.Gen.PastSquareReferenceIdeal.Run
public import proofs.«01_k».proof.Defs
public import Idealize.ShloMosaic.Lib.VecWindow
public import Idealize.ShloMosaic.Lib.Pointwise

@[expose] public section

set_option maxRecDepth 65536

noncomputable section

namespace Cert.PastSquareAlgebraic

open Cert.PastSquareIdeal Cert.PastSquareIdeal.Gen Cert.PastSquareIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S512x1024 .bf16) (a : Fin 512) (b : Fin 512) :
    (k0_pay2 x w (ix2 a b) : EReal) = ∑ l : Fin 1024, (x (ix2 a l) : EReal) * w (ix2 b l) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 16 := rfl
/-- Row `a` and column `b` of the block that point `t` computes. -/
abbrev row (t : Fin cfg0.N) (a : Fin 512) : Fin 4096 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 4096) (o : Fin 1024) : ∃ (t : Fin cfg0.N) (a : Fin 512) (b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (b : Fin 512) (l : Fin 1024) : (win0_1.rect t).emb (ix2 b l) = (ix2 (col t b) l : S1024x1024.Idx) := by
  refine funext fun x => Fin.ext ?_
  obtain ⟨-, ⟨h0, h1⟩, -⟩ := index_of t
  refine (win0_1.rect_emb_val t (ix2 b l) x rfl).trans ?_
  fin_cases x
  · show win0_1.index t 0 * 512 + b.val = _; rw [h0]; rfl
  · show win0_1.index t 1 * 1024 + l.val = _; rw [h1]; simp
theorem emb_2 (t : Fin cfg0.N) (a : Fin 512) (b : Fin 512) : (win0_2.rect t).emb (ix2 a b) = (ix2 (row t a) (col t b) : S4096x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a : Fin 512) (b : Fin 512) (l : Fin 1024)

/-- The two arguments, as numbers. -/
def X (r : Fin 4096) (l : Fin 1024) : EReal := (m ((c : Thread nD τ).loc main_arg0) : S4096x1024.Idx → EReal) (ix2 r l)
def W (o : Fin 1024) (l : Fin 1024) : EReal := (m ((c : Thread nD τ).loc main_arg1) : S1024x1024.Idx → EReal) (ix2 o l)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S512x1024.Idx → EReal) (ix2 b l) = W m c (col t b) l := by
  show (V m c main_arg1 : S1024x1024.Idx → EReal) ((win0_1.rect t).emb (ix2 b l)) = _
  rw [emb_1, V_main_arg1]
  rfl

theorem end_eq (r : Fin 4096) (o : Fin 1024) :
    ((dats m 0 c).arrAt 2 cfg0.N : S4096x1024.Idx → EReal) (ix2 r o) = ∑ l : Fin 1024, X m c r l * W m c o l := by
  obtain ⟨t, a, b, rfl, rfl⟩ := place_of r o
  have e := congrFun ((blocks2 m c t (flush t)).trans (flushed2 m c t)) (ix2 a b)
  refine (congrArg ((dats m 0 c).arrAt 2 cfg0.N : S4096x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S1024x1024 .bf16) : FVec Ideal S4096x1024 .f32 :=
  Host.dotGeneral Cert.PastSquareReferenceIdeal.dot_S4096x1024_S1024x1024_S4096x1024_1_0_0_1_n_n none x
    (transpose Cert.PastSquareReferenceIdeal.S1024x1024 [1, 0] (extf .f32 w Cert.PastSquareReferenceIdeal.Facts₀.bitsLt_bf16_f32)
      Cert.PastSquareReferenceIdeal.Facts₀.transposes_S1024x1024_S1024x1024_1_0)

theorem ref_eq (x : FVec Ideal S4096x1024 .f32) (w : FVec Ideal S1024x1024 .bf16) (r : Fin 4096) (o : Fin 1024) :
    (ref x w (ix2 r o) : EReal) = ∑ l : Fin 1024, (x (ix2 r l) : EReal) * w (ix2 o l) := by
  unfold ref
  pointwise

/-! ## The claims -/

theorem frame_kernel : Cert.quiescent_PastSquare := fun m g _ => Cert.PastSquare.Gen.frame m g
theorem frame_ideal : Cert.quiescent_PastSquareIdeal := fun m g _ => Cert.PastSquareIdeal.Gen.frame m g
theorem frame_reference : Cert.quiescent_PastSquareReferenceIdeal := fun m g _ =>
  (θ_run Cert.PastSquareReferenceIdeal.defs _ _).mono (fun r h => ⟨fun c => (h c).2, sem_eq_zero_of_no_sems (by decide) r.2⟩)
    (Cert.PastSquareReferenceIdeal.Value.run (F := Ideal) m g)

theorem whole (m : (ℓ : Loc nD τ sig) → Buf (Elt Ideal) ℓ) (c : Dev nD) (x : FVec Ideal S4096x1024 .f32) (w : FVec Ideal S1024x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 1024), i = ix2 r o := ⟨i 0, i 1, eq_ix2 i⟩
  subst hx hw
  exact (end_eq m c r o).trans (ref_eq _ _ r o).symm

theorem algebraic : Cert.algebraic_PastSquareIdeal_PastSquareReferenceIdeal := by
  intro m g m' g' _ h
  refine ⟨_, (θ_run Cert.PastSquareIdeal.defs _ _).mono (fun r hr c => ?_) (run_blocks (F := Ideal) m g),
    Cert.PastSquareReferenceIdeal.Value.run (F := Ideal) m' g'⟩
  obtain ⟨hx, hw⟩ := h c
  obtain ⟨h2, hr⟩ := hr c
  exact ⟨h2.trans (whole m c _ _ hx hw), hr⟩

end Cert.PastSquareAlgebraic

end
-- ==== Proof.PastKeysAlgebraic.lean ====
/-
  The product that carries a gradient back through the weight of the memory's keys and values, against its reference: each block of the result is
  one product of whole rows of the gradient and whole rows of the weight.
-/
module

public import proofs.«01_k».proof.Proof.Gen.PastKeys.Frame
public import proofs.«01_k».proof.Proof.Gen.PastKeysIdeal.Value
public import proofs.«01_k».proof.Proof.Gen.PastKeysReferenceIdeal.Run
public import proofs.«01_k».proof.Defs
public import Idealize.ShloMosaic.Lib.VecWindow
public import Idealize.ShloMosaic.Lib.Pointwise

@[expose] public section

set_option maxRecDepth 65536

noncomputable section

namespace Cert.PastKeysAlgebraic

open Cert.PastKeysIdeal Cert.PastKeysIdeal.Gen Cert.PastKeysIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x2048 .f32) (w : Vec Ideal S512x2048 .bf16) (a : Fin 512) (b : Fin 512) :
    (k0_pay2 x w (ix2 a b) : EReal) = ∑ l : Fin 2048, (x (ix2 a l) : EReal) * w (ix2 b l) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 2 := rfl
/-- Row `a` and column `b` of the block that point `t` computes. -/
abbrev row (t : Fin cfg0.N) (a : Fin 512) : Fin 512 := ⟨t.val / 2 * 512 + a.val, by have := t.isLt; have := N_eq; have := a.isLt; omega⟩
abbrev col (t : Fin cfg0.N) (b : Fin 512) : Fin 1024 := ⟨t.val % 2 * 512 + b.val, by have := b.isLt; omega⟩

theorem place_of (r : Fin 512) (o : Fin 1024) : ∃ (t : Fin cfg0.N) (a : Fin 512) (b : Fin 512), row t a = r ∧ col t b = o := by
  have hN := N_eq
  have hr := r.isLt
  have ho := o.isLt
  exact ⟨⟨2 * (r.val / 512) + o.val / 512, by omega⟩, ⟨r.val % 512, Nat.mod_lt _ (by decide)⟩, ⟨o.val % 512, Nat.mod_lt _ (by decide)⟩,
    Fin.ext (by show (2 * (r.val / 512) + o.val / 512) / 2 * 512 + r.val % 512 = r.val; omega),
    Fin.ext (by show (2 * (r.val / 512) + o.val / 512) % 2 * 512 + o.val % 512 = o.val; omega)⟩

theorem index_of : ∀ t : Fin grid0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by decide +kernel
theorem flush : ∀ t : Fin cfg0.N, (cfg0.win 2).flush t = true := (by decide +kernel : ∀ t : Fin grid0.N, win0_2.flush t = true)

theorem emb_0 (t : Fin cfg0.N) (a : Fin 512) (l : Fin 2048) : (win0_0.rect t).emb (ix2 a l) = (ix2 (row t a) l : S512x2048.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 2048 + l.val = _; rw [h1]; simp
theorem emb_1 (t : Fin cfg0.N) (b : Fin 512) (l : Fin 2048) : (win0_1.rect t).emb (ix2 b l) = (ix2 (col t b) l : S1024x2048.Idx) := by
  refine funext fun x => Fin.ext ?_
  obtain ⟨-, ⟨h0, h1⟩, -⟩ := index_of t
  refine (win0_1.rect_emb_val t (ix2 b l) x rfl).trans ?_
  fin_cases x
  · show win0_1.index t 0 * 512 + b.val = _; rw [h0]; rfl
  · show win0_1.index t 1 * 2048 + l.val = _; rw [h1]; simp
theorem emb_2 (t : Fin cfg0.N) (a : Fin 512) (b : Fin 512) : (win0_2.rect t).emb (ix2 a b) = (ix2 (row t a) (col t b) : S512x1024.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a : Fin 512) (b : Fin 512) (l : Fin 2048)

/-- The two arguments, as numbers. -/
def X (r : Fin 512) (l : Fin 2048) : EReal := (m ((c : Thread nD τ).loc main_arg0) : S512x2048.Idx → EReal) (ix2 r l)
def W (o : Fin 1024) (l : Fin 2048) : EReal := (m ((c : Thread nD τ).loc main_arg1) : S1024x2048.Idx → EReal) (ix2 o l)

theorem blk_0 : (iblk m c 0 t : S512x2048.Idx → EReal) (ix2 a l) = X m c (row t a) l := by
  show (V m c main_arg0 : S512x2048.Idx → EReal) ((win0_0.rect t).emb (ix2 a l)) = _
  rw [emb_0, V_main_arg0]
  rfl
theorem blk_1 : (iblk m c 1 t : S512x2048.Idx → EReal) (ix2 b l) = W m c (col t b) l := by
  show (V m c main_arg1 : S1024x2048.Idx → EReal) ((win0_1.rect t).emb (ix2 b l)) = _
  rw [emb_1, V_main_arg1]
  rfl

theorem end_eq (r : Fin 512) (o : Fin 1024) :
    ((dats m 0 c).arrAt 2 cfg0.N : S512x1024.Idx → EReal) (ix2 r o) = ∑ l : Fin 2048, X m c r l * W m c o l := by
  obtain ⟨t, a, b, rfl, rfl⟩ := place_of r o
  have e := congrFun ((blocks2 m c t (flush t)).trans (flushed2 m c t)) (ix2 a b)
  refine (congrArg ((dats m 0 c).arrAt 2 cfg0.N : S512x1024.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S512x2048 .f32) (w : FVec Ideal S1024x2048 .bf16) : FVec Ideal S512x1024 .f32 :=
  Host.dotGeneral Cert.PastKeysReferenceIdeal.dot_S512x2048_S2048x1024_S512x1024_1_0_0_1_n_n none x
    (transpose Cert.PastKeysReferenceIdeal.S2048x1024 [1, 0] (extf .f32 w Cert.PastKeysReferenceIdeal.Facts₀.bitsLt_bf16_f32)
      Cert.PastKeysReferenceIdeal.Facts₀.transposes_S1024x2048_S2048x1024_1_0)

theorem ref_eq (x : FVec Ideal S512x2048 .f32) (w : FVec Ideal S1024x2048 .bf16) (r : Fin 512) (o : Fin 1024) :
    (ref x w (ix2 r o) : EReal) = ∑ l : Fin 2048, (x (ix2 r l) : EReal) * w (ix2 o l) := by
  unfold ref
  pointwise

/-! ## The claims -/

theorem frame_kernel : Cert.quiescent_PastKeys := fun m g _ => Cert.PastKeys.Gen.frame m g
theorem frame_ideal : Cert.quiescent_PastKeysIdeal := fun m g _ => Cert.PastKeysIdeal.Gen.frame m g
theorem frame_reference : Cert.quiescent_PastKeysReferenceIdeal := fun m g _ =>
  (θ_run Cert.PastKeysReferenceIdeal.defs _ _).mono (fun r h => ⟨fun c => (h c).2, sem_eq_zero_of_no_sems (by decide) r.2⟩)
    (Cert.PastKeysReferenceIdeal.Value.run (F := Ideal) m g)

theorem whole (m : (ℓ : Loc nD τ sig) → Buf (Elt Ideal) ℓ) (c : Dev nD) (x : FVec Ideal S512x2048 .f32) (w : FVec Ideal S1024x2048 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 512) (o : Fin 1024), i = ix2 r o := ⟨i 0, i 1, eq_ix2 i⟩
  subst hx hw
  exact (end_eq m c r o).trans (ref_eq _ _ r o).symm

theorem algebraic : Cert.algebraic_PastKeysIdeal_PastKeysReferenceIdeal := by
  intro m g m' g' _ h
  refine ⟨_, (θ_run Cert.PastKeysIdeal.defs _ _).mono (fun r hr c => ?_) (run_blocks (F := Ideal) m g),
    Cert.PastKeysReferenceIdeal.Value.run (F := Ideal) m' g'⟩
  obtain ⟨hx, hw⟩ := h c
  obtain ⟨h2, hr⟩ := hr c
  exact ⟨h2.trans (whole m c _ _ hx hw), hr⟩

end Cert.PastKeysAlgebraic

end
-- ==== Proof.PastBranchAlgebraic.lean ====
/-
  The product that carries a gradient back through the SSD branch's weight, against its reference: each block of the result is
  one product of whole rows of the gradient and whole rows of the weight.
-/
module

public import proofs.«01_k».proof.Proof.Gen.PastBranch.Frame
public import proofs.«01_k».proof.Proof.Gen.PastBranchIdeal.Value
public import proofs.«01_k».proof.Proof.Gen.PastBranchReferenceIdeal.Run
public import proofs.«01_k».proof.Defs
public import Idealize.ShloMosaic.Lib.VecWindow
public import Idealize.ShloMosaic.Lib.Pointwise

@[expose] public section

set_option maxRecDepth 65536

noncomputable section

namespace Cert.PastBranchAlgebraic

open Cert.PastBranchIdeal Cert.PastBranchIdeal.Gen Cert.PastBranchIdeal.Value
open Idealize.ShloMosaic Idealize.ShloMosaic.TcCoe Idealize.SL.Sem

/-! ## One point -/

theorem zero2 : (![0, 0] : Fin 2 → ℕ) = fun _ => 0 := by funext a; fin_cases a <;> rfl

/-- The product of two blocks, at a place: what goes into the scratch. -/
theorem prod_eq (x : Vec Ideal S512x1024 .f32) (w : Vec Ideal S512x1024 .bf16) (a : Fin 512) (b : Fin 512) :
    (k0_pay2 x w (ix2 a b) : EReal) = ∑ l : Fin 1024, (x (ix2 a l) : EReal) * w (ix2 b l) := by
  unfold k0_pay2
  pointwise [k0_pay1]

theorem out_eq (m : (ℓ : Loc nD τ sig) → Buf (Elt Ideal) ℓ) (c : Dev nD) (t : Fin cfg0.N) :
    outsAt0 m c t = k0_pay2 (iblk m c 0 t) (iblk m c 1 t) := by
  unfold outsAt0 out0_A_2 kernelRun0_A
  refine (View.read_writes_full _ _ inb_S512x512_S512x512_0_0 _ []).trans ?_
  sl_unfold_words
  rw [View.readCov_full, View.readAt_full, View.readAt_full, Memref.IsWhole.read_unread, Memref.IsWhole.read_unread]

/-! ## The array at the end -/

theorem N_eq : cfg0.N = 32 := rfl
/-- Row `a` and column `b` of the block that point `t` computes. -/
abbrev row (t : Fin cfg0.N) (a : Fin 512) : Fin 4096 := ⟨t.val / 4 * 512 + a.val, by have := t.isLt; have := N_eq; have := a.isLt; omega⟩
abbrev col (t : Fin cfg0.N) (b : Fin 512) : Fin 2048 := ⟨t.val % 4 * 512 + b.val, by have := b.isLt; omega⟩

theorem place_of (r : Fin 4096) (o : Fin 2048) : ∃ (t : Fin cfg0.N) (a : Fin 512) (b : Fin 512), row t a = r ∧ col t b = o := by
  have hN := N_eq
  have hr := r.isLt
  have ho := o.isLt
  exact ⟨⟨4 * (r.val / 512) + o.val / 512, by omega⟩, ⟨r.val % 512, Nat.mod_lt _ (by decide)⟩, ⟨o.val % 512, Nat.mod_lt _ (by decide)⟩,
    Fin.ext (by show (4 * (r.val / 512) + o.val / 512) / 4 * 512 + r.val % 512 = r.val; omega),
    Fin.ext (by show (4 * (r.val / 512) + o.val / 512) % 4 * 512 + o.val % 512 = o.val; omega)⟩

theorem index_of : ∀ t : Fin grid0.N, (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) := by decide +kernel
theorem flush : ∀ t : Fin cfg0.N, (cfg0.win 2).flush t = true := (by decide +kernel : ∀ t : Fin grid0.N, win0_2.flush t = true)

theorem emb_0 (t : Fin cfg0.N) (a : Fin 512) (l : Fin 1024) : (win0_0.rect t).emb (ix2 a l) = (ix2 (row t a) l : S4096x1024.Idx) := by
  refine funext fun x => Fin.ext ?_
  obtain ⟨⟨h0, h1⟩, -, -⟩ := index_of t
  refine (win0_0.rect_emb_val t (ix2 a l) x rfl).trans ?_
  fin_cases x
  · show win0_0.index t 0 * 512 + a.val = _; rw [h0]; rfl
  · show win0_0.index t 1 * 1024 + l.val = _; rw [h1]; simp
theorem emb_1 (t : Fin cfg0.N) (b : Fin 512) (l : Fin 1024) : (win0_1.rect t).emb (ix2 b l) = (ix2 (col t b) l : S2048x1024.Idx) := by
  refine funext fun x => Fin.ext ?_
  obtain ⟨-, ⟨h0, h1⟩, -⟩ := index_of t
  refine (win0_1.rect_emb_val t (ix2 b l) x rfl).trans ?_
  fin_cases x
  · show win0_1.index t 0 * 512 + b.val = _; rw [h0]; rfl
  · show win0_1.index t 1 * 1024 + l.val = _; rw [h1]; simp
theorem emb_2 (t : Fin cfg0.N) (a : Fin 512) (b : Fin 512) : (win0_2.rect t).emb (ix2 a b) = (ix2 (row t a) (col t b) : S4096x2048.Idx) := by
  refine funext fun x => Fin.ext ?_
  obtain ⟨-, -, ⟨h0, h1⟩⟩ := index_of t
  refine (win0_2.rect_emb_val t (ix2 a b) x rfl).trans ?_
  fin_cases x
  · show win0_2.index t 0 * 512 + a.val = _; rw [h0]; rfl
  · show win0_2.index t 1 * 512 + b.val = _; rw [h1]; rfl

section Ends

variable (m : (ℓ : Loc nD τ sig) → Buf (Elt Ideal) ℓ) (c : Dev nD) (t : Fin cfg0.N) (a : Fin 512) (b : Fin 512) (l : Fin 1024)

/-- The two arguments, as numbers. -/
def X (r : Fin 4096) (l : Fin 1024) : EReal := (m ((c : Thread nD τ).loc main_arg0) : S4096x1024.Idx → EReal) (ix2 r l)
def W (o : Fin 2048) (l : Fin 1024) : EReal := (m ((c : Thread nD τ).loc main_arg1) : S2048x1024.Idx → EReal) (ix2 o l)

theorem blk_0 : (iblk m c 0 t : S512x1024.Idx → EReal) (ix2 a l) = X m c (row t a) l := by
  show (V m c main_arg0 : S4096x1024.Idx → EReal) ((win0_0.rect t).emb (ix2 a l)) = _
  rw [emb_0, V_main_arg0]
  rfl
theorem blk_1 : (iblk m c 1 t : S512x1024.Idx → EReal) (ix2 b l) = W m c (col t b) l := by
  show (V m c main_arg1 : S2048x1024.Idx → EReal) ((win0_1.rect t).emb (ix2 b l)) = _
  rw [emb_1, V_main_arg1]
  rfl

theorem end_eq (r : Fin 4096) (o : Fin 2048) :
    ((dats m 0 c).arrAt 2 cfg0.N : S4096x2048.Idx → EReal) (ix2 r o) = ∑ l : Fin 1024, X m c r l * W m c o l := by
  obtain ⟨t, a, b, rfl, rfl⟩ := place_of r o
  have e := congrFun ((blocks2 m c t (flush t)).trans (flushed2 m c t)) (ix2 a b)
  refine (congrArg ((dats m 0 c).arrAt 2 cfg0.N : S4096x2048.Idx → EReal) (emb_2 t a b)).symm.trans (e.trans ?_)
  refine (congrFun (out_eq m c t) (ix2 a b)).trans ((prod_eq _ _ a b).trans (Finset.sum_congr (M := EReal) rfl fun l _ => ?_))
  rw [blk_0, blk_1]

end Ends

/-! ## The reference -/

/-- The reference's result. -/
def ref (x : FVec Ideal S4096x1024 .f32) (w : FVec Ideal S2048x1024 .bf16) : FVec Ideal S4096x2048 .f32 :=
  Host.dotGeneral Cert.PastBranchReferenceIdeal.dot_S4096x1024_S1024x2048_S4096x2048_1_0_0_1_n_n none x
    (transpose Cert.PastBranchReferenceIdeal.S1024x2048 [1, 0] (extf .f32 w Cert.PastBranchReferenceIdeal.Facts₀.bitsLt_bf16_f32)
      Cert.PastBranchReferenceIdeal.Facts₀.transposes_S2048x1024_S1024x2048_1_0)

theorem ref_eq (x : FVec Ideal S4096x1024 .f32) (w : FVec Ideal S2048x1024 .bf16) (r : Fin 4096) (o : Fin 2048) :
    (ref x w (ix2 r o) : EReal) = ∑ l : Fin 1024, (x (ix2 r l) : EReal) * w (ix2 o l) := by
  unfold ref
  pointwise

/-! ## The claims -/

theorem frame_kernel : Cert.quiescent_PastBranch := fun m g _ => Cert.PastBranch.Gen.frame m g
theorem frame_ideal : Cert.quiescent_PastBranchIdeal := fun m g _ => Cert.PastBranchIdeal.Gen.frame m g
theorem frame_reference : Cert.quiescent_PastBranchReferenceIdeal := fun m g _ =>
  (θ_run Cert.PastBranchReferenceIdeal.defs _ _).mono (fun r h => ⟨fun c => (h c).2, sem_eq_zero_of_no_sems (by decide) r.2⟩)
    (Cert.PastBranchReferenceIdeal.Value.run (F := Ideal) m g)

theorem whole (m : (ℓ : Loc nD τ sig) → Buf (Elt Ideal) ℓ) (c : Dev nD) (x : FVec Ideal S4096x1024 .f32) (w : FVec Ideal S2048x1024 .bf16)
    (hx : x = m ((c : Thread nD τ).loc main_arg0)) (hw : w = m ((c : Thread nD τ).loc main_arg1)) :
    (dats m 0 c).arrAt 2 cfg0.N = ref x w := by
  funext i
  obtain ⟨r, o, rfl⟩ : ∃ (r : Fin 4096) (o : Fin 2048), i = ix2 r o := ⟨i 0, i 1, eq_ix2 i⟩
  subst hx hw
  exact (end_eq m c r o).trans (ref_eq _ _ r o).symm

theorem algebraic : Cert.algebraic_PastBranchIdeal_PastBranchReferenceIdeal := by
  intro m g m' g' _ h
  refine ⟨_, (θ_run Cert.PastBranchIdeal.defs _ _).mono (fun r hr c => ?_) (run_blocks (F := Ideal) m g),
    Cert.PastBranchReferenceIdeal.Value.run (F := Ideal) m' g'⟩
  obtain ⟨hx, hw⟩ := h c
  obtain ⟨h2, hr⟩ := hr c
  exact ⟨h2.trans (whole m c _ _ hx hw), hr⟩

end Cert.PastBranchAlgebraic

end
-- ==== Proof.lean ====
/-
  The claims about the exchanges of one training step over eight devices: the exchange of the gradients with its optimizer,
  the all-gathers of the weights, the small weights' gradients and update, the loss with its
  gradient, the product that gives the input's gradient, the products that give each device's partial gradients of the big
  weights, those that carry a gradient back through a weight, and of the forward pass the matrix products, the convolution,
  the memory attention, the spatial gating, the gated sum of the branches, the layer norms and the feed-forward's gate.
-/
module

public import proofs.«01_k».proof.Defs
public import proofs.«01_k».proof.Proof.Algebraic
public import proofs.«01_k».proof.Proof.GatherAlgebraic
public import proofs.«01_k».proof.Proof.FewAlgebraic
public import proofs.«01_k».proof.Proof.SmallAlgebraic
public import proofs.«01_k».proof.Proof.UpdateAlgebraic
public import proofs.«01_k».proof.Proof.BackAlgebraic
public import proofs.«01_k».proof.Proof.LossAlgebraic
public import proofs.«01_k».proof.Proof.AttendAlgebraic
public import proofs.«01_k».proof.Proof.SguAlgebraic
public import proofs.«01_k».proof.Proof.MergeAlgebraic
public import proofs.«01_k».proof.Proof.NormAlgebraic
public import proofs.«01_k».proof.Proof.GluAlgebraic
public import proofs.«01_k».proof.Proof.EnterAlgebraic
public import proofs.«01_k».proof.Proof.MemoryAlgebraic
public import proofs.«01_k».proof.Proof.ConvAlgebraic
public import proofs.«01_k».proof.Proof.SquareAlgebraic
public import proofs.«01_k».proof.Proof.QueryAlgebraic
public import proofs.«01_k».proof.Proof.BranchAlgebraic
public import proofs.«01_k».proof.Proof.KeysAlgebraic
public import proofs.«01_k».proof.Proof.WidenAlgebraic
public import proofs.«01_k».proof.Proof.NarrowAlgebraic
public import proofs.«01_k».proof.Proof.GradOutAlgebraic
public import proofs.«01_k».proof.Proof.GradInAlgebraic
public import proofs.«01_k».proof.Proof.GradSquareAlgebraic
public import proofs.«01_k».proof.Proof.GradQueryAlgebraic
public import proofs.«01_k».proof.Proof.GradKeysAlgebraic
public import proofs.«01_k».proof.Proof.GradBranchAlgebraic
public import proofs.«01_k».proof.Proof.GradEnterAlgebraic
public import proofs.«01_k».proof.Proof.PastOutAlgebraic
public import proofs.«01_k».proof.Proof.PastSquareAlgebraic
public import proofs.«01_k».proof.Proof.PastKeysAlgebraic
public import proofs.«01_k».proof.Proof.PastBranchAlgebraic

@[expose] public section

noncomputable section

namespace Cert.Proof

theorem claim : Cert.Claim :=
  ⟨Cert.Kernel.Gen.facts, Cert.KernelIdeal.Gen.facts, Cert.ReferenceIdeal.Gen.facts,
    Cert.Gather.Gen.facts, Cert.GatherIdeal.Gen.facts, Cert.GatherReferenceIdeal.Gen.facts, Cert.GatherReference.Gen.facts,
    Cert.Few.Gen.facts, Cert.FewIdeal.Gen.facts, Cert.FewReferenceIdeal.Gen.facts, Cert.FewReference.Gen.facts,
    Cert.Small.Gen.facts, Cert.SmallIdeal.Gen.facts, Cert.SmallReferenceIdeal.Gen.facts,
    Cert.Update.Gen.facts, Cert.UpdateIdeal.Gen.facts, Cert.UpdateReferenceIdeal.Gen.facts,
    Cert.Loss.Gen.facts, Cert.LossIdeal.Gen.facts, Cert.LossReferenceIdeal.Gen.facts,
    Cert.Back.Gen.facts, Cert.BackIdeal.Gen.facts, Cert.BackReferenceIdeal.Gen.facts,
    Cert.Attend.Gen.facts, Cert.AttendIdeal.Gen.facts, Cert.AttendReferenceIdeal.Gen.facts,
    Cert.Sgu.Gen.facts, Cert.SguIdeal.Gen.facts, Cert.SguReferenceIdeal.Gen.facts,
    Cert.Merge.Gen.facts, Cert.MergeIdeal.Gen.facts, Cert.MergeReferenceIdeal.Gen.facts,
    Cert.Norm.Gen.facts, Cert.NormIdeal.Gen.facts, Cert.NormReferenceIdeal.Gen.facts,
    Cert.Glu.Gen.facts, Cert.GluIdeal.Gen.facts, Cert.GluReferenceIdeal.Gen.facts,
    Cert.Enter.Gen.facts, Cert.EnterIdeal.Gen.facts, Cert.EnterReferenceIdeal.Gen.facts,
    Cert.Memory.Gen.facts, Cert.MemoryIdeal.Gen.facts, Cert.MemoryReferenceIdeal.Gen.facts,
    Cert.Conv.Gen.facts, Cert.ConvIdeal.Gen.facts, Cert.ConvReferenceIdeal.Gen.facts,
    Cert.Square.Gen.facts, Cert.SquareIdeal.Gen.facts, Cert.SquareReferenceIdeal.Gen.facts,
    Cert.Query.Gen.facts, Cert.QueryIdeal.Gen.facts, Cert.QueryReferenceIdeal.Gen.facts,
    Cert.Branch.Gen.facts, Cert.BranchIdeal.Gen.facts, Cert.BranchReferenceIdeal.Gen.facts,
    Cert.Keys.Gen.facts, Cert.KeysIdeal.Gen.facts, Cert.KeysReferenceIdeal.Gen.facts,
    Cert.Widen.Gen.facts, Cert.WidenIdeal.Gen.facts, Cert.WidenReferenceIdeal.Gen.facts,
    Cert.Narrow.Gen.facts, Cert.NarrowIdeal.Gen.facts, Cert.NarrowReferenceIdeal.Gen.facts,
    Cert.GradOut.Gen.facts, Cert.GradOutIdeal.Gen.facts, Cert.GradOutReferenceIdeal.Gen.facts,
    Cert.GradIn.Gen.facts, Cert.GradInIdeal.Gen.facts, Cert.GradInReferenceIdeal.Gen.facts,
    Cert.GradSquare.Gen.facts, Cert.GradSquareIdeal.Gen.facts, Cert.GradSquareReferenceIdeal.Gen.facts,
    Cert.GradQuery.Gen.facts, Cert.GradQueryIdeal.Gen.facts, Cert.GradQueryReferenceIdeal.Gen.facts,
    Cert.GradKeys.Gen.facts, Cert.GradKeysIdeal.Gen.facts, Cert.GradKeysReferenceIdeal.Gen.facts,
    Cert.GradBranch.Gen.facts, Cert.GradBranchIdeal.Gen.facts, Cert.GradBranchReferenceIdeal.Gen.facts,
    Cert.GradEnter.Gen.facts, Cert.GradEnterIdeal.Gen.facts, Cert.GradEnterReferenceIdeal.Gen.facts,
    Cert.PastOut.Gen.facts, Cert.PastOutIdeal.Gen.facts, Cert.PastOutReferenceIdeal.Gen.facts,
    Cert.PastSquare.Gen.facts, Cert.PastSquareIdeal.Gen.facts, Cert.PastSquareReferenceIdeal.Gen.facts,
    Cert.PastKeys.Gen.facts, Cert.PastKeysIdeal.Gen.facts, Cert.PastKeysReferenceIdeal.Gen.facts,
    Cert.PastBranch.Gen.facts, Cert.PastBranchIdeal.Gen.facts, Cert.PastBranchReferenceIdeal.Gen.facts,
    Cert.Algebraic.frame_kernel, Cert.Algebraic.frame_ideal, Cert.Algebraic.frame_reference,
    Cert.GatherAlgebraic.frame_kernel, Cert.GatherAlgebraic.frame_ideal, Cert.GatherAlgebraic.frame_reference, Cert.GatherAlgebraic.frame_words,
    Cert.FewAlgebraic.frame_kernel, Cert.FewAlgebraic.frame_ideal, Cert.FewAlgebraic.frame_reference, Cert.FewAlgebraic.frame_words,
    Cert.SmallAlgebraic.frame_kernel, Cert.SmallAlgebraic.frame_ideal, Cert.SmallAlgebraic.frame_reference,
    Cert.UpdateAlgebraic.frame_kernel, Cert.UpdateAlgebraic.frame_ideal, Cert.UpdateAlgebraic.frame_reference,
    Cert.LossAlgebraic.frame_kernel, Cert.LossAlgebraic.frame_ideal, Cert.LossAlgebraic.frame_reference,
    Cert.BackAlgebraic.frame_kernel, Cert.BackAlgebraic.frame_ideal, Cert.BackAlgebraic.frame_reference,
    Cert.AttendAlgebraic.frame_kernel, Cert.AttendAlgebraic.frame_ideal, Cert.AttendAlgebraic.frame_reference,
    Cert.SguAlgebraic.frame_kernel, Cert.SguAlgebraic.frame_ideal, Cert.SguAlgebraic.frame_reference,
    Cert.MergeAlgebraic.frame_kernel, Cert.MergeAlgebraic.frame_ideal, Cert.MergeAlgebraic.frame_reference,
    Cert.NormAlgebraic.frame_kernel, Cert.NormAlgebraic.frame_ideal, Cert.NormAlgebraic.frame_reference,
    Cert.GluAlgebraic.frame_kernel, Cert.GluAlgebraic.frame_ideal, Cert.GluAlgebraic.frame_reference,
    Cert.EnterAlgebraic.frame_kernel, Cert.EnterAlgebraic.frame_ideal, Cert.EnterAlgebraic.frame_reference,
    Cert.MemoryAlgebraic.frame_kernel, Cert.MemoryAlgebraic.frame_ideal, Cert.MemoryAlgebraic.frame_reference,
    Cert.ConvAlgebraic.frame_kernel, Cert.ConvAlgebraic.frame_ideal, Cert.ConvAlgebraic.frame_reference,
    Cert.SquareAlgebraic.frame_kernel, Cert.SquareAlgebraic.frame_ideal, Cert.SquareAlgebraic.frame_reference,
    Cert.QueryAlgebraic.frame_kernel, Cert.QueryAlgebraic.frame_ideal, Cert.QueryAlgebraic.frame_reference,
    Cert.BranchAlgebraic.frame_kernel, Cert.BranchAlgebraic.frame_ideal, Cert.BranchAlgebraic.frame_reference,
    Cert.KeysAlgebraic.frame_kernel, Cert.KeysAlgebraic.frame_ideal, Cert.KeysAlgebraic.frame_reference,
    Cert.WidenAlgebraic.frame_kernel, Cert.WidenAlgebraic.frame_ideal, Cert.WidenAlgebraic.frame_reference,
    Cert.NarrowAlgebraic.frame_kernel, Cert.NarrowAlgebraic.frame_ideal, Cert.NarrowAlgebraic.frame_reference,
    Cert.GradOutAlgebraic.frame_kernel, Cert.GradOutAlgebraic.frame_ideal, Cert.GradOutAlgebraic.frame_reference,
    Cert.GradInAlgebraic.frame_kernel, Cert.GradInAlgebraic.frame_ideal, Cert.GradInAlgebraic.frame_reference,
    Cert.GradSquareAlgebraic.frame_kernel, Cert.GradSquareAlgebraic.frame_ideal, Cert.GradSquareAlgebraic.frame_reference,
    Cert.GradQueryAlgebraic.frame_kernel, Cert.GradQueryAlgebraic.frame_ideal, Cert.GradQueryAlgebraic.frame_reference,
    Cert.GradKeysAlgebraic.frame_kernel, Cert.GradKeysAlgebraic.frame_ideal, Cert.GradKeysAlgebraic.frame_reference,
    Cert.GradBranchAlgebraic.frame_kernel, Cert.GradBranchAlgebraic.frame_ideal, Cert.GradBranchAlgebraic.frame_reference,
    Cert.GradEnterAlgebraic.frame_kernel, Cert.GradEnterAlgebraic.frame_ideal, Cert.GradEnterAlgebraic.frame_reference,
    Cert.PastOutAlgebraic.frame_kernel, Cert.PastOutAlgebraic.frame_ideal, Cert.PastOutAlgebraic.frame_reference,
    Cert.PastSquareAlgebraic.frame_kernel, Cert.PastSquareAlgebraic.frame_ideal, Cert.PastSquareAlgebraic.frame_reference,
    Cert.PastKeysAlgebraic.frame_kernel, Cert.PastKeysAlgebraic.frame_ideal, Cert.PastKeysAlgebraic.frame_reference,
    Cert.PastBranchAlgebraic.frame_kernel, Cert.PastBranchAlgebraic.frame_ideal, Cert.PastBranchAlgebraic.frame_reference,
    trivial, Cert.Algebraic.algebraic,
    trivial, Cert.GatherAlgebraic.algebraic, Cert.GatherAlgebraic.bitexact,
    trivial, Cert.FewAlgebraic.algebraic, Cert.FewAlgebraic.bitexact,
    trivial, Cert.SmallAlgebraic.algebraic,
    trivial, Cert.UpdateAlgebraic.algebraic,
    trivial, Cert.LossAlgebraic.algebraic,
    trivial, Cert.BackAlgebraic.algebraic,
    trivial, Cert.AttendAlgebraic.algebraic,
    trivial, Cert.SguAlgebraic.algebraic,
    trivial, Cert.MergeAlgebraic.algebraic,
    trivial, Cert.NormAlgebraic.algebraic,
    trivial, Cert.GluAlgebraic.algebraic,
    trivial, Cert.EnterAlgebraic.algebraic,
    trivial, Cert.MemoryAlgebraic.algebraic,
    trivial, Cert.ConvAlgebraic.algebraic,
    trivial, Cert.SquareAlgebraic.algebraic,
    trivial, Cert.QueryAlgebraic.algebraic,
    trivial, Cert.BranchAlgebraic.algebraic,
    trivial, Cert.KeysAlgebraic.algebraic,
    trivial, Cert.WidenAlgebraic.algebraic,
    trivial, Cert.NarrowAlgebraic.algebraic,
    trivial, Cert.GradOutAlgebraic.algebraic,
    trivial, Cert.GradInAlgebraic.algebraic,
    trivial, Cert.GradSquareAlgebraic.algebraic,
    trivial, Cert.GradQueryAlgebraic.algebraic,
    trivial, Cert.GradKeysAlgebraic.algebraic,
    trivial, Cert.GradBranchAlgebraic.algebraic,
    trivial, Cert.GradEnterAlgebraic.algebraic,
    trivial, Cert.PastOutAlgebraic.algebraic,
    trivial, Cert.PastSquareAlgebraic.algebraic,
    trivial, Cert.PastKeysAlgebraic.algebraic,
    trivial, Cert.PastBranchAlgebraic.algebraic⟩

end Cert.Proof

end
